-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDmg (m : (ℓ : Loc Cert.KernelDmg.nD Cert.KernelDmg.τ Cert.KernelDmg.sig) → Buf (Elt Bits) ℓ) : Prop :=
  True

def Pre_KernelDmgIdeal (m : (ℓ : Loc Cert.KernelDmgIdeal.nD Cert.KernelDmgIdeal.τ Cert.KernelDmgIdeal.sig) → Buf (Elt Ideal) ℓ) : Prop :=
  True

def Pre_ReferenceDmgIdeal (m : (ℓ : Loc Cert.ReferenceDmgIdeal.nD Cert.ReferenceDmgIdeal.τ Cert.ReferenceDmgIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDhi (m : (ℓ : Loc Cert.KernelDhi.nD Cert.KernelDhi.τ Cert.KernelDhi.sig) → Buf (Elt Bits) ℓ) : Prop :=
  True

def Pre_KernelDhiIdeal (m : (ℓ : Loc Cert.KernelDhiIdeal.nD Cert.KernelDhiIdeal.τ Cert.KernelDhiIdeal.sig) → Buf (Elt Ideal) ℓ) : Prop :=
  True

def Pre_ReferenceDhiIdeal (m : (ℓ : Loc Cert.ReferenceDhiIdeal.nD Cert.ReferenceDhiIdeal.τ Cert.ReferenceDhiIdeal.sig) → Buf (Elt Ideal) ℓ) : Prop :=
  True

def Pre_KernelDwi (m : (ℓ : Loc Cert.KernelDwi.nD Cert.KernelDwi.τ Cert.KernelDwi.sig) → Buf (Elt Bits) ℓ) : Prop :=
  True

def Pre_KernelDwiIdeal (m : (ℓ : Loc Cert.KernelDwiIdeal.nD Cert.KernelDwiIdeal.τ Cert.KernelDwiIdeal.sig) → Buf (Elt Ideal) ℓ) : Prop :=
  True

def Pre_ReferenceDwiIdeal (m : (ℓ : Loc Cert.ReferenceDwiIdeal.nD Cert.ReferenceDwiIdeal.τ Cert.ReferenceDwiIdeal.sig) → Buf (Elt Ideal) ℓ) : Prop :=
  True

def Pre_KernelFa (m : (ℓ : Loc Cert.KernelFa.nD Cert.KernelFa.τ Cert.KernelFa.sig) → Buf (Elt Bits) ℓ) : Prop :=
  True

def Pre_KernelFaIdeal (m : (ℓ : Loc Cert.KernelFaIdeal.nD Cert.KernelFaIdeal.τ Cert.KernelFaIdeal.sig) → Buf (Elt Ideal) ℓ) : Prop :=
  True

def Pre_ReferenceFaIdeal (m : (ℓ : Loc Cert.ReferenceFaIdeal.nD Cert.ReferenceFaIdeal.τ Cert.ReferenceFaIdeal.sig) → Buf (Elt Ideal) ℓ) : Prop :=
  True

def Pre_KernelFo (m : (ℓ : Loc Cert.KernelFo.nD Cert.KernelFo.τ Cert.KernelFo.sig) → Buf (Elt Bits) ℓ) : Prop :=
  True

def Pre_KernelFoIdeal (m : (ℓ : Loc Cert.KernelFoIdeal.nD Cert.KernelFoIdeal.τ Cert.KernelFoIdeal.sig) → Buf (Elt Ideal) ℓ) : Prop :=
  True

def Pre_ReferenceFoIdeal (m : (ℓ : Loc Cert.ReferenceFoIdeal.nD Cert.ReferenceFoIdeal.τ Cert.ReferenceFoIdeal.sig) → Buf (Elt Ideal) ℓ) : Prop :=
  True

def Pre_KernelFp (m : (ℓ : Loc Cert.KernelFp.nD Cert.KernelFp.τ Cert.KernelFp.sig) → Buf (Elt Bits) ℓ) : Prop :=
  True

def Pre_KernelFpIdeal (m : (ℓ : Loc Cert.KernelFpIdeal.nD Cert.KernelFpIdeal.τ Cert.KernelFpIdeal.sig) → Buf (Elt Ideal) ℓ) : Prop :=
  True

def Pre_ReferenceFpIdeal (m : (ℓ : Loc Cert.ReferenceFpIdeal.nD Cert.ReferenceFpIdeal.τ Cert.ReferenceFpIdeal.sig) → Buf (Elt Ideal) ℓ) : Prop :=
  True

def Pre_KernelFz (m : (ℓ : Loc Cert.KernelFz.nD Cert.KernelFz.τ Cert.KernelFz.sig) → Buf (Elt Bits) ℓ) : Prop :=
  True

def Pre_KernelFzIdeal (m : (ℓ : Loc Cert.KernelFzIdeal.nD Cert.KernelFzIdeal.τ Cert.KernelFzIdeal.sig) → Buf (Elt Ideal) ℓ) : Prop :=
  True

def Pre_ReferenceFzIdeal (m : (ℓ : Loc Cert.ReferenceFzIdeal.nD Cert.ReferenceFzIdeal.τ Cert.ReferenceFzIdeal.sig) → Buf (Elt Ideal) ℓ) : Prop :=
  True

def Pre_KernelNb (m : (ℓ : Loc Cert.KernelNb.nD Cert.KernelNb.τ Cert.KernelNb.sig) → Buf (Elt Bits) ℓ) : Prop :=
  True

def Pre_KernelNbIdeal (m : (ℓ : Loc Cert.KernelNbIdeal.nD Cert.KernelNbIdeal.τ Cert.KernelNbIdeal.sig) → Buf (Elt Ideal) ℓ) : Prop :=
  True

def Pre_KernelNbIdeal_finite_rows [hPre_finite_rows : Cert.Pre_finite_rows.Facts] (m : (ℓ : Loc Cert.KernelNbIdeal.nD Cert.KernelNbIdeal.τ Cert.KernelNbIdeal.sig) → Buf (Elt Ideal) ℓ) : Prop :=
  ∀ c : Dev Cert.KernelNbIdeal.nD,
    (Cert.Pre_finite_rows.fn (F := Ideal) (m ((c.tc : Thread Cert.KernelNbIdeal.nD Cert.KernelNbIdeal.τ).loc Cert.KernelNbIdeal.main_arg0)) (m ((c.tc : Thread Cert.KernelNbIdeal.nD Cert.KernelNbIdeal.τ).loc Cert.KernelNbIdeal.main_arg1)) (m ((c.tc : Thread Cert.KernelNbIdeal.nD Cert.KernelNbIdeal.τ).loc Cert.KernelNbIdeal.main_arg2)) (m ((c.tc : Thread Cert.KernelNbIdeal.nD Cert.KernelNbIdeal.τ).loc Cert.KernelNbIdeal.main_arg3)) (m ((c.tc : Thread Cert.KernelNbIdeal.nD Cert.KernelNbIdeal.τ).loc Cert.KernelNbIdeal.main_arg4)) (m ((c.tc : Thread Cert.KernelNbIdeal.nD Cert.KernelNbIdeal.τ).loc Cert.KernelNbIdeal.main_arg5))).1 = (fun _ => 1#1)
    ∧ (Cert.Pre_finite_rows.fn (F := Ideal) (m ((c.tc : Thread Cert.KernelNbIdeal.nD Cert.KernelNbIdeal.τ).loc Cert.KernelNbIdeal.main_arg0)) (m ((c.tc : Thread Cert.KernelNbIdeal.nD Cert.KernelNbIdeal.τ).loc Cert.KernelNbIdeal.main_arg1)) (m ((c.tc : Thread Cert.KernelNbIdeal.nD Cert.KernelNbIdeal.τ).loc Cert.KernelNbIdeal.main_arg2)) (m ((c.tc : Thread Cert.KernelNbIdeal.nD Cert.KernelNbIdeal.τ).loc Cert.KernelNbIdeal.main_arg3)) (m ((c.tc : Thread Cert.KernelNbIdeal.nD Cert.KernelNbIdeal.τ).loc Cert.KernelNbIdeal.main_arg4)) (m ((c.tc : Thread Cert.KernelNbIdeal.nD Cert.KernelNbIdeal.τ).loc Cert.KernelNbIdeal.main_arg5))).2.1 = (fun _ => 1#1)
    ∧ (Cert.Pre_finite_rows.fn (F := Ideal) (m ((c.tc : Thread Cert.KernelNbIdeal.nD Cert.KernelNbIdeal.τ).loc Cert.KernelNbIdeal.main_arg0)) (m ((c.tc : Thread Cert.KernelNbIdeal.nD Cert.KernelNbIdeal.τ).loc Cert.KernelNbIdeal.main_arg1)) (m ((c.tc : Thread Cert.KernelNbIdeal.nD Cert.KernelNbIdeal.τ).loc Cert.KernelNbIdeal.main_arg2)) (m ((c.tc : Thread Cert.KernelNbIdeal.nD Cert.KernelNbIdeal.τ).loc Cert.KernelNbIdeal.main_arg3)) (m ((c.tc : Thread Cert.KernelNbIdeal.nD Cert.KernelNbIdeal.τ).loc Cert.KernelNbIdeal.main_arg4)) (m ((c.tc : Thread Cert.KernelNbIdeal.nD Cert.KernelNbIdeal.τ).loc Cert.KernelNbIdeal.main_arg5))).2.2.1 = (fun _ => 1#1)
    ∧ (Cert.Pre_finite_rows.fn (F := Ideal) (m ((c.tc : Thread Cert.KernelNbIdeal.nD Cert.KernelNbIdeal.τ).loc Cert.KernelNbIdeal.main_arg0)) (m ((c.tc : Thread Cert.KernelNbIdeal.nD Cert.KernelNbIdeal.τ).loc Cert.KernelNbIdeal.main_arg1)) (m ((c.tc : Thread Cert.KernelNbIdeal.nD Cert.KernelNbIdeal.τ).loc Cert.KernelNbIdeal.main_arg2)) (m ((c.tc : Thread Cert.KernelNbIdeal.nD Cert.KernelNbIdeal.τ).loc Cert.KernelNbIdeal.main_arg3)) (m ((c.tc : Thread Cert.KernelNbIdeal.nD Cert.KernelNbIdeal.τ).loc Cert.KernelNbIdeal.main_arg4)) (m ((c.tc : Thread Cert.KernelNbIdeal.nD Cert.KernelNbIdeal.τ).loc Cert.KernelNbIdeal.main_arg5))).2.2.2 = (fun _ => 1#1)

def Pre_ReferenceNbIdeal (m : (ℓ : Loc Cert.ReferenceNbIdeal.nD Cert.ReferenceNbIdeal.τ Cert.ReferenceNbIdeal.sig) → Buf (Elt Ideal) ℓ) : Prop :=
  True

def Pre_ReferenceNbIdeal_finite_rows [hPre_finite_rows : Cert.Pre_finite_rows.Facts] (m : (ℓ : Loc Cert.ReferenceNbIdeal.nD Cert.ReferenceNbIdeal.τ Cert.ReferenceNbIdeal.sig) → Buf (Elt Ideal) ℓ) : Prop :=
  ∀ c : Dev Cert.ReferenceNbIdeal.nD,
    (Cert.Pre_finite_rows.fn (F := Ideal) (m ((c.tc : Thread Cert.ReferenceNbIdeal.nD Cert.ReferenceNbIdeal.τ).loc Cert.ReferenceNbIdeal.main_arg0)) (m ((c.tc : Thread Cert.ReferenceNbIdeal.nD Cert.ReferenceNbIdeal.τ).loc Cert.ReferenceNbIdeal.main_arg1)) (m ((c.tc : Thread Cert.ReferenceNbIdeal.nD Cert.ReferenceNbIdeal.τ).loc Cert.ReferenceNbIdeal.main_arg2)) (m ((c.tc : Thread Cert.ReferenceNbIdeal.nD Cert.ReferenceNbIdeal.τ).loc Cert.ReferenceNbIdeal.main_arg3)) (m ((c.tc : Thread Cert.ReferenceNbIdeal.nD Cert.ReferenceNbIdeal.τ).loc Cert.ReferenceNbIdeal.main_arg4)) (m ((c.tc : Thread Cert.ReferenceNbIdeal.nD Cert.ReferenceNbIdeal.τ).loc Cert.ReferenceNbIdeal.main_arg5))).1 = (fun _ => 1#1)
    ∧ (Cert.Pre_finite_rows.fn (F := Ideal) (m ((c.tc : Thread Cert.ReferenceNbIdeal.nD Cert.ReferenceNbIdeal.τ).loc Cert.ReferenceNbIdeal.main_arg0)) (m ((c.tc : Thread Cert.ReferenceNbIdeal.nD Cert.ReferenceNbIdeal.τ).loc Cert.ReferenceNbIdeal.main_arg1)) (m ((c.tc : Thread Cert.ReferenceNbIdeal.nD Cert.ReferenceNbIdeal.τ).loc Cert.ReferenceNbIdeal.main_arg2)) (m ((c.tc : Thread Cert.ReferenceNbIdeal.nD Cert.ReferenceNbIdeal.τ).loc Cert.ReferenceNbIdeal.main_arg3)) (m ((c.tc : Thread Cert.ReferenceNbIdeal.nD Cert.ReferenceNbIdeal.τ).loc Cert.ReferenceNbIdeal.main_arg4)) (m ((c.tc : Thread Cert.ReferenceNbIdeal.nD Cert.ReferenceNbIdeal.τ).loc Cert.ReferenceNbIdeal.main_arg5))).2.1 = (fun _ => 1#1)
    ∧ (Cert.Pre_finite_rows.fn (F := Ideal) (m ((c.tc : Thread Cert.ReferenceNbIdeal.nD Cert.ReferenceNbIdeal.τ).loc Cert.ReferenceNbIdeal.main_arg0)) (m ((c.tc : Thread Cert.ReferenceNbIdeal.nD Cert.ReferenceNbIdeal.τ).loc Cert.ReferenceNbIdeal.main_arg1)) (m ((c.tc : Thread Cert.ReferenceNbIdeal.nD Cert.ReferenceNbIdeal.τ).loc Cert.ReferenceNbIdeal.main_arg2)) (m ((c.tc : Thread Cert.ReferenceNbIdeal.nD Cert.ReferenceNbIdeal.τ).loc Cert.ReferenceNbIdeal.main_arg3)) (m ((c.tc : Thread Cert.ReferenceNbIdeal.nD Cert.ReferenceNbIdeal.τ).loc Cert.ReferenceNbIdeal.main_arg4)) (m ((c.tc : Thread Cert.ReferenceNbIdeal.nD Cert.ReferenceNbIdeal.τ).loc Cert.ReferenceNbIdeal.main_arg5))).2.2.1 = (fun _ => 1#1)
    ∧ (Cert.Pre_finite_rows.fn (F := Ideal) (m ((c.tc : Thread Cert.ReferenceNbIdeal.nD Cert.ReferenceNbIdeal.τ).loc Cert.ReferenceNbIdeal.main_arg0)) (m ((c.tc : Thread Cert.ReferenceNbIdeal.nD Cert.ReferenceNbIdeal.τ).loc Cert.ReferenceNbIdeal.main_arg1)) (m ((c.tc : Thread Cert.ReferenceNbIdeal.nD Cert.ReferenceNbIdeal.τ).loc Cert.ReferenceNbIdeal.main_arg2)) (m ((c.tc : Thread Cert.ReferenceNbIdeal.nD Cert.ReferenceNbIdeal.τ).loc Cert.ReferenceNbIdeal.main_arg3)) (m ((c.tc : Thread Cert.ReferenceNbIdeal.nD Cert.ReferenceNbIdeal.τ).loc Cert.ReferenceNbIdeal.main_arg4)) (m ((c.tc : Thread Cert.ReferenceNbIdeal.nD Cert.ReferenceNbIdeal.τ).loc Cert.ReferenceNbIdeal.main_arg5))).2.2.2 = (fun _ => 1#1)

def Pre_KernelRb (m : (ℓ : Loc Cert.KernelRb.nD Cert.KernelRb.τ Cert.KernelRb.sig) → Buf (Elt Bits) ℓ) : Prop :=
  True

def Pre_KernelRbIdeal (m : (ℓ : Loc Cert.KernelRbIdeal.nD Cert.KernelRbIdeal.τ Cert.KernelRbIdeal.sig) → Buf (Elt Ideal) ℓ) : Prop :=
  True

def Pre_ReferenceRbIdeal (m : (ℓ : Loc Cert.ReferenceRbIdeal.nD Cert.ReferenceRbIdeal.τ Cert.ReferenceRbIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDmg [hKernelDmg : Cert.KernelDmg.Facts] : Prop :=
  ∀ (m : (ℓ : Loc Cert.KernelDmg.nD Cert.KernelDmg.τ Cert.KernelDmg.sig) → Buf (Elt Bits) ℓ) (g : Dev Cert.KernelDmg.nD → PrngReg), Pre_KernelDmg m →
    θ_run (Cert.KernelDmg.defs (F := Bits)) (onTc (τ := Cert.KernelDmg.τ) (Cert.KernelDmg.main (F := Bits))) ⟨m, fun _ => 0, g⟩ (fun r => (∀ c : Dev Cert.KernelDmg.nD,
      r.2.mem ((c.tc : Thread Cert.KernelDmg.nD Cert.KernelDmg.τ).loc Cert.KernelDmg.main_arg0) = m ((c.tc : Thread Cert.KernelDmg.nD Cert.KernelDmg.τ).loc Cert.KernelDmg.main_arg0)
      ∧ r.2.mem ((c.tc : Thread Cert.KernelDmg.nD Cert.KernelDmg.τ).loc Cert.KernelDmg.main_arg1) = m ((c.tc : Thread Cert.KernelDmg.nD Cert.KernelDmg.τ).loc Cert.KernelDmg.main_arg1))
      ∧ r.2.sem = fun _ => 0)

def quiescent_KernelDmgIdeal [hKernelDmgIdeal : Cert.KernelDmgIdeal.Facts] : Prop :=
  ∀ (m : (ℓ : Loc Cert.KernelDmgIdeal.nD Cert.KernelDmgIdeal.τ Cert.KernelDmgIdeal.sig) → Buf (Elt Ideal) ℓ) (g : Dev Cert.KernelDmgIdeal.nD → PrngReg), Pre_KernelDmgIdeal m →
    θ_run (Cert.KernelDmgIdeal.defs (F := Ideal)) (onTc (τ := Cert.KernelDmgIdeal.τ) (Cert.KernelDmgIdeal.main (F := Ideal))) ⟨m, fun _ => 0, g⟩ (fun r => (∀ c : Dev Cert.KernelDmgIdeal.nD,
      r.2.mem ((c.tc : Thread Cert.KernelDmgIdeal.nD Cert.KernelDmgIdeal.τ).loc Cert.KernelDmgIdeal.main_arg0) = m ((c.tc : Thread Cert.KernelDmgIdeal.nD Cert.KernelDmgIdeal.τ).loc Cert.KernelDmgIdeal.main_arg0)
      ∧ r.2.mem ((c.tc : Thread Cert.KernelDmgIdeal.nD Cert.KernelDmgIdeal.τ).loc Cert.KernelDmgIdeal.main_arg1) = m ((c.tc : Thread Cert.KernelDmgIdeal.nD Cert.KernelDmgIdeal.τ).loc Cert.KernelDmgIdeal.main_arg1))
      ∧ r.2.sem = fun _ => 0)

def quiescent_ReferenceDmgIdeal [hReferenceDmgIdeal : Cert.ReferenceDmgIdeal.Facts] : Prop :=
  ∀ (m : (ℓ : Loc Cert.ReferenceDmgIdeal.nD Cert.ReferenceDmgIdeal.τ Cert.ReferenceDmgIdeal.sig) → Buf (Elt Ideal) ℓ) (g : Dev Cert.ReferenceDmgIdeal.nD → PrngReg), Pre_ReferenceDmgIdeal m →
    θ_run (Cert.ReferenceDmgIdeal.defs (F := Ideal)) (onTc (τ := Cert.ReferenceDmgIdeal.τ) (Cert.ReferenceDmgIdeal.main (F := Ideal))) ⟨m, fun _ => 0, g⟩ (fun r => (∀ c : Dev Cert.ReferenceDmgIdeal.nD,
      r.2.mem ((c.tc : Thread Cert.ReferenceDmgIdeal.nD Cert.ReferenceDmgIdeal.τ).loc Cert.ReferenceDmgIdeal.main_arg0) = m ((c.tc : Thread Cert.ReferenceDmgIdeal.nD Cert.ReferenceDmgIdeal.τ).loc Cert.ReferenceDmgIdeal.main_arg0)
      ∧ r.2.mem ((c.tc : Thread Cert.ReferenceDmgIdeal.nD Cert.ReferenceDmgIdeal.τ).loc Cert.ReferenceDmgIdeal.main_arg1) = m ((c.tc : Thread Cert.ReferenceDmgIdeal.nD Cert.ReferenceDmgIdeal.τ).loc Cert.ReferenceDmgIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDhi [hKernelDhi : Cert.KernelDhi.Facts] : Prop :=
  ∀ (m : (ℓ : Loc Cert.KernelDhi.nD Cert.KernelDhi.τ Cert.KernelDhi.sig) → Buf (Elt Bits) ℓ) (g : Dev Cert.KernelDhi.nD → PrngReg), Pre_KernelDhi m →
    θ_run (Cert.KernelDhi.defs (F := Bits)) (onTc (τ := Cert.KernelDhi.τ) (Cert.KernelDhi.main (F := Bits))) ⟨m, fun _ => 0, g⟩ (fun r => (∀ c : Dev Cert.KernelDhi.nD,
      r.2.mem ((c.tc : Thread Cert.KernelDhi.nD Cert.KernelDhi.τ).loc Cert.KernelDhi.main_arg0) = m ((c.tc : Thread Cert.KernelDhi.nD Cert.KernelDhi.τ).loc Cert.KernelDhi.main_arg0)
      ∧ r.2.mem ((c.tc : Thread Cert.KernelDhi.nD Cert.KernelDhi.τ).loc Cert.KernelDhi.main_arg1) = m ((c.tc : Thread Cert.KernelDhi.nD Cert.KernelDhi.τ).loc Cert.KernelDhi.main_arg1))
      ∧ r.2.sem = fun _ => 0)

def quiescent_KernelDhiIdeal [hKernelDhiIdeal : Cert.KernelDhiIdeal.Facts] : Prop :=
  ∀ (m : (ℓ : Loc Cert.KernelDhiIdeal.nD Cert.KernelDhiIdeal.τ Cert.KernelDhiIdeal.sig) → Buf (Elt Ideal) ℓ) (g : Dev Cert.KernelDhiIdeal.nD → PrngReg), Pre_KernelDhiIdeal m →
    θ_run (Cert.KernelDhiIdeal.defs (F := Ideal)) (onTc (τ := Cert.KernelDhiIdeal.τ) (Cert.KernelDhiIdeal.main (F := Ideal))) ⟨m, fun _ => 0, g⟩ (fun r => (∀ c : Dev Cert.KernelDhiIdeal.nD,
      r.2.mem ((c.tc : Thread Cert.KernelDhiIdeal.nD Cert.KernelDhiIdeal.τ).loc Cert.KernelDhiIdeal.main_arg0) = m ((c.tc : Thread Cert.KernelDhiIdeal.nD Cert.KernelDhiIdeal.τ).loc Cert.KernelDhiIdeal.main_arg0)
      ∧ r.2.mem ((c.tc : Thread Cert.KernelDhiIdeal.nD Cert.KernelDhiIdeal.τ).loc Cert.KernelDhiIdeal.main_arg1) = m ((c.tc : Thread Cert.KernelDhiIdeal.nD Cert.KernelDhiIdeal.τ).loc Cert.KernelDhiIdeal.main_arg1))
      ∧ r.2.sem = fun _ => 0)

def quiescent_ReferenceDhiIdeal [hReferenceDhiIdeal : Cert.ReferenceDhiIdeal.Facts] : Prop :=
  ∀ (m : (ℓ : Loc Cert.ReferenceDhiIdeal.nD Cert.ReferenceDhiIdeal.τ Cert.ReferenceDhiIdeal.sig) → Buf (Elt Ideal) ℓ) (g : Dev Cert.ReferenceDhiIdeal.nD → PrngReg), Pre_ReferenceDhiIdeal m →
    θ_run (Cert.ReferenceDhiIdeal.defs (F := Ideal)) (onTc (τ := Cert.ReferenceDhiIdeal.τ) (Cert.ReferenceDhiIdeal.main (F := Ideal))) ⟨m, fun _ => 0, g⟩ (fun r => (∀ c : Dev Cert.ReferenceDhiIdeal.nD,
      r.2.mem ((c.tc : Thread Cert.ReferenceDhiIdeal.nD Cert.ReferenceDhiIdeal.τ).loc Cert.ReferenceDhiIdeal.main_arg0) = m ((c.tc : Thread Cert.ReferenceDhiIdeal.nD Cert.ReferenceDhiIdeal.τ).loc Cert.ReferenceDhiIdeal.main_arg0)
      ∧ r.2.mem ((c.tc : Thread Cert.ReferenceDhiIdeal.nD Cert.ReferenceDhiIdeal.τ).loc Cert.ReferenceDhiIdeal.main_arg1) = m ((c.tc : Thread Cert.ReferenceDhiIdeal.nD Cert.ReferenceDhiIdeal.τ).loc Cert.ReferenceDhiIdeal.main_arg1))
      ∧ r.2.sem = fun _ => 0)

def quiescent_KernelDwi [hKernelDwi : Cert.KernelDwi.Facts] : Prop :=
  ∀ (m : (ℓ : Loc Cert.KernelDwi.nD Cert.KernelDwi.τ Cert.KernelDwi.sig) → Buf (Elt Bits) ℓ) (g : Dev Cert.KernelDwi.nD → PrngReg), Pre_KernelDwi m →
    θ_run (Cert.KernelDwi.defs (F := Bits)) (onTc (τ := Cert.KernelDwi.τ) (Cert.KernelDwi.main (F := Bits))) ⟨m, fun _ => 0, g⟩ (fun r => (∀ c : Dev Cert.KernelDwi.nD,
      r.2.mem ((c.tc : Thread Cert.KernelDwi.nD Cert.KernelDwi.τ).loc Cert.KernelDwi.main_arg0) = m ((c.tc : Thread Cert.KernelDwi.nD Cert.KernelDwi.τ).loc Cert.KernelDwi.main_arg0)
      ∧ r.2.mem ((c.tc : Thread Cert.KernelDwi.nD Cert.KernelDwi.τ).loc Cert.KernelDwi.main_arg1) = m ((c.tc : Thread Cert.KernelDwi.nD Cert.KernelDwi.τ).loc Cert.KernelDwi.main_arg1))
      ∧ r.2.sem = fun _ => 0)

def quiescent_KernelDwiIdeal [hKernelDwiIdeal : Cert.KernelDwiIdeal.Facts] : Prop :=
  ∀ (m : (ℓ : Loc Cert.KernelDwiIdeal.nD Cert.KernelDwiIdeal.τ Cert.KernelDwiIdeal.sig) → Buf (Elt Ideal) ℓ) (g : Dev Cert.KernelDwiIdeal.nD → PrngReg), Pre_KernelDwiIdeal m →
    θ_run (Cert.KernelDwiIdeal.defs (F := Ideal)) (onTc (τ := Cert.KernelDwiIdeal.τ) (Cert.KernelDwiIdeal.main (F := Ideal))) ⟨m, fun _ => 0, g⟩ (fun r => (∀ c : Dev Cert.KernelDwiIdeal.nD,
      r.2.mem ((c.tc : Thread Cert.KernelDwiIdeal.nD Cert.KernelDwiIdeal.τ).loc Cert.KernelDwiIdeal.main_arg0) = m ((c.tc : Thread Cert.KernelDwiIdeal.nD Cert.KernelDwiIdeal.τ).loc Cert.KernelDwiIdeal.main_arg0)
      ∧ r.2.mem ((c.tc : Thread Cert.KernelDwiIdeal.nD Cert.KernelDwiIdeal.τ).loc Cert.KernelDwiIdeal.main_arg1) = m ((c.tc : Thread Cert.KernelDwiIdeal.nD Cert.KernelDwiIdeal.τ).loc Cert.KernelDwiIdeal.main_arg1))
      ∧ r.2.sem = fun _ => 0)

def quiescent_ReferenceDwiIdeal [hReferenceDwiIdeal : Cert.ReferenceDwiIdeal.Facts] : Prop :=
  ∀ (m : (ℓ : Loc Cert.ReferenceDwiIdeal.nD Cert.ReferenceDwiIdeal.τ Cert.ReferenceDwiIdeal.sig) → Buf (Elt Ideal) ℓ) (g : Dev Cert.ReferenceDwiIdeal.nD → PrngReg), Pre_ReferenceDwiIdeal m →
    θ_run (Cert.ReferenceDwiIdeal.defs (F := Ideal)) (onTc (τ := Cert.ReferenceDwiIdeal.τ) (Cert.ReferenceDwiIdeal.main (F := Ideal))) ⟨m, fun _ => 0, g⟩ (fun r => (∀ c : Dev Cert.ReferenceDwiIdeal.nD,
      r.2.mem ((c.tc : Thread Cert.ReferenceDwiIdeal.nD Cert.ReferenceDwiIdeal.τ).loc Cert.ReferenceDwiIdeal.main_arg0) = m ((c.tc : Thread Cert.ReferenceDwiIdeal.nD Cert.ReferenceDwiIdeal.τ).loc Cert.ReferenceDwiIdeal.main_arg0)
      ∧ r.2.mem ((c.tc : Thread Cert.ReferenceDwiIdeal.nD Cert.ReferenceDwiIdeal.τ).loc Cert.ReferenceDwiIdeal.main_arg1) = m ((c.tc : Thread Cert.ReferenceDwiIdeal.nD Cert.ReferenceDwiIdeal.τ).loc Cert.ReferenceDwiIdeal.main_arg1))
      ∧ r.2.sem = fun _ => 0)

def quiescent_KernelFa [hKernelFa : Cert.KernelFa.Facts] : Prop :=
  ∀ (m : (ℓ : Loc Cert.KernelFa.nD Cert.KernelFa.τ Cert.KernelFa.sig) → Buf (Elt Bits) ℓ) (g : Dev Cert.KernelFa.nD → PrngReg), Pre_KernelFa m →
    θ_run (Cert.KernelFa.defs (F := Bits)) (onTc (τ := Cert.KernelFa.τ) (Cert.KernelFa.main (F := Bits))) ⟨m, fun _ => 0, g⟩ (fun r => (∀ c : Dev Cert.KernelFa.nD,
      r.2.mem ((c.tc : Thread Cert.KernelFa.nD Cert.KernelFa.τ).loc Cert.KernelFa.main_arg0) = m ((c.tc : Thread Cert.KernelFa.nD Cert.KernelFa.τ).loc Cert.KernelFa.main_arg0)
      ∧ r.2.mem ((c.tc : Thread Cert.KernelFa.nD Cert.KernelFa.τ).loc Cert.KernelFa.main_arg1) = m ((c.tc : Thread Cert.KernelFa.nD Cert.KernelFa.τ).loc Cert.KernelFa.main_arg1))
      ∧ r.2.sem = fun _ => 0)

def quiescent_KernelFaIdeal [hKernelFaIdeal : Cert.KernelFaIdeal.Facts] : Prop :=
  ∀ (m : (ℓ : Loc Cert.KernelFaIdeal.nD Cert.KernelFaIdeal.τ Cert.KernelFaIdeal.sig) → Buf (Elt Ideal) ℓ) (g : Dev Cert.KernelFaIdeal.nD → PrngReg), Pre_KernelFaIdeal m →
    θ_run (Cert.KernelFaIdeal.defs (F := Ideal)) (onTc (τ := Cert.KernelFaIdeal.τ) (Cert.KernelFaIdeal.main (F := Ideal))) ⟨m, fun _ => 0, g⟩ (fun r => (∀ c : Dev Cert.KernelFaIdeal.nD,
      r.2.mem ((c.tc : Thread Cert.KernelFaIdeal.nD Cert.KernelFaIdeal.τ).loc Cert.KernelFaIdeal.main_arg0) = m ((c.tc : Thread Cert.KernelFaIdeal.nD Cert.KernelFaIdeal.τ).loc Cert.KernelFaIdeal.main_arg0)
      ∧ r.2.mem ((c.tc : Thread Cert.KernelFaIdeal.nD Cert.KernelFaIdeal.τ).loc Cert.KernelFaIdeal.main_arg1) = m ((c.tc : Thread Cert.KernelFaIdeal.nD Cert.KernelFaIdeal.τ).loc Cert.KernelFaIdeal.main_arg1))
      ∧ r.2.sem = fun _ => 0)

def quiescent_ReferenceFaIdeal [hReferenceFaIdeal : Cert.ReferenceFaIdeal.Facts] : Prop :=
  ∀ (m : (ℓ : Loc Cert.ReferenceFaIdeal.nD Cert.ReferenceFaIdeal.τ Cert.ReferenceFaIdeal.sig) → Buf (Elt Ideal) ℓ) (g : Dev Cert.ReferenceFaIdeal.nD → PrngReg), Pre_ReferenceFaIdeal m →
    θ_run (Cert.ReferenceFaIdeal.defs (F := Ideal)) (onTc (τ := Cert.ReferenceFaIdeal.τ) (Cert.ReferenceFaIdeal.main (F := Ideal))) ⟨m, fun _ => 0, g⟩ (fun r => (∀ c : Dev Cert.ReferenceFaIdeal.nD,
      r.2.mem ((c.tc : Thread Cert.ReferenceFaIdeal.nD Cert.ReferenceFaIdeal.τ).loc Cert.ReferenceFaIdeal.main_arg0) = m ((c.tc : Thread Cert.ReferenceFaIdeal.nD Cert.ReferenceFaIdeal.τ).loc Cert.ReferenceFaIdeal.main_arg0)
      ∧ r.2.mem ((c.tc : Thread Cert.ReferenceFaIdeal.nD Cert.ReferenceFaIdeal.τ).loc Cert.ReferenceFaIdeal.main_arg1) = m ((c.tc : Thread Cert.ReferenceFaIdeal.nD Cert.ReferenceFaIdeal.τ).loc Cert.ReferenceFaIdeal.main_arg1))
      ∧ r.2.sem = fun _ => 0)

def quiescent_KernelFo [hKernelFo : Cert.KernelFo.Facts] : Prop :=
  ∀ (m : (ℓ : Loc Cert.KernelFo.nD Cert.KernelFo.τ Cert.KernelFo.sig) → Buf (Elt Bits) ℓ) (g : Dev Cert.KernelFo.nD → PrngReg), Pre_KernelFo m →
    θ_run (Cert.KernelFo.defs (F := Bits)) (onTc (τ := Cert.KernelFo.τ) (Cert.KernelFo.main (F := Bits))) ⟨m, fun _ => 0, g⟩ (fun r => (∀ c : Dev Cert.KernelFo.nD,
      r.2.mem ((c.tc : Thread Cert.KernelFo.nD Cert.KernelFo.τ).loc Cert.KernelFo.main_arg0) = m ((c.tc : Thread Cert.KernelFo.nD Cert.KernelFo.τ).loc Cert.KernelFo.main_arg0)
      ∧ r.2.mem ((c.tc : Thread Cert.KernelFo.nD Cert.KernelFo.τ).loc Cert.KernelFo.main_arg1) = m ((c.tc : Thread Cert.KernelFo.nD Cert.KernelFo.τ).loc Cert.KernelFo.main_arg1))
      ∧ r.2.sem = fun _ => 0)

def quiescent_KernelFoIdeal [hKernelFoIdeal : Cert.KernelFoIdeal.Facts] : Prop :=
  ∀ (m : (ℓ : Loc Cert.KernelFoIdeal.nD Cert.KernelFoIdeal.τ Cert.KernelFoIdeal.sig) → Buf (Elt Ideal) ℓ) (g : Dev Cert.KernelFoIdeal.nD → PrngReg), Pre_KernelFoIdeal m →
    θ_run (Cert.KernelFoIdeal.defs (F := Ideal)) (onTc (τ := Cert.KernelFoIdeal.τ) (Cert.KernelFoIdeal.main (F := Ideal))) ⟨m, fun _ => 0, g⟩ (fun r => (∀ c : Dev Cert.KernelFoIdeal.nD,
      r.2.mem ((c.tc : Thread Cert.KernelFoIdeal.nD Cert.KernelFoIdeal.τ).loc Cert.KernelFoIdeal.main_arg0) = m ((c.tc : Thread Cert.KernelFoIdeal.nD Cert.KernelFoIdeal.τ).loc Cert.KernelFoIdeal.main_arg0)
      ∧ r.2.mem ((c.tc : Thread Cert.KernelFoIdeal.nD Cert.KernelFoIdeal.τ).loc Cert.KernelFoIdeal.main_arg1) = m ((c.tc : Thread Cert.KernelFoIdeal.nD Cert.KernelFoIdeal.τ).loc Cert.KernelFoIdeal.main_arg1))
      ∧ r.2.sem = fun _ => 0)

def quiescent_ReferenceFoIdeal [hReferenceFoIdeal : Cert.ReferenceFoIdeal.Facts] : Prop :=
  ∀ (m : (ℓ : Loc Cert.ReferenceFoIdeal.nD Cert.ReferenceFoIdeal.τ Cert.ReferenceFoIdeal.sig) → Buf (Elt Ideal) ℓ) (g : Dev Cert.ReferenceFoIdeal.nD → PrngReg), Pre_ReferenceFoIdeal m →
    θ_run (Cert.ReferenceFoIdeal.defs (F := Ideal)) (onTc (τ := Cert.ReferenceFoIdeal.τ) (Cert.ReferenceFoIdeal.main (F := Ideal))) ⟨m, fun _ => 0, g⟩ (fun r => (∀ c : Dev Cert.ReferenceFoIdeal.nD,
      r.2.mem ((c.tc : Thread Cert.ReferenceFoIdeal.nD Cert.ReferenceFoIdeal.τ).loc Cert.ReferenceFoIdeal.main_arg0) = m ((c.tc : Thread Cert.ReferenceFoIdeal.nD Cert.ReferenceFoIdeal.τ).loc Cert.ReferenceFoIdeal.main_arg0)
      ∧ r.2.mem ((c.tc : Thread Cert.ReferenceFoIdeal.nD Cert.ReferenceFoIdeal.τ).loc Cert.ReferenceFoIdeal.main_arg1) = m ((c.tc : Thread Cert.ReferenceFoIdeal.nD Cert.ReferenceFoIdeal.τ).loc Cert.ReferenceFoIdeal.main_arg1))
      ∧ r.2.sem = fun _ => 0)

def quiescent_KernelFp [hKernelFp : Cert.KernelFp.Facts] : Prop :=
  ∀ (m : (ℓ : Loc Cert.KernelFp.nD Cert.KernelFp.τ Cert.KernelFp.sig) → Buf (Elt Bits) ℓ) (g : Dev Cert.KernelFp.nD → PrngReg), Pre_KernelFp m →
    θ_run (Cert.KernelFp.defs (F := Bits)) (onTc (τ := Cert.KernelFp.τ) (Cert.KernelFp.main (F := Bits))) ⟨m, fun _ => 0, g⟩ (fun r => (∀ c : Dev Cert.KernelFp.nD,
      r.2.mem ((c.tc : Thread Cert.KernelFp.nD Cert.KernelFp.τ).loc Cert.KernelFp.main_arg0) = m ((c.tc : Thread Cert.KernelFp.nD Cert.KernelFp.τ).loc Cert.KernelFp.main_arg0)
      ∧ r.2.mem ((c.tc : Thread Cert.KernelFp.nD Cert.KernelFp.τ).loc Cert.KernelFp.main_arg1) = m ((c.tc : Thread Cert.KernelFp.nD Cert.KernelFp.τ).loc Cert.KernelFp.main_arg1))
      ∧ r.2.sem = fun _ => 0)

def quiescent_KernelFpIdeal [hKernelFpIdeal : Cert.KernelFpIdeal.Facts] : Prop :=
  ∀ (m : (ℓ : Loc Cert.KernelFpIdeal.nD Cert.KernelFpIdeal.τ Cert.KernelFpIdeal.sig) → Buf (Elt Ideal) ℓ) (g : Dev Cert.KernelFpIdeal.nD → PrngReg), Pre_KernelFpIdeal m →
    θ_run (Cert.KernelFpIdeal.defs (F := Ideal)) (onTc (τ := Cert.KernelFpIdeal.τ) (Cert.KernelFpIdeal.main (F := Ideal))) ⟨m, fun _ => 0, g⟩ (fun r => (∀ c : Dev Cert.KernelFpIdeal.nD,
      r.2.mem ((c.tc : Thread Cert.KernelFpIdeal.nD Cert.KernelFpIdeal.τ).loc Cert.KernelFpIdeal.main_arg0) = m ((c.tc : Thread Cert.KernelFpIdeal.nD Cert.KernelFpIdeal.τ).loc Cert.KernelFpIdeal.main_arg0)
      ∧ r.2.mem ((c.tc : Thread Cert.KernelFpIdeal.nD Cert.KernelFpIdeal.τ).loc Cert.KernelFpIdeal.main_arg1) = m ((c.tc : Thread Cert.KernelFpIdeal.nD Cert.KernelFpIdeal.τ).loc Cert.KernelFpIdeal.main_arg1))
      ∧ r.2.sem = fun _ => 0)

def quiescent_ReferenceFpIdeal [hReferenceFpIdeal : Cert.ReferenceFpIdeal.Facts] : Prop :=
  ∀ (m : (ℓ : Loc Cert.ReferenceFpIdeal.nD Cert.ReferenceFpIdeal.τ Cert.ReferenceFpIdeal.sig) → Buf (Elt Ideal) ℓ) (g : Dev Cert.ReferenceFpIdeal.nD → PrngReg), Pre_ReferenceFpIdeal m →
    θ_run (Cert.ReferenceFpIdeal.defs (F := Ideal)) (onTc (τ := Cert.ReferenceFpIdeal.τ) (Cert.ReferenceFpIdeal.main (F := Ideal))) ⟨m, fun _ => 0, g⟩ (fun r => (∀ c : Dev Cert.ReferenceFpIdeal.nD,
      r.2.mem ((c.tc : Thread Cert.ReferenceFpIdeal.nD Cert.ReferenceFpIdeal.τ).loc Cert.ReferenceFpIdeal.main_arg0) = m ((c.tc : Thread Cert.ReferenceFpIdeal.nD Cert.ReferenceFpIdeal.τ).loc Cert.ReferenceFpIdeal.main_arg0)
      ∧ r.2.mem ((c.tc : Thread Cert.ReferenceFpIdeal.nD Cert.ReferenceFpIdeal.τ).loc Cert.ReferenceFpIdeal.main_arg1) = m ((c.tc : Thread Cert.ReferenceFpIdeal.nD Cert.ReferenceFpIdeal.τ).loc Cert.ReferenceFpIdeal.main_arg1))
      ∧ r.2.sem = fun _ => 0)

def quiescent_KernelFz [hKernelFz : Cert.KernelFz.Facts] : Prop :=
  ∀ (m : (ℓ : Loc Cert.KernelFz.nD Cert.KernelFz.τ Cert.KernelFz.sig) → Buf (Elt Bits) ℓ) (g : Dev Cert.KernelFz.nD → PrngReg), Pre_KernelFz m →
    θ_run (Cert.KernelFz.defs (F := Bits)) (onTc (τ := Cert.KernelFz.τ) (Cert.KernelFz.main (F := Bits))) ⟨m, fun _ => 0, g⟩ (fun r => (∀ c : Dev Cert.KernelFz.nD,
      r.2.mem ((c.tc : Thread Cert.KernelFz.nD Cert.KernelFz.τ).loc Cert.KernelFz.main_arg0) = m ((c.tc : Thread Cert.KernelFz.nD Cert.KernelFz.τ).loc Cert.KernelFz.main_arg0)
      ∧ r.2.mem ((c.tc : Thread Cert.KernelFz.nD Cert.KernelFz.τ).loc Cert.KernelFz.main_arg1) = m ((c.tc : Thread Cert.KernelFz.nD Cert.KernelFz.τ).loc Cert.KernelFz.main_arg1))
      ∧ r.2.sem = fun _ => 0)

def quiescent_KernelFzIdeal [hKernelFzIdeal : Cert.KernelFzIdeal.Facts] : Prop :=
  ∀ (m : (ℓ : Loc Cert.KernelFzIdeal.nD Cert.KernelFzIdeal.τ Cert.KernelFzIdeal.sig) → Buf (Elt Ideal) ℓ) (g : Dev Cert.KernelFzIdeal.nD → PrngReg), Pre_KernelFzIdeal m →
    θ_run (Cert.KernelFzIdeal.defs (F := Ideal)) (onTc (τ := Cert.KernelFzIdeal.τ) (Cert.KernelFzIdeal.main (F := Ideal))) ⟨m, fun _ => 0, g⟩ (fun r => (∀ c : Dev Cert.KernelFzIdeal.nD,
      r.2.mem ((c.tc : Thread Cert.KernelFzIdeal.nD Cert.KernelFzIdeal.τ).loc Cert.KernelFzIdeal.main_arg0) = m ((c.tc : Thread Cert.KernelFzIdeal.nD Cert.KernelFzIdeal.τ).loc Cert.KernelFzIdeal.main_arg0)
      ∧ r.2.mem ((c.tc : Thread Cert.KernelFzIdeal.nD Cert.KernelFzIdeal.τ).loc Cert.KernelFzIdeal.main_arg1) = m ((c.tc : Thread Cert.KernelFzIdeal.nD Cert.KernelFzIdeal.τ).loc Cert.KernelFzIdeal.main_arg1))
      ∧ r.2.sem = fun _ => 0)

def quiescent_ReferenceFzIdeal [hReferenceFzIdeal : Cert.ReferenceFzIdeal.Facts] : Prop :=
  ∀ (m : (ℓ : Loc Cert.ReferenceFzIdeal.nD Cert.ReferenceFzIdeal.τ Cert.ReferenceFzIdeal.sig) → Buf (Elt Ideal) ℓ) (g : Dev Cert.ReferenceFzIdeal.nD → PrngReg), Pre_ReferenceFzIdeal m →
    θ_run (Cert.ReferenceFzIdeal.defs (F := Ideal)) (onTc (τ := Cert.ReferenceFzIdeal.τ) (Cert.ReferenceFzIdeal.main (F := Ideal))) ⟨m, fun _ => 0, g⟩ (fun r => (∀ c : Dev Cert.ReferenceFzIdeal.nD,
      r.2.mem ((c.tc : Thread Cert.ReferenceFzIdeal.nD Cert.ReferenceFzIdeal.τ).loc Cert.ReferenceFzIdeal.main_arg0) = m ((c.tc : Thread Cert.ReferenceFzIdeal.nD Cert.ReferenceFzIdeal.τ).loc Cert.ReferenceFzIdeal.main_arg0)
      ∧ r.2.mem ((c.tc : Thread Cert.ReferenceFzIdeal.nD Cert.ReferenceFzIdeal.τ).loc Cert.ReferenceFzIdeal.main_arg1) = m ((c.tc : Thread Cert.ReferenceFzIdeal.nD Cert.ReferenceFzIdeal.τ).loc Cert.ReferenceFzIdeal.main_arg1))
      ∧ r.2.sem = fun _ => 0)

def quiescent_KernelNb [hKernelNb : Cert.KernelNb.Facts] : Prop :=
  ∀ (m : (ℓ : Loc Cert.KernelNb.nD Cert.KernelNb.τ Cert.KernelNb.sig) → Buf (Elt Bits) ℓ) (g : Dev Cert.KernelNb.nD → PrngReg), Pre_KernelNb m →
    θ_run (Cert.KernelNb.defs (F := Bits)) (onTc (τ := Cert.KernelNb.τ) (Cert.KernelNb.main (F := Bits))) ⟨m, fun _ => 0, g⟩ (fun r => (∀ c : Dev Cert.KernelNb.nD,
      r.2.mem ((c.tc : Thread Cert.KernelNb.nD Cert.KernelNb.τ).loc Cert.KernelNb.main_arg0) = m ((c.tc : Thread Cert.KernelNb.nD Cert.KernelNb.τ).loc Cert.KernelNb.main_arg0)
      ∧ r.2.mem ((c.tc : Thread Cert.KernelNb.nD Cert.KernelNb.τ).loc Cert.KernelNb.main_arg1) = m ((c.tc : Thread Cert.KernelNb.nD Cert.KernelNb.τ).loc Cert.KernelNb.main_arg1)
      ∧ r.2.mem ((c.tc : Thread Cert.KernelNb.nD Cert.KernelNb.τ).loc Cert.KernelNb.main_arg2) = m ((c.tc : Thread Cert.KernelNb.nD Cert.KernelNb.τ).loc Cert.KernelNb.main_arg2)
      ∧ r.2.mem ((c.tc : Thread Cert.KernelNb.nD Cert.KernelNb.τ).loc Cert.KernelNb.main_arg3) = m ((c.tc : Thread Cert.KernelNb.nD Cert.KernelNb.τ).loc Cert.KernelNb.main_arg3)
      ∧ r.2.mem ((c.tc : Thread Cert.KernelNb.nD Cert.KernelNb.τ).loc Cert.KernelNb.main_arg4) = m ((c.tc : Thread Cert.KernelNb.nD Cert.KernelNb.τ).loc Cert.KernelNb.main_arg4)
      ∧ r.2.mem ((c.tc : Thread Cert.KernelNb.nD Cert.KernelNb.τ).loc Cert.KernelNb.main_arg5) = m ((c.tc : Thread Cert.KernelNb.nD Cert.KernelNb.τ).loc Cert.KernelNb.main_arg5))
      ∧ r.2.sem = fun _ => 0)

def quiescent_KernelNbIdeal [hKernelNbIdeal : Cert.KernelNbIdeal.Facts] : Prop :=
  ∀ (m : (ℓ : Loc Cert.KernelNbIdeal.nD Cert.KernelNbIdeal.τ Cert.KernelNbIdeal.sig) → Buf (Elt Ideal) ℓ) (g : Dev Cert.KernelNbIdeal.nD → PrngReg), Pre_KernelNbIdeal m →
    θ_run (Cert.KernelNbIdeal.defs (F := Ideal)) (onTc (τ := Cert.KernelNbIdeal.τ) (Cert.KernelNbIdeal.main (F := Ideal))) ⟨m, fun _ => 0, g⟩ (fun r => (∀ c : Dev Cert.KernelNbIdeal.nD,
      r.2.mem ((c.tc : Thread Cert.KernelNbIdeal.nD Cert.KernelNbIdeal.τ).loc Cert.KernelNbIdeal.main_arg0) = m ((c.tc : Thread Cert.KernelNbIdeal.nD Cert.KernelNbIdeal.τ).loc Cert.KernelNbIdeal.main_arg0)
      ∧ r.2.mem ((c.tc : Thread Cert.KernelNbIdeal.nD Cert.KernelNbIdeal.τ).loc Cert.KernelNbIdeal.main_arg1) = m ((c.tc : Thread Cert.KernelNbIdeal.nD Cert.KernelNbIdeal.τ).loc Cert.KernelNbIdeal.main_arg1)
      ∧ r.2.mem ((c.tc : Thread Cert.KernelNbIdeal.nD Cert.KernelNbIdeal.τ).loc Cert.KernelNbIdeal.main_arg2) = m ((c.tc : Thread Cert.KernelNbIdeal.nD Cert.KernelNbIdeal.τ).loc Cert.KernelNbIdeal.main_arg2)
      ∧ r.2.mem ((c.tc : Thread Cert.KernelNbIdeal.nD Cert.KernelNbIdeal.τ).loc Cert.KernelNbIdeal.main_arg3) = m ((c.tc : Thread Cert.KernelNbIdeal.nD Cert.KernelNbIdeal.τ).loc Cert.KernelNbIdeal.main_arg3)
      ∧ r.2.mem ((c.tc : Thread Cert.KernelNbIdeal.nD Cert.KernelNbIdeal.τ).loc Cert.KernelNbIdeal.main_arg4) = m ((c.tc : Thread Cert.KernelNbIdeal.nD Cert.KernelNbIdeal.τ).loc Cert.KernelNbIdeal.main_arg4)
      ∧ r.2.mem ((c.tc : Thread Cert.KernelNbIdeal.nD Cert.KernelNbIdeal.τ).loc Cert.KernelNbIdeal.main_arg5) = m ((c.tc : Thread Cert.KernelNbIdeal.nD Cert.KernelNbIdeal.τ).loc Cert.KernelNbIdeal.main_arg5))
      ∧ r.2.sem = fun _ => 0)

def quiescent_KernelNbIdeal_pre_finite_rows [hKernelNbIdeal : Cert.KernelNbIdeal.Facts] [hPre_finite_rows : Cert.Pre_finite_rows.Facts] : Prop :=
  ∀ (m : (ℓ : Loc Cert.KernelNbIdeal.nD Cert.KernelNbIdeal.τ Cert.KernelNbIdeal.sig) → Buf (Elt Ideal) ℓ) (g : Dev Cert.KernelNbIdeal.nD → PrngReg), Pre_KernelNbIdeal_finite_rows m →
    θ_run (Cert.KernelNbIdeal.defs (F := Ideal)) (onTc (τ := Cert.KernelNbIdeal.τ) (Cert.KernelNbIdeal.main (F := Ideal))) ⟨m, fun _ => 0, g⟩ (fun r => (∀ c : Dev Cert.KernelNbIdeal.nD,
      r.2.mem ((c.tc : Thread Cert.KernelNbIdeal.nD Cert.KernelNbIdeal.τ).loc Cert.KernelNbIdeal.main_arg0) = m ((c.tc : Thread Cert.KernelNbIdeal.nD Cert.KernelNbIdeal.τ).loc Cert.KernelNbIdeal.main_arg0)
      ∧ r.2.mem ((c.tc : Thread Cert.KernelNbIdeal.nD Cert.KernelNbIdeal.τ).loc Cert.KernelNbIdeal.main_arg1) = m ((c.tc : Thread Cert.KernelNbIdeal.nD Cert.KernelNbIdeal.τ).loc Cert.KernelNbIdeal.main_arg1)
      ∧ r.2.mem ((c.tc : Thread Cert.KernelNbIdeal.nD Cert.KernelNbIdeal.τ).loc Cert.KernelNbIdeal.main_arg2) = m ((c.tc : Thread Cert.KernelNbIdeal.nD Cert.KernelNbIdeal.τ).loc Cert.KernelNbIdeal.main_arg2)
      ∧ r.2.mem ((c.tc : Thread Cert.KernelNbIdeal.nD Cert.KernelNbIdeal.τ).loc Cert.KernelNbIdeal.main_arg3) = m ((c.tc : Thread Cert.KernelNbIdeal.nD Cert.KernelNbIdeal.τ).loc Cert.KernelNbIdeal.main_arg3)
      ∧ r.2.mem ((c.tc : Thread Cert.KernelNbIdeal.nD Cert.KernelNbIdeal.τ).loc Cert.KernelNbIdeal.main_arg4) = m ((c.tc : Thread Cert.KernelNbIdeal.nD Cert.KernelNbIdeal.τ).loc Cert.KernelNbIdeal.main_arg4)
      ∧ r.2.mem ((c.tc : Thread Cert.KernelNbIdeal.nD Cert.KernelNbIdeal.τ).loc Cert.KernelNbIdeal.main_arg5) = m ((c.tc : Thread Cert.KernelNbIdeal.nD Cert.KernelNbIdeal.τ).loc Cert.KernelNbIdeal.main_arg5))
      ∧ r.2.sem = fun _ => 0)

def quiescent_ReferenceNbIdeal [hReferenceNbIdeal : Cert.ReferenceNbIdeal.Facts] : Prop :=
  ∀ (m : (ℓ : Loc Cert.ReferenceNbIdeal.nD Cert.ReferenceNbIdeal.τ Cert.ReferenceNbIdeal.sig) → Buf (Elt Ideal) ℓ) (g : Dev Cert.ReferenceNbIdeal.nD → PrngReg), Pre_ReferenceNbIdeal m →
    θ_run (Cert.ReferenceNbIdeal.defs (F := Ideal)) (onTc (τ := Cert.ReferenceNbIdeal.τ) (Cert.ReferenceNbIdeal.main (F := Ideal))) ⟨m, fun _ => 0, g⟩ (fun r => (∀ c : Dev Cert.ReferenceNbIdeal.nD,
      r.2.mem ((c.tc : Thread Cert.ReferenceNbIdeal.nD Cert.ReferenceNbIdeal.τ).loc Cert.ReferenceNbIdeal.main_arg0) = m ((c.tc : Thread Cert.ReferenceNbIdeal.nD Cert.ReferenceNbIdeal.τ).loc Cert.ReferenceNbIdeal.main_arg0)
      ∧ r.2.mem ((c.tc : Thread Cert.ReferenceNbIdeal.nD Cert.ReferenceNbIdeal.τ).loc Cert.ReferenceNbIdeal.main_arg1) = m ((c.tc : Thread Cert.ReferenceNbIdeal.nD Cert.ReferenceNbIdeal.τ).loc Cert.ReferenceNbIdeal.main_arg1)
      ∧ r.2.mem ((c.tc : Thread Cert.ReferenceNbIdeal.nD Cert.ReferenceNbIdeal.τ).loc Cert.ReferenceNbIdeal.main_arg2) = m ((c.tc : Thread Cert.ReferenceNbIdeal.nD Cert.ReferenceNbIdeal.τ).loc Cert.ReferenceNbIdeal.main_arg2)
      ∧ r.2.mem ((c.tc : Thread Cert.ReferenceNbIdeal.nD Cert.ReferenceNbIdeal.τ).loc Cert.ReferenceNbIdeal.main_arg3) = m ((c.tc : Thread Cert.ReferenceNbIdeal.nD Cert.ReferenceNbIdeal.τ).loc Cert.ReferenceNbIdeal.main_arg3)
      ∧ r.2.mem ((c.tc : Thread Cert.ReferenceNbIdeal.nD Cert.ReferenceNbIdeal.τ).loc Cert.ReferenceNbIdeal.main_arg4) = m ((c.tc : Thread Cert.ReferenceNbIdeal.nD Cert.ReferenceNbIdeal.τ).loc Cert.ReferenceNbIdeal.main_arg4)
      ∧ r.2.mem ((c.tc : Thread Cert.ReferenceNbIdeal.nD Cert.ReferenceNbIdeal.τ).loc Cert.ReferenceNbIdeal.main_arg5) = m ((c.tc : Thread Cert.ReferenceNbIdeal.nD Cert.ReferenceNbIdeal.τ).loc Cert.ReferenceNbIdeal.main_arg5))
      ∧ r.2.sem = fun _ => 0)

def quiescent_ReferenceNbIdeal_pre_finite_rows [hReferenceNbIdeal : Cert.ReferenceNbIdeal.Facts] [hPre_finite_rows : Cert.Pre_finite_rows.Facts] : Prop :=
  ∀ (m : (ℓ : Loc Cert.ReferenceNbIdeal.nD Cert.ReferenceNbIdeal.τ Cert.ReferenceNbIdeal.sig) → Buf (Elt Ideal) ℓ) (g : Dev Cert.ReferenceNbIdeal.nD → PrngReg), Pre_ReferenceNbIdeal_finite_rows m →
    θ_run (Cert.ReferenceNbIdeal.defs (F := Ideal)) (onTc (τ := Cert.ReferenceNbIdeal.τ) (Cert.ReferenceNbIdeal.main (F := Ideal))) ⟨m, fun _ => 0, g⟩ (fun r => (∀ c : Dev Cert.ReferenceNbIdeal.nD,
      r.2.mem ((c.tc : Thread Cert.ReferenceNbIdeal.nD Cert.ReferenceNbIdeal.τ).loc Cert.ReferenceNbIdeal.main_arg0) = m ((c.tc : Thread Cert.ReferenceNbIdeal.nD Cert.ReferenceNbIdeal.τ).loc Cert.ReferenceNbIdeal.main_arg0)
      ∧ r.2.mem ((c.tc : Thread Cert.ReferenceNbIdeal.nD Cert.ReferenceNbIdeal.τ).loc Cert.ReferenceNbIdeal.main_arg1) = m ((c.tc : Thread Cert.ReferenceNbIdeal.nD Cert.ReferenceNbIdeal.τ).loc Cert.ReferenceNbIdeal.main_arg1)
      ∧ r.2.mem ((c.tc : Thread Cert.ReferenceNbIdeal.nD Cert.ReferenceNbIdeal.τ).loc Cert.ReferenceNbIdeal.main_arg2) = m ((c.tc : Thread Cert.ReferenceNbIdeal.nD Cert.ReferenceNbIdeal.τ).loc Cert.ReferenceNbIdeal.main_arg2)
      ∧ r.2.mem ((c.tc : Thread Cert.ReferenceNbIdeal.nD Cert.ReferenceNbIdeal.τ).loc Cert.ReferenceNbIdeal.main_arg3) = m ((c.tc : Thread Cert.ReferenceNbIdeal.nD Cert.ReferenceNbIdeal.τ).loc Cert.ReferenceNbIdeal.main_arg3)
      ∧ r.2.mem ((c.tc : Thread Cert.ReferenceNbIdeal.nD Cert.ReferenceNbIdeal.τ).loc Cert.ReferenceNbIdeal.main_arg4) = m ((c.tc : Thread Cert.ReferenceNbIdeal.nD Cert.ReferenceNbIdeal.τ).loc Cert.ReferenceNbIdeal.main_arg4)
      ∧ r.2.mem ((c.tc : Thread Cert.ReferenceNbIdeal.nD Cert.ReferenceNbIdeal.τ).loc Cert.ReferenceNbIdeal.main_arg5) = m ((c.tc : Thread Cert.ReferenceNbIdeal.nD Cert.ReferenceNbIdeal.τ).loc Cert.ReferenceNbIdeal.main_arg5))
      ∧ r.2.sem = fun _ => 0)

def quiescent_KernelRb [hKernelRb : Cert.KernelRb.Facts] : Prop :=
  ∀ (m : (ℓ : Loc Cert.KernelRb.nD Cert.KernelRb.τ Cert.KernelRb.sig) → Buf (Elt Bits) ℓ) (g : Dev Cert.KernelRb.nD → PrngReg), Pre_KernelRb m →
    θ_run (Cert.KernelRb.defs (F := Bits)) (onTc (τ := Cert.KernelRb.τ) (Cert.KernelRb.main (F := Bits))) ⟨m, fun _ => 0, g⟩ (fun r => (∀ c : Dev Cert.KernelRb.nD,
      r.2.mem ((c.tc : Thread Cert.KernelRb.nD Cert.KernelRb.τ).loc Cert.KernelRb.main_arg0) = m ((c.tc : Thread Cert.KernelRb.nD Cert.KernelRb.τ).loc Cert.KernelRb.main_arg0)
      ∧ r.2.mem ((c.tc : Thread Cert.KernelRb.nD Cert.KernelRb.τ).loc Cert.KernelRb.main_arg1) = m ((c.tc : Thread Cert.KernelRb.nD Cert.KernelRb.τ).loc Cert.KernelRb.main_arg1)
      ∧ r.2.mem ((c.tc : Thread Cert.KernelRb.nD Cert.KernelRb.τ).loc Cert.KernelRb.main_arg2) = m ((c.tc : Thread Cert.KernelRb.nD Cert.KernelRb.τ).loc Cert.KernelRb.main_arg2)
      ∧ r.2.mem ((c.tc : Thread Cert.KernelRb.nD Cert.KernelRb.τ).loc Cert.KernelRb.main_arg3) = m ((c.tc : Thread Cert.KernelRb.nD Cert.KernelRb.τ).loc Cert.KernelRb.main_arg3))
      ∧ r.2.sem = fun _ => 0)

def quiescent_KernelRbIdeal [hKernelRbIdeal : Cert.KernelRbIdeal.Facts] : Prop :=
  ∀ (m : (ℓ : Loc Cert.KernelRbIdeal.nD Cert.KernelRbIdeal.τ Cert.KernelRbIdeal.sig) → Buf (Elt Ideal) ℓ) (g : Dev Cert.KernelRbIdeal.nD → PrngReg), Pre_KernelRbIdeal m →
    θ_run (Cert.KernelRbIdeal.defs (F := Ideal)) (onTc (τ := Cert.KernelRbIdeal.τ) (Cert.KernelRbIdeal.main (F := Ideal))) ⟨m, fun _ => 0, g⟩ (fun r => (∀ c : Dev Cert.KernelRbIdeal.nD,
      r.2.mem ((c.tc : Thread Cert.KernelRbIdeal.nD Cert.KernelRbIdeal.τ).loc Cert.KernelRbIdeal.main_arg0) = m ((c.tc : Thread Cert.KernelRbIdeal.nD Cert.KernelRbIdeal.τ).loc Cert.KernelRbIdeal.main_arg0)
      ∧ r.2.mem ((c.tc : Thread Cert.KernelRbIdeal.nD Cert.KernelRbIdeal.τ).loc Cert.KernelRbIdeal.main_arg1) = m ((c.tc : Thread Cert.KernelRbIdeal.nD Cert.KernelRbIdeal.τ).loc Cert.KernelRbIdeal.main_arg1)
      ∧ r.2.mem ((c.tc : Thread Cert.KernelRbIdeal.nD Cert.KernelRbIdeal.τ).loc Cert.KernelRbIdeal.main_arg2) = m ((c.tc : Thread Cert.KernelRbIdeal.nD Cert.KernelRbIdeal.τ).loc Cert.KernelRbIdeal.main_arg2)
      ∧ r.2.mem ((c.tc : Thread Cert.KernelRbIdeal.nD Cert.KernelRbIdeal.τ).loc Cert.KernelRbIdeal.main_arg3) = m ((c.tc : Thread Cert.KernelRbIdeal.nD Cert.KernelRbIdeal.τ).loc Cert.KernelRbIdeal.main_arg3))
      ∧ r.2.sem = fun _ => 0)

def quiescent_ReferenceRbIdeal [hReferenceRbIdeal : Cert.ReferenceRbIdeal.Facts] : Prop :=
  ∀ (m : (ℓ : Loc Cert.ReferenceRbIdeal.nD Cert.ReferenceRbIdeal.τ Cert.ReferenceRbIdeal.sig) → Buf (Elt Ideal) ℓ) (g : Dev Cert.ReferenceRbIdeal.nD → PrngReg), Pre_ReferenceRbIdeal m →
    θ_run (Cert.ReferenceRbIdeal.defs (F := Ideal)) (onTc (τ := Cert.ReferenceRbIdeal.τ) (Cert.ReferenceRbIdeal.main (F := Ideal))) ⟨m, fun _ => 0, g⟩ (fun r => (∀ c : Dev Cert.ReferenceRbIdeal.nD,
      r.2.mem ((c.tc : Thread Cert.ReferenceRbIdeal.nD Cert.ReferenceRbIdeal.τ).loc Cert.ReferenceRbIdeal.main_arg0) = m ((c.tc : Thread Cert.ReferenceRbIdeal.nD Cert.ReferenceRbIdeal.τ).loc Cert.ReferenceRbIdeal.main_arg0)
      ∧ r.2.mem ((c.tc : Thread Cert.ReferenceRbIdeal.nD Cert.ReferenceRbIdeal.τ).loc Cert.ReferenceRbIdeal.main_arg1) = m ((c.tc : Thread Cert.ReferenceRbIdeal.nD Cert.ReferenceRbIdeal.τ).loc Cert.ReferenceRbIdeal.main_arg1)
      ∧ r.2.mem ((c.tc : Thread Cert.ReferenceRbIdeal.nD Cert.ReferenceRbIdeal.τ).loc Cert.ReferenceRbIdeal.main_arg2) = m ((c.tc : Thread Cert.ReferenceRbIdeal.nD Cert.ReferenceRbIdeal.τ).loc Cert.ReferenceRbIdeal.main_arg2)
      ∧ r.2.mem ((c.tc : Thread Cert.ReferenceRbIdeal.nD Cert.ReferenceRbIdeal.τ).loc Cert.ReferenceRbIdeal.main_arg3) = m ((c.tc : Thread Cert.ReferenceRbIdeal.nD Cert.ReferenceRbIdeal.τ).loc Cert.ReferenceRbIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v21_1)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v21_1) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v267) = v1 c
          ∧ r.2.mem ((c.tc : Thread Cert.ReferenceIdeal.nD Cert.ReferenceIdeal.τ).loc Cert.ReferenceIdeal.main_v266) = v2 c
          ∧ r.2.mem ((c.tc : Thread Cert.ReferenceIdeal.nD Cert.ReferenceIdeal.τ).loc Cert.ReferenceIdeal.main_v247) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)) →
    ∃ (v0 : (c : Dev Cert.KernelDaIdeal.nD) → Buf (Elt Ideal) ((c.tc : Thread Cert.KernelDaIdeal.nD Cert.KernelDaIdeal.τ).loc Cert.KernelDaIdeal.main_v0)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v0) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v16) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)) →
    ∃ (v0 : (c : Dev Cert.KernelDw2Ideal.nD) → Buf (Elt Ideal) ((c.tc : Thread Cert.KernelDw2Ideal.nD Cert.KernelDw2Ideal.τ).loc Cert.KernelDw2Ideal.main_v0)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v0) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v8) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v14) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v0)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v0) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v30) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDmg_KernelDmgIdeal : Prop :=
  True

def algebraic_KernelDmgIdeal_ReferenceDmgIdeal [hKernelDmgIdeal : Cert.KernelDmgIdeal.Facts] [hReferenceDmgIdeal : Cert.ReferenceDmgIdeal.Facts] : Prop :=
  ∀ (m : (ℓ : Loc Cert.KernelDmgIdeal.nD Cert.KernelDmgIdeal.τ Cert.KernelDmgIdeal.sig) → Buf (Elt Ideal) ℓ) (g : Dev Cert.KernelDmgIdeal.nD → PrngReg)
    (m' : (ℓ : Loc Cert.ReferenceDmgIdeal.nD Cert.ReferenceDmgIdeal.τ Cert.ReferenceDmgIdeal.sig) → Buf (Elt Ideal) ℓ) (g' : Dev Cert.ReferenceDmgIdeal.nD → PrngReg), Pre_KernelDmgIdeal m →
    (∀ c : Dev Cert.KernelDmgIdeal.nD,
      m' ((c.tc : Thread Cert.ReferenceDmgIdeal.nD Cert.ReferenceDmgIdeal.τ).loc Cert.ReferenceDmgIdeal.main_arg0) = m ((c.tc : Thread Cert.KernelDmgIdeal.nD Cert.KernelDmgIdeal.τ).loc Cert.KernelDmgIdeal.main_arg0)
      ∧ m' ((c.tc : Thread Cert.ReferenceDmgIdeal.nD Cert.ReferenceDmgIdeal.τ).loc Cert.ReferenceDmgIdeal.main_arg1) = m ((c.tc : Thread Cert.KernelDmgIdeal.nD Cert.KernelDmgIdeal.τ).loc Cert.KernelDmgIdeal.main_arg1)) →
    ∃ (v0 : (c : Dev Cert.KernelDmgIdeal.nD) → Buf (Elt Ideal) ((c.tc : Thread Cert.KernelDmgIdeal.nD Cert.KernelDmgIdeal.τ).loc Cert.KernelDmgIdeal.main_v0)),
      θ_run (Cert.KernelDmgIdeal.defs (F := Ideal)) (onTc (τ := Cert.KernelDmgIdeal.τ) (Cert.KernelDmgIdeal.main (F := Ideal))) ⟨m, fun _ => 0, g⟩ (fun r => ∀ c : Dev Cert.KernelDmgIdeal.nD,
          r.2.mem ((c.tc : Thread Cert.KernelDmgIdeal.nD Cert.KernelDmgIdeal.τ).loc Cert.KernelDmgIdeal.main_v0) = v0 c
          ∧ r.2.mem ((c.tc : Thread Cert.KernelDmgIdeal.nD Cert.KernelDmgIdeal.τ).loc Cert.KernelDmgIdeal.main_arg0) = m ((c.tc : Thread Cert.KernelDmgIdeal.nD Cert.KernelDmgIdeal.τ).loc Cert.KernelDmgIdeal.main_arg0)
          ∧ r.2.mem ((c.tc : Thread Cert.KernelDmgIdeal.nD Cert.KernelDmgIdeal.τ).loc Cert.KernelDmgIdeal.main_arg1) = m ((c.tc : Thread Cert.KernelDmgIdeal.nD Cert.KernelDmgIdeal.τ).loc Cert.KernelDmgIdeal.main_arg1))
      ∧ θ_run (Cert.ReferenceDmgIdeal.defs (F := Ideal)) (onTc (τ := Cert.ReferenceDmgIdeal.τ) (Cert.ReferenceDmgIdeal.main (F := Ideal))) ⟨m', fun _ => 0, g'⟩ (fun r => ∀ c : Dev Cert.ReferenceDmgIdeal.nD,
          r.2.mem ((c.tc : Thread Cert.ReferenceDmgIdeal.nD Cert.ReferenceDmgIdeal.τ).loc Cert.ReferenceDmgIdeal.main_v5) = v0 c
          ∧ r.2.mem ((c.tc : Thread Cert.ReferenceDmgIdeal.nD Cert.ReferenceDmgIdeal.τ).loc Cert.ReferenceDmgIdeal.main_arg0) = m' ((c.tc : Thread Cert.ReferenceDmgIdeal.nD Cert.ReferenceDmgIdeal.τ).loc Cert.ReferenceDmgIdeal.main_arg0)
          ∧ r.2.mem ((c.tc : Thread Cert.ReferenceDmgIdeal.nD Cert.ReferenceDmgIdeal.τ).loc Cert.ReferenceDmgIdeal.main_arg1) = m' ((c.tc : Thread Cert.ReferenceDmgIdeal.nD Cert.ReferenceDmgIdeal.τ).loc Cert.ReferenceDmgIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v8) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDhi_KernelDhiIdeal : Prop :=
  True

def algebraic_KernelDhiIdeal_ReferenceDhiIdeal [hKernelDhiIdeal : Cert.KernelDhiIdeal.Facts] [hReferenceDhiIdeal : Cert.ReferenceDhiIdeal.Facts] : Prop :=
  ∀ (m : (ℓ : Loc Cert.KernelDhiIdeal.nD Cert.KernelDhiIdeal.τ Cert.KernelDhiIdeal.sig) → Buf (Elt Ideal) ℓ) (g : Dev Cert.KernelDhiIdeal.nD → PrngReg)
    (m' : (ℓ : Loc Cert.ReferenceDhiIdeal.nD Cert.ReferenceDhiIdeal.τ Cert.ReferenceDhiIdeal.sig) → Buf (Elt Ideal) ℓ) (g' : Dev Cert.ReferenceDhiIdeal.nD → PrngReg), Pre_KernelDhiIdeal m →
    (∀ c : Dev Cert.KernelDhiIdeal.nD,
      m' ((c.tc : Thread Cert.ReferenceDhiIdeal.nD Cert.ReferenceDhiIdeal.τ).loc Cert.ReferenceDhiIdeal.main_arg0) = m ((c.tc : Thread Cert.KernelDhiIdeal.nD Cert.KernelDhiIdeal.τ).loc Cert.KernelDhiIdeal.main_arg0)
      ∧ m' ((c.tc : Thread Cert.ReferenceDhiIdeal.nD Cert.ReferenceDhiIdeal.τ).loc Cert.ReferenceDhiIdeal.main_arg1) = m ((c.tc : Thread Cert.KernelDhiIdeal.nD Cert.KernelDhiIdeal.τ).loc Cert.KernelDhiIdeal.main_arg1)) →
    ∃ (v0 : (c : Dev Cert.KernelDhiIdeal.nD) → Buf (Elt Ideal) ((c.tc : Thread Cert.KernelDhiIdeal.nD Cert.KernelDhiIdeal.τ).loc Cert.KernelDhiIdeal.main_v0)),
      θ_run (Cert.KernelDhiIdeal.defs (F := Ideal)) (onTc (τ := Cert.KernelDhiIdeal.τ) (Cert.KernelDhiIdeal.main (F := Ideal))) ⟨m, fun _ => 0, g⟩ (fun r => ∀ c : Dev Cert.KernelDhiIdeal.nD,
          r.2.mem ((c.tc : Thread Cert.KernelDhiIdeal.nD Cert.KernelDhiIdeal.τ).loc Cert.KernelDhiIdeal.main_v0) = v0 c
          ∧ r.2.mem ((c.tc : Thread Cert.KernelDhiIdeal.nD Cert.KernelDhiIdeal.τ).loc Cert.KernelDhiIdeal.main_arg0) = m ((c.tc : Thread Cert.KernelDhiIdeal.nD Cert.KernelDhiIdeal.τ).loc Cert.KernelDhiIdeal.main_arg0)
          ∧ r.2.mem ((c.tc : Thread Cert.KernelDhiIdeal.nD Cert.KernelDhiIdeal.τ).loc Cert.KernelDhiIdeal.main_arg1) = m ((c.tc : Thread Cert.KernelDhiIdeal.nD Cert.KernelDhiIdeal.τ).loc Cert.KernelDhiIdeal.main_arg1))
      ∧ θ_run (Cert.ReferenceDhiIdeal.defs (F := Ideal)) (onTc (τ := Cert.ReferenceDhiIdeal.τ) (Cert.ReferenceDhiIdeal.main (F := Ideal))) ⟨m', fun _ => 0, g'⟩ (fun r => ∀ c : Dev Cert.ReferenceDhiIdeal.nD,
          r.2.mem ((c.tc : Thread Cert.ReferenceDhiIdeal.nD Cert.ReferenceDhiIdeal.τ).loc Cert.ReferenceDhiIdeal.main_v14) = v0 c
          ∧ r.2.mem ((c.tc : Thread Cert.ReferenceDhiIdeal.nD Cert.ReferenceDhiIdeal.τ).loc Cert.ReferenceDhiIdeal.main_arg0) = m' ((c.tc : Thread Cert.ReferenceDhiIdeal.nD Cert.ReferenceDhiIdeal.τ).loc Cert.ReferenceDhiIdeal.main_arg0)
          ∧ r.2.mem ((c.tc : Thread Cert.ReferenceDhiIdeal.nD Cert.ReferenceDhiIdeal.τ).loc Cert.ReferenceDhiIdeal.main_arg1) = m' ((c.tc : Thread Cert.ReferenceDhiIdeal.nD Cert.ReferenceDhiIdeal.τ).loc Cert.ReferenceDhiIdeal.main_arg1))

def preserves_KernelDwi_KernelDwiIdeal : Prop :=
  True

def algebraic_KernelDwiIdeal_ReferenceDwiIdeal [hKernelDwiIdeal : Cert.KernelDwiIdeal.Facts] [hReferenceDwiIdeal : Cert.ReferenceDwiIdeal.Facts] : Prop :=
  ∀ (m : (ℓ : Loc Cert.KernelDwiIdeal.nD Cert.KernelDwiIdeal.τ Cert.KernelDwiIdeal.sig) → Buf (Elt Ideal) ℓ) (g : Dev Cert.KernelDwiIdeal.nD → PrngReg)
    (m' : (ℓ : Loc Cert.ReferenceDwiIdeal.nD Cert.ReferenceDwiIdeal.τ Cert.ReferenceDwiIdeal.sig) → Buf (Elt Ideal) ℓ) (g' : Dev Cert.ReferenceDwiIdeal.nD → PrngReg), Pre_KernelDwiIdeal m →
    (∀ c : Dev Cert.KernelDwiIdeal.nD,
      m' ((c.tc : Thread Cert.ReferenceDwiIdeal.nD Cert.ReferenceDwiIdeal.τ).loc Cert.ReferenceDwiIdeal.main_arg0) = m ((c.tc : Thread Cert.KernelDwiIdeal.nD Cert.KernelDwiIdeal.τ).loc Cert.KernelDwiIdeal.main_arg0)
      ∧ m' ((c.tc : Thread Cert.ReferenceDwiIdeal.nD Cert.ReferenceDwiIdeal.τ).loc Cert.ReferenceDwiIdeal.main_arg1) = m ((c.tc : Thread Cert.KernelDwiIdeal.nD Cert.KernelDwiIdeal.τ).loc Cert.KernelDwiIdeal.main_arg1)) →
    ∃ (v0 : (c : Dev Cert.KernelDwiIdeal.nD) → Buf (Elt Ideal) ((c.tc : Thread Cert.KernelDwiIdeal.nD Cert.KernelDwiIdeal.τ).loc Cert.KernelDwiIdeal.main_v0)),
      θ_run (Cert.KernelDwiIdeal.defs (F := Ideal)) (onTc (τ := Cert.KernelDwiIdeal.τ) (Cert.KernelDwiIdeal.main (F := Ideal))) ⟨m, fun _ => 0, g⟩ (fun r => ∀ c : Dev Cert.KernelDwiIdeal.nD,
          r.2.mem ((c.tc : Thread Cert.KernelDwiIdeal.nD Cert.KernelDwiIdeal.τ).loc Cert.KernelDwiIdeal.main_v0) = v0 c
          ∧ r.2.mem ((c.tc : Thread Cert.KernelDwiIdeal.nD Cert.KernelDwiIdeal.τ).loc Cert.KernelDwiIdeal.main_arg0) = m ((c.tc : Thread Cert.KernelDwiIdeal.nD Cert.KernelDwiIdeal.τ).loc Cert.KernelDwiIdeal.main_arg0)
          ∧ r.2.mem ((c.tc : Thread Cert.KernelDwiIdeal.nD Cert.KernelDwiIdeal.τ).loc Cert.KernelDwiIdeal.main_arg1) = m ((c.tc : Thread Cert.KernelDwiIdeal.nD Cert.KernelDwiIdeal.τ).loc Cert.KernelDwiIdeal.main_arg1))
      ∧ θ_run (Cert.ReferenceDwiIdeal.defs (F := Ideal)) (onTc (τ := Cert.ReferenceDwiIdeal.τ) (Cert.ReferenceDwiIdeal.main (F := Ideal))) ⟨m', fun _ => 0, g'⟩ (fun r => ∀ c : Dev Cert.ReferenceDwiIdeal.nD,
          r.2.mem ((c.tc : Thread Cert.ReferenceDwiIdeal.nD Cert.ReferenceDwiIdeal.τ).loc Cert.ReferenceDwiIdeal.main_v30) = v0 c
          ∧ r.2.mem ((c.tc : Thread Cert.ReferenceDwiIdeal.nD Cert.ReferenceDwiIdeal.τ).loc Cert.ReferenceDwiIdeal.main_arg0) = m' ((c.tc : Thread Cert.ReferenceDwiIdeal.nD Cert.ReferenceDwiIdeal.τ).loc Cert.ReferenceDwiIdeal.main_arg0)
          ∧ r.2.mem ((c.tc : Thread Cert.ReferenceDwiIdeal.nD Cert.ReferenceDwiIdeal.τ).loc Cert.ReferenceDwiIdeal.main_arg1) = m' ((c.tc : Thread Cert.ReferenceDwiIdeal.nD Cert.ReferenceDwiIdeal.τ).loc Cert.ReferenceDwiIdeal.main_arg1))

def preserves_KernelFa_KernelFaIdeal : Prop :=
  True

def algebraic_KernelFaIdeal_ReferenceFaIdeal [hKernelFaIdeal : Cert.KernelFaIdeal.Facts] [hReferenceFaIdeal : Cert.ReferenceFaIdeal.Facts] : Prop :=
  ∀ (m : (ℓ : Loc Cert.KernelFaIdeal.nD Cert.KernelFaIdeal.τ Cert.KernelFaIdeal.sig) → Buf (Elt Ideal) ℓ) (g : Dev Cert.KernelFaIdeal.nD → PrngReg)
    (m' : (ℓ : Loc Cert.ReferenceFaIdeal.nD Cert.ReferenceFaIdeal.τ Cert.ReferenceFaIdeal.sig) → Buf (Elt Ideal) ℓ) (g' : Dev Cert.ReferenceFaIdeal.nD → PrngReg), Pre_KernelFaIdeal m →
    (∀ c : Dev Cert.KernelFaIdeal.nD,
      m' ((c.tc : Thread Cert.ReferenceFaIdeal.nD Cert.ReferenceFaIdeal.τ).loc Cert.ReferenceFaIdeal.main_arg0) = m ((c.tc : Thread Cert.KernelFaIdeal.nD Cert.KernelFaIdeal.τ).loc Cert.KernelFaIdeal.main_arg0)
      ∧ m' ((c.tc : Thread Cert.ReferenceFaIdeal.nD Cert.ReferenceFaIdeal.τ).loc Cert.ReferenceFaIdeal.main_arg1) = m ((c.tc : Thread Cert.KernelFaIdeal.nD Cert.KernelFaIdeal.τ).loc Cert.KernelFaIdeal.main_arg1)) →
    ∃ (v0 : (c : Dev Cert.KernelFaIdeal.nD) → Buf (Elt Ideal) ((c.tc : Thread Cert.KernelFaIdeal.nD Cert.KernelFaIdeal.τ).loc Cert.KernelFaIdeal.main_v0_0)) (v1 : (c : Dev Cert.KernelFaIdeal.nD) → Buf (Elt Ideal) ((c.tc : Thread Cert.KernelFaIdeal.nD Cert.KernelFaIdeal.τ).loc Cert.KernelFaIdeal.main_v0_1)),
      θ_run (Cert.KernelFaIdeal.defs (F := Ideal)) (onTc (τ := Cert.KernelFaIdeal.τ) (Cert.KernelFaIdeal.main (F := Ideal))) ⟨m, fun _ => 0, g⟩ (fun r => ∀ c : Dev Cert.KernelFaIdeal.nD,
          r.2.mem ((c.tc : Thread Cert.KernelFaIdeal.nD Cert.KernelFaIdeal.τ).loc Cert.KernelFaIdeal.main_v0_0) = v0 c
          ∧ r.2.mem ((c.tc : Thread Cert.KernelFaIdeal.nD Cert.KernelFaIdeal.τ).loc Cert.KernelFaIdeal.main_v0_1) = v1 c
          ∧ r.2.mem ((c.tc : Thread Cert.KernelFaIdeal.nD Cert.KernelFaIdeal.τ).loc Cert.KernelFaIdeal.main_arg0) = m ((c.tc : Thread Cert.KernelFaIdeal.nD Cert.KernelFaIdeal.τ).loc Cert.KernelFaIdeal.main_arg0)
          ∧ r.2.mem ((c.tc : Thread Cert.KernelFaIdeal.nD Cert.KernelFaIdeal.τ).loc Cert.KernelFaIdeal.main_arg1) = m ((c.tc : Thread Cert.KernelFaIdeal.nD Cert.KernelFaIdeal.τ).loc Cert.KernelFaIdeal.main_arg1))
      ∧ θ_run (Cert.ReferenceFaIdeal.defs (F := Ideal)) (onTc (τ := Cert.ReferenceFaIdeal.τ) (Cert.ReferenceFaIdeal.main (F := Ideal))) ⟨m', fun _ => 0, g'⟩ (fun r => ∀ c : Dev Cert.ReferenceFaIdeal.nD,
          r.2.mem ((c.tc : Thread Cert.ReferenceFaIdeal.nD Cert.ReferenceFaIdeal.τ).loc Cert.ReferenceFaIdeal.main_v12) = v0 c
          ∧ r.2.mem ((c.tc : Thread Cert.ReferenceFaIdeal.nD Cert.ReferenceFaIdeal.τ).loc Cert.ReferenceFaIdeal.main_v15) = v1 c
          ∧ r.2.mem ((c.tc : Thread Cert.ReferenceFaIdeal.nD Cert.ReferenceFaIdeal.τ).loc Cert.ReferenceFaIdeal.main_arg0) = m' ((c.tc : Thread Cert.ReferenceFaIdeal.nD Cert.ReferenceFaIdeal.τ).loc Cert.ReferenceFaIdeal.main_arg0)
          ∧ r.2.mem ((c.tc : Thread Cert.ReferenceFaIdeal.nD Cert.ReferenceFaIdeal.τ).loc Cert.ReferenceFaIdeal.main_arg1) = m' ((c.tc : Thread Cert.ReferenceFaIdeal.nD Cert.ReferenceFaIdeal.τ).loc Cert.ReferenceFaIdeal.main_arg1))

def preserves_KernelFo_KernelFoIdeal : Prop :=
  True

def algebraic_KernelFoIdeal_ReferenceFoIdeal [hKernelFoIdeal : Cert.KernelFoIdeal.Facts] [hReferenceFoIdeal : Cert.ReferenceFoIdeal.Facts] : Prop :=
  ∀ (m : (ℓ : Loc Cert.KernelFoIdeal.nD Cert.KernelFoIdeal.τ Cert.KernelFoIdeal.sig) → Buf (Elt Ideal) ℓ) (g : Dev Cert.KernelFoIdeal.nD → PrngReg)
    (m' : (ℓ : Loc Cert.ReferenceFoIdeal.nD Cert.ReferenceFoIdeal.τ Cert.ReferenceFoIdeal.sig) → Buf (Elt Ideal) ℓ) (g' : Dev Cert.ReferenceFoIdeal.nD → PrngReg), Pre_KernelFoIdeal m →
    (∀ c : Dev Cert.KernelFoIdeal.nD,
      m' ((c.tc : Thread Cert.ReferenceFoIdeal.nD Cert.ReferenceFoIdeal.τ).loc Cert.ReferenceFoIdeal.main_arg0) = m ((c.tc : Thread Cert.KernelFoIdeal.nD Cert.KernelFoIdeal.τ).loc Cert.KernelFoIdeal.main_arg0)
      ∧ m' ((c.tc : Thread Cert.ReferenceFoIdeal.nD Cert.ReferenceFoIdeal.τ).loc Cert.ReferenceFoIdeal.main_arg1) = m ((c.tc : Thread Cert.KernelFoIdeal.nD Cert.KernelFoIdeal.τ).loc Cert.KernelFoIdeal.main_arg1)) →
    ∃ (v0 : (c : Dev Cert.KernelFoIdeal.nD) → Buf (Elt Ideal) ((c.tc : Thread Cert.KernelFoIdeal.nD Cert.KernelFoIdeal.τ).loc Cert.KernelFoIdeal.main_v0)),
      θ_run (Cert.KernelFoIdeal.defs (F := Ideal)) (onTc (τ := Cert.KernelFoIdeal.τ) (Cert.KernelFoIdeal.main (F := Ideal))) ⟨m, fun _ => 0, g⟩ (fun r => ∀ c : Dev Cert.KernelFoIdeal.nD,
          r.2.mem ((c.tc : Thread Cert.KernelFoIdeal.nD Cert.KernelFoIdeal.τ).loc Cert.KernelFoIdeal.main_v0) = v0 c
          ∧ r.2.mem ((c.tc : Thread Cert.KernelFoIdeal.nD Cert.KernelFoIdeal.τ).loc Cert.KernelFoIdeal.main_arg0) = m ((c.tc : Thread Cert.KernelFoIdeal.nD Cert.KernelFoIdeal.τ).loc Cert.KernelFoIdeal.main_arg0)
          ∧ r.2.mem ((c.tc : Thread Cert.KernelFoIdeal.nD Cert.KernelFoIdeal.τ).loc Cert.KernelFoIdeal.main_arg1) = m ((c.tc : Thread Cert.KernelFoIdeal.nD Cert.KernelFoIdeal.τ).loc Cert.KernelFoIdeal.main_arg1))
      ∧ θ_run (Cert.ReferenceFoIdeal.defs (F := Ideal)) (onTc (τ := Cert.ReferenceFoIdeal.τ) (Cert.ReferenceFoIdeal.main (F := Ideal))) ⟨m', fun _ => 0, g'⟩ (fun r => ∀ c : Dev Cert.ReferenceFoIdeal.nD,
          r.2.mem ((c.tc : Thread Cert.ReferenceFoIdeal.nD Cert.ReferenceFoIdeal.τ).loc Cert.ReferenceFoIdeal.main_v4) = v0 c
          ∧ r.2.mem ((c.tc : Thread Cert.ReferenceFoIdeal.nD Cert.ReferenceFoIdeal.τ).loc Cert.ReferenceFoIdeal.main_arg0) = m' ((c.tc : Thread Cert.ReferenceFoIdeal.nD Cert.ReferenceFoIdeal.τ).loc Cert.ReferenceFoIdeal.main_arg0)
          ∧ r.2.mem ((c.tc : Thread Cert.ReferenceFoIdeal.nD Cert.ReferenceFoIdeal.τ).loc Cert.ReferenceFoIdeal.main_arg1) = m' ((c.tc : Thread Cert.ReferenceFoIdeal.nD Cert.ReferenceFoIdeal.τ).loc Cert.ReferenceFoIdeal.main_arg1))

def preserves_KernelFp_KernelFpIdeal : Prop :=
  True

def algebraic_KernelFpIdeal_ReferenceFpIdeal [hKernelFpIdeal : Cert.KernelFpIdeal.Facts] [hReferenceFpIdeal : Cert.ReferenceFpIdeal.Facts] : Prop :=
  ∀ (m : (ℓ : Loc Cert.KernelFpIdeal.nD Cert.KernelFpIdeal.τ Cert.KernelFpIdeal.sig) → Buf (Elt Ideal) ℓ) (g : Dev Cert.KernelFpIdeal.nD → PrngReg)
    (m' : (ℓ : Loc Cert.ReferenceFpIdeal.nD Cert.ReferenceFpIdeal.τ Cert.ReferenceFpIdeal.sig) → Buf (Elt Ideal) ℓ) (g' : Dev Cert.ReferenceFpIdeal.nD → PrngReg), Pre_KernelFpIdeal m →
    (∀ c : Dev Cert.KernelFpIdeal.nD,
      m' ((c.tc : Thread Cert.ReferenceFpIdeal.nD Cert.ReferenceFpIdeal.τ).loc Cert.ReferenceFpIdeal.main_arg0) = m ((c.tc : Thread Cert.KernelFpIdeal.nD Cert.KernelFpIdeal.τ).loc Cert.KernelFpIdeal.main_arg0)
      ∧ m' ((c.tc : Thread Cert.ReferenceFpIdeal.nD Cert.ReferenceFpIdeal.τ).loc Cert.ReferenceFpIdeal.main_arg1) = m ((c.tc : Thread Cert.KernelFpIdeal.nD Cert.KernelFpIdeal.τ).loc Cert.KernelFpIdeal.main_arg1)) →
    ∃ (v0 : (c : Dev Cert.KernelFpIdeal.nD) → Buf (Elt Ideal) ((c.tc : Thread Cert.KernelFpIdeal.nD Cert.KernelFpIdeal.τ).loc Cert.KernelFpIdeal.main_v0)),
      θ_run (Cert.KernelFpIdeal.defs (F := Ideal)) (onTc (τ := Cert.KernelFpIdeal.τ) (Cert.KernelFpIdeal.main (F := Ideal))) ⟨m, fun _ => 0, g⟩ (fun r => ∀ c : Dev Cert.KernelFpIdeal.nD,
          r.2.mem ((c.tc : Thread Cert.KernelFpIdeal.nD Cert.KernelFpIdeal.τ).loc Cert.KernelFpIdeal.main_v0) = v0 c
          ∧ r.2.mem ((c.tc : Thread Cert.KernelFpIdeal.nD Cert.KernelFpIdeal.τ).loc Cert.KernelFpIdeal.main_arg0) = m ((c.tc : Thread Cert.KernelFpIdeal.nD Cert.KernelFpIdeal.τ).loc Cert.KernelFpIdeal.main_arg0)
          ∧ r.2.mem ((c.tc : Thread Cert.KernelFpIdeal.nD Cert.KernelFpIdeal.τ).loc Cert.KernelFpIdeal.main_arg1) = m ((c.tc : Thread Cert.KernelFpIdeal.nD Cert.KernelFpIdeal.τ).loc Cert.KernelFpIdeal.main_arg1))
      ∧ θ_run (Cert.ReferenceFpIdeal.defs (F := Ideal)) (onTc (τ := Cert.ReferenceFpIdeal.τ) (Cert.ReferenceFpIdeal.main (F := Ideal))) ⟨m', fun _ => 0, g'⟩ (fun r => ∀ c : Dev Cert.ReferenceFpIdeal.nD,
          r.2.mem ((c.tc : Thread Cert.ReferenceFpIdeal.nD Cert.ReferenceFpIdeal.τ).loc Cert.ReferenceFpIdeal.main_v11) = v0 c
          ∧ r.2.mem ((c.tc : Thread Cert.ReferenceFpIdeal.nD Cert.ReferenceFpIdeal.τ).loc Cert.ReferenceFpIdeal.main_arg0) = m' ((c.tc : Thread Cert.ReferenceFpIdeal.nD Cert.ReferenceFpIdeal.τ).loc Cert.ReferenceFpIdeal.main_arg0)
          ∧ r.2.mem ((c.tc : Thread Cert.ReferenceFpIdeal.nD Cert.ReferenceFpIdeal.τ).loc Cert.ReferenceFpIdeal.main_arg1) = m' ((c.tc : Thread Cert.ReferenceFpIdeal.nD Cert.ReferenceFpIdeal.τ).loc Cert.ReferenceFpIdeal.main_arg1))

def preserves_KernelFz_KernelFzIdeal : Prop :=
  True

def algebraic_KernelFzIdeal_ReferenceFzIdeal [hKernelFzIdeal : Cert.KernelFzIdeal.Facts] [hReferenceFzIdeal : Cert.ReferenceFzIdeal.Facts] : Prop :=
  ∀ (m : (ℓ : Loc Cert.KernelFzIdeal.nD Cert.KernelFzIdeal.τ Cert.KernelFzIdeal.sig) → Buf (Elt Ideal) ℓ) (g : Dev Cert.KernelFzIdeal.nD → PrngReg)
    (m' : (ℓ : Loc Cert.ReferenceFzIdeal.nD Cert.ReferenceFzIdeal.τ Cert.ReferenceFzIdeal.sig) → Buf (Elt Ideal) ℓ) (g' : Dev Cert.ReferenceFzIdeal.nD → PrngReg), Pre_KernelFzIdeal m →
    (∀ c : Dev Cert.KernelFzIdeal.nD,
      m' ((c.tc : Thread Cert.ReferenceFzIdeal.nD Cert.ReferenceFzIdeal.τ).loc Cert.ReferenceFzIdeal.main_arg0) = m ((c.tc : Thread Cert.KernelFzIdeal.nD Cert.KernelFzIdeal.τ).loc Cert.KernelFzIdeal.main_arg0)
      ∧ m' ((c.tc : Thread Cert.ReferenceFzIdeal.nD Cert.ReferenceFzIdeal.τ).loc Cert.ReferenceFzIdeal.main_arg1) = m ((c.tc : Thread Cert.KernelFzIdeal.nD Cert.KernelFzIdeal.τ).loc Cert.KernelFzIdeal.main_arg1)) →
    ∃ (v0 : (c : Dev Cert.KernelFzIdeal.nD) → Buf (Elt Ideal) ((c.tc : Thread Cert.KernelFzIdeal.nD Cert.KernelFzIdeal.τ).loc Cert.KernelFzIdeal.main_v0)),
      θ_run (Cert.KernelFzIdeal.defs (F := Ideal)) (onTc (τ := Cert.KernelFzIdeal.τ) (Cert.KernelFzIdeal.main (F := Ideal))) ⟨m, fun _ => 0, g⟩ (fun r => ∀ c : Dev Cert.KernelFzIdeal.nD,
          r.2.mem ((c.tc : Thread Cert.KernelFzIdeal.nD Cert.KernelFzIdeal.τ).loc Cert.KernelFzIdeal.main_v0) = v0 c
          ∧ r.2.mem ((c.tc : Thread Cert.KernelFzIdeal.nD Cert.KernelFzIdeal.τ).loc Cert.KernelFzIdeal.main_arg0) = m ((c.tc : Thread Cert.KernelFzIdeal.nD Cert.KernelFzIdeal.τ).loc Cert.KernelFzIdeal.main_arg0)
          ∧ r.2.mem ((c.tc : Thread Cert.KernelFzIdeal.nD Cert.KernelFzIdeal.τ).loc Cert.KernelFzIdeal.main_arg1) = m ((c.tc : Thread Cert.KernelFzIdeal.nD Cert.KernelFzIdeal.τ).loc Cert.KernelFzIdeal.main_arg1))
      ∧ θ_run (Cert.ReferenceFzIdeal.defs (F := Ideal)) (onTc (τ := Cert.ReferenceFzIdeal.τ) (Cert.ReferenceFzIdeal.main (F := Ideal))) ⟨m', fun _ => 0, g'⟩ (fun r => ∀ c : Dev Cert.ReferenceFzIdeal.nD,
          r.2.mem ((c.tc : Thread Cert.ReferenceFzIdeal.nD Cert.ReferenceFzIdeal.τ).loc Cert.ReferenceFzIdeal.main_v4) = v0 c
          ∧ r.2.mem ((c.tc : Thread Cert.ReferenceFzIdeal.nD Cert.ReferenceFzIdeal.τ).loc Cert.ReferenceFzIdeal.main_arg0) = m' ((c.tc : Thread Cert.ReferenceFzIdeal.nD Cert.ReferenceFzIdeal.τ).loc Cert.ReferenceFzIdeal.main_arg0)
          ∧ r.2.mem ((c.tc : Thread Cert.ReferenceFzIdeal.nD Cert.ReferenceFzIdeal.τ).loc Cert.ReferenceFzIdeal.main_arg1) = m' ((c.tc : Thread Cert.ReferenceFzIdeal.nD Cert.ReferenceFzIdeal.τ).loc Cert.ReferenceFzIdeal.main_arg1))

def preserves_KernelNb_KernelNbIdeal : Prop :=
  True

def algebraic_KernelNbIdeal_ReferenceNbIdeal_pre_finite_rows [hKernelNbIdeal : Cert.KernelNbIdeal.Facts] [hReferenceNbIdeal : Cert.ReferenceNbIdeal.Facts] [hPre_finite_rows : Cert.Pre_finite_rows.Facts] : Prop :=
  ∀ (m : (ℓ : Loc Cert.KernelNbIdeal.nD Cert.KernelNbIdeal.τ Cert.KernelNbIdeal.sig) → Buf (Elt Ideal) ℓ) (g : Dev Cert.KernelNbIdeal.nD → PrngReg)
    (m' : (ℓ : Loc Cert.ReferenceNbIdeal.nD Cert.ReferenceNbIdeal.τ Cert.ReferenceNbIdeal.sig) → Buf (Elt Ideal) ℓ) (g' : Dev Cert.ReferenceNbIdeal.nD → PrngReg), Pre_KernelNbIdeal_finite_rows m →
    (∀ c : Dev Cert.KernelNbIdeal.nD,
      m' ((c.tc : Thread Cert.ReferenceNbIdeal.nD Cert.ReferenceNbIdeal.τ).loc Cert.ReferenceNbIdeal.main_arg0) = m ((c.tc : Thread Cert.KernelNbIdeal.nD Cert.KernelNbIdeal.τ).loc Cert.KernelNbIdeal.main_arg0)
      ∧ m' ((c.tc : Thread Cert.ReferenceNbIdeal.nD Cert.ReferenceNbIdeal.τ).loc Cert.ReferenceNbIdeal.main_arg1) = m ((c.tc : Thread Cert.KernelNbIdeal.nD Cert.KernelNbIdeal.τ).loc Cert.KernelNbIdeal.main_arg1)
      ∧ m' ((c.tc : Thread Cert.ReferenceNbIdeal.nD Cert.ReferenceNbIdeal.τ).loc Cert.ReferenceNbIdeal.main_arg2) = m ((c.tc : Thread Cert.KernelNbIdeal.nD Cert.KernelNbIdeal.τ).loc Cert.KernelNbIdeal.main_arg2)
      ∧ m' ((c.tc : Thread Cert.ReferenceNbIdeal.nD Cert.ReferenceNbIdeal.τ).loc Cert.ReferenceNbIdeal.main_arg3) = m ((c.tc : Thread Cert.KernelNbIdeal.nD Cert.KernelNbIdeal.τ).loc Cert.KernelNbIdeal.main_arg3)
      ∧ m' ((c.tc : Thread Cert.ReferenceNbIdeal.nD Cert.ReferenceNbIdeal.τ).loc Cert.ReferenceNbIdeal.main_arg4) = m ((c.tc : Thread Cert.KernelNbIdeal.nD Cert.KernelNbIdeal.τ).loc Cert.KernelNbIdeal.main_arg4)
      ∧ m' ((c.tc : Thread Cert.ReferenceNbIdeal.nD Cert.ReferenceNbIdeal.τ).loc Cert.ReferenceNbIdeal.main_arg5) = m ((c.tc : Thread Cert.KernelNbIdeal.nD Cert.KernelNbIdeal.τ).loc Cert.KernelNbIdeal.main_arg5)) →
    ∃ (v0 : (c : Dev Cert.KernelNbIdeal.nD) → Buf (Elt Ideal) ((c.tc : Thread Cert.KernelNbIdeal.nD Cert.KernelNbIdeal.τ).loc Cert.KernelNbIdeal.main_v0_0)) (v1 : (c : Dev Cert.KernelNbIdeal.nD) → Buf (Elt Ideal) ((c.tc : Thread Cert.KernelNbIdeal.nD Cert.KernelNbIdeal.τ).loc Cert.KernelNbIdeal.main_v0_1)) (v2 : (c : Dev Cert.KernelNbIdeal.nD) → Buf (Elt Ideal) ((c.tc : Thread Cert.KernelNbIdeal.nD Cert.KernelNbIdeal.τ).loc Cert.KernelNbIdeal.main_v0_2)),
      θ_run (Cert.KernelNbIdeal.defs (F := Ideal)) (onTc (τ := Cert.KernelNbIdeal.τ) (Cert.KernelNbIdeal.main (F := Ideal))) ⟨m, fun _ => 0, g⟩ (fun r => ∀ c : Dev Cert.KernelNbIdeal.nD,
          r.2.mem ((c.tc : Thread Cert.KernelNbIdeal.nD Cert.KernelNbIdeal.τ).loc Cert.KernelNbIdeal.main_v0_0) = v0 c
          ∧ r.2.mem ((c.tc : Thread Cert.KernelNbIdeal.nD Cert.KernelNbIdeal.τ).loc Cert.KernelNbIdeal.main_v0_1) = v1 c
          ∧ r.2.mem ((c.tc : Thread Cert.KernelNbIdeal.nD Cert.KernelNbIdeal.τ).loc Cert.KernelNbIdeal.main_v0_2) = v2 c
          ∧ r.2.mem ((c.tc : Thread Cert.KernelNbIdeal.nD Cert.KernelNbIdeal.τ).loc Cert.KernelNbIdeal.main_arg0) = m ((c.tc : Thread Cert.KernelNbIdeal.nD Cert.KernelNbIdeal.τ).loc Cert.KernelNbIdeal.main_arg0)
          ∧ r.2.mem ((c.tc : Thread Cert.KernelNbIdeal.nD Cert.KernelNbIdeal.τ).loc Cert.KernelNbIdeal.main_arg1) = m ((c.tc : Thread Cert.KernelNbIdeal.nD Cert.KernelNbIdeal.τ).loc Cert.KernelNbIdeal.main_arg1)
          ∧ r.2.mem ((c.tc : Thread Cert.KernelNbIdeal.nD Cert.KernelNbIdeal.τ).loc Cert.KernelNbIdeal.main_arg2) = m ((c.tc : Thread Cert.KernelNbIdeal.nD Cert.KernelNbIdeal.τ).loc Cert.KernelNbIdeal.main_arg2)
          ∧ r.2.mem ((c.tc : Thread Cert.KernelNbIdeal.nD Cert.KernelNbIdeal.τ).loc Cert.KernelNbIdeal.main_arg3) = m ((c.tc : Thread Cert.KernelNbIdeal.nD Cert.KernelNbIdeal.τ).loc Cert.KernelNbIdeal.main_arg3)
          ∧ r.2.mem ((c.tc : Thread Cert.KernelNbIdeal.nD Cert.KernelNbIdeal.τ).loc Cert.KernelNbIdeal.main_arg4) = m ((c.tc : Thread Cert.KernelNbIdeal.nD Cert.KernelNbIdeal.τ).loc Cert.KernelNbIdeal.main_arg4)
          ∧ r.2.mem ((c.tc : Thread Cert.KernelNbIdeal.nD Cert.KernelNbIdeal.τ).loc Cert.KernelNbIdeal.main_arg5) = m ((c.tc : Thread Cert.KernelNbIdeal.nD Cert.KernelNbIdeal.τ).loc Cert.KernelNbIdeal.main_arg5))
      ∧ θ_run (Cert.ReferenceNbIdeal.defs (F := Ideal)) (onTc (τ := Cert.ReferenceNbIdeal.τ) (Cert.ReferenceNbIdeal.main (F := Ideal))) ⟨m', fun _ => 0, g'⟩ (fun r => ∀ c : Dev Cert.ReferenceNbIdeal.nD,
          r.2.mem ((c.tc : Thread Cert.ReferenceNbIdeal.nD Cert.ReferenceNbIdeal.τ).loc Cert.ReferenceNbIdeal.main_v106) = v0 c
          ∧ r.2.mem ((c.tc : Thread Cert.ReferenceNbIdeal.nD Cert.ReferenceNbIdeal.τ).loc Cert.ReferenceNbIdeal.main_v144) = v1 c
          ∧ r.2.mem ((c.tc : Thread Cert.ReferenceNbIdeal.nD Cert.ReferenceNbIdeal.τ).loc Cert.ReferenceNbIdeal.main_v146) = v2 c
          ∧ r.2.mem ((c.tc : Thread Cert.ReferenceNbIdeal.nD Cert.ReferenceNbIdeal.τ).loc Cert.ReferenceNbIdeal.main_arg0) = m' ((c.tc : Thread Cert.ReferenceNbIdeal.nD Cert.ReferenceNbIdeal.τ).loc Cert.ReferenceNbIdeal.main_arg0)
          ∧ r.2.mem ((c.tc : Thread Cert.ReferenceNbIdeal.nD Cert.ReferenceNbIdeal.τ).loc Cert.ReferenceNbIdeal.main_arg1) = m' ((c.tc : Thread Cert.ReferenceNbIdeal.nD Cert.ReferenceNbIdeal.τ).loc Cert.ReferenceNbIdeal.main_arg1)
          ∧ r.2.mem ((c.tc : Thread Cert.ReferenceNbIdeal.nD Cert.ReferenceNbIdeal.τ).loc Cert.ReferenceNbIdeal.main_arg2) = m' ((c.tc : Thread Cert.ReferenceNbIdeal.nD Cert.ReferenceNbIdeal.τ).loc Cert.ReferenceNbIdeal.main_arg2)
          ∧ r.2.mem ((c.tc : Thread Cert.ReferenceNbIdeal.nD Cert.ReferenceNbIdeal.τ).loc Cert.ReferenceNbIdeal.main_arg3) = m' ((c.tc : Thread Cert.ReferenceNbIdeal.nD Cert.ReferenceNbIdeal.τ).loc Cert.ReferenceNbIdeal.main_arg3)
          ∧ r.2.mem ((c.tc : Thread Cert.ReferenceNbIdeal.nD Cert.ReferenceNbIdeal.τ).loc Cert.ReferenceNbIdeal.main_arg4) = m' ((c.tc : Thread Cert.ReferenceNbIdeal.nD Cert.ReferenceNbIdeal.τ).loc Cert.ReferenceNbIdeal.main_arg4)
          ∧ r.2.mem ((c.tc : Thread Cert.ReferenceNbIdeal.nD Cert.ReferenceNbIdeal.τ).loc Cert.ReferenceNbIdeal.main_arg5) = m' ((c.tc : Thread Cert.ReferenceNbIdeal.nD Cert.ReferenceNbIdeal.τ).loc Cert.ReferenceNbIdeal.main_arg5))

def preserves_KernelRb_KernelRbIdeal : Prop :=
  True

def algebraic_KernelRbIdeal_ReferenceRbIdeal [hKernelRbIdeal : Cert.KernelRbIdeal.Facts] [hReferenceRbIdeal : Cert.ReferenceRbIdeal.Facts] : Prop :=
  ∀ (m : (ℓ : Loc Cert.KernelRbIdeal.nD Cert.KernelRbIdeal.τ Cert.KernelRbIdeal.sig) → Buf (Elt Ideal) ℓ) (g : Dev Cert.KernelRbIdeal.nD → PrngReg)
    (m' : (ℓ : Loc Cert.ReferenceRbIdeal.nD Cert.ReferenceRbIdeal.τ Cert.ReferenceRbIdeal.sig) → Buf (Elt Ideal) ℓ) (g' : Dev Cert.ReferenceRbIdeal.nD → PrngReg), Pre_KernelRbIdeal m →
    (∀ c : Dev Cert.KernelRbIdeal.nD,
      m' ((c.tc : Thread Cert.ReferenceRbIdeal.nD Cert.ReferenceRbIdeal.τ).loc Cert.ReferenceRbIdeal.main_arg0) = m ((c.tc : Thread Cert.KernelRbIdeal.nD Cert.KernelRbIdeal.τ).loc Cert.KernelRbIdeal.main_arg0)
      ∧ m' ((c.tc : Thread Cert.ReferenceRbIdeal.nD Cert.ReferenceRbIdeal.τ).loc Cert.ReferenceRbIdeal.main_arg1) = m ((c.tc : Thread Cert.KernelRbIdeal.nD Cert.KernelRbIdeal.τ).loc Cert.KernelRbIdeal.main_arg1)
      ∧ m' ((c.tc : Thread Cert.ReferenceRbIdeal.nD Cert.ReferenceRbIdeal.τ).loc Cert.ReferenceRbIdeal.main_arg2) = m ((c.tc : Thread Cert.KernelRbIdeal.nD Cert.KernelRbIdeal.τ).loc Cert.KernelRbIdeal.main_arg2)
      ∧ m' ((c.tc : Thread Cert.ReferenceRbIdeal.nD Cert.ReferenceRbIdeal.τ).loc Cert.ReferenceRbIdeal.main_arg3) = m ((c.tc : Thread Cert.KernelRbIdeal.nD Cert.KernelRbIdeal.τ).loc Cert.KernelRbIdeal.main_arg3)) →
    ∃ (v0 : (c : Dev Cert.KernelRbIdeal.nD) → Buf (Elt Ideal) ((c.tc : Thread Cert.KernelRbIdeal.nD Cert.KernelRbIdeal.τ).loc Cert.KernelRbIdeal.main_v52)),
      θ_run (Cert.KernelRbIdeal.defs (F := Ideal)) (onTc (τ := Cert.KernelRbIdeal.τ) (Cert.KernelRbIdeal.main (F := Ideal))) ⟨m, fun _ => 0, g⟩ (fun r => ∀ c : Dev Cert.KernelRbIdeal.nD,
          r.2.mem ((c.tc : Thread Cert.KernelRbIdeal.nD Cert.KernelRbIdeal.τ).loc Cert.KernelRbIdeal.main_v52) = v0 c
          ∧ r.2.mem ((c.tc : Thread Cert.KernelRbIdeal.nD Cert.KernelRbIdeal.τ).loc Cert.KernelRbIdeal.main_arg0) = m ((c.tc : Thread Cert.KernelRbIdeal.nD Cert.KernelRbIdeal.τ).loc Cert.KernelRbIdeal.main_arg0)
          ∧ r.2.mem ((c.tc : Thread Cert.KernelRbIdeal.nD Cert.KernelRbIdeal.τ).loc Cert.KernelRbIdeal.main_arg1) = m ((c.tc : Thread Cert.KernelRbIdeal.nD Cert.KernelRbIdeal.τ).loc Cert.KernelRbIdeal.main_arg1)
          ∧ r.2.mem ((c.tc : Thread Cert.KernelRbIdeal.nD Cert.KernelRbIdeal.τ).loc Cert.KernelRbIdeal.main_arg2) = m ((c.tc : Thread Cert.KernelRbIdeal.nD Cert.KernelRbIdeal.τ).loc Cert.KernelRbIdeal.main_arg2)
          ∧ r.2.mem ((c.tc : Thread Cert.KernelRbIdeal.nD Cert.KernelRbIdeal.τ).loc Cert.KernelRbIdeal.main_arg3) = m ((c.tc : Thread Cert.KernelRbIdeal.nD Cert.KernelRbIdeal.τ).loc Cert.KernelRbIdeal.main_arg3))
      ∧ θ_run (Cert.ReferenceRbIdeal.defs (F := Ideal)) (onTc (τ := Cert.ReferenceRbIdeal.τ) (Cert.ReferenceRbIdeal.main (F := Ideal))) ⟨m', fun _ => 0, g'⟩ (fun r => ∀ c : Dev Cert.ReferenceRbIdeal.nD,
          r.2.mem ((c.tc : Thread Cert.ReferenceRbIdeal.nD Cert.ReferenceRbIdeal.τ).loc Cert.ReferenceRbIdeal.main_v220) = v0 c
          ∧ r.2.mem ((c.tc : Thread Cert.ReferenceRbIdeal.nD Cert.ReferenceRbIdeal.τ).loc Cert.ReferenceRbIdeal.main_arg0) = m' ((c.tc : Thread Cert.ReferenceRbIdeal.nD Cert.ReferenceRbIdeal.τ).loc Cert.ReferenceRbIdeal.main_arg0)
          ∧ r.2.mem ((c.tc : Thread Cert.ReferenceRbIdeal.nD Cert.ReferenceRbIdeal.τ).loc Cert.ReferenceRbIdeal.main_arg1) = m' ((c.tc : Thread Cert.ReferenceRbIdeal.nD Cert.ReferenceRbIdeal.τ).loc Cert.ReferenceRbIdeal.main_arg1)
          ∧ r.2.mem ((c.tc : Thread Cert.ReferenceRbIdeal.nD Cert.ReferenceRbIdeal.τ).loc Cert.ReferenceRbIdeal.main_arg2) = m' ((c.tc : Thread Cert.ReferenceRbIdeal.nD Cert.ReferenceRbIdeal.τ).loc Cert.ReferenceRbIdeal.main_arg2)
          ∧ r.2.mem ((c.tc : Thread Cert.ReferenceRbIdeal.nD Cert.ReferenceRbIdeal.τ).loc Cert.ReferenceRbIdeal.main_arg3) = m' ((c.tc : Thread Cert.ReferenceRbIdeal.nD Cert.ReferenceRbIdeal.τ).loc Cert.ReferenceRbIdeal.main_arg3))

def Claim : Prop :=
  ∃ (hKernel : Cert.Kernel.Facts) (hKernelIdeal : Cert.KernelIdeal.Facts) (hReferenceIdeal : Cert.ReferenceIdeal.Facts) (hKernelDa : Cert.KernelDa.Facts) (hKernelDaIdeal : Cert.KernelDaIdeal.Facts) (hReferenceDaIdeal : Cert.ReferenceDaIdeal.Facts) (hKernelDw2 : Cert.KernelDw2.Facts) (hKernelDw2Ideal : Cert.KernelDw2Ideal.Facts) (hReferenceDw2Ideal : Cert.ReferenceDw2Ideal.Facts) (hKernelDh : Cert.KernelDh.Facts) (hKernelDhIdeal : Cert.KernelDhIdeal.Facts) (hReferenceDhIdeal : Cert.ReferenceDhIdeal.Facts) (hKernelDw1 : Cert.KernelDw1.Facts) (hKernelDw1Ideal : Cert.KernelDw1Ideal.Facts) (hReferenceDw1Ideal : Cert.ReferenceDw1Ideal.Facts) (hKernelDmg : Cert.KernelDmg.Facts) (hKernelDmgIdeal : Cert.KernelDmgIdeal.Facts) (hReferenceDmgIdeal : Cert.ReferenceDmgIdeal.Facts) (hKernelDwo : Cert.KernelDwo.Facts) (hKernelDwoIdeal : Cert.KernelDwoIdeal.Facts) (hReferenceDwoIdeal : Cert.ReferenceDwoIdeal.Facts) (hKernelDhi : Cert.KernelDhi.Facts) (hKernelDhiIdeal : Cert.KernelDhiIdeal.Facts) (hReferenceDhiIdeal : Cert.ReferenceDhiIdeal.Facts) (hKernelDwi : Cert.KernelDwi.Facts) (hKernelDwiIdeal : Cert.KernelDwiIdeal.Facts) (hReferenceDwiIdeal : Cert.ReferenceDwiIdeal.Facts) (hKernelFa : Cert.KernelFa.Facts) (hKernelFaIdeal : Cert.KernelFaIdeal.Facts) (hReferenceFaIdeal : Cert.ReferenceFaIdeal.Facts) (hKernelFo : Cert.KernelFo.Facts) (hKernelFoIdeal : Cert.KernelFoIdeal.Facts) (hReferenceFoIdeal : Cert.ReferenceFoIdeal.Facts) (hKernelFp : Cert.KernelFp.Facts) (hKernelFpIdeal : Cert.KernelFpIdeal.Facts) (hReferenceFpIdeal : Cert.ReferenceFpIdeal.Facts) (hKernelFz : Cert.KernelFz.Facts) (hKernelFzIdeal : Cert.KernelFzIdeal.Facts) (hReferenceFzIdeal : Cert.ReferenceFzIdeal.Facts) (hKernelNb : Cert.KernelNb.Facts) (hKernelNbIdeal : Cert.KernelNbIdeal.Facts) (hReferenceNbIdeal : Cert.ReferenceNbIdeal.Facts) (hKernelRb : Cert.KernelRb.Facts) (hKernelRbIdeal : Cert.KernelRbIdeal.Facts) (hReferenceRbIdeal : Cert.ReferenceRbIdeal.Facts) (hPre_all_finite : Cert.Pre_all_finite.Facts) (hPre_finite_rows : Cert.Pre_finite_rows.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDmg (hKernelDmg := hKernelDmg)
    ∧ quiescent_KernelDmgIdeal (hKernelDmgIdeal := hKernelDmgIdeal)
    ∧ quiescent_ReferenceDmgIdeal (hReferenceDmgIdeal := hReferenceDmgIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDhi (hKernelDhi := hKernelDhi)
    ∧ quiescent_KernelDhiIdeal (hKernelDhiIdeal := hKernelDhiIdeal)
    ∧ quiescent_ReferenceDhiIdeal (hReferenceDhiIdeal := hReferenceDhiIdeal)
    ∧ quiescent_KernelDwi (hKernelDwi := hKernelDwi)
    ∧ quiescent_KernelDwiIdeal (hKernelDwiIdeal := hKernelDwiIdeal)
    ∧ quiescent_ReferenceDwiIdeal (hReferenceDwiIdeal := hReferenceDwiIdeal)
    ∧ quiescent_KernelFa (hKernelFa := hKernelFa)
    ∧ quiescent_KernelFaIdeal (hKernelFaIdeal := hKernelFaIdeal)
    ∧ quiescent_ReferenceFaIdeal (hReferenceFaIdeal := hReferenceFaIdeal)
    ∧ quiescent_KernelFo (hKernelFo := hKernelFo)
    ∧ quiescent_KernelFoIdeal (hKernelFoIdeal := hKernelFoIdeal)
    ∧ quiescent_ReferenceFoIdeal (hReferenceFoIdeal := hReferenceFoIdeal)
    ∧ quiescent_KernelFp (hKernelFp := hKernelFp)
    ∧ quiescent_KernelFpIdeal (hKernelFpIdeal := hKernelFpIdeal)
    ∧ quiescent_ReferenceFpIdeal (hReferenceFpIdeal := hReferenceFpIdeal)
    ∧ quiescent_KernelFz (hKernelFz := hKernelFz)
    ∧ quiescent_KernelFzIdeal (hKernelFzIdeal := hKernelFzIdeal)
    ∧ quiescent_ReferenceFzIdeal (hReferenceFzIdeal := hReferenceFzIdeal)
    ∧ quiescent_KernelNb (hKernelNb := hKernelNb)
    ∧ quiescent_KernelNbIdeal (hKernelNbIdeal := hKernelNbIdeal)
    ∧ quiescent_KernelNbIdeal_pre_finite_rows (hKernelNbIdeal := hKernelNbIdeal) (hPre_finite_rows := hPre_finite_rows)
    ∧ quiescent_ReferenceNbIdeal (hReferenceNbIdeal := hReferenceNbIdeal)
    ∧ quiescent_ReferenceNbIdeal_pre_finite_rows (hReferenceNbIdeal := hReferenceNbIdeal) (hPre_finite_rows := hPre_finite_rows)
    ∧ quiescent_KernelRb (hKernelRb := hKernelRb)
    ∧ quiescent_KernelRbIdeal (hKernelRbIdeal := hKernelRbIdeal)
    ∧ quiescent_ReferenceRbIdeal (hReferenceRbIdeal := hReferenceRbIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelDa_KernelDaIdeal
    ∧ algebraic_KernelDaIdeal_ReferenceDaIdeal (hKernelDaIdeal := hKernelDaIdeal) (hReferenceDaIdeal := hReferenceDaIdeal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDh_KernelDhIdeal
    ∧ algebraic_KernelDhIdeal_ReferenceDhIdeal (hKernelDhIdeal := hKernelDhIdeal) (hReferenceDhIdeal := hReferenceDhIdeal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDmg_KernelDmgIdeal
    ∧ algebraic_KernelDmgIdeal_ReferenceDmgIdeal (hKernelDmgIdeal := hKernelDmgIdeal) (hReferenceDmgIdeal := hReferenceDmgIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDhi_KernelDhiIdeal
    ∧ algebraic_KernelDhiIdeal_ReferenceDhiIdeal (hKernelDhiIdeal := hKernelDhiIdeal) (hReferenceDhiIdeal := hReferenceDhiIdeal)
    ∧ preserves_KernelDwi_KernelDwiIdeal
    ∧ algebraic_KernelDwiIdeal_ReferenceDwiIdeal (hKernelDwiIdeal := hKernelDwiIdeal) (hReferenceDwiIdeal := hReferenceDwiIdeal)
    ∧ preserves_KernelFa_KernelFaIdeal
    ∧ algebraic_KernelFaIdeal_ReferenceFaIdeal (hKernelFaIdeal := hKernelFaIdeal) (hReferenceFaIdeal := hReferenceFaIdeal)
    ∧ preserves_KernelFo_KernelFoIdeal
    ∧ algebraic_KernelFoIdeal_ReferenceFoIdeal (hKernelFoIdeal := hKernelFoIdeal) (hReferenceFoIdeal := hReferenceFoIdeal)
    ∧ preserves_KernelFp_KernelFpIdeal
    ∧ algebraic_KernelFpIdeal_ReferenceFpIdeal (hKernelFpIdeal := hKernelFpIdeal) (hReferenceFpIdeal := hReferenceFpIdeal)
    ∧ preserves_KernelFz_KernelFzIdeal
    ∧ algebraic_KernelFzIdeal_ReferenceFzIdeal (hKernelFzIdeal := hKernelFzIdeal) (hReferenceFzIdeal := hReferenceFzIdeal)
    ∧ preserves_KernelNb_KernelNbIdeal
    ∧ algebraic_KernelNbIdeal_ReferenceNbIdeal_pre_finite_rows (hKernelNbIdeal := hKernelNbIdeal) (hReferenceNbIdeal := hReferenceNbIdeal) (hPre_finite_rows := hPre_finite_rows)
    ∧ preserves_KernelRb_KernelRbIdeal
    ∧ algebraic_KernelRbIdeal_ReferenceRbIdeal (hKernelRbIdeal := hKernelRbIdeal) (hReferenceRbIdeal := hReferenceRbIdeal)
-- ==== Pre_all_finite.lean ====
abbrev S8448x1024 : Shape := ⟨2, ![8448, 1024]⟩
abbrev S8448x256 : Shape := ⟨2, ![8448, 256]⟩
abbrev S16 : Shape := ⟨1, ![16]⟩
abbrev S_ : Shape := ⟨0, ![]⟩

class Facts : Prop where
  bcast_S_S8448x1024 : S_.BroadcastsInDim S8448x1024 (![] : Fin 0 → Fin S8448x1024.rank)
  bcast_S_S8448x256 : S_.BroadcastsInDim S8448x256 (![] : Fin 0 → Fin S8448x256.rank)
  bcast_S_S16 : S_.BroadcastsInDim S16 (![] : Fin 0 → Fin S16.rank)

variable [Facts]

def fn {F : FTy → Type} [FloatOps F] (main_arg0 : FVec F S8448x1024 .f32) (main_arg1 : FVec F S8448x256 .f32) (main_arg2 : FVec F S8448x256 .f32) (main_arg3 : FVec F S8448x1024 .f32) (main_arg4 : FVec F S16 .f32) : IVec S8448x1024 1 × IVec S8448x256 1 × IVec S8448x256 1 × IVec S8448x1024 1 × IVec S16 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S8448x1024 .f32 := Host.absf main_arg3
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Pre_finite_rows.lean ====
abbrev S8448x2048 : Shape := ⟨2, ![8448, 2048]⟩
abbrev S2x6x1x2048 : Shape := ⟨4, ![2, 6, 1, 2048]⟩
abbrev S1x2048 : Shape := ⟨2, ![1, 2048]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  bcast_S_S2x6x1x2048 : S_.BroadcastsInDim S2x6x1x2048 (![] : Fin 0 → Fin S2x6x1x2048.rank)
  bcast_S_S1x2048 : S_.BroadcastsInDim S1x2048 (![] : Fin 0 → Fin S1x2048.rank)

variable [Facts]

def fn {F : FTy → Type} [FloatOps F] (main_arg0 : FVec F S8448x2048 .f32) (main_arg1 : FVec F S8448x2048 .bf16) (main_arg2 : FVec F S8448x2048 .f32) (main_arg3 : FVec F S8448x2048 .bf16) (main_arg4 : FVec F S2x6x1x2048 .f32) (main_arg5 : FVec F S1x2048 .f32) : IVec S8448x2048 1 × IVec S8448x2048 1 × IVec S2x6x1x2048 1 × IVec S1x2048 1 :=
  let main_v0 : FVec F S8448x2048 .f32 := (extf .f32 · bitsLt_bf16_f32) main_arg1
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_v4 : FVec F S8448x2048 .f32 := Host.absf main_arg2
  let main_cst_0 : FVec F S_ .f32 := constant S_ .f32 0x7F800000#32
  let main_v5 : FVec F S8448x2048 .f32 := broadcastInDim S8448x2048 ![] bcast_S_S8448x2048 main_cst_0
  let main_v6 : IVec S8448x2048 1 := cmpf .olt main_v4 main_v5
  let main_v7 : FVec F S2x6x1x2048 .f32 := Host.absf main_arg4
  let main_cst_1 : FVec F S_ .f32 := constant S_ .f32 0x7F800000#32
  let main_v8 : FVec F S2x6x1x2048 .f32 := broadcastInDim S2x6x1x2048 ![] bcast_S_S2x6x1x2048 main_cst_1
  let main_v9 : IVec S2x6x1x2048 1 := cmpf .olt main_v7 main_v8
  let main_v10 : FVec F S1x2048 .f32 := Host.absf main_arg5
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  (main_v3, main_v6, main_v9, main_v12)
-- ==== Kernel.lean ====
abbrev S8448x1024 : Shape := ⟨2, ![8448, 1024]⟩
abbrev S8448x256 : Shape := ⟨2, ![8448, 256]⟩
abbrev S16 : Shape := ⟨1, ![16]⟩
abbrev S_ : Shape := ⟨0, ![]⟩
abbrev S8448x4x1x64 : Shape := ⟨4, ![8448, 4, 1, 64]⟩
abbrev S8448x4x2x64 : Shape := ⟨4, ![8448, 4, 2, 64]⟩
abbrev S8448x512 : Shape := ⟨2, ![8448, 512]⟩
abbrev S512x384 : Shape := ⟨2, ![512, 384]⟩
abbrev S66x384x256 : Shape := ⟨3, ![66, 384, 256]⟩
abbrev S256x256 : Shape := ⟨2, ![256, 256]⟩
abbrev S8x128 : Shape := ⟨2, ![8, 128]⟩
abbrev S128x512 : Shape := ⟨2, ![128, 512]⟩
abbrev S128x256 : Shape := ⟨2, ![128, 256]⟩
abbrev S1x384x128 : Shape := ⟨3, ![1, 384, 128]⟩
abbrev S256x128 : Shape := ⟨2, ![256, 128]⟩
abbrev S1x384 : Shape := ⟨2, ![1, 384]⟩
abbrev S128x128 : Shape := ⟨2, ![128, 128]⟩
abbrev S512x128 : Shape := ⟨2, ![512, 128]⟩
abbrev S384x128 : Shape := ⟨2, ![384, 128]⟩
abbrev S512x1 : Shape := ⟨2, ![512, 1]⟩
abbrev S1 : Shape := ⟨1, ![1]⟩
abbrev S512x256 : Shape := ⟨2, ![512, 256]⟩
abbrev S512 : Shape := ⟨1, ![512]⟩
abbrev S128x1 : Shape := ⟨2, ![128, 1]⟩
abbrev S1x128x1 : Shape := ⟨3, ![1, 128, 1]⟩
abbrev S1x1x1 : Shape := ⟨3, ![1, 1, 1]⟩
abbrev S1x128x256 : Shape := ⟨3, ![1, 128, 256]⟩
abbrev S1x16 : Shape := ⟨2, ![1, 16]⟩

abbrev nBuf : Space → Nat
  | .hbm => 38
  | .vmem => 54
  | .smem => 1
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x1024, .f32⟩
  | .hbm, ⟨4, _⟩ => ⟨S16, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .bf16⟩
  | .hbm, ⟨9, _⟩ => ⟨S8448x4x1x64, .f32⟩
  | .hbm, ⟨10, _⟩ => ⟨S8448x4x2x64, .f32⟩
  | .hbm, ⟨11, _⟩ => ⟨S8448x512, .f32⟩
  | .hbm, ⟨12, _⟩ => ⟨S8448x512, .bf16⟩
  | .hbm, ⟨13, _⟩ => ⟨S8448x4x1x64, .f32⟩
  | .hbm, ⟨14, _⟩ => ⟨S8448x4x2x64, .f32⟩
  | .hbm, ⟨15, _⟩ => ⟨S8448x512, .f32⟩
  | .hbm, ⟨16, _⟩ => ⟨S8448x512, .bf16⟩
  | .hbm, ⟨17, _⟩ => ⟨S512x384, .i32⟩
  | .hbm, ⟨18, _⟩ => ⟨S_, .i32⟩
  | .hbm, ⟨19, _⟩ => ⟨S512x384, .i32⟩
  | .hbm, ⟨20, _⟩ => ⟨S512x384, .i32⟩
  | .hbm, ⟨21, _⟩ => ⟨S512x384, .i32⟩
  | .hbm, ⟨22, _⟩ => ⟨S_, .i32⟩
  | .hbm, ⟨23, _⟩ => ⟨S512x384, .i32⟩
  | .hbm, ⟨24, _⟩ => ⟨S512x384, .i32⟩
  | .hbm, ⟨25, _⟩ => ⟨S512x384, .i32⟩
  | .hbm, ⟨26, _⟩ => ⟨S512x384, .i32⟩
  | .hbm, ⟨27, _⟩ => ⟨S512x384, .f32⟩
  | .hbm, ⟨28, _⟩ => ⟨S8448x1024, .f32⟩
  | .hbm, ⟨29, _⟩ => ⟨S66x384x256, .f32⟩
  | .hbm, ⟨30, _⟩ => ⟨S66x384x256, .f32⟩
  | .hbm, ⟨31, _⟩ => ⟨S256x256, .f32⟩
  | .hbm, ⟨32, _⟩ => ⟨S256x256, .f32⟩
  | .hbm, ⟨33, _⟩ => ⟨S8x128, .f32⟩
  | .hbm, ⟨34, _⟩ => ⟨S8448x256, .f32⟩
  | .hbm, ⟨35, _⟩ => ⟨S8448x256, .f32⟩
  | .hbm, ⟨36, _⟩ => ⟨S1x16, .f32⟩
  | .hbm, ⟨37, _⟩ => ⟨S16, .f32⟩
  | .local _ .vmem, ⟨0, _⟩ => ⟨S512x384, .i32⟩
  | .local _ .vmem, ⟨1, _⟩ => ⟨S512x384, .f32⟩
  | .local _ .vmem, ⟨2, _⟩ => ⟨S512x384, .f32⟩
  | .local _ .vmem, ⟨3, _⟩ => ⟨S128x512, .bf16⟩
  | .local _ .vmem, ⟨4, _⟩ => ⟨S128x512, .bf16⟩
  | .local _ .vmem, ⟨5, _⟩ => ⟨S128x512, .f32⟩
  | .local _ .vmem, ⟨6, _⟩ => ⟨S128x512, .f32⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S256x256, .bf16⟩
  | .local _ .vmem, ⟨14, _⟩ => ⟨S256x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S256x256, .bf16⟩
  | .local _ .vmem, ⟨22, _⟩ => ⟨S256x256, .bf16⟩
  | .local _ .vmem, ⟨23, _⟩ => ⟨S128x512, .f32⟩
  | .local _ .vmem, ⟨24, _⟩ => ⟨S128x512, .f32⟩
  | .local _ .vmem, ⟨25, _⟩ => ⟨S1x384x128, .f32⟩
  | .local _ .vmem, ⟨26, _⟩ => ⟨S1x384x128, .f32⟩
  | .local _ .vmem, ⟨27, _⟩ => ⟨S1x384x128, .f32⟩
  | .local _ .vmem, ⟨28, _⟩ => ⟨S1x384x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S8x128, .f32⟩
  | .local _ .vmem, ⟨34, _⟩ => ⟨S1x128x256, .f32⟩
  | .local _ .vmem, ⟨35, _⟩ => ⟨S1x128x256, .f32⟩
  | .local _ .vmem, ⟨36, _⟩ => ⟨S1x128x256, .f32⟩
  | .local _ .vmem, ⟨37, _⟩ => ⟨S1x128x256, .f32⟩
  | .local _ .vmem, ⟨38, _⟩ => ⟨S1x128x256, .f32⟩
  | .local _ .vmem, ⟨39, _⟩ => ⟨S1x128x256, .f32⟩
  | .local _ .vmem, ⟨40, _⟩ => ⟨S128x256, .f32⟩
  | .local _ .vmem, ⟨41, _⟩ => ⟨S128x256, .f32⟩
  | .local _ .vmem, ⟨42, _⟩ => ⟨S1x128x256, .f32⟩
  | .local _ .vmem, ⟨43, _⟩ => ⟨S1x128x256, .f32⟩
  | .local _ .vmem, ⟨44, _⟩ => ⟨S1x128x256, .f32⟩
  | .local _ .vmem, ⟨45, _⟩ => ⟨S1x128x256, .f32⟩
  | .local _ .vmem, ⟨46, _⟩ => ⟨S1x128x256, .f32⟩
  | .local _ .vmem, ⟨47, _⟩ => ⟨S1x128x256, .f32⟩
  | .local _ .vmem, ⟨48, _⟩ => ⟨S128x256, .f32⟩
  | .local _ .vmem, ⟨49, _⟩ => ⟨S128x256, .f32⟩
  | .local _ .vmem, ⟨50, _⟩ => ⟨S128x256, .f32⟩
  | .local _ .vmem, ⟨51, _⟩ => ⟨S128x256, .f32⟩
  | .local _ .vmem, ⟨52, _⟩ => ⟨S128x256, .f32⟩
  | .local _ .vmem, ⟨53, _⟩ => ⟨S128x256, .f32⟩
  | .local _ .smem, ⟨0, _⟩ => ⟨S16, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .smem, ⟨0, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg1_0 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc1_stg15_0 : Ref sig .tc := ⟨.vmem, 29, rfl⟩
abbrev cc1_stg15_1 : Ref sig .tc := ⟨.vmem, 30, rfl⟩
abbrev cc1_stg16_0 : Ref sig .tc := ⟨.vmem, 31, rfl⟩
abbrev cc1_stg16_1 : Ref sig .tc := ⟨.vmem, 32, rfl⟩
abbrev cc1_stg17_0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_stg8_0 : Ref sig .tc := ⟨.vmem, 50, rfl⟩
abbrev cc2_stg8_1 : Ref sig .tc := ⟨.vmem, 51, rfl⟩
abbrev cc2_stg9_0 : Ref sig .tc := ⟨.vmem, 52, rfl⟩
abbrev cc2_stg9_1 : Ref sig .tc := ⟨.vmem, 53, rfl⟩
abbrev cc1_stg0_0 : Ref sig .tc := ⟨.smem, 0, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem7_1 : DmaSem sig := 50
abbrev cc2_sem8_0 : DmaSem sig := 51
abbrev cc2_sem8_1 : DmaSem sig := 52
abbrev cc2_sem9_0 : DmaSem sig := 53
abbrev cc2_sem9_1 : DmaSem sig := 54

abbrev nD : Nat := 1
abbrev τ : Topo := Topo.v7x

variable {F : FTy → Type} [FloatOps F]

abbrev grid0 : Pipeline.Grid := .none

abbrev stage0_0 : Fin 1 → Memref sig .tc .vmem S512x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 66], ![false, false]⟩

def k1_off1 (i : grid1.Coords) (c0_i32_9 : BitVec 32) (c0_i32_51 : BitVec 32) : Fin 1 → Nat :=
  let c2_i32 : BitVec 32 := 2#32
  let arg0 : BitVec 32 := BitVec.ofNat 32 (i 0).val
  let v30 : BitVec 32 := Scalar.muli c2_i32 arg0
  let v31 : BitVec 32 := Scalar.addi v30 c0_i32_9
  let c4_i32 : BitVec 32 := 4#32
  let v32 : BitVec 32 := Scalar.muli v31 c4_i32
  let v104 : BitVec 32 := Scalar.addi v32 c0_i32_51
  let v105 : Index := Scalar.indexCast v104
  ![v105.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  ![v2.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  ![v2.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S512x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S128x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x384x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x384x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S256x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S256x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 1 → Memref sig .tc .vmem S8x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev grid2 : Pipeline.Grid := ⟨1, ![66], ![false]⟩

def cc2_transform_0 (i : grid2.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  let c0_i32_1 : BitVec 32 := 0#32
  let c0_i32_2 : BitVec 32 := 0#32
  ![v2.toNat, c0_i32_0.toNat, c0_i32_1.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc2_transform_2 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c65_i32 : BitVec 32 := 65#32
  let v1 : BitVec 32 := Scalar.maxsi c0_i32 v0
  let v2 : BitVec 32 := Scalar.minsi c65_i32 v1
  let c2_i32 : BitVec 32 := 2#32
  let c0_i32_0 : BitVec 32 := 0#32
  let c0_i32_1 : BitVec 32 := 0#32
  ![v2.toNat, c2_i32.toNat, c0_i32_0.toNat]

def cc2_transform_3 (i : grid2.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc2_transform_4 (i : grid2.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c65_i32 : BitVec 32 := 65#32
  let v1 : BitVec 32 := Scalar.maxsi c0_i32 v0
  let v2 : BitVec 32 := Scalar.minsi c65_i32 v1
  let c0_i32_0 : BitVec 32 := 0#32
  let c0_i32_1 : BitVec 32 := 0#32
  let c0_i32_2 : BitVec 32 := 0#32
  ![v2.toNat, c0_i32_0.toNat, c0_i32_1.toNat]

def cc2_transform_5 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc2_transform_6 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c65_i32 : BitVec 32 := 65#32
  let v1 : BitVec 32 := Scalar.maxsi c0_i32 v0
  let v2 : BitVec 32 := Scalar.minsi c65_i32 v1
  let c2_i32 : BitVec 32 := 2#32
  let c0_i32_0 : BitVec 32 := 0#32
  let c0_i32_1 : BitVec 32 := 0#32
  ![v2.toNat, c2_i32.toNat, c0_i32_0.toNat]

def cc2_transform_7 (i : grid2.Coords) : Fin 2 → Nat :=
  let arg0 : BitVec 32 := BitVec.ofNat 32 (i 0).val
  let c0_i32 : BitVec 32 := 0#32
  let c1_i32 : BitVec 32 := 1#32
  let v0 : BitVec 32 := Scalar.maxsi c0_i32 arg0
  let v1 : BitVec 32 := Scalar.minsi c1_i32 v0
  let c0_i32_0 : BitVec 32 := 0#32
  let c0_i32_1 : BitVec 32 := 0#32
  ![v1.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S128x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S8448x1024 : Shape := ⟨2, ![8448, 1024]⟩
abbrev S8448x256 : Shape := ⟨2, ![8448, 256]⟩
abbrev S16 : Shape := ⟨1, ![16]⟩
abbrev S8448x4x64 : Shape := ⟨3, ![8448, 4, 64]⟩
abbrev S256x1024 : Shape := ⟨2, ![256, 1024]⟩
abbrev S256x4x64 : Shape := ⟨3, ![256, 4, 64]⟩
abbrev S8192x1024 : Shape := ⟨2, ![8192, 1024]⟩
abbrev S8192x4x64 : Shape := ⟨3, ![8192, 4, 64]⟩
abbrev S256x4x4x64 : Shape := ⟨4, ![256, 4, 4, 64]⟩
abbrev S4x256x256x4 : Shape := ⟨4, ![4, 256, 256, 4]⟩
abbrev S4x4x256x256 : Shape := ⟨4, ![4, 4, 256, 256]⟩
abbrev S_ : Shape := ⟨0, ![]⟩
abbrev S4x4x1x1 : Shape := ⟨4, ![4, 4, 1, 1]⟩
abbrev S4x4x256x1 : Shape := ⟨4, ![4, 4, 256, 1]⟩
abbrev S4x4x256x257 : Shape := ⟨4, ![4, 4, 256, 257]⟩
abbrev S4x4x256 : Shape := ⟨3, ![4, 4, 256]⟩
abbrev S4x64x4x256 : Shape := ⟨4, ![4, 64, 4, 256]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S66x128x4x64 : Shape := ⟨4, ![66, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S64x128x1 : Shape := ⟨3, ![64, 128, 1]⟩
abbrev S64x1x384 : Shape := ⟨3, ![64, 1, 384]⟩
abbrev S64x128x384 : Shape := ⟨3, ![64, 128, 384]⟩
abbrev S64x1x1x128x384 : Shape := ⟨5, ![64, 1, 1, 128, 384]⟩
abbrev S4x256x64x128x4 : Shape := ⟨5, ![4, 256, 64, 128, 4]⟩
abbrev S64x4x4x128x256 : Shape := ⟨5, ![64, 4, 4, 128, 256]⟩
abbrev S1x4x4x1x1 : Shape := ⟨5, ![1, 4, 4, 1, 1]⟩
abbrev S64x4x4x128x1 : Shape := ⟨5, ![64, 4, 4, 128, 1]⟩
abbrev S64x4x4x128x641 : Shape := ⟨5, ![64, 4, 4, 128, 641]⟩
abbrev S64x4x4x128 : Shape := ⟨4, ![64, 4, 4, 128]⟩
abbrev S64x4x64x4x128 : Shape := ⟨5, ![64, 4, 64, 4, 128]⟩
abbrev S4x64x64x4x128 : Shape := ⟨5, ![4, 64, 64, 4, 128]⟩
abbrev S4x64x4x128x256 : Shape := ⟨5, ![4, 64, 4, 128, 256]⟩
abbrev S4x64x256 : Shape := ⟨3, ![4, 64, 256]⟩
abbrev S64x4x64x384 : Shape := ⟨4, ![64, 4, 64, 384]⟩
abbrev S4x4 : Shape := ⟨2, ![4, 4]⟩
abbrev S4x64x128x4x64 : Shape := ⟨5, ![4, 64, 128, 4, 64]⟩
abbrev S4x256x64 : Shape := ⟨3, ![4, 256, 64]⟩
abbrev S64x4x128x4x64 : Shape := ⟨5, ![64, 4, 128, 4, 64]⟩
abbrev S64x4x384x64 : Shape := ⟨4, ![64, 4, 384, 64]⟩
abbrev S4x256x4x64 : Shape := ⟨4, ![4, 256, 4, 64]⟩

abbrev nBuf : Space → Nat
  | .hbm => 340
  | .vmem => 0
  | .smem => 0
  | _ => 0

abbrev hbmTy0_0 (i : Nat) : BufTy := match i % 128 with
  | 0 => ⟨S8448x1024, .f32⟩
  | 1 => ⟨S8448x256, .f32⟩
  | 2 => ⟨S8448x256, .f32⟩
  | 3 => ⟨S8448x1024, .f32⟩
  | 4 => ⟨S16, .f32⟩
  | 5 => ⟨S8448x4x64, .f32⟩
  | 6 => ⟨S8448x4x64, .f32⟩
  | 7 => ⟨S256x1024, .f32⟩
  | 8 => ⟨S256x4x64, .f32⟩
  | 9 => ⟨S256x4x64, .f32⟩
  | 10 => ⟨S8192x1024, .f32⟩
  | 11 => ⟨S8192x4x64, .f32⟩
  | 12 => ⟨S8192x4x64, .f32⟩
  | 13 => ⟨S256x4x4x64, .f32⟩
  | 14 => ⟨S4x256x256x4, .f32⟩
  | 15 => ⟨S4x4x256x256, .f32⟩
  | 16 => ⟨S_, .f32⟩
  | 17 => ⟨S4x4x256x256, .f32⟩
  | 18 => ⟨S4x4x256x256, .f32⟩
  | 19 => ⟨S4x4x1x1, .f32⟩
  | 20 => ⟨S4x4x256x1, .f32⟩
  | 21 => ⟨S4x4x256x257, .f32⟩
  | 22 => ⟨S_, .f32⟩
  | 23 => ⟨S4x4x256, .f32⟩
  | 24 => ⟨S4x4x256x1, .f32⟩
  | 25 => ⟨S4x4x256x257, .f32⟩
  | 26 => ⟨S4x4x256x257, .i1⟩
  | 27 => ⟨S4x4x256x257, .f32⟩
  | 28 => ⟨S_, .f32⟩
  | 29 => ⟨S4x4x256, .f32⟩
  | 30 => ⟨S_, .f32⟩
  | 31 => ⟨S4x4x256, .f32⟩
  | 32 => ⟨S4x4x256, .f32⟩
  | 33 => ⟨S_, .f32⟩
  | 34 => ⟨S4x4x256, .f32⟩
  | 35 => ⟨S4x4x256, .i1⟩
  | 36 => ⟨S_, .f32⟩
  | 37 => ⟨S4x4x256, .f32⟩
  | 38 => ⟨S4x4x256, .i1⟩
  | 39 => ⟨S_, .f32⟩
  | 40 => ⟨S4x4x256, .f32⟩
  | 41 => ⟨S_, .f32⟩
  | 42 => ⟨S4x4x256, .f32⟩
  | 43 => ⟨S_, .f32⟩
  | 44 => ⟨S4x4x256, .f32⟩
  | 45 => ⟨S4x4x256, .f32⟩
  | 46 => ⟨S4x4x256, .f32⟩
  | 47 => ⟨S4x4x256x1, .f32⟩
  | 48 => ⟨S4x4x256x257, .f32⟩
  | 49 => ⟨S4x4x256x257, .f32⟩
  | 50 => ⟨S4x4x256x257, .f32⟩
  | 51 => ⟨S_, .f32⟩
  | 52 => ⟨S4x4x256, .f32⟩
  | 53 => ⟨S4x4x256x1, .f32⟩
  | 54 => ⟨S4x4x256x257, .f32⟩
  | 55 => ⟨S4x4x256x257, .f32⟩
  | 56 => ⟨S4x4x256x1, .f32⟩
  | 57 => ⟨S_, .f32⟩
  | 58 => ⟨S4x4x256x1, .f32⟩
  | 59 => ⟨S4x4x256x1, .f32⟩
  | 60 => ⟨S4x4x256x256, .f32⟩
  | 61 => ⟨S4x64x4x256, .f32⟩
  | 62 => ⟨S256x4x4x64, .f32⟩
  | 63 => ⟨S256x1024, .f32⟩
  | 64 => ⟨S64x128x4x4x64, .f32⟩
  | 65 => ⟨S64x128x4x64, .f32⟩
  | 66 => ⟨S_, .f32⟩
  | 67 => ⟨S1x128x4x64, .f32⟩
  | 68 => ⟨S66x128x4x64, .f32⟩
  | 69 => ⟨S_, .f32⟩
  | 70 => ⟨S1x128x4x64, .f32⟩
  | 71 => ⟨S_, .f32⟩
  | 72 => ⟨S1x128x4x64, .f32⟩
  | 73 => ⟨S64x128x4x64, .f32⟩
  | 74 => ⟨S64x128x4x64, .f32⟩
  | 75 => ⟨S64x128x4x64, .f32⟩
  | 76 => ⟨S64x384x4x64, .f32⟩
  | 77 => ⟨S64x128x4x64, .f32⟩
  | 78 => ⟨S_, .f32⟩
  | 79 => ⟨S1x128x4x64, .f32⟩
  | 80 => ⟨S66x128x4x64, .f32⟩
  | 81 => ⟨S_, .f32⟩
  | 82 => ⟨S1x128x4x64, .f32⟩
  | 83 => ⟨S_, .f32⟩
  | 84 => ⟨S1x128x4x64, .f32⟩
  | 85 => ⟨S64x128x4x64, .f32⟩
  | 86 => ⟨S64x128x4x64, .f32⟩
  | 87 => ⟨S64x128x4x64, .f32⟩
  | 88 => ⟨S64x384x4x64, .f32⟩
  | 89 => ⟨S64x4x384x128x4, .f32⟩
  | 90 => ⟨S64x4x4x128x384, .f32⟩
  | 91 => ⟨S_, .f32⟩
  | 92 => ⟨S64x4x4x128x384, .f32⟩
  | 93 => ⟨S64x4x4x128x384, .f32⟩
  | 94 => ⟨S64, .i32⟩
  | 95 => ⟨S64x1x1, .i32⟩
  | 96 => ⟨S128, .i32⟩
  | 97 => ⟨S1x128x1, .i32⟩
  | 98 => ⟨S384, .i32⟩
  | 99 => ⟨S1x1x384, .i32⟩
  | 100 => ⟨S_, .i32⟩
  | 101 => ⟨S64x1x1, .i32⟩
  | 102 => ⟨S64x1x1, .i32⟩
  | 103 => ⟨S64x128x1, .i32⟩
  | 104 => ⟨S64x128x1, .i32⟩
  | 105 => ⟨S64x128x1, .i32⟩
  | 106 => ⟨S_, .i32⟩
  | 107 => ⟨S64x1x1, .i32⟩
  | 108 => ⟨S64x1x1, .i32⟩
  | 109 => ⟨S_, .i32⟩
  | 110 => ⟨S64x1x1, .i32⟩
  | 111 => ⟨S64x1x1, .i32⟩
  | 112 => ⟨S64x1x384, .i32⟩
  | 113 => ⟨S64x1x384, .i32⟩
  | 114 => ⟨S64x1x384, .i32⟩
  | 115 => ⟨S64x128x384, .i32⟩
  | 116 => ⟨S64x128x384, .i32⟩
  | 117 => ⟨S64x128x384, .i32⟩
  | 118 => ⟨S64x128x384, .i32⟩
  | 119 => ⟨S_, .i32⟩
  | 120 => ⟨S64x128x384, .i32⟩
  | 121 => ⟨S64x128x384, .i1⟩
  | 122 => ⟨S_, .i32⟩
  | 123 => ⟨S64x1x384, .i32⟩
  | 124 => ⟨S64x1x384, .i1⟩
  | 125 => ⟨S64x128x384, .i1⟩
  | 126 => ⟨S64x128x384, .i1⟩
  | 127 => ⟨S_, .i32⟩
  | _ => ⟨S8448x1024, .f32⟩

abbrev hbmTy0_1 (i : Nat) : BufTy := match i % 128 with
  | 0 => ⟨S64x1x384, .i32⟩
  | 1 => ⟨S64x1x384, .i1⟩
  | 2 => ⟨S64x128x384, .i1⟩
  | 3 => ⟨S64x128x384, .i1⟩
  | 4 => ⟨S64x1x1x128x384, .i1⟩
  | 5 => ⟨S_, .f32⟩
  | 6 => ⟨S_, .f32⟩
  | 7 => ⟨S64x4x4x128x384, .i1⟩
  | 8 => ⟨S64x4x4x128x384, .f32⟩
  | 9 => ⟨S64x4x4x128x384, .f32⟩
  | 10 => ⟨S_, .f32⟩
  | 11 => ⟨S64x4x4x128x384, .f32⟩
  | 12 => ⟨S4x256x64x128x4, .f32⟩
  | 13 => ⟨S64x4x4x128x256, .f32⟩
  | 14 => ⟨S_, .f32⟩
  | 15 => ⟨S64x4x4x128x256, .f32⟩
  | 16 => ⟨S64x4x4x128x256, .f32⟩
  | 17 => ⟨S1x4x4x1x1, .f32⟩
  | 18 => ⟨S64x4x4x128x1, .f32⟩
  | 19 => ⟨S64x4x4x128x641, .f32⟩
  | 20 => ⟨S_, .f32⟩
  | 21 => ⟨S64x4x4x128, .f32⟩
  | 22 => ⟨S64x4x4x128x1, .f32⟩
  | 23 => ⟨S64x4x4x128x641, .f32⟩
  | 24 => ⟨S64x4x4x128x641, .i1⟩
  | 25 => ⟨S64x4x4x128x641, .f32⟩
  | 26 => ⟨S_, .f32⟩
  | 27 => ⟨S64x4x4x128, .f32⟩
  | 28 => ⟨S_, .f32⟩
  | 29 => ⟨S64x4x4x128, .f32⟩
  | 30 => ⟨S64x4x4x128, .f32⟩
  | 31 => ⟨S_, .f32⟩
  | 32 => ⟨S64x4x4x128, .f32⟩
  | 33 => ⟨S64x4x4x128, .i1⟩
  | 34 => ⟨S_, .f32⟩
  | 35 => ⟨S64x4x4x128, .f32⟩
  | 36 => ⟨S64x4x4x128, .i1⟩
  | 37 => ⟨S_, .f32⟩
  | 38 => ⟨S64x4x4x128, .f32⟩
  | 39 => ⟨S_, .f32⟩
  | 40 => ⟨S64x4x4x128, .f32⟩
  | 41 => ⟨S_, .f32⟩
  | 42 => ⟨S64x4x4x128, .f32⟩
  | 43 => ⟨S64x4x4x128, .f32⟩
  | 44 => ⟨S64x4x4x128, .f32⟩
  | 45 => ⟨S64x4x4x128x1, .f32⟩
  | 46 => ⟨S64x4x4x128x641, .f32⟩
  | 47 => ⟨S64x4x4x128x641, .f32⟩
  | 48 => ⟨S64x4x4x128x641, .f32⟩
  | 49 => ⟨S_, .f32⟩
  | 50 => ⟨S64x4x4x128, .f32⟩
  | 51 => ⟨S64x4x4x128x1, .f32⟩
  | 52 => ⟨S64x4x4x128x641, .f32⟩
  | 53 => ⟨S64x4x4x128x641, .f32⟩
  | 54 => ⟨S64x4x4x128x1, .f32⟩
  | 55 => ⟨S_, .f32⟩
  | 56 => ⟨S64x4x4x128x1, .f32⟩
  | 57 => ⟨S64x4x4x128x1, .f32⟩
  | 58 => ⟨S64x4x4x128x384, .f32⟩
  | 59 => ⟨S64x4x64x4x128, .f32⟩
  | 60 => ⟨S64x128x4x4x64, .f32⟩
  | 61 => ⟨S64x4x4x128x256, .f32⟩
  | 62 => ⟨S4x64x64x4x128, .f32⟩
  | 63 => ⟨S64x128x4x4x64, .f32⟩
  | 64 => ⟨S64x128x4x4x64, .f32⟩
  | 65 => ⟨S8192x1024, .f32⟩
  | 66 => ⟨S8448x1024, .f32⟩
  | 67 => ⟨S256x1024, .f32⟩
  | 68 => ⟨S8192x1024, .f32⟩
  | 69 => ⟨S64x128x4x4x64, .f32⟩
  | 70 => ⟨S4x64x64x4x128, .f32⟩
  | 71 => ⟨S4x64x4x128x256, .f32⟩
  | 72 => ⟨S64x4x4x128x256, .f32⟩
  | 73 => ⟨S4x64x256, .f32⟩
  | 74 => ⟨S256x4x64, .f32⟩
  | 75 => ⟨S_, .f32⟩
  | 76 => ⟨S64x4x4x128x641, .f32⟩
  | 77 => ⟨S64x4x64x4x128, .f32⟩
  | 78 => ⟨S64x4x4x128x384, .f32⟩
  | 79 => ⟨S64x4x64x384, .f32⟩
  | 80 => ⟨S64x384x4x64, .f32⟩
  | 81 => ⟨S_, .f32⟩
  | 82 => ⟨S64x4x4x128x641, .f32⟩
  | 83 => ⟨S64x4x4x128x641, .f32⟩
  | 84 => ⟨S64x4x4x128x641, .f32⟩
  | 85 => ⟨S64x4x4x128x641, .f32⟩
  | 86 => ⟨S64x4x4x128x641, .f32⟩
  | 87 => ⟨S_, .f32⟩
  | 88 => ⟨S64x4x4x128, .f32⟩
  | 89 => ⟨S64x4x4x128x1, .f32⟩
  | 90 => ⟨S64x4x4x128x1, .f32⟩
  | 91 => ⟨S64x4x4x128x641, .f32⟩
  | 92 => ⟨S64x4x4x128x641, .f32⟩
  | 93 => ⟨S_, .f32⟩
  | 94 => ⟨S64x4x4x128, .f32⟩
  | 95 => ⟨S64x4x4x128x641, .f32⟩
  | 96 => ⟨S64x4x4x128x641, .f32⟩
  | 97 => ⟨S64x4x4x128x641, .f32⟩
  | 98 => ⟨S64x4x4x128x384, .f32⟩
  | 99 => ⟨S64x4x4x128x256, .f32⟩
  | 100 => ⟨S64x4x4x128x1, .f32⟩
  | 101 => ⟨S_, .f32⟩
  | 102 => ⟨S4x4, .f32⟩
  | 103 => ⟨S1x4x4x1x1, .f32⟩
  | 104 => ⟨S16, .f32⟩
  | 105 => ⟨S_, .f32⟩
  | 106 => ⟨S64x4x4x128x256, .f32⟩
  | 107 => ⟨S64x4x4x128x256, .f32⟩
  | 108 => ⟨S4x256x64x128x4, .f32⟩
  | 109 => ⟨S4x64x128x4x64, .f32⟩
  | 110 => ⟨S64x128x4x4x64, .f32⟩
  | 111 => ⟨S4x256x64, .f32⟩
  | 112 => ⟨S256x4x64, .f32⟩
  | 113 => ⟨S_, .f32⟩
  | 114 => ⟨S64x4x4x128x384, .f32⟩
  | 115 => ⟨S64x4x4x128x384, .f32⟩
  | 116 => ⟨S_, .f32⟩
  | 117 => ⟨S64x4x4x128x384, .f32⟩
  | 118 => ⟨S64x4x4x128x384, .f32⟩
  | 119 => ⟨S64x4x384x128x4, .f32⟩
  | 120 => ⟨S64x4x128x4x64, .f32⟩
  | 121 => ⟨S64x128x4x4x64, .f32⟩
  | 122 => ⟨S64x128x4x4x64, .f32⟩
  | 123 => ⟨S64x4x384x64, .f32⟩
  | 124 => ⟨S64x384x4x64, .f32⟩
  | 125 => ⟨S64x128x4x64, .f32⟩
  | 126 => ⟨S64x128x4x64, .f32⟩
  | 127 => ⟨S64x128x4x64, .f32⟩
  | _ => ⟨S8448x1024, .f32⟩

abbrev hbmTy0_2 (i : Nat) : BufTy := match i % 128 with
  | 0 => ⟨S_, .f32⟩
  | 1 => ⟨S66x128x4x64, .f32⟩
  | 2 => ⟨S_, .f32⟩
  | 3 => ⟨S66x128x4x64, .f32⟩
  | 4 => ⟨S66x128x4x64, .f32⟩
  | 5 => ⟨S_, .f32⟩
  | 6 => ⟨S66x128x4x64, .f32⟩
  | 7 => ⟨S66x128x4x64, .f32⟩
  | 8 => ⟨S1x128x4x64, .f32⟩
  | 9 => ⟨S64x128x4x64, .f32⟩
  | 10 => ⟨S1x128x4x64, .f32⟩
  | 11 => ⟨S8192x4x64, .f32⟩
  | 12 => ⟨S64x128x4x64, .f32⟩
  | 13 => ⟨S64x128x4x64, .f32⟩
  | 14 => ⟨S64x128x4x64, .f32⟩
  | 15 => ⟨S_, .f32⟩
  | 16 => ⟨S66x128x4x64, .f32⟩
  | 17 => ⟨S_, .f32⟩
  | 18 => ⟨S66x128x4x64, .f32⟩
  | 19 => ⟨S66x128x4x64, .f32⟩
  | 20 => ⟨S_, .f32⟩
  | 21 => ⟨S66x128x4x64, .f32⟩
  | 22 => ⟨S66x128x4x64, .f32⟩
  | 23 => ⟨S1x128x4x64, .f32⟩
  | 24 => ⟨S64x128x4x64, .f32⟩
  | 25 => ⟨S1x128x4x64, .f32⟩
  | 26 => ⟨S8192x4x64, .f32⟩
  | 27 => ⟨S8192x1024, .f32⟩
  | 28 => ⟨S256x4x4x64, .f32⟩
  | 29 => ⟨S4x64x4x256, .f32⟩
  | 30 => ⟨S4x4x256x256, .f32⟩
  | 31 => ⟨S4x64x256, .f32⟩
  | 32 => ⟨S256x4x64, .f32⟩
  | 33 => ⟨S256x4x64, .f32⟩
  | 34 => ⟨S_, .f32⟩
  | 35 => ⟨S4x4x256x257, .f32⟩
  | 36 => ⟨S4x4x256x257, .f32⟩
  | 37 => ⟨S4x4x256x257, .f32⟩
  | 38 => ⟨S4x4x256x257, .f32⟩
  | 39 => ⟨S_, .f32⟩
  | 40 => ⟨S4x4x256, .f32⟩
  | 41 => ⟨S4x4x256x1, .f32⟩
  | 42 => ⟨S4x4x256x1, .f32⟩
  | 43 => ⟨S4x4x256x257, .f32⟩
  | 44 => ⟨S4x4x256x257, .f32⟩
  | 45 => ⟨S_, .f32⟩
  | 46 => ⟨S4x4x256, .f32⟩
  | 47 => ⟨S4x4x256x257, .f32⟩
  | 48 => ⟨S4x4x256x257, .f32⟩
  | 49 => ⟨S4x4x256x257, .f32⟩
  | 50 => ⟨S4x4x256x256, .f32⟩
  | 51 => ⟨S4x4x256x1, .f32⟩
  | 52 => ⟨S_, .f32⟩
  | 53 => ⟨S4x4, .f32⟩
  | 54 => ⟨S4x4x1x1, .f32⟩
  | 55 => ⟨S16, .f32⟩
  | 56 => ⟨S16, .f32⟩
  | 57 => ⟨S_, .f32⟩
  | 58 => ⟨S4x4x256x256, .f32⟩
  | 59 => ⟨S4x4x256x256, .f32⟩
  | 60 => ⟨S4x256x256x4, .f32⟩
  | 61 => ⟨S4x256x4x64, .f32⟩
  | 62 => ⟨S256x4x4x64, .f32⟩
  | 63 => ⟨S4x256x64, .f32⟩
  | 64 => ⟨S256x4x64, .f32⟩
  | 65 => ⟨S256x4x64, .f32⟩
  | 66 => ⟨S256x1024, .f32⟩
  | 67 => ⟨S_, .f32⟩
  | 68 => ⟨S8448x4x64, .f32⟩
  | 69 => ⟨S_, .f32⟩
  | 70 => ⟨S8448x4x64, .f32⟩
  | 71 => ⟨S_, .f32⟩
  | 72 => ⟨S8448x1024, .f32⟩
  | 73 => ⟨S_, .f32⟩
  | 74 => ⟨S8448x4x64, .f32⟩
  | 75 => ⟨S8448x4x64, .f32⟩
  | 76 => ⟨S_, .f32⟩
  | 77 => ⟨S8448x4x64, .f32⟩
  | 78 => ⟨S8448x4x64, .f32⟩
  | 79 => ⟨S_, .f32⟩
  | 80 => ⟨S8448x1024, .f32⟩
  | 81 => ⟨S8448x1024, .f32⟩
  | 82 => ⟨S8448x256, .f32⟩
  | 83 => ⟨S8448x256, .f32⟩
  | _ => ⟨S8448x1024, .f32⟩

abbrev hbmTy (i : Nat) : BufTy := match i / 128 with
  | 0 => hbmTy0_0 i
  | 1 => hbmTy0_1 i
  | 2 => hbmTy0_2 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_17 : Ref sig .tc := ⟨.hbm, 106, rfl⟩
abbrev main_v82 : Ref sig .tc := ⟨.hbm, 107, rfl⟩
abbrev main_v83 : Ref sig .tc := ⟨.hbm, 108, rfl⟩
abbrev main_c_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_19 : Ref sig .tc := ⟨.hbm, 119, rfl⟩
abbrev main_v93 : Ref sig .tc := ⟨.hbm, 120, rfl⟩
abbrev main_v94 : Ref sig .tc := ⟨.hbm, 121, rfl⟩
abbrev main_c_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_21 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_call0_v0 : Ref sig .tc := ⟨.hbm, 134, rfl⟩
abbrev main_v104_1 : Ref sig .tc := ⟨.hbm, 135, rfl⟩
abbrev main_call0_v2 : Ref sig .tc := ⟨.hbm, 136, rfl⟩
abbrev main_v104_0 : Ref sig .tc := ⟨.hbm, 137, rfl⟩
abbrev main_call0_cst : Ref sig .tc := ⟨.hbm, 138, rfl⟩
abbrev main_v104_2 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_cst_28 : Ref sig .tc := ⟨.hbm, 162, rfl⟩
abbrev main_v122 : Ref sig .tc := ⟨.hbm, 163, rfl⟩
abbrev main_v123 : Ref sig .tc := ⟨.hbm, 164, rfl⟩
abbrev main_cst_29 : Ref sig .tc := ⟨.hbm, 165, rfl⟩
abbrev main_v124 : Ref sig .tc := ⟨.hbm, 166, rfl⟩
abbrev main_cst_30 : Ref sig .tc := ⟨.hbm, 167, rfl⟩
abbrev main_v125 : Ref sig .tc := ⟨.hbm, 168, rfl⟩
abbrev main_cst_31 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_32 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_33 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_34 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_35 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_36 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_37 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_cst_38 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_39 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_call1_cst : Ref sig .tc := ⟨.hbm, 241, rfl⟩
abbrev main_call1_v0 : Ref sig .tc := ⟨.hbm, 242, rfl⟩
abbrev main_v189 : Ref sig .tc := ⟨.hbm, 243, rfl⟩
abbrev main_cst_40 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_41 : Ref sig .tc := ⟨.hbm, 256, rfl⟩
abbrev main_v201 : Ref sig .tc := ⟨.hbm, 257, rfl⟩
abbrev main_cst_42 : Ref sig .tc := ⟨.hbm, 258, rfl⟩
abbrev main_v202 : Ref sig .tc := ⟨.hbm, 259, rfl⟩
abbrev main_v203 : Ref sig .tc := ⟨.hbm, 260, rfl⟩
abbrev main_cst_43 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_cst_44 : Ref sig .tc := ⟨.hbm, 271, rfl⟩
abbrev main_v213 : Ref sig .tc := ⟨.hbm, 272, rfl⟩
abbrev main_cst_45 : Ref sig .tc := ⟨.hbm, 273, rfl⟩
abbrev main_v214 : Ref sig .tc := ⟨.hbm, 274, rfl⟩
abbrev main_v215 : Ref sig .tc := ⟨.hbm, 275, rfl⟩
abbrev main_cst_46 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_47 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_cst_48 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_49 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_cst_50 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_cst_51 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_cst_52 : Ref sig .tc := ⟨.hbm, 323, rfl⟩
abbrev main_v257 : Ref sig .tc := ⟨.hbm, 324, rfl⟩
abbrev main_cst_53 : Ref sig .tc := ⟨.hbm, 325, rfl⟩
abbrev main_v258 : Ref sig .tc := ⟨.hbm, 326, rfl⟩
abbrev main_cst_54 : Ref sig .tc := ⟨.hbm, 327, rfl⟩
abbrev main_v259 : Ref sig .tc := ⟨.hbm, 328, rfl⟩
abbrev main_cst_55 : Ref sig .tc := ⟨.hbm, 329, rfl⟩
abbrev main_v260 : Ref sig .tc := ⟨.hbm, 330, rfl⟩
abbrev main_v261 : Ref sig .tc := ⟨.hbm, 331, rfl⟩
abbrev main_cst_56 : Ref sig .tc := ⟨.hbm, 332, rfl⟩
abbrev main_v262 : Ref sig .tc := ⟨.hbm, 333, rfl⟩
abbrev main_v263 : Ref sig .tc := ⟨.hbm, 334, rfl⟩
abbrev main_cst_57 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩

abbrev nD : Nat := 1
abbrev τ : Topo := Topo.v7x

variable {F : FTy → Type} [FloatOps F]
-- ==== KernelDa.lean ====
abbrev S8448x2048 : Shape := ⟨2, ![8448, 2048]⟩
abbrev S1x8192x2048 : Shape := ⟨3, ![1, 8192, 2048]⟩
abbrev S8448x8192 : Shape := ⟨2, ![8448, 8192]⟩
abbrev S1408x2048 : Shape := ⟨2, ![1408, 2048]⟩
abbrev S1x1024x2048 : Shape := ⟨3, ![1, 1024, 2048]⟩
abbrev S1408x1024 : Shape := ⟨2, ![1408, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S1x8192x2048, .bf16⟩
  | .hbm, ⟨2, _⟩ => ⟨S8448x8192, .bf16⟩
  | .hbm, ⟨3, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDaIdeal.lean ====
abbrev S8448x2048 : Shape := ⟨2, ![8448, 2048]⟩
abbrev S1x8192x2048 : Shape := ⟨3, ![1, 8192, 2048]⟩
abbrev S8448x8192 : Shape := ⟨2, ![8448, 8192]⟩
abbrev S_ : Shape := ⟨0, ![]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x8192x2048, .bf16⟩
  | .hbm, ⟨2, _⟩ => ⟨S8448x8192, .bf16⟩
  | .hbm, ⟨3, _⟩ => ⟨S8448x2048, .f32⟩
  | .hbm, ⟨4, _⟩ => ⟨S1x8192x2048, .f32⟩
  | .hbm, ⟨5, _⟩ => ⟨S8448x8192, .f32⟩
  | .hbm, ⟨6, _⟩ => ⟨S_, .f32⟩
  | .hbm, ⟨7, _⟩ => ⟨S8448x8192, .f32⟩
  | .hbm, ⟨8, _⟩ => ⟨S8448x8192, .f32⟩
  | .hbm, ⟨9, _⟩ => ⟨S_, .f32⟩
  | .hbm, ⟨10, _⟩ => ⟨S8448x8192, .f32⟩
  | .hbm, ⟨11, _⟩ => ⟨S8448x8192, .i1⟩
  | .hbm, ⟨12, _⟩ => ⟨S_, .f32⟩
  | .hbm, ⟨13, _⟩ => ⟨S8448x8192, .f32⟩
  | .hbm, ⟨14, _⟩ => ⟨S8448x8192, .f32⟩
  | .hbm, ⟨15, _⟩ => ⟨S_, .f32⟩
  | .hbm, ⟨16, _⟩ => ⟨S8448x8192, .f32⟩
  | .hbm, ⟨17, _⟩ => ⟨S8448x8192, .f32⟩
  | .hbm, ⟨18, _⟩ => ⟨S8192x2048, .f32⟩
  | .hbm, ⟨19, _⟩ => ⟨S8448x2048, .f32⟩
  | .hbm, ⟨20, _⟩ => ⟨S8448x8192, .f32⟩
  | .hbm, ⟨21, _⟩ => ⟨S8448x8192, .f32⟩
  | .hbm, ⟨22, _⟩ => ⟨S_, .f32⟩
  | .hbm, ⟨23, _⟩ => ⟨S8448x8192, .f32⟩
  | .hbm, ⟨24, _⟩ => ⟨S8448x8192, .f32⟩
  | .hbm, ⟨25, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KernelDw2.lean ====
abbrev S8448x8192 : Shape := ⟨2, ![8448, 8192]⟩
abbrev S8448x2048 : Shape := ⟨2, ![8448, 2048]⟩
abbrev S1x8192x2048 : Shape := ⟨3, ![1, 8192, 2048]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S8448x2048, .bf16⟩
  | .hbm, ⟨2, _⟩ => ⟨S1x8192x2048, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw2Ideal.lean ====
abbrev S8448x8192 : Shape := ⟨2, ![8448, 8192]⟩
abbrev S8448x2048 : Shape := ⟨2, ![8448, 2048]⟩
abbrev S_ : Shape := ⟨0, ![]⟩
abbrev S1x8192x2048 : Shape := ⟨3, ![1, 8192, 2048]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S8448x2048, .bf16⟩
  | .hbm, ⟨2, _⟩ => ⟨S8448x8192, .f32⟩
  | .hbm, ⟨3, _⟩ => ⟨S8448x2048, .f32⟩
  | .hbm, ⟨4, _⟩ => ⟨S_, .f32⟩
  | .hbm, ⟨5, _⟩ => ⟨S1x8192x2048, .f32⟩
  | .hbm, ⟨6, _⟩ => ⟨S8192x2048, .f32⟩
  | .hbm, ⟨7, _⟩ => ⟨S8448x2048, .f32⟩
  | .hbm, ⟨8, _⟩ => ⟨S2048x8192, .f32⟩
  | .hbm, ⟨9, _⟩ => ⟨S8192x2048, .f32⟩
  | .hbm, ⟨10, _⟩ => ⟨S1x8192x2048, .f32⟩
  | .hbm, ⟨11, _⟩ => ⟨S1x8192x2048, .bf16⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDh.lean ====
abbrev S8448x8192 : Shape := ⟨2, ![8448, 8192]⟩
abbrev S4x2048x2048 : Shape := ⟨3, ![4, 2048, 2048]⟩
abbrev S8448x2048 : Shape := ⟨2, ![8448, 2048]⟩
abbrev S1408x2048 : Shape := ⟨2, ![1408, 2048]⟩
abbrev S1x1024x2048 : Shape := ⟨3, ![1, 1024, 2048]⟩
abbrev S1408x1024 : Shape := ⟨2, ![1408, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S4x2048x2048, .bf16⟩
  | .hbm, ⟨2, _⟩ => ⟨S8448x2048, .bf16⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8448x8192 : Shape := ⟨2, ![8448, 8192]⟩
abbrev S4x2048x2048 : Shape := ⟨3, ![4, 2048, 2048]⟩
abbrev S_ : Shape := ⟨0, ![]⟩
abbrev S8448x2048 : Shape := ⟨2, ![8448, 2048]⟩
abbrev S1x2048x2048 : Shape := ⟨3, ![1, 2048, 2048]⟩
abbrev S2048x2048 : Shape := ⟨2, ![2048, 2048]⟩
abbrev S2048x8192 : Shape := ⟨2, ![2048, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S4x2048x2048, .bf16⟩
  | .hbm, ⟨2, _⟩ => ⟨S8448x8192, .f32⟩
  | .hbm, ⟨3, _⟩ => ⟨S4x2048x2048, .f32⟩
  | .hbm, ⟨4, _⟩ => ⟨S_, .f32⟩
  | .hbm, ⟨5, _⟩ => ⟨S8448x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S8448x8192, .f32⟩
  | .hbm, ⟨16, _⟩ => ⟨S8448x2048, .f32⟩
  | .hbm, ⟨17, _⟩ => ⟨S8448x2048, .bf16⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== KernelDw1.lean ====
abbrev S8448x2048 : Shape := ⟨2, ![8448, 2048]⟩
abbrev S8448x8192 : Shape := ⟨2, ![8448, 8192]⟩
abbrev S4x2048x2048 : Shape := ⟨3, ![4, 2048, 2048]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S4x2048x2048, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw1Ideal.lean ====
abbrev S8448x2048 : Shape := ⟨2, ![8448, 2048]⟩
abbrev S8448x8192 : Shape := ⟨2, ![8448, 8192]⟩
abbrev S_ : Shape := ⟨0, ![]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S8448x2048, .f32⟩
  | .hbm, ⟨3, _⟩ => ⟨S8448x8192, .f32⟩
  | .hbm, ⟨4, _⟩ => ⟨S_, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S8448x8192, .f32⟩
  | .hbm, ⟨16, _⟩ => ⟨S8192x2048, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S1x2048x2048, .f32⟩
  | .hbm, ⟨23, _⟩ => ⟨S_, .f32⟩
  | .hbm, ⟨24, _⟩ => ⟨S4x2048x2048, .f32⟩
  | .hbm, ⟨25, _⟩ => ⟨S1x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S1x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S1x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== KernelDmg.lean ====
abbrev S8448x2048 : Shape := ⟨2, ![8448, 2048]⟩
abbrev S1x2048x2048 : Shape := ⟨3, ![1, 2048, 2048]⟩
abbrev S1408x2048 : Shape := ⟨2, ![1408, 2048]⟩
abbrev S1x1024x2048 : Shape := ⟨3, ![1, 1024, 2048]⟩
abbrev S1408x1024 : Shape := ⟨2, ![1408, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .bf16⟩
  | .hbm, ⟨2, _⟩ => ⟨S8448x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1408x1024, .f32⟩
  | .local _ .vmem, ⟨5, _⟩ => ⟨S1408x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmgIdeal.lean ====
abbrev S8448x2048 : Shape := ⟨2, ![8448, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .bf16⟩
  | .hbm, ⟨2, _⟩ => ⟨S8448x2048, .f32⟩
  | .hbm, ⟨3, _⟩ => ⟨S1x2048x2048, .f32⟩
  | .hbm, ⟨4, _⟩ => ⟨S_, .f32⟩
  | .hbm, ⟨5, _⟩ => ⟨S8448x2048, .f32⟩
  | .hbm, ⟨6, _⟩ => ⟨S2048x2048, .f32⟩
  | .hbm, ⟨7, _⟩ => ⟨S8448x2048, .f32⟩
  | .hbm, ⟨8, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwo.lean ====
abbrev S8448x2048 : Shape := ⟨2, ![8448, 2048]⟩
abbrev S1x2048x2048 : Shape := ⟨3, ![1, 2048, 2048]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S1x2048x2048, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoIdeal.lean ====
abbrev S8448x2048 : Shape := ⟨2, ![8448, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x2048, .f32⟩
  | .hbm, ⟨3, _⟩ => ⟨S8448x2048, .f32⟩
  | .hbm, ⟨4, _⟩ => ⟨S_, .f32⟩
  | .hbm, ⟨5, _⟩ => ⟨S1x2048x2048, .f32⟩
  | .hbm, ⟨6, _⟩ => ⟨S2048x2048, .f32⟩
  | .hbm, ⟨7, _⟩ => ⟨S8448x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDhi.lean ====
abbrev S8448x4608 : Shape := ⟨2, ![8448, 4608]⟩
abbrev S4x2048x1152 : Shape := ⟨3, ![4, 2048, 1152]⟩
abbrev S8448x2048 : Shape := ⟨2, ![8448, 2048]⟩
abbrev S1408x1152 : Shape := ⟨2, ![1408, 1152]⟩
abbrev S1x1024x1152 : Shape := ⟨3, ![1, 1024, 1152]⟩
abbrev S1408x1024 : Shape := ⟨2, ![1408, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x4608, .bf16⟩
  | .hbm, ⟨1, _⟩ => ⟨S4x2048x1152, .bf16⟩
  | .hbm, ⟨2, _⟩ => ⟨S8448x2048, .bf16⟩
  | .local _ .vmem, ⟨0, _⟩ => ⟨S1408x1152, .bf16⟩
  | .local _ .vmem, ⟨1, _⟩ => ⟨S1408x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhiIdeal.lean ====
abbrev S8448x4608 : Shape := ⟨2, ![8448, 4608]⟩
abbrev S4x2048x1152 : Shape := ⟨3, ![4, 2048, 1152]⟩
abbrev S_ : Shape := ⟨0, ![]⟩
abbrev S8448x2048 : Shape := ⟨2, ![8448, 2048]⟩
abbrev S1x2048x1152 : Shape := ⟨3, ![1, 2048, 1152]⟩
abbrev S2048x1152 : Shape := ⟨2, ![2048, 1152]⟩
abbrev S2048x4608 : Shape := ⟨2, ![2048, 4608]⟩

abbrev nBuf : Space → Nat
  | .hbm => 18
  | .vmem => 0
  | .smem => 0
  | _ => 0

abbrev bufTy : (tb : Table) → Fin (tcTables nBuf tb) → BufTy
  | .hbm, ⟨0, _⟩ => ⟨S8448x4608, .bf16⟩
  | .hbm, ⟨1, _⟩ => ⟨S4x2048x1152, .bf16⟩
  | .hbm, ⟨2, _⟩ => ⟨S8448x4608, .f32⟩
  | .hbm, ⟨3, _⟩ => ⟨S4x2048x1152, .f32⟩
  | .hbm, ⟨4, _⟩ => ⟨S_, .f32⟩
  | .hbm, ⟨5, _⟩ => ⟨S8448x2048, .f32⟩
  | .hbm, ⟨6, _⟩ => ⟨S1x2048x1152, .f32⟩
  | .hbm, ⟨7, _⟩ => ⟨S2048x1152, .f32⟩
  | .hbm, ⟨8, _⟩ => ⟨S1x2048x1152, .f32⟩
  | .hbm, ⟨9, _⟩ => ⟨S2048x1152, .f32⟩
  | .hbm, ⟨10, _⟩ => ⟨S1x2048x1152, .f32⟩
  | .hbm, ⟨11, _⟩ => ⟨S2048x1152, .f32⟩
  | .hbm, ⟨12, _⟩ => ⟨S1x2048x1152, .f32⟩
  | .hbm, ⟨13, _⟩ => ⟨S2048x1152, .f32⟩
  | .hbm, ⟨14, _⟩ => ⟨S2048x4608, .f32⟩
  | .hbm, ⟨15, _⟩ => ⟨S8448x4608, .f32⟩
  | .hbm, ⟨16, _⟩ => ⟨S8448x2048, .f32⟩
  | .hbm, ⟨17, _⟩ => ⟨S8448x2048, .bf16⟩
  | _, _ => ⟨S8448x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== KernelDwi.lean ====
abbrev S8448x2048 : Shape := ⟨2, ![8448, 2048]⟩
abbrev S8448x4608 : Shape := ⟨2, ![8448, 4608]⟩
abbrev S4x2048x1152 : Shape := ⟨3, ![4, 2048, 1152]⟩
abbrev S2816x1024 : Shape := ⟨2, ![2816, 1024]⟩
abbrev S2816x1152 : Shape := ⟨2, ![2816, 1152]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x4608, .bf16⟩
  | .hbm, ⟨2, _⟩ => ⟨S4x2048x1152, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1152, .bf16⟩
  | .local _ .vmem, ⟨3, _⟩ => ⟨S2816x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwiIdeal.lean ====
abbrev S8448x2048 : Shape := ⟨2, ![8448, 2048]⟩
abbrev S8448x4608 : Shape := ⟨2, ![8448, 4608]⟩
abbrev S_ : Shape := ⟨0, ![]⟩
abbrev S4x2048x1152 : Shape := ⟨3, ![4, 2048, 1152]⟩
abbrev S1x2048x1152 : Shape := ⟨3, ![1, 2048, 1152]⟩
abbrev S2048x1152 : Shape := ⟨2, ![2048, 1152]⟩
abbrev S2048x4608 : Shape := ⟨2, ![2048, 4608]⟩
abbrev S4608x2048 : Shape := ⟨2, ![4608, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x4608, .bf16⟩
  | .hbm, ⟨2, _⟩ => ⟨S8448x2048, .f32⟩
  | .hbm, ⟨3, _⟩ => ⟨S8448x4608, .f32⟩
  | .hbm, ⟨4, _⟩ => ⟨S_, .f32⟩
  | .hbm, ⟨5, _⟩ => ⟨S4x2048x1152, .f32⟩
  | .hbm, ⟨6, _⟩ => ⟨S1x2048x1152, .f32⟩
  | .hbm, ⟨7, _⟩ => ⟨S2048x1152, .f32⟩
  | .hbm, ⟨8, _⟩ => ⟨S1x2048x1152, .f32⟩
  | .hbm, ⟨9, _⟩ => ⟨S2048x1152, .f32⟩
  | .hbm, ⟨10, _⟩ => ⟨S1x2048x1152, .f32⟩
  | .hbm, ⟨11, _⟩ => ⟨S2048x1152, .f32⟩
  | .hbm, ⟨12, _⟩ => ⟨S1x2048x1152, .f32⟩
  | .hbm, ⟨13, _⟩ => ⟨S2048x1152, .f32⟩
  | .hbm, ⟨14, _⟩ => ⟨S2048x4608, .f32⟩
  | .hbm, ⟨15, _⟩ => ⟨S8448x4608, .f32⟩
  | .hbm, ⟨16, _⟩ => ⟨S4608x2048, .f32⟩
  | .hbm, ⟨17, _⟩ => ⟨S2048x4608, .f32⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S1x2048x1152, .f32⟩
  | .hbm, ⟨23, _⟩ => ⟨S_, .f32⟩
  | .hbm, ⟨24, _⟩ => ⟨S4x2048x1152, .f32⟩
  | .hbm, ⟨25, _⟩ => ⟨S1x2048x1152, .f32⟩
  | .hbm, ⟨26, _⟩ => ⟨S_, .f32⟩
  | .hbm, ⟨27, _⟩ => ⟨S4x2048x1152, .f32⟩
  | .hbm, ⟨28, _⟩ => ⟨S4x2048x1152, .f32⟩
  | .hbm, ⟨29, _⟩ => ⟨S1x2048x1152, .f32⟩
  | .hbm, ⟨30, _⟩ => ⟨S_, .f32⟩
  | .hbm, ⟨31, _⟩ => ⟨S4x2048x1152, .f32⟩
  | .hbm, ⟨32, _⟩ => ⟨S4x2048x1152, .f32⟩
  | .hbm, ⟨33, _⟩ => ⟨S1x2048x1152, .f32⟩
  | .hbm, ⟨34, _⟩ => ⟨S_, .f32⟩
  | .hbm, ⟨35, _⟩ => ⟨S4x2048x1152, .f32⟩
  | .hbm, ⟨36, _⟩ => ⟨S4x2048x1152, .f32⟩
  | .hbm, ⟨37, _⟩ => ⟨S4x2048x1152, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== KernelFa.lean ====
abbrev S8448x2048 : Shape := ⟨2, ![8448, 2048]⟩
abbrev S4x2048x2048 : Shape := ⟨3, ![4, 2048, 2048]⟩
abbrev S8448x8192 : Shape := ⟨2, ![8448, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .bf16⟩
  | .hbm, ⟨2, _⟩ => ⟨S8448x8192, .bf16⟩
  | .hbm, ⟨3, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFaIdeal.lean ====
abbrev S8448x2048 : Shape := ⟨2, ![8448, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8448x8192 : Shape := ⟨2, ![8448, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .bf16⟩
  | .hbm, ⟨2, _⟩ => ⟨S8448x2048, .f32⟩
  | .hbm, ⟨3, _⟩ => ⟨S4x2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S8448x8192, .f32⟩
  | .hbm, ⟨14, _⟩ => ⟨S8448x8192, .bf16⟩
  | .hbm, ⟨15, _⟩ => ⟨S_, .f32⟩
  | .hbm, ⟨16, _⟩ => ⟨S8448x8192, .f32⟩
  | .hbm, ⟨17, _⟩ => ⟨S8448x8192, .f32⟩
  | .hbm, ⟨18, _⟩ => ⟨S8448x8192, .f32⟩
  | .hbm, ⟨19, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_cst : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelFo.lean ====
abbrev S8448x8192 : Shape := ⟨2, ![8448, 8192]⟩
abbrev S1x8192x2048 : Shape := ⟨3, ![1, 8192, 2048]⟩
abbrev S8448x2048 : Shape := ⟨2, ![8448, 2048]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S1x8192x2048, .bf16⟩
  | .hbm, ⟨2, _⟩ => ⟨S8448x2048, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFoIdeal.lean ====
abbrev S8448x8192 : Shape := ⟨2, ![8448, 8192]⟩
abbrev S1x8192x2048 : Shape := ⟨3, ![1, 8192, 2048]⟩
abbrev S8192x2048 : Shape := ⟨2, ![8192, 2048]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S1x8192x2048, .bf16⟩
  | .hbm, ⟨2, _⟩ => ⟨S8448x8192, .f32⟩
  | .hbm, ⟨3, _⟩ => ⟨S1x8192x2048, .f32⟩
  | .hbm, ⟨4, _⟩ => ⟨S8192x2048, .f32⟩
  | .hbm, ⟨5, _⟩ => ⟨S8448x2048, .f32⟩
  | .hbm, ⟨6, _⟩ => ⟨S8448x2048, .bf16⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFp.lean ====
abbrev S8448x2048 : Shape := ⟨2, ![8448, 2048]⟩
abbrev S4x2048x1152 : Shape := ⟨3, ![4, 2048, 1152]⟩
abbrev S8448x4608 : Shape := ⟨2, ![8448, 4608]⟩
abbrev S1408x2048 : Shape := ⟨2, ![1408, 2048]⟩
abbrev S1x2048x1152 : Shape := ⟨3, ![1, 2048, 1152]⟩
abbrev S1408x1152 : Shape := ⟨2, ![1408, 1152]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x1152, .bf16⟩
  | .hbm, ⟨2, _⟩ => ⟨S8448x4608, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1408x1152, .f32⟩
  | .local _ .vmem, ⟨5, _⟩ => ⟨S1408x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFpIdeal.lean ====
abbrev S8448x2048 : Shape := ⟨2, ![8448, 2048]⟩
abbrev S4x2048x1152 : Shape := ⟨3, ![4, 2048, 1152]⟩
abbrev S1x2048x1152 : Shape := ⟨3, ![1, 2048, 1152]⟩
abbrev S2048x1152 : Shape := ⟨2, ![2048, 1152]⟩
abbrev S2048x4608 : Shape := ⟨2, ![2048, 4608]⟩
abbrev S8448x4608 : Shape := ⟨2, ![8448, 4608]⟩

abbrev nBuf : Space → Nat
  | .hbm => 14
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x1152, .bf16⟩
  | .hbm, ⟨2, _⟩ => ⟨S8448x2048, .f32⟩
  | .hbm, ⟨3, _⟩ => ⟨S4x2048x1152, .f32⟩
  | .hbm, ⟨4, _⟩ => ⟨S1x2048x1152, .f32⟩
  | .hbm, ⟨5, _⟩ => ⟨S2048x1152, .f32⟩
  | .hbm, ⟨6, _⟩ => ⟨S1x2048x1152, .f32⟩
  | .hbm, ⟨7, _⟩ => ⟨S2048x1152, .f32⟩
  | .hbm, ⟨8, _⟩ => ⟨S1x2048x1152, .f32⟩
  | .hbm, ⟨9, _⟩ => ⟨S2048x1152, .f32⟩
  | .hbm, ⟨10, _⟩ => ⟨S1x2048x1152, .f32⟩
  | .hbm, ⟨11, _⟩ => ⟨S2048x1152, .f32⟩
  | .hbm, ⟨12, _⟩ => ⟨S2048x4608, .f32⟩
  | .hbm, ⟨13, _⟩ => ⟨S8448x4608, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelFz.lean ====
abbrev S8448x2048 : Shape := ⟨2, ![8448, 2048]⟩
abbrev S1x2048x2048 : Shape := ⟨3, ![1, 2048, 2048]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .bf16⟩
  | .hbm, ⟨2, _⟩ => ⟨S8448x2048, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFzIdeal.lean ====
abbrev S8448x2048 : Shape := ⟨2, ![8448, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .bf16⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | .hbm, ⟨6, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelNb.lean ====
abbrev S8448x2048 : Shape := ⟨2, ![8448, 2048]⟩
abbrev S2x6x1x2048 : Shape := ⟨4, ![2, 6, 1, 2048]⟩
abbrev S1x2048 : Shape := ⟨2, ![1, 2048]⟩
abbrev S8x2048 : Shape := ⟨2, ![8, 2048]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 18
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S8448x2048, .f32⟩
  | .hbm, ⟨3, _⟩ => ⟨S8448x2048, .bf16⟩
  | .hbm, ⟨4, _⟩ => ⟨S2x6x1x2048, .f32⟩
  | .hbm, ⟨5, _⟩ => ⟨S1x2048, .f32⟩
  | .hbm, ⟨6, _⟩ => ⟨S8448x2048, .f32⟩
  | .hbm, ⟨7, _⟩ => ⟨S8448x2048, .bf16⟩
  | .hbm, ⟨8, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S256x2048, .bf16⟩
  | .local _ .vmem, ⟨10, _⟩ => ⟨S256x2048, .bf16⟩
  | .local _ .vmem, ⟨11, _⟩ => ⟨S1x1x1x2048, .f32⟩
  | .local _ .vmem, ⟨12, _⟩ => ⟨S1x1x1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c4_i32 : BitVec 32 := 4#32
  let c0_i32_1 : BitVec 32 := 0#32
  let c0_i32_2 : BitVec 32 := 0#32
  let c0_i32_3 : BitVec 32 := 0#32
  ![v1.toNat, c4_i32.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c2_i32 : BitVec 32 := 2#32
  let c0_i32_1 : BitVec 32 := 0#32
  let c0_i32_2 : BitVec 32 := 0#32
  let c0_i32_3 : BitVec 32 := 0#32
  ![v1.toNat, c2_i32.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceNbIdeal.lean ====
abbrev S8448x2048 : Shape := ⟨2, ![8448, 2048]⟩
abbrev S2x6x1x2048 : Shape := ⟨4, ![2, 6, 1, 2048]⟩
abbrev S1x2048 : Shape := ⟨2, ![1, 2048]⟩
abbrev S2x1x1x2048 : Shape := ⟨4, ![2, 1, 1, 2048]⟩
abbrev S2x2048 : Shape := ⟨2, ![2, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S256x2048 : Shape := ⟨2, ![256, 2048]⟩
abbrev S8192x2048 : Shape := ⟨2, ![8192, 2048]⟩
abbrev S8x2048 : Shape := ⟨2, ![8, 2048]⟩

abbrev nBuf : Space → Nat
  | .hbm => 188
  | .vmem => 0
  | .smem => 0
  | _ => 0

abbrev hbmTy0_0 (i : Nat) : BufTy := match i % 128 with
  | 0 => ⟨S8448x2048, .f32⟩
  | 1 => ⟨S8448x2048, .bf16⟩
  | 2 => ⟨S8448x2048, .f32⟩
  | 3 => ⟨S8448x2048, .bf16⟩
  | 4 => ⟨S2x6x1x2048, .f32⟩
  | 5 => ⟨S1x2048, .f32⟩
  | 6 => ⟨S8448x2048, .f32⟩
  | 7 => ⟨S8448x2048, .f32⟩
  | 8 => ⟨S2x1x1x2048, .f32⟩
  | 9 => ⟨S2x2048, .f32⟩
  | 10 => ⟨S2x1x1x2048, .f32⟩
  | 11 => ⟨S2x2048, .f32⟩
  | 12 => ⟨S2x1x1x2048, .f32⟩
  | 13 => ⟨S2x2048, .f32⟩
  | 14 => ⟨S2048, .f32⟩
  | 15 => ⟨S8448x2048, .f32⟩
  | 16 => ⟨S_, .f32⟩
  | 17 => ⟨S8448, .f32⟩
  | 18 => ⟨S8448x1, .f32⟩
  | 19 => ⟨S_, .f32⟩
  | 20 => ⟨S8448x1, .f32⟩
  | 21 => ⟨S8448x1, .f32⟩
  | 22 => ⟨S_, .f32⟩
  | 23 => ⟨S8448x1, .f32⟩
  | 24 => ⟨S8448x1, .f32⟩
  | 25 => ⟨S8448x1, .f32⟩
  | 26 => ⟨S8448x1, .f32⟩
  | 27 => ⟨S_, .f32⟩
  | 28 => ⟨S8448x1, .f32⟩
  | 29 => ⟨S8448x1, .f32⟩
  | 30 => ⟨S8448x2048, .f32⟩
  | 31 => ⟨S8448x2048, .f32⟩
  | 32 => ⟨S1x2048, .f32⟩
  | 33 => ⟨S8448x2048, .f32⟩
  | 34 => ⟨S8448x2048, .f32⟩
  | 35 => ⟨S256x2048, .f32⟩
  | 36 => ⟨S1x2048, .f32⟩
  | 37 => ⟨S2048, .f32⟩
  | 38 => ⟨S1x2048, .f32⟩
  | 39 => ⟨S2048, .f32⟩
  | 40 => ⟨S_, .f32⟩
  | 41 => ⟨S2048, .f32⟩
  | 42 => ⟨S2048, .f32⟩
  | 43 => ⟨S1x2048, .f32⟩
  | 44 => ⟨S256x2048, .f32⟩
  | 45 => ⟨S256x2048, .f32⟩
  | 46 => ⟨S1x2048, .f32⟩
  | 47 => ⟨S256x2048, .f32⟩
  | 48 => ⟨S256x2048, .f32⟩
  | 49 => ⟨S8192x2048, .f32⟩
  | 50 => ⟨S1x2048, .f32⟩
  | 51 => ⟨S2048, .f32⟩
  | 52 => ⟨S1x2048, .f32⟩
  | 53 => ⟨S2048, .f32⟩
  | 54 => ⟨S_, .f32⟩
  | 55 => ⟨S2048, .f32⟩
  | 56 => ⟨S2048, .f32⟩
  | 57 => ⟨S1x2048, .f32⟩
  | 58 => ⟨S8192x2048, .f32⟩
  | 59 => ⟨S8192x2048, .f32⟩
  | 60 => ⟨S1x2048, .f32⟩
  | 61 => ⟨S8192x2048, .f32⟩
  | 62 => ⟨S8192x2048, .f32⟩
  | 63 => ⟨S8448x2048, .f32⟩
  | 64 => ⟨S256x2048, .f32⟩
  | 65 => ⟨S8192x2048, .f32⟩
  | 66 => ⟨S_, .f32⟩
  | 67 => ⟨S2048, .f32⟩
  | 68 => ⟨S1x2048, .f32⟩
  | 69 => ⟨S_, .f32⟩
  | 70 => ⟨S2048, .f32⟩
  | 71 => ⟨S8192x2048, .f32⟩
  | 72 => ⟨S_, .f32⟩
  | 73 => ⟨S2048, .f32⟩
  | 74 => ⟨S1x2048, .f32⟩
  | 75 => ⟨S8192x2048, .f32⟩
  | 76 => ⟨S8192x2048, .f32⟩
  | 77 => ⟨S_, .f32⟩
  | 78 => ⟨S2048, .f32⟩
  | 79 => ⟨S1x2048, .f32⟩
  | 80 => ⟨S_, .f32⟩
  | 81 => ⟨S2x2048, .f32⟩
  | 82 => ⟨S1x2048, .f32⟩
  | 83 => ⟨S_, .f32⟩
  | 84 => ⟨S2x2048, .f32⟩
  | 85 => ⟨S_, .f32⟩
  | 86 => ⟨S8448x2048, .f32⟩
  | 87 => ⟨S_, .f32⟩
  | 88 => ⟨S2048, .f32⟩
  | 89 => ⟨S1x2048, .f32⟩
  | 90 => ⟨S_, .f32⟩
  | 91 => ⟨S2048, .f32⟩
  | 92 => ⟨S256x2048, .f32⟩
  | 93 => ⟨S_, .f32⟩
  | 94 => ⟨S2048, .f32⟩
  | 95 => ⟨S1x2048, .f32⟩
  | 96 => ⟨S256x2048, .f32⟩
  | 97 => ⟨S256x2048, .f32⟩
  | 98 => ⟨S_, .f32⟩
  | 99 => ⟨S2048, .f32⟩
  | 100 => ⟨S1x2048, .f32⟩
  | 101 => ⟨S_, .f32⟩
  | 102 => ⟨S2x2048, .f32⟩
  | 103 => ⟨S2x2048, .f32⟩
  | 104 => ⟨S1x2048, .f32⟩
  | 105 => ⟨S_, .f32⟩
  | 106 => ⟨S2x2048, .f32⟩
  | 107 => ⟨S2x2048, .f32⟩
  | 108 => ⟨S_, .f32⟩
  | 109 => ⟨S8448x2048, .f32⟩
  | 110 => ⟨S8448x2048, .f32⟩
  | 111 => ⟨S8448x2048, .f32⟩
  | 112 => ⟨S_, .f32⟩
  | 113 => ⟨S2048, .f32⟩
  | 114 => ⟨S1x2048, .f32⟩
  | 115 => ⟨S8448x2048, .f32⟩
  | 116 => ⟨S8448x2048, .f32⟩
  | 117 => ⟨S_, .f32⟩
  | 118 => ⟨S2048, .f32⟩
  | 119 => ⟨S8448x2048, .f32⟩
  | 120 => ⟨S_, .f32⟩
  | 121 => ⟨S8448, .f32⟩
  | 122 => ⟨S8448x1, .f32⟩
  | 123 => ⟨S8448x2048, .f32⟩
  | 124 => ⟨S8448x2048, .f32⟩
  | 125 => ⟨S8448x1, .f32⟩
  | 126 => ⟨S_, .f32⟩
  | 127 => ⟨S8448x1, .f32⟩
  | _ => ⟨S8448x2048, .f32⟩

abbrev hbmTy0_1 (i : Nat) : BufTy := match i % 128 with
  | 0 => ⟨S8448x1, .f32⟩
  | 1 => ⟨S_, .f32⟩
  | 2 => ⟨S8448, .f32⟩
  | 3 => ⟨S8448x2048, .f32⟩
  | 4 => ⟨S8448x2048, .f32⟩
  | 5 => ⟨S8448x2048, .f32⟩
  | 6 => ⟨S8448x2048, .f32⟩
  | 7 => ⟨S8448x2048, .f32⟩
  | 8 => ⟨S1x2048, .f32⟩
  | 9 => ⟨S8448x2048, .f32⟩
  | 10 => ⟨S_, .f32⟩
  | 11 => ⟨S8448x2048, .f32⟩
  | 12 => ⟨S256x2048, .f32⟩
  | 13 => ⟨S1x2048, .f32⟩
  | 14 => ⟨S2048, .f32⟩
  | 15 => ⟨S1x2048, .f32⟩
  | 16 => ⟨S256x2048, .f32⟩
  | 17 => ⟨S256x2048, .f32⟩
  | 18 => ⟨S8192x2048, .f32⟩
  | 19 => ⟨S1x2048, .f32⟩
  | 20 => ⟨S2048, .f32⟩
  | 21 => ⟨S1x2048, .f32⟩
  | 22 => ⟨S8192x2048, .f32⟩
  | 23 => ⟨S8192x2048, .f32⟩
  | 24 => ⟨S8448x2048, .f32⟩
  | 25 => ⟨S8448x2048, .f32⟩
  | 26 => ⟨S256x2048, .f32⟩
  | 27 => ⟨S8192x2048, .f32⟩
  | 28 => ⟨S8192x2048, .f32⟩
  | 29 => ⟨S8192x2048, .f32⟩
  | 30 => ⟨S8192x2048, .f32⟩
  | 31 => ⟨S_, .f32⟩
  | 32 => ⟨S2048, .f32⟩
  | 33 => ⟨S1x2048, .f32⟩
  | 34 => ⟨S_, .f32⟩
  | 35 => ⟨S2048, .f32⟩
  | 36 => ⟨S1x2048, .f32⟩
  | 37 => ⟨S_, .f32⟩
  | 38 => ⟨S2x2048, .f32⟩
  | 39 => ⟨S_, .f32⟩
  | 40 => ⟨S8448x2048, .f32⟩
  | 41 => ⟨S256x2048, .f32⟩
  | 42 => ⟨S256x2048, .f32⟩
  | 43 => ⟨S256x2048, .f32⟩
  | 44 => ⟨S_, .f32⟩
  | 45 => ⟨S2048, .f32⟩
  | 46 => ⟨S1x2048, .f32⟩
  | 47 => ⟨S_, .f32⟩
  | 48 => ⟨S2048, .f32⟩
  | 49 => ⟨S1x2048, .f32⟩
  | 50 => ⟨S_, .f32⟩
  | 51 => ⟨S2x2048, .f32⟩
  | 52 => ⟨S2x2048, .f32⟩
  | 53 => ⟨S_, .f32⟩
  | 54 => ⟨S8448x2048, .f32⟩
  | 55 => ⟨S8448x2048, .f32⟩
  | 56 => ⟨S8448x2048, .bf16⟩
  | 57 => ⟨S_, .f32⟩
  | 58 => ⟨S1x2048, .f32⟩
  | 59 => ⟨S8x2048, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_17 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_25 : Ref sig .tc := ⟨.hbm, 159, rfl⟩
abbrev main_v127 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_cst_27 : Ref sig .tc := ⟨.hbm, 165, rfl⟩
abbrev main_v131 : Ref sig .tc := ⟨.hbm, 166, rfl⟩
abbrev main_cst_28 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_29 : Ref sig .tc := ⟨.hbm, 172, rfl⟩
abbrev main_v136 : Ref sig .tc := ⟨.hbm, 173, rfl⟩
abbrev main_v137 : Ref sig .tc := ⟨.hbm, 174, rfl⟩
abbrev main_cst_30 : Ref sig .tc := ⟨.hbm, 175, rfl⟩
abbrev main_v138 : Ref sig .tc := ⟨.hbm, 176, rfl⟩
abbrev main_v139 : Ref sig .tc := ⟨.hbm, 177, rfl⟩
abbrev main_cst_31 : Ref sig .tc := ⟨.hbm, 178, rfl⟩
abbrev main_v140 : Ref sig .tc := ⟨.hbm, 179, rfl⟩
abbrev main_v141 : Ref sig .tc := ⟨.hbm, 180, rfl⟩
abbrev main_cst_32 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_33 : Ref sig .tc := ⟨.hbm, 185, rfl⟩
abbrev main_v145 : Ref sig .tc := ⟨.hbm, 186, rfl⟩
abbrev main_v146 : Ref sig .tc := ⟨.hbm, 187, rfl⟩

abbrev nD : Nat := 1
abbrev τ : Topo := Topo.v7x

variable {F : FTy → Type} [FloatOps F]
-- ==== KernelRb.lean ====
abbrev S8448x1024 : Shape := ⟨2, ![8448, 1024]⟩
abbrev S8448x256 : Shape := ⟨2, ![8448, 256]⟩
abbrev S8448x4608 : Shape := ⟨2, ![8448, 4608]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S256x128 : Shape := ⟨2, ![256, 128]⟩
abbrev S8448x128 : Shape := ⟨2, ![8448, 128]⟩
abbrev S768x1024 : Shape := ⟨2, ![768, 1024]⟩
abbrev S768x256 : Shape := ⟨2, ![768, 256]⟩
abbrev S768x128 : Shape := ⟨2, ![768, 128]⟩
abbrev S768x1536 : Shape := ⟨2, ![768, 1536]⟩

abbrev nBuf : Space → Nat
  | .hbm => 65
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S8448x4608, .bf16⟩
  | .hbm, ⟨4, _⟩ => ⟨S128, .f32⟩
  | .hbm, ⟨5, _⟩ => ⟨S128x64, .f32⟩
  | .hbm, ⟨6, _⟩ => ⟨S8192, .f32⟩
  | .hbm, ⟨7, _⟩ => ⟨S64, .f32⟩
  | .hbm, ⟨8, _⟩ => ⟨S1x64, .f32⟩
  | .hbm, ⟨9, _⟩ => ⟨S128x64, .f32⟩
  | .hbm, ⟨10, _⟩ => ⟨S8192, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S_, .f32⟩
  | .hbm, ⟨40, _⟩ => ⟨S8192x16, .f32⟩
  | .hbm, ⟨41, _⟩ => ⟨S8192x64, .f32⟩
  | .hbm, ⟨42, _⟩ => ⟨S8192x64, .f32⟩
  | .hbm, ⟨43, _⟩ => ⟨S8192x16, .f32⟩
  | .hbm, ⟨44, _⟩ => ⟨S8192x16, .f32⟩
  | .hbm, ⟨45, _⟩ => ⟨S8192x64, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S_, .f32⟩
  | .hbm, ⟨50, _⟩ => ⟨S256x128, .f32⟩
  | .hbm, ⟨51, _⟩ => ⟨S8448x128, .f32⟩
  | .hbm, ⟨52, _⟩ => ⟨S1x8192x1x64, .f32⟩
  | .hbm, ⟨53, _⟩ => ⟨S1x8192x2x64, .f32⟩
  | .hbm, ⟨54, _⟩ => ⟨S8192x128, .f32⟩
  | .hbm, ⟨55, _⟩ => ⟨S_, .f32⟩
  | .hbm, ⟨56, _⟩ => ⟨S256x128, .f32⟩
  | .hbm, ⟨57, _⟩ => ⟨S8448x128, .f32⟩
  | .hbm, ⟨58, _⟩ => ⟨S1x8192x1x64, .f32⟩
  | .hbm, ⟨59, _⟩ => ⟨S1x8192x2x64, .f32⟩
  | .hbm, ⟨60, _⟩ => ⟨S8192x128, .f32⟩
  | .hbm, ⟨61, _⟩ => ⟨S_, .f32⟩
  | .hbm, ⟨62, _⟩ => ⟨S256x128, .f32⟩
  | .hbm, ⟨63, _⟩ => ⟨S8448x128, .f32⟩
  | .hbm, ⟨64, _⟩ => ⟨S8448x4608, .bf16⟩
  | .local _ .vmem, ⟨0, _⟩ => ⟨S768x1024, .f32⟩
  | .local _ .vmem, ⟨1, _⟩ => ⟨S768x1024, .f32⟩
  | .local _ .vmem, ⟨2, _⟩ => ⟨S768x256, .f32⟩
  | .local _ .vmem, ⟨3, _⟩ => ⟨S768x256, .f32⟩
  | .local _ .vmem, ⟨4, _⟩ => ⟨S768x256, .f32⟩
  | .local _ .vmem, ⟨5, _⟩ => ⟨S768x256, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x1536, .bf16⟩
  | .local _ .vmem, ⟨13, _⟩ => ⟨S768x1536, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceRbIdeal.lean ====
abbrev S8448x1024 : Shape := ⟨2, ![8448, 1024]⟩
abbrev S8448x256 : Shape := ⟨2, ![8448, 256]⟩
abbrev S8448x4608 : Shape := ⟨2, ![8448, 4608]⟩
abbrev S_ : Shape := ⟨0, ![]⟩
abbrev S8192x1024 : Shape := ⟨2, ![8192, 1024]⟩
abbrev S8192x16x64 : Shape := ⟨3, ![8192, 16, 64]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x16x32 : Shape := ⟨3, ![8192, 16, 32]⟩
abbrev S8192x16x16 : Shape := ⟨3, ![8192, 16, 16]⟩
abbrev S256x1024 : Shape := ⟨2, ![256, 1024]⟩
abbrev S8192x256 : Shape := ⟨2, ![8192, 256]⟩
abbrev S8192x4x64 : Shape := ⟨3, ![8192, 4, 64]⟩
abbrev S8192x4x32 : Shape := ⟨3, ![8192, 4, 32]⟩
abbrev S8192x4x16 : Shape := ⟨3, ![8192, 4, 16]⟩
abbrev S256x256 : Shape := ⟨2, ![256, 256]⟩
abbrev S8448x3072 : Shape := ⟨2, ![8448, 3072]⟩

abbrev nBuf : Space → Nat
  | .hbm => 239
  | .vmem => 0
  | .smem => 0
  | _ => 0

abbrev hbmTy0_0 (i : Nat) : BufTy := match i % 128 with
  | 0 => ⟨S8448x1024, .f32⟩
  | 1 => ⟨S8448x256, .f32⟩
  | 2 => ⟨S8448x256, .f32⟩
  | 3 => ⟨S8448x4608, .bf16⟩
  | 4 => ⟨S_, .f32⟩
  | 5 => ⟨S8448x1024, .f32⟩
  | 6 => ⟨S8192x1024, .f32⟩
  | 7 => ⟨S8192x16x64, .f32⟩
  | 8 => ⟨S128, .f32⟩
  | 9 => ⟨S128x64, .f32⟩
  | 10 => ⟨S8192, .f32⟩
  | 11 => ⟨S64, .f32⟩
  | 12 => ⟨S1x64, .f32⟩
  | 13 => ⟨S128x64, .f32⟩
  | 14 => ⟨S8192, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S8192x1, .f32⟩
  | 30 => ⟨S1x16, .f32⟩
  | 31 => ⟨S8192x16, .f32⟩
  | 32 => ⟨S8192x16, .f32⟩
  | 33 => ⟨S8192x16, .f32⟩
  | 34 => ⟨S8192x1, .f32⟩
  | 35 => ⟨S1x16, .f32⟩
  | 36 => ⟨S8192x16, .f32⟩
  | 37 => ⟨S8192x16, .f32⟩
  | 38 => ⟨S8192x16, .f32⟩
  | 39 => ⟨S8192x16, .f32⟩
  | 40 => ⟨S8192x1x16, .f32⟩
  | 41 => ⟨S8192x16, .f32⟩
  | 42 => ⟨S8192x1x16, .f32⟩
  | 43 => ⟨S8192x16, .f32⟩
  | 44 => ⟨S8192x1x16, .f32⟩
  | 45 => ⟨S8192x16, .f32⟩
  | 46 => ⟨S8192x1x16, .f32⟩
  | 47 => ⟨S8192x16x32, .f32⟩
  | 48 => ⟨S8192x16x32, .f32⟩
  | 49 => ⟨S8192x16x16, .f32⟩
  | 50 => ⟨S8192x16x16, .f32⟩
  | 51 => ⟨S8192x16x16, .f32⟩
  | 52 => ⟨S8192x16x16, .f32⟩
  | 53 => ⟨S8192x16x16, .f32⟩
  | 54 => ⟨S8192x16x16, .f32⟩
  | 55 => ⟨S8192x16x16, .f32⟩
  | 56 => ⟨S8192x16x16, .f32⟩
  | 57 => ⟨S8192x16x16, .f32⟩
  | 58 => ⟨S8192x16x16, .f32⟩
  | 59 => ⟨S8192x16x16, .f32⟩
  | 60 => ⟨S8192x16x16, .f32⟩
  | 61 => ⟨S8192x16x32, .f32⟩
  | 62 => ⟨S8192x16x16, .f32⟩
  | 63 => ⟨S8192x16x16, .f32⟩
  | 64 => ⟨S8192x16x16, .f32⟩
  | 65 => ⟨S8192x16x16, .f32⟩
  | 66 => ⟨S8192x16x16, .f32⟩
  | 67 => ⟨S8192x16x16, .f32⟩
  | 68 => ⟨S8192x16x16, .f32⟩
  | 69 => ⟨S8192x16x16, .f32⟩
  | 70 => ⟨S8192x16x16, .f32⟩
  | 71 => ⟨S8192x16x16, .f32⟩
  | 72 => ⟨S8192x16x16, .f32⟩
  | 73 => ⟨S8192x16x16, .f32⟩
  | 74 => ⟨S8192x16x32, .f32⟩
  | 75 => ⟨S8192x16x64, .f32⟩
  | 76 => ⟨S256x1024, .f32⟩
  | 77 => ⟨S8192x1024, .f32⟩
  | 78 => ⟨S8448x1024, .f32⟩
  | 79 => ⟨S256x1024, .f32⟩
  | 80 => ⟨S8192x1024, .f32⟩
  | 81 => ⟨S8192x16x64, .f32⟩
  | 82 => ⟨S_, .f32⟩
  | 83 => ⟨S8448x1024, .f32⟩
  | 84 => ⟨S8192x16x32, .f32⟩
  | 85 => ⟨S8192x16x32, .f32⟩
  | 86 => ⟨S8192x16x16, .f32⟩
  | 87 => ⟨S8192x16x16, .f32⟩
  | 88 => ⟨S8192x16x16, .f32⟩
  | 89 => ⟨S8192x16x16, .f32⟩
  | 90 => ⟨S8192x16x16, .f32⟩
  | 91 => ⟨S8192x16x16, .f32⟩
  | 92 => ⟨S8192x16x16, .f32⟩
  | 93 => ⟨S8192x16x16, .f32⟩
  | 94 => ⟨S8192x16x16, .f32⟩
  | 95 => ⟨S8192x16x16, .f32⟩
  | 96 => ⟨S8192x16x16, .f32⟩
  | 97 => ⟨S8192x16x16, .f32⟩
  | 98 => ⟨S8192x16x16, .f32⟩
  | 99 => ⟨S8192x16x32, .f32⟩
  | 100 => ⟨S8192x16x16, .f32⟩
  | 101 => ⟨S8192x16x16, .f32⟩
  | 102 => ⟨S8192x16x16, .f32⟩
  | 103 => ⟨S8192x16x16, .f32⟩
  | 104 => ⟨S8192x16x16, .f32⟩
  | 105 => ⟨S8192x16x16, .f32⟩
  | 106 => ⟨S8192x16x16, .f32⟩
  | 107 => ⟨S8192x16x16, .f32⟩
  | 108 => ⟨S8192x16x16, .f32⟩
  | 109 => ⟨S8192x16x16, .f32⟩
  | 110 => ⟨S8192x16x16, .f32⟩
  | 111 => ⟨S8192x16x16, .f32⟩
  | 112 => ⟨S8192x16x16, .f32⟩
  | 113 => ⟨S8192x16x32, .f32⟩
  | 114 => ⟨S8192x16x64, .f32⟩
  | 115 => ⟨S8192x1024, .f32⟩
  | 116 => ⟨S_, .f32⟩
  | 117 => ⟨S8448x1024, .f32⟩
  | 118 => ⟨S8448x1024, .f32⟩
  | 119 => ⟨S_, .f32⟩
  | 120 => ⟨S8448x256, .f32⟩
  | 121 => ⟨S8192x256, .f32⟩
  | 122 => ⟨S8192x4x64, .f32⟩
  | 123 => ⟨S128, .f32⟩
  | 124 => ⟨S128x64, .f32⟩
  | 125 => ⟨S8192, .f32⟩
  | 126 => ⟨S64, .f32⟩
  | 127 => ⟨S1x64, .f32⟩
  | _ => ⟨S8448x1024, .f32⟩

abbrev hbmTy0_1 (i : Nat) : BufTy := match i % 128 with
  | 0 => ⟨S128x64, .f32⟩
  | 1 => ⟨S8192, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x16, .f32⟩
  | 27 => ⟨S8192x1x16, .f32⟩
  | 28 => ⟨S8192x16, .f32⟩
  | 29 => ⟨S8192x1x16, .f32⟩
  | 30 => ⟨S8192x16, .f32⟩
  | 31 => ⟨S8192x1x16, .f32⟩
  | 32 => ⟨S8192x16, .f32⟩
  | 33 => ⟨S8192x1x16, .f32⟩
  | 34 => ⟨S8192x4x32, .f32⟩
  | 35 => ⟨S8192x4x32, .f32⟩
  | 36 => ⟨S8192x4x16, .f32⟩
  | 37 => ⟨S8192x4x16, .f32⟩
  | 38 => ⟨S8192x4x16, .f32⟩
  | 39 => ⟨S8192x4x16, .f32⟩
  | 40 => ⟨S8192x4x16, .f32⟩
  | 41 => ⟨S8192x4x16, .f32⟩
  | 42 => ⟨S8192x4x16, .f32⟩
  | 43 => ⟨S8192x4x16, .f32⟩
  | 44 => ⟨S8192x4x16, .f32⟩
  | 45 => ⟨S8192x4x16, .f32⟩
  | 46 => ⟨S8192x4x16, .f32⟩
  | 47 => ⟨S8192x4x16, .f32⟩
  | 48 => ⟨S8192x4x32, .f32⟩
  | 49 => ⟨S8192x4x16, .f32⟩
  | 50 => ⟨S8192x4x16, .f32⟩
  | 51 => ⟨S8192x4x16, .f32⟩
  | 52 => ⟨S8192x4x16, .f32⟩
  | 53 => ⟨S8192x4x16, .f32⟩
  | 54 => ⟨S8192x4x16, .f32⟩
  | 55 => ⟨S8192x4x16, .f32⟩
  | 56 => ⟨S8192x4x16, .f32⟩
  | 57 => ⟨S8192x4x16, .f32⟩
  | 58 => ⟨S8192x4x16, .f32⟩
  | 59 => ⟨S8192x4x16, .f32⟩
  | 60 => ⟨S8192x4x16, .f32⟩
  | 61 => ⟨S8192x4x32, .f32⟩
  | 62 => ⟨S8192x4x64, .f32⟩
  | 63 => ⟨S256x256, .f32⟩
  | 64 => ⟨S8192x256, .f32⟩
  | 65 => ⟨S8448x256, .f32⟩
  | 66 => ⟨S256x256, .f32⟩
  | 67 => ⟨S8192x256, .f32⟩
  | 68 => ⟨S8192x4x64, .f32⟩
  | 69 => ⟨S_, .f32⟩
  | 70 => ⟨S8448x256, .f32⟩
  | 71 => ⟨S8192x4x32, .f32⟩
  | 72 => ⟨S8192x4x32, .f32⟩
  | 73 => ⟨S8192x4x16, .f32⟩
  | 74 => ⟨S8192x4x16, .f32⟩
  | 75 => ⟨S8192x4x16, .f32⟩
  | 76 => ⟨S8192x4x16, .f32⟩
  | 77 => ⟨S8192x4x16, .f32⟩
  | 78 => ⟨S8192x4x16, .f32⟩
  | 79 => ⟨S8192x4x16, .f32⟩
  | 80 => ⟨S8192x4x16, .f32⟩
  | 81 => ⟨S8192x4x16, .f32⟩
  | 82 => ⟨S8192x4x16, .f32⟩
  | 83 => ⟨S8192x4x16, .f32⟩
  | 84 => ⟨S8192x4x16, .f32⟩
  | 85 => ⟨S8192x4x16, .f32⟩
  | 86 => ⟨S8192x4x32, .f32⟩
  | 87 => ⟨S8192x4x16, .f32⟩
  | 88 => ⟨S8192x4x16, .f32⟩
  | 89 => ⟨S8192x4x16, .f32⟩
  | 90 => ⟨S8192x4x16, .f32⟩
  | 91 => ⟨S8192x4x16, .f32⟩
  | 92 => ⟨S8192x4x16, .f32⟩
  | 93 => ⟨S8192x4x16, .f32⟩
  | 94 => ⟨S8192x4x16, .f32⟩
  | 95 => ⟨S8192x4x16, .f32⟩
  | 96 => ⟨S8192x4x16, .f32⟩
  | 97 => ⟨S8192x4x16, .f32⟩
  | 98 => ⟨S8192x4x16, .f32⟩
  | 99 => ⟨S8192x4x16, .f32⟩
  | 100 => ⟨S8192x4x32, .f32⟩
  | 101 => ⟨S8192x4x64, .f32⟩
  | 102 => ⟨S8192x256, .f32⟩
  | 103 => ⟨S_, .f32⟩
  | 104 => ⟨S8448x256, .f32⟩
  | 105 => ⟨S8448x256, .f32⟩
  | 106 => ⟨S8448x3072, .bf16⟩
  | 107 => ⟨S8448x1024, .bf16⟩
  | 108 => ⟨S8448x256, .bf16⟩
  | 109 => ⟨S8448x256, .bf16⟩
  | 110 => ⟨S8448x4608, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_4 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_cst_5 : Ref sig .tc := ⟨.hbm, 116, rfl⟩
abbrev main_v106 : Ref sig .tc := ⟨.hbm, 117, rfl⟩
abbrev main_v107 : Ref sig .tc := ⟨.hbm, 118, rfl⟩
abbrev main_cst_6 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_cst_7 : Ref sig .tc := ⟨.hbm, 131, rfl⟩
abbrev main_v119 : Ref sig .tc := ⟨.hbm, 132, rfl⟩
abbrev main_v120 : Ref sig .tc := ⟨.hbm, 133, rfl⟩
abbrev main_cst_8 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_cst_9 : Ref sig .tc := ⟨.hbm, 138, rfl⟩
abbrev main_v124 : Ref sig .tc := ⟨.hbm, 139, rfl⟩
abbrev main_v125 : Ref sig .tc := ⟨.hbm, 140, rfl⟩
abbrev main_cst_10 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_cst_11 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_cst_12 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩

abbrev nD : Nat := 1
abbrev τ : Topo := Topo.v7x

variable {F : FTy → Type} [FloatOps F]
-- ==== Proof.Attn.Body.lean ====
/- The attention backward's body (custom call 1) at a grid point: the run of the body, what it leaves in each output's
   staging buffer, and the launch's obligation at every point. One run serves the body's two branches: `b0` says that the
   sink's accumulator is cleared (the first point of the grid), `b1` that the context's accumulators are (the first point
   of a pair of heads). The set-up follows the generated frame's. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's `scf.if` 0 (`k1_h1`), from the grid coordinates (the skeleton's scalar
    chain substituted). -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond1_0 : ∀ t : Fin cfg1.N, cond1_0 (grid1.coords t) ↔ t.val % 132 = 0 :=
  (fun t => by
    have ht : t.val < 132 := Nat.lt_of_lt_of_eq t.isLt N_1
    have e0 : (grid1.coords t 0).val = t.val / 66 % 2 := Pipeline.Grid.coords_val t 0 (by decide) rfl
    have e1 : (grid1.coords t 1).val = t.val / 1 % 66 := Pipeline.Grid.coords_val t 1 (by decide) rfl
    simp only [cond1_0, e0, e1]
    word_cmp
   : ∀ t : Fin grid1.N, cond1_0 (grid1.coords t) ↔ t.val % 132 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 0#32)) 0#32) = 1#1
/-- It holds at the points ≡ 0 (mod 66) — by arithmetic of the point. -/
theorem hcond1_1 : ∀ t : Fin cfg1.N, cond1_1 (grid1.coords t) ↔ t.val % 66 = 0 :=
  (fun t => by
    have ht : t.val < 132 := Nat.lt_of_lt_of_eq t.isLt N_1
    have e0 : (grid1.coords t 0).val = t.val / 66 % 2 := Pipeline.Grid.coords_val t 0 (by decide) rfl
    have e1 : (grid1.coords t 1).val = t.val / 1 % 66 := Pipeline.Grid.coords_val t 1 (by decide) rfl
    simp only [cond1_1, e0, e1]
    word_cmp
   : ∀ t : Fin grid1.N, cond1_1 (grid1.coords t) ↔ t.val % 66 = 0)

/-- Each window's current staging memref at point `t`, spelled as the pipeline passes it (`bodyAt1`), and its wholeness. -/
abbrev ms1_0 (t : Fin cfg1.N) : Memref sig .tc .smem S16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x256 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x256 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x384x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x384x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x128 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S256x128 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S8x128 .f32 := win1_17.stage (cfg1.slots t 17)
abbrev hs1_17 (t : Fin cfg1.N) : (ms1_17 t).IsWhole := hstage1_17 ((cfg1.slots t 17).cast nbuf1_17)

/-- What a staging buffer holds when the body starts: anything where the body clears it first (`b`), else `x`. -/
def prior {sp : Space} {s : Shape} {e : EltTy} (b : Bool) (c : Dev nD) (mr : Memref sig .tc sp s e) (x : Vec F s e) : sProp 𝕄 :=
  match b with
  | true => iprop(∃ d, owns (c : Thread nD τ) mr fullShare d)
  | false => owns (c : Thread nD τ) mr fullShare x

-- the run's proof term is large
set_option maxHeartbeats 4000000 in
/-- What the body's stores leave in each output's staging memref, as pieces (last first), with the proof that the body
    runs to the continuation holding the inputs as they were and each output's buffer with its pieces written; the
    pieces are the witness the run finds. -/
noncomputable def bodyRun (b0 b1 : Bool) (hb : b0 = true → b1 = true) (c : Dev nD) (i : grid1.Coords)
    (hc0 : cond1_0 i ↔ b0 = true) (hc1 : cond1_1 i ↔ b1 = true)
    (arg2 : Memref sig .tc .smem S16 .f32) (harg2 : arg2.IsWhole)
    (arg3 : Memref sig .tc .vmem S512x384 .f32) (harg3 : arg3.IsWhole)
    (arg4 : Memref sig .tc .vmem S128x512 .bf16) (harg4 : arg4.IsWhole)
    (arg5 : Memref sig .tc .vmem S128x512 .f32) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S128x256 .bf16) (harg11 : arg11.IsWhole)
    (arg12 : Memref sig .tc .vmem S128x256 .bf16) (harg12 : arg12.IsWhole)
    (arg13 : Memref sig .tc .vmem S256x256 .bf16) (harg13 : arg13.IsWhole)
    (arg14 : Memref sig .tc .vmem S128x512 .f32) (harg14 : arg14.IsWhole)
    (arg15 : Memref sig .tc .vmem S1x384x128 .f32) (harg15 : arg15.IsWhole)
    (arg16 : Memref sig .tc .vmem S1x384x128 .f32) (harg16 : arg16.IsWhole)
    (arg17 : Memref sig .tc .vmem S256x128 .f32) (harg17 : arg17.IsWhole)
    (arg18 : Memref sig .tc .vmem S256x128 .f32) (harg18 : arg18.IsWhole)
    (arg19 : Memref sig .tc .vmem S8x128 .f32) (harg19 : arg19.IsWhole)
    (x0 : Vec F S16 .f32) (x1 : Vec F S512x384 .f32) (x2 : Vec F S128x512 .bf16) (x3 : Vec F S128x512 .f32)
    (x4 : Vec F S128x256 .bf16) (x5 : Vec F S128x256 .bf16) (x6 : Vec F S128x256 .bf16) (x7 : Vec F S256x256 .bf16)
    (x8 : Vec F S128x256 .bf16) (x9 : Vec F S128x256 .bf16) (x10 : Vec F S128x256 .bf16)
    (x11 : Vec F S256x256 .bf16)
    (xo15 : Vec F S256x128 .f32) (xo16 : Vec F S256x128 .f32) (xo17 : Vec F S8x128 .f32) :
    Σ' (L12 : List (View.Piece (Elt F) S128x512 .f32)), Σ' (L13 : List (View.Piece (Elt F) S1x384x128 .f32)),
    Σ' (L14 : List (View.Piece (Elt F) S1x384x128 .f32)), Σ' (L15 : List (View.Piece (Elt F) S256x128 .f32)),
    Σ' (L16 : List (View.Piece (Elt F) S256x128 .f32)), { L17 : List (View.Piece (Elt F) S8x128 .f32) //
      ∀ (E : Set ℕ) (K : PUnit → sProp 𝕄),
        iprop(owns (c : Thread nD τ) arg2 fullShare x0 ∗ owns (c : Thread nD τ) arg3 fullShare x1 ∗
          owns (c : Thread nD τ) arg4 fullShare x2 ∗ owns (c : Thread nD τ) arg5 fullShare x3 ∗
          owns (c : Thread nD τ) arg6 fullShare x4 ∗ owns (c : Thread nD τ) arg7 fullShare x5 ∗
          owns (c : Thread nD τ) arg8 fullShare x6 ∗ owns (c : Thread nD τ) arg9 fullShare x7 ∗
          owns (c : Thread nD τ) arg10 fullShare x8 ∗ owns (c : Thread nD τ) arg11 fullShare x9 ∗
          owns (c : Thread nD τ) arg12 fullShare x10 ∗ owns (c : Thread nD τ) arg13 fullShare x11 ∗
          (∃ d, owns (c : Thread nD τ) arg14 fullShare d) ∗ (∃ d, owns (c : Thread nD τ) arg15 fullShare d) ∗
          (∃ d, owns (c : Thread nD τ) arg16 fullShare d) ∗ prior b1 c arg17 xo15 ∗ prior b1 c arg18 xo16 ∗
          prior b0 c arg19 xo17 ∗
          (iprop(owns (c : Thread nD τ) arg2 fullShare x0 ∗ owns (c : Thread nD τ) arg3 fullShare x1 ∗
          owns (c : Thread nD τ) arg4 fullShare x2 ∗ owns (c : Thread nD τ) arg5 fullShare x3 ∗
          owns (c : Thread nD τ) arg6 fullShare x4 ∗ owns (c : Thread nD τ) arg7 fullShare x5 ∗
          owns (c : Thread nD τ) arg8 fullShare x6 ∗ owns (c : Thread nD τ) arg9 fullShare x7 ∗
          owns (c : Thread nD τ) arg10 fullShare x8 ∗ owns (c : Thread nD τ) arg11 fullShare x9 ∗
          owns (c : Thread nD τ) arg12 fullShare x10 ∗ owns (c : Thread nD τ) arg13 fullShare x11 ∗
          (∃ f, arg14.view.loc (c : Thread nD τ) ↦[arg14.view.set]{fullShare} arg14.view.writes (Elt F) f L12) ∗
          (∃ f, arg15.view.loc (c : Thread nD τ) ↦[arg15.view.set]{fullShare} arg15.view.writes (Elt F) f L13) ∗
          (∃ f, arg16.view.loc (c : Thread nD τ) ↦[arg16.view.set]{fullShare} arg16.view.writes (Elt F) f L14) ∗
          (∃ f, arg17.view.loc (c : Thread nD τ) ↦[arg17.view.set]{fullShare} arg17.view.writes (Elt F) f L15) ∗
          (∃ f, arg18.view.loc (c : Thread nD τ) ↦[arg18.view.set]{fullShare} arg18.view.writes (Elt F) f L16) ∗
          (∃ f, arg19.view.loc (c : Thread nD τ) ↦[arg19.view.set]{fullShare} arg19.view.writes (Elt F) f L17)) -∗ K ⟨⟩))
          ⊢ wp frame (wpE (defs₀ (F := F)) Variants.none c none) E (cc1_attn_bwd_3 i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19) K } := by
  rcases b0 with _ | _ <;> rcases b1 with _ | _
  case true.false => exact absurd (hb rfl) Bool.false_ne_true
  case false.false =>
    have hc0 : ¬cond1_0 i := fun h => Bool.false_ne_true (hc0.mp h)
    have hc1 : ¬cond1_1 i := fun h => Bool.false_ne_true (hc1.mp h)
    refine ⟨?_, ?_, ?_, ?_, ?_, ?_, fun E K => ?run⟩
    case run =>
      simp only [cc1_attn_bwd_3_eq_skeleton]; unfold cc1_attn_bwd_3_skel
      simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
      simp only [prior]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%d12, %f12, -, H12⟩, ⟨%d13, %f13, -, H13⟩, ⟨%d14, %f14, -, H14⟩, ⟨%f15, %hf15, H15⟩, ⟨%f16, %hf16, H16⟩,
        ⟨%f17, %hf17, H17⟩, Hk⟩
      obtain rfl := harg2.eq_unread hf0; obtain rfl := harg3.eq_unread hf1; obtain rfl := harg4.eq_unread hf2;
      obtain rfl := harg5.eq_unread hf3; obtain rfl := harg6.eq_unread hf4; obtain rfl := harg7.eq_unread hf5;
      obtain rfl := harg8.eq_unread hf6; obtain rfl := harg9.eq_unread hf7; obtain rfl := harg10.eq_unread hf8;
      obtain rfl := harg11.eq_unread hf9; obtain rfl := harg12.eq_unread hf10; obtain rfl := harg13.eq_unread hf11;
      obtain rfl := harg17.eq_unread hf15; obtain rfl := harg18.eq_unread hf16; obtain rfl := harg19.eq_unread hf17
      sl_exec (disch := first | sl_exact hc0 | sl_exact hc1)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; exact harg8.read_unread _
      isplitl [H7]
      · iexists _; isplitr; swap; · iexact H7
        ipureintro; exact harg9.read_unread _
      isplitl [H8]
      · iexists _; isplitr; swap; · iexact H8
        ipureintro; exact harg10.read_unread _
      isplitl [H9]
      · iexists _; isplitr; swap; · iexact H9
        ipureintro; exact harg11.read_unread _
      isplitl [H10]
      · iexists _; isplitr; swap; · iexact H10
        ipureintro; exact harg12.read_unread _
      isplitl [H11]
      · iexists _; isplitr; swap; · iexact H11
        ipureintro; exact harg13.read_unread _
      isplitl [H12]; · iexists _; iexact H12
      isplitl [H13]; · iexists _; iexact H13
      isplitl [H14]; · iexists _; iexact H14
      isplitl [H15]; · iexists _; iexact H15
      isplitl [H16]; · iexists _; iexact H16
      iexists _; iexact H17
  case false.true =>
    have hc0 : ¬cond1_0 i := fun h => Bool.false_ne_true (hc0.mp h)
    have hc1 : cond1_1 i := hc1.mpr rfl
    refine ⟨?_, ?_, ?_, ?_, ?_, ?_, fun E K => ?run⟩
    case run =>
      simp only [cc1_attn_bwd_3_eq_skeleton]; unfold cc1_attn_bwd_3_skel
      simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
      simp only [prior]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%d12, %f12, -, H12⟩, ⟨%d13, %f13, -, H13⟩, ⟨%d14, %f14, -, H14⟩, ⟨%d15, %f15, -, H15⟩, ⟨%d16, %f16, -, H16⟩,
        ⟨%f17, %hf17, H17⟩, Hk⟩
      obtain rfl := harg2.eq_unread hf0; obtain rfl := harg3.eq_unread hf1; obtain rfl := harg4.eq_unread hf2;
      obtain rfl := harg5.eq_unread hf3; obtain rfl := harg6.eq_unread hf4; obtain rfl := harg7.eq_unread hf5;
      obtain rfl := harg8.eq_unread hf6; obtain rfl := harg9.eq_unread hf7; obtain rfl := harg10.eq_unread hf8;
      obtain rfl := harg11.eq_unread hf9; obtain rfl := harg12.eq_unread hf10; obtain rfl := harg13.eq_unread hf11;
      obtain rfl := harg19.eq_unread hf17
      sl_exec (disch := first | sl_exact hc0 | sl_exact hc1)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; exact harg8.read_unread _
      isplitl [H7]
      · iexists _; isplitr; swap; · iexact H7
        ipureintro; exact harg9.read_unread _
      isplitl [H8]
      · iexists _; isplitr; swap; · iexact H8
        ipureintro; exact harg10.read_unread _
      isplitl [H9]
      · iexists _; isplitr; swap; · iexact H9
        ipureintro; exact harg11.read_unread _
      isplitl [H10]
      · iexists _; isplitr; swap; · iexact H10
        ipureintro; exact harg12.read_unread _
      isplitl [H11]
      · iexists _; isplitr; swap; · iexact H11
        ipureintro; exact harg13.read_unread _
      isplitl [H12]; · iexists _; iexact H12
      isplitl [H13]; · iexists _; iexact H13
      isplitl [H14]; · iexists _; iexact H14
      isplitl [H15]; · iexists _; iexact H15
      isplitl [H16]; · iexists _; iexact H16
      iexists _; iexact H17
  case true.true =>
    have hc0 : cond1_0 i := hc0.mpr rfl
    have hc1 : cond1_1 i := hc1.mpr rfl
    refine ⟨?_, ?_, ?_, ?_, ?_, ?_, fun E K => ?run⟩
    case run =>
      simp only [cc1_attn_bwd_3_eq_skeleton]; unfold cc1_attn_bwd_3_skel
      simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
      simp only [prior]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%d12, %f12, -, H12⟩, ⟨%d13, %f13, -, H13⟩, ⟨%d14, %f14, -, H14⟩, ⟨%d15, %f15, -, H15⟩, ⟨%d16, %f16, -, H16⟩,
        ⟨%d17, %f17, -, H17⟩, Hk⟩
      obtain rfl := harg2.eq_unread hf0; obtain rfl := harg3.eq_unread hf1; obtain rfl := harg4.eq_unread hf2;
      obtain rfl := harg5.eq_unread hf3; obtain rfl := harg6.eq_unread hf4; obtain rfl := harg7.eq_unread hf5;
      obtain rfl := harg8.eq_unread hf6; obtain rfl := harg9.eq_unread hf7; obtain rfl := harg10.eq_unread hf8;
      obtain rfl := harg11.eq_unread hf9; obtain rfl := harg12.eq_unread hf10; obtain rfl := harg13.eq_unread hf11
      sl_exec (disch := first | sl_exact hc0 | sl_exact hc1)
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      · iexists _; isplitr; swap; · iexact H6
        ipureintro; exact harg8.read_unread _
      isplitl [H7]
      · iexists _; isplitr; swap; · iexact H7
        ipureintro; exact harg9.read_unread _
      isplitl [H8]
      · iexists _; isplitr; swap; · iexact H8
        ipureintro; exact harg10.read_unread _
      isplitl [H9]
      · iexists _; isplitr; swap; · iexact H9
        ipureintro; exact harg11.read_unread _
      isplitl [H10]
      · iexists _; isplitr; swap; · iexact H10
        ipureintro; exact harg12.read_unread _
      isplitl [H11]
      · iexists _; isplitr; swap; · iexact H11
        ipureintro; exact harg13.read_unread _
      isplitl [H12]; · iexists _; iexact H12
      isplitl [H13]; · iexists _; iexact H13
      isplitl [H14]; · iexists _; iexact H14
      isplitl [H15]; · iexists _; iexact H15
      isplitl [H16]; · iexists _; iexact H16
      iexists _; iexact H17

end Regions

end Cert.KernelIdeal.Attn

end
-- ==== Proof.Attn.Region.lean ====
/- What the attention backward's body leaves in its outputs' staging buffers point by point, and the launch's obligation at
   every point. The set-up follows the generated frame's. -/
module

public import proofs.«01_k».proof.Proof.Attn.Body

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-- Whether the sink's accumulator is cleared at point `n`, -/
abbrev clr0 (n : ℕ) : Bool := decide (n % 132 = 0)
/-- and whether the context's accumulators are. -/
abbrev clr1 (n : ℕ) : Bool := decide (n % 66 = 0)
theorem clr01 (t : Fin cfg1.N) : clr0 t.val = true → clr1 t.val = true := by
  simp only [clr0, clr1, decide_eq_true_eq]; omega

/-- The three accumulators' contents. -/
abbrev Acc (F : FTy → Type) : Type := Vec F S256x128 .f32 × Vec F S256x128 .f32 × Vec F S8x128 .f32

/-- The body's run at point `t`, over the accumulators `p`. -/
abbrev runAt (c : Dev nD) (t : Fin cfg1.N) (p : Acc F) :=
  bodyRun (clr0 t.val) (clr1 t.val) (clr01 t) c (grid1.coords t)
    ((hcond1_0 t).trans (decide_eq_true_iff (p := t.val % 132 = 0)).symm) ((hcond1_1 t).trans (decide_eq_true_iff (p := t.val % 66 = 0)).symm)
    (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) (ms1_9 t) (hs1_9 t)
    (ms1_10 t) (hs1_10 t) (ms1_11 t) (hs1_11 t) (ms1_12 t) (hs1_12 t) (ms1_13 t) (hs1_13 t) (ms1_14 t) (hs1_14 t)
    (ms1_15 t) (hs1_15 t) (ms1_16 t) (hs1_16 t) (ms1_17 t) (hs1_17 t)
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t)
    p.1 p.2.1 p.2.2

section Cover
variable (b0 b1 : Bool) (hb : b0 = true → b1 = true) (c : Dev nD) (i : grid1.Coords)
    (hc0 : cond1_0 i ↔ b0 = true) (hc1 : cond1_1 i ↔ b1 = true)
    (arg2 : Memref sig .tc .smem S16 .f32) (harg2 : arg2.IsWhole)
    (arg3 : Memref sig .tc .vmem S512x384 .f32) (harg3 : arg3.IsWhole)
    (arg4 : Memref sig .tc .vmem S128x512 .bf16) (harg4 : arg4.IsWhole)
    (arg5 : Memref sig .tc .vmem S128x512 .f32) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S128x256 .bf16) (harg11 : arg11.IsWhole)
    (arg12 : Memref sig .tc .vmem S128x256 .bf16) (harg12 : arg12.IsWhole)
    (arg13 : Memref sig .tc .vmem S256x256 .bf16) (harg13 : arg13.IsWhole)
    (arg14 : Memref sig .tc .vmem S128x512 .f32) (harg14 : arg14.IsWhole)
    (arg15 : Memref sig .tc .vmem S1x384x128 .f32) (harg15 : arg15.IsWhole)
    (arg16 : Memref sig .tc .vmem S1x384x128 .f32) (harg16 : arg16.IsWhole)
    (arg17 : Memref sig .tc .vmem S256x128 .f32) (harg17 : arg17.IsWhole)
    (arg18 : Memref sig .tc .vmem S256x128 .f32) (harg18 : arg18.IsWhole)
    (arg19 : Memref sig .tc .vmem S8x128 .f32) (harg19 : arg19.IsWhole)
    (x0 : Vec F S16 .f32) (x1 : Vec F S512x384 .f32) (x2 : Vec F S128x512 .bf16) (x3 : Vec F S128x512 .f32)
    (x4 : Vec F S128x256 .bf16) (x5 : Vec F S128x256 .bf16) (x6 : Vec F S128x256 .bf16) (x7 : Vec F S256x256 .bf16)
    (x8 : Vec F S128x256 .bf16) (x9 : Vec F S128x256 .bf16) (x10 : Vec F S128x256 .bf16)
    (x11 : Vec F S256x256 .bf16)
    (xo15 : Vec F S256x128 .f32) (xo16 : Vec F S256x128 .f32) (xo17 : Vec F S8x128 .f32)
/-- The body's stores fill each output's buffer. -/
theorem cover12 (y : S128x512.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).1, y ∈ pc.1.set := by
  rcases b0 with _ | _ <;> rcases b1 with _ | _
  case true.false => exact absurd (hb rfl) Bool.false_ne_true
  all_goals exact View.cover_of_tiledL (s := S128x512) _ S128x128.size (by sl_kernel_rfl) y
theorem cover13 (y : S1x384x128.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).2.1, y ∈ pc.1.set := by
  rcases b0 with _ | _ <;> rcases b1 with _ | _
  case true.false => exact absurd (hb rfl) Bool.false_ne_true
  all_goals exact View.cover_of_tiledL (s := S1x384x128) _ S1x384x128.size (by sl_kernel_rfl) y
theorem cover14 (y : S1x384x128.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).2.2.1, y ∈ pc.1.set := by
  rcases b0 with _ | _ <;> rcases b1 with _ | _
  case true.false => exact absurd (hb rfl) Bool.false_ne_true
  all_goals exact View.cover_of_tiledL (s := S1x384x128) _ S1x384x128.size (by sl_kernel_rfl) y
theorem cover15 (y : S256x128.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).2.2.2.1, y ∈ pc.1.set := by
  rcases b0 with _ | _ <;> rcases b1 with _ | _
  case true.false => exact absurd (hb rfl) Bool.false_ne_true
  all_goals exact View.cover_of_tiledL (s := S256x128) _ S256x128.size (by sl_kernel_rfl) y
theorem cover16 (y : S256x128.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).2.2.2.2.1, y ∈ pc.1.set := by
  rcases b0 with _ | _ <;> rcases b1 with _ | _
  case true.false => exact absurd (hb rfl) Bool.false_ne_true
  all_goals exact View.cover_of_tiledL (s := S256x128) _ S256x128.size (by sl_kernel_rfl) y
theorem cover17 (y : S8x128.Idx) :
    ∃ pc ∈ (bodyRun b0 b1 hb c i hc0 hc1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19
      x0 x1 x2 x3 x4 x5 x6 x7 x8 x9 x10 x11 xo15 xo16 xo17).2.2.2.2.2.1, y ∈ pc.1.set := by
  rcases b0 with _ | _ <;> rcases b1 with _ | _
  case true.false => exact absurd (hb rfl) Bool.false_ne_true
  all_goals exact View.cover_of_tiledL (s := S8x128) _ S8x128.size (by sl_kernel_rfl) y
end Cover

theorem coverAt12 (c : Dev nD) (t : Fin cfg1.N) (p : Acc F) (y : S128x512.Idx) :
    ∃ pc ∈ (runAt V c t p).1, y ∈ pc.1.set :=
  cover12 _ _ _ _ _ _ _ _ _ _ _ _ _ _ _ _ _ _ _ _ _ _ _ _ _ _ _ _ _ _ _ _ _ _ _ _ _ _ _ _ _ _ _ _ _ _ _ _ _ _ _ _ _ _ _ _ _ _ y

theorem coverAt13 (c : Dev nD) (t : Fin cfg1.N) (p : Acc F) (y : S1x384x128.Idx) :
    ∃ pc ∈ (runAt V c t p).2.1, y ∈ pc.1.set :=
  cover13 _ _ _ _ _ _ _ _ _ _ _ _ _ _ _ _ _ _ _ _ _ _ _ _ _ _ _ _ _ _ _ _ _ _ _ _ _ _ _ _ _ _ _ _ _ _ _ _ _ _ _ _ _ _ _ _ _ _ y

theorem coverAt14 (c : Dev nD) (t : Fin cfg1.N) (p : Acc F) (y : S1x384x128.Idx) :
    ∃ pc ∈ (runAt V c t p).2.2.1, y ∈ pc.1.set :=
  cover14 _ _ _ _ _ _ _ _ _ _ _ _ _ _ _ _ _ _ _ _ _ _ _ _ _ _ _ _ _ _ _ _ _ _ _ _ _ _ _ _ _ _ _ _ _ _ _ _ _ _ _ _ _ _ _ _ _ _ y

theorem coverAt15 (c : Dev nD) (t : Fin cfg1.N) (p : Acc F) (y : S256x128.Idx) :
    ∃ pc ∈ (runAt V c t p).2.2.2.1, y ∈ pc.1.set :=
  cover15 _ _ _ _ _ _ _ _ _ _ _ _ _ _ _ _ _ _ _ _ _ _ _ _ _ _ _ _ _ _ _ _ _ _ _ _ _ _ _ _ _ _ _ _ _ _ _ _ _ _ _ _ _ _ _ _ _ _ y

theorem coverAt16 (c : Dev nD) (t : Fin cfg1.N) (p : Acc F) (y : S256x128.Idx) :
    ∃ pc ∈ (runAt V c t p).2.2.2.2.1, y ∈ pc.1.set :=
  cover16 _ _ _ _ _ _ _ _ _ _ _ _ _ _ _ _ _ _ _ _ _ _ _ _ _ _ _ _ _ _ _ _ _ _ _ _ _ _ _ _ _ _ _ _ _ _ _ _ _ _ _ _ _ _ _ _ _ _ y

theorem coverAt17 (c : Dev nD) (t : Fin cfg1.N) (p : Acc F) (y : S8x128.Idx) :
    ∃ pc ∈ (runAt V c t p).2.2.2.2.2.1, y ∈ pc.1.set :=
  cover17 _ _ _ _ _ _ _ _ _ _ _ _ _ _ _ _ _ _ _ _ _ _ _ _ _ _ _ _ _ _ _ _ _ _ _ _ _ _ _ _ _ _ _ _ _ _ _ _ _ _ _ _ _ _ _ _ _ _ y

/-- Output 12's staging buffer as a view. -/
abbrev VO1_12 : View sig .tc .vmem S128x512 .f32 := (Memref.whole cc1_stg12_0 : Memref sig .tc .vmem S128x512 .f32).view
/-- Output 13's staging buffer as a view. -/
abbrev VO1_13 : View sig .tc .vmem S1x384x128 .f32 := (Memref.whole cc1_stg13_0 : Memref sig .tc .vmem S1x384x128 .f32).view
/-- Output 14's staging buffer as a view. -/
abbrev VO1_14 : View sig .tc .vmem S1x384x128 .f32 := (Memref.whole cc1_stg14_0 : Memref sig .tc .vmem S1x384x128 .f32).view
/-- Output 15's staging buffer as a view. -/
abbrev VO1_15 : View sig .tc .vmem S256x128 .f32 := (Memref.whole cc1_stg15_0 : Memref sig .tc .vmem S256x128 .f32).view
/-- Output 16's staging buffer as a view. -/
abbrev VO1_16 : View sig .tc .vmem S256x128 .f32 := (Memref.whole cc1_stg16_0 : Memref sig .tc .vmem S256x128 .f32).view
/-- Output 17's staging buffer as a view. -/
abbrev VO1_17 : View sig .tc .vmem S8x128 .f32 := (Memref.whole cc1_stg17_0 : Memref sig .tc .vmem S8x128 .f32).view

/-- What the body at point `t` leaves in the outputs' staging buffers, over the accumulators `p`. -/
def outs (c : Dev nD) (t : Fin cfg1.N) (p : Acc F) : Vec F S128x512 .f32 × Vec F S1x384x128 .f32 × Vec F S1x384x128 .f32 × Vec F S256x128 .f32 × Vec F S256x128 .f32 × Vec F S8x128 .f32 :=
  (VO1_12.read (Elt F) (VO1_12.writes (Elt F) VO1_12.junk (runAt V c t p).1),
   VO1_13.read (Elt F) (VO1_13.writes (Elt F) VO1_13.junk (runAt V c t p).2.1),
   VO1_14.read (Elt F) (VO1_14.writes (Elt F) VO1_14.junk (runAt V c t p).2.2.1),
   VO1_15.read (Elt F) (VO1_15.writes (Elt F) VO1_15.junk (runAt V c t p).2.2.2.1),
   VO1_16.read (Elt F) (VO1_16.writes (Elt F) VO1_16.junk (runAt V c t p).2.2.2.2.1),
   VO1_17.read (Elt F) (VO1_17.writes (Elt F) VO1_17.junk (runAt V c t p).2.2.2.2.2.1))

/-- What the accumulators hold before the first point: nothing named. -/
def acc0 : Acc F := (VO1_15.read (Elt F) VO1_15.junk, VO1_16.read (Elt F) VO1_16.junk, VO1_17.read (Elt F) VO1_17.junk)

/-- What the outputs' staging buffers hold after the body at position `n`. -/
def outsAt1 (c : Dev nD) : (n : ℕ) → n < cfg1.N → Vec F S128x512 .f32 × Vec F S1x384x128 .f32 × Vec F S1x384x128 .f32 × Vec F S256x128 .f32 × Vec F S256x128 .f32 × Vec F S8x128 .f32
  | 0, hn => outs V c ⟨0, hn⟩ acc0
  | n + 1, hn => outs V c ⟨n + 1, hn⟩ (outsAt1 c n (Nat.lt_of_succ_lt hn)).2.2.2

/-- What the accumulators hold before the body at position `n`. -/
def prev (c : Dev nD) : (n : ℕ) → n < cfg1.N → Acc F
  | 0, _ => acc0
  | n + 1, hn => (outsAt1 V c n (Nat.lt_of_succ_lt hn)).2.2.2

theorem outsAt1_eq (c : Dev nD) (n : ℕ) (hn : n < cfg1.N) : outsAt1 V c n hn = outs V c ⟨n, hn⟩ (prev V c n hn) := by
  cases n <;> rfl

theorem prev_eq (c : Dev nD) (n : ℕ) (hn : n < cfg1.N) (h : n ≠ 0) :
    prev V c n hn = (outsAt1 V c (n - 1) (Nat.lt_of_le_of_lt (Nat.sub_le _ _) hn)).2.2.2 := by
  cases n with
  | zero => exact absurd rfl h
  | succ n => rfl

/-- The proof data of the region: the arrays as it finds them (`V`), each input's buffer at its block and the outputs' at
    `outsAt1`, nothing owed, each input's share of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
    | ⟨13, _⟩ => (outsAt1 V c t.val t.isLt).2.1
    | ⟨14, _⟩ => (outsAt1 V c t.val t.isLt).2.2.1
    | ⟨15, _⟩ => (outsAt1 V c t.val t.isLt).2.2.2.1
    | ⟨16, _⟩ => (outsAt1 V c t.val t.isLt).2.2.2.2.1
    | ⟨17, _⟩ => (outsAt1 V c t.val t.isLt).2.2.2.2.2
    | ⟨_ + 18, h⟩ => absurd h (Nat.not_lt.2 (Nat.le_add_left _ _))
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = (outsAt1 V c t.val t.isLt).1 := by dsimp only [dat1]
theorem after1_13 (c : Dev nD) (t : Fin cfg1.N) : (dat1 V c).after 13 t = (outsAt1 V c t.val t.isLt).2.1 := by dsimp only [dat1]
theorem after1_14 (c : Dev nD) (t : Fin cfg1.N) : (dat1 V c).after 14 t = (outsAt1 V c t.val t.isLt).2.2.1 := by dsimp only [dat1]
theorem after1_15 (c : Dev nD) (t : Fin cfg1.N) : (dat1 V c).after 15 t = (outsAt1 V c t.val t.isLt).2.2.2.1 := by dsimp only [dat1]
theorem after1_16 (c : Dev nD) (t : Fin cfg1.N) : (dat1 V c).after 16 t = (outsAt1 V c t.val t.isLt).2.2.2.2.1 := by dsimp only [dat1]
theorem after1_17 (c : Dev nD) (t : Fin cfg1.N) : (dat1 V c).after 17 t = (outsAt1 V c t.val t.isLt).2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
/-- Where output 15 is not cleared its buffer holds what the body left at the point before. -/
theorem before1_15 (c : Dev nD) (t : Fin cfg1.N) (h : clr1 t.val = false) (d) :
    (dat1 V c).before 15 t d = (prev V c t.val t.isLt).1 := by
  have h : ¬t.val % 66 = 0 := of_decide_eq_false h
  have h0 : t.val ≠ 0 := fun e => h (by rw [e])
  have hN : t.val < 132 := lt_of_lt_of_eq t.isLt (show cfg1.N = 132 from N_1)
  rw [Dat.before_out_kept _ 15 rfl t (by omega) (Bool.eq_false_iff.mpr fun h => by have := (flush1_15 _).mp h; dsimp only at this; omega)
    (fun _ => rfl) (fun _ _ => rfl), prev_eq V c t.val t.isLt h0]
  dsimp only [dat1]
/-- Where output 16 is not cleared its buffer holds what the body left at the point before. -/
theorem before1_16 (c : Dev nD) (t : Fin cfg1.N) (h : clr1 t.val = false) (d) :
    (dat1 V c).before 16 t d = (prev V c t.val t.isLt).2.1 := by
  have h : ¬t.val % 66 = 0 := of_decide_eq_false h
  have h0 : t.val ≠ 0 := fun e => h (by rw [e])
  have hN : t.val < 132 := lt_of_lt_of_eq t.isLt (show cfg1.N = 132 from N_1)
  rw [Dat.before_out_kept _ 16 rfl t (by omega) (Bool.eq_false_iff.mpr fun h => by have := (flush1_16 _).mp h; dsimp only at this; omega)
    (fun _ => rfl) (fun _ _ => rfl), prev_eq V c t.val t.isLt h0]
  dsimp only [dat1]
/-- Where output 17 is not cleared its buffer holds what the body left at the point before. -/
theorem before1_17 (c : Dev nD) (t : Fin cfg1.N) (h : clr0 t.val = false) (d) :
    (dat1 V c).before 17 t d = (prev V c t.val t.isLt).2.2 := by
  have h : ¬t.val % 132 = 0 := of_decide_eq_false h
  have h0 : t.val ≠ 0 := fun e => h (by rw [e])
  have hN : t.val < 132 := lt_of_lt_of_eq t.isLt (show cfg1.N = 132 from N_1)
  rw [Dat.before_out_kept _ 17 rfl t (by omega) (Bool.eq_false_iff.mpr fun h => by have := (flush1_17 _).mp h; dsimp only at this; omega)
    (fun _ => rfl) (fun _ _ => rfl), prev_eq V c t.val t.isLt h0]
  dsimp only [dat1]

/-- A buffer at known contents serves as the one a run starts from. -/
theorem prior_of {sp : Space} {s : Shape} {e : EltTy} (b : Bool) (c : Dev nD) (mr : Memref sig .tc sp s e) (x y : Vec F s e)
    (h : b = false → y = x) : owns (c : Thread nD τ) mr fullShare y ⊢ (prior b c mr x : sProp 𝕄) := by
  cases b with
  | true => unfold prior; iintro H; iexists _; iexact H
  | false => rw [h rfl]; unfold prior; exact .rfl

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t))

set_option maxHeartbeats 4800000 in
/-- The body at any point: the inputs' memrefs hold their blocks, an accumulator that is not cleared holds what the point
    before left, so the run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17,
    outsAt1_eq V c t.val t.isLt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runAt V c t (prev V c t.val t.isLt)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iapply (prior_of _ c _ _ _ (fun h => before1_15 V c t h d15)); iexact H15
  isplitl [H16]; · iapply (prior_of _ c _ _ _ (fun h => before1_16 V c t h d16)); iexact H16
  isplitl [H17]; · iapply (prior_of _ c _ _ _ (fun h => before1_17 V c t h d17)); iexact H17
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact View.read_writes_of_cover _ _ VO1_12 VO1_12.junk (runAt V c t (prev V c t.val t.isLt)).1 (coverAt12 V c t _)
  isplitl [H13]
  · unfold owns; iexists _; isplitr; swap; · iexact H13
    ipureintro; exact View.read_writes_of_cover _ _ VO1_13 VO1_13.junk (runAt V c t (prev V c t.val t.isLt)).2.1 (coverAt13 V c t _)
  isplitl [H14]
  · unfold owns; iexists _; isplitr; swap; · iexact H14
    ipureintro; exact View.read_writes_of_cover _ _ VO1_14 VO1_14.junk (runAt V c t (prev V c t.val t.isLt)).2.2.1 (coverAt14 V c t _)
  isplitl [H15]
  · unfold owns; iexists _; isplitr; swap; · iexact H15
    ipureintro; exact View.read_writes_of_cover _ _ VO1_15 VO1_15.junk (runAt V c t (prev V c t.val t.isLt)).2.2.2.1 (coverAt15 V c t _)
  isplitl [H16]
  · unfold owns; iexists _; isplitr; swap; · iexact H16
    ipureintro; exact View.read_writes_of_cover _ _ VO1_16 VO1_16.junk (runAt V c t (prev V c t.val t.isLt)).2.2.2.2.1 (coverAt16 V c t _)
  unfold owns; iexists _; isplitr; swap; · iexact H17
  ipureintro; exact View.read_writes_of_cover _ _ VO1_17 VO1_17.junk (runAt V c t (prev V c t.val t.isLt)).2.2.2.2.2.1 (coverAt17 V c t _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Attn

end
-- ==== Proof.Attn.Run.lean ====
/- The program's three regions among its host operations, as one run: the buffer contents at each boundary between them,
   each region as a segment, the run and the frame. The set-up follows the generated frame's. -/
module

public import proofs.«01_k».proof.Proof.Gen.KernelIdeal.Frame.Region0
public import proofs.«01_k».proof.Proof.Gen.KernelIdeal.Frame.Region2
public import proofs.«01_k».proof.Proof.Gen.KernelIdeal.Frame.Hosts0
public import proofs.«01_k».proof.Proof.Attn.Region

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution terminates without fault, each core's unscoped
    buffers end at the last boundary's contents, and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c)⟩, h.2⟩) (run m ρ)

end Cert.KernelIdeal.Attn

end
-- ==== Proof.Attn.Row.lean ====
/- The gradient of one row's softmax, over the extended reals: the scores of a row are split in local ones `s`, context
   ones `c` and the sink's `z`. What the kernel computes of a row is written down as it computes it (`top`, `den`, `inv`,
   `tot`, `gL`, `gC`, `gZ`), and for finite context scores and sink, local scores below `⊤` and finite
   cotangents it is what differentiation of `softmax` computes (`ref_p`, `ref_d`). -/
module

public import Idealize.ShloMosaic.PureOps.Ideal
public import Idealize.ShloMosaic.Lib.IdealHost

@[expose] public section

noncomputable section

namespace Cert.Row

open Idealize.ShloMosaic

/-- A finite extended real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.zero : IsR 0 := ⟨0, rfl⟩

theorem IsR.sum {ι : Type} (S : Finset ι) (f : ι → EReal) (hf : ∀ i, IsR (f i)) : IsR (∑ i ∈ S, f i) := by
  classical
  induction S using Finset.induction_on with
  | empty => exact ⟨0, by simp⟩
  | insert a S ha ih => rw [Finset.sum_insert ha]; exact (hf a).add ih

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite nonnegative factor passes through a sum of extended reals. -/
theorem sum_mul_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- The opposite of a sum of finite numbers is the sum of the opposites. -/
theorem neg_sum {ι : Type} (S : Finset ι) (f : ι → EReal) (hf : ∀ i, IsR (f i)) : -(∑ i ∈ S, f i) = ∑ i ∈ S, -f i := by
  choose g hg using hf
  have e : f = fun i => (g i : EReal) := funext hg
  subst e
  rw [← coe_sum, ← EReal.coe_neg]
  simp only [← EReal.coe_neg]
  rw [← coe_sum, Finset.sum_neg_distrib]

theorem exp_coe (r : ℝ) : Ideal.exp (r : EReal) = (Real.exp r : EReal) := rfl
theorem exp_bot : Ideal.exp ⊥ = 0 := rfl

theorem div_coe_coe (a b : ℝ) (hb : b ≠ 0) : Ideal.div (a : EReal) (b : EReal) = ((a / b : ℝ) : EReal) := by
  unfold Ideal.div
  rw [if_neg (by exact_mod_cast hb), ← EReal.coe_inv, ← EReal.coe_mul]
  congr 1

section
variable {ι κ : Type} [Fintype ι] [Fintype κ]
variable (s : ι → EReal) (c : κ → EReal) (z : EReal) (f : ι → EReal) (g : κ → EReal)

/-- The row's largest score. -/
def top : EReal := max (max (Finset.univ.fold max ⊥ s) (Finset.univ.fold max ⊥ c)) z
/-- The exponential of a score less the largest one. -/
def ex (x : EReal) : EReal := Ideal.exp (x - top s c z)
/-- The sum of the exponentials. -/
def den : EReal := (∑ j, ex s c z (s j)) + (∑ k, ex s c z (c k)) + ex s c z z
/-- Its reciprocal. -/
def inv : EReal := Ideal.div 1 (den s c z)
/-- The probability of a slot of score `x`. -/
def pr (x : EReal) : EReal := ex s c z x * inv s c z
/-- The sum over the slots of probability times cotangent. -/
def tot : EReal := (∑ j, pr s c z (s j) * f j) + ∑ k, pr s c z (c k) * g k
/-- The gradient of the score `x` of a slot of cotangent `y`. -/
def gr (x y : EReal) : EReal := pr s c z x * (y - tot s c z f g)
/-- What the row takes off the sink's gradient. -/
def gZ : EReal := pr s c z z * tot s c z f g

variable {s c z f g}

/-- A fold of maxima of numbers below `⊤` is below `⊤`. -/
theorem fold_ne_top (hs : ∀ j, s j ≠ ⊤) : Finset.univ.fold max ⊥ s ≠ ⊤ := by
  rw [← lt_top_iff_ne_top, Finset.fold_max_lt]
  exact ⟨bot_lt_top, fun j _ => lt_top_iff_ne_top.2 (hs j)⟩

/-- The largest score of a row is finite and no less than the scores. -/
theorem top_real (hs : ∀ j, s j ≠ ⊤) (hc : ∀ k, IsR (c k)) (hz : IsR z) : IsR (top s c z) := by
  obtain ⟨w, rfl⟩ := hz
  have h1 : top s c (w : EReal) ≠ ⊤ := by
    rw [← lt_top_iff_ne_top]
    refine max_lt (max_lt (lt_top_iff_ne_top.2 (fold_ne_top hs)) (lt_top_iff_ne_top.2 (fold_ne_top fun k => ?_))) (EReal.coe_lt_top w)
    obtain ⟨r, hr⟩ := hc k
    rw [hr]; exact EReal.coe_ne_top r
  have h2 : top s c (w : EReal) ≠ ⊥ := by
    rw [← bot_lt_iff_ne_bot]
    exact lt_of_lt_of_le (EReal.bot_lt_coe w) (le_max_right _ _)
  exact ⟨(top s c (w : EReal)).toReal, (EReal.coe_toReal h1 h2).symm⟩

/-- The exponential of a score below `⊤` is finite and not negative. -/
theorem ex_real (hs : ∀ j, s j ≠ ⊤) (hc : ∀ k, IsR (c k)) (hz : IsR z) (x : EReal) (hx : x ≠ ⊤) :
    ∃ r : ℝ, 0 ≤ r ∧ ex s c z x = (r : EReal) := by
  obtain ⟨t, ht⟩ := top_real hs hc hz
  unfold ex
  rw [ht]
  induction x using EReal.rec with
  | bot => exact ⟨0, le_refl _, by rw [EReal.bot_sub]; rfl⟩
  | top => exact absurd rfl hx
  | coe r => exact ⟨Real.exp (r - t), (Real.exp_pos _).le, by rw [← EReal.coe_sub]; rfl⟩

theorem ex_bot (hs : ∀ j, s j ≠ ⊤) (hc : ∀ k, IsR (c k)) (hz : IsR z) : ex s c z ⊥ = 0 := by
  unfold ex
  rw [EReal.bot_sub]; rfl

/-- The exponentials' sum is a positive finite number. -/
theorem den_real (hs : ∀ j, s j ≠ ⊤) (hc : ∀ k, IsR (c k)) (hz : IsR z) :
    ∃ l : ℝ, 0 < l ∧ den s c z = (l : EReal) := by
  choose a ha0 ha using fun j => ex_real hs hc hz (s j) (hs j)
  have hc' : ∀ k, c k ≠ ⊤ := fun k => by obtain ⟨r, hr⟩ := hc k; rw [hr]; exact EReal.coe_ne_top r
  choose b hb0 hb using fun k => ex_real hs hc hz (c k) (hc' k)
  obtain ⟨t, ht⟩ := top_real hs hc hz
  obtain ⟨w, hw⟩ := hz
  refine ⟨(∑ j, a j) + (∑ k, b k) + Real.exp (w - t), ?_, ?_⟩
  · have h1 : 0 ≤ ∑ j, a j := Finset.sum_nonneg fun j _ => ha0 j
    have h2 : 0 ≤ ∑ k, b k := Finset.sum_nonneg fun k _ => hb0 k
    have := Real.exp_pos (w - t)
    linarith
  · unfold den
    simp only [ha, hb]
    rw [EReal.coe_add, EReal.coe_add, coe_sum, coe_sum]
    congr 1
    unfold ex
    rw [ht, hw, ← EReal.coe_sub]; rfl

/-- The probability of a score below `⊤` is finite. -/
theorem pr_real (hs : ∀ j, s j ≠ ⊤) (hc : ∀ k, IsR (c k)) (hz : IsR z) (x : EReal) (hx : x ≠ ⊤) : IsR (pr s c z x) := by
  obtain ⟨r, -, hr⟩ := ex_real hs hc hz x hx
  obtain ⟨l, hl, hl'⟩ := den_real hs hc hz
  unfold pr inv
  rw [hr, hl']
  refine IsR.mul ⟨r, rfl⟩ ⟨1 / l, ?_⟩
  exact div_coe_coe 1 l hl.ne'

theorem ne_top_of_real {x : EReal} (h : IsR x) : x ≠ ⊤ := by
  obtain ⟨r, rfl⟩ := h; exact EReal.coe_ne_top r

theorem tot_real (hs : ∀ j, s j ≠ ⊤) (hc : ∀ k, IsR (c k)) (hz : IsR z) (hf : ∀ j, IsR (f j)) (hg : ∀ k, IsR (g k)) :
    IsR (tot s c z f g) :=
  (IsR.sum _ _ fun j => (pr_real hs hc hz _ (hs j)).mul (hf j)).add
    (IsR.sum _ _ fun k => (pr_real hs hc hz _ (ne_top_of_real (hc k))).mul (hg k))

/-- A masked slot has probability zero, -/
theorem pr_bot (hs : ∀ j, s j ≠ ⊤) (hc : ∀ k, IsR (c k)) (hz : IsR z) : pr s c z ⊥ = 0 := by
  unfold pr; rw [ex_bot hs hc hz, zero_mul]

/-- and no gradient. -/
theorem gr_bot (hs : ∀ j, s j ≠ ⊤) (hc : ∀ k, IsR (c k)) (hz : IsR z) (y : EReal) : gr s c z f g ⊥ y = 0 := by
  unfold gr; rw [pr_bot hs hc hz, zero_mul]

theorem gZ_real (hs : ∀ j, s j ≠ ⊤) (hc : ∀ k, IsR (c k)) (hz : IsR z) (hf : ∀ j, IsR (f j)) (hg : ∀ k, IsR (g k)) :
    IsR (gZ s c z f g) :=
  (pr_real hs hc hz _ (ne_top_of_real hz)).mul (tot_real hs hc hz hf hg)

/-- The quotient of the exponential by the sum is the probability. -/
theorem ref_p (hs : ∀ j, s j ≠ ⊤) (hc : ∀ k, IsR (c k)) (hz : IsR z) (x : EReal) :
    Ideal.div (ex s c z x) (den s c z) = pr s c z x := by
  obtain ⟨l, hl, hl'⟩ := den_real hs hc hz
  unfold pr inv
  rw [Ideal.mul_one_div]
  rw [hl']
  exact_mod_cast hl.ne'

/-- Differentiation of the quotient: the sum over the slots of cotangent times `1 / den²` times exponential. -/
def refTot (s : ι → EReal) (c : κ → EReal) (z : EReal) (f : ι → EReal) (g : κ → EReal) : EReal :=
  (∑ j, f j * Ideal.div 1 (den s c z * den s c z) * ex s c z (s j)) +
    ∑ k, g k * Ideal.div 1 (den s c z * den s c z) * ex s c z (c k)

/-- The gradient of a score as differentiation of the quotient writes it is the kernel's. -/
theorem ref_d (hs : ∀ j, s j ≠ ⊤) (hc : ∀ k, IsR (c k)) (hz : IsR z) (hf : ∀ j, IsR (f j)) (hg : ∀ k, IsR (g k))
    (x y : EReal) (hx : x ≠ ⊤) (hy : IsR y) :
    (Ideal.div y (den s c z) + -refTot s c z f g) * ex s c z x = gr s c z f g x y := by
  choose a ha0 ha using fun j => ex_real hs hc hz (s j) (hs j)
  choose b hb0 hb using fun k => ex_real hs hc hz (c k) (ne_top_of_real (hc k))
  obtain ⟨l, hl, hl'⟩ := den_real hs hc hz
  obtain ⟨e, -, he⟩ := ex_real hs hc hz x hx
  choose f' hf' using hf
  choose g' hg' using hg
  obtain ⟨y', rfl⟩ := hy
  have hl0 : l ≠ 0 := hl.ne'
  have hll : l * l ≠ 0 := mul_ne_zero hl0 hl0
  have h1 : Ideal.div 1 ((l * l : ℝ) : EReal) = ((1 / (l * l) : ℝ) : EReal) := div_coe_coe 1 _ hll
  have h2 : Ideal.div 1 (l : EReal) = ((1 / l : ℝ) : EReal) := div_coe_coe 1 _ hl0
  unfold refTot gr tot pr inv
  simp only [ha, hb, hl', he, hf', hg', h1, h2, div_coe_coe _ _ hl0, ← EReal.coe_mul, ← coe_sum, ← EReal.coe_add,
    ← EReal.coe_neg, ← EReal.coe_sub]
  congr 1
  have e1 : ∑ j, f' j * (1 / (l * l)) * a j = (1 / l) * ∑ j, a j * (1 / l) * f' j := by
    rw [Finset.mul_sum]; refine Finset.sum_congr rfl fun j _ => ?_; field_simp
  have e2 : ∑ k, g' k * (1 / (l * l)) * b k = (1 / l) * ∑ k, b k * (1 / l) * g' k := by
    rw [Finset.mul_sum]; refine Finset.sum_congr rfl fun j _ => ?_; field_simp
  rw [e1, e2]
  field_simp
  ring

/-- The sink's slot, whose cotangent is zero. -/
theorem gr_sink (hs : ∀ j, s j ≠ ⊤) (hc : ∀ k, IsR (c k)) (hz : IsR z) (hf : ∀ j, IsR (f j)) (hg : ∀ k, IsR (g k)) :
    gr s c z f g z 0 = -gZ s c z f g := by
  obtain ⟨p, hp⟩ := pr_real hs hc hz z (ne_top_of_real hz)
  obtain ⟨t, ht⟩ := tot_real hs hc hz hf hg
  unfold gr gZ
  rw [hp, ht, zero_sub, mul_neg]

end

end Cert.Row

end
-- ==== Proof.Attn.Consts.lean ====
/- The two float constants that the kernel and the reference share besides 0 and 1. -/
module

public import Idealize.ShloMosaic.PureOps.Ideal

@[expose] public section

namespace Cert.Consts

open Idealize.ShloMosaic

/-- The pattern that a maximum starts from is −∞. -/
theorem bot : Ideal.ofBits .f32 0xFF800000#32 = ⊥ := by
  simp [Ideal.ofBits, Ideal.ieee]

/-- The scores' scale is one eighth. -/
theorem eighth : Ideal.ofBits .f32 0x3E000000#32 = ((1 / 8 : ℝ) : EReal) := by
  simp [Ideal.ofBits, Ideal.ieee, -EReal.coe_mul]; norm_num

/-- One. -/
theorem one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- +∞. -/
theorem top : Ideal.ofBits .f32 0x7F800000#32 = ⊤ := by
  simp [Ideal.ofBits, Ideal.ieee]

end Cert.Consts
-- ==== Proof.Attn.Half.lean ====
/- One half of the backward kernel's body: the four query heads of one key head, stacked in 512 rows. From the stacked
   queries `q`, cotangents `o`, local and context keys and values (128 lanes), the bias and the sink's column it computes
   the stacked query gradient, the key and value gradients of the block's slots, and the sink's column. Each is written
   down once in the kernel's operations and read at an index: a row of it is `Cert.Row`'s. -/
module

public import proofs.«01_k».proof.Proof.Gen.KernelIdeal.Skeleton
public import proofs.«01_k».proof.Proof.Attn.Row
public import proofs.«01_k».proof.Proof.Attn.Consts
public import Idealize.ShloMosaic.Lib.Pointwise

@[expose] public section

set_option maxRecDepth 16384

noncomputable section

namespace Cert.KernelIdeal.Attn

open Idealize.ShloMosaic Cert.KernelIdeal Cert.KernelIdeal.Gen

section
variable (b : FVec Ideal S512x384 .f32) (q o : FVec Ideal S512x128 .bf16) (kl vl : FVec Ideal S384x128 .bf16)
  (kc vc : FVec Ideal S256x128 .bf16) (z : FVec Ideal S512x1 .f32)

/-- The local scores, masked by the bias. -/
def sL : FVec Ideal S512x384 .f32 :=
  addf (matmul dot_S512x128_S384x128_S512x384_1_1_0_0_n_n none q kl (constant S512x384 .f32 0x00000000#32)) b
/-- The context scores. -/
def sC : FVec Ideal S512x256 .f32 :=
  matmul dot_S512x128_S256x128_S512x256_1_1_0_0_n_n none q kc (constant S512x256 .f32 0x00000000#32)
/-- The rows' largest scores. -/
def mx : FVec Ideal S512x1 .f32 :=
  maximumf (maximumf (shapeCast S512x1 (multiReduction .maximumf [1] S512 (sL b q kl) 0xFF800000#32 reduces_S512x384_S512 (.inl rfl) rfl) shapeCasts_S512_S512x1)
    (shapeCast S512x1 (multiReduction .maximumf [1] S512 (sC q kc) 0xFF800000#32 reduces_S512x256_S512 (.inl rfl) rfl) shapeCasts_S512_S512x1)) z
/-- The exponentials of the local scores, -/
def eL : FVec Ideal S512x384 .f32 := exp (subf (sL b q kl) (broadcastTo S512x384 (mx b q kl kc z) broadcasts_S512x1_S512x384))
/-- of the context scores -/
def eC : FVec Ideal S512x256 .f32 := exp (subf (sC q kc) (broadcastTo S512x256 (mx b q kl kc z) broadcasts_S512x1_S512x256))
/-- and of the sink's. -/
def eZ : FVec Ideal S512x1 .f32 := exp (subf z (mx b q kl kc z))
/-- The reciprocals of the rows' sums. -/
def iv : FVec Ideal S512x1 .f32 :=
  divf (broadcast S512x1 (Scalar.ofBits .f32 0x3F800000#32 : Ideal .f32))
    (addf (addf (shapeCast S512x1 (multiReduction .add [1] S512 (eL b q kl kc z) 0x00000000#32 reduces_S512x384_S512 (.inl rfl) rfl) shapeCasts_S512_S512x1)
      (shapeCast S512x1 (multiReduction .add [1] S512 (eC b q kl kc z) 0x00000000#32 reduces_S512x256_S512 (.inl rfl) rfl) shapeCasts_S512_S512x1)) (eZ b q kl kc z))
/-- The local probabilities -/
def pL : FVec Ideal S512x384 .f32 := mulf (eL b q kl kc z) (broadcastTo S512x384 (iv b q kl kc z) broadcasts_S512x1_S512x384)
/-- and the context's. -/
def pC : FVec Ideal S512x256 .f32 := mulf (eC b q kl kc z) (broadcastTo S512x256 (iv b q kl kc z) broadcasts_S512x1_S512x256)
/-- The probabilities' cotangents, local -/
def dpL : FVec Ideal S512x384 .f32 :=
  matmul dot_S512x128_S384x128_S512x384_1_1_0_0_n_n none o vl (constant S512x384 .f32 0x00000000#32)
/-- and of the context. -/
def dpC : FVec Ideal S512x256 .f32 :=
  matmul dot_S512x128_S256x128_S512x256_1_1_0_0_n_n none o vc (constant S512x256 .f32 0x00000000#32)
/-- The rows' sums of probability times cotangent. -/
def tt : FVec Ideal S512x1 .f32 :=
  addf (shapeCast S512x1 (multiReduction .add [1] S512 (mulf (pL b q kl kc z) (dpL o vl)) 0x00000000#32 reduces_S512x384_S512 (.inl rfl) rfl) shapeCasts_S512_S512x1)
    (shapeCast S512x1 (multiReduction .add [1] S512 (mulf (pC b q kl kc z) (dpC o vc)) 0x00000000#32 reduces_S512x256_S512 (.inl rfl) rfl) shapeCasts_S512_S512x1)
/-- The local scores' gradients -/
def dsL : FVec Ideal S512x384 .bf16 :=
  truncf .bf16 (mulf (pL b q kl kc z) (subf (dpL o vl) (broadcastTo S512x384 (tt b q o kl vl kc vc z) broadcasts_S512x1_S512x384))) bitsLt_bf16_f32
/-- and the context scores'. -/
def dsC : FVec Ideal S512x256 .bf16 :=
  truncf .bf16 (mulf (pC b q kl kc z) (subf (dpC o vc) (broadcastTo S512x256 (tt b q o kl vl kc vc z) broadcasts_S512x1_S512x256))) bitsLt_bf16_f32
/-- The gradient of the stacked queries. -/
def dQ : FVec Ideal S512x128 .f32 :=
  mulf (addf (matmul dot_S512x384_S384x128_S512x128_1_0_0_1_n_n none (dsL b q o kl vl kc vc z) kl (constant S512x128 .f32 0x00000000#32))
    (matmul dot_S512x256_S256x128_S512x128_1_0_0_1_n_n none (dsC b q o kl vl kc vc z) kc (constant S512x128 .f32 0x00000000#32)))
    (broadcast S512x128 (Scalar.ofBits .f32 0x3E000000#32 : Ideal .f32))
/-- A matrix of 128 lanes plus itself turned by 64 lanes. -/
def both384 (x : FVec Ideal S384x128 .f32) : FVec Ideal S384x128 .f32 := addf x (dynamicRotate 1 64#32 none x rotates_S384x128_d1)
def both256 (x : FVec Ideal S256x128 .f32) : FVec Ideal S256x128 .f32 := addf x (dynamicRotate 1 64#32 none x rotates_S256x128_d1)
/-- The gradients of the local keys, -/
def dKL : FVec Ideal S384x128 .f32 :=
  both384 (matmul dot_S512x384_S512x128_S384x128_0_0_1_1_n_n none (dsL b q o kl vl kc vc z) q (constant S384x128 .f32 0x00000000#32))
/-- the local values, -/
def dVL : FVec Ideal S384x128 .f32 :=
  both384 (matmul dot_S512x384_S512x128_S384x128_0_0_1_1_n_n none (truncf .bf16 (pL b q kl kc z) bitsLt_bf16_f32) o (constant S384x128 .f32 0x00000000#32))
/-- the context's keys -/
def dKC : FVec Ideal S256x128 .f32 :=
  both256 (matmul dot_S512x256_S512x128_S256x128_0_0_1_1_n_n none (dsC b q o kl vl kc vc z) q (constant S256x128 .f32 0x00000000#32))
/-- and values. -/
def dVC : FVec Ideal S256x128 .f32 :=
  both256 (matmul dot_S512x256_S512x128_S256x128_0_0_1_1_n_n none (truncf .bf16 (pC b q kl kc z) bitsLt_bf16_f32) o (constant S256x128 .f32 0x00000000#32))
/-- What each row takes off the sink's gradient. -/
def dZ : FVec Ideal S512x1 .f32 := mulf (mulf (eZ b q kl kc z) (iv b q kl kc z)) (tt b q o kl vl kc vc z)

/-! ## Read at an index -/

/-- Row `r`'s local scores, -/
def rowL (r : Fin 512) (j : Fin 384) : EReal := (∑ l : Fin 128, q (ix2 r l) * kl (ix2 j l)) + b (ix2 r j)
/-- its context scores -/
def rowC (r : Fin 512) (j : Fin 256) : EReal := ∑ l : Fin 128, q (ix2 r l) * kc (ix2 j l)
/-- and the cotangents of its probabilities. -/
def rowDL (r : Fin 512) (j : Fin 384) : EReal := ∑ l : Fin 128, o (ix2 r l) * vl (ix2 j l)
def rowDC (r : Fin 512) (j : Fin 256) : EReal := ∑ l : Fin 128, o (ix2 r l) * vc (ix2 j l)

theorem sL_apply (r : Fin 512) (j : Fin 384) : sL b q kl (ix2 r j) = rowL b q kl r j := by
  pointwise [sL, rowL]
theorem sC_apply (r : Fin 512) (j : Fin 256) : sC q kc (ix2 r j) = rowC q kc r j := by
  pointwise [sC, rowC]
theorem dpL_apply (r : Fin 512) (j : Fin 384) : dpL o vl (ix2 r j) = rowDL o vl r j := by
  pointwise [dpL, rowDL]
theorem dpC_apply (r : Fin 512) (j : Fin 256) : dpC o vc (ix2 r j) = rowDC o vc r j := by
  pointwise [dpC, rowDC]
theorem mx_apply (r : Fin 512) : mx b q kl kc z (ix2 r 0) = Row.top (rowL b q kl r) (rowC q kc r) (z (ix2 r 0)) := by
  pointwise [mx, Row.top, sL_apply, sC_apply, Consts.bot]
theorem eL_apply (r : Fin 512) (j : Fin 384) :
    eL b q kl kc z (ix2 r j) = Row.ex (rowL b q kl r) (rowC q kc r) (z (ix2 r 0)) (rowL b q kl r j) := by
  pointwise [eL, Row.ex, sL_apply, mx_apply]
theorem eC_apply (r : Fin 512) (j : Fin 256) :
    eC b q kl kc z (ix2 r j) = Row.ex (rowL b q kl r) (rowC q kc r) (z (ix2 r 0)) (rowC q kc r j) := by
  pointwise [eC, Row.ex, sC_apply, mx_apply]
theorem eZ_apply (r : Fin 512) :
    eZ b q kl kc z (ix2 r 0) = Row.ex (rowL b q kl r) (rowC q kc r) (z (ix2 r 0)) (z (ix2 r 0)) := by
  pointwise [eZ, Row.ex, mx_apply]
theorem iv_apply (r : Fin 512) :
    iv b q kl kc z (ix2 r 0) = Row.inv (rowL b q kl r) (rowC q kc r) (z (ix2 r 0)) := by
  pointwise [iv, Row.inv, Row.den, eL_apply, eC_apply, eZ_apply]

theorem pL_apply (r : Fin 512) (j : Fin 384) :
    pL b q kl kc z (ix2 r j) = Row.pr (rowL b q kl r) (rowC q kc r) (z (ix2 r 0)) (rowL b q kl r j) := by
  pointwise [pL, Row.pr, eL_apply, iv_apply]
theorem pC_apply (r : Fin 512) (j : Fin 256) :
    pC b q kl kc z (ix2 r j) = Row.pr (rowL b q kl r) (rowC q kc r) (z (ix2 r 0)) (rowC q kc r j) := by
  pointwise [pC, Row.pr, eC_apply, iv_apply]
theorem tt_apply (r : Fin 512) :
    tt b q o kl vl kc vc z (ix2 r 0)
      = Row.tot (rowL b q kl r) (rowC q kc r) (z (ix2 r 0)) (rowDL o vl r) (rowDC o vc r) := by
  pointwise [tt, Row.tot, pL_apply, pC_apply, dpL_apply, dpC_apply]
/-- The gradient of row `r`'s local score `j` -/
def grL (r : Fin 512) (j : Fin 384) : EReal :=
  Row.gr (rowL b q kl r) (rowC q kc r) (z (ix2 r 0)) (rowDL o vl r) (rowDC o vc r) (rowL b q kl r j) (rowDL o vl r j)
/-- and of its context score `j`. -/
def grC (r : Fin 512) (j : Fin 256) : EReal :=
  Row.gr (rowL b q kl r) (rowC q kc r) (z (ix2 r 0)) (rowDL o vl r) (rowDC o vc r) (rowC q kc r j) (rowDC o vc r j)
theorem dsL_apply (r : Fin 512) (j : Fin 384) :
    dsL b q o kl vl kc vc z (ix2 r j) = grL b q o kl vl kc vc z r j := by
  pointwise [dsL, grL, Row.gr, pL_apply, dpL_apply, tt_apply]
theorem dsC_apply (r : Fin 512) (j : Fin 256) :
    dsC b q o kl vl kc vc z (ix2 r j) = grC b q o kl vl kc vc z r j := by
  pointwise [dsC, grC, Row.gr, pC_apply, dpC_apply, tt_apply]
theorem dQ_apply (r : Fin 512) (l : Fin 128) :
    dQ b q o kl vl kc vc z (ix2 r l)
      = ((∑ j : Fin 384, grL b q o kl vl kc vc z r j * kl (ix2 j l)) + ∑ c : Fin 256, grC b q o kl vl kc vc z r c * kc (ix2 c l))
        * ((1 / 8 : ℝ) : EReal) := by
  pointwise [dQ, dsL_apply, dsC_apply, Consts.eighth]
/-- The lane 64 further on. -/
def opp (l : Fin 128) : Fin 128 := ⟨(l.val + 128 - 64) % 128, Nat.mod_lt _ (by decide)⟩
theorem both384_apply (x : FVec Ideal S384x128 .f32) (j : Fin 384) (l : Fin 128) :
    both384 x (ix2 j l) = x (ix2 j l) + x (ix2 j (opp l)) := by
  pointwise [both384, opp]
theorem both256_apply (x : FVec Ideal S256x128 .f32) (j : Fin 256) (l : Fin 128) :
    both256 x (ix2 j l) = x (ix2 j l) + x (ix2 j (opp l)) := by
  pointwise [both256, opp]
theorem dKL_apply (j : Fin 384) (l : Fin 128) :
    dKL b q o kl vl kc vc z (ix2 j l)
      = (∑ r : Fin 512, grL b q o kl vl kc vc z r j * q (ix2 r l)) + ∑ r : Fin 512, grL b q o kl vl kc vc z r j * q (ix2 r (opp l)) := by
  pointwise [dKL, both384_apply, dsL_apply]
theorem dKC_apply (j : Fin 256) (l : Fin 128) :
    dKC b q o kl vl kc vc z (ix2 j l)
      = (∑ r : Fin 512, grC b q o kl vl kc vc z r j * q (ix2 r l)) + ∑ r : Fin 512, grC b q o kl vl kc vc z r j * q (ix2 r (opp l)) := by
  pointwise [dKC, both256_apply, dsC_apply]
theorem dVL_apply (j : Fin 384) (l : Fin 128) :
    dVL b q o kl kc z (ix2 j l)
      = (∑ r : Fin 512, Row.pr (rowL b q kl r) (rowC q kc r) (z (ix2 r 0)) (rowL b q kl r j) * o (ix2 r l))
        + ∑ r : Fin 512, Row.pr (rowL b q kl r) (rowC q kc r) (z (ix2 r 0)) (rowL b q kl r j) * o (ix2 r (opp l)) := by
  pointwise [dVL, both384_apply, pL_apply]
theorem dVC_apply (j : Fin 256) (l : Fin 128) :
    dVC b q o kl kc z (ix2 j l)
      = (∑ r : Fin 512, Row.pr (rowL b q kl r) (rowC q kc r) (z (ix2 r 0)) (rowC q kc r j) * o (ix2 r l))
        + ∑ r : Fin 512, Row.pr (rowL b q kl r) (rowC q kc r) (z (ix2 r 0)) (rowC q kc r j) * o (ix2 r (opp l)) := by
  pointwise [dVC, both256_apply, pC_apply]
theorem dZ_apply (r : Fin 512) :
    dZ b q o kl vl kc vc z (ix2 r 0)
      = Row.gZ (rowL b q kl r) (rowC q kc r) (z (ix2 r 0)) (rowDL o vl r) (rowDC o vc r) := by
  pointwise [dZ, Row.gZ, Row.pr, eZ_apply, iv_apply, tt_apply]

end

end Cert.KernelIdeal.Attn

end
-- ==== Proof.Attn.Stack.lean ====
/- The operands of one half of the body, read at an index: the four query heads of a key head stacked in rows, three
   blocks of keys one below the other, the window's bias and the sinks' column. -/
module

public import proofs.«01_k».proof.Proof.Attn.Half
public import Idealize.ShloMosaic.Lib.Pipeline.ValueKit.Basic
public import Idealize.ShloMosaic.Lib.Pipeline.ValueKit.Tiles

@[expose] public section

set_option maxRecDepth 16384

noncomputable section

namespace Cert.KernelIdeal.Attn

open Idealize.ShloMosaic Cert.KernelIdeal Cert.KernelIdeal.Gen

/-! ## Comparisons of small numbers -/

theorem lt64 : ∀ l : Fin 128, IntOp.cmpi .slt (BitVec.ofNat 32 l.val) 64#32 = if l.val < 64 then 1#1 else 0#1 := by
  decide +kernel
theorem sel64 {α : Type} (l : Fin 128) (x y : α) :
    Scalar.select (IntOp.cmpi .slt (BitVec.ofNat 32 l.val) 64#32) x y = if l.val < 64 then x else y := by
  rw [lt64]; unfold Scalar.select; split <;> rfl

theorem band0 : ∀ r : Fin 512, IntOp.andi (IntOp.cmpi .sge (BitVec.ofNat 32 r.val) 0#32) (IntOp.cmpi .slt (BitVec.ofNat 32 r.val) 128#32)
    = if r.val / 128 = 0 then 1#1 else 0#1 := by decide +kernel
theorem band1 : ∀ r : Fin 512, IntOp.andi (IntOp.cmpi .sge (BitVec.ofNat 32 r.val) 128#32) (IntOp.cmpi .slt (BitVec.ofNat 32 r.val) 256#32)
    = if r.val / 128 = 1 then 1#1 else 0#1 := by decide +kernel
theorem band2 : ∀ r : Fin 512, IntOp.andi (IntOp.cmpi .sge (BitVec.ofNat 32 r.val) 256#32) (IntOp.cmpi .slt (BitVec.ofNat 32 r.val) 384#32)
    = if r.val / 128 = 2 then 1#1 else 0#1 := by decide +kernel
theorem band3 : ∀ r : Fin 512, IntOp.andi (IntOp.cmpi .sge (BitVec.ofNat 32 r.val) 384#32) (IntOp.cmpi .slt (BitVec.ofNat 32 r.val) 512#32)
    = if r.val / 128 = 3 then 1#1 else 0#1 := by decide +kernel
theorem sel_if {α : Type} (P : Prop) [Decidable P] (x y : α) :
    Scalar.select (if P then 1#1 else 0#1) x y = if P then x else y := by
  unfold Scalar.select; split <;> rfl

/-- Slot `l` of block `n`'s three blocks of keys is one of the latents. -/
def vld (n l : ℕ) : Prop := 2 ≤ n ∧ 384 ≤ 128 * n + l ∧ 128 * n + l < 8576
instance (n l : ℕ) : Decidable (vld n l) := by unfold vld; infer_instance

theorem vld_at : ∀ (n : Fin 66) (l : Fin 384),
    IntOp.andi
      (IntOp.cmpi .sge (IntOp.addi (Scalar.muli (Scalar.subi (BitVec.ofNat 32 n.val) 1#32) 128#32) (BitVec.ofNat 32 l.val))
        (Scalar.select (Scalar.cmpi .sge (Scalar.muli (BitVec.ofNat 32 n.val) 128#32) 256#32) 256#32 8448#32))
      (IntOp.cmpi .slt (IntOp.addi (Scalar.muli (Scalar.subi (BitVec.ofNat 32 n.val) 1#32) 128#32) (BitVec.ofNat 32 l.val)) 8448#32)
      = if vld n.val l.val then 1#1 else 0#1 := by
  decide +kernel

/-! ## The operands -/

/-- The block `x` of 8 heads as half `h` stacks it: row `r` is of head `r / 128`, at its own 64 of the pair's 128 lanes,
    zero at the other's. -/
def sqAt (x : S128x512.Idx → EReal) (h : Fin 2) (r : Fin 512) (l : Fin 128) : EReal :=
  if (l.val < 64 ↔ r.val / 128 % 2 = 0) then
    x (ix2 (⟨r.val % 128, by omega⟩ : Fin 128) (⟨h.val * 256 + r.val / 256 * 128 + l.val, by omega⟩ : Fin 512)) else 0
def sq (x : S128x512.Idx → EReal) (h : Fin 2) : S512x128.Idx → EReal := fun y => sqAt x h (y 0) (y 1)
/-- Three blocks one below the other, at half `h`'s lanes. -/
def skAt (x y z : S128x256.Idx → EReal) (h : Fin 2) (j : Fin 384) (l : Fin 128) : EReal :=
  let at_ : Fin 128 := ⟨j.val % 128, by omega⟩
  let ln : Fin 256 := ⟨h.val * 128 + l.val, by omega⟩
  if j.val < 128 then x (ix2 at_ ln) else if j.val < 256 then y (ix2 at_ ln) else z (ix2 at_ ln)
def sk (x y z : S128x256.Idx → EReal) (h : Fin 2) : S384x128.Idx → EReal := fun u => skAt x y z h (u 0) (u 1)
/-- A context block at half `h`'s lanes. -/
def scx (x : S256x256.Idx → EReal) (h : Fin 2) : S256x128.Idx → EReal := fun u =>
  x (ix2 (u 0) (⟨h.val * 128 + (u 1).val, by have : (u 1).val < 128 := (u 1).isLt; omega⟩ : Fin 256))
/-- The window's bias `x`, with the slots that are no latents masked. -/
def sb (x : S512x384.Idx → EReal) (n : ℕ) : S512x384.Idx → EReal := fun u => x u + if vld n (u 1).val then 0 else ⊥
/-- The sinks' column: `z` of the row's head. -/
def sz (z : Fin 4 → EReal) : S512x1.Idx → EReal := fun u => z ⟨(u 0).val / 128, by have : (u 0).val < 512 := (u 0).isLt; omega⟩

theorem ext2 {α : Type} {a b : ℕ} {x y : (⟨2, ![a, b]⟩ : Shape).Idx → α} (h : ∀ (i : Fin a) (j : Fin b), x (ix2 i j) = y (ix2 i j)) : x = y := by
  funext u
  have e : u = ix2 (u 0) (u 1) := by
    funext k; fin_cases k <;> rfl
  rw [e]; exact h _ _

theorem ix2_c {a b : ℕ} {i i' : Fin a} {j j' : Fin b} (hi : i.val = i'.val) (hj : j.val = j'.val) : ix2 i j = ix2 i' j' := by
  rw [Fin.ext hi, Fin.ext hj]

/-- A stack of four blocks read at an index. -/
theorem four {α : Type} (x y : S128x512.Idx → α) (w : α) (h : Fin 2) (r : Fin 512) (l : Fin 128)
    (f : Fin 512 → α) (p0 : ∀ hr : r.val < 128, f r = if l.val < 64 then x (ix2 (⟨r.val, hr⟩ : Fin 128) (⟨h.val * 256 + l.val, by omega⟩ : Fin 512)) else w)
    (p1 : ∀ hr : 128 ≤ r.val ∧ r.val < 256, f r = if l.val < 64 then w else x (ix2 (⟨r.val - 128, by omega⟩ : Fin 128) (⟨h.val * 256 + l.val, by omega⟩ : Fin 512)))
    (p2 : ∀ hr : 256 ≤ r.val ∧ r.val < 384, f r = if l.val < 64 then x (ix2 (⟨r.val - 256, by omega⟩ : Fin 128) (⟨h.val * 256 + 128 + l.val, by omega⟩ : Fin 512)) else w)
    (p3 : ∀ hr : 384 ≤ r.val, f r = if l.val < 64 then w else x (ix2 (⟨r.val - 384, by omega⟩ : Fin 128) (⟨h.val * 256 + 128 + l.val, by omega⟩ : Fin 512))) :
    f r = if (l.val < 64 ↔ r.val / 128 % 2 = 0) then
      x (ix2 (⟨r.val % 128, by omega⟩ : Fin 128) (⟨h.val * 256 + r.val / 256 * 128 + l.val, by omega⟩ : Fin 512)) else w := by
  have hr := r.isLt
  by_cases h0 : r.val < 128
  · rw [p0 h0]
    by_cases hl : l.val < 64
    · rw [if_pos hl, if_pos (by omega)]; exact congrArg x (ix2_c (by dsimp only; omega) (by dsimp only; omega))
    · rw [if_neg hl, if_neg (by omega)]
  by_cases h1 : r.val < 256
  · rw [p1 ⟨by omega, h1⟩]
    by_cases hl : l.val < 64
    · rw [if_pos hl, if_neg (by omega)]
    · rw [if_neg hl, if_pos (by omega)]; exact congrArg x (ix2_c (by dsimp only; omega) (by dsimp only; omega))
  by_cases h2 : r.val < 384
  · rw [p2 ⟨by omega, h2⟩]
    by_cases hl : l.val < 64
    · rw [if_pos hl, if_pos (by omega)]; exact congrArg x (ix2_c (by dsimp only; omega) (by dsimp only; omega))
    · rw [if_neg hl, if_neg (by omega)]
  · rw [p3 (by omega)]
    by_cases hl : l.val < 64
    · rw [if_pos hl, if_neg (by omega)]
    · rw [if_neg hl, if_pos (by omega)]; exact congrArg x (ix2_c (by dsimp only; omega) (by dsimp only; omega))

/-- The load of the pair of heads at lanes `128 p` on. -/
abbrev ldq {e : EltTy} (x : Vec Ideal S128x512 e) (o : ℕ) (h : ∀ a, (![0, o] : Fin 2 → ℕ) a + S128x128.size a ≤ S128x512.size a) : Vec Ideal S128x128 e :=
  View.ld (Val := Elt Ideal) (e' := e) x (Rect.unit (s := S128x512) ![0, o] ![128, 128] h)
/-- The load of a key head's 128 lanes of a block -/
abbrev ldk {e : EltTy} (x : Vec Ideal S128x256 e) (o : ℕ) (h : ∀ a, (![0, o] : Fin 2 → ℕ) a + S128x128.size a ≤ S128x256.size a) : Vec Ideal S128x128 e :=
  View.ld (Val := Elt Ideal) (e' := e) x (Rect.unit (s := S128x256) ![0, o] ![128, 128] h)
/-- and of the context. -/
abbrev ldc {e : EltTy} (x : Vec Ideal S256x256 e) (o : ℕ) (h : ∀ a, (![0, o] : Fin 2 → ℕ) a + S256x128.size a ≤ S256x256.size a) : Vec Ideal S256x128 e :=
  View.ld (Val := Elt Ideal) (e' := e) x (Rect.unit (s := S256x256) ![0, o] ![256, 128] h)

theorem q0_eq (x2 : Vec Ideal S128x512 .bf16) :
    k1_pay9 (F := Ideal) (iota .tc S128x128 32 [1] iota_S128x128_d1_w32)
      (ldq x2 0 inb_S128x512_S128x128_0_0) (ldq x2 128 inb_S128x512_S128x128_0_128) = sq x2 0 := by
  refine ext2 fun r l => ?_
  refine four x2 x2 0 0 r l (fun r => k1_pay9 (F := Ideal) (iota .tc S128x128 32 [1] iota_S128x128_d1_w32)
      (ldq x2 0 inb_S128x512_S128x128_0_0) (ldq x2 128 inb_S128x512_S128x128_0_128) (ix2 r l)) ?_ ?_ ?_ ?_
  all_goals
    intro hr
    pointwise [k1_pay9, ldq]
    simp only [sel64]
  · rw [dif_pos hr]; try simp
  · rw [dif_neg (by omega), dif_pos (by omega)]
  · rw [dif_neg (by omega), dif_neg (by omega), dif_pos (by omega)]; try simp [Nat.sub_sub]
  · rw [dif_neg (by omega), dif_neg (by omega), dif_neg (by omega)]; try simp [Nat.sub_sub]

theorem q1_eq (x2 : Vec Ideal S128x512 .bf16) :
    k1_pay57 (F := Ideal) (k1_pay52 (ldq x2 256 inb_S128x512_S128x128_0_256)) (k1_pay53 (ldq x2 256 inb_S128x512_S128x128_0_256))
      (k1_pay54 (ldq x2 384 inb_S128x512_S128x128_0_384)) (k1_pay55 (ldq x2 384 inb_S128x512_S128x128_0_384)) k1_pay56
      (Scalar.ofBits .f32 0x00000000#32) = sq x2 1 := by
  refine ext2 fun r l => ?_
  refine four x2 x2 0 1 r l (fun r => k1_pay57 (F := Ideal) (k1_pay52 (ldq x2 256 inb_S128x512_S128x128_0_256)) (k1_pay53 (ldq x2 256 inb_S128x512_S128x128_0_256))
      (k1_pay54 (ldq x2 384 inb_S128x512_S128x128_0_384)) (k1_pay55 (ldq x2 384 inb_S128x512_S128x128_0_384)) k1_pay56
      (Scalar.ofBits .f32 0x00000000#32) (ix2 r l)) ?_ ?_ ?_ ?_
  all_goals
    intro hr
    pointwise [k1_pay57, ldq, k1_pay52, k1_pay53, k1_pay54, k1_pay55, k1_pay56, k1_pay51]
    simp only [sel64]
  · rw [dif_pos hr]; try simp
  · rw [dif_neg (by omega), dif_pos (by omega)]
  · rw [dif_neg (by omega), dif_neg (by omega), dif_pos (by omega)]; try simp [Nat.sub_sub]
  · rw [dif_neg (by omega), dif_neg (by omega), dif_neg (by omega)]; try simp [Nat.sub_sub]

theorem o0_eq (x3 : Vec Ideal S128x512 .f32) :
    k1_pay14 (F := Ideal) (iota .tc S128x128 32 [1] iota_S128x128_d1_w32)
      (k1_pay10 (ldq x3 0 inb_S128x512_S128x128_0_0)) (k1_pay11 (ldq x3 0 inb_S128x512_S128x128_0_0))
      (ldq x3 128 inb_S128x512_S128x128_0_128) (k1_pay12 (ldq x3 128 inb_S128x512_S128x128_0_128)) k1_pay13 = sq x3 0 := by
  refine ext2 fun r l => ?_
  refine four x3 x3 0 0 r l (fun r => k1_pay14 (F := Ideal) (iota .tc S128x128 32 [1] iota_S128x128_d1_w32)
      (k1_pay10 (ldq x3 0 inb_S128x512_S128x128_0_0)) (k1_pay11 (ldq x3 0 inb_S128x512_S128x128_0_0))
      (ldq x3 128 inb_S128x512_S128x128_0_128) (k1_pay12 (ldq x3 128 inb_S128x512_S128x128_0_128)) k1_pay13 (ix2 r l)) ?_ ?_ ?_ ?_
  all_goals
    intro hr
    pointwise [k1_pay14, ldq, k1_pay10, k1_pay11, k1_pay12, k1_pay13]
    simp only [sel64]
  · rw [dif_pos hr]; try simp
  · rw [dif_neg (by omega), dif_pos (by omega)]
  · rw [dif_neg (by omega), dif_neg (by omega), dif_pos (by omega)]; try simp [Nat.sub_sub]
  · rw [dif_neg (by omega), dif_neg (by omega), dif_neg (by omega)]; try simp [Nat.sub_sub]

theorem o1_eq (x3 : Vec Ideal S128x512 .f32) :
    k1_pay58 (F := Ideal) (ldq x3 256 inb_S128x512_S128x128_0_256) (ldq x3 384 inb_S128x512_S128x128_0_384) = sq x3 1 := by
  refine ext2 fun r l => ?_
  refine four x3 x3 0 1 r l (fun r => k1_pay58 (F := Ideal) (ldq x3 256 inb_S128x512_S128x128_0_256)
    (ldq x3 384 inb_S128x512_S128x128_0_384) (ix2 r l)) ?_ ?_ ?_ ?_
  all_goals
    intro hr
    pointwise [k1_pay58, ldq]
    simp only [sel64]
  · rw [dif_pos hr]; try simp
  · rw [dif_neg (by omega), dif_pos (by omega)]
  · rw [dif_neg (by omega), dif_neg (by omega), dif_pos (by omega)]; try simp [Nat.sub_sub]
  · rw [dif_neg (by omega), dif_neg (by omega), dif_neg (by omega)]; try simp [Nat.sub_sub]

/-- A stack of three blocks read at an index. -/
theorem three {α : Type} (x y z : Fin 128 → α) (j : Fin 384) :
    (if hj : j.val < 128 then x ⟨j.val, hj⟩ else if hj' : j.val - 128 < 128 then y ⟨j.val - 128, hj'⟩ else z ⟨j.val - 128 - 128, by omega⟩)
      = if j.val < 128 then x ⟨j.val % 128, by omega⟩ else if j.val < 256 then y ⟨j.val % 128, by omega⟩ else z ⟨j.val % 128, by omega⟩ := by
  by_cases h0 : j.val < 128
  · rw [dif_pos h0, if_pos h0]; exact congrArg x (Fin.ext (by dsimp only; omega))
  by_cases h1 : j.val < 256
  · rw [dif_neg h0, dif_pos (by omega), if_neg h0, if_pos h1]; exact congrArg y (Fin.ext (by dsimp only; omega))
  · rw [dif_neg h0, dif_neg (by omega), if_neg h0, if_neg h1]; exact congrArg z (Fin.ext (by dsimp only; omega))

theorem kl0_eq (x4 x5 x6 : Vec Ideal S128x256 .bf16) :
    k1_pay15 (F := Ideal) (ldk x4 0 inb_S128x256_S128x128_0_0) (ldk x5 0 inb_S128x256_S128x128_0_0) (ldk x6 0 inb_S128x256_S128x128_0_0)
      = sk x4 x5 x6 0 := by
  refine ext2 fun j l => ?_
  refine Eq.trans ?_ (three (fun a => x4 (ix2 a (⟨0 * 128 + l.val, by omega⟩ : Fin 256))) (fun a => x5 (ix2 a (⟨0 * 128 + l.val, by omega⟩ : Fin 256)))
    (fun a => x6 (ix2 a (⟨0 * 128 + l.val, by omega⟩ : Fin 256))) j)
  pointwise [k1_pay15, ldk]
theorem vl0_eq (x4 x5 x6 : Vec Ideal S128x256 .bf16) :
    k1_pay16 (F := Ideal) (ldk x4 0 inb_S128x256_S128x128_0_0) (ldk x5 0 inb_S128x256_S128x128_0_0) (ldk x6 0 inb_S128x256_S128x128_0_0)
      = sk x4 x5 x6 0 := kl0_eq x4 x5 x6
theorem kl1_eq (x4 x5 x6 : Vec Ideal S128x256 .bf16) :
    k1_pay59 (F := Ideal) (ldk x4 128 inb_S128x256_S128x128_0_128) (ldk x5 128 inb_S128x256_S128x128_0_128) (ldk x6 128 inb_S128x256_S128x128_0_128)
      = sk x4 x5 x6 1 := by
  refine ext2 fun j l => ?_
  refine Eq.trans ?_ (three (fun a => x4 (ix2 a (⟨1 * 128 + l.val, by omega⟩ : Fin 256))) (fun a => x5 (ix2 a (⟨1 * 128 + l.val, by omega⟩ : Fin 256)))
    (fun a => x6 (ix2 a (⟨1 * 128 + l.val, by omega⟩ : Fin 256))) j)
  pointwise [k1_pay59, ldk]
theorem vl1_eq (x4 x5 x6 : Vec Ideal S128x256 .bf16) :
    k1_pay62 (F := Ideal) (k1_pay60 (ldk x4 128 inb_S128x256_S128x128_0_128)) (k1_pay61 (ldk x5 128 inb_S128x256_S128x128_0_128)) (ldk x6 128 inb_S128x256_S128x128_0_128)
      = sk x4 x5 x6 1 := kl1_eq x4 x5 x6

theorem kc0_eq (x7 : Vec Ideal S256x256 .bf16) : k1_pay17 (F := Ideal) (ldc x7 0 inb_S256x256_S256x128_0_0) = scx x7 0 := by
  refine ext2 fun j l => ?_
  pointwise [k1_pay17, ldc, scx]
theorem vc0_eq (x7 : Vec Ideal S256x256 .bf16) : k1_pay18 (F := Ideal) (ldc x7 0 inb_S256x256_S256x128_0_0) = scx x7 0 := kc0_eq x7
theorem kc1_eq (x7 : Vec Ideal S256x256 .bf16) : k1_pay63 (F := Ideal) (ldc x7 128 inb_S256x256_S256x128_0_128) = scx x7 1 := by
  refine ext2 fun j l => ?_
  pointwise [k1_pay63, ldc, scx]
theorem vc1_eq (x7 : Vec Ideal S256x256 .bf16) : k1_pay64 (F := Ideal) (ldc x7 128 inb_S256x256_S256x128_0_128) = scx x7 1 := kc1_eq x7

theorem mask_bot : (Named.named κ "mask" 0xF149F2CA#32 : Ideal .f32) = ⊥ := rfl

theorem b_eq (i : grid1.Coords) (x1 : Vec Ideal S512x384 .f32) : k1_pay8 (F := Ideal) i x1 = sb x1 (i 1).val := by
  refine ext2 fun r l => ?_
  pointwise [k1_pay8, sb]
  refine congrArg (x1 (ix2 r l) + ·) ?_
  refine Eq.trans ?_ (sel_if (vld (i 1).val l.val) 0 ⊥)
  rw [← vld_at (i 1) l]
  rfl

theorem four_if (z0 z1 z2 z3 : EReal) (r : Fin 512) :
    (if r.val / 128 = 3 then z3 else if r.val / 128 = 2 then z2 else if r.val / 128 = 1 then z1 else if r.val / 128 = 0 then z0 else 0)
      = (![z0, z1, z2, z3] : Fin 4 → EReal) ⟨r.val / 128, by omega⟩ := by
  have h : ∀ g : Fin 4, (if g.val = 3 then z3 else if g.val = 2 then z2 else if g.val = 1 then z1 else if g.val = 0 then z0 else 0)
      = (![z0, z1, z2, z3] : Fin 4 → EReal) g := by
    intro g; fin_cases g <;> rfl
  exact h ⟨r.val / 128, by omega⟩

theorem z0_eq (z0 z1 z2 z3 : Ideal .f32) :
    k1_pay21 (F := Ideal) (iota .tc S512x1 32 [0] iota_S512x1_d0_w32) (k1_pay19 z0) k1_pay20 256#32 z1 z2 z3
      = sz (![z0, z1, z2, z3]) := by
  refine ext2 fun r o => ?_
  refine Eq.trans ?_ (four_if z0 z1 z2 z3 r)
  obtain rfl : o = 0 := Subsingleton.elim _ _
  pointwise [k1_pay21, k1_pay19, k1_pay20]
  simp only [band0, band1, band2, band3, sel_if]
theorem z1_eq (z0 z1 z2 z3 : Ideal .f32) :
    k1_pay67 (F := Ideal) (k1_pay65 z0 z1 z2) k1_pay66 z3 = sz (![z0, z1, z2, z3]) := by
  refine ext2 fun r o => ?_
  refine Eq.trans ?_ (four_if z0 z1 z2 z3 r)
  obtain rfl : o = 0 := Subsingleton.elim _ _
  pointwise [k1_pay67, k1_pay65, k1_pay66]
  simp only [band0, band1, band2, band3, sel_if]

end Cert.KernelIdeal.Attn

end
-- ==== Proof.Attn.Pay.lean ====
/- The body's payloads, half by half: each is the half's own quantity of `Half`. -/
module

public import proofs.«01_k».proof.Proof.Attn.Stack

@[expose] public section

set_option maxRecDepth 16384

noncomputable section

namespace Cert.KernelIdeal.Attn

open Idealize.ShloMosaic Cert.KernelIdeal Cert.KernelIdeal.Gen

section Chain
variable (b : FVec Ideal S512x384 .f32) (q o : FVec Ideal S512x128 .bf16) (kl vl : FVec Ideal S384x128 .bf16)
  (kc vc : FVec Ideal S256x128 .bf16) (z : FVec Ideal S512x1 .f32)
  (v97 : IVec S512x1 32) (v108 : FVec Ideal S512x1 .f32) (v110 : IVec S512x1 1) (c : BitVec 32) (z1 z2 z3 : Ideal .f32)
  (v393 : FVec Ideal S512x1 .f32) (v398 : IVec S512x1 1) (v401 : Ideal .f32)

/-- The rows' sums of local exponentials. -/
def sumL : FVec Ideal S512x1 .f32 :=
  shapeCast S512x1 (multiReduction .add [1] S512 (eL b q kl kc z) 0x00000000#32 reduces_S512x384_S512 (.inl rfl) rfl) shapeCasts_S512_S512x1
/-- The rows' sums spread over the context's scores. -/
def ttC : FVec Ideal S512x256 .f32 := broadcastTo S512x256 (tt b q o kl vl kc vc z) broadcasts_S512x1_S512x256

/-! ### The first half -/

theorem pay25_eq : k1_pay25 (F := Ideal) b q kl kc v97 v108 v110 c z1 z2 z3 = eL b q kl kc (k1_pay21 v97 v108 v110 c z1 z2 z3) := rfl
theorem pay26_eq : k1_pay26 (F := Ideal) b q kl kc v97 v108 v110 c z1 z2 z3 = eC b q kl kc (k1_pay21 v97 v108 v110 c z1 z2 z3) := rfl
theorem pay27_eq : k1_pay27 (F := Ideal) b q kl kc v97 v108 v110 c z1 z2 z3 = eZ b q kl kc (k1_pay21 v97 v108 v110 c z1 z2 z3) := rfl
theorem pay28_eq : k1_pay28 (F := Ideal) b q kl kc v97 v108 v110 c z1 z2 z3 = sumL b q kl kc (k1_pay21 v97 v108 v110 c z1 z2 z3) := rfl
theorem pay29_eq : k1_pay29 (F := Ideal) (eC b q kl kc z) (eZ b q kl kc z) (sumL b q kl kc z) = iv b q kl kc z := rfl
theorem pay30_eq : k1_pay30 (F := Ideal) (eL b q kl kc z) (eC b q kl kc z) (eZ b q kl kc z) (sumL b q kl kc z) = pL b q kl kc z := rfl
theorem pay31_eq : k1_pay31 (F := Ideal) (eC b q kl kc z) (eZ b q kl kc z) (sumL b q kl kc z) = pC b q kl kc z := rfl
theorem pay34_eq : k1_pay34 (F := Ideal) o vl vc (eL b q kl kc z) (eC b q kl kc z) (eZ b q kl kc z) (sumL b q kl kc z) = tt b q o kl vl kc vc z := rfl
theorem pay35_eq : k1_pay35 (F := Ideal) o vl vc (eL b q kl kc z) (eC b q kl kc z) (eZ b q kl kc z) (sumL b q kl kc z) = dsL b q o kl vl kc vc z := rfl
theorem pay36_eq : k1_pay36 (F := Ideal) o vl vc (eL b q kl kc z) (eC b q kl kc z) (eZ b q kl kc z) (sumL b q kl kc z) = dsC b q o kl vl kc vc z := rfl
theorem pay37_eq : k1_pay37 (F := Ideal) o kl vl kc vc (eL b q kl kc z) (eC b q kl kc z) (eZ b q kl kc z) (sumL b q kl kc z) = dQ b q o kl vl kc vc z := rfl
theorem pay40_eq : k1_pay40 (F := Ideal) q (dsL b q o kl vl kc vc z) = dKL b q o kl vl kc vc z := rfl
theorem pay41_eq : k1_pay41 (F := Ideal) o (pL b q kl kc z) = dVL b q o kl kc z := rfl
theorem pay42_eq : k1_pay42 (F := Ideal) q (dsC b q o kl vl kc vc z) = dKC b q o kl vl kc vc z := rfl
theorem pay43_eq : k1_pay43 (F := Ideal) o (pC b q kl kc z) = dVC b q o kl kc z := rfl
theorem pay44_eq : k1_pay44 (F := Ideal) (eZ b q kl kc z) (iv b q kl kc z) (tt b q o kl vl kc vc z) = dZ b q o kl vl kc vc z := rfl

/-! ### The second half -/

theorem pay73_eq : k1_pay73 (F := Ideal) b q kl kc v393 v398 v401 = eZ b q kl kc (k1_pay67 v393 v398 v401) := rfl
theorem pay74_eq : k1_pay74 (F := Ideal) b q kl kc v393 v398 v401 = iv b q kl kc (k1_pay67 v393 v398 v401) := rfl
theorem pay75_eq : k1_pay75 (F := Ideal) b q kl kc v393 v398 v401 = pL b q kl kc (k1_pay67 v393 v398 v401) := rfl
theorem pay76_eq : k1_pay76 (F := Ideal) b q kl kc v393 v398 v401 = pC b q kl kc (k1_pay67 v393 v398 v401) := rfl
theorem pay78_eq : k1_pay78 (F := Ideal) o vc = dpC o vc := rfl
theorem pay79_eq : k1_pay79 (F := Ideal) b q o kl vl kc vc v393 v398 v401 = tt b q o kl vl kc vc (k1_pay67 v393 v398 v401) := rfl
theorem pay80_eq : k1_pay80 (F := Ideal) b q o kl vl kc vc v393 v398 v401 = dsL b q o kl vl kc vc (k1_pay67 v393 v398 v401) := rfl
theorem pay81_eq : k1_pay81 (F := Ideal) b q o kl vl kc vc v393 v398 v401 = ttC b q o kl vl kc vc (k1_pay67 v393 v398 v401) := rfl
theorem pay82_eq : k1_pay82 (F := Ideal) (pC b q kl kc z) (dpC o vc) (ttC b q o kl vl kc vc z) = dsC b q o kl vl kc vc z := rfl
theorem pay83_eq : k1_pay83 (F := Ideal) kl kc (pC b q kl kc z) (dpC o vc) (dsL b q o kl vl kc vc z) (ttC b q o kl vl kc vc z) = dQ b q o kl vl kc vc z := rfl
theorem pay86_eq : k1_pay86 (F := Ideal) q (dsL b q o kl vl kc vc z) = dKL b q o kl vl kc vc z := rfl
theorem pay87_eq : k1_pay87 (F := Ideal) o (pL b q kl kc z) = dVL b q o kl kc z := rfl
theorem pay88_eq : k1_pay88 (F := Ideal) q (pC b q kl kc z) (dpC o vc) (ttC b q o kl vl kc vc z) = dKC b q o kl vl kc vc z := rfl
theorem pay89_eq : k1_pay89 (F := Ideal) o (pC b q kl kc z) = dVC b q o kl kc z := rfl
theorem pay90_eq : k1_pay90 (F := Ideal) (eZ b q kl kc z) (iv b q kl kc z) (tt b q o kl vl kc vc z) = dZ b q o kl vl kc vc z := rfl

/-! ### The stores -/

/-- The pair `p` of the stacked heads, put back side by side: 128 rows of 64 lanes each. -/
def tileQ (D : S512x128.Idx → EReal) (p : Fin 2) : S128x128.Idx → EReal := fun u =>
  D (ix2 (⟨(2 * p.val + if (u 1).val < 64 then 0 else 1) * 128 + (u 0).val, by have : (u 0).val < 128 := (u 0).isLt; split <;> omega⟩ : Fin 512) (u 1))

theorem tile_sel (D : S512x128.Idx → EReal) (p : Fin 2) (r l : Fin 128) (h0 : 2 * p.val * 128 + r.val < 512) (h1 : (2 * p.val + 1) * 128 + r.val < 512) :
    (if l.val < 64 then D (ix2 (⟨2 * p.val * 128 + r.val, h0⟩ : Fin 512) l) else D (ix2 (⟨(2 * p.val + 1) * 128 + r.val, h1⟩ : Fin 512) l))
      = tileQ D p (ix2 r l) := by
  by_cases h : l.val < 64
  · rw [if_pos h]; exact congrArg D (ix2_c (by show _ = (2 * p.val + if l.val < 64 then 0 else 1) * 128 + r.val; rw [if_pos h]; rfl) rfl)
  · rw [if_neg h]; exact congrArg D (ix2_c (by show _ = (2 * p.val + if l.val < 64 then 0 else 1) * 128 + r.val; rw [if_neg h]) rfl)
theorem pay38_eq : k1_pay38 (F := Ideal) o kl vl kc vc (eL b q kl kc z) (eC b q kl kc z) (eZ b q kl kc z) (sumL b q kl kc z) = tileQ (dQ b q o kl vl kc vc z) 0 := by
  refine ext2 fun r l => ?_
  refine Eq.trans ?_ (tile_sel (dQ b q o kl vl kc vc z) 0 r l (by show 2 * 0 * 128 + r.val < 512; omega) (by show (2 * 0 + 1) * 128 + r.val < 512; omega))
  unfold k1_pay38
  rw [pay37_eq]
  generalize dQ b q o kl vl kc vc z = D
  pointwise
  simp only [sel64]
theorem pay39_eq : k1_pay39 (F := Ideal) o kl vl kc vc (eL b q kl kc z) (eC b q kl kc z) (eZ b q kl kc z) (sumL b q kl kc z) = tileQ (dQ b q o kl vl kc vc z) 1 := by
  refine ext2 fun r l => ?_
  refine Eq.trans ?_ (tile_sel (dQ b q o kl vl kc vc z) 1 r l (by show 2 * 1 * 128 + r.val < 512; omega) (by show (2 * 1 + 1) * 128 + r.val < 512; omega))
  unfold k1_pay39
  rw [pay37_eq]
  generalize dQ b q o kl vl kc vc z = D
  pointwise
  simp only [sel64]
theorem pay84_eq : k1_pay84 (F := Ideal) kl kc (pC b q kl kc z) (dpC o vc) (dsL b q o kl vl kc vc z) (ttC b q o kl vl kc vc z) = tileQ (dQ b q o kl vl kc vc z) 0 := by
  refine ext2 fun r l => ?_
  refine Eq.trans ?_ (tile_sel (dQ b q o kl vl kc vc z) 0 r l (by show 2 * 0 * 128 + r.val < 512; omega) (by show (2 * 0 + 1) * 128 + r.val < 512; omega))
  unfold k1_pay84
  rw [pay83_eq]
  generalize dQ b q o kl vl kc vc z = D
  pointwise
  simp only [sel64]
theorem pay85_eq : k1_pay85 (F := Ideal) kl kc (pC b q kl kc z) (dpC o vc) (dsL b q o kl vl kc vc z) (ttC b q o kl vl kc vc z) = tileQ (dQ b q o kl vl kc vc z) 1 := by
  refine ext2 fun r l => ?_
  refine Eq.trans ?_ (tile_sel (dQ b q o kl vl kc vc z) 1 r l (by show 2 * 1 * 128 + r.val < 512; omega) (by show (2 * 1 + 1) * 128 + r.val < 512; omega))
  unfold k1_pay85
  rw [pay83_eq]
  generalize dQ b q o kl vl kc vc z = D
  pointwise
  simp only [sel64]

/-- What head `n` of the stacked four takes off the sink's gradient. -/
def sumZ (D : S512x1.Idx → EReal) (n : Fin 4) : EReal := ∑ r : Fin 128, D (ix2 (⟨n.val * 128 + r.val, by omega⟩ : Fin 512) 0)
/-- The sinks' accumulator with head `a`'s entry lowered by `s`. -/
def stepZ (a : ℕ) (s : EReal) (old : S8x128.Idx → EReal) : S8x128.Idx → EReal := fun u =>
  old u + if (u 0).val = 0 ∧ (u 1).val = a then 0 - s else 0
/-- The first head of half `h`'s four, as the kernel writes it down. -/
abbrev base (i : grid1.Coords) (h : BitVec 32) : BitVec 32 := Scalar.muli (Scalar.addi (Scalar.muli 2#32 (BitVec.ofNat 32 (i 0).val)) h) 4#32
theorem at00 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 0#32) 4#32) 0#32))
      = if a.val = 0 ∧ l.val = 8 * i.val + 0 then 1#1 else 0#1 := by decide +kernel
theorem at01 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 0#32) 4#32) 1#32))
      = if a.val = 0 ∧ l.val = 8 * i.val + 1 then 1#1 else 0#1 := by decide +kernel
theorem at02 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 0#32) 4#32) 2#32))
      = if a.val = 0 ∧ l.val = 8 * i.val + 2 then 1#1 else 0#1 := by decide +kernel
theorem at03 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 0#32) 4#32) 3#32))
      = if a.val = 0 ∧ l.val = 8 * i.val + 3 then 1#1 else 0#1 := by decide +kernel
theorem at10 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 1#32) 4#32) 0#32))
      = if a.val = 0 ∧ l.val = 8 * i.val + 4 then 1#1 else 0#1 := by decide +kernel
theorem at11 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 1#32) 4#32) 1#32))
      = if a.val = 0 ∧ l.val = 8 * i.val + 5 then 1#1 else 0#1 := by decide +kernel
theorem at12 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 1#32) 4#32) 2#32))
      = if a.val = 0 ∧ l.val = 8 * i.val + 6 then 1#1 else 0#1 := by decide +kernel
theorem at13 : ∀ (i : Fin 2) (a : Fin 8) (l : Fin 128),
    IntOp.andi (IntOp.cmpi .eq (BitVec.ofNat 32 a.val) 0#32)
      (IntOp.cmpi .eq (BitVec.ofNat 32 l.val) (Scalar.addi (Scalar.muli (Scalar.addi (Scalar.muli 2#32 (BitVec.ofNat 32 i.val)) 1#32) 4#32) 3#32))
      = if a.val = 0 ∧ l.val = 8 * i.val + 7 then 1#1 else 0#1 := by decide +kernel

variable (i : grid1.Coords) (old : FVec Ideal S8x128 .f32) (D : FVec Ideal S512x1 .f32)
theorem pay45_eq : k1_pay45 (F := Ideal) (iota .tc S8x128 32 [0] iota_S8x128_d0_w32) (iota .tc S8x128 32 [1] iota_S8x128_d1_w32) (base i 0#32) (eZ b q kl kc z) (iv b q kl kc z) (tt b q o kl vl kc vc z) old = stepZ (8 * (i 0).val + 0) (sumZ (dZ b q o kl vl kc vc z) 0) old := by
  refine ext2 fun a l => ?_
  unfold k1_pay45
  rw [pay44_eq]
  generalize dZ b q o kl vl kc vc z = D
  pointwise [stepZ, sumZ]
  rw [at00 (i 0) a l, sel_if]
  try simp [Fin.sum_univ_one]
theorem pay46_eq : k1_pay46 (F := Ideal) (eZ b q kl kc z) (iv b q kl kc z) (tt b q o kl vl kc vc z) = sumZ (dZ b q o kl vl kc vc z) 1 := by
  unfold k1_pay46
  rw [pay44_eq]
  generalize dZ b q o kl vl kc vc z = D
  pointwise [sumZ]
  try simp [Fin.sum_univ_one]
theorem pay47_eq : k1_pay47 (F := Ideal) (iota .tc S8x128 32 [0] iota_S8x128_d0_w32) (iota .tc S8x128 32 [1] iota_S8x128_d1_w32) (base i 0#32) (sumZ D 1) old = stepZ (8 * (i 0).val + 1) (sumZ D 1) old := by
  refine ext2 fun a l => ?_
  unfold k1_pay47
  pointwise [stepZ, sumZ]
  rw [at01 (i 0) a l, sel_if]
  try simp [Fin.sum_univ_one]
theorem pay48_eq : k1_pay48 (F := Ideal) (iota .tc S8x128 32 [0] iota_S8x128_d0_w32) (iota .tc S8x128 32 [1] iota_S8x128_d1_w32) (base i 0#32) D old = stepZ (8 * (i 0).val + 2) (sumZ D 2) old := by
  refine ext2 fun a l => ?_
  unfold k1_pay48
  pointwise [stepZ, sumZ]
  rw [at02 (i 0) a l, sel_if]
  try simp [Fin.sum_univ_one]
theorem pay49_eq : k1_pay49 (F := Ideal) D = 0 - sumZ D 3 := by
  unfold k1_pay49
  pointwise [sumZ]
  try simp [Fin.sum_univ_one]
theorem pay50_eq : k1_pay50 (F := Ideal) (iota .tc S8x128 32 [0] iota_S8x128_d0_w32) (iota .tc S8x128 32 [1] iota_S8x128_d1_w32) (base i 0#32) (0 - sumZ D 3) old = stepZ (8 * (i 0).val + 3) (sumZ D 3) old := by
  refine ext2 fun a l => ?_
  unfold k1_pay50
  pointwise [stepZ, sumZ]
  rw [at03 (i 0) a l, sel_if]
  try simp [Fin.sum_univ_one]
theorem pay92_eq : k1_pay92 (F := Ideal) (iota .tc S8x128 32 [0] iota_S8x128_d0_w32) (iota .tc S8x128 32 [1] iota_S8x128_d1_w32) (base i 1#32) (k1_pay91 (eZ b q kl kc z) (iv b q kl kc z) (tt b q o kl vl kc vc z)) old
    = stepZ (8 * (i 0).val + 4) (sumZ (dZ b q o kl vl kc vc z) 0) old := by
  refine ext2 fun a l => ?_
  unfold k1_pay92 k1_pay91
  rw [pay90_eq]
  generalize dZ b q o kl vl kc vc z = D
  pointwise [stepZ, sumZ]
  rw [at10 (i 0) a l, sel_if]
  try simp [Fin.sum_univ_one]
theorem pay93_eq : k1_pay93 (F := Ideal) (iota .tc S8x128 32 [0] iota_S8x128_d0_w32) (iota .tc S8x128 32 [1] iota_S8x128_d1_w32) (base i 1#32) D old = stepZ (8 * (i 0).val + 5) (sumZ D 1) old := by
  refine ext2 fun a l => ?_
  unfold k1_pay93
  pointwise [stepZ, sumZ]
  rw [at11 (i 0) a l, sel_if]
  try simp [Fin.sum_univ_one]
theorem pay94_eq : k1_pay94 (F := Ideal) D = sumZ D 2 := by
  unfold k1_pay94
  pointwise [sumZ]
  try simp [Fin.sum_univ_one]
theorem pay95_eq : k1_pay95 (F := Ideal) (iota .tc S8x128 32 [0] iota_S8x128_d0_w32) (iota .tc S8x128 32 [1] iota_S8x128_d1_w32) (base i 1#32) (sumZ D 2) old = stepZ (8 * (i 0).val + 6) (sumZ D 2) old := by
  refine ext2 fun a l => ?_
  unfold k1_pay95
  pointwise [stepZ, sumZ]
  rw [at12 (i 0) a l, sel_if]
  try simp [Fin.sum_univ_one]
theorem pay96_eq : k1_pay96 (F := Ideal) (iota .tc S8x128 32 [0] iota_S8x128_d0_w32) (iota .tc S8x128 32 [1] iota_S8x128_d1_w32) (base i 1#32) D old = stepZ (8 * (i 0).val + 7) (sumZ D 3) old := by
  refine ext2 fun a l => ?_
  unfold k1_pay96
  pointwise [stepZ, sumZ]
  rw [at13 (i 0) a l, sel_if]
  try simp [Fin.sum_univ_one]

end Chain

theorem pay1_eq (x y : FVec Ideal S384x128 .f32) (j : Fin 384) (l : Fin 128) :
    k1_pay1 (F := Ideal) (k1_pay97 x y) (ix3 0 j l) = if l.val < 64 then x (ix2 j l) else y (ix2 j l) := by
  pointwise [k1_pay1, k1_pay97]
  simp only [sel64]
theorem pay2_eq (x y : FVec Ideal S384x128 .f32) (j : Fin 384) (l : Fin 128) :
    k1_pay2 (F := Ideal) x y (iota .tc S384x128 32 [1] iota_S384x128_d1_w32) (ix3 0 j l) = if l.val < 64 then x (ix2 j l) else y (ix2 j l) := by
  pointwise [k1_pay2]
  simp only [sel64]
theorem pay3_eq (x y w : FVec Ideal S256x128 .f32) (j : Fin 256) (l : Fin 128) :
    k1_pay3 (F := Ideal) x y (iota .tc S256x128 32 [1] iota_S256x128_d1_w32) w (ix2 j l)
      = w (ix2 j l) + if l.val < 64 then x (ix2 j l) else y (ix2 j l) := by
  pointwise [k1_pay3]
  simp only [sel64]
theorem pay4_eq (x y w : FVec Ideal S256x128 .f32) (j : Fin 256) (l : Fin 128) :
    k1_pay4 (F := Ideal) x y (iota .tc S256x128 32 [1] iota_S256x128_d1_w32) w (ix2 j l)
      = w (ix2 j l) + if l.val < 64 then x (ix2 j l) else y (ix2 j l) := by
  pointwise [k1_pay4]
  simp only [sel64]
theorem pay5_eq : (k1_pay5 : FVec Ideal S8x128 .f32) = fun _ => 0 := by
  refine ext2 fun j l => ?_
  pointwise [k1_pay5]
theorem pay6_eq : (k1_pay6 : FVec Ideal S256x128 .f32) = fun _ => 0 := by
  refine ext2 fun j l => ?_
  pointwise [k1_pay6]
theorem pay7_eq : (k1_pay7 : FVec Ideal S256x128 .f32) = fun _ => 0 := pay6_eq

end Cert.KernelIdeal.Attn

end
-- ==== Proof.Attn.Out.lean ====
/- What the backward kernel's body leaves in its outputs' staging buffers, in the two halves' quantities. -/
module

public import proofs.«01_k».proof.Proof.Attn.Region
public import proofs.«01_k».proof.Proof.Attn.Pay
public import Idealize.ShloMosaic.Lib.Pipeline.ValueKit.Acc

@[expose] public section

set_option maxRecDepth 16384
set_option maxHeartbeats 1000000

noncomputable section

namespace Cert.KernelIdeal.Attn

open Idealize.ShloMosaic Idealize.ShloMosaic.TcCoe Idealize.ShloMosaic.Tactic Cert.KernelIdeal.Gen

/-! ## The sinks' words -/

/-- Half `h`'s four sinks. -/
def hz (i : grid1.Coords) (x0 : S16.Idx → EReal) (h : Fin 2) : Fin 4 → EReal := fun n =>
  x0 (ix1 (⟨8 * (i 0).val + 4 * h.val + n.val, by have : (i 0).val < 2 := (i 0).isLt; omega⟩ : Fin 16))

theorem word_of (x0 : Vec Ideal S16 .f32) (o : BitVec 32) (k : ℕ) (hk : k < 16) (e : o.toNat = k)
    (inb : ∀ a, (![(Scalar.indexCast o).toNat] : Fin 1 → ℕ) a + S1.size a ≤ S16.size a)
    (u : (Rect.unit (s := S16) ![(Scalar.indexCast o).toNat] ![1] inb).shape.Idx) :
    View.ld (Val := Elt Ideal) (e' := .f32) x0 (Rect.unit (s := S16) ![(Scalar.indexCast o).toNat] ![1] inb) u
      = x0 (ix1 (⟨k, hk⟩ : Fin 16)) := by
  have hu : (u 0).val = 0 := by have : (u 0).val < 1 := (u 0).isLt; omega
  refine View.ld_unit_apply_of (S := S16) (Val := Elt Ideal) (e := .f32) x0 _ _ _ u (ix1 (⟨k, hk⟩ : Fin 16)) (fun a => ?_)
  fin_cases a
  show k = (Scalar.indexCast o).toNat + (u 0).val
  rw [hu, ← e]; rfl

theorem wn : ∀ (i : Fin 2) (h : Fin 2) (n : Fin 4), (Scalar.addi (Scalar.muli (Scalar.addi (Scalar.muli 2#32 (BitVec.ofNat 32 i.val)) (BitVec.ofNat 32 h.val)) 4#32) (BitVec.ofNat 32 n.val)).toNat
    = 8 * i.val + 4 * h.val + n.val := by decide +kernel
theorem word (i : grid1.Coords) (x0 : Vec Ideal S16 .f32) (h : Fin 2) (n : Fin 4)
    (inb : ∀ a, (![(Scalar.indexCast (Scalar.addi (base i (BitVec.ofNat 32 h.val)) (BitVec.ofNat 32 n.val))).toNat] : Fin 1 → ℕ) a + S1.size a ≤ S16.size a)
    (u : (Rect.unit (s := S16) ![(Scalar.indexCast (Scalar.addi (base i (BitVec.ofNat 32 h.val)) (BitVec.ofNat 32 n.val))).toNat] ![1] inb).shape.Idx) :
    View.ld (Val := Elt Ideal) (e' := .f32) x0 (Rect.unit (s := S16) ![(Scalar.indexCast (Scalar.addi (base i (BitVec.ofNat 32 h.val)) (BitVec.ofNat 32 n.val))).toNat] ![1] inb) u
      = hz i x0 h n := word_of x0 _ _ _ (wn (i 0) h n) inb u

theorem vec4 (f : Fin 4 → EReal) : (![f 0, f 1, f 2, f 3] : Fin 4 → EReal) = f := by
  funext n; fin_cases n <;> rfl

theorem zz0 (i : grid1.Coords) (x0 : Vec Ideal S16 .f32) (i0 i1 i2 i3 u0 u1 u2 u3) :
    k1_pay21 (F := Ideal) (iota .tc S512x1 32 [0] iota_S512x1_d0_w32)
      (k1_pay19 (View.ld (Val := Elt Ideal) (e' := .f32) x0 (Rect.unit (s := S16) ![(Scalar.indexCast (Scalar.addi (base i 0#32) 0#32)).toNat] ![1] i0) u0)) k1_pay20 256#32
      (View.ld (Val := Elt Ideal) (e' := .f32) x0 (Rect.unit (s := S16) ![(Scalar.indexCast (Scalar.addi (base i 0#32) 1#32)).toNat] ![1] i1) u1)
      (View.ld (Val := Elt Ideal) (e' := .f32) x0 (Rect.unit (s := S16) ![(Scalar.indexCast (Scalar.addi (base i 0#32) 2#32)).toNat] ![1] i2) u2)
      (View.ld (Val := Elt Ideal) (e' := .f32) x0 (Rect.unit (s := S16) ![(Scalar.indexCast (Scalar.addi (base i 0#32) 3#32)).toNat] ![1] i3) u3)
      = sz (hz i x0 0) := by
  refine Eq.trans ?_ ((z0_eq _ _ _ _).trans (congrArg sz (vec4 (hz i x0 0))))
  rw [← word i x0 0 0 i0 u0, ← word i x0 0 1 i1 u1, ← word i x0 0 2 i2 u2, ← word i x0 0 3 i3 u3]
  rfl
theorem zz1 (i : grid1.Coords) (x0 : Vec Ideal S16 .f32) (i0 i1 i2 i3 u0 u1 u2 u3) :
    k1_pay67 (F := Ideal) (k1_pay65
      (View.ld (Val := Elt Ideal) (e' := .f32) x0 (Rect.unit (s := S16) ![(Scalar.indexCast (Scalar.addi (base i 1#32) 0#32)).toNat] ![1] i0) u0)
      (View.ld (Val := Elt Ideal) (e' := .f32) x0 (Rect.unit (s := S16) ![(Scalar.indexCast (Scalar.addi (base i 1#32) 1#32)).toNat] ![1] i1) u1)
      (View.ld (Val := Elt Ideal) (e' := .f32) x0 (Rect.unit (s := S16) ![(Scalar.indexCast (Scalar.addi (base i 1#32) 2#32)).toNat] ![1] i2) u2)) k1_pay66
      (View.ld (Val := Elt Ideal) (e' := .f32) x0 (Rect.unit (s := S16) ![(Scalar.indexCast (Scalar.addi (base i 1#32) 3#32)).toNat] ![1] i3) u3)
      = sz (hz i x0 1) := by
  refine Eq.trans ?_ ((z1_eq _ _ _ _).trans (congrArg sz (vec4 (hz i x0 1))))
  rw [← word i x0 1 0 i0 u0, ← word i x0 1 1 i1 u1, ← word i x0 1 2 i2 u2, ← word i x0 1 3 i3 u3]
  rfl
theorem bb (i : grid1.Coords) (x1 : Vec Ideal S512x384 .f32) (h : ∀ a, (![0, 0] : Fin 2 → ℕ) a + S512x384.size a ≤ S512x384.size a) :
    k1_pay8 (F := Ideal) i (View.ld (Val := Elt Ideal) (e' := .f32) x1 (Rect.unit (s := S512x384) ![0, 0] ![512, 384] h)) = sb x1 (i 1).val := by
  rw [← b_eq]
  exact congrArg (k1_pay8 (F := Ideal) i) (View.ld_unit_lit (S := S512x384) h x1 (fun a => by fin_cases a <;> rfl))

theorem whole256 (X : Vec Ideal S256x128 .f32) (inb : ∀ a, (![0, 0] : Fin 2 → ℕ) a + S256x128.size a ≤ S256x128.size a) :
    View.ld (Val := Elt Ideal) (e' := .f32) X (Rect.unit (s := S256x128) ![0, 0] ![256, 128] inb) = X :=
  View.ld_unit_lit (S := S256x128) inb X (fun a => by fin_cases a <;> rfl)
theorem last256 (v : View sig .tc .vmem S256x128 .f32) (inb inb' : ∀ a, (![0, 0] : Fin 2 → ℕ) a + S256x128.size a ≤ S256x128.size a)
    (w : Vec Ideal S256x128 .f32) (L : List (View.Piece (Elt Ideal) S256x128 .f32)) :
    v.readCov (Val := Elt Ideal) ((⟨Rect.unit (s := S256x128) ![0, 0] ![256, 128] inb, w⟩ : View.Piece (Elt Ideal) S256x128 .f32) :: L)
      (Rect.unit (s := S256x128) ![0, 0] ![256, 128] inb').toLoadRect = w :=
  View.readCov_cons_unit_lit' (S := S256x128) v inb inb' w L (fun a => by fin_cases a <;> rfl) (fun a => by fin_cases a <;> rfl)
theorem whole8 (X : Vec Ideal S8x128 .f32) (inb : ∀ a, (![0, 0] : Fin 2 → ℕ) a + S8x128.size a ≤ S8x128.size a) :
    View.ld (Val := Elt Ideal) (e' := .f32) X (Rect.unit (s := S8x128) ![0, 0] ![8, 128] inb) = X :=
  View.ld_unit_lit (S := S8x128) inb X (fun a => by fin_cases a <;> rfl)
theorem last8 (v : View sig .tc .vmem S8x128 .f32) (inb inb' : ∀ a, (![0, 0] : Fin 2 → ℕ) a + S8x128.size a ≤ S8x128.size a)
    (w : Vec Ideal S8x128 .f32) (L : List (View.Piece (Elt Ideal) S8x128 .f32)) :
    v.readCov (Val := Elt Ideal) ((⟨Rect.unit (s := S8x128) ![0, 0] ![8, 128] inb, w⟩ : View.Piece (Elt Ideal) S8x128 .f32) :: L)
      (Rect.unit (s := S8x128) ![0, 0] ![8, 128] inb').toLoadRect = w :=
  View.readCov_cons_unit_lit' (S := S8x128) v inb inb' w L (fun a => by fin_cases a <;> rfl) (fun a => by fin_cases a <;> rfl)

section Congr
variable {b b' : FVec Ideal S512x384 .f32} {q q' o o' : FVec Ideal S512x128 .bf16} {kl kl' vl vl' : FVec Ideal S384x128 .bf16}
  {kc kc' vc vc' : FVec Ideal S256x128 .bf16} {z z' : FVec Ideal S512x1 .f32}
theorem dQ_congr (hb : b = b') (hq : q = q') (ho : o = o') (hkl : kl = kl') (hvl : vl = vl') (hkc : kc = kc') (hvc : vc = vc') (hz : z = z') :
    dQ b q o kl vl kc vc z = dQ b' q' o' kl' vl' kc' vc' z' := by
  subst hb hq ho hkl hvl hkc hvc hz; rfl
theorem dKL_congr (hb : b = b') (hq : q = q') (ho : o = o') (hkl : kl = kl') (hvl : vl = vl') (hkc : kc = kc') (hvc : vc = vc') (hz : z = z') :
    dKL b q o kl vl kc vc z = dKL b' q' o' kl' vl' kc' vc' z' := by
  subst hb hq ho hkl hvl hkc hvc hz; rfl
theorem dKC_congr (hb : b = b') (hq : q = q') (ho : o = o') (hkl : kl = kl') (hvl : vl = vl') (hkc : kc = kc') (hvc : vc = vc') (hz : z = z') :
    dKC b q o kl vl kc vc z = dKC b' q' o' kl' vl' kc' vc' z' := by
  subst hb hq ho hkl hvl hkc hvc hz; rfl
theorem dZ_congr (hb : b = b') (hq : q = q') (ho : o = o') (hkl : kl = kl') (hvl : vl = vl') (hkc : kc = kc') (hvc : vc = vc') (hz : z = z') :
    dZ b q o kl vl kc vc z = dZ b' q' o' kl' vl' kc' vc' z' := by
  subst hb hq ho hkl hvl hkc hvc hz; rfl
theorem dVL_congr (hb : b = b') (hq : q = q') (ho : o = o') (hkl : kl = kl') (hkc : kc = kc') (hz : z = z') :
    dVL b q o kl kc z = dVL b' q' o' kl' kc' z' := by
  subst hb hq ho hkl hkc hz; rfl
theorem dVC_congr (hb : b = b') (hq : q = q') (ho : o = o') (hkl : kl = kl') (hkc : kc = kc') (hz : z = z') :
    dVC b q o kl kc z = dVC b' q' o' kl' kc' z' := by
  subst hb hq ho hkl hkc hz; rfl
end Congr

/-! ## The halves -/

section Halves
variable (i : grid1.Coords) (x0 : Vec Ideal S16 .f32) (x1 : Vec Ideal S512x384 .f32) (x2 : Vec Ideal S128x512 .bf16) (x3 : Vec Ideal S128x512 .f32)
    (x4 : Vec Ideal S128x256 .bf16) (x5 : Vec Ideal S128x256 .bf16) (x6 : Vec Ideal S128x256 .bf16) (x7 : Vec Ideal S256x256 .bf16)
    (x8 : Vec Ideal S128x256 .bf16) (x9 : Vec Ideal S128x256 .bf16) (x10 : Vec Ideal S128x256 .bf16)
    (x11 : Vec Ideal S256x256 .bf16) (h : Fin 2)

/-- Half `h`'s query gradient, key gradients, value gradients and sink's column. -/
abbrev hQ := dQ (sb x1 (i 1).val) (sq x2 h) (sq x3 h) (sk x4 x5 x6 h) (sk x8 x9 x10 h) (scx x7 h) (scx x11 h) (sz (hz i x0 h))
abbrev hKL := dKL (sb x1 (i 1).val) (sq x2 h) (sq x3 h) (sk x4 x5 x6 h) (sk x8 x9 x10 h) (scx x7 h) (scx x11 h) (sz (hz i x0 h))
abbrev hVL := dVL (sb x1 (i 1).val) (sq x2 h) (sq x3 h) (sk x4 x5 x6 h) (scx x7 h) (sz (hz i x0 h))
abbrev hKC := dKC (sb x1 (i 1).val) (sq x2 h) (sq x3 h) (sk x4 x5 x6 h) (sk x8 x9 x10 h) (scx x7 h) (scx x11 h) (sz (hz i x0 h))
abbrev hVC := dVC (sb x1 (i 1).val) (sq x2 h) (sq x3 h) (sk x4 x5 x6 h) (scx x7 h) (sz (hz i x0 h))
abbrev hZ := dZ (sb x1 (i 1).val) (sq x2 h) (sq x3 h) (sk x4 x5 x6 h) (sk x8 x9 x10 h) (scx x7 h) (scx x11 h) (sz (hz i x0 h))
end Halves

/-- The query gradient's block from the two halves' stacks. -/
def oQ (D0 D1 : S512x128.Idx → EReal) : S128x512.Idx → EReal := fun u =>
  (if (u 1).val < 256 then D0 else D1) (ix2 (⟨(u 1).val / 64 % 4 * 128 + (u 0).val, by have : (u 0).val < 128 := (u 0).isLt; omega⟩ : Fin 512)
    (⟨(u 1).val % 128, Nat.mod_lt _ (by decide)⟩ : Fin 128))
/-- A block's slots' gradients from the two halves'. -/
def oL (D0 D1 : S384x128.Idx → EReal) : S1x384x128.Idx → EReal := fun u =>
  if (u 2).val < 64 then D0 (ix2 (u 1) (u 2)) else D1 (ix2 (u 1) (u 2))
/-- The context's gradients from the two halves', added to `old`. -/
def oC (D0 D1 old : S256x128.Idx → EReal) : S256x128.Idx → EReal := fun u => old u + if (u 1).val < 64 then D0 u else D1 u
/-- The sinks' accumulator after the eight heads of point `i`. -/
def oZ (i : ℕ) (D0 D1 : S512x1.Idx → EReal) (old : S8x128.Idx → EReal) : S8x128.Idx → EReal :=
  stepZ (8 * i + 7) (sumZ D1 3) (stepZ (8 * i + 6) (sumZ D1 2) (stepZ (8 * i + 5) (sumZ D1 1) (stepZ (8 * i + 4) (sumZ D1 0)
    (stepZ (8 * i + 3) (sumZ D0 3) (stepZ (8 * i + 2) (sumZ D0 2) (stepZ (8 * i + 1) (sumZ D0 1) (stepZ (8 * i + 0) (sumZ D0 0) old)))))))

theorem chainZ (i : grid1.Coords) (b b1 : FVec Ideal S512x384 .f32) (q o q1 o1 : FVec Ideal S512x128 .bf16) (kl vl kl1 vl1 : FVec Ideal S384x128 .bf16)
    (kc vc kc1 vc1 : FVec Ideal S256x128 .bf16) (z w1 : FVec Ideal S512x1 .f32) (old : FVec Ideal S8x128 .f32) :
    k1_pay96 (F := Ideal) (iota .tc S8x128 32 [0] iota_S8x128_d0_w32) (iota .tc S8x128 32 [1] iota_S8x128_d1_w32) (base i 1#32) (dZ b1 q1 o1 kl1 vl1 kc1 vc1 w1)
      (k1_pay95 (iota .tc S8x128 32 [0] iota_S8x128_d0_w32) (iota .tc S8x128 32 [1] iota_S8x128_d1_w32) (base i 1#32) (k1_pay94 (dZ b1 q1 o1 kl1 vl1 kc1 vc1 w1))
        (k1_pay93 (iota .tc S8x128 32 [0] iota_S8x128_d0_w32) (iota .tc S8x128 32 [1] iota_S8x128_d1_w32) (base i 1#32) (dZ b1 q1 o1 kl1 vl1 kc1 vc1 w1)
          (k1_pay92 (iota .tc S8x128 32 [0] iota_S8x128_d0_w32) (iota .tc S8x128 32 [1] iota_S8x128_d1_w32) (base i 1#32) (k1_pay91 (eZ b1 q1 kl1 kc1 w1) (iv b1 q1 kl1 kc1 w1) (tt b1 q1 o1 kl1 vl1 kc1 vc1 w1))
            (k1_pay50 (iota .tc S8x128 32 [0] iota_S8x128_d0_w32) (iota .tc S8x128 32 [1] iota_S8x128_d1_w32) (base i 0#32) (k1_pay49 (dZ b q o kl vl kc vc z))
              (k1_pay48 (iota .tc S8x128 32 [0] iota_S8x128_d0_w32) (iota .tc S8x128 32 [1] iota_S8x128_d1_w32) (base i 0#32) (dZ b q o kl vl kc vc z)
                (k1_pay47 (iota .tc S8x128 32 [0] iota_S8x128_d0_w32) (iota .tc S8x128 32 [1] iota_S8x128_d1_w32) (base i 0#32) (k1_pay46 (eZ b q kl kc z) (iv b q kl kc z) (tt b q o kl vl kc vc z))
                  (k1_pay45 (iota .tc S8x128 32 [0] iota_S8x128_d0_w32) (iota .tc S8x128 32 [1] iota_S8x128_d1_w32) (base i 0#32) (eZ b q kl kc z) (iv b q kl kc z) (tt b q o kl vl kc vc z) old)))))))
      = oZ (i 0).val (dZ b q o kl vl kc vc z) (dZ b1 q1 o1 kl1 vl1 kc1 vc1 w1) old := by
  rw [pay45_eq, pay46_eq, pay47_eq, pay48_eq, pay49_eq, pay50_eq, pay92_eq, pay93_eq, pay94_eq, pay95_eq, pay96_eq]
  rfl

theorem tileQ_oQ (D0 D1 : S512x128.Idx → EReal) (h p : Fin 2) (y : S128x512.Idx) (x : S128x128.Idx)
    (e0 : (y 0).val = (x 0).val) (e1 : (y 1).val = h.val * 256 + p.val * 128 + (x 1).val) :
    tileQ (if h.val = 0 then D0 else D1) p x = oQ D0 D1 y := by
  have hx : (x 1).val < 128 := (x 1).isLt
  have hp := p.isLt; have hh := h.isLt
  unfold tileQ oQ
  have eD : (if h.val = 0 then D0 else D1) = (if (y 1).val < 256 then D0 else D1) := by
    by_cases h0 : h.val = 0
    · rw [if_pos h0, if_pos (by omega)]
    · rw [if_neg h0, if_neg (by omega)]
  rw [eD]
  refine congrArg _ (ix2_c ?_ ?_)
  · dsimp only
    split <;> omega
  · dsimp only
    omega

section Outs
variable (b0 b1 : Bool) (c : Dev nD) (i : grid1.Coords)
    (arg2 : Memref sig .tc .smem S16 .f32) (harg2 : arg2.IsWhole)
    (arg3 : Memref sig .tc .vmem S512x384 .f32) (harg3 : arg3.IsWhole)
    (arg4 : Memref sig .tc .vmem S128x512 .bf16) (harg4 : arg4.IsWhole)
    (arg5 : Memref sig .tc .vmem S128x512 .f32) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S128x256 .bf16) (harg11 : arg11.IsWhole)
    (arg12 : Memref sig .tc .vmem S128x256 .bf16) (harg12 : arg12.IsWhole)
    (arg13 : Memref sig .tc .vmem S256x256 .bf16) (harg13 : arg13.IsWhole)
    (arg14 : Memref sig .tc .vmem S128x512 .f32) (harg14 : arg14.IsWhole)
    (arg15 : Memref sig .tc .vmem S1x384x128 .f32) (harg15 : arg15.IsWhole)
    (arg16 : Memref sig .tc .vmem S1x384x128 .f32) (harg16 : arg16.IsWhole)
    (arg17 : Memref sig .tc .vmem S256x128 .f32) (harg17 : arg17.IsWhole)
    (arg18 : Memref sig .tc .vmem S256x128 .f32) (harg18 : arg18.IsWhole)
    (arg19 : Memref sig .tc .vmem S8x128 .f32) (harg19 : arg19.IsWhole)
    (x0 : Vec Ideal S16 .f32) (x1 : Vec Ideal S512x384 .f32) (x2 : Vec Ideal S128x512 .bf16) (x3 : Vec Ideal S128x512 .f32)
    (x4 : Vec Ideal S128x256 .bf16) (x5 : Vec Ideal S128x256 .bf16) (x6 : Vec Ideal S128x256 .bf16) (x7 : Vec Ideal S256x256 .bf16)
    (x8 : Vec Ideal S128x256 .bf16) (x9 : Vec Ideal S128x256 .bf16) (x10 : Vec Ideal S128x256 .bf16)
    (x11 : Vec Ideal S256x256 .bf16)
    (xo15 : Vec Ideal S256x128 .f32) (xo16 : Vec Ideal S256x128 .f32) (xo17 : Vec Ideal S8x128 .f32)

theorem out12 (hb : b0 = true → b1 = true) (hc0 : cond1_0 i ↔ b0 = true) (hc1 : cond1_1 i ↔ b1 = true) :
    VO1_12.read (Elt Ideal) (VO1_12.writes (Elt Ideal) VO1_12.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).1)
      = oQ (hQ i x0 x1 x2 x3 x4 x5 x6 x7 x8 x9 x10 x11 0) (hQ i x0 x1 x2 x3 x4 x5 x6 x7 x8 x9 x10 x11 1) := by
  rw [View.read_writes_eq_canon _ _ _ (cover12 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    simp only [whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq]
    simp only [pay38_eq, pay39_eq, pay84_eq, pay85_eq]
    funext y
    canon_tiles x h
    case piece0 => exact (congrArg (fun D => tileQ D 1 x) (dQ_congr (bb i x1 _) (q1_eq x2) (o1_eq x3) (kl1_eq x4 x5 x6) (vl1_eq x8 x9 x10) (kc1_eq x7) (vc1_eq x11) (zz1 i x0 _ _ _ _ _ _ _ _))).trans (tileQ_oQ (hQ i x0 x1 x2 x3 x4 x5 x6 x7 x8 x9 x10 x11 0) (hQ i x0 x1 x2 x3 x4 x5 x6 x7 x8 x9 x10 x11 1) 1 1 y x (by omega) (by dsimp only; omega))
    case piece1 => exact (congrArg (fun D => tileQ D 0 x) (dQ_congr (bb i x1 _) (q1_eq x2) (o1_eq x3) (kl1_eq x4 x5 x6) (vl1_eq x8 x9 x10) (kc1_eq x7) (vc1_eq x11) (zz1 i x0 _ _ _ _ _ _ _ _))).trans (tileQ_oQ (hQ i x0 x1 x2 x3 x4 x5 x6 x7 x8 x9 x10 x11 0) (hQ i x0 x1 x2 x3 x4 x5 x6 x7 x8 x9 x10 x11 1) 1 0 y x (by omega) (by dsimp only; omega))
    case piece2 => exact (congrArg (fun D => tileQ D 1 x) (dQ_congr (bb i x1 _) (q0_eq x2) (o0_eq x3) (kl0_eq x4 x5 x6) (vl0_eq x8 x9 x10) (kc0_eq x7) (vc0_eq x11) (zz0 i x0 _ _ _ _ _ _ _ _))).trans (tileQ_oQ (hQ i x0 x1 x2 x3 x4 x5 x6 x7 x8 x9 x10 x11 0) (hQ i x0 x1 x2 x3 x4 x5 x6 x7 x8 x9 x10 x11 1) 0 1 y x (by omega) (by dsimp only; omega))
    case piece3 => exact (congrArg (fun D => tileQ D 0 x) (dQ_congr (bb i x1 _) (q0_eq x2) (o0_eq x3) (kl0_eq x4 x5 x6) (vl0_eq x8 x9 x10) (kc0_eq x7) (vc0_eq x11) (zz0 i x0 _ _ _ _ _ _ _ _))).trans (tileQ_oQ (hQ i x0 x1 x2 x3 x4 x5 x6 x7 x8 x9 x10 x11 0) (hQ i x0 x1 x2 x3 x4 x5 x6 x7 x8 x9 x10 x11 1) 0 0 y x (by omega) (by dsimp only; omega))

theorem out13 (hb : b0 = true → b1 = true) (hc0 : cond1_0 i ↔ b0 = true) (hc1 : cond1_1 i ↔ b1 = true) :
    VO1_13.read (Elt Ideal) (VO1_13.writes (Elt Ideal) VO1_13.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).2.1)
      = oL (hKL i x0 x1 x2 x3 x4 x5 x6 x7 x8 x9 x10 x11 0) (hKL i x0 x1 x2 x3 x4 x5 x6 x7 x8 x9 x10 x11 1) := by
  rw [View.read_writes_eq_canon _ _ _ (cover13 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    rw [View.canon_cons_unit_lit' (h := fun a => by fin_cases a <;> rfl)]
    simp only [whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq, pay40_eq, pay86_eq]
    refine (congrArg₂ (fun a b => k1_pay1 (F := Ideal) (k1_pay97 a b)) (dKL_congr (bb i x1 _) (q0_eq x2) (o0_eq x3) (kl0_eq x4 x5 x6) (vl0_eq x8 x9 x10) (kc0_eq x7) (vc0_eq x11) (zz0 i x0 _ _ _ _ _ _ _ _)) (dKL_congr (bb i x1 _) (q1_eq x2) (o1_eq x3) (kl1_eq x4 x5 x6) (vl1_eq x8 x9 x10) (kc1_eq x7) (vc1_eq x11) (zz1 i x0 _ _ _ _ _ _ _ _))).trans ?_
    funext y
    have e : y = ix3 0 (y 1) (y 2) := by
      funext a; fin_cases a
      · exact Subsingleton.elim (α := Fin 1) _ _
      · rfl
      · rfl
    rw [e]
    exact pay1_eq _ _ _ _

theorem out14 (hb : b0 = true → b1 = true) (hc0 : cond1_0 i ↔ b0 = true) (hc1 : cond1_1 i ↔ b1 = true) :
    VO1_14.read (Elt Ideal) (VO1_14.writes (Elt Ideal) VO1_14.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).2.2.1)
      = oL (hVL i x0 x1 x2 x3 x4 x5 x6 x7 0) (hVL i x0 x1 x2 x3 x4 x5 x6 x7 1) := by
  rw [View.read_writes_eq_canon _ _ _ (cover14 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    rw [View.canon_cons_unit_lit' (h := fun a => by fin_cases a <;> rfl)]
    simp only [whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq, pay41_eq, pay87_eq]
    refine (congrArg₂ (fun a b => k1_pay2 (F := Ideal) a b (iota .tc S384x128 32 [1] iota_S384x128_d1_w32)) (dVL_congr (bb i x1 _) (q0_eq x2) (o0_eq x3) (kl0_eq x4 x5 x6) (kc0_eq x7) (zz0 i x0 _ _ _ _ _ _ _ _)) (dVL_congr (bb i x1 _) (q1_eq x2) (o1_eq x3) (kl1_eq x4 x5 x6) (kc1_eq x7) (zz1 i x0 _ _ _ _ _ _ _ _))).trans ?_
    funext y
    have e : y = ix3 0 (y 1) (y 2) := by
      funext a; fin_cases a
      · exact Subsingleton.elim (α := Fin 1) _ _
      · rfl
      · rfl
    rw [e]
    exact pay2_eq _ _ _ _

theorem out15 (hb : b0 = true → b1 = true) (hc0 : cond1_0 i ↔ b0 = true) (hc1 : cond1_1 i ↔ b1 = true) :
    VO1_15.read (Elt Ideal) (VO1_15.writes (Elt Ideal) VO1_15.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).2.2.2.1)
      = oC (hKC i x0 x1 x2 x3 x4 x5 x6 x7 x8 x9 x10 x11 0) (hKC i x0 x1 x2 x3 x4 x5 x6 x7 x8 x9 x10 x11 1) (if b1 then (fun _ => 0) else xo15) := by
  rw [View.read_writes_eq_canon _ _ _ (cover15 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    rw [View.canon_cons_unit_lit' (h := fun a => by fin_cases a <;> rfl)]
    simp only [last256, last8, whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq, pay42_eq, pay88_eq, pay6_eq]
    refine (congrArg₂ (fun a b => k1_pay3 (F := Ideal) a b (iota .tc S256x128 32 [1] iota_S256x128_d1_w32) _) (dKC_congr (bb i x1 _) (q0_eq x2) (o0_eq x3) (kl0_eq x4 x5 x6) (vl0_eq x8 x9 x10) (kc0_eq x7) (vc0_eq x11) (zz0 i x0 _ _ _ _ _ _ _ _)) (dKC_congr (bb i x1 _) (q1_eq x2) (o1_eq x3) (kl1_eq x4 x5 x6) (vl1_eq x8 x9 x10) (kc1_eq x7) (vc1_eq x11) (zz1 i x0 _ _ _ _ _ _ _ _))).trans ?_
    refine ext2 fun j l => ?_
    exact pay3_eq _ _ _ _ _

theorem out16 (hb : b0 = true → b1 = true) (hc0 : cond1_0 i ↔ b0 = true) (hc1 : cond1_1 i ↔ b1 = true) :
    VO1_16.read (Elt Ideal) (VO1_16.writes (Elt Ideal) VO1_16.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).2.2.2.2.1)
      = oC (hVC i x0 x1 x2 x3 x4 x5 x6 x7 0) (hVC i x0 x1 x2 x3 x4 x5 x6 x7 1) (if b1 then (fun _ => 0) else xo16) := by
  rw [View.read_writes_eq_canon _ _ _ (cover16 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    rw [View.canon_cons_unit_lit' (h := fun a => by fin_cases a <;> rfl)]
    simp only [last256, last8, whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq, pay43_eq, pay89_eq, pay7_eq]
    refine (congrArg₂ (fun a b => k1_pay4 (F := Ideal) a b (iota .tc S256x128 32 [1] iota_S256x128_d1_w32) _) (dVC_congr (bb i x1 _) (q0_eq x2) (o0_eq x3) (kl0_eq x4 x5 x6) (kc0_eq x7) (zz0 i x0 _ _ _ _ _ _ _ _)) (dVC_congr (bb i x1 _) (q1_eq x2) (o1_eq x3) (kl1_eq x4 x5 x6) (kc1_eq x7) (zz1 i x0 _ _ _ _ _ _ _ _))).trans ?_
    refine ext2 fun j l => ?_
    exact pay4_eq _ _ _ _ _

theorem out17 (hb : b0 = true → b1 = true) (hc0 : cond1_0 i ↔ b0 = true) (hc1 : cond1_1 i ↔ b1 = true) :
    VO1_17.read (Elt Ideal) (VO1_17.writes (Elt Ideal) VO1_17.junk (bodyRun b0 b1 hb c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17).2.2.2.2.2.1)
      = oZ (i 0).val (hZ i x0 x1 x2 x3 x4 x5 x6 x7 x8 x9 x10 x11 0) (hZ i x0 x1 x2 x3 x4 x5 x6 x7 x8 x9 x10 x11 1) (if b0 then (fun _ => 0) else xo17) := by
  rw [View.read_writes_eq_canon _ _ _ (cover17 b0 b1 _ c i hc0 hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xo15 xo16 xo17)]
  rcases b0 with _ | _ <;> rcases b1 with _ | _
  case true.false => exact absurd (hb rfl) Bool.false_ne_true
  all_goals
    unfold bodyRun
    dsimp only
    sl_unfold_words
    rw [View.canon_cons_unit_lit' (h := fun a => by fin_cases a <;> rfl)]
    simp only [last256, last8, whole256, whole8, View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, pay25_eq, pay26_eq, pay27_eq, pay28_eq, pay29_eq, pay30_eq, pay31_eq, pay34_eq, pay35_eq, pay36_eq, pay73_eq, pay74_eq, pay75_eq, pay76_eq, pay78_eq, pay79_eq, pay80_eq, pay81_eq, pay5_eq, pay44_eq, pay90_eq]
    exact (chainZ i _ _ _ _ _ _ _ _ _ _ _ _ _ _ _ _ _).trans (congrArg₂ (fun a b => oZ (i 0).val a b _) (dZ_congr (bb i x1 _) (q0_eq x2) (o0_eq x3) (kl0_eq x4 x5 x6) (vl0_eq x8 x9 x10) (kc0_eq x7) (vc0_eq x11) (zz0 i x0 _ _ _ _ _ _ _ _)) (dZ_congr (bb i x1 _) (q1_eq x2) (o1_eq x3) (kl1_eq x4 x5 x6) (vl1_eq x8 x9 x10) (kc1_eq x7) (vc1_eq x11) (zz1 i x0 _ _ _ _ _ _ _ _)))

end Outs

end Cert.KernelIdeal.Attn

end
-- ==== Proof.Attn.Outs.lean ====
/- What the backward kernel leaves in its outputs at a point, from the blocks the point reads. -/
module

public import proofs.«01_k».proof.Proof.Attn.Out

@[expose] public section

set_option maxRecDepth 16384

noncomputable section

namespace Cert.KernelIdeal.Attn

open Idealize.ShloMosaic Idealize.ShloMosaic.TcCoe Idealize.ShloMosaic.Tactic Cert.KernelIdeal.Gen

section AtPoint
variable (V : (c : Dev nD) → (b : Ref sig .tc) → Buf (Elt Ideal) ((c : Thread nD τ).loc b)) (c : Dev nD) (t : Fin cfg1.N) (p : Acc Ideal)

/-- The halves at point `t`, over its blocks. -/
abbrev hQt (h : Fin 2) := hQ (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) h
abbrev hKLt (h : Fin 2) := hKL (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) h
abbrev hVLt (h : Fin 2) := hVL (grid1.coords t) (iblk1 V c 0 t) (iblk1 V c 1 t) (iblk1 V c 2 t) (iblk1 V c 3 t) (iblk1 V c 4 t) (iblk1 V c 5 t) (iblk1 V c 6 t) (iblk1 V c 7 t) h
abbrev hKCt (h : Fin 2) := hKC (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) h
abbrev hVCt (h : Fin 2) := hVC (grid1.coords t) (iblk1 V c 0 t) (iblk1 V c 1 t) (iblk1 V c 2 t) (iblk1 V c 3 t) (iblk1 V c 4 t) (iblk1 V c 5 t) (iblk1 V c 6 t) (iblk1 V c 7 t) h
abbrev hZt (h : Fin 2) := hZ (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) h
theorem outs_12 : (outs V c t p).1 = oQ (hQt V c t 0) (hQt V c t 1) :=
  out12 _ _ _ _ _ _ _ _ _ _ _ _ _ _ _ _ _ _ _ _ _ _ _ _ _ _ _ _ _ _ _ _ _ _ _ _ _ _ _ _ _ _ _ _ _ _ _ _ _ _ _ _ _ _ _ _ _ _
theorem outs_13 : (outs V c t p).2.1 = oL (hKLt V c t 0) (hKLt V c t 1) :=
  out13 _ _ _ _ _ _ _ _ _ _ _ _ _ _ _ _ _ _ _ _ _ _ _ _ _ _ _ _ _ _ _ _ _ _ _ _ _ _ _ _ _ _ _ _ _ _ _ _ _ _ _ _ _ _ _ _ _ _
theorem outs_14 : (outs V c t p).2.2.1 = oL (hVLt V c t 0) (hVLt V c t 1) :=
  out14 _ _ _ _ _ _ _ _ _ _ _ _ _ _ _ _ _ _ _ _ _ _ _ _ _ _ _ _ _ _ _ _ _ _ _ _ _ _ _ _ _ _ _ _ _ _ _ _ _ _ _ _ _ _ _ _ _ _
theorem outs_15 : (outs V c t p).2.2.2.1 = oC (hKCt V c t 0) (hKCt V c t 1) (if clr1 t.val then (fun _ => 0) else p.1) :=
  out15 _ _ _ _ _ _ _ _ _ _ _ _ _ _ _ _ _ _ _ _ _ _ _ _ _ _ _ _ _ _ _ _ _ _ _ _ _ _ _ _ _ _ _ _ _ _ _ _ _ _ _ _ _ _ _ _ _ _
theorem outs_16 : (outs V c t p).2.2.2.2.1 = oC (hVCt V c t 0) (hVCt V c t 1) (if clr1 t.val then (fun _ => 0) else p.2.1) :=
  out16 _ _ _ _ _ _ _ _ _ _ _ _ _ _ _ _ _ _ _ _ _ _ _ _ _ _ _ _ _ _ _ _ _ _ _ _ _ _ _ _ _ _ _ _ _ _ _ _ _ _ _ _ _ _ _ _ _ _
theorem outs_17 : (outs V c t p).2.2.2.2.2 = oZ (grid1.coords t 0).val (hZt V c t 0) (hZt V c t 1) (if clr0 t.val then (fun _ => 0) else p.2.2) :=
  out17 _ _ _ _ _ _ _ _ _ _ _ _ _ _ _ _ _ _ _ _ _ _ _ _ _ _ _ _ _ _ _ _ _ _ _ _ _ _ _ _ _ _ _ _ _ _ _ _ _ _ _ _ _ _ _ _ _ _

end AtPoint

end Cert.KernelIdeal.Attn

end
-- ==== Proof.Attn.Spec.lean ====
/- The gradients of the attention with a window of 128 keys to either side, 256 context keys and a sink, of the rows of
   66 blocks of 128: the first two blocks are the context, whose rows see only the context. Written once for both programs,
   from the queries, keys, values, cotangents by row, key head, head of the group and component. -/
module

public import proofs.«01_k».proof.Proof.Attn.Row

@[expose] public section

noncomputable section

namespace Cert.Spec

open Idealize.ShloMosaic Cert.Row

/-- The arguments: queries, cotangents, keys, values and the sinks. -/
structure Args where
  q : Fin 8448 → Fin 4 → Fin 4 → Fin 64 → EReal
  o : Fin 8448 → Fin 4 → Fin 4 → Fin 64 → EReal
  k : Fin 8448 → Fin 4 → Fin 64 → EReal
  v : Fin 8448 → Fin 4 → Fin 64 → EReal
  z : Fin 4 → Fin 4 → EReal

/-- All of them are finite. -/
structure Args.Real (A : Args) : Prop where
  q : ∀ t h g d, IsR (A.q t h g d)
  o : ∀ t h g d, IsR (A.o t h g d)
  k : ∀ t h d, IsR (A.k t h d)
  v : ∀ t h d, IsR (A.v t h d)
  z : ∀ h g, IsR (A.z h g)

/-- Row `r` of block `i`, -/
def row (i : Fin 66) (r : Fin 128) : Fin 8448 := ⟨i.val * 128 + r.val, by omega⟩
/-- the key at slot `j` of block `i`'s three neighbouring blocks (the nearest block where there is none), -/
def key (i : Fin 66) (j : Fin 384) : Fin 8448 := ⟨min (i.val + j.val / 128 - 1) 65 * 128 + j.val % 128, by omega⟩
/-- and a context row. -/
def cx (c : Fin 256) : Fin 8448 := ⟨c.val, by omega⟩
/-- Slot `j` is within the window of row `r` and holds a latent key. -/
def ok (i : Fin 66) (r : Fin 128) (j : Fin 384) : Prop :=
  2 ≤ i.val ∧ r.val ≤ j.val ∧ j.val ≤ r.val + 256 ∧ 384 ≤ 128 * i.val + j.val ∧ 128 * i.val + j.val < 8576
instance (i : Fin 66) (r : Fin 128) (j : Fin 384) : Decidable (ok i r j) := by unfold ok; infer_instance

/-- The scale of the scores. -/
def sc : EReal := ((1 / 8 : ℝ) : EReal)

variable (A : Args) (i : Fin 66) (r : Fin 128) (h g : Fin 4)

/-- The score of a key, -/
def dotK (u : Fin 8448) : EReal := (∑ d, A.q (row i r) h g d * A.k u h d) * sc
/-- and the cotangent of its probability. -/
def dotV (u : Fin 8448) : EReal := ∑ d, A.o (row i r) h g d * A.v u h d
/-- The local scores, -/
def sL (j : Fin 384) : EReal := if ok i r j then dotK A i r h g (key i j) else ⊥
/-- the context scores -/
def sC (c : Fin 256) : EReal := dotK A i r h g (cx c)
/-- and the cotangents of their probabilities. -/
def fL (j : Fin 384) : EReal := dotV A i r h g (key i j)
def fC (c : Fin 256) : EReal := dotV A i r h g (cx c)
/-- The probabilities, -/
def pL (j : Fin 384) : EReal := pr (sL A i r h g) (sC A i r h g) (A.z h g) (sL A i r h g j)
def pC (c : Fin 256) : EReal := pr (sL A i r h g) (sC A i r h g) (A.z h g) (sC A i r h g c)
/-- the scores' gradients, -/
def gL (j : Fin 384) : EReal :=
  gr (sL A i r h g) (sC A i r h g) (A.z h g) (fL A i r h g) (fC A i r h g) (sL A i r h g j) (fL A i r h g j)
def gC (c : Fin 256) : EReal :=
  gr (sL A i r h g) (sC A i r h g) (A.z h g) (fL A i r h g) (fC A i r h g) (sC A i r h g c) (fC A i r h g c)
/-- and what the row takes off the sink's gradient. -/
def gZ : EReal := Row.gZ (sL A i r h g) (sC A i r h g) (A.z h g) (fL A i r h g) (fC A i r h g)

/-- The gradient of the queries, -/
def dq (d : Fin 64) : EReal := ((∑ j, gL A i r h g j * A.k (key i j) h d) + ∑ c, gC A i r h g c * A.k (cx c) h d) * sc
/-- what block `i` gives the key at its slot `j`, -/
def dkl (j : Fin 384) (d : Fin 64) : EReal := ∑ g, ∑ r, gL A i r h g j * (A.q (row i r) h g d * sc)
def dvl (j : Fin 384) (d : Fin 64) : EReal := ∑ g, ∑ r, pL A i r h g j * A.o (row i r) h g d
/-- what all blocks give a context key, -/
def dkc (c : Fin 256) (d : Fin 64) : EReal := ∑ i, ∑ g, ∑ r, gC A i r h g c * (A.q (row i r) h g d * sc)
def dvc (c : Fin 256) (d : Fin 64) : EReal := ∑ i, ∑ g, ∑ r, pC A i r h g c * A.o (row i r) h g d
/-- Slot `s` of the three, row `r`. -/
def slot (s : Fin 3) (r : Fin 128) : Fin 384 := ⟨s.val * 128 + r.val, by omega⟩
/-- The gradient of a latent key or value from what its block and the two next to it give it. -/
def gather (f : Fin 66 → Fin 384 → EReal) : EReal :=
  f i (slot 1 r) + (if hi : i.val + 1 ≤ 65 then f ⟨i.val + 1, by omega⟩ (slot 0 r) else 0)
    + (if 3 ≤ i.val then f ⟨i.val - 1, by omega⟩ (slot 2 r) else 0)
/-- The gradient of the keys -/
def dk (d : Fin 64) : EReal :=
  if hi : i.val < 2 then dkc A h ⟨i.val * 128 + r.val, by omega⟩ d else gather i r fun i' j => dkl A i' h j d
/-- and of the values. -/
def dv (d : Fin 64) : EReal :=
  if hi : i.val < 2 then dvc A h ⟨i.val * 128 + r.val, by omega⟩ d else gather i r fun i' j => dvl A i' h j d
/-- The gradient of the sinks. -/
def dz : EReal := ∑ i, ∑ r, -gZ A i r h g

/-! ## Finite arguments -/

section
variable {A} (hA : A.Real)
include hA

theorem sc_nonneg : (0 : ℝ) ≤ 1 / 8 := by norm_num

theorem dotK_real (u : Fin 8448) : IsR (dotK A i r h g u) :=
  (IsR.sum _ _ fun d => (hA.q _ _ _ d).mul (hA.k _ _ d)).mul ⟨_, rfl⟩
theorem dotV_real (u : Fin 8448) : IsR (dotV A i r h g u) := IsR.sum _ _ fun d => (hA.o _ _ _ d).mul (hA.v _ _ d)
theorem sL_ne_top (j : Fin 384) : sL A i r h g j ≠ ⊤ := by
  unfold sL; split
  · exact ne_top_of_real (dotK_real i r h g hA _)
  · exact bot_ne_top
theorem sC_real (c : Fin 256) : IsR (sC A i r h g c) := dotK_real i r h g hA _
theorem fL_real (j : Fin 384) : IsR (fL A i r h g j) := dotV_real i r h g hA _
theorem fC_real (c : Fin 256) : IsR (fC A i r h g c) := dotV_real i r h g hA _

theorem gL_off (j : Fin 384) (hj : ¬ ok i r j) : gL A i r h g j = 0 := by
  unfold gL
  rw [show sL A i r h g j = ⊥ from if_neg hj]
  exact gr_bot (sL_ne_top i r h g hA) (sC_real i r h g hA) (hA.z h g) _
theorem pL_off (j : Fin 384) (hj : ¬ ok i r j) : pL A i r h g j = 0 := by
  unfold pL
  rw [show sL A i r h g j = ⊥ from if_neg hj]
  exact pr_bot (sL_ne_top i r h g hA) (sC_real i r h g hA) (hA.z h g)
theorem gZ_real : IsR (gZ A i r h g) :=
  Row.gZ_real (sL_ne_top i r h g hA) (sC_real i r h g hA) (hA.z h g) (fL_real i r h g hA) (fC_real i r h g hA)

end

end Cert.Spec

end
-- ==== Proof.Attn.Host.lean ====
/- What the host operations and the band's table leave for the backward kernel, at an index. -/
module

public import proofs.«01_k».proof.Proof.Attn.Run
public import proofs.«01_k».proof.Proof.Attn.Spec
public import proofs.«01_k».proof.Proof.Attn.Consts
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Cert.KernelIdeal.Gen

variable (m : (ℓ : Loc nD τ sig) → Buf (Elt Ideal) ℓ) (ρ : Dev nD → PrngReg) (c : Dev nD)

/-- The argument arrays. -/
abbrev aQ : S8448x1024.Idx → EReal := m ((c : Thread nD τ).loc main_arg0)
abbrev aK : S8448x256.Idx → EReal := m ((c : Thread nD τ).loc main_arg1)
abbrev aV : S8448x256.Idx → EReal := m ((c : Thread nD τ).loc main_arg2)
abbrev aO : S8448x1024.Idx → EReal := m ((c : Thread nD τ).loc main_arg3)
abbrev aZ : S16.Idx → EReal := m ((c : Thread nD τ).loc main_arg4)

theorem W1_v2 (t : Fin 8448) (l : Fin 1024) : (W1 m ρ c (Proc.devRef .tc main_v2) : S8448x1024.Idx → EReal) (ix2 t l)
    = aQ m c (ix2 t l) * Spec.sc := by
  have e : (W1 m ρ c (Proc.devRef .tc main_v2) : S8448x1024.Idx → EReal)
      = truncf (F := Ideal) .bf16 (mulf (aQ m c : FVec Ideal S8448x1024 .f32) (broadcastInDim S8448x1024 ![] bcast_S_S8448x1024 (constant (F := Ideal) S_ .f32 0x3E000000#32))) bitsLt_bf16_f32 := by
    unfold W1
    after_results
  rw [e]
  pointwise [Consts.eighth, Spec.sc]

theorem W1_v6 (t : Fin 8448) (l : Fin 512) : (W1 m ρ c (Proc.devRef .tc main_v6) : S8448x512.Idx → EReal) (ix2 t l)
    = aK m c (ix2 t (⟨l.val / 128 * 64 + l.val % 64, by omega⟩ : Fin 256)) := by
  have e : (W1 m ρ c (Proc.devRef .tc main_v6) : S8448x512.Idx → EReal)
      = truncf (F := Ideal) .bf16 (shapeCast S8448x512 (broadcastInDim S8448x4x2x64 ![0, 1, 2, 3] bcast_S8448x4x1x64_S8448x4x2x64_0_1_2_3
          (shapeCast S8448x4x1x64 (aK m c : FVec Ideal S8448x256 .f32) shapeCasts_S8448x256_S8448x4x1x64) : FVec Ideal S8448x4x2x64 .f32) shapeCasts_S8448x4x2x64_S8448x512) bitsLt_bf16_f32 := by
    unfold W1
    after_results
    rfl
  rw [e]
  pointwise

theorem W1_v10 (t : Fin 8448) (l : Fin 512) : (W1 m ρ c (Proc.devRef .tc main_v10) : S8448x512.Idx → EReal) (ix2 t l)
    = aV m c (ix2 t (⟨l.val / 128 * 64 + l.val % 64, by omega⟩ : Fin 256)) := by
  have e : (W1 m ρ c (Proc.devRef .tc main_v10) : S8448x512.Idx → EReal)
      = truncf (F := Ideal) .bf16 (shapeCast S8448x512 (broadcastInDim S8448x4x2x64 ![0, 1, 2, 3] bcast_S8448x4x1x64_S8448x4x2x64_0_1_2_3
          (shapeCast S8448x4x1x64 (aV m c : FVec Ideal S8448x256 .f32) shapeCasts_S8448x256_S8448x4x1x64) : FVec Ideal S8448x4x2x64 .f32) shapeCasts_S8448x4x2x64_S8448x512) bitsLt_bf16_f32 := by
    unfold W1
    after_results
    rfl
  rw [e]
  pointwise

theorem W1_v18 (r : Fin 512) (j : Fin 384) : (W1 m ρ c (Proc.devRef .tc main_v18) : S512x384.Idx → BitVec 32) (ix2 r j)
    = IntOp.absi (IntOp.subi (IntOp.subi (BitVec.ofNat 32 j.val) 128#32) (IntOp.andi (BitVec.ofNat 32 r.val) 127#32)) := by
  have e : (W1 m ρ c (Proc.devRef .tc main_v18) : S512x384.Idx → BitVec 32)
      = absi (subi (subi (iotaInDim S512x384 32 1) (broadcastInDim S512x384 ![] bcast_S_S512x384 (constantI S_ 32 128#32)))
          (andi (iotaInDim S512x384 32 0) (broadcastInDim S512x384 ![] bcast_S_S512x384 (constantI S_ 32 127#32)))) := by
    unfold W1
    after_results
  rw [e]
  pointwise

theorem k0_at (x : Vec Ideal S512x384 .i32) (r : Fin 512) (j : Fin 384) :
    k0_pay1 (F := Ideal) x (ix2 r j) = if IntOp.cmpi .sle (x (ix2 r j)) 128#32 = 1#1 then 0 else ⊥ := by
  pointwise [k0_pay1]
  rfl

/-- The band: slot `j` within 128 of row `r`'s own position. -/
theorem near : ∀ k : Fin 512, (IntOp.cmpi .sle (IntOp.absi (BitVec.ofNat 32 k.val - 256#32)) 128#32 = 1#1) ↔ (128 ≤ k.val ∧ k.val ≤ 384) := by
  decide +kernel
theorem band_at (r : Fin 128) (j : Fin 384) :
    (IntOp.cmpi .sle (IntOp.absi (IntOp.subi (IntOp.subi (BitVec.ofNat 32 j.val) 128#32) (BitVec.ofNat 32 r.val))) 128#32 = 1#1)
      ↔ (r.val ≤ j.val ∧ j.val ≤ r.val + 256) := by
  have e : IntOp.subi (IntOp.subi (BitVec.ofNat 32 j.val) 128#32) (BitVec.ofNat 32 r.val) = BitVec.ofNat 32 (j.val + 128 - r.val) - 256#32 := by
    unfold IntOp.subi
    apply BitVec.eq_of_toNat_eq
    simp only [BitVec.toNat_sub, BitVec.toNat_ofNat]
    omega
  have h := near ⟨j.val + 128 - r.val, by omega⟩
  dsimp only at h
  rw [e, h]
  omega
theorem and127 : ∀ r : Fin 512, IntOp.andi (BitVec.ofNat 32 r.val) 127#32 = BitVec.ofNat 32 (r.val % 128) := by decide +kernel

theorem idx0 : ∀ t : Fin cfg0.N, win0_0.index t = ![0, 0] := (by decide +kernel : ∀ t : Fin grid0.N, _)

theorem ib00 (V : (c : Dev nD) → (b : Ref sig .tc) → Buf (Elt Ideal) ((c : Thread nD τ).loc b)) (t : Fin cfg0.N) :
    (iblk0 V c 0 t : S512x384.Idx → BitVec 32) = (V c main_v18 : S512x384.Idx → BitVec 32) := by
  funext x
  blk_ext [iblk0, idx0 t]

theorem W2_v19 (r : Fin 512) (j : Fin 384) : (W2 m ρ c (Proc.devRef .tc main_v19) : S512x384.Idx → EReal) (ix2 r j)
    = (if r.val % 128 ≤ j.val ∧ j.val ≤ r.val % 128 + 256 then 0 else ⊥ : EReal) := by
  have e : (W2 m ρ c (Proc.devRef .tc main_v19) : S512x384.Idx → EReal)
      = k0_pay1 (F := Ideal) (W1 m ρ c (Proc.devRef .tc main_v18) : S512x384.Idx → BitVec 32) := by
    refine (W2_arr m ρ c 1).trans ?_
    refine (dat0 (V1 m ρ) c).arrAt_eq_of_after_last 1 (⟨0, by decide⟩ : Fin cfg0.N) (by decide +kernel) _ fun j => ?_
    blk_simp
    refine Eq.trans (congrFun (after0_1 (V1 m ρ) c ⟨0, by decide⟩) _) ?_
    frame_out
    refine congrFun (congrArg (k0_pay1 (F := Ideal)) ?_) j
    exact ib00 c _ _
  rw [e, k0_at, W1_v18, and127]
  have hb := band_at ⟨r.val % 128, by omega⟩ j
  dsimp only at hb
  by_cases h : r.val % 128 ≤ j.val ∧ j.val ≤ r.val % 128 + 256
  · rw [if_pos h, if_pos (hb.2 h)]
  · rw [if_neg h, if_neg (fun e => h (hb.1 e))]

theorem W2_v2 (t : Fin 8448) (l : Fin 1024) : (W2 m ρ c (Proc.devRef .tc main_v2) : S8448x1024.Idx → EReal) (ix2 t l)
    = aQ m c (ix2 t l) * Spec.sc := by
  rw [W2_of m ρ c main_v2 (by decide +kernel)]
  exact W1_v2 m ρ c t l

theorem W2_v6 (t : Fin 8448) (l : Fin 512) : (W2 m ρ c (Proc.devRef .tc main_v6) : S8448x512.Idx → EReal) (ix2 t l)
    = aK m c (ix2 t (⟨l.val / 128 * 64 + l.val % 64, by omega⟩ : Fin 256)) := by
  rw [W2_of m ρ c main_v6 (by decide +kernel)]
  exact W1_v6 m ρ c t l

theorem W2_v10 (t : Fin 8448) (l : Fin 512) : (W2 m ρ c (Proc.devRef .tc main_v10) : S8448x512.Idx → EReal) (ix2 t l)
    = aV m c (ix2 t (⟨l.val / 128 * 64 + l.val % 64, by omega⟩ : Fin 256)) := by
  rw [W2_of m ρ c main_v10 (by decide +kernel)]
  exact W1_v10 m ρ c t l

theorem W2_arg3 : (W2 m ρ c (Proc.devRef .tc main_arg3) : S8448x1024.Idx → EReal) = aO m c :=
  W2_args m ρ c main_arg3 (by decide +kernel)

theorem W2_arg4 : (W2 m ρ c (Proc.devRef .tc main_arg4) : S16.Idx → EReal) = aZ m c :=
  W2_args m ρ c main_arg4 (by decide +kernel)

end Cert.KernelIdeal.Attn

end
-- ==== Proof.Attn.Link.lean ====
/- The values of one point's halves are those of the gradients' formulas, when its blocks hold the arguments' rows. -/
module

public import proofs.«01_k».proof.Proof.Attn.Out
public import proofs.«01_k».proof.Proof.Attn.Spec

@[expose] public section

set_option maxRecDepth 16384

noncomputable section

namespace Cert.KernelIdeal.Attn

open Idealize.ShloMosaic Cert.KernelIdeal Cert.KernelIdeal.Gen
open Cert.Spec (Args)

/-! ## Sums over lanes and stacked rows -/

theorem sum_lanes (f : Fin 64 → EReal) (e : ℕ) :
    ∑ l : Fin 128, (if (l.val < 64 ↔ e % 2 = 0) then f ⟨l.val % 64, by omega⟩ else 0) = ∑ d, f d := by
  rw [Fin.sum_univ_add (a := 64) (b := 64) (fun l : Fin (64 + 64) => if (l.val < 64 ↔ e % 2 = 0) then f ⟨l.val % 64, by omega⟩ else 0)]
  by_cases h : e % 2 = 0
  · rw [Finset.sum_eq_zero (s := Finset.univ) (f := fun i : Fin 64 => if ((Fin.natAdd 64 i).val < 64 ↔ e % 2 = 0) then f ⟨(Fin.natAdd 64 i).val % 64, by omega⟩ else 0), add_zero]
    · refine Finset.sum_congr rfl fun i _ => ?_
      have hi := i.isLt
      rw [if_pos (by simp only [Fin.val_castAdd]; omega)]
      exact congrArg f (Fin.ext (by simp only [Fin.val_castAdd]; omega))
    · intro i _
      rw [if_neg (by simp only [Fin.val_natAdd]; omega)]
  · rw [Finset.sum_eq_zero (s := Finset.univ) (f := fun i : Fin 64 => if ((Fin.castAdd 64 i).val < 64 ↔ e % 2 = 0) then f ⟨(Fin.castAdd 64 i).val % 64, by omega⟩ else 0), zero_add]
    · refine Finset.sum_congr rfl fun i _ => ?_
      have hi := i.isLt
      rw [if_pos (by simp only [Fin.val_natAdd]; omega)]
      exact congrArg f (Fin.ext (by simp only [Fin.val_natAdd]; omega))
    · intro i _
      have hi := i.isLt
      rw [if_neg (by simp only [Fin.val_castAdd]; omega)]

theorem sum_rows (f : Fin 512 → EReal) :
    ∑ r, f r = ∑ g : Fin 4, ∑ r : Fin 128, f ⟨g.val * 128 + r.val, by omega⟩ := by
  rw [← Finset.sum_product' Finset.univ Finset.univ (fun (g : Fin 4) (r : Fin 128) => f ⟨g.val * 128 + r.val, by omega⟩)]
  refine Finset.sum_bij' (fun r _ => ((⟨r.val / 128, by omega⟩ : Fin 4), (⟨r.val % 128, by omega⟩ : Fin 128)))
    (fun p _ => (⟨p.1.val * 128 + p.2.val, by omega⟩ : Fin 512)) ?_ ?_ ?_ ?_ ?_
  · intro r _; simp
  · intro p _; simp
  · intro r _; exact Fin.ext (by dsimp only; omega)
  · intro p _; exact Prod.ext (Fin.ext (by dsimp only; omega)) (Fin.ext (by dsimp only; omega))
  · intro r _; exact congrArg f (Fin.ext (by dsimp only; omega))

/-! ## The blocks -/

/-- Key head `2 b + h`. -/
def kvh (b h : Fin 2) : Fin 4 := ⟨2 * b.val + h.val, by omega⟩

/-- The blocks of the point of pair `b` and block `n` hold the arguments' rows. -/
structure Blk (A : Args) (b : Fin 2) (n : Fin 66) (x0 : S16.Idx → EReal) (x1 : S512x384.Idx → EReal) (x2 x3 : S128x512.Idx → EReal)
    (x4 x5 x6 : S128x256.Idx → EReal) (x7 : S256x256.Idx → EReal) (x8 x9 x10 : S128x256.Idx → EReal) (x11 : S256x256.Idx → EReal) : Prop where
  z : ∀ (h : Fin 2) (g : Fin 4), x0 (ix1 (⟨8 * b.val + 4 * h.val + g.val, by omega⟩ : Fin 16)) = A.z (kvh b h) g
  bd : ∀ (r : Fin 512) (j : Fin 384), x1 (ix2 r j) = if r.val % 128 ≤ j.val ∧ j.val ≤ r.val % 128 + 256 then 0 else ⊥
  q : ∀ (r : Fin 128) (l : Fin 512), x2 (ix2 r l) = A.q (Spec.row n r) (kvh b ⟨l.val / 256, by omega⟩) ⟨l.val / 64 % 4, by omega⟩ ⟨l.val % 64, by omega⟩ * Spec.sc
  o : ∀ (r : Fin 128) (l : Fin 512), x3 (ix2 r l) = A.o (Spec.row n r) (kvh b ⟨l.val / 256, by omega⟩) ⟨l.val / 64 % 4, by omega⟩ ⟨l.val % 64, by omega⟩
  k0 : ∀ (r : Fin 128) (l : Fin 256), x4 (ix2 r l) = A.k (Spec.key n (Spec.slot 0 r)) (kvh b ⟨l.val / 128, by omega⟩) ⟨l.val % 64, by omega⟩
  k1 : ∀ (r : Fin 128) (l : Fin 256), x5 (ix2 r l) = A.k (Spec.key n (Spec.slot 1 r)) (kvh b ⟨l.val / 128, by omega⟩) ⟨l.val % 64, by omega⟩
  k2 : ∀ (r : Fin 128) (l : Fin 256), x6 (ix2 r l) = A.k (Spec.key n (Spec.slot 2 r)) (kvh b ⟨l.val / 128, by omega⟩) ⟨l.val % 64, by omega⟩
  kc : ∀ (c : Fin 256) (l : Fin 256), x7 (ix2 c l) = A.k (Spec.cx c) (kvh b ⟨l.val / 128, by omega⟩) ⟨l.val % 64, by omega⟩
  v0 : ∀ (r : Fin 128) (l : Fin 256), x8 (ix2 r l) = A.v (Spec.key n (Spec.slot 0 r)) (kvh b ⟨l.val / 128, by omega⟩) ⟨l.val % 64, by omega⟩
  v1 : ∀ (r : Fin 128) (l : Fin 256), x9 (ix2 r l) = A.v (Spec.key n (Spec.slot 1 r)) (kvh b ⟨l.val / 128, by omega⟩) ⟨l.val % 64, by omega⟩
  v2 : ∀ (r : Fin 128) (l : Fin 256), x10 (ix2 r l) = A.v (Spec.key n (Spec.slot 2 r)) (kvh b ⟨l.val / 128, by omega⟩) ⟨l.val % 64, by omega⟩
  vc : ∀ (c : Fin 256) (l : Fin 256), x11 (ix2 c l) = A.v (Spec.cx c) (kvh b ⟨l.val / 128, by omega⟩) ⟨l.val % 64, by omega⟩

/-- The head of the group and the row of a stacked row. -/
def rg (r : Fin 512) : Fin 4 := ⟨r.val / 128, by omega⟩
def rr (r : Fin 512) : Fin 128 := ⟨r.val % 128, by omega⟩
def lm (l : Fin 128) : Fin 64 := ⟨l.val % 64, by omega⟩

/-- A stack of heads at an index, from the block's entries. -/
theorem sq_stack (x : S128x512.Idx → EReal) (f : Fin 128 → Fin 2 → Fin 4 → Fin 64 → EReal)
    (hx : ∀ (r : Fin 128) (l : Fin 512), x (ix2 r l) = f r ⟨l.val / 256, by omega⟩ ⟨l.val / 64 % 4, by omega⟩ ⟨l.val % 64, by omega⟩)
    (h : Fin 2) (r : Fin 512) (l : Fin 128) :
    sq x h (ix2 r l) = if (l.val < 64 ↔ r.val / 128 % 2 = 0) then f (rr r) h (rg r) (lm l) else 0 := by
  show sqAt x h r l = _
  unfold sqAt
  have hr := r.isLt
  have hl := l.isLt
  by_cases e : (l.val < 64 ↔ r.val / 128 % 2 = 0)
  · rw [if_pos e, if_pos e, hx]
    have e1 : (⟨(h.val * 256 + r.val / 256 * 128 + l.val) / 256, by omega⟩ : Fin 2) = h := Fin.ext (by dsimp only; omega)
    have e2 : (⟨(h.val * 256 + r.val / 256 * 128 + l.val) / 64 % 4, by omega⟩ : Fin 4) = rg r := Fin.ext (by dsimp only [rg]; omega)
    have e3 : (⟨(h.val * 256 + r.val / 256 * 128 + l.val) % 64, by omega⟩ : Fin 64) = lm l := Fin.ext (by dsimp only [lm]; omega)
    dsimp only
    rw [e1, e2, e3]
    rfl
  · rw [if_neg e, if_neg e]

/-- Three blocks of keys at an index. -/
theorem sk_stack (x y z : S128x256.Idx → EReal) (f : Fin 384 → Fin 2 → Fin 64 → EReal)
    (hx : ∀ (r : Fin 128) (l : Fin 256), x (ix2 r l) = f (Spec.slot 0 r) ⟨l.val / 128, by omega⟩ ⟨l.val % 64, by omega⟩)
    (hy : ∀ (r : Fin 128) (l : Fin 256), y (ix2 r l) = f (Spec.slot 1 r) ⟨l.val / 128, by omega⟩ ⟨l.val % 64, by omega⟩)
    (hz : ∀ (r : Fin 128) (l : Fin 256), z (ix2 r l) = f (Spec.slot 2 r) ⟨l.val / 128, by omega⟩ ⟨l.val % 64, by omega⟩)
    (h : Fin 2) (j : Fin 384) (l : Fin 128) : sk x y z h (ix2 j l) = f j h (lm l) := by
  show skAt x y z h j l = _
  unfold skAt
  have hj := j.isLt
  have hl := l.isLt
  have e1 : (⟨(h.val * 128 + l.val) / 128, by omega⟩ : Fin 2) = h := Fin.ext (by dsimp only; omega)
  have e3 : (⟨(h.val * 128 + l.val) % 64, by omega⟩ : Fin 64) = lm l := Fin.ext (by dsimp only [lm]; omega)
  dsimp only
  split
  · rw [hx]
    dsimp only
    rw [e1, e3]
    exact congrArg (fun u => f u h (lm l)) (Fin.ext (by show 0 * 128 + j.val % 128 = j.val; omega))
  · split
    · rw [hy]
      dsimp only
      rw [e1, e3]
      exact congrArg (fun u => f u h (lm l)) (Fin.ext (by show 1 * 128 + j.val % 128 = j.val; omega))
    · rw [hz]
      dsimp only
      rw [e1, e3]
      exact congrArg (fun u => f u h (lm l)) (Fin.ext (by show 2 * 128 + j.val % 128 = j.val; omega))

theorem scx_stack (x : S256x256.Idx → EReal) (f : Fin 256 → Fin 2 → Fin 64 → EReal)
    (hx : ∀ (r : Fin 256) (l : Fin 256), x (ix2 r l) = f r ⟨l.val / 128, by omega⟩ ⟨l.val % 64, by omega⟩)
    (h : Fin 2) (c : Fin 256) (l : Fin 128) : scx x h (ix2 c l) = f c h (lm l) := by
  show x (ix2 c (⟨h.val * 128 + l.val, _⟩ : Fin 256)) = _
  have hl := l.isLt
  rw [hx]
  have e1 : (⟨(h.val * 128 + l.val) / 128, by omega⟩ : Fin 2) = h := Fin.ext (by dsimp only; omega)
  have e3 : (⟨(h.val * 128 + l.val) % 64, by omega⟩ : Fin 64) = lm l := Fin.ext (by dsimp only [lm]; omega)
  dsimp only
  rw [e1, e3]

/-- A product of a stacked row with a key whose lanes repeat its 64 components. -/
theorem dot_stack (a : Fin 512 → Fin 64 → EReal) (k : Fin 64 → EReal) (r : Fin 512)
    (x y : Fin 128 → EReal) (hx : ∀ l, x l = if (l.val < 64 ↔ r.val / 128 % 2 = 0) then a r (lm l) else 0) (hy : ∀ l, y l = k (lm l)) :
    ∑ l : Fin 128, x l * y l = ∑ d, a r d * k d := by
  rw [← sum_lanes (fun d => a r d * k d) (r.val / 128)]
  refine Finset.sum_congr rfl fun l _ => ?_
  rw [hx, hy]
  split
  · rfl
  · rw [zero_mul]

/-- Both lanes of a pair together give the row's own component. -/
theorem both_stack (a : Fin 512 → Fin 64 → EReal) (w : Fin 512 → EReal) (x : Fin 512 → Fin 128 → EReal)
    (hx : ∀ r l, x r l = if (l.val < 64 ↔ r.val / 128 % 2 = 0) then a r (lm l) else 0) (l : Fin 128) :
    (∑ r, w r * x r l) + ∑ r, w r * x r (opp l) = ∑ r, w r * a r (lm l) := by
  rw [← Finset.sum_add_distrib]
  refine Finset.sum_congr rfl fun r _ => ?_
  have hl := l.isLt
  have e : lm (opp l) = lm l := Fin.ext (by dsimp only [lm, opp]; omega)
  rw [hx, hx, e]
  have ho : (opp l).val < 64 ↔ ¬ l.val < 64 := by dsimp only [opp]; omega
  by_cases c : (l.val < 64 ↔ r.val / 128 % 2 = 0)
  · rw [if_pos c, if_neg (by rw [ho]; omega), mul_zero, add_zero]
  · rw [if_neg c, if_pos (by rw [ho]; omega), mul_zero, zero_add]

section
variable {A : Args} (hA : A.Real) {b : Fin 2} {n : Fin 66} {x0 : S16.Idx → EReal} {x1 : S512x384.Idx → EReal} {x2 x3 : S128x512.Idx → EReal}
    {x4 x5 x6 : S128x256.Idx → EReal} {x7 : S256x256.Idx → EReal} {x8 x9 x10 : S128x256.Idx → EReal} {x11 : S256x256.Idx → EReal}
    (H : Blk A b n x0 x1 x2 x3 x4 x5 x6 x7 x8 x9 x10 x11) (h : Fin 2)
include H

theorem sq_q (r : Fin 512) (l : Fin 128) : sq x2 h (ix2 r l) = if (l.val < 64 ↔ r.val / 128 % 2 = 0) then
    A.q (Spec.row n (rr r)) (kvh b h) (rg r) (lm l) * Spec.sc else 0 :=
  sq_stack x2 (fun r h g d => A.q (Spec.row n r) (kvh b h) g d * Spec.sc) H.q h r l
theorem sq_o (r : Fin 512) (l : Fin 128) : sq x3 h (ix2 r l) = if (l.val < 64 ↔ r.val / 128 % 2 = 0) then
    A.o (Spec.row n (rr r)) (kvh b h) (rg r) (lm l) else 0 :=
  sq_stack x3 (fun r h g d => A.o (Spec.row n r) (kvh b h) g d) H.o h r l
theorem sk_k (j : Fin 384) (l : Fin 128) : sk x4 x5 x6 h (ix2 j l) = A.k (Spec.key n j) (kvh b h) (lm l) :=
  sk_stack x4 x5 x6 (fun j h d => A.k (Spec.key n j) (kvh b h) d) H.k0 H.k1 H.k2 h j l
theorem sk_v (j : Fin 384) (l : Fin 128) : sk x8 x9 x10 h (ix2 j l) = A.v (Spec.key n j) (kvh b h) (lm l) :=
  sk_stack x8 x9 x10 (fun j h d => A.v (Spec.key n j) (kvh b h) d) H.v0 H.v1 H.v2 h j l
theorem sc_k (c : Fin 256) (l : Fin 128) : scx x7 h (ix2 c l) = A.k (Spec.cx c) (kvh b h) (lm l) :=
  scx_stack x7 (fun c h d => A.k (Spec.cx c) (kvh b h) d) H.kc h c l
theorem sc_v (c : Fin 256) (l : Fin 128) : scx x11 h (ix2 c l) = A.v (Spec.cx c) (kvh b h) (lm l) :=
  scx_stack x11 (fun c h d => A.v (Spec.cx c) (kvh b h) d) H.vc h c l

include hA in
theorem dotq (r : Fin 512) (u : Fin 8448) (y : Fin 128 → EReal) (hy : ∀ l, y l = A.k u (kvh b h) (lm l)) :
    ∑ l : Fin 128, sq x2 h (ix2 r l) * y l = Spec.dotK A n (rr r) (kvh b h) (rg r) u := by
  rw [dot_stack (fun r d => A.q (Spec.row n (rr r)) (kvh b h) (rg r) d * Spec.sc) (fun d => A.k u (kvh b h) d) r _ _ (sq_q H h r) hy]
  unfold Spec.dotK Spec.sc
  rw [Row.sum_mul_coe _ _ _ (Spec.sc_nonneg hA)]
  exact Finset.sum_congr rfl fun d _ => mul_right_comm _ _ _
theorem doto (r : Fin 512) (u : Fin 8448) (y : Fin 128 → EReal) (hy : ∀ l, y l = A.v u (kvh b h) (lm l)) :
    ∑ l : Fin 128, sq x3 h (ix2 r l) * y l = Spec.dotV A n (rr r) (kvh b h) (rg r) u :=
  dot_stack (fun r d => A.o (Spec.row n (rr r)) (kvh b h) (rg r) d) (fun d => A.v u (kvh b h) d) r _ _ (sq_o H h r) hy

include hA in
theorem rowL_eq (r : Fin 512) : rowL (sb x1 n.val) (sq x2 h) (sk x4 x5 x6 h) r = Spec.sL A n (rr r) (kvh b h) (rg r) := by
  funext j
  unfold rowL
  rw [dotq hA H h r (Spec.key n j) _ (sk_k H h j)]
  show _ + (x1 (ix2 r j) + if vld n.val j.val then 0 else ⊥) = _
  rw [H.bd]
  unfold Spec.sL
  have hr := Spec.dotK_real n (rr r) (kvh b h) (rg r) hA (Spec.key n j)
  have hok : Spec.ok n (rr r) j ↔ (r.val % 128 ≤ j.val ∧ j.val ≤ r.val % 128 + 256) ∧ vld n.val j.val := by
    unfold Spec.ok vld rr; dsimp only; tauto
  by_cases c1 : r.val % 128 ≤ j.val ∧ j.val ≤ r.val % 128 + 256
  · by_cases c2 : vld n.val j.val
    · rw [if_pos c1, if_pos c2, if_pos (hok.2 ⟨c1, c2⟩), add_zero, add_zero]
    · rw [if_pos c1, if_neg c2, if_neg (fun e => c2 (hok.1 e).2), zero_add, EReal.add_bot]
  · rw [if_neg c1, if_neg (fun e => c1 (hok.1 e).1), EReal.bot_add, EReal.add_bot]
include hA in
theorem rowC_eq (r : Fin 512) : rowC (sq x2 h) (scx x7 h) r = Spec.sC A n (rr r) (kvh b h) (rg r) :=
  funext fun c => dotq hA H h r (Spec.cx c) _ (sc_k H h c)
theorem rowDL_eq (r : Fin 512) : rowDL (sq x3 h) (sk x8 x9 x10 h) r = Spec.fL A n (rr r) (kvh b h) (rg r) :=
  funext fun j => doto H h r (Spec.key n j) _ (sk_v H h j)
theorem rowDC_eq (r : Fin 512) : rowDC (sq x3 h) (scx x11 h) r = Spec.fC A n (rr r) (kvh b h) (rg r) :=
  funext fun c => doto H h r (Spec.cx c) _ (sc_v H h c)

variable (i : grid1.Coords) (hi : (i 0).val = b.val) (hn : (i 1).val = n.val)

include hi in
theorem sz_eq (r : Fin 512) : sz (hz i x0 h) (ix2 r 0) = A.z (kvh b h) (rg r) := by
  have hr := r.isLt
  show x0 (ix1 (⟨8 * (i 0).val + 4 * h.val + r.val / 128, _⟩ : Fin 16)) = _
  rw [← H.z h (rg r)]
  exact congrArg (fun u => x0 (ix1 u)) (Fin.ext (by dsimp only [rg]; omega))

include hA hi in
theorem grL_eq (r : Fin 512) (j : Fin 384) :
    grL (sb x1 n.val) (sq x2 h) (sq x3 h) (sk x4 x5 x6 h) (sk x8 x9 x10 h) (scx x7 h) (scx x11 h) (sz (hz i x0 h)) r j
      = Spec.gL A n (rr r) (kvh b h) (rg r) j := by
  unfold grL
  rw [rowL_eq hA H, rowC_eq hA H, rowDL_eq H, rowDC_eq H, sz_eq H h i hi]
  rfl
include hA hi in
theorem grC_eq (r : Fin 512) (c : Fin 256) :
    grC (sb x1 n.val) (sq x2 h) (sq x3 h) (sk x4 x5 x6 h) (sk x8 x9 x10 h) (scx x7 h) (scx x11 h) (sz (hz i x0 h)) r c
      = Spec.gC A n (rr r) (kvh b h) (rg r) c := by
  unfold grC
  rw [rowL_eq hA H, rowC_eq hA H, rowDL_eq H, rowDC_eq H, sz_eq H h i hi]
  rfl

include hA hi hn in
theorem hQ_at (r : Fin 512) (l : Fin 128) : hQ i x0 x1 x2 x3 x4 x5 x6 x7 x8 x9 x10 x11 h (ix2 r l)
    = Spec.dq A n (rr r) (kvh b h) (rg r) (lm l) := by
  unfold hQ
  rw [hn, dQ_apply]
  unfold Spec.dq Spec.sc
  refine congrArg (· * ((1 / 8 : ℝ) : EReal)) (congrArg₂ (· + ·) (Finset.sum_congr rfl fun j _ => ?_) (Finset.sum_congr rfl fun c _ => ?_))
  · rw [grL_eq hA H h i hi, sk_k H]
  · rw [grC_eq hA H h i hi, sc_k H]

theorem rr_mk (g : Fin 4) (r : Fin 128) (hb : g.val * 128 + r.val < 512) : rr ⟨g.val * 128 + r.val, hb⟩ = r := Fin.ext (by dsimp only [rr]; omega)
theorem rg_mk (g : Fin 4) (r : Fin 128) (hb : g.val * 128 + r.val < 512) : rg ⟨g.val * 128 + r.val, hb⟩ = g := Fin.ext (by dsimp only [rg]; omega)

include hA hi hn in
theorem hKL_at (j : Fin 384) (l : Fin 128) : hKL i x0 x1 x2 x3 x4 x5 x6 x7 x8 x9 x10 x11 h (ix2 j l)
    = Spec.dkl A n (kvh b h) j (lm l) := by
  unfold hKL
  rw [hn, dKL_apply, both_stack (fun r d => A.q (Spec.row n (rr r)) (kvh b h) (rg r) d * Spec.sc) _ (fun r l => sq x2 h (ix2 r l)) (sq_q H h) l, sum_rows]
  unfold Spec.dkl
  refine Finset.sum_congr rfl fun g _ => Finset.sum_congr rfl fun r _ => ?_
  rw [grL_eq hA H h i hi, rr_mk H, rg_mk H]
include hA hi hn in
theorem hKC_at (c : Fin 256) (l : Fin 128) : hKC i x0 x1 x2 x3 x4 x5 x6 x7 x8 x9 x10 x11 h (ix2 c l)
    = ∑ g, ∑ r, Spec.gC A n r (kvh b h) g c * (A.q (Spec.row n r) (kvh b h) g (lm l) * Spec.sc) := by
  unfold hKC
  rw [hn, dKC_apply, both_stack (fun r d => A.q (Spec.row n (rr r)) (kvh b h) (rg r) d * Spec.sc) _ (fun r l => sq x2 h (ix2 r l)) (sq_q H h) l, sum_rows]
  refine Finset.sum_congr rfl fun g _ => Finset.sum_congr rfl fun r _ => ?_
  rw [grC_eq hA H h i hi, rr_mk H, rg_mk H]
include hA hi hn in
theorem hVL_at (j : Fin 384) (l : Fin 128) : hVL i x0 x1 x2 x3 x4 x5 x6 x7 h (ix2 j l)
    = Spec.dvl A n (kvh b h) j (lm l) := by
  unfold hVL
  rw [hn, dVL_apply, both_stack (fun r d => A.o (Spec.row n (rr r)) (kvh b h) (rg r) d) _ (fun r l => sq x3 h (ix2 r l)) (sq_o H h) l, sum_rows]
  unfold Spec.dvl
  refine Finset.sum_congr rfl fun g _ => Finset.sum_congr rfl fun r _ => ?_
  rw [rowL_eq hA H, rowC_eq hA H, sz_eq H h i hi, rr_mk H, rg_mk H]
  rfl
include hA hi hn in
theorem hVC_at (c : Fin 256) (l : Fin 128) : hVC i x0 x1 x2 x3 x4 x5 x6 x7 h (ix2 c l)
    = ∑ g, ∑ r, Spec.pC A n r (kvh b h) g c * A.o (Spec.row n r) (kvh b h) g (lm l) := by
  unfold hVC
  rw [hn, dVC_apply, both_stack (fun r d => A.o (Spec.row n (rr r)) (kvh b h) (rg r) d) _ (fun r l => sq x3 h (ix2 r l)) (sq_o H h) l, sum_rows]
  refine Finset.sum_congr rfl fun g _ => Finset.sum_congr rfl fun r _ => ?_
  rw [rowL_eq hA H, rowC_eq hA H, sz_eq H h i hi, rr_mk H, rg_mk H]
  rfl
include hA hi hn in
theorem sumZ_at (g : Fin 4) : sumZ (hZ i x0 x1 x2 x3 x4 x5 x6 x7 x8 x9 x10 x11 h) g = ∑ r, Spec.gZ A n r (kvh b h) g := by
  unfold sumZ hZ
  refine Finset.sum_congr rfl fun r _ => ?_
  rw [hn, dZ_apply, rowL_eq hA H, rowC_eq hA H, rowDL_eq H, rowDC_eq H, sz_eq H h i hi, rr_mk H, rg_mk H]
  rfl

end

end Cert.KernelIdeal.Attn

end
-- ==== Proof.Attn.Blocks.lean ====
/- The backward kernel's blocks hold the arguments' rows. -/
module

public import proofs.«01_k».proof.Proof.Attn.Host
public import proofs.«01_k».proof.Proof.Attn.Link

@[expose] public section

set_option maxRecDepth 16384

noncomputable section

namespace Cert.KernelIdeal.Attn

open Idealize.ShloMosaic Idealize.ShloMosaic.TcCoe Idealize.ShloMosaic.Tactic Cert.KernelIdeal.Gen

/-- Point `t`'s pair of key heads and block. -/
theorem lt_of_pt (t : Fin cfg1.N) : t.val < 132 := lt_of_lt_of_eq t.isLt (by decide +kernel)
def pb (t : Fin cfg1.N) : Fin 2 := ⟨t.val / 66, by have := lt_of_pt t; omega⟩
def pn (t : Fin cfg1.N) : Fin 66 := ⟨t.val % 66, by omega⟩

theorem coords1 : ∀ t : Fin cfg1.N, (grid1.coords t 0).val = t.val / 66 ∧ (grid1.coords t 1).val = t.val % 66 :=
  (by decide +kernel : ∀ t : Fin grid1.N, _)

theorem idx1 : ∀ t : Fin cfg1.N, win1_0.index t = ![0] ∧ win1_1.index t = ![0, 0] ∧ win1_2.index t = ![t.val % 66, t.val / 66]
    ∧ win1_3.index t = ![t.val % 66, t.val / 66] ∧ win1_4.index t = ![min (t.val % 66 - 1) 65, t.val / 66]
    ∧ win1_5.index t = ![t.val % 66, t.val / 66] ∧ win1_6.index t = ![min (t.val % 66 + 1) 65, t.val / 66]
    ∧ win1_7.index t = ![0, t.val / 66] ∧ win1_8.index t = ![min (t.val % 66 - 1) 65, t.val / 66]
    ∧ win1_9.index t = ![t.val % 66, t.val / 66] ∧ win1_10.index t = ![min (t.val % 66 + 1) 65, t.val / 66]
    ∧ win1_11.index t = ![0, t.val / 66] :=
  (by decide +kernel : ∀ t : Fin grid1.N, _)

variable (V : (c : Dev nD) → (b : Ref sig .tc) → Buf (Elt Ideal) ((c : Thread nD τ).loc b)) (c : Dev nD) (t : Fin cfg1.N)

theorem ib0 (i : Fin 16) : (iblk1 V c 0 t : S16.Idx → EReal) (ix1 i) = (V c main_arg4 : S16.Idx → EReal) (ix1 i) := by
  blk_ext [iblk1, idx1 t]
theorem ib1 (r : Fin 512) (j : Fin 384) : (iblk1 V c 1 t : S512x384.Idx → EReal) (ix2 r j) = (V c main_v19 : S512x384.Idx → EReal) (ix2 r j) := by
  blk_ext [iblk1, idx1 t]
theorem ib2 (r : Fin 128) (l : Fin 512) : (iblk1 V c 2 t : S128x512.Idx → EReal) (ix2 r l)
    = (V c main_v2 : S8448x1024.Idx → EReal) (ix2 (⟨t.val % 66 * 128 + r.val, by omega⟩ : Fin 8448) (⟨t.val / 66 * 512 + l.val, by have := lt_of_pt t; omega⟩ : Fin 1024)) := by
  blk_ext [iblk1, idx1 t]
theorem ib3 (r : Fin 128) (l : Fin 512) : (iblk1 V c 3 t : S128x512.Idx → EReal) (ix2 r l)
    = (V c main_arg3 : S8448x1024.Idx → EReal) (ix2 (⟨t.val % 66 * 128 + r.val, by omega⟩ : Fin 8448) (⟨t.val / 66 * 512 + l.val, by have := lt_of_pt t; omega⟩ : Fin 1024)) := by
  blk_ext [iblk1, idx1 t]
theorem ib4 (r : Fin 128) (l : Fin 256) : (iblk1 V c 4 t : S128x256.Idx → EReal) (ix2 r l)
    = (V c main_v6 : S8448x512.Idx → EReal) (ix2 (⟨min (t.val % 66 - 1) 65 * 128 + r.val, by omega⟩ : Fin 8448) (⟨t.val / 66 * 256 + l.val, by have := lt_of_pt t; omega⟩ : Fin 512)) := by
  blk_ext [iblk1, idx1 t]
theorem ib5 (r : Fin 128) (l : Fin 256) : (iblk1 V c 5 t : S128x256.Idx → EReal) (ix2 r l)
    = (V c main_v6 : S8448x512.Idx → EReal) (ix2 (⟨t.val % 66 * 128 + r.val, by omega⟩ : Fin 8448) (⟨t.val / 66 * 256 + l.val, by have := lt_of_pt t; omega⟩ : Fin 512)) := by
  blk_ext [iblk1, idx1 t]
theorem ib6 (r : Fin 128) (l : Fin 256) : (iblk1 V c 6 t : S128x256.Idx → EReal) (ix2 r l)
    = (V c main_v6 : S8448x512.Idx → EReal) (ix2 (⟨min (t.val % 66 + 1) 65 * 128 + r.val, by omega⟩ : Fin 8448) (⟨t.val / 66 * 256 + l.val, by have := lt_of_pt t; omega⟩ : Fin 512)) := by
  blk_ext [iblk1, idx1 t]
theorem ib7 (r : Fin 256) (l : Fin 256) : (iblk1 V c 7 t : S256x256.Idx → EReal) (ix2 r l)
    = (V c main_v6 : S8448x512.Idx → EReal) (ix2 (⟨r.val, by omega⟩ : Fin 8448) (⟨t.val / 66 * 256 + l.val, by have := lt_of_pt t; omega⟩ : Fin 512)) := by
  blk_ext [iblk1, idx1 t]
theorem ib8 (r : Fin 128) (l : Fin 256) : (iblk1 V c 8 t : S128x256.Idx → EReal) (ix2 r l)
    = (V c main_v10 : S8448x512.Idx → EReal) (ix2 (⟨min (t.val % 66 - 1) 65 * 128 + r.val, by omega⟩ : Fin 8448) (⟨t.val / 66 * 256 + l.val, by have := lt_of_pt t; omega⟩ : Fin 512)) := by
  blk_ext [iblk1, idx1 t]
theorem ib9 (r : Fin 128) (l : Fin 256) : (iblk1 V c 9 t : S128x256.Idx → EReal) (ix2 r l)
    = (V c main_v10 : S8448x512.Idx → EReal) (ix2 (⟨t.val % 66 * 128 + r.val, by omega⟩ : Fin 8448) (⟨t.val / 66 * 256 + l.val, by have := lt_of_pt t; omega⟩ : Fin 512)) := by
  blk_ext [iblk1, idx1 t]
theorem ib10 (r : Fin 128) (l : Fin 256) : (iblk1 V c 10 t : S128x256.Idx → EReal) (ix2 r l)
    = (V c main_v10 : S8448x512.Idx → EReal) (ix2 (⟨min (t.val % 66 + 1) 65 * 128 + r.val, by omega⟩ : Fin 8448) (⟨t.val / 66 * 256 + l.val, by have := lt_of_pt t; omega⟩ : Fin 512)) := by
  blk_ext [iblk1, idx1 t]
theorem ib11 (r : Fin 256) (l : Fin 256) : (iblk1 V c 11 t : S256x256.Idx → EReal) (ix2 r l)
    = (V c main_v10 : S8448x512.Idx → EReal) (ix2 (⟨r.val, by omega⟩ : Fin 8448) (⟨t.val / 66 * 256 + l.val, by have := lt_of_pt t; omega⟩ : Fin 512)) := by
  blk_ext [iblk1, idx1 t]

variable (m : (ℓ : Loc nD τ sig) → Buf (Elt Ideal) ℓ) (ρ : Dev nD → PrngReg)

/-- The gradients' inputs, read from the arrays the kernel is launched on. -/
def kargs : Spec.Args where
  q t h g d := aQ m c (ix2 t (⟨(h.val * 4 + g.val) * 64 + d.val, by omega⟩ : Fin 1024))
  o t h g d := aO m c (ix2 t (⟨(h.val * 4 + g.val) * 64 + d.val, by omega⟩ : Fin 1024))
  k t h d := aK m c (ix2 t (⟨h.val * 64 + d.val, by omega⟩ : Fin 256))
  v t h d := aV m c (ix2 t (⟨h.val * 64 + d.val, by omega⟩ : Fin 256))
  z h g := aZ m c (ix1 (⟨h.val * 4 + g.val, by omega⟩ : Fin 16))

theorem ix2_val {a b : ℕ} {i i' : Fin a} {j j' : Fin b} (hi : i.val = i'.val) (hj : j.val = j'.val) : ix2 i j = ix2 i' j' := by
  rw [Fin.ext hi, Fin.ext hj]

theorem blk1 : Blk (kargs c m) (pb t) (pn t) (iblk1 (V2 m ρ) c 0 t) (iblk1 (V2 m ρ) c 1 t) (iblk1 (V2 m ρ) c 2 t) (iblk1 (V2 m ρ) c 3 t)
    (iblk1 (V2 m ρ) c 4 t) (iblk1 (V2 m ρ) c 5 t) (iblk1 (V2 m ρ) c 6 t) (iblk1 (V2 m ρ) c 7 t) (iblk1 (V2 m ρ) c 8 t)
    (iblk1 (V2 m ρ) c 9 t) (iblk1 (V2 m ρ) c 10 t) (iblk1 (V2 m ρ) c 11 t) where
  z h g := by
    refine (ib0 _ c t _).trans ?_
    refine (congrFun (W2_arg4 m ρ c) _).trans ?_
    refine congrArg (fun k => aZ m c (ix1 k)) (Fin.ext ?_)
    simp only [kvh, pb]
    omega
  bd r j := (ib1 _ c t r j).trans (W2_v19 m ρ c r j)
  q r l := by
    refine (ib2 _ c t r l).trans ((W2_v2 m ρ c _ _).trans ?_)
    refine congrArg (fun x => aQ m c x * Spec.sc) (ix2_val ?_ ?_)
    · simp only [Spec.row, pn]
    · simp only [kvh, pb]
      omega
  o r l := by
    refine (ib3 _ c t r l).trans ((congrFun (W2_arg3 m ρ c) _).trans ?_)
    refine congrArg (aO m c) (ix2_val ?_ ?_)
    · simp only [Spec.row, pn]
    · simp only [kvh, pb]
      omega
  k0 r l := by
    refine (ib4 _ c t r l).trans ((W2_v6 m ρ c _ _).trans ?_)
    refine congrArg (aK m c) (ix2_val ?_ ?_)
    · simp only [Spec.key, Spec.slot, Spec.cx, pn]
      omega
    · simp only [kvh, pb]
      omega
  k1 r l := by
    refine (ib5 _ c t r l).trans ((W2_v6 m ρ c _ _).trans ?_)
    refine congrArg (aK m c) (ix2_val ?_ ?_)
    · simp only [Spec.key, Spec.slot, Spec.cx, pn]
      omega
    · simp only [kvh, pb]
      omega
  k2 r l := by
    refine (ib6 _ c t r l).trans ((W2_v6 m ρ c _ _).trans ?_)
    refine congrArg (aK m c) (ix2_val ?_ ?_)
    · simp only [Spec.key, Spec.slot, Spec.cx, pn]
      omega
    · simp only [kvh, pb]
      omega
  v0 r l := by
    refine (ib8 _ c t r l).trans ((W2_v10 m ρ c _ _).trans ?_)
    refine congrArg (aV m c) (ix2_val ?_ ?_)
    · simp only [Spec.key, Spec.slot, Spec.cx, pn]
      omega
    · simp only [kvh, pb]
      omega
  v1 r l := by
    refine (ib9 _ c t r l).trans ((W2_v10 m ρ c _ _).trans ?_)
    refine congrArg (aV m c) (ix2_val ?_ ?_)
    · simp only [Spec.key, Spec.slot, Spec.cx, pn]
      omega
    · simp only [kvh, pb]
      omega
  v2 r l := by
    refine (ib10 _ c t r l).trans ((W2_v10 m ρ c _ _).trans ?_)
    refine congrArg (aV m c) (ix2_val ?_ ?_)
    · simp only [Spec.key, Spec.slot, Spec.cx, pn]
      omega
    · simp only [kvh, pb]
      omega
  kc r l := by
    refine (ib7 _ c t r l).trans ((W2_v6 m ρ c _ _).trans ?_)
    refine congrArg (aK m c) (ix2_val ?_ ?_)
    · simp only [Spec.cx]
    · simp only [kvh, pb]
      omega
  vc r l := by
    refine (ib11 _ c t r l).trans ((W2_v10 m ρ c _ _).trans ?_)
    refine congrArg (aV m c) (ix2_val ?_ ?_)
    · simp only [Spec.cx]
    · simp only [kvh, pb]
      omega

end Cert.KernelIdeal.Attn

end
-- ==== Proof.Attn.Vals.lean ====
/- What the backward kernel leaves in its output arrays, when its blocks hold the arguments' rows. -/
module

public import proofs.«01_k».proof.Proof.Attn.Outs
public import proofs.«01_k».proof.Proof.Attn.Blocks

@[expose] public section

set_option maxRecDepth 16384

noncomputable section

namespace Cert.KernelIdeal.Attn

open Idealize.ShloMosaic Idealize.ShloMosaic.TcCoe Idealize.ShloMosaic.Tactic Cert.KernelIdeal.Gen

theorem oidx1 : ∀ t : Fin cfg1.N, win1_12.index t = ![t.val % 66, t.val / 66] ∧ win1_13.index t = ![t.val % 66, 0, t.val / 66]
    ∧ win1_14.index t = ![t.val % 66, 0, t.val / 66] ∧ win1_15.index t = ![0, t.val / 66] ∧ win1_16.index t = ![0, t.val / 66]
    ∧ win1_17.index t = ![0, 0] :=
  (by decide +kernel : ∀ t : Fin grid1.N, _)
theorem fl15 : ∀ t : Fin cfg1.N, (cfg1.win 15).flush t = true → t.val % 66 = 66 - 1 := (by decide +kernel : ∀ t : Fin grid1.N, _)
theorem fl16 : ∀ t : Fin cfg1.N, (cfg1.win 16).flush t = true → t.val % 66 = 66 - 1 := (by decide +kernel : ∀ t : Fin grid1.N, _)
theorem fl17 : ∀ t : Fin cfg1.N, (cfg1.win 17).flush t = true → t.val + 1 = cfg1.N := (by decide +kernel : ∀ t : Fin grid1.N, _)
theorem N1 : cfg1.N = 132 := by decide +kernel

/-! ## Equal coordinates, equal values -/

section Congr
variable (A : Spec.Args)
theorem dq_val {n n' : Fin 66} {r r' : Fin 128} {h h' g g' : Fin 4} {d d' : Fin 64} (e1 : n.val = n'.val) (e2 : r.val = r'.val)
    (e3 : h.val = h'.val) (e4 : g.val = g'.val) (e5 : d.val = d'.val) : Spec.dq A n r h g d = Spec.dq A n' r' h' g' d' := by
  rw [Fin.ext e1, Fin.ext e2, Fin.ext e3, Fin.ext e4, Fin.ext e5]
theorem dkl_val {n n' : Fin 66} {h h' : Fin 4} {j j' : Fin 384} {d d' : Fin 64} (e1 : n.val = n'.val)
    (e3 : h.val = h'.val) (e4 : j.val = j'.val) (e5 : d.val = d'.val) : Spec.dkl A n h j d = Spec.dkl A n' h' j' d' := by
  rw [Fin.ext e1, Fin.ext e3, Fin.ext e4, Fin.ext e5]
theorem dvl_val {n n' : Fin 66} {h h' : Fin 4} {j j' : Fin 384} {d d' : Fin 64} (e1 : n.val = n'.val)
    (e3 : h.val = h'.val) (e4 : j.val = j'.val) (e5 : d.val = d'.val) : Spec.dvl A n h j d = Spec.dvl A n' h' j' d' := by
  rw [Fin.ext e1, Fin.ext e3, Fin.ext e4, Fin.ext e5]
theorem dkc_val {h h' : Fin 4} {j j' : Fin 256} {d d' : Fin 64}
    (e3 : h.val = h'.val) (e4 : j.val = j'.val) (e5 : d.val = d'.val) : Spec.dkc A h j d = Spec.dkc A h' j' d' := by
  rw [Fin.ext e3, Fin.ext e4, Fin.ext e5]
theorem dvc_val {h h' : Fin 4} {j j' : Fin 256} {d d' : Fin 64}
    (e3 : h.val = h'.val) (e4 : j.val = j'.val) (e5 : d.val = d'.val) : Spec.dvc A h j d = Spec.dvc A h' j' d' := by
  rw [Fin.ext e3, Fin.ext e4, Fin.ext e5]
/-- One block's part of a context row's gradient. -/
def dkcT (n : Fin 66) (h : Fin 4) (c : Fin 256) (d : Fin 64) : EReal := ∑ g, ∑ r, Spec.gC A n r h g c * (A.q (Spec.row n r) h g d * Spec.sc)
theorem dkcT_val (n : Fin 66) {h h' : Fin 4} {c c' : Fin 256} {d d' : Fin 64} (e3 : h.val = h'.val) (e4 : c.val = c'.val) (e5 : d.val = d'.val) :
    dkcT A n h c d = dkcT A n h' c' d' := by
  rw [Fin.ext e3, Fin.ext e4, Fin.ext e5]
/-- One block's part of a context row's gradient. -/
def dvcT (n : Fin 66) (h : Fin 4) (c : Fin 256) (d : Fin 64) : EReal := ∑ g, ∑ r, Spec.pC A n r h g c * A.o (Spec.row n r) h g d
theorem dvcT_val (n : Fin 66) {h h' : Fin 4} {c c' : Fin 256} {d d' : Fin 64} (e3 : h.val = h'.val) (e4 : c.val = c'.val) (e5 : d.val = d'.val) :
    dvcT A n h c d = dvcT A n h' c' d' := by
  rw [Fin.ext e3, Fin.ext e4, Fin.ext e5]
end Congr

/-! ## The sinks' accumulator at an index -/

theorem oZ_at (i : ℕ) (D0 D1 : S512x1.Idx → EReal) (old : S8x128.Idx → EReal) (u : S8x128.Idx) :
    oZ i D0 D1 old u = old u + if (u 0).val = 0 ∧ (u 1).val / 8 = i then 0 - sumZ (if (u 1).val % 8 < 4 then D0 else D1) ⟨(u 1).val % 4, by omega⟩ else 0 := by
  unfold oZ stepZ
  by_cases h0 : (u 0).val = 0
  · by_cases h : (u 1).val / 8 = i
    · have h8 : (u 1).val = 8 * i + 0 ∨ (u 1).val = 8 * i + 1 ∨ (u 1).val = 8 * i + 2 ∨ (u 1).val = 8 * i + 3 ∨ (u 1).val = 8 * i + 4 ∨ (u 1).val = 8 * i + 5 ∨ (u 1).val = 8 * i + 6 ∨ (u 1).val = 8 * i + 7 := by omega
      rcases h8 with h8 | h8 | h8 | h8 | h8 | h8 | h8 | h8
      · have ee : (⟨(u 1).val % 4, by omega⟩ : Fin 4) = 0 := Fin.ext (show (u 1).val % 4 = 0 by omega)
        rw [ee]
        simp only [h0, h, true_and, and_true, if_true, if_false, add_zero, eq_true (show (u 1).val = 8 * i by omega), eq_false (show ¬(u 1).val = 8 * i + 1 by omega), eq_false (show ¬(u 1).val = 8 * i + 2 by omega), eq_false (show ¬(u 1).val = 8 * i + 3 by omega), eq_false (show ¬(u 1).val = 8 * i + 4 by omega), eq_false (show ¬(u 1).val = 8 * i + 5 by omega), eq_false (show ¬(u 1).val = 8 * i + 6 by omega), eq_false (show ¬(u 1).val = 8 * i + 7 by omega), eq_true (show (u 1).val % 8 < 4 by omega)]
      · have ee : (⟨(u 1).val % 4, by omega⟩ : Fin 4) = 1 := Fin.ext (show (u 1).val % 4 = 1 by omega)
        rw [ee]
        simp only [h0, h, true_and, and_true, if_true, if_false, add_zero, eq_false (show ¬(u 1).val = 8 * i by omega), eq_true (show (u 1).val = 8 * i + 1 by omega), eq_false (show ¬(u 1).val = 8 * i + 2 by omega), eq_false (show ¬(u 1).val = 8 * i + 3 by omega), eq_false (show ¬(u 1).val = 8 * i + 4 by omega), eq_false (show ¬(u 1).val = 8 * i + 5 by omega), eq_false (show ¬(u 1).val = 8 * i + 6 by omega), eq_false (show ¬(u 1).val = 8 * i + 7 by omega), eq_true (show (u 1).val % 8 < 4 by omega)]
      · have ee : (⟨(u 1).val % 4, by omega⟩ : Fin 4) = 2 := Fin.ext (show (u 1).val % 4 = 2 by omega)
        rw [ee]
        simp only [h0, h, true_and, and_true, if_true, if_false, add_zero, eq_false (show ¬(u 1).val = 8 * i by omega), eq_false (show ¬(u 1).val = 8 * i + 1 by omega), eq_true (show (u 1).val = 8 * i + 2 by omega), eq_false (show ¬(u 1).val = 8 * i + 3 by omega), eq_false (show ¬(u 1).val = 8 * i + 4 by omega), eq_false (show ¬(u 1).val = 8 * i + 5 by omega), eq_false (show ¬(u 1).val = 8 * i + 6 by omega), eq_false (show ¬(u 1).val = 8 * i + 7 by omega), eq_true (show (u 1).val % 8 < 4 by omega)]
      · have ee : (⟨(u 1).val % 4, by omega⟩ : Fin 4) = 3 := Fin.ext (show (u 1).val % 4 = 3 by omega)
        rw [ee]
        simp only [h0, h, true_and, and_true, if_true, if_false, add_zero, eq_false (show ¬(u 1).val = 8 * i by omega), eq_false (show ¬(u 1).val = 8 * i + 1 by omega), eq_false (show ¬(u 1).val = 8 * i + 2 by omega), eq_true (show (u 1).val = 8 * i + 3 by omega), eq_false (show ¬(u 1).val = 8 * i + 4 by omega), eq_false (show ¬(u 1).val = 8 * i + 5 by omega), eq_false (show ¬(u 1).val = 8 * i + 6 by omega), eq_false (show ¬(u 1).val = 8 * i + 7 by omega), eq_true (show (u 1).val % 8 < 4 by omega)]
      · have ee : (⟨(u 1).val % 4, by omega⟩ : Fin 4) = 0 := Fin.ext (show (u 1).val % 4 = 0 by omega)
        rw [ee]
        simp only [h0, h, true_and, and_true, if_true, if_false, add_zero, eq_false (show ¬(u 1).val = 8 * i by omega), eq_false (show ¬(u 1).val = 8 * i + 1 by omega), eq_false (show ¬(u 1).val = 8 * i + 2 by omega), eq_false (show ¬(u 1).val = 8 * i + 3 by omega), eq_true (show (u 1).val = 8 * i + 4 by omega), eq_false (show ¬(u 1).val = 8 * i + 5 by omega), eq_false (show ¬(u 1).val = 8 * i + 6 by omega), eq_false (show ¬(u 1).val = 8 * i + 7 by omega), eq_false (show ¬(u 1).val % 8 < 4 by omega)]
      · have ee : (⟨(u 1).val % 4, by omega⟩ : Fin 4) = 1 := Fin.ext (show (u 1).val % 4 = 1 by omega)
        rw [ee]
        simp only [h0, h, true_and, and_true, if_true, if_false, add_zero, eq_false (show ¬(u 1).val = 8 * i by omega), eq_false (show ¬(u 1).val = 8 * i + 1 by omega), eq_false (show ¬(u 1).val = 8 * i + 2 by omega), eq_false (show ¬(u 1).val = 8 * i + 3 by omega), eq_false (show ¬(u 1).val = 8 * i + 4 by omega), eq_true (show (u 1).val = 8 * i + 5 by omega), eq_false (show ¬(u 1).val = 8 * i + 6 by omega), eq_false (show ¬(u 1).val = 8 * i + 7 by omega), eq_false (show ¬(u 1).val % 8 < 4 by omega)]
      · have ee : (⟨(u 1).val % 4, by omega⟩ : Fin 4) = 2 := Fin.ext (show (u 1).val % 4 = 2 by omega)
        rw [ee]
        simp only [h0, h, true_and, and_true, if_true, if_false, add_zero, eq_false (show ¬(u 1).val = 8 * i by omega), eq_false (show ¬(u 1).val = 8 * i + 1 by omega), eq_false (show ¬(u 1).val = 8 * i + 2 by omega), eq_false (show ¬(u 1).val = 8 * i + 3 by omega), eq_false (show ¬(u 1).val = 8 * i + 4 by omega), eq_false (show ¬(u 1).val = 8 * i + 5 by omega), eq_true (show (u 1).val = 8 * i + 6 by omega), eq_false (show ¬(u 1).val = 8 * i + 7 by omega), eq_false (show ¬(u 1).val % 8 < 4 by omega)]
      · have ee : (⟨(u 1).val % 4, by omega⟩ : Fin 4) = 3 := Fin.ext (show (u 1).val % 4 = 3 by omega)
        rw [ee]
        simp only [h0, h, true_and, and_true, if_true, if_false, add_zero, eq_false (show ¬(u 1).val = 8 * i by omega), eq_false (show ¬(u 1).val = 8 * i + 1 by omega), eq_false (show ¬(u 1).val = 8 * i + 2 by omega), eq_false (show ¬(u 1).val = 8 * i + 3 by omega), eq_false (show ¬(u 1).val = 8 * i + 4 by omega), eq_false (show ¬(u 1).val = 8 * i + 5 by omega), eq_false (show ¬(u 1).val = 8 * i + 6 by omega), eq_true (show (u 1).val = 8 * i + 7 by omega), eq_false (show ¬(u 1).val % 8 < 4 by omega)]
    · simp only [h0, h, true_and, and_false, if_false, add_zero,
        eq_false (show ¬(u 1).val = 8 * i + 0 by omega), eq_false (show ¬(u 1).val = 8 * i by omega), eq_false (show ¬(u 1).val = 8 * i + 1 by omega), eq_false (show ¬(u 1).val = 8 * i + 2 by omega), eq_false (show ¬(u 1).val = 8 * i + 3 by omega), eq_false (show ¬(u 1).val = 8 * i + 4 by omega), eq_false (show ¬(u 1).val = 8 * i + 5 by omega), eq_false (show ¬(u 1).val = 8 * i + 6 by omega), eq_false (show ¬(u 1).val = 8 * i + 7 by omega)]
  · simp only [h0, false_and, if_false, add_zero]

/-! ## The arrays -/

section Arrays
variable (V : (c : Dev nD) → (b : Ref sig .tc) → Buf (Elt Ideal) ((c : Thread nD τ).loc b)) (c : Dev nD)
variable {A : Spec.Args} (hA : A.Real)
  (HB : ∀ t : Fin cfg1.N, Blk A (pb t) (pn t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t))
include hA HB

theorem point12 (t : Fin cfg1.N) (u : S128x512.Idx) : ((outsAt1 V c t.val t.isLt).1 : S128x512.Idx → EReal) u
    = Spec.dq A (pn t) (u 0) (kvh (pb t) ⟨(u 1).val / 256, by have : (u 1).val < 512 := (u 1).isLt; omega⟩) ⟨(u 1).val / 64 % 4, by omega⟩ ⟨(u 1).val % 64, by omega⟩ := by
  rw [outsAt1_eq, outs_12]
  unfold oQ
  have h0 : (u 0).val < 128 := (u 0).isLt
  have h1 : (u 1).val < 512 := (u 1).isLt
  by_cases h : (u 1).val < 256
  · rw [if_pos h]
    refine (hQ_at hA (HB t) 0 _ (coords1 t).1 (coords1 t).2 _ _).trans (dq_val A rfl ?_ ?_ ?_ ?_)
    all_goals simp only [rr, rg, lm, kvh, Fin.val_zero]
    all_goals omega
  · rw [if_neg h]
    refine (hQ_at hA (HB t) 1 _ (coords1 t).1 (coords1 t).2 _ _).trans (dq_val A rfl ?_ ?_ ?_ ?_)
    all_goals simp only [rr, rg, lm, kvh, Fin.val_one]
    all_goals omega

theorem final12 : ((dat1 V c).arrAt 12 cfg1.N : S8448x1024.Idx → EReal) = fun u : S8448x1024.Idx =>
    Spec.dq A ⟨(u 0).val / 128, by have : (u 0).val < 8448 := (u 0).isLt; omega⟩ ⟨(u 0).val % 128, by omega⟩
      ⟨(u 1).val / 256, by have : (u 1).val < 1024 := (u 1).isLt; omega⟩ ⟨(u 1).val / 64 % 4, by omega⟩ ⟨(u 1).val % 64, by omega⟩ := by
  refine (dat1 V c).arrAt_eq_of_covers 12 _ (by decide +kernel) fun t hf y => ?_
  have ht := lt_of_pt t
  have h0 : (y 0).val < 128 := (y 0).isLt
  have h1 : (y 1).val < 512 := (y 1).isLt
  blk_simp
  rw [after1_12]
  refine (point12 V c hA HB t _).trans (dq_val A ?_ ?_ ?_ ?_ ?_)
  all_goals blk_simp [oidx1 t, pn, pb, kvh]
  all_goals (try dsimp only)
  all_goals omega

theorem point13 (t : Fin cfg1.N) (u : S1x384x128.Idx) : ((outsAt1 V c t.val t.isLt).2.1 : S1x384x128.Idx → EReal) u
    = Spec.dkl A (pn t) (kvh (pb t) ⟨(u 2).val / 64, by have : (u 2).val < 128 := (u 2).isLt; omega⟩) (u 1) ⟨(u 2).val % 64, by omega⟩ := by
  rw [outsAt1_eq, outs_13]
  unfold oL
  have h2 : (u 2).val < 128 := (u 2).isLt
  by_cases h : (u 2).val < 64
  · rw [if_pos h]
    refine (hKL_at hA (HB t) 0 _ (coords1 t).1 (coords1 t).2 _ _).trans (dkl_val A rfl ?_ rfl ?_)
    all_goals simp only [lm, kvh, Fin.val_zero]
    all_goals omega
  · rw [if_neg h]
    refine (hKL_at hA (HB t) 1 _ (coords1 t).1 (coords1 t).2 _ _).trans (dkl_val A rfl ?_ rfl ?_)
    all_goals simp only [lm, kvh, Fin.val_one]
    all_goals omega

theorem final13 : ((dat1 V c).arrAt 13 cfg1.N : S66x384x256.Idx → EReal) = fun u : S66x384x256.Idx =>
    Spec.dkl A (u 0) ⟨(u 2).val / 64, by have : (u 2).val < 256 := (u 2).isLt; omega⟩ (u 1) ⟨(u 2).val % 64, by omega⟩ := by
  refine (dat1 V c).arrAt_eq_of_covers 13 _ (by decide +kernel) fun t hf y => ?_
  have ht := lt_of_pt t
  have h0 : (y 0).val < 1 := (y 0).isLt
  have h1 : (y 1).val < 384 := (y 1).isLt
  have h2 : (y 2).val < 128 := (y 2).isLt
  blk_simp
  rw [after1_13]
  refine (point13 V c hA HB t _).trans (dkl_val A ?_ ?_ ?_ ?_)
  all_goals blk_simp [oidx1 t, pn, pb, kvh]
  all_goals (try dsimp only)
  all_goals omega

theorem point14 (t : Fin cfg1.N) (u : S1x384x128.Idx) : ((outsAt1 V c t.val t.isLt).2.2.1 : S1x384x128.Idx → EReal) u
    = Spec.dvl A (pn t) (kvh (pb t) ⟨(u 2).val / 64, by have : (u 2).val < 128 := (u 2).isLt; omega⟩) (u 1) ⟨(u 2).val % 64, by omega⟩ := by
  rw [outsAt1_eq, outs_14]
  unfold oL
  have h2 : (u 2).val < 128 := (u 2).isLt
  by_cases h : (u 2).val < 64
  · rw [if_pos h]
    refine (hVL_at hA (HB t) 0 _ (coords1 t).1 (coords1 t).2 _ _).trans (dvl_val A rfl ?_ rfl ?_)
    all_goals simp only [lm, kvh, Fin.val_zero]
    all_goals omega
  · rw [if_neg h]
    refine (hVL_at hA (HB t) 1 _ (coords1 t).1 (coords1 t).2 _ _).trans (dvl_val A rfl ?_ rfl ?_)
    all_goals simp only [lm, kvh, Fin.val_one]
    all_goals omega

theorem final14 : ((dat1 V c).arrAt 14 cfg1.N : S66x384x256.Idx → EReal) = fun u : S66x384x256.Idx =>
    Spec.dvl A (u 0) ⟨(u 2).val / 64, by have : (u 2).val < 256 := (u 2).isLt; omega⟩ (u 1) ⟨(u 2).val % 64, by omega⟩ := by
  refine (dat1 V c).arrAt_eq_of_covers 14 _ (by decide +kernel) fun t hf y => ?_
  have ht := lt_of_pt t
  have h0 : (y 0).val < 1 := (y 0).isLt
  have h1 : (y 1).val < 384 := (y 1).isLt
  have h2 : (y 2).val < 128 := (y 2).isLt
  blk_simp
  rw [after1_14]
  refine (point14 V c hA HB t _).trans (dvl_val A ?_ ?_ ?_ ?_)
  all_goals blk_simp [oidx1 t, pn, pb, kvh]
  all_goals (try dsimp only)
  all_goals omega

theorem term15 (t : Fin cfg1.N) (u : S256x128.Idx) : (if (u 1).val < 64 then hKCt V c t 0 u else hKCt V c t 1 u : EReal)
    = dkcT A (pn t) (kvh (pb t) ⟨(u 1).val / 64, by have : (u 1).val < 128 := (u 1).isLt; omega⟩) (u 0) ⟨(u 1).val % 64, by omega⟩ := by
  unfold dkcT
  have h1 : (u 1).val < 128 := (u 1).isLt
  have eu : u = ix2 (u 0) (u 1) := by funext a; fin_cases a <;> rfl
  by_cases h : (u 1).val < 64
  · rw [if_pos h, eu]
    refine (hKC_at hA (HB t) 0 _ (coords1 t).1 (coords1 t).2 _ _).trans ?_
    have e : kvh (pb t) 0 = (kvh (pb t) ⟨(u 1).val / 64, by have : (u 1).val < 128 := (u 1).isLt; omega⟩) := Fin.ext (by simp only [kvh, Fin.val_zero]; omega)
    rw [e]
    rfl
  · rw [if_neg h, eu]
    refine (hKC_at hA (HB t) 1 _ (coords1 t).1 (coords1 t).2 _ _).trans ?_
    have e : kvh (pb t) 1 = (kvh (pb t) ⟨(u 1).val / 64, by have : (u 1).val < 128 := (u 1).isLt; omega⟩) := Fin.ext (by simp only [kvh, Fin.val_one]; omega)
    rw [e]
    rfl

theorem first15 (t : Fin cfg1.N) (h : t.val % 66 = 0) (u : S256x128.Idx) : ((outsAt1 V c t.val t.isLt).2.2.2.1 : S256x128.Idx → EReal) u
    = 0 + (if (u 1).val < 64 then hKCt V c t 0 u else hKCt V c t 1 u : EReal) := by
  rw [outsAt1_eq, outs_15]
  unfold oC
  rw [if_pos (by simp only [clr1, h, decide_true])]

theorem next15 (t : Fin cfg1.N) (h : ¬t.val % 66 = 0) (u : S256x128.Idx) : ((outsAt1 V c t.val t.isLt).2.2.2.1 : S256x128.Idx → EReal) u
    = ((outsAt1 V c (t.val - 1) (Nat.lt_of_le_of_lt (Nat.sub_le _ _) t.isLt)).2.2.2.1 : S256x128.Idx → EReal) u
      + (if (u 1).val < 64 then hKCt V c t 0 u else hKCt V c t 1 u : EReal) := by
  rw [outsAt1_eq, outs_15, prev_eq V c t.val t.isLt (by omega)]
  unfold oC
  rw [if_neg (by simp only [clr1, h, decide_false]; exact Bool.false_ne_true)]

theorem final15 : ((dat1 V c).arrAt 15 cfg1.N : S256x256.Idx → EReal) = fun u : S256x256.Idx =>
    Spec.dkc A ⟨(u 1).val / 64, by have : (u 1).val < 256 := (u 1).isLt; omega⟩ (u 0) ⟨(u 1).val % 64, by omega⟩ := by
  refine (dat1 V c).arrAt_eq_of_covers 15 _ (by decide +kernel) fun t hf y => ?_
  have ht := lt_of_pt t
  have h0 : (y 0).val < 256 := (y 0).isLt
  have h1 : (y 1).val < 128 := (y 1).isLt
  blk_simp
  rw [after1_15]
  refine (Pipeline.eq_sum_fin_of_reset_step_apply_of_flush (M := EReal) (ι := S256x128.Idx) (fun n hn => (outsAt1 V c n hn).2.2.2.1) 66 (fun _ => 0)
    (fun t u => if (u 1).val < 64 then hKCt V c t 0 u else hKCt V c t 1 u) (first15 V c hA HB) (next15 V c hA HB) t (fl15 t hf) _).trans ?_
  rw [zero_add]
  show _ = ∑ i, dkcT A i _ _ _
  refine Finset.sum_congr rfl fun s _ => ?_
  rw [term15 V c hA HB]
  have hs : s.val < 66 := s.isLt
  have en : pn (⟨66 * (t.val / 66) + s.val, Pipeline.run_point_lt_of_flush t (fl15 t hf) s⟩ : Fin cfg1.N) = s := Fin.ext (by simp only [pn]; omega)
  have eb : pb (⟨66 * (t.val / 66) + s.val, Pipeline.run_point_lt_of_flush t (fl15 t hf) s⟩ : Fin cfg1.N) = pb t := Fin.ext (by simp only [pb]; omega)
  rw [en, eb]
  refine dkcT_val A s ?_ ?_ ?_
  all_goals blk_simp [oidx1 t, pb, kvh]
  all_goals (try dsimp only)
  all_goals omega

theorem term16 (t : Fin cfg1.N) (u : S256x128.Idx) : (if (u 1).val < 64 then hVCt V c t 0 u else hVCt V c t 1 u : EReal)
    = dvcT A (pn t) (kvh (pb t) ⟨(u 1).val / 64, by have : (u 1).val < 128 := (u 1).isLt; omega⟩) (u 0) ⟨(u 1).val % 64, by omega⟩ := by
  unfold dvcT
  have h1 : (u 1).val < 128 := (u 1).isLt
  have eu : u = ix2 (u 0) (u 1) := by funext a; fin_cases a <;> rfl
  by_cases h : (u 1).val < 64
  · rw [if_pos h, eu]
    refine (hVC_at hA (HB t) 0 _ (coords1 t).1 (coords1 t).2 _ _).trans ?_
    have e : kvh (pb t) 0 = (kvh (pb t) ⟨(u 1).val / 64, by have : (u 1).val < 128 := (u 1).isLt; omega⟩) := Fin.ext (by simp only [kvh, Fin.val_zero]; omega)
    rw [e]
    rfl
  · rw [if_neg h, eu]
    refine (hVC_at hA (HB t) 1 _ (coords1 t).1 (coords1 t).2 _ _).trans ?_
    have e : kvh (pb t) 1 = (kvh (pb t) ⟨(u 1).val / 64, by have : (u 1).val < 128 := (u 1).isLt; omega⟩) := Fin.ext (by simp only [kvh, Fin.val_one]; omega)
    rw [e]
    rfl

theorem first16 (t : Fin cfg1.N) (h : t.val % 66 = 0) (u : S256x128.Idx) : ((outsAt1 V c t.val t.isLt).2.2.2.2.1 : S256x128.Idx → EReal) u
    = 0 + (if (u 1).val < 64 then hVCt V c t 0 u else hVCt V c t 1 u : EReal) := by
  rw [outsAt1_eq, outs_16]
  unfold oC
  rw [if_pos (by simp only [clr1, h, decide_true])]

theorem next16 (t : Fin cfg1.N) (h : ¬t.val % 66 = 0) (u : S256x128.Idx) : ((outsAt1 V c t.val t.isLt).2.2.2.2.1 : S256x128.Idx → EReal) u
    = ((outsAt1 V c (t.val - 1) (Nat.lt_of_le_of_lt (Nat.sub_le _ _) t.isLt)).2.2.2.2.1 : S256x128.Idx → EReal) u
      + (if (u 1).val < 64 then hVCt V c t 0 u else hVCt V c t 1 u : EReal) := by
  rw [outsAt1_eq, outs_16, prev_eq V c t.val t.isLt (by omega)]
  unfold oC
  rw [if_neg (by simp only [clr1, h, decide_false]; exact Bool.false_ne_true)]

theorem final16 : ((dat1 V c).arrAt 16 cfg1.N : S256x256.Idx → EReal) = fun u : S256x256.Idx =>
    Spec.dvc A ⟨(u 1).val / 64, by have : (u 1).val < 256 := (u 1).isLt; omega⟩ (u 0) ⟨(u 1).val % 64, by omega⟩ := by
  refine (dat1 V c).arrAt_eq_of_covers 16 _ (by decide +kernel) fun t hf y => ?_
  have ht := lt_of_pt t
  have h0 : (y 0).val < 256 := (y 0).isLt
  have h1 : (y 1).val < 128 := (y 1).isLt
  blk_simp
  rw [after1_16]
  refine (Pipeline.eq_sum_fin_of_reset_step_apply_of_flush (M := EReal) (ι := S256x128.Idx) (fun n hn => (outsAt1 V c n hn).2.2.2.2.1) 66 (fun _ => 0)
    (fun t u => if (u 1).val < 64 then hVCt V c t 0 u else hVCt V c t 1 u) (first16 V c hA HB) (next16 V c hA HB) t (fl16 t hf) _).trans ?_
  rw [zero_add]
  show _ = ∑ i, dvcT A i _ _ _
  refine Finset.sum_congr rfl fun s _ => ?_
  rw [term16 V c hA HB]
  have hs : s.val < 66 := s.isLt
  have en : pn (⟨66 * (t.val / 66) + s.val, Pipeline.run_point_lt_of_flush t (fl16 t hf) s⟩ : Fin cfg1.N) = s := Fin.ext (by simp only [pn]; omega)
  have eb : pb (⟨66 * (t.val / 66) + s.val, Pipeline.run_point_lt_of_flush t (fl16 t hf) s⟩ : Fin cfg1.N) = pb t := Fin.ext (by simp only [pb]; omega)
  rw [en, eb]
  refine dvcT_val A s ?_ ?_ ?_
  all_goals blk_simp [oidx1 t, pb, kvh]
  all_goals (try dsimp only)
  all_goals omega

theorem first17 (t : Fin cfg1.N) (h : t.val % 132 = 0) (u : S8x128.Idx) : ((outsAt1 V c t.val t.isLt).2.2.2.2.2 : S8x128.Idx → EReal) u
    = 0 + (if (u 0).val = 0 ∧ (u 1).val / 8 = t.val / 66 then 0 - sumZ (if (u 1).val % 8 < 4 then hZt V c t 0 else hZt V c t 1) ⟨(u 1).val % 4, by omega⟩ else 0 : EReal) := by
  rw [outsAt1_eq, outs_17, oZ_at, (coords1 ⟨t.val, t.isLt⟩).1]
  rw [if_pos (by simp only [clr0, h, decide_true])]

theorem next17 (t : Fin cfg1.N) (h : ¬t.val % 132 = 0) (u : S8x128.Idx) : ((outsAt1 V c t.val t.isLt).2.2.2.2.2 : S8x128.Idx → EReal) u
    = ((outsAt1 V c (t.val - 1) (Nat.lt_of_le_of_lt (Nat.sub_le _ _) t.isLt)).2.2.2.2.2 : S8x128.Idx → EReal) u
      + (if (u 0).val = 0 ∧ (u 1).val / 8 = t.val / 66 then 0 - sumZ (if (u 1).val % 8 < 4 then hZt V c t 0 else hZt V c t 1) ⟨(u 1).val % 4, by omega⟩ else 0 : EReal) := by
  rw [outsAt1_eq, outs_17, oZ_at, (coords1 ⟨t.val, t.isLt⟩).1, prev_eq V c t.val t.isLt (by omega)]
  rw [if_neg (by simp only [clr0, h, decide_false]; exact Bool.false_ne_true)]

theorem final17 : ((dat1 V c).arrAt 17 cfg1.N : S8x128.Idx → EReal) = fun u : S8x128.Idx =>
    ∑ t : Fin cfg1.N, (if (u 0).val = 0 ∧ (u 1).val / 8 = t.val / 66 then 0 - sumZ (if (u 1).val % 8 < 4 then hZt V c t 0 else hZt V c t 1) ⟨(u 1).val % 4, by omega⟩ else 0 : EReal) := by
  refine (dat1 V c).arrAt_eq_of_covers 17 _ (by decide +kernel) fun t hf y => ?_
  have h0 : (y 0).val < 8 := (y 0).isLt
  have h1 : (y 1).val < 128 := (y 1).isLt
  blk_simp
  rw [after1_17]
  refine (Pipeline.eq_sum_fin_of_reset_step_apply_last (M := EReal) (ι := S8x128.Idx) (fun n hn => (outsAt1 V c n hn).2.2.2.2.2) 132 (fun _ => 0)
    (fun t u => if (u 0).val = 0 ∧ (u 1).val / 8 = t.val / 66 then 0 - sumZ (if (u 1).val % 8 < 4 then hZt V c t 0 else hZt V c t 1) ⟨(u 1).val % 4, by omega⟩ else 0)
    (first17 V c hA HB) (next17 V c hA HB) (le_of_eq N1) t (fl17 t hf) _).trans ?_
  rw [zero_add]
  have e := (oidx1 t).2.2.2.2.2
  simp only [e, Matrix.cons_val_zero, Matrix.cons_val_one, zero_mul, zero_add]

/-- The sinks' gradient, at its own row and lane. -/
theorem sink_at (l : Fin 16) : ((dat1 V c).arrAt 17 cfg1.N : S8x128.Idx → EReal) (ix2 (0 : Fin 8) (⟨l.val, by omega⟩ : Fin 128))
    = Spec.dz A ⟨l.val / 4, by omega⟩ ⟨l.val % 4, by omega⟩ := by
  rw [final17 V c hA HB]
  show (∑ t : Fin cfg1.N, (if (0 : ℕ) = 0 ∧ l.val / 8 = t.val / 66 then 0 - sumZ (if l.val % 8 < 4 then hZt V c t 0 else hZt V c t 1) ⟨l.val % 4, by omega⟩ else 0 : EReal)) = _
  have ht : ∀ t : Fin cfg1.N, (if (0 : ℕ) = 0 ∧ l.val / 8 = t.val / 66 then 0 - sumZ (if l.val % 8 < 4 then hZt V c t 0 else hZt V c t 1) ⟨l.val % 4, by omega⟩ else 0 : EReal)
      = if l.val / 8 = t.val / 66 then ∑ r, -Spec.gZ A (pn t) r ⟨l.val / 4, by omega⟩ ⟨l.val % 4, by omega⟩ else 0 := by
    intro t
    by_cases h : l.val / 8 = t.val / 66
    · rw [if_pos ⟨rfl, h⟩, if_pos h, zero_sub, ← Row.neg_sum _ _ (fun r => Spec.gZ_real _ r _ _ hA)]
      refine congrArg (fun x => -x) ?_
      by_cases h4 : l.val % 8 < 4
      · rw [if_pos h4]
        refine (sumZ_at hA (HB t) 0 _ (coords1 t).1 (coords1 t).2 _).trans ?_
        have e : kvh (pb t) 0 = ⟨l.val / 4, by omega⟩ := Fin.ext (by simp only [kvh, pb, Fin.val_zero]; omega)
        rw [e]
      · rw [if_neg h4]
        refine (sumZ_at hA (HB t) 1 _ (coords1 t).1 (coords1 t).2 _).trans ?_
        have e : kvh (pb t) 1 = ⟨l.val / 4, by omega⟩ := Fin.ext (by simp only [kvh, pb, Fin.val_one]; omega)
        rw [e]
    · rw [if_neg (fun e => h e.2), if_neg h]
  rw [Finset.sum_congr rfl fun t _ => ht t]
  unfold Spec.dz
  trans ∑ b : Fin 2, ∑ i : Fin 66, if (⟨l.val / 8, by omega⟩ : Fin 2) = b then ∑ r, -Spec.gZ A i r ⟨l.val / 4, by omega⟩ ⟨l.val % 4, by omega⟩ else 0
  · refine Fin.sum_divmod_congr fun t ha hs => ?_
    by_cases h : l.val / 8 = t.val / 66
    · rw [if_pos h, if_pos (Fin.ext h)]
      rfl
    · rw [if_neg h, if_neg (fun e => h (congrArg Fin.val e))]
  · rw [Finset.sum_comm]
    refine Finset.sum_congr rfl fun i _ => ?_
    rw [Finset.sum_ite_eq, if_pos (Finset.mem_univ _)]

end Arrays

end Cert.KernelIdeal.Attn

end
-- ==== Proof.Attn.Kv.lean ====
/- What the reduction of the keys' and values' gradients leaves, from what the backward kernel left. -/
module

public import proofs.«01_k».proof.Proof.Attn.Run
public import proofs.«01_k».proof.Proof.Attn.Spec
public import proofs.«01_k».proof.Proof.Attn.Consts
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Cert.KernelIdeal.Gen

theorem coords2 : ∀ t : Fin cfg2.N, (grid2.coords t 0).val = t.val := (by decide +kernel : ∀ t : Fin grid2.N, _)
theorem lt_of_pt2 (t : Fin cfg2.N) : t.val < 66 := lt_of_lt_of_eq t.isLt (by decide +kernel)

theorem idx2 : ∀ t : Fin cfg2.N, win2_0.index t = ![min (t.val + 1) 65, 0, 0] ∧ win2_1.index t = ![t.val, 1, 0]
    ∧ win2_2.index t = ![t.val - 1, 2, 0] ∧ win2_3.index t = ![min t.val 1, 0]
    ∧ win2_4.index t = ![min (t.val + 1) 65, 0, 0] ∧ win2_5.index t = ![t.val, 1, 0]
    ∧ win2_6.index t = ![t.val - 1, 2, 0] ∧ win2_7.index t = ![min t.val 1, 0]
    ∧ win2_8.index t = ![t.val, 0] ∧ win2_9.index t = ![t.val, 0] :=
  (by decide +kernel : ∀ t : Fin grid2.N, _)

/-! ## The three weights -/

theorem gate2 : ∀ i : Fin 66, Scalar.andi (Scalar.cmpi .sge (BitVec.ofNat 32 i.val) 2#32) (Scalar.cmpi .sle (Scalar.addi (BitVec.ofNat 32 i.val) 1#32) 65#32)
    = if 2 ≤ i.val ∧ i.val + 1 ≤ 65 then 1#1 else 0#1 := by decide +kernel
theorem gate3 : ∀ i : Fin 66, Scalar.andi (Scalar.cmpi .sge (BitVec.ofNat 32 i.val) 2#32) (Scalar.cmpi .sge (Scalar.subi (BitVec.ofNat 32 i.val) 1#32) 2#32)
    = if 3 ≤ i.val then 1#1 else 0#1 := by decide +kernel
theorem gate4 : ∀ i : Fin 66, Scalar.cmpi .sge (BitVec.ofNat 32 i.val) 2#32 = if 2 ≤ i.val then 1#1 else 0#1 := by decide +kernel

theorem one_bits : (Scalar.ofBits (F := Ideal) .f32 0x3F800000#32 : EReal) = 1 := Consts.one
theorem zero_bits : (Scalar.ofBits (F := Ideal) .f32 0x00000000#32 : EReal) = 0 := by
  show Ideal.ofBits .f32 0x00000000#32 = 0
  simp [Ideal.ofBits, Ideal.ieee]

theorem w2 (i : grid2.Coords) : (k2_pay2 (F := Ideal) i : EReal) = if 2 ≤ (i 0).val ∧ (i 0).val + 1 ≤ 65 then 1 else 0 := by
  unfold k2_pay2
  show Scalar.select (Scalar.andi (Scalar.cmpi .sge (BitVec.ofNat 32 (i 0).val) 2#32) (Scalar.cmpi .sle (Scalar.addi (BitVec.ofNat 32 (i 0).val) 1#32) 65#32)) _ _ = _
  rw [gate2 (i 0), one_bits, zero_bits]
  split <;> rfl
theorem w3 (i : grid2.Coords) : (k2_pay3 (F := Ideal) i : EReal) = if 3 ≤ (i 0).val then 1 else 0 := by
  unfold k2_pay3
  show Scalar.select (Scalar.andi (Scalar.cmpi .sge (BitVec.ofNat 32 (i 0).val) 2#32) (Scalar.cmpi .sge (Scalar.subi (BitVec.ofNat 32 (i 0).val) 1#32) 2#32)) _ _ = _
  rw [gate3 (i 0), one_bits, zero_bits]
  split <;> rfl
theorem w4 (i : grid2.Coords) : (k2_pay4 (F := Ideal) i : EReal) = if 2 ≤ (i 0).val then 1 else 0 := by
  unfold k2_pay4
  show Scalar.select (Scalar.cmpi .sge (BitVec.ofNat 32 (i 0).val) 2#32) _ _ = _
  rw [gate4 (i 0), one_bits, zero_bits]
  split <;> rfl

/-! ## The payloads at an index -/

/-- The reduction at an index: the three blocks' parts for a latent row, the context's for a context row. -/
def red (i : ℕ) (b a c x : EReal) : EReal :=
  (if 2 ≤ i then 1 else 0) * (b + (if 2 ≤ i ∧ i + 1 ≤ 65 then 1 else 0) * a + (if 3 ≤ i then 1 else 0) * c) + (1 - (if 2 ≤ i then 1 else 0)) * x

theorem pay5_at (i : grid2.Coords) (b a c : Vec Ideal S1x128x256 .f32) (x : Vec Ideal S128x256 .f32) (r : Fin 128) (l : Fin 256) :
    (k2_pay5 (F := Ideal) i b a c x (ix2 r l) : EReal) = red (i 0).val (b (ix3 (0 : Fin 1) r l)) (a (ix3 (0 : Fin 1) r l)) (c (ix3 (0 : Fin 1) r l)) (x (ix2 r l)) := by
  unfold red
  rw [← w2 i, ← w3 i, ← w4 i, ← one_bits]
  pointwise [k2_pay5]

theorem pay1_at (i : grid2.Coords) (b a c : Vec Ideal S1x128x256 .f32) (x : Vec Ideal S128x256 .f32) (r : Fin 128) (l : Fin 256) :
    (k2_pay1 (F := Ideal) (k2_pay2 (F := Ideal) i) (k2_pay3 (F := Ideal) i) (k2_pay4 (F := Ideal) i) b a c x (ix2 r l) : EReal)
      = red (i 0).val (b (ix3 (0 : Fin 1) r l)) (a (ix3 (0 : Fin 1) r l)) (c (ix3 (0 : Fin 1) r l)) (x (ix2 r l)) := by
  unfold red
  rw [← w2 i, ← w3 i, ← w4 i, ← one_bits]
  pointwise [k2_pay1]

theorem red_ctx {i : ℕ} (h : i < 2) (b a c x : EReal) : red i b a c x = x := by
  unfold red
  rw [if_neg (by omega : ¬2 ≤ i), zero_mul, sub_zero, one_mul, zero_add]

theorem red_lat {i : ℕ} (h : 2 ≤ i) (b a c x : EReal) :
    red i b a c x = b + (if i + 1 ≤ 65 then a else 0) + (if 3 ≤ i then c else 0) := by
  have e : (1 : EReal) - 1 = 0 := EReal.sub_self (EReal.coe_ne_top 1) (EReal.coe_ne_bot 1)
  unfold red
  rw [if_pos h, one_mul, e, zero_mul, add_zero]
  by_cases h1 : i + 1 ≤ 65 <;> by_cases h3 : 3 ≤ i <;> simp only [h, h1, h3, true_and, and_self, if_true, if_false, one_mul, zero_mul]

theorem dkdv_val (f : Fin 66 → Fin 128 → Fin 4 → Fin 64 → EReal) {n n' : Fin 66} {r r' : Fin 128} {h h' : Fin 4} {d d' : Fin 64} (e1 : n.val = n'.val) (e2 : r.val = r'.val)
    (e3 : h.val = h'.val) (e5 : d.val = d'.val) : f n r h d = f n' r' h' d' := by
  rw [Fin.ext e1, Fin.ext e2, Fin.ext e3, Fin.ext e5]

/-! ## The blocks -/

variable (V : (c : Dev nD) → (b : Ref sig .tc) → Buf (Elt Ideal) ((c : Thread nD τ).loc b)) (c : Dev nD) (t : Fin cfg2.N)

theorem kb0 (r : Fin 128) (l : Fin 256) : (iblk2 V c 0 t : S1x128x256.Idx → EReal) (ix3 (0 : Fin 1) r l)
    = (V c main_v20_1 : S66x384x256.Idx → EReal) (ix3 (⟨min (t.val + 1) 65, by have := lt_of_pt2 t; omega⟩ : Fin 66) (⟨r.val, by omega⟩ : Fin 384) l) := by
  blk_ext [iblk2, idx2 t]
theorem kb1 (r : Fin 128) (l : Fin 256) : (iblk2 V c 1 t : S1x128x256.Idx → EReal) (ix3 (0 : Fin 1) r l)
    = (V c main_v20_1 : S66x384x256.Idx → EReal) (ix3 (⟨t.val, by have := lt_of_pt2 t; omega⟩ : Fin 66) (⟨128 + r.val, by omega⟩ : Fin 384) l) := by
  blk_ext [iblk2, idx2 t]
theorem kb2 (r : Fin 128) (l : Fin 256) : (iblk2 V c 2 t : S1x128x256.Idx → EReal) (ix3 (0 : Fin 1) r l)
    = (V c main_v20_1 : S66x384x256.Idx → EReal) (ix3 (⟨t.val - 1, by have := lt_of_pt2 t; omega⟩ : Fin 66) (⟨256 + r.val, by omega⟩ : Fin 384) l) := by
  blk_ext [iblk2, idx2 t]
theorem kb4 (r : Fin 128) (l : Fin 256) : (iblk2 V c 4 t : S1x128x256.Idx → EReal) (ix3 (0 : Fin 1) r l)
    = (V c main_v20_2 : S66x384x256.Idx → EReal) (ix3 (⟨min (t.val + 1) 65, by have := lt_of_pt2 t; omega⟩ : Fin 66) (⟨r.val, by omega⟩ : Fin 384) l) := by
  blk_ext [iblk2, idx2 t]
theorem kb5 (r : Fin 128) (l : Fin 256) : (iblk2 V c 5 t : S1x128x256.Idx → EReal) (ix3 (0 : Fin 1) r l)
    = (V c main_v20_2 : S66x384x256.Idx → EReal) (ix3 (⟨t.val, by have := lt_of_pt2 t; omega⟩ : Fin 66) (⟨128 + r.val, by omega⟩ : Fin 384) l) := by
  blk_ext [iblk2, idx2 t]
theorem kb6 (r : Fin 128) (l : Fin 256) : (iblk2 V c 6 t : S1x128x256.Idx → EReal) (ix3 (0 : Fin 1) r l)
    = (V c main_v20_2 : S66x384x256.Idx → EReal) (ix3 (⟨t.val - 1, by have := lt_of_pt2 t; omega⟩ : Fin 66) (⟨256 + r.val, by omega⟩ : Fin 384) l) := by
  blk_ext [iblk2, idx2 t]
theorem kb3 (r : Fin 128) (l : Fin 256) : (iblk2 V c 3 t : S128x256.Idx → EReal) (ix2 r l)
    = (V c main_v20_3 : S256x256.Idx → EReal) (ix2 (⟨min t.val 1 * 128 + r.val, by omega⟩ : Fin 256) l) := by
  blk_ext [iblk2, idx2 t]
theorem kb7 (r : Fin 128) (l : Fin 256) : (iblk2 V c 7 t : S128x256.Idx → EReal) (ix2 r l)
    = (V c main_v20_4 : S256x256.Idx → EReal) (ix2 (⟨min t.val 1 * 128 + r.val, by omega⟩ : Fin 256) l) := by
  blk_ext [iblk2, idx2 t]

theorem kpoint8 (A : Spec.Args) (HL : (V c main_v20_1 : S66x384x256.Idx → EReal) = fun u : S66x384x256.Idx =>
      Spec.dkl A (u 0) ⟨(u 2).val / 64, by have : (u 2).val < 256 := (u 2).isLt; omega⟩ (u 1) ⟨(u 2).val % 64, by omega⟩)
    (HC : (V c main_v20_3 : S256x256.Idx → EReal) = fun u : S256x256.Idx =>
      Spec.dkc A ⟨(u 1).val / 64, by have : (u 1).val < 256 := (u 1).isLt; omega⟩ (u 0) ⟨(u 1).val % 64, by omega⟩) (u : S128x256.Idx) :
    (k2_pay5 (F := Ideal) (grid2.coords t) (iblk2 V c 1 t) (iblk2 V c 0 t) (iblk2 V c 2 t) (iblk2 V c 3 t) u : EReal)
      = Spec.dk A ⟨t.val, lt_of_pt2 t⟩ (u 0) ⟨(u 1).val / 64, by have : (u 1).val < 256 := (u 1).isLt; omega⟩ ⟨(u 1).val % 64, by omega⟩ := by
  have eu : u = ix2 (u 0) (u 1) := by funext a; fin_cases a <;> rfl
  have ht := lt_of_pt2 t
  have h0 : (u 0).val < 128 := (u 0).isLt
  rw [eu]
  refine (pay5_at _ _ _ _ _ (u 0) (u 1)).trans ?_
  rw [coords2, kb0 V c t (u 0) (u 1), kb1 V c t (u 0) (u 1), kb2 V c t (u 0) (u 1), kb3 V c t (u 0) (u 1), HL, HC]
  unfold Spec.dk
  by_cases h : t.val < 2
  · rw [red_ctx h, dif_pos h]
    refine congrArg (fun k => Spec.dkc A _ k _) (Fin.ext ?_)
    show min t.val 1 * 128 + (u 0).val = t.val * 128 + (u 0).val
    omega
  · rw [red_lat (by omega), dif_neg h]
    unfold Spec.gather
    refine congrArg₂ (· + ·) (congrArg₂ (· + ·) ?_ ?_) ?_
    · refine congrArg (fun k => Spec.dkl A _ _ k _) (Fin.ext ?_)
      show 128 + (u 0).val = 1 * 128 + (u 0).val
      omega
    · by_cases h1 : t.val + 1 ≤ 65
      · rw [if_pos h1, dif_pos h1]
        refine congrArg₂ (fun i k => Spec.dkl A i _ k _) (Fin.ext ?_) (Fin.ext ?_)
        · show min (t.val + 1) 65 = t.val + 1
          omega
        · show (u 0).val = 0 * 128 + (u 0).val
          omega
      · rw [if_neg h1, dif_neg h1]
    · by_cases h1 : 3 ≤ t.val
      · rw [if_pos h1, if_pos h1]
        refine congrArg (fun k => Spec.dkl A _ _ k _) (Fin.ext ?_)
        show 256 + (u 0).val = 2 * 128 + (u 0).val
        omega
      · rw [if_neg h1, if_neg h1]

/-- The reduction's result, from the four arrays' entries. -/
theorem final2_8 (A : Spec.Args)
    (HL : (V c main_v20_1 : S66x384x256.Idx → EReal) = fun u : S66x384x256.Idx =>
      Spec.dkl A (u 0) ⟨(u 2).val / 64, by have : (u 2).val < 256 := (u 2).isLt; omega⟩ (u 1) ⟨(u 2).val % 64, by omega⟩)
    (HC : (V c main_v20_3 : S256x256.Idx → EReal) = fun u : S256x256.Idx =>
      Spec.dkc A ⟨(u 1).val / 64, by have : (u 1).val < 256 := (u 1).isLt; omega⟩ (u 0) ⟨(u 1).val % 64, by omega⟩) :
    ((dat2 V c).arrAt 8 cfg2.N : S8448x256.Idx → EReal) = fun u : S8448x256.Idx =>
      Spec.dk A ⟨(u 0).val / 128, by have : (u 0).val < 8448 := (u 0).isLt; omega⟩ ⟨(u 0).val % 128, by omega⟩
        ⟨(u 1).val / 64, by have : (u 1).val < 256 := (u 1).isLt; omega⟩ ⟨(u 1).val % 64, by omega⟩ := by
  refine (dat2 V c).arrAt_eq_of_covers 8 _ (by decide +kernel) fun t hf y => ?_
  have ht := lt_of_pt2 t
  have h0 : (y 0).val < 128 := (y 0).isLt
  have h1 : (y 1).val < 256 := (y 1).isLt
  blk_simp
  rw [after2_8]
  frame_out
  refine (kpoint8 V c t A HL HC _).trans (dkdv_val (Spec.dk A) ?_ ?_ ?_ ?_)
  all_goals blk_simp [idx2 t]
  all_goals (try dsimp only)
  all_goals omega

theorem kpoint9 (A : Spec.Args) (HL : (V c main_v20_2 : S66x384x256.Idx → EReal) = fun u : S66x384x256.Idx =>
      Spec.dvl A (u 0) ⟨(u 2).val / 64, by have : (u 2).val < 256 := (u 2).isLt; omega⟩ (u 1) ⟨(u 2).val % 64, by omega⟩)
    (HC : (V c main_v20_4 : S256x256.Idx → EReal) = fun u : S256x256.Idx =>
      Spec.dvc A ⟨(u 1).val / 64, by have : (u 1).val < 256 := (u 1).isLt; omega⟩ (u 0) ⟨(u 1).val % 64, by omega⟩) (u : S128x256.Idx) :
    (k2_pay1 (F := Ideal) (k2_pay2 (F := Ideal) (grid2.coords t)) (k2_pay3 (F := Ideal) (grid2.coords t)) (k2_pay4 (F := Ideal) (grid2.coords t)) (iblk2 V c 5 t) (iblk2 V c 4 t) (iblk2 V c 6 t) (iblk2 V c 7 t) u : EReal)
      = Spec.dv A ⟨t.val, lt_of_pt2 t⟩ (u 0) ⟨(u 1).val / 64, by have : (u 1).val < 256 := (u 1).isLt; omega⟩ ⟨(u 1).val % 64, by omega⟩ := by
  have eu : u = ix2 (u 0) (u 1) := by funext a; fin_cases a <;> rfl
  have ht := lt_of_pt2 t
  have h0 : (u 0).val < 128 := (u 0).isLt
  rw [eu]
  refine (pay1_at _ _ _ _ _ (u 0) (u 1)).trans ?_
  rw [coords2, kb4 V c t (u 0) (u 1), kb5 V c t (u 0) (u 1), kb6 V c t (u 0) (u 1), kb7 V c t (u 0) (u 1), HL, HC]
  unfold Spec.dv
  by_cases h : t.val < 2
  · rw [red_ctx h, dif_pos h]
    refine congrArg (fun k => Spec.dvc A _ k _) (Fin.ext ?_)
    show min t.val 1 * 128 + (u 0).val = t.val * 128 + (u 0).val
    omega
  · rw [red_lat (by omega), dif_neg h]
    unfold Spec.gather
    refine congrArg₂ (· + ·) (congrArg₂ (· + ·) ?_ ?_) ?_
    · refine congrArg (fun k => Spec.dvl A _ _ k _) (Fin.ext ?_)
      show 128 + (u 0).val = 1 * 128 + (u 0).val
      omega
    · by_cases h1 : t.val + 1 ≤ 65
      · rw [if_pos h1, dif_pos h1]
        refine congrArg₂ (fun i k => Spec.dvl A i _ k _) (Fin.ext ?_) (Fin.ext ?_)
        · show min (t.val + 1) 65 = t.val + 1
          omega
        · show (u 0).val = 0 * 128 + (u 0).val
          omega
      · rw [if_neg h1, dif_neg h1]
    · by_cases h1 : 3 ≤ t.val
      · rw [if_pos h1, if_pos h1]
        refine congrArg (fun k => Spec.dvl A _ _ k _) (Fin.ext ?_)
        show 256 + (u 0).val = 2 * 128 + (u 0).val
        omega
      · rw [if_neg h1, if_neg h1]

/-- The reduction's result, from the four arrays' entries. -/
theorem final2_9 (A : Spec.Args)
    (HL : (V c main_v20_2 : S66x384x256.Idx → EReal) = fun u : S66x384x256.Idx =>
      Spec.dvl A (u 0) ⟨(u 2).val / 64, by have : (u 2).val < 256 := (u 2).isLt; omega⟩ (u 1) ⟨(u 2).val % 64, by omega⟩)
    (HC : (V c main_v20_4 : S256x256.Idx → EReal) = fun u : S256x256.Idx =>
      Spec.dvc A ⟨(u 1).val / 64, by have : (u 1).val < 256 := (u 1).isLt; omega⟩ (u 0) ⟨(u 1).val % 64, by omega⟩) :
    ((dat2 V c).arrAt 9 cfg2.N : S8448x256.Idx → EReal) = fun u : S8448x256.Idx =>
      Spec.dv A ⟨(u 0).val / 128, by have : (u 0).val < 8448 := (u 0).isLt; omega⟩ ⟨(u 0).val % 128, by omega⟩
        ⟨(u 1).val / 64, by have : (u 1).val < 256 := (u 1).isLt; omega⟩ ⟨(u 1).val % 64, by omega⟩ := by
  refine (dat2 V c).arrAt_eq_of_covers 9 _ (by decide +kernel) fun t hf y => ?_
  have ht := lt_of_pt2 t
  have h0 : (y 0).val < 128 := (y 0).isLt
  have h1 : (y 1).val < 256 := (y 1).isLt
  blk_simp
  rw [after2_9]
  frame_out
  refine (kpoint9 V c t A HL HC _).trans (dkdv_val (Spec.dv A) ?_ ?_ ?_ ?_)
  all_goals blk_simp [idx2 t]
  all_goals (try dsimp only)
  all_goals omega

end Cert.KernelIdeal.Attn

end
-- ==== Proof.Attn.Final.lean ====
/- What the kernel's four results hold at the end, at an index. -/
module

public import proofs.«01_k».proof.Proof.Attn.Vals
public import proofs.«01_k».proof.Proof.Attn.Kv

@[expose] public section

set_option maxRecDepth 16384

noncomputable section

namespace Cert.KernelIdeal.Attn

open Idealize.ShloMosaic Idealize.ShloMosaic.TcCoe Idealize.ShloMosaic.Tactic Cert.KernelIdeal.Gen

variable (m : (ℓ : Loc nD τ sig) → Buf (Elt Ideal) ℓ) (ρ : Dev nD → PrngReg) (c : Dev nD) (hA : (kargs c m).Real)
include hA

/-- The gradient of the queries. -/
theorem W5_dq (t : Fin 8448) (l : Fin 1024) : (W5 m ρ c (Proc.devRef .tc main_v20_0) : S8448x1024.Idx → EReal) (ix2 t l)
    = Spec.dq (kargs c m) ⟨t.val / 128, by omega⟩ ⟨t.val % 128, by omega⟩ ⟨l.val / 256, by omega⟩ ⟨l.val / 64 % 4, by omega⟩ ⟨l.val % 64, by omega⟩ := by
  rw [W5_of m ρ c main_v20_0 (by decide +kernel), W4_of m ρ c main_v20_0 (by decide +kernel)]
  exact congrFun ((W3_arr m ρ c 12).trans (final12 (V2 m ρ) c hA (fun t => blk1 c t m ρ))) _

theorem W3_dkl : (V3 m ρ c main_v20_1 : S66x384x256.Idx → EReal) = fun u : S66x384x256.Idx =>
    Spec.dkl (kargs c m) (u 0) ⟨(u 2).val / 64, by have : (u 2).val < 256 := (u 2).isLt; omega⟩ (u 1) ⟨(u 2).val % 64, by omega⟩ :=
  (W3_arr m ρ c 13).trans (final13 (V2 m ρ) c hA (fun t => blk1 c t m ρ))
theorem W3_dvl : (V3 m ρ c main_v20_2 : S66x384x256.Idx → EReal) = fun u : S66x384x256.Idx =>
    Spec.dvl (kargs c m) (u 0) ⟨(u 2).val / 64, by have : (u 2).val < 256 := (u 2).isLt; omega⟩ (u 1) ⟨(u 2).val % 64, by omega⟩ :=
  (W3_arr m ρ c 14).trans (final14 (V2 m ρ) c hA (fun t => blk1 c t m ρ))
theorem W3_dkc : (V3 m ρ c main_v20_3 : S256x256.Idx → EReal) = fun u : S256x256.Idx =>
    Spec.dkc (kargs c m) ⟨(u 1).val / 64, by have : (u 1).val < 256 := (u 1).isLt; omega⟩ (u 0) ⟨(u 1).val % 64, by omega⟩ :=
  (W3_arr m ρ c 15).trans (final15 (V2 m ρ) c hA (fun t => blk1 c t m ρ))
theorem W3_dvc : (V3 m ρ c main_v20_4 : S256x256.Idx → EReal) = fun u : S256x256.Idx =>
    Spec.dvc (kargs c m) ⟨(u 1).val / 64, by have : (u 1).val < 256 := (u 1).isLt; omega⟩ (u 0) ⟨(u 1).val % 64, by omega⟩ :=
  (W3_arr m ρ c 16).trans (final16 (V2 m ρ) c hA (fun t => blk1 c t m ρ))

/-- The gradient of the keys. -/
theorem W5_dk (t : Fin 8448) (l : Fin 256) : (W5 m ρ c (Proc.devRef .tc main_v21_0) : S8448x256.Idx → EReal) (ix2 t l)
    = Spec.dk (kargs c m) ⟨t.val / 128, by omega⟩ ⟨t.val % 128, by omega⟩ ⟨l.val / 64, by omega⟩ ⟨l.val % 64, by omega⟩ := by
  rw [W5_of m ρ c main_v21_0 (by decide +kernel)]
  exact congrFun ((W4_arr m ρ c 8).trans (final2_8 (V3 m ρ) c (kargs c m) (W3_dkl m ρ c hA) (W3_dkc m ρ c hA))) _

/-- The gradient of the values. -/
theorem W5_dv (t : Fin 8448) (l : Fin 256) : (W5 m ρ c (Proc.devRef .tc main_v21_1) : S8448x256.Idx → EReal) (ix2 t l)
    = Spec.dv (kargs c m) ⟨t.val / 128, by omega⟩ ⟨t.val % 128, by omega⟩ ⟨l.val / 64, by omega⟩ ⟨l.val % 64, by omega⟩ := by
  rw [W5_of m ρ c main_v21_1 (by decide +kernel)]
  exact congrFun ((W4_arr m ρ c 9).trans (final2_9 (V3 m ρ) c (kargs c m) (W3_dvl m ρ c hA) (W3_dvc m ρ c hA))) _

/-- The gradient of the sinks. -/
theorem W5_dz (l : Fin 16) : (W5 m ρ c (Proc.devRef .tc main_v23) : S16.Idx → EReal) (ix1 l)
    = Spec.dz (kargs c m) ⟨l.val / 4, by omega⟩ ⟨l.val % 4, by omega⟩ := by
  have e : (W5 m ρ c (Proc.devRef .tc main_v23) : S16.Idx → EReal)
      = shapeCast S16 (extractStridedSlice S1x16 ![0, 0] (W4 m ρ c (Proc.devRef .tc main_v20_5) : FVec Ideal S8x128 .f32) slices_S8x128_S1x16_0_0) shapeCasts_S1x16_S16 := by
    unfold W5
    after_results
    rfl
  rw [e, W4_of m ρ c main_v20_5 (by decide +kernel)]
  refine Eq.trans ?_ ((congrFun (W3_arr m ρ c 17) _).trans (sink_at (V2 m ρ) c hA (fun t => blk1 c t m ρ) l))
  pointwise

end Cert.KernelIdeal.Attn

end
-- ==== Proof.Attn.Ref.lean ====
/- The reference's queries, keys, values, cotangents and masks, read at an index. -/
module

public import proofs.«01_k».proof.Proof.Gen.ReferenceIdeal.Read
public import proofs.«01_k».proof.Proof.Attn.Spec
public import proofs.«01_k».proof.Proof.Attn.Consts
public import Idealize.ShloMosaic.Lib.Pointwise
public import Idealize.ShloMosaic.Lib.WordCmp
public import Idealize.ShloMosaic.Lib.WordArith

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

/-- Column `d` of head `g` of group `h`, component `d` of key head `h`, and the sink of head `g` of group `h`. -/
def colQ (h g : Fin 4) (d : Fin 64) : Fin 1024 := ⟨(h.val * 4 + g.val) * 64 + d.val, by omega⟩
def colK (h : Fin 4) (d : Fin 64) : Fin 256 := ⟨h.val * 64 + d.val, by omega⟩
def colZ (h g : Fin 4) : Fin 16 := ⟨h.val * 4 + g.val, by omega⟩
/-- The arguments by head and component. -/
def args : Spec.Args where
  q t h g d := x0 (ix2 t (colQ h g d))
  o t h g d := x3 (ix2 t (colQ h g d))
  k t h d := x1 (ix2 t (colK h d))
  v t h d := x2 (ix2 t (colK h d))
  z h g := x4 (ix1 (colZ h g))

/-- Latent block `n` is block `n + 2`. -/
def lat (n : Fin 64) : Fin 66 := ⟨n.val + 2, by omega⟩

theorem ix2_congr {a b : ℕ} {i i' : Fin a} {j j' : Fin b} (h1 : i.val = i'.val) (h2 : j.val = j'.val) : ix2 i j = ix2 i' j' := by
  rw [Fin.ext h1, Fin.ext h2]

theorem v48_at (n : Fin 64) (r : Fin 128) (h g : Fin 4) (d : Fin 64) :
    val_main_v48 (F := Ideal) x0 (ix5 n r h g d) = (args x0 x3 x1 x2 x4).q (Spec.row (lat n) r) h g d := by
  pointwise [val_main_v48, val_main_v5, args, Spec.row, lat, colQ]
  exact congrArg x0 (ix2_congr (by show 256 + (n.val * 128 + r.val) = (n.val + 2) * 128 + r.val; omega)
    (by show h.val * 256 + g.val * 64 + d.val = (h.val * 4 + g.val) * 64 + d.val; omega))

theorem v151_at (n : Fin 64) (r : Fin 128) (h g : Fin 4) (d : Fin 64) :
    val_main_v151 (F := Ideal) x3 (ix5 n r h g d) = (args x0 x3 x1 x2 x4).o (Spec.row (lat n) r) h g d := by
  pointwise [val_main_v151, val_main_v150, args, Spec.row, lat, colQ]
  exact congrArg x3 (ix2_congr (by show 256 + (n.val * 128 + r.val) = (n.val + 2) * 128 + r.val; omega)
    (by show h.val * 256 + g.val * 64 + d.val = (h.val * 4 + g.val) * 64 + d.val; omega))

theorem v8_at (c : Fin 256) (h g : Fin 4) (d : Fin 64) : val_main_v8 (F := Ideal) x0 (ix4 c h g d) = (args x0 x3 x1 x2 x4).q (Spec.cx c) h g d := by
  pointwise [val_main_v8, val_main_v2, args, Spec.cx, colQ]
  exact congrArg x0 (ix2_congr rfl (by show h.val * 256 + g.val * 64 + d.val = (h.val * 4 + g.val) * 64 + d.val; omega))

theorem v223_at (c : Fin 256) (h g : Fin 4) (d : Fin 64) : val_main_v223 (F := Ideal) x3 (ix4 c h g d) = (args x0 x3 x1 x2 x4).o (Spec.cx c) h g d := by
  pointwise [val_main_v223, val_main_v149, args, Spec.cx, colQ]
  exact congrArg x3 (ix2_congr rfl (by show h.val * 256 + g.val * 64 + d.val = (h.val * 4 + g.val) * 64 + d.val; omega))

theorem v3_at (c : Fin 256) (h : Fin 4) (d : Fin 64) : val_main_v3 (F := Ideal) x1 (ix3 c h d) = (args x0 x3 x1 x2 x4).k (Spec.cx c) h d := by
  pointwise [val_main_v3, val_main_v0, args, Spec.cx, colK]

theorem v4_at (c : Fin 256) (h : Fin 4) (d : Fin 64) : val_main_v4 (F := Ideal) x2 (ix3 c h d) = (args x0 x3 x1 x2 x4).v (Spec.cx c) h d := by
  pointwise [val_main_v4, val_main_v1, args, Spec.cx, colK]

theorem v50_at (n : Fin 1) (r : Fin 128) (h : Fin 4) (d : Fin 64) : val_main_v50 (F := Ideal) (ix4 n r h d) = 0 := by
  pointwise [val_main_v50, val_main_cst_10]
theorem v59_at (n : Fin 1) (r : Fin 128) (h : Fin 4) (d : Fin 64) : val_main_v59 (F := Ideal) (ix4 n r h d) = 0 := by
  pointwise [val_main_v59, val_main_cst_13]
theorem v49_at (n : Fin 64) (r : Fin 128) (h : Fin 4) (d : Fin 64) :
    val_main_v49 (F := Ideal) x1 (ix4 n r h d) = (args x0 x3 x1 x2 x4).k (Spec.row (lat n) r) h d := by
  pointwise [val_main_v49, val_main_v6, val_main_v0, args, Spec.row, lat, colK]
  exact congrArg x1 (ix2_congr (by show 256 + (n.val * 128 + r.val) = (n.val + 2) * 128 + r.val; omega) rfl)
theorem v58_at (n : Fin 64) (r : Fin 128) (h : Fin 4) (d : Fin 64) :
    val_main_v58 (F := Ideal) x2 (ix4 n r h d) = (args x0 x3 x1 x2 x4).v (Spec.row (lat n) r) h d := by
  pointwise [val_main_v58, val_main_v7, val_main_v1, args, Spec.row, lat, colK]
  exact congrArg x2 (ix2_congr (by show 256 + (n.val * 128 + r.val) = (n.val + 2) * 128 + r.val; omega) rfl)

/-- A slot within the window is the key at the slot. -/
theorem key_of (n : Fin 64) (r : Fin 128) (j : Fin 384) (hj : Spec.ok (lat n) r j) (u : Fin 8448)
    (hu : u.val = (n.val + 1) * 128 + j.val) : u = Spec.key (lat n) j := by
  obtain ⟨-, -, -, h1, h2⟩ := hj
  have e : (lat n).val = n.val + 2 := rfl
  refine Fin.ext ?_
  show u.val = min ((lat n).val + j.val / 128 - 1) 65 * 128 + j.val % 128
  rw [e] at h1 h2 ⊢
  omega

theorem v57_at (n : Fin 64) (r : Fin 128) (j : Fin 384) (h : Fin 4) (d : Fin 64) (hj : Spec.ok (lat n) r j) :
    val_main_v57 (F := Ideal) x1 (ix4 n j h d) = (args x0 x3 x1 x2 x4).k (Spec.key (lat n) j) h d := by
  have hj' := hj
  obtain ⟨-, -, -, h1, h2⟩ := hj
  have e : (lat n).val = n.val + 2 := rfl
  rw [e] at h1 h2
  pointwise [val_main_v57, val_main_v54, val_main_v55, val_main_v56, val_main_v51]
  simp only [v50_at, v49_at x0 x3 x1 x2 x4]
  split_ifs <;> first
    | (exfalso; omega)
    | exact congrArg (fun u => (args x0 x3 x1 x2 x4).k u h d) (key_of n r j hj' _ (by simp only [Spec.row, lat]; omega))

theorem v66_at (n : Fin 64) (r : Fin 128) (j : Fin 384) (h : Fin 4) (d : Fin 64) (hj : Spec.ok (lat n) r j) :
    val_main_v66 (F := Ideal) x2 (ix4 n j h d) = (args x0 x3 x1 x2 x4).v (Spec.key (lat n) j) h d := by
  have hj' := hj
  obtain ⟨-, -, -, h1, h2⟩ := hj
  have e : (lat n).val = n.val + 2 := rfl
  rw [e] at h1 h2
  pointwise [val_main_v66, val_main_v63, val_main_v64, val_main_v65, val_main_v60]
  simp only [v59_at, v58_at x0 x3 x1 x2 x4]
  split_ifs <;> first
    | (exfalso; omega)
    | exact congrArg (fun u => (args x0 x3 x1 x2 x4).v u h d) (key_of n r j hj' _ (by simp only [Spec.row, lat]; omega))

/-- The band's values are among the values or zero: finite where these are. -/
theorem v66_real (hA : (args x0 x3 x1 x2 x4).Real) (n : Fin 64) (j : Fin 384) (h : Fin 4) (d : Fin 64) :
    Row.IsR (val_main_v66 (F := Ideal) x2 (ix4 n j h d)) := by
  pointwise [val_main_v66, val_main_v63, val_main_v64, val_main_v65, val_main_v60]
  simp only [v59_at, v58_at x0 x3 x1 x2 x4]
  split_ifs <;> first
    | exact Row.IsR.zero
    | exact hA.v _ _ _

/-- The mask. -/
theorem v102_at (n : Fin 64) (r : Fin 128) (j : Fin 384) :
    val_main_v102 (F := Ideal) (ix3 n r j) = 1#1 ↔ Spec.ok (lat n) r j := by
  have hn := n.isLt
  have hr := r.isLt
  have hj := j.isLt
  have a1 : (BitVec.ofNat 32 n.val).toInt = n.val := WordArith.toInt_ofNat_small _ (by omega)
  have a2 : (BitVec.ofNat 32 r.val).toInt = r.val := WordArith.toInt_ofNat_small _ (by omega)
  have a3 : (BitVec.ofNat 32 j.val).toInt = j.val := WordArith.toInt_ofNat_small _ (by omega)
  have b1 : (IntOp.subi (BitVec.ofNat 32 n.val) 1#32).toInt = n.val - 1 := by
    show (BitVec.ofNat 32 n.val - 1#32).toInt = _
    rw [WordArith.toInt_sub_of_bounds] <;> rw [a1, show (1#32 : BitVec 32).toInt = 1 from rfl] <;> omega
  have b2 : (IntOp.muli (IntOp.subi (BitVec.ofNat 32 n.val) 1#32) 128#32).toInt = (n.val - 1) * 128 := by
    show (_ * 128#32 : BitVec 32).toInt = _
    rw [WordArith.toInt_mul_of_bounds] <;> rw [b1, show (128#32 : BitVec 32).toInt = 128 from rfl] <;> omega
  have b3 : (IntOp.addi (IntOp.muli (IntOp.subi (BitVec.ofNat 32 n.val) 1#32) 128#32) (BitVec.ofNat 32 j.val)).toInt
      = (n.val - 1) * 128 + j.val := by
    show (_ + BitVec.ofNat 32 j.val : BitVec 32).toInt = _
    rw [WordArith.toInt_add_of_bounds] <;> rw [b2, a3] <;> omega
  have c1 : (IntOp.muli (BitVec.ofNat 32 n.val) 128#32).toInt = n.val * 128 := by
    show (_ * 128#32 : BitVec 32).toInt = _
    rw [WordArith.toInt_mul_of_bounds] <;> rw [a1, show (128#32 : BitVec 32).toInt = 128 from rfl] <;> omega
  have c2 : (IntOp.addi (IntOp.muli (BitVec.ofNat 32 n.val) 128#32) (BitVec.ofNat 32 r.val)).toInt = n.val * 128 + r.val := by
    show (_ + BitVec.ofNat 32 r.val : BitVec 32).toInt = _
    rw [WordArith.toInt_add_of_bounds] <;> rw [c1, a2] <;> omega
  pointwise [val_main_v102, val_main_v98, val_main_v101, val_main_v100, val_main_v97, val_main_v96, val_main_v94, val_main_v92,
    val_main_v91, val_main_v90, val_main_v89, val_main_v88, val_main_v86, val_main_v87, val_main_v85, val_main_v83,
    val_main_v81, val_main_v79, val_main_v80, val_main_v78, val_main_v72, val_main_v71, val_main_v74, val_main_v73,
    val_main_v75, val_main_v76, val_main_v77, val_main_v82, val_main_v84, val_main_v93, val_main_v95, val_main_v99,
    val_main_c, val_main_c_17, val_main_c_18, val_main_c_19, val_main_c_20, val_main_c_21]
  generalize IntOp.addi (IntOp.muli (IntOp.subi (BitVec.ofNat 32 n.val) 1#32) 128#32) (BitVec.ofNat 32 j.val) = K at b3 ⊢
  generalize IntOp.addi (IntOp.muli (BitVec.ofNat 32 n.val) 128#32) (BitVec.ofNat 32 r.val) = P at c2 ⊢
  have d1 : (IntOp.subi K P).toInt = j.val - 128 - r.val := by
    show (K - P).toInt = _
    rw [WordArith.toInt_sub_of_bounds] <;> rw [b3, c2] <;> omega
  have d2 : (IntOp.absi (IntOp.subi K P)).toInt = |(j.val - 128 - r.val : ℤ)| := by
    generalize IntOp.subi K P = X at d1 ⊢
    unfold IntOp.absi
    rw [BitVec.msb_eq_toInt]
    by_cases hx : X.toInt < 0
    · rw [if_pos (decide_eq_true hx), ← BitVec.zero_sub, WordArith.toInt_sub_of_bounds, d1, abs_of_neg (by omega)]
      · show (0 : ℤ) - _ = _; ring
      · show -2 ^ 31 ≤ (0 : ℤ) - _; rw [d1]; omega
      · show (0 : ℤ) - _ < 2 ^ 31; rw [d1]; omega
    · rw [if_neg (by simpa using hx), d1, abs_of_nonneg (by omega)]
  rw [WordCmp.cmpi_sle_eq, WordCmp.cmpi_sge_eq, WordCmp.cmpi_slt_eq, WordCmp.andi_ofBool, WordCmp.andi_ofBool,
    WordCmp.ofBool_eq_one_iff, Bool.and_eq_true, Bool.and_eq_true, decide_eq_true_iff, decide_eq_true_iff,
    decide_eq_true_iff, d2, b3, show (128#32 : BitVec 32).toInt = 128 from rfl, show (0#32 : BitVec 32).toInt = 0 from rfl,
    show (8192#32 : BitVec 32).toInt = 8192 from rfl, abs_le]
  unfold Spec.ok
  have e : (lat n).val = n.val + 2 := rfl
  rw [e]
  omega

/-- The scale and the constants. -/
theorem cst_at (i : S_.Idx) : val_main_cst (F := Ideal) i = Spec.sc := Consts.eighth
theorem cst16_at (i : S_.Idx) : val_main_cst_16 (F := Ideal) i = Spec.sc := Consts.eighth
theorem cst23_at (i : S_.Idx) : val_main_cst_23 (F := Ideal) i = Spec.sc := Consts.eighth
theorem cst39_at (i : S_.Idx) : val_main_cst_39 (F := Ideal) i = Spec.sc := Consts.eighth
theorem cst40_at (i : S_.Idx) : val_main_cst_40 (F := Ideal) i = Spec.sc := Consts.eighth
theorem cst51_at (i : S_.Idx) : val_main_cst_51 (F := Ideal) i = Spec.sc := Consts.eighth
theorem cst0_at (i : S_.Idx) : val_main_cst_0 (F := Ideal) i = ⊥ := Consts.bot
theorem cst2_at (i : S_.Idx) : val_main_cst_2 (F := Ideal) i = ⊥ := Consts.bot
theorem cst22_at (i : S_.Idx) : val_main_cst_22 (F := Ideal) i = ⊥ := Consts.bot
theorem cst24_at (i : S_.Idx) : val_main_cst_24 (F := Ideal) i = ⊥ := Consts.bot
theorem cst26_at (i : S_.Idx) : val_main_cst_26 (F := Ideal) i = ⊥ := Consts.bot

end Cert.ReferenceIdeal.Attn

end
-- ==== Proof.Attn.Split.lean ====
/- Sums and maxima over a row's slots, split in the local ones, the context ones and the sink; sums over the rows of all
   blocks, split in the context's and the latent ones. -/
module

public import proofs.«01_k».proof.Proof.Attn.Row

@[expose] public section

namespace Cert.Split

theorem sum641 (f : Fin 641 → EReal) :
    ∑ j, f j = (∑ j : Fin 384, f ⟨j.val, by omega⟩) + (∑ c : Fin 256, f ⟨384 + c.val, by omega⟩) + f ⟨640, by omega⟩ := by
  rw [Fin.sum_univ_castSucc (n := 640) f, Fin.sum_univ_add (a := 384) (b := 256) (fun j : Fin (384 + 256) => f (Fin.castSucc j))]
  rfl

theorem sum257 (f : Fin 257 → EReal) :
    ∑ j, f j = (∑ c : Fin 256, f ⟨c.val, by omega⟩) + f ⟨256, by omega⟩ := by
  rw [Fin.sum_univ_castSucc (n := 256) f]
  rfl

theorem fold641 (f : Fin 641 → EReal) :
    Finset.univ.fold max ⊥ f = max (max (Finset.univ.fold max ⊥ fun j : Fin 384 => f ⟨j.val, by omega⟩)
      (Finset.univ.fold max ⊥ fun c : Fin 256 => f ⟨384 + c.val, by omega⟩)) (f ⟨640, by omega⟩) := by
  have key : ∀ x : EReal, Finset.univ.fold max ⊥ f ≤ x ↔ max (max (Finset.univ.fold max ⊥ fun j : Fin 384 => f ⟨j.val, by omega⟩)
      (Finset.univ.fold max ⊥ fun c : Fin 256 => f ⟨384 + c.val, by omega⟩)) (f ⟨640, by omega⟩) ≤ x := by
    intro x
    simp only [Finset.fold_max_le, max_le_iff, bot_le, true_and, Finset.mem_univ, forall_const]
    constructor
    · intro h; exact ⟨⟨fun j => h _, fun j => h _⟩, h _⟩
    · rintro ⟨⟨h1, h2⟩, h3⟩ j
      by_cases a : j.val < 384
      · exact h1 ⟨j.val, a⟩
      · by_cases b : j.val < 640
        · have := h2 ⟨j.val - 384, by omega⟩
          have e : (⟨384 + (j.val - 384), by omega⟩ : Fin 641) = j := Fin.ext (by show 384 + (j.val - 384) = j.val; omega)
          rwa [e] at this
        · have e : (⟨640, by omega⟩ : Fin 641) = j := Fin.ext (by show 640 = j.val; omega)
          rwa [e] at h3
  exact le_antisymm ((key _).2 le_rfl) ((key _).1 le_rfl)

theorem fold257 (f : Fin 257 → EReal) :
    Finset.univ.fold max ⊥ f = max (Finset.univ.fold max ⊥ fun c : Fin 256 => f ⟨c.val, by omega⟩) (f ⟨256, by omega⟩) := by
  have key : ∀ x : EReal, Finset.univ.fold max ⊥ f ≤ x ↔
      max (Finset.univ.fold max ⊥ fun c : Fin 256 => f ⟨c.val, by omega⟩) (f ⟨256, by omega⟩) ≤ x := by
    intro x
    simp only [Finset.fold_max_le, max_le_iff, bot_le, true_and, Finset.mem_univ, forall_const]
    constructor
    · intro h; exact ⟨fun j => h _, h _⟩
    · rintro ⟨h1, h3⟩ j
      by_cases a : j.val < 256
      · exact h1 ⟨j.val, a⟩
      · have e : (⟨256, by omega⟩ : Fin 257) = j := Fin.ext (by show 256 = j.val; omega)
        rwa [e] at h3
  exact le_antisymm ((key _).2 le_rfl) ((key _).1 le_rfl)

/-- No score at all: the maximum is −∞. -/
theorem fold_bot {n : ℕ} : (Finset.univ : Finset (Fin n)).fold max (⊥ : EReal) (fun _ => ⊥) = ⊥ :=
  le_antisymm ((Finset.fold_max_le _).2 ⟨le_rfl, fun _ _ => le_rfl⟩) bot_le

/-- A sum over the blocks is the sum over the two of the context and that over the 64 latent ones. -/
theorem sum66 (f : Fin 66 → EReal) :
    ∑ i, f i = (∑ i : Fin 2, f ⟨i.val, by omega⟩) + ∑ n : Fin 64, f ⟨n.val + 2, by omega⟩ := by
  rw [Fin.sum_univ_add (a := 2) (b := 64) (fun j : Fin (2 + 64) => f j)]
  congr 1

/-- A sum over the context's rows is one over its two blocks' rows. -/
theorem sum256 (f : Fin 256 → EReal) :
    ∑ c, f c = ∑ i : Fin 2, ∑ r : Fin 128, f ⟨i.val * 128 + r.val, by omega⟩ := by
  rw [Fin.sum_univ_two, Fin.sum_univ_add (a := 128) (b := 128) (fun j : Fin (128 + 128) => f j)]
  congr 1

end Cert.Split
-- ==== Proof.Attn.RefLat.lean ====
/- The reference's latent rows: its scores, softmax and the scores' gradients are the specification's. -/
module

public import proofs.«01_k».proof.Proof.Attn.Ref
public import proofs.«01_k».proof.Proof.Attn.Split

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

variable (n : Fin 64) (h g : Fin 4) (r : Fin 128)

theorem v68_at (j : Fin 384) (hj : Spec.ok (lat n) r j) :
    val_main_v70 (F := Ideal) x0 x1 (ix5 n h g r j) = Spec.dotK (args x0 x3 x1 x2 x4) (lat n) r h g (Spec.key (lat n) j) := by
  pointwise [val_main_v70, val_main_v68, val_main_v67, val_main_v69]
  rw [cst16_at]
  unfold Spec.dotK
  congr 1
  refine Finset.sum_congr rfl fun d _ => ?_
  rw [v57_at x0 x3 x1 x2 x4 n r j h d hj, v48_at x0 x3 x1 x2 x4, mul_comm]

theorem mask_at (j : Fin 384) : val_main_v104_1 (F := Ideal) (ix5 n h g r j) = 1#1 ↔ Spec.ok (lat n) r j := by
  rw [← v102_at]
  pointwise [val_main_v104_1, val_main_v103]

theorem v104_at (j : Fin 384) : val_main_v104_0 (F := Ideal) x0 x1 (ix5 n h g r j) = (Spec.sL (args x0 x3 x1 x2 x4) (lat n) r h g) j := by
  have e : val_main_v104_0 (F := Ideal) x0 x1 (ix5 n h g r j) = Scalar.select (val_main_v104_1 (F := Ideal) (ix5 n h g r j))
      (val_main_v70 (F := Ideal) x0 x1 (ix5 n h g r j)) (val_main_call0_v2 (F := Ideal) (ix5 n h g r j)) := by
    pointwise [val_main_v104_0]
  rw [e]
  have e2 : val_main_call0_v2 (F := Ideal) (ix5 n h g r j) = ⊥ := by
    pointwise [val_main_call0_v2, val_main_call0_v0]
    exact cst22_at _
  rw [e2]
  unfold Spec.sL
  by_cases hj : Spec.ok (lat n) r j
  · rw [if_pos hj, (mask_at n h g r j).2 hj, v68_at x0 x3 x1 x2 x4 n h g r j hj]; rfl
  · rw [if_neg hj]
    exact if_neg fun hm => hj ((mask_at n h g r j).1 hm)

theorem v108_at (c : Fin 256) : val_main_v108 (F := Ideal) x0 x1 (ix5 n h g r c) = (Spec.sC (args x0 x3 x1 x2 x4) (lat n) r h g) c := by
  pointwise [val_main_v108, val_main_v106, val_main_v105, val_main_v107]
  rw [cst23_at]
  unfold Spec.sC Spec.dotK
  congr 1
  refine Finset.sum_congr rfl fun d _ => ?_
  rw [v3_at x0 x3 x1 x2 x4, v48_at x0 x3 x1 x2 x4, mul_comm]

theorem v110_at : val_main_v110 (F := Ideal) x4 (ix5 n h g r 0) = (Spec.Args.z (args x0 x3 x1 x2 x4) h g) := by
  pointwise [val_main_v110, val_main_v109, args, colZ]

theorem v111_L (j : Fin 384) : val_main_v111 (F := Ideal) x0 x1 x4 (ix5 n h g r ⟨j.val, by omega⟩) = (Spec.sL (args x0 x3 x1 x2 x4) (lat n) r h g) j := by
  rw [← v104_at]
  pointwise [val_main_v111]
theorem v111_C (c : Fin 256) : val_main_v111 (F := Ideal) x0 x1 x4 (ix5 n h g r ⟨384 + c.val, by omega⟩) = (Spec.sC (args x0 x3 x1 x2 x4) (lat n) r h g) c := by
  rw [← v108_at]
  pointwise [val_main_v111]
theorem v111_Z : val_main_v111 (F := Ideal) x0 x1 x4 (ix5 n h g r ⟨640, by omega⟩) = (Spec.Args.z (args x0 x3 x1 x2 x4) h g) := by
  rw [← v110_at x0 x3 x1 x2 x4 n h g r]
  pointwise [val_main_v111]

/-- The larger of two numbers. -/
theorem max_def (a b : Ideal .f32) : FloatOps.maximumf (F := Ideal) (φ := .f32) a b = max (α := EReal) a b := rfl

theorem v119_at : val_main_v119 (F := Ideal) x0 x1 x4 (ix4 n h g r) = Row.top (Spec.sL (args x0 x3 x1 x2 x4) (lat n) r h g) (Spec.sC (args x0 x3 x1 x2 x4) (lat n) r h g) (Spec.Args.z (args x0 x3 x1 x2 x4) h g) := by
  have e2 : val_main_v118 (F := Ideal) (ix4 n h g r) = ⊥ := by
    pointwise [val_main_v118]
    exact cst26_at _
  have e3 : val_main_v112 (F := Ideal) x0 x1 x4 (ix4 n h g r)
      = Finset.univ.fold max (val_main_cst_24 (F := Ideal) (Shape.Idx.first Gen.h_S_))
        (fun j => val_main_v111 (F := Ideal) x0 x1 x4 (ix5 n h g r j)) := by pointwise [val_main_v112]
  rw [val_main_v119_apply (F := Ideal) x0 x1 x4 (ix4 n h g r), e2, e3, cst24_at, Split.fold641, max_def, max_eq_right bot_le]
  simp only [v111_L x0 x3 x1 x2 x4, v111_C x0 x3 x1 x2 x4, v111_Z x0 x3 x1 x2 x4]
  rfl

theorem v132_at (j : Fin 641) : val_main_v132 (F := Ideal) x0 x1 x4 (ix5 n h g r j)
    = Row.ex (Spec.sL (args x0 x3 x1 x2 x4) (lat n) r h g) (Spec.sC (args x0 x3 x1 x2 x4) (lat n) r h g) (Spec.Args.z (args x0 x3 x1 x2 x4) h g) (val_main_v111 (F := Ideal) x0 x1 x4 (ix5 n h g r j)) := by
  pointwise [val_main_v132, val_main_v131, val_main_v130, val_main_v129]
  rw [v119_at x0 x3 x1 x2 x4]; rfl

theorem v133_at : val_main_v133 (F := Ideal) x0 x1 x4 (ix4 n h g r) = Row.den (Spec.sL (args x0 x3 x1 x2 x4) (lat n) r h g) (Spec.sC (args x0 x3 x1 x2 x4) (lat n) r h g) (Spec.Args.z (args x0 x3 x1 x2 x4) h g) := by
  have e3 : val_main_v133 (F := Ideal) x0 x1 x4 (ix4 n h g r)
      = val_main_cst_32 (F := Ideal) (Shape.Idx.first Gen.h_S_) + ∑ j, val_main_v132 (F := Ideal) x0 x1 x4 (ix5 n h g r j) := by
    pointwise [val_main_v133]
  have e4 : val_main_cst_32 (F := Ideal) (Shape.Idx.first Gen.h_S_) = 0 := Ideal.ofBits_zero_f32
  rw [e3, e4, zero_add, Split.sum641]
  simp only [v132_at x0 x3 x1 x2 x4, v111_L x0 x3 x1 x2 x4, v111_C x0 x3 x1 x2 x4, v111_Z x0 x3 x1 x2 x4]
  rfl

theorem v136_at (hA : (args x0 x3 x1 x2 x4).Real) (j : Fin 641) : val_main_v136 (F := Ideal) x0 x1 x4 (ix5 n h g r j)
    = Row.pr (Spec.sL (args x0 x3 x1 x2 x4) (lat n) r h g) (Spec.sC (args x0 x3 x1 x2 x4) (lat n) r h g) (Spec.Args.z (args x0 x3 x1 x2 x4) h g) (val_main_v111 (F := Ideal) x0 x1 x4 (ix5 n h g r j)) := by
  pointwise [val_main_v136, val_main_v135, val_main_v134]
  rw [v133_at x0 x3 x1 x2 x4, v132_at x0 x3 x1 x2 x4]
  exact Row.ref_p (Spec.sL_ne_top _ r h g hA) (Spec.sC_real _ r h g hA) (hA.z h g) _

theorem v140_at (hA : (args x0 x3 x1 x2 x4).Real) (j : Fin 384) : val_main_v140 (F := Ideal) x0 x1 x4 (ix5 n h g r j) = Spec.pL (args x0 x3 x1 x2 x4) (lat n) r h g j := by
  pointwise [val_main_v140]
  rw [v136_at x0 x3 x1 x2 x4 n h g r hA, v111_L x0 x3 x1 x2 x4]; rfl
theorem v143_at (hA : (args x0 x3 x1 x2 x4).Real) (c : Fin 256) : val_main_v143 (F := Ideal) x0 x1 x4 (ix5 n h g r c) = Spec.pC (args x0 x3 x1 x2 x4) (lat n) r h g c := by
  pointwise [val_main_v143]
  rw [v136_at x0 x3 x1 x2 x4 n h g r hA, v111_C x0 x3 x1 x2 x4]; rfl

/-! ## Cotangents -/

theorem v154_at (c : Fin 256) : val_main_v154 (F := Ideal) x2 x3 (ix5 n h g r c) = (Spec.fC (args x0 x3 x1 x2 x4) (lat n) r h g) c := by
  pointwise [val_main_v154, val_main_v153, val_main_v152]
  unfold Spec.fC Spec.dotV
  refine Finset.sum_congr rfl fun d _ => ?_
  rw [v4_at x0 x3 x1 x2 x4, v151_at x0 x3 x1 x2 x4]

theorem v159_ok (j : Fin 384) (hj : Spec.ok (lat n) r j) : val_main_v159 (F := Ideal) x2 x3 (ix5 n h g r j) = (Spec.fL (args x0 x3 x1 x2 x4) (lat n) r h g) j := by
  pointwise [val_main_v159, val_main_v158]
  unfold Spec.fL Spec.dotV
  refine Finset.sum_congr rfl fun d _ => ?_
  rw [v66_at x0 x3 x1 x2 x4 n r j h d hj, v151_at x0 x3 x1 x2 x4]

theorem v163_L (j : Fin 384) : val_main_v163 (F := Ideal) x2 x3 (ix5 n h g r ⟨j.val, by omega⟩)
    = val_main_v159 (F := Ideal) x2 x3 (ix5 n h g r j) := by
  pointwise [val_main_v163, val_main_v157, val_main_v162]
  rw [show val_main_cst_34 (F := Ideal) (Shape.Idx.first Gen.h_S_) = 0 from Ideal.ofBits_zero_f32, dif_neg (fun hh => hh.1), zero_add]
theorem v163_C (c : Fin 256) : val_main_v163 (F := Ideal) x2 x3 (ix5 n h g r ⟨384 + c.val, by omega⟩) = (Spec.fC (args x0 x3 x1 x2 x4) (lat n) r h g) c := by
  rw [← v154_at]
  pointwise [val_main_v163, val_main_v157, val_main_v162]
  rw [show val_main_cst_35 (F := Ideal) (Shape.Idx.first Gen.h_S_) = 0 from Ideal.ofBits_zero_f32, add_zero]
theorem v163_Z : val_main_v163 (F := Ideal) x2 x3 (ix5 n h g r ⟨640, by omega⟩) = 0 := by
  pointwise [val_main_v163, val_main_v157, val_main_v162]
  rw [show val_main_cst_34 (F := Ideal) (Shape.Idx.first Gen.h_S_) = 0 from Ideal.ofBits_zero_f32,
    show val_main_cst_35 (F := Ideal) (Shape.Idx.first Gen.h_S_) = 0 from Ideal.ofBits_zero_f32, add_zero]

theorem ex_off (hA : (args x0 x3 x1 x2 x4).Real) (j : Fin 384) (hj : ¬ Spec.ok (lat n) r j) : Row.ex (Spec.sL (args x0 x3 x1 x2 x4) (lat n) r h g) (Spec.sC (args x0 x3 x1 x2 x4) (lat n) r h g) (Spec.Args.z (args x0 x3 x1 x2 x4) h g) ((Spec.sL (args x0 x3 x1 x2 x4) (lat n) r h g) j) = 0 := by
  rw [show (Spec.sL (args x0 x3 x1 x2 x4) (lat n) r h g) j = ⊥ from if_neg hj]
  exact Row.ex_bot (Spec.sL_ne_top _ r h g hA) (Spec.sC_real _ r h g hA) (hA.z h g)

theorem v139_at : val_main_v139 (F := Ideal) x0 x1 x4 (ix5 n h g r 0)
    = Ideal.div 1 (Row.den (Spec.sL (args x0 x3 x1 x2 x4) (lat n) r h g) (Spec.sC (args x0 x3 x1 x2 x4) (lat n) r h g) (Spec.Args.z (args x0 x3 x1 x2 x4) h g) * Row.den (Spec.sL (args x0 x3 x1 x2 x4) (lat n) r h g) (Spec.sC (args x0 x3 x1 x2 x4) (lat n) r h g) (Spec.Args.z (args x0 x3 x1 x2 x4) h g)) := by
  pointwise [val_main_v139, val_main_v137, val_main_v138, val_main_v134]
  rw [v133_at x0 x3 x1 x2 x4, show val_main_cst_33 (F := Ideal) ix0 = 1 from Consts.one]

theorem v167_at (hA : (args x0 x3 x1 x2 x4).Real) : val_main_v167 (F := Ideal) x0 x1 x2 x3 x4 (ix4 n h g r) = Row.refTot (Spec.sL (args x0 x3 x1 x2 x4) (lat n) r h g) (Spec.sC (args x0 x3 x1 x2 x4) (lat n) r h g) (Spec.Args.z (args x0 x3 x1 x2 x4) h g) (Spec.fL (args x0 x3 x1 x2 x4) (lat n) r h g) (Spec.fC (args x0 x3 x1 x2 x4) (lat n) r h g) := by
  have e3 : val_main_v167 (F := Ideal) x0 x1 x2 x3 x4 (ix4 n h g r)
      = val_main_cst_36 (F := Ideal) (Shape.Idx.first Gen.h_S_) + ∑ j, val_main_v166 (F := Ideal) x0 x1 x2 x3 x4 (ix5 n h g r j) := by
    pointwise [val_main_v167]
  have e4 : val_main_cst_36 (F := Ideal) (Shape.Idx.first Gen.h_S_) = 0 := Ideal.ofBits_zero_f32
  have e5 : ∀ j, val_main_v166 (F := Ideal) x0 x1 x2 x3 x4 (ix5 n h g r j)
      = val_main_v163 (F := Ideal) x2 x3 (ix5 n h g r j) * Ideal.div 1 (Row.den (Spec.sL (args x0 x3 x1 x2 x4) (lat n) r h g) (Spec.sC (args x0 x3 x1 x2 x4) (lat n) r h g) (Spec.Args.z (args x0 x3 x1 x2 x4) h g) * Row.den (Spec.sL (args x0 x3 x1 x2 x4) (lat n) r h g) (Spec.sC (args x0 x3 x1 x2 x4) (lat n) r h g) (Spec.Args.z (args x0 x3 x1 x2 x4) h g))
        * Row.ex (Spec.sL (args x0 x3 x1 x2 x4) (lat n) r h g) (Spec.sC (args x0 x3 x1 x2 x4) (lat n) r h g) (Spec.Args.z (args x0 x3 x1 x2 x4) h g) (val_main_v111 (F := Ideal) x0 x1 x4 (ix5 n h g r j)) := by
    intro j
    rw [← v132_at, ← v139_at]
    pointwise [val_main_v166, val_main_v165, val_main_v164]
  rw [e3, e4, zero_add, Split.sum641]
  simp only [e5, v163_L, v163_C x0 x3 x1 x2 x4, v163_Z, v111_L x0 x3 x1 x2 x4, v111_C x0 x3 x1 x2 x4, v111_Z x0 x3 x1 x2 x4,
    zero_mul, add_zero]
  unfold Row.refTot
  congr 1
  refine Finset.sum_congr rfl fun j _ => ?_
  by_cases hj : Spec.ok (lat n) r j
  · rw [v159_ok x0 x3 x1 x2 x4 n h g r j hj]
  · rw [ex_off x0 x3 x1 x2 x4 n h g r hA j hj, mul_zero, mul_zero]

theorem v175_at (hA : (args x0 x3 x1 x2 x4).Real) (j : Fin 641) : val_main_v175 (F := Ideal) x0 x1 x2 x3 x4 (ix5 n h g r j)
    = (Ideal.div (val_main_v163 (F := Ideal) x2 x3 (ix5 n h g r j)) (Row.den (Spec.sL (args x0 x3 x1 x2 x4) (lat n) r h g) (Spec.sC (args x0 x3 x1 x2 x4) (lat n) r h g) (Spec.Args.z (args x0 x3 x1 x2 x4) h g)) + -Row.refTot (Spec.sL (args x0 x3 x1 x2 x4) (lat n) r h g) (Spec.sC (args x0 x3 x1 x2 x4) (lat n) r h g) (Spec.Args.z (args x0 x3 x1 x2 x4) h g) (Spec.fL (args x0 x3 x1 x2 x4) (lat n) r h g) (Spec.fC (args x0 x3 x1 x2 x4) (lat n) r h g))
      * Row.ex (Spec.sL (args x0 x3 x1 x2 x4) (lat n) r h g) (Spec.sC (args x0 x3 x1 x2 x4) (lat n) r h g) (Spec.Args.z (args x0 x3 x1 x2 x4) h g) (val_main_v111 (F := Ideal) x0 x1 x4 (ix5 n h g r j)) := by
  rw [← v132_at, ← v133_at, ← v167_at x0 x3 x1 x2 x4 n h g r hA]
  pointwise [val_main_v175, val_main_v174, val_main_v173, val_main_v172, val_main_v169, val_main_v168, val_main_v171,
    val_main_v170, val_main_v134]
  rw [show val_main_cst_37 (F := Ideal) (Shape.Idx.first Gen.h_S_) = 0 from Ideal.ofBits_zero_f32, zero_add, Fin.sum_univ_one]

theorem v177_at (hA : (args x0 x3 x1 x2 x4).Real) (c : Fin 256) : val_main_v177 (F := Ideal) x0 x1 x2 x3 x4 (ix5 n h g r c)
    = Spec.gC (args x0 x3 x1 x2 x4) (lat n) r h g c := by
  have e : val_main_v177 (F := Ideal) x0 x1 x2 x3 x4 (ix5 n h g r c)
      = val_main_v175 (F := Ideal) x0 x1 x2 x3 x4 (ix5 n h g r ⟨384 + c.val, by omega⟩) := by pointwise [val_main_v177]
  rw [e, v175_at x0 x3 x1 x2 x4 n h g r hA, v163_C x0 x3 x1 x2 x4, v111_C x0 x3 x1 x2 x4]
  exact Row.ref_d (Spec.sL_ne_top _ r h g hA) (Spec.sC_real _ r h g hA) (hA.z h g) (Spec.fL_real _ r h g hA)
    (Spec.fC_real _ r h g hA) _ _ (Row.ne_top_of_real (Spec.sC_real _ r h g hA c)) (Spec.fC_real _ r h g hA c)

theorem v178_at (hA : (args x0 x3 x1 x2 x4).Real) : val_main_v178 (F := Ideal) x0 x1 x2 x3 x4 (ix5 n h g r 0) = -Spec.gZ (args x0 x3 x1 x2 x4) (lat n) r h g := by
  have e : val_main_v178 (F := Ideal) x0 x1 x2 x3 x4 (ix5 n h g r 0)
      = val_main_v175 (F := Ideal) x0 x1 x2 x3 x4 (ix5 n h g r ⟨640, by omega⟩) := by pointwise [val_main_v178]
  rw [e, v175_at x0 x3 x1 x2 x4 n h g r hA, v163_Z, v111_Z x0 x3 x1 x2 x4]
  rw [Row.ref_d (Spec.sL_ne_top _ r h g hA) (Spec.sC_real _ r h g hA) (hA.z h g) (Spec.fL_real _ r h g hA)
    (Spec.fC_real _ r h g hA) _ _ (Row.ne_top_of_real (hA.z h g)) Row.IsR.zero]
  exact Row.gr_sink (Spec.sL_ne_top _ r h g hA) (Spec.sC_real _ r h g hA) (hA.z h g) (Spec.fL_real _ r h g hA)
    (Spec.fC_real _ r h g hA)

/-- The masked gradient of a local score, scaled. -/
theorem v191_at (hA : (args x0 x3 x1 x2 x4).Real) (j : Fin 384) : val_main_v191 (F := Ideal) x0 x1 x2 x3 x4 (ix5 n h g r j)
    = Spec.gL (args x0 x3 x1 x2 x4) (lat n) r h g j * Spec.sc := by
  have e : val_main_v191 (F := Ideal) x0 x1 x2 x3 x4 (ix5 n h g r j)
      = Scalar.select (val_main_v104_1 (F := Ideal) (ix5 n h g r j))
          (val_main_v175 (F := Ideal) x0 x1 x2 x3 x4 (ix5 n h g r ⟨j.val, by omega⟩)) (val_main_call1_v0 (F := Ideal) (ix5 n h g r j))
        * val_main_cst_40 (F := Ideal) ix0 := by
    pointwise [val_main_v191, val_main_v189, val_main_v190, val_main_v176]
  rw [e, cst40_at]
  congr 1
  by_cases hj : Spec.ok (lat n) r j
  · rw [(mask_at n h g r j).2 hj]
    show val_main_v175 (F := Ideal) x0 x1 x2 x3 x4 (ix5 n h g r ⟨j.val, by omega⟩) = _
    rw [v175_at x0 x3 x1 x2 x4 n h g r hA, v163_L, v111_L x0 x3 x1 x2 x4, v159_ok x0 x3 x1 x2 x4 n h g r j hj]
    exact Row.ref_d (Spec.sL_ne_top _ r h g hA) (Spec.sC_real _ r h g hA) (hA.z h g) (Spec.fL_real _ r h g hA)
      (Spec.fC_real _ r h g hA) _ _ (Spec.sL_ne_top _ r h g hA j) (Spec.fL_real _ r h g hA j)
  · rw [Spec.gL_off _ r h g hA j hj]
    refine (if_neg fun hm => hj ((mask_at n h g r j).1 hm)).trans ?_
    pointwise [val_main_call1_v0, val_main_call1_cst]

theorem v183_at (hA : (args x0 x3 x1 x2 x4).Real) (c : Fin 256) : val_main_v183 (F := Ideal) x0 x1 x2 x3 x4 (ix5 n h g r c)
    = Spec.gC (args x0 x3 x1 x2 x4) (lat n) r h g c * Spec.sc := by
  rw [← v177_at x0 x3 x1 x2 x4 n h g r hA]
  pointwise [val_main_v183, val_main_v182]
  rw [cst39_at]

end Cert.ReferenceIdeal.Attn

end
-- ==== Proof.Attn.RefCtx.lean ====
/- The reference's context rows: its scores, softmax and the scores' gradients are the specification's. -/
module

public import proofs.«01_k».proof.Proof.Attn.Ref
public import proofs.«01_k».proof.Proof.Attn.Split

@[expose] public section

set_option maxRecDepth 16384

noncomputable section

namespace Cert.ReferenceIdeal.Attn

open Idealize.ShloMosaic Cert.ReferenceIdeal Cert.ReferenceIdeal.Read

/-- The block of a context row, and its row of the block. -/
def blk (q : Fin 256) : Fin 66 := ⟨q.val / 128, by omega⟩
def sub (q : Fin 256) : Fin 128 := ⟨q.val % 128, by omega⟩

theorem row_blk (q : Fin 256) : Spec.row (blk q) (sub q) = Spec.cx q := by
  apply Fin.ext
  show q.val / 128 * 128 + q.val % 128 = q.val
  omega

variable (x0 x3 : FVec Ideal S8448x1024 .f32) (x1 x2 : FVec Ideal S8448x256 .f32) (x4 : FVec Ideal S16 .f32)
variable (q : Fin 256) (h g : Fin 4)

/-- A context row sees no latent key. -/
theorem sL_ctx (j : Fin 384) : (Spec.sL (args x0 x3 x1 x2 x4) (blk q) (sub q) h g) j = ⊥ :=
  if_neg fun hh => absurd hh.1 (by show ¬ 2 ≤ q.val / 128; omega)
theorem sL_ctx' : (Spec.sL (args x0 x3 x1 x2 x4) (blk q) (sub q) h g) = fun _ => ⊥ := funext fun j => sL_ctx x0 x3 x1 x2 x4 q h g j

theorem ex_ctx (hA : (args x0 x3 x1 x2 x4).Real) (j : Fin 384) : Row.ex (Spec.sL (args x0 x3 x1 x2 x4) (blk q) (sub q) h g) (Spec.sC (args x0 x3 x1 x2 x4) (blk q) (sub q) h g) (Spec.Args.z (args x0 x3 x1 x2 x4) h g) ((Spec.sL (args x0 x3 x1 x2 x4) (blk q) (sub q) h g) j) = 0 := by
  rw [sL_ctx x0 x3 x1 x2 x4 q h g j]
  exact Row.ex_bot (Spec.sL_ne_top _ _ h g hA) (Spec.sC_real _ _ h g hA) (hA.z h g)

theorem v12_at (c : Fin 256) : val_main_v12 (F := Ideal) x0 x1 (ix4 h g q c) = (Spec.sC (args x0 x3 x1 x2 x4) (blk q) (sub q) h g) c := by
  pointwise [val_main_v12, val_main_v10, val_main_v9, val_main_v11]
  rw [cst_at]
  unfold Spec.sC Spec.dotK
  congr 1
  refine Finset.sum_congr rfl fun d _ => ?_
  rw [v3_at x0 x3 x1 x2 x4, v8_at x0 x3 x1 x2 x4, row_blk, mul_comm]

theorem v14_at : val_main_v14 (F := Ideal) x4 (ix4 h g q 0) = (Spec.Args.z (args x0 x3 x1 x2 x4) h g) := by
  pointwise [val_main_v14, val_main_v13, args, colZ]

theorem v15_C (c : Fin 256) : val_main_v15 (F := Ideal) x0 x1 x4 (ix4 h g q ⟨c.val, by omega⟩) = (Spec.sC (args x0 x3 x1 x2 x4) (blk q) (sub q) h g) c := by
  rw [← v12_at]
  pointwise [val_main_v15]
theorem v15_Z : val_main_v15 (F := Ideal) x0 x1 x4 (ix4 h g q ⟨256, by omega⟩) = (Spec.Args.z (args x0 x3 x1 x2 x4) h g) := by
  rw [← v14_at x0 x3 x1 x2 x4 q h g]
  pointwise [val_main_v15]

/-- The larger of two numbers. -/
theorem max_def' (a b : Ideal .f32) : FloatOps.maximumf (F := Ideal) (φ := .f32) a b = max (α := EReal) a b := rfl

theorem v23_at : val_main_v23 (F := Ideal) x0 x1 x4 (ix3 h g q) = Row.top (Spec.sL (args x0 x3 x1 x2 x4) (blk q) (sub q) h g) (Spec.sC (args x0 x3 x1 x2 x4) (blk q) (sub q) h g) (Spec.Args.z (args x0 x3 x1 x2 x4) h g) := by
  have e2 : val_main_v22 (F := Ideal) (ix3 h g q) = ⊥ := by
    pointwise [val_main_v22]
    exact cst2_at _
  have e3 : val_main_v16 (F := Ideal) x0 x1 x4 (ix3 h g q)
      = Finset.univ.fold max (val_main_cst_0 (F := Ideal) (Shape.Idx.first Gen.h_S_))
        (fun j => val_main_v15 (F := Ideal) x0 x1 x4 (ix4 h g q j)) := by pointwise [val_main_v16]
  rw [val_main_v23_apply (F := Ideal) x0 x1 x4 (ix3 h g q), e2, e3, cst0_at, Split.fold257, max_def', max_eq_right bot_le]
  simp only [v15_C x0 x3 x1 x2 x4, v15_Z x0 x3 x1 x2 x4]
  unfold Row.top
  rw [sL_ctx' x0 x3 x1 x2 x4 q h g, Split.fold_bot, max_eq_right (bot_le (a := Finset.univ.fold max ⊥ (Spec.sC (args x0 x3 x1 x2 x4) (blk q) (sub q) h g)))]

theorem v36_at (j : Fin 257) : val_main_v36 (F := Ideal) x0 x1 x4 (ix4 h g q j)
    = Row.ex (Spec.sL (args x0 x3 x1 x2 x4) (blk q) (sub q) h g) (Spec.sC (args x0 x3 x1 x2 x4) (blk q) (sub q) h g) (Spec.Args.z (args x0 x3 x1 x2 x4) h g) (val_main_v15 (F := Ideal) x0 x1 x4 (ix4 h g q j)) := by
  pointwise [val_main_v36, val_main_v35, val_main_v34, val_main_v33]
  rw [v23_at x0 x3 x1 x2 x4]; rfl

theorem v37_at (hA : (args x0 x3 x1 x2 x4).Real) : val_main_v37 (F := Ideal) x0 x1 x4 (ix3 h g q) = Row.den (Spec.sL (args x0 x3 x1 x2 x4) (blk q) (sub q) h g) (Spec.sC (args x0 x3 x1 x2 x4) (blk q) (sub q) h g) (Spec.Args.z (args x0 x3 x1 x2 x4) h g) := by
  have e3 : val_main_v37 (F := Ideal) x0 x1 x4 (ix3 h g q)
      = val_main_cst_8 (F := Ideal) (Shape.Idx.first Gen.h_S_) + ∑ j, val_main_v36 (F := Ideal) x0 x1 x4 (ix4 h g q j) := by
    pointwise [val_main_v37]
  have e4 : val_main_cst_8 (F := Ideal) (Shape.Idx.first Gen.h_S_) = 0 := Ideal.ofBits_zero_f32
  rw [e3, e4, zero_add, Split.sum257]
  simp only [v36_at x0 x3 x1 x2 x4, v15_C x0 x3 x1 x2 x4, v15_Z x0 x3 x1 x2 x4]
  unfold Row.den
  rw [Finset.sum_eq_zero fun j _ => ex_ctx x0 x3 x1 x2 x4 q h g hA j, zero_add]

theorem v44_at (hA : (args x0 x3 x1 x2 x4).Real) (c : Fin 256) : val_main_v44 (F := Ideal) x0 x1 x4 (ix4 h g q c)
    = Spec.pC (args x0 x3 x1 x2 x4) (blk q) (sub q) h g c := by
  have e : val_main_v44 (F := Ideal) x0 x1 x4 (ix4 h g q c)
      = Ideal.div (val_main_v36 (F := Ideal) x0 x1 x4 (ix4 h g q ⟨c.val, by omega⟩)) (val_main_v37 (F := Ideal) x0 x1 x4 (ix3 h g q)) := by
    pointwise [val_main_v44, val_main_v40, val_main_v39, val_main_v38]
  rw [e, v37_at x0 x3 x1 x2 x4 q h g hA, v36_at x0 x3 x1 x2 x4, v15_C x0 x3 x1 x2 x4]
  exact Row.ref_p (Spec.sL_ne_top _ _ h g hA) (Spec.sC_real _ _ h g hA) (hA.z h g) _

/-! ## Cotangents -/

theorem v225_at (c : Fin 256) : val_main_v225 (F := Ideal) x2 x3 (ix4 h g q c) = (Spec.fC (args x0 x3 x1 x2 x4) (blk q) (sub q) h g) c := by
  pointwise [val_main_v225, val_main_v224]
  unfold Spec.fC Spec.dotV
  refine Finset.sum_congr rfl fun d _ => ?_
  rw [v4_at x0 x3 x1 x2 x4, v223_at x0 x3 x1 x2 x4, row_blk]

theorem v229_C (c : Fin 256) : val_main_v229 (F := Ideal) x2 x3 (ix4 h g q ⟨c.val, by omega⟩) = (Spec.fC (args x0 x3 x1 x2 x4) (blk q) (sub q) h g) c := by
  rw [← v225_at]
  pointwise [val_main_v229]
theorem v229_Z : val_main_v229 (F := Ideal) x2 x3 (ix4 h g q ⟨256, by omega⟩) = 0 := by
  pointwise [val_main_v229]
  exact Ideal.ofBits_zero_f32

theorem v43_at (hA : (args x0 x3 x1 x2 x4).Real) : val_main_v43 (F := Ideal) x0 x1 x4 (ix4 h g q 0)
    = Ideal.div 1 (Row.den (Spec.sL (args x0 x3 x1 x2 x4) (blk q) (sub q) h g) (Spec.sC (args x0 x3 x1 x2 x4) (blk q) (sub q) h g) (Spec.Args.z (args x0 x3 x1 x2 x4) h g) * Row.den (Spec.sL (args x0 x3 x1 x2 x4) (blk q) (sub q) h g) (Spec.sC (args x0 x3 x1 x2 x4) (blk q) (sub q) h g) (Spec.Args.z (args x0 x3 x1 x2 x4) h g)) := by
  pointwise [val_main_v43, val_main_v41, val_main_v42, val_main_v38]
  rw [v37_at x0 x3 x1 x2 x4 q h g hA, show val_main_cst_9 (F := Ideal) ix0 = 1 from Consts.one]

theorem v233_at (hA : (args x0 x3 x1 x2 x4).Real) : val_main_v233 (F := Ideal) x0 x1 x2 x3 x4 (ix3 h g q) = Row.refTot (Spec.sL (args x0 x3 x1 x2 x4) (blk q) (sub q) h g) (Spec.sC (args x0 x3 x1 x2 x4) (blk q) (sub q) h g) (Spec.Args.z (args x0 x3 x1 x2 x4) h g) (Spec.fL (args x0 x3 x1 x2 x4) (blk q) (sub q) h g) (Spec.fC (args x0 x3 x1 x2 x4) (blk q) (sub q) h g) := by
  have e3 : val_main_v233 (F := Ideal) x0 x1 x2 x3 x4 (ix3 h g q)
      = val_main_cst_48 (F := Ideal) (Shape.Idx.first Gen.h_S_) + ∑ j, val_main_v232 (F := Ideal) x0 x1 x2 x3 x4 (ix4 h g q j) := by
    pointwise [val_main_v233]
  have e4 : val_main_cst_48 (F := Ideal) (Shape.Idx.first Gen.h_S_) = 0 := Ideal.ofBits_zero_f32
  have e5 : ∀ j, val_main_v232 (F := Ideal) x0 x1 x2 x3 x4 (ix4 h g q j)
      = val_main_v229 (F := Ideal) x2 x3 (ix4 h g q j) * Ideal.div 1 (Row.den (Spec.sL (args x0 x3 x1 x2 x4) (blk q) (sub q) h g) (Spec.sC (args x0 x3 x1 x2 x4) (blk q) (sub q) h g) (Spec.Args.z (args x0 x3 x1 x2 x4) h g) * Row.den (Spec.sL (args x0 x3 x1 x2 x4) (blk q) (sub q) h g) (Spec.sC (args x0 x3 x1 x2 x4) (blk q) (sub q) h g) (Spec.Args.z (args x0 x3 x1 x2 x4) h g))
        * Row.ex (Spec.sL (args x0 x3 x1 x2 x4) (blk q) (sub q) h g) (Spec.sC (args x0 x3 x1 x2 x4) (blk q) (sub q) h g) (Spec.Args.z (args x0 x3 x1 x2 x4) h g) (val_main_v15 (F := Ideal) x0 x1 x4 (ix4 h g q j)) := by
    intro j
    rw [← v36_at, ← v43_at x0 x3 x1 x2 x4 q h g hA]
    pointwise [val_main_v232, val_main_v231, val_main_v230]
  rw [e3, e4, zero_add, Split.sum257]
  simp only [e5, v229_C x0 x3 x1 x2 x4, v229_Z, v15_C x0 x3 x1 x2 x4, v15_Z x0 x3 x1 x2 x4, zero_mul, add_zero]
  unfold Row.refTot
  refine (zero_add _).symm.trans (congrArg₂ (· + ·) (Finset.sum_eq_zero fun j _ => ?_).symm rfl)
  rw [ex_ctx x0 x3 x1 x2 x4 q h g hA j, mul_zero]

theorem v241_at (hA : (args x0 x3 x1 x2 x4).Real) (j : Fin 257) : val_main_v241 (F := Ideal) x0 x1 x2 x3 x4 (ix4 h g q j)
    = (Ideal.div (val_main_v229 (F := Ideal) x2 x3 (ix4 h g q j)) (Row.den (Spec.sL (args x0 x3 x1 x2 x4) (blk q) (sub q) h g) (Spec.sC (args x0 x3 x1 x2 x4) (blk q) (sub q) h g) (Spec.Args.z (args x0 x3 x1 x2 x4) h g)) + -Row.refTot (Spec.sL (args x0 x3 x1 x2 x4) (blk q) (sub q) h g) (Spec.sC (args x0 x3 x1 x2 x4) (blk q) (sub q) h g) (Spec.Args.z (args x0 x3 x1 x2 x4) h g) (Spec.fL (args x0 x3 x1 x2 x4) (blk q) (sub q) h g) (Spec.fC (args x0 x3 x1 x2 x4) (blk q) (sub q) h g))
      * Row.ex (Spec.sL (args x0 x3 x1 x2 x4) (blk q) (sub q) h g) (Spec.sC (args x0 x3 x1 x2 x4) (blk q) (sub q) h g) (Spec.Args.z (args x0 x3 x1 x2 x4) h g) (val_main_v15 (F := Ideal) x0 x1 x4 (ix4 h g q j)) := by
  rw [← v36_at, ← v37_at x0 x3 x1 x2 x4 q h g hA, ← v233_at x0 x3 x1 x2 x4 q h g hA]
  pointwise [val_main_v241, val_main_v240, val_main_v239, val_main_v238, val_main_v237, val_main_v236, val_main_v235,
    val_main_v234, val_main_v38]
  rw [show val_main_cst_49 (F := Ideal) (Shape.Idx.first Gen.h_S_) = 0 from Ideal.ofBits_zero_f32, zero_add, Fin.sum_univ_one]

theorem v242_at (hA : (args x0 x3 x1 x2 x4).Real) (c : Fin 256) : val_main_v242 (F := Ideal) x0 x1 x2 x3 x4 (ix4 h g q c)
    = Spec.gC (args x0 x3 x1 x2 x4) (blk q) (sub q) h g c := by
  have e : val_main_v242 (F := Ideal) x0 x1 x2 x3 x4 (ix4 h g q c)
      = val_main_v241 (F := Ideal) x0 x1 x2 x3 x4 (ix4 h g q ⟨c.val, by omega⟩) := by pointwise [val_main_v242]
  rw [e, v241_at x0 x3 x1 x2 x4 q h g hA, v229_C x0 x3 x1 x2 x4, v15_C x0 x3 x1 x2 x4]
  exact Row.ref_d (Spec.sL_ne_top _ _ h g hA) (Spec.sC_real _ _ h g hA) (hA.z h g) (Spec.fL_real _ _ h g hA)
    (Spec.fC_real _ _ h g hA) _ _ (Row.ne_top_of_real (Spec.sC_real _ _ h g hA c)) (Spec.fC_real _ _ h g hA c)

theorem v243_at (hA : (args x0 x3 x1 x2 x4).Real) : val_main_v243 (F := Ideal) x0 x1 x2 x3 x4 (ix4 h g q 0) = -Spec.gZ (args x0 x3 x1 x2 x4) (blk q) (sub q) h g := by
  have e : val_main_v243 (F := Ideal) x0 x1 x2 x3 x4 (ix4 h g q 0)
      = val_main_v241 (F := Ideal) x0 x1 x2 x3 x4 (ix4 h g q ⟨256, by omega⟩) := by pointwise [val_main_v243]
  rw [e, v241_at x0 x3 x1 x2 x4 q h g hA, v229_Z, v15_Z x0 x3 x1 x2 x4]
  rw [Row.ref_d (Spec.sL_ne_top _ _ h g hA) (Spec.sC_real _ _ h g hA) (hA.z h g) (Spec.fL_real _ _ h g hA)
    (Spec.fC_real _ _ h g hA) _ _ (Row.ne_top_of_real (hA.z h g)) Row.IsR.zero]
  exact Row.gr_sink (Spec.sL_ne_top _ _ h g hA) (Spec.sC_real _ _ h g hA) (hA.z h g) (Spec.fL_real _ _ h g hA)
    (Spec.fC_real _ _ h g hA)

theorem v249_at (hA : (args x0 x3 x1 x2 x4).Real) (c : Fin 256) : val_main_v249 (F := Ideal) x0 x1 x2 x3 x4 (ix4 h g q c)
    = Spec.gC (args x0 x3 x1 x2 x4) (blk q) (sub q) h g c * Spec.sc := by
  rw [← v242_at x0 x3 x1 x2 x4 q h g hA]
  pointwise [val_main_v249, val_main_v248]
  rw [cst51_at]

end Cert.ReferenceIdeal.Attn

end
-- ==== Proof.Attn.RefDq.lean ====
/- The reference's gradients of the queries are the specification's. -/
module

public import proofs.«01_k».proof.Proof.Attn.RefLat
public import proofs.«01_k».proof.Proof.Attn.RefCtx

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

/-- A difference of finite numbers is one. -/
theorem IsR_sub {x y : EReal} (hx : Row.IsR x) (hy : Row.IsR y) : Row.IsR (x - y) := by
  obtain ⟨a, rfl⟩ := hx; obtain ⟨b, rfl⟩ := hy; exact ⟨a - b, (EReal.coe_sub a b).symm⟩

section
variable {A : Spec.Args} (hA : A.Real) (i : Fin 66) (r : Fin 128) (h g : Fin 4)
include hA
theorem gL_real (j : Fin 384) : Row.IsR (Spec.gL A i r h g j) :=
  (Row.pr_real (Spec.sL_ne_top i r h g hA) (Spec.sC_real i r h g hA) (hA.z h g) _ (Spec.sL_ne_top i r h g hA j)).mul
    (IsR_sub (Spec.fL_real i r h g hA j) (Row.tot_real (Spec.sL_ne_top i r h g hA) (Spec.sC_real i r h g hA) (hA.z h g)
      (Spec.fL_real i r h g hA) (Spec.fC_real i r h g hA)))
theorem gC_real (c : Fin 256) : Row.IsR (Spec.gC A i r h g c) :=
  (Row.pr_real (Spec.sL_ne_top i r h g hA) (Spec.sC_real i r h g hA) (hA.z h g) _
      (Row.ne_top_of_real (Spec.sC_real i r h g hA c))).mul
    (IsR_sub (Spec.fC_real i r h g hA c) (Row.tot_real (Spec.sL_ne_top i r h g hA) (Spec.sC_real i r h g hA) (hA.z h g)
      (Spec.fL_real i r h g hA) (Spec.fC_real i r h g hA)))
/-- The gradient of the queries with the scale under the sums. -/
theorem dq_sums (d : Fin 64) : Spec.dq A i r h g d
    = (∑ c, Spec.gC A i r h g c * Spec.sc * A.k (Spec.cx c) h d) + ∑ j, Spec.gL A i r h g j * Spec.sc * A.k (Spec.key i j) h d := by
  have e1 : ∀ c, Spec.gC A i r h g c * Spec.sc * A.k (Spec.cx c) h d = Spec.gC A i r h g c * A.k (Spec.cx c) h d * Spec.sc :=
    fun c => mul_right_comm _ _ _
  have e2 : ∀ j, Spec.gL A i r h g j * Spec.sc * A.k (Spec.key i j) h d = Spec.gL A i r h g j * A.k (Spec.key i j) h d * Spec.sc :=
    fun c => mul_right_comm _ _ _
  simp only [e1, e2]
  unfold Spec.sc
  rw [← Row.sum_mul_coe _ _ _ (Spec.sc_nonneg hA), ← Row.sum_mul_coe _ _ _ (Spec.sc_nonneg hA),
    ← EReal.right_distrib_of_nonneg_of_ne_top (by exact_mod_cast Spec.sc_nonneg hA) (EReal.coe_ne_top _), add_comm]
  rfl
end

theorem v195_at (hA : (args x0 x3 x1 x2 x4).Real) (n : Fin 64) (r : Fin 128) (h g : Fin 4) (d : Fin 64) :
    val_main_v195 (F := Ideal) x0 x1 x2 x3 x4 (ix5 n r h g d) = Spec.dq (args x0 x3 x1 x2 x4) (lat n) r h g d := by
  have e : val_main_v195 (F := Ideal) x0 x1 x2 x3 x4 (ix5 n r h g d)
      = (∑ c : Fin 256, val_main_v183 (F := Ideal) x0 x1 x2 x3 x4 (ix5 n h g r c) * val_main_v3 (F := Ideal) x1 (ix3 c h d))
        + ∑ j : Fin 384, val_main_v191 (F := Ideal) x0 x1 x2 x3 x4 (ix5 n h g r j) * val_main_v57 (F := Ideal) x1 (ix4 n j h d) := by
    pointwise [val_main_v195, val_main_v186, val_main_v185, val_main_v184, val_main_v194, val_main_v193, val_main_v192]
  rw [e, dq_sums hA]
  refine congrArg₂ (· + ·) (Finset.sum_congr rfl fun c _ => ?_) (Finset.sum_congr rfl fun j _ => ?_)
  · rw [v183_at x0 x3 x1 x2 x4 n h g r hA, v3_at x0 x3 x1 x2 x4]
  · rw [v191_at x0 x3 x1 x2 x4 n h g r hA]
    by_cases hj : Spec.ok (lat n) r j
    · rw [v57_at x0 x3 x1 x2 x4 n r j h d hj]
    · rw [Spec.gL_off _ r h g hA j hj, zero_mul, zero_mul, zero_mul]

theorem v252_at (hA : (args x0 x3 x1 x2 x4).Real) (q : Fin 256) (h g : Fin 4) (d : Fin 64) :
    val_main_v252 (F := Ideal) x0 x1 x2 x3 x4 (ix4 q h g d) = Spec.dq (args x0 x3 x1 x2 x4) (blk q) (sub q) h g d := by
  have e : val_main_v252 (F := Ideal) x0 x1 x2 x3 x4 (ix4 q h g d)
      = ∑ c : Fin 256, val_main_v249 (F := Ideal) x0 x1 x2 x3 x4 (ix4 h g q c) * val_main_v3 (F := Ideal) x1 (ix3 c h d) := by
    pointwise [val_main_v252, val_main_v251, val_main_v250]
  have e2 : ∑ j, Spec.gL (args x0 x3 x1 x2 x4) (blk q) (sub q) h g j * Spec.sc * (args x0 x3 x1 x2 x4).k (Spec.key (blk q) j) h d = 0 :=
    Finset.sum_eq_zero fun j _ => by
      rw [Spec.gL_off _ (sub q) h g hA j (fun hh => absurd hh.1 (by show ¬ 2 ≤ q.val / 128; omega)), zero_mul, zero_mul]
  rw [e, dq_sums hA, e2, add_zero]
  refine Finset.sum_congr rfl fun c _ => ?_
  rw [v249_at x0 x3 x1 x2 x4 q h g hA, v3_at x0 x3 x1 x2 x4]

/-- The block of a row and its row of the block. -/
def bk (t : Fin 8448) : Fin 66 := ⟨t.val / 128, by omega⟩
def bm (t : Fin 8448) : Fin 128 := ⟨t.val % 128, by omega⟩

theorem dq_at (hA : (args x0 x3 x1 x2 x4).Real) (t : Fin 8448) (l : Fin 1024) :
    val_main_v265 (F := Ideal) x0 x1 x2 x3 x4 (ix2 t l)
      = Spec.dq (args x0 x3 x1 x2 x4) (bk t) (bm t) ⟨l.val / 256, by omega⟩ ⟨l.val / 64 % 4, by omega⟩ ⟨l.val % 64, by omega⟩ := by
  pointwise [val_main_v265, val_main_v259, val_main_v264, val_main_v222, val_main_v256]
  rw [show val_main_cst_54 (F := Ideal) (Shape.Idx.first Gen.h_S_) = 0 from Ideal.ofBits_zero_f32,
    show val_main_cst_57 (F := Ideal) (Shape.Idx.first Gen.h_S_) = 0 from Ideal.ofBits_zero_f32]
  by_cases ht : t.val < 256
  · rw [dif_neg (fun hh => absurd hh.1 (by omega)), dif_pos ht, zero_add, v252_at x0 x3 x1 x2 x4 hA]
    rfl
  · rw [dif_pos ⟨by omega, by omega⟩, dif_neg ht, add_zero, v195_at x0 x3 x1 x2 x4 hA]
    congr 1
    · apply Fin.ext; show (t.val - 256) / 128 + 2 = t.val / 128; omega
    · apply Fin.ext; show (t.val - 256) % 128 = t.val % 128; omega

end Cert.ReferenceIdeal.Attn

end
-- ==== Proof.Attn.Three.lean ====
/- Sums over three axes: a contraction of three axes read as a triple sum, and the two such contractions and the sum over
   the blocks and rows that the reference takes. -/
module

public import proofs.«01_k».proof.Proof.Gen.ReferenceIdeal.Read
public import Idealize.ShloMosaic.Lib.Pointwise
public import Idealize.ShloMosaic.Lib.ValueIdxCore

@[expose] public section

set_option maxRecDepth 16384

noncomputable section

namespace Cert.ReferenceIdeal.Attn

open Idealize.ShloMosaic Cert.ReferenceIdeal

/-- An index of three contracted axes is the triple of its coordinates. -/
def contrEquiv3 {sl sr so : Shape} (D : DotDims sl sr so) (n0 n1 n2 : Nat) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

section
variable {sl sr so : Shape} (D : DotDims sl sr so) (n0 n1 n2 : Nat) (hr : D.contr.rank = 3)
    (h0 : D.contr.size ⟨0, by omega⟩ = n0) (h1 : D.contr.size ⟨1, by omega⟩ = n1) (h2 : D.contr.size ⟨2, by omega⟩ = n2)
    (p : Fin n0 × Fin n1 × Fin n2)

theorem contrEquiv3_symm_val0 : (((contrEquiv3 D n0 n1 n2 hr h0 h1 h2).symm p) ⟨0, by omega⟩ : ℕ) = p.1.val := by
  simp [contrEquiv3]
theorem contrEquiv3_symm_val1 : (((contrEquiv3 D n0 n1 n2 hr h0 h1 h2).symm p) ⟨1, by omega⟩ : ℕ) = p.2.1.val := by
  simp [contrEquiv3]
theorem contrEquiv3_symm_val2 : (((contrEquiv3 D n0 n1 n2 hr h0 h1 h2).symm p) ⟨2, by omega⟩ : ℕ) = p.2.2.val := by
  simp [contrEquiv3]
end

/-- The context values' gradient from the latent rows sums over blocks, heads of the group and rows. -/
theorem dot_dv (L : FVec Ideal S4x64x64x4x128 .f32) (R : FVec Ideal S64x4x4x128x256 .f32) (h : Fin 4) (d : Fin 64) (c : Fin 256) :
    Host.dotGeneral dot_S4x64x64x4x128_S64x4x4x128x256_S4x64x256_234_023_1_4_0_1 none L R (ix3 h d c)
      = ∑ n : Fin 64, ∑ g : Fin 4, ∑ r : Fin 128, L (ix5 h d n g r) * R (ix5 n h g r c) := by
  let D := dot_S4x64x64x4x128_S64x4x4x128x256_S4x64x256_234_023_1_4_0_1
  have hr : D.contr.rank = 3 := rfl
  have c0 : D.contr.size ⟨0, by rw [hr]; omega⟩ = 64 := rfl
  have c1 : D.contr.size ⟨1, by rw [hr]; omega⟩ = 4 := rfl
  have c2 : D.contr.size ⟨2, by rw [hr]; omega⟩ = 128 := rfl
  refine (Ideal.dotGeneral_apply D none _ L R (ix3 h d c)).trans ?_
  rw [← Equiv.sum_comp (contrEquiv3 D 64 4 128 hr c0 c1 c2).symm, Fintype.sum_prod_type]
  refine Finset.sum_congr rfl fun n _ => ?_
  rw [Fintype.sum_prod_type]
  refine Finset.sum_congr rfl fun g _ => Finset.sum_congr rfl fun r _ => ?_
  have h0 := contrEquiv3_symm_val0 D 64 4 128 hr c0 c1 c2 (n, g, r)
  have h1 := contrEquiv3_symm_val1 D 64 4 128 hr c0 c1 c2 (n, g, r)
  have h2 := contrEquiv3_symm_val2 D 64 4 128 hr c0 c1 c2 (n, g, r)
  have el : D.lhsIdx (ix3 h d c) ((contrEquiv3 D 64 4 128 hr c0 c1 c2).symm (n, g, r)) = ix5 h d n g r := by
    funext a; apply Fin.ext
    match a with
    | ⟨0, _⟩ => rfl
    | ⟨1, _⟩ => rfl
    | ⟨2, _⟩ => exact h0
    | ⟨3, _⟩ => exact h1
    | ⟨4, _⟩ => exact h2
  have er : D.rhsIdx (ix3 h d c) ((contrEquiv3 D 64 4 128 hr c0 c1 c2).symm (n, g, r)) = ix5 n h g r c := by
    funext a; apply Fin.ext
    match a with
    | ⟨0, _⟩ => exact h0
    | ⟨1, _⟩ => rfl
    | ⟨2, _⟩ => exact h1
    | ⟨3, _⟩ => exact h2
    | ⟨4, _⟩ => rfl
  rw [el, er]

/-- The context keys' gradient from the latent rows sums over blocks, rows and heads of the group. -/
theorem dot_dk (L : FVec Ideal S4x256x64x128x4 .f32) (R : FVec Ideal S64x128x4x4x64 .f32) (h : Fin 4) (c : Fin 256) (d : Fin 64) :
    Host.dotGeneral dot_S4x256x64x128x4_S64x128x4x4x64_S4x256x64_234_013_1_4_0_2 none L R (ix3 h c d)
      = ∑ n : Fin 64, ∑ r : Fin 128, ∑ g : Fin 4, L (ix5 h c n r g) * R (ix5 n r h g d) := by
  let D := dot_S4x256x64x128x4_S64x128x4x4x64_S4x256x64_234_013_1_4_0_2
  have hr : D.contr.rank = 3 := rfl
  have c0 : D.contr.size ⟨0, by rw [hr]; omega⟩ = 64 := rfl
  have c1 : D.contr.size ⟨1, by rw [hr]; omega⟩ = 128 := rfl
  have c2 : D.contr.size ⟨2, by rw [hr]; omega⟩ = 4 := rfl
  refine (Ideal.dotGeneral_apply D none _ L R (ix3 h c d)).trans ?_
  rw [← Equiv.sum_comp (contrEquiv3 D 64 128 4 hr c0 c1 c2).symm, Fintype.sum_prod_type]
  refine Finset.sum_congr rfl fun n _ => ?_
  rw [Fintype.sum_prod_type]
  refine Finset.sum_congr rfl fun r _ => Finset.sum_congr rfl fun g _ => ?_
  have h0 := contrEquiv3_symm_val0 D 64 128 4 hr c0 c1 c2 (n, r, g)
  have h1 := contrEquiv3_symm_val1 D 64 128 4 hr c0 c1 c2 (n, r, g)
  have h2 := contrEquiv3_symm_val2 D 64 128 4 hr c0 c1 c2 (n, r, g)
  have el : D.lhsIdx (ix3 h c d) ((contrEquiv3 D 64 128 4 hr c0 c1 c2).symm (n, r, g)) = ix5 h c n r g := by
    funext a; apply Fin.ext
    match a with
    | ⟨0, _⟩ => rfl
    | ⟨1, _⟩ => rfl
    | ⟨2, _⟩ => exact h0
    | ⟨3, _⟩ => exact h1
    | ⟨4, _⟩ => exact h2
  have er : D.rhsIdx (ix3 h c d) ((contrEquiv3 D 64 128 4 hr c0 c1 c2).symm (n, r, g)) = ix5 n r h g d := by
    funext a; apply Fin.ext
    match a with
    | ⟨0, _⟩ => exact h0
    | ⟨1, _⟩ => exact h1
    | ⟨2, _⟩ => rfl
    | ⟨3, _⟩ => exact h2
    | ⟨4, _⟩ => rfl
  rw [el, er]

/-- The sinks' gradient sums over blocks and rows. -/
theorem red_dz (x : S64x4x4x128x1.Idx → EReal) (init : EReal) (h g : Fin 4) :
    Ideal.hostReduceAdd Gen.reducesTo_S64x4x4x128x1_S4x4_d0_3_4 x init (ix2 h g)
      = init + ∑ n : Fin 64, ∑ r : Fin 128, x (ix5 n h g r 0) := by
  unfold Ideal.hostReduceAdd
  congr 1
  rw [← Fintype.sum_prod_type' (f := fun n r => x (ix5 n h g r 0))]
  symm
  have hd : ∀ (n : Fin 64) (h g : Fin 4) (r : Fin 128) (u : Fin 1),
      Gen.reducesTo_S64x4x4x128x1_S4x4_d0_3_4.drop (ix5 n h g r u) = ix2 h g := by
    intro n h g r u
    funext a; apply Fin.ext
    match a with
    | ⟨0, _⟩ => rfl
    | ⟨1, _⟩ => rfl
  have hi : ∀ i : S64x4x4x128x1.Idx, i = ix5 (i 0) (i 1) (i 2) (i 3) (i 4) := by
    intro i
    funext a; apply Fin.ext
    match a with
    | ⟨0, _⟩ => rfl
    | ⟨1, _⟩ => rfl
    | ⟨2, _⟩ => rfl
    | ⟨3, _⟩ => rfl
    | ⟨4, _⟩ => rfl
  refine Finset.sum_bij' (fun p _ => ix5 p.1 h g p.2 0) (fun i _ => (i 0, i 3)) ?_ ?_ ?_ ?_ ?_
  · intro p _
    exact Finset.mem_filter.2 ⟨Finset.mem_univ _, hd _ _ _ _ _⟩
  · intro i _; exact Finset.mem_univ _
  · intro p _; rfl
  · intro i hi'
    have h1 := (Finset.mem_filter.1 hi').2
    have h1 : ix2 (i 1) (i 2) = ix2 h g := (hd (i 0) (i 1) (i 2) (i 3) (i 4)).symm.trans ((congrArg _ (hi i).symm).trans h1)
    have a0 : i 1 = h := congrFun h1 0
    have a1 : i 2 = g := congrFun h1 1
    have a2 : i 4 = (0 : Fin 1) := Subsingleton.elim (α := Fin 1) _ _
    refine Eq.trans ?_ (hi i).symm
    rw [a0, a1, a2]; rfl
  · intro p _; rfl

end Cert.ReferenceIdeal.Attn

end
-- ==== Proof.Attn.RefKv.lean ====
/- What the reference's blocks give the gradients of the keys and values is what the specification's give. -/
module

public import proofs.«01_k».proof.Proof.Attn.RefDq
public import proofs.«01_k».proof.Proof.Attn.Three

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

theorem v161_at (hA : (args x0 x3 x1 x2 x4).Real) (n : Fin 64) (j : Fin 384) (h : Fin 4) (d : Fin 64) :
    val_main_v161 (F := Ideal) x0 x1 x3 x4 (ix4 n j h d) = ∑ g, ∑ r, Spec.pL (args x0 x3 x1 x2 x4) (lat n) r h g j * (args x0 x3 x1 x2 x4).o (Spec.row (lat n) r) h g d := by
  have e : val_main_v161 (F := Ideal) x0 x1 x3 x4 (ix4 n j h d)
      = ∑ g : Fin 4, ∑ r : Fin 128, val_main_v151 (F := Ideal) x3 (ix5 n r h g d) * val_main_v140 (F := Ideal) x0 x1 x4 (ix5 n h g r j) := by
    pointwise [val_main_v161, val_main_v160, val_main_v158]
  rw [e]
  refine Finset.sum_congr rfl fun g _ => Finset.sum_congr rfl fun r _ => ?_
  rw [v140_at x0 x3 x1 x2 x4 n h g r hA, v151_at x0 x3 x1 x2 x4, mul_comm]

theorem v197_at (hA : (args x0 x3 x1 x2 x4).Real) (n : Fin 64) (j : Fin 384) (h : Fin 4) (d : Fin 64) :
    val_main_v197 (F := Ideal) x0 x1 x2 x3 x4 (ix4 n j h d) = Spec.dkl (args x0 x3 x1 x2 x4) (lat n) h j d := by
  have e : val_main_v197 (F := Ideal) x0 x1 x2 x3 x4 (ix4 n j h d)
      = ∑ r : Fin 128, ∑ g : Fin 4, val_main_v191 (F := Ideal) x0 x1 x2 x3 x4 (ix5 n h g r j) * val_main_v48 (F := Ideal) x0 (ix5 n r h g d) := by
    pointwise [val_main_v197, val_main_v196, val_main_v192]
  rw [e, Finset.sum_comm]
  unfold Spec.dkl
  refine Finset.sum_congr rfl fun g _ => Finset.sum_congr rfl fun r _ => ?_
  rw [v191_at x0 x3 x1 x2 x4 n h g r hA, v48_at x0 x3 x1 x2 x4, mul_assoc, mul_comm Spec.sc]

theorem v228_at (hA : (args x0 x3 x1 x2 x4).Real) (c : Fin 256) (h : Fin 4) (d : Fin 64) :
    val_main_v228 (F := Ideal) x0 x1 x3 x4 (ix3 c h d) = Spec.dvc (args x0 x3 x1 x2 x4) h c d := by
  have e1 : val_main_v156 (F := Ideal) x0 x1 x3 x4 (ix3 c h d) = val_main_v155 (F := Ideal) x0 x1 x3 x4 (ix3 h d c) := by
    pointwise [val_main_v156]
  have e2 : val_main_v155 (F := Ideal) x0 x1 x3 x4 (ix3 h d c)
      = ∑ n : Fin 64, ∑ g : Fin 4, ∑ r : Fin 128, val_main_v152 (F := Ideal) x3 (ix5 h d n g r) * val_main_v143 (F := Ideal) x0 x1 x4 (ix5 n h g r c) := by
    unfold val_main_v155; exact dot_dv _ _ h d c
  have e3 : ∀ n g r, val_main_v152 (F := Ideal) x3 (ix5 h d n g r) = val_main_v151 (F := Ideal) x3 (ix5 n r h g d) := fun n g r => by
    pointwise [val_main_v152]
  have e4 : val_main_v227 (F := Ideal) x0 x1 x3 x4 (ix3 c h d)
      = ∑ g : Fin 4, ∑ q : Fin 256, val_main_v223 (F := Ideal) x3 (ix4 q h g d) * val_main_v44 (F := Ideal) x0 x1 x4 (ix4 h g q c) := by
    pointwise [val_main_v227, val_main_v226, val_main_v224]
  have e5 : val_main_v228 (F := Ideal) x0 x1 x3 x4 (ix3 c h d)
      = val_main_v156 (F := Ideal) x0 x1 x3 x4 (ix3 c h d) + val_main_v227 (F := Ideal) x0 x1 x3 x4 (ix3 c h d) := by
    pointwise [val_main_v228]
  rw [e5, e1, e2, e4]
  unfold Spec.dvc
  rw [Split.sum66, add_comm]
  refine congrArg₂ (· + ·) ?_ ?_
  · rw [Finset.sum_comm, Split.sum256]
    refine Finset.sum_congr rfl fun i _ => ?_
    rw [Finset.sum_comm]
    refine Finset.sum_congr rfl fun g _ => Finset.sum_congr rfl fun r _ => ?_
    rw [v223_at x0 x3 x1 x2 x4, v44_at x0 x3 x1 x2 x4 _ h g hA, mul_comm, ← row_blk]
    have hb : blk ⟨i.val * 128 + r.val, by omega⟩ = ⟨i.val, by omega⟩ := Fin.ext (by show (i.val * 128 + r.val) / 128 = i.val; omega)
    have hs : sub ⟨i.val * 128 + r.val, by omega⟩ = r := Fin.ext (by show (i.val * 128 + r.val) % 128 = r.val; omega)
    rw [hb, hs]
  · refine Finset.sum_congr rfl fun n _ => Finset.sum_congr rfl fun g _ => Finset.sum_congr rfl fun r _ => ?_
    rw [e3, v151_at x0 x3 x1 x2 x4, v143_at x0 x3 x1 x2 x4 n h g r hA, mul_comm]
    rfl

theorem v255_at (hA : (args x0 x3 x1 x2 x4).Real) (c : Fin 256) (h : Fin 4) (d : Fin 64) :
    val_main_v255 (F := Ideal) x0 x1 x2 x3 x4 (ix3 c h d) = Spec.dkc (args x0 x3 x1 x2 x4) h c d := by
  have e1 : val_main_v188 (F := Ideal) x0 x1 x2 x3 x4 (ix3 c h d) = val_main_v187 (F := Ideal) x0 x1 x2 x3 x4 (ix3 h c d) := by
    pointwise [val_main_v188]
  have e2 : val_main_v187 (F := Ideal) x0 x1 x2 x3 x4 (ix3 h c d)
      = ∑ n : Fin 64, ∑ r : Fin 128, ∑ g : Fin 4, val_main_v184 (F := Ideal) x0 x1 x2 x3 x4 (ix5 h c n r g) * val_main_v48 (F := Ideal) x0 (ix5 n r h g d) := by
    unfold val_main_v187; exact dot_dk _ _ h c d
  have e3 : ∀ n g r, val_main_v184 (F := Ideal) x0 x1 x2 x3 x4 (ix5 h c n r g) = val_main_v183 (F := Ideal) x0 x1 x2 x3 x4 (ix5 n h g r c) := fun n g r => by
    pointwise [val_main_v184]
  have e4 : val_main_v254 (F := Ideal) x0 x1 x2 x3 x4 (ix3 c h d)
      = ∑ q : Fin 256, ∑ g : Fin 4, val_main_v249 (F := Ideal) x0 x1 x2 x3 x4 (ix4 h g q c) * val_main_v8 (F := Ideal) x0 (ix4 q h g d) := by
    pointwise [val_main_v254, val_main_v253, val_main_v250]
  have e5 : val_main_v255 (F := Ideal) x0 x1 x2 x3 x4 (ix3 c h d)
      = val_main_v188 (F := Ideal) x0 x1 x2 x3 x4 (ix3 c h d) + val_main_v254 (F := Ideal) x0 x1 x2 x3 x4 (ix3 c h d) := by
    pointwise [val_main_v255]
  rw [e5, e1, e2, e4]
  unfold Spec.dkc
  rw [Split.sum66, add_comm]
  refine congrArg₂ (· + ·) ?_ ?_
  · rw [Split.sum256]
    refine Finset.sum_congr rfl fun i _ => ?_
    rw [Finset.sum_comm]
    refine Finset.sum_congr rfl fun g _ => Finset.sum_congr rfl fun r _ => ?_
    rw [v8_at x0 x3 x1 x2 x4, v249_at x0 x3 x1 x2 x4 _ h g hA, mul_assoc, mul_comm Spec.sc, ← row_blk]
    have hb : blk ⟨i.val * 128 + r.val, by omega⟩ = ⟨i.val, by omega⟩ := Fin.ext (by show (i.val * 128 + r.val) / 128 = i.val; omega)
    have hs : sub ⟨i.val * 128 + r.val, by omega⟩ = r := Fin.ext (by show (i.val * 128 + r.val) % 128 = r.val; omega)
    rw [hb, hs]
  · refine Finset.sum_congr rfl fun n _ => ?_
    rw [Finset.sum_comm]
    refine Finset.sum_congr rfl fun g _ => Finset.sum_congr rfl fun r _ => ?_
    rw [e3, v48_at x0 x3 x1 x2 x4, v183_at x0 x3 x1 x2 x4 n h g r hA, mul_assoc, mul_comm Spec.sc]
    rfl

end Cert.ReferenceIdeal.Attn

end
-- ==== Proof.Attn.RefGather.lean ====
/- The reference's gradients of the latent keys and values are the specification's. -/
module

public import proofs.«01_k».proof.Proof.Attn.RefKv

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

theorem v207_at (hA : (args x0 x3 x1 x2 x4).Real) (n : Fin 64) (r : Fin 128) (h : Fin 4) (d : Fin 64) :
    val_main_v207 (F := Ideal) x0 x1 x3 x4 (ix4 n r h d)
      = Spec.gather (lat n) r fun i j => Spec.dvl (args x0 x3 x1 x2 x4) i h j d := by
  have z1 : val_main_cst_41 (F := Ideal) (Shape.Idx.first Gen.h_S_) = 0 := Ideal.ofBits_zero_f32
  have z2 : val_main_cst_42 (F := Ideal) (Shape.Idx.first Gen.h_S_) = 0 := Ideal.ofBits_zero_f32
  have z3 : val_main_cst_43 (F := Ideal) (Shape.Idx.first Gen.h_S_) = 0 := Ideal.ofBits_zero_f32
  pointwise [val_main_v207, val_main_v205, val_main_v203, val_main_v201, val_main_v202, val_main_v204, val_main_v198, val_main_v199, val_main_v200]
  simp only [z1, z2, z3]
  have e : ∀ (m : Fin 64) (j : Fin 384) (i : Fin 66) (j' : Fin 384), m.val + 2 = i.val → j.val = j'.val →
      val_main_v161 (F := Ideal) x0 x1 x3 x4 (ix4 m j h d) = Spec.dvl (args x0 x3 x1 x2 x4) i h j' d := by
    intro m j i j' hi hj
    have hi' : lat m = i := Fin.ext hi
    have hj' : j = j' := Fin.ext hj
    subst hi' hj'
    exact v161_at x0 x3 x1 x2 x4 hA m j h d
  have e0 : ∀ a b c : EReal, a + b + c = b + c + a := fun a b c => by rw [add_comm a b, add_right_comm]
  refine (e0 _ _ _).trans ?_
  unfold Spec.gather
  refine congrArg₂ (· + ·) (congrArg₂ (· + ·) ?_ ?_) ?_
  · exact e _ _ _ _ (by simp [lat]) (by simp [Spec.slot])
  · by_cases hn : 1 + n.val < 64
    · rw [dif_pos hn, dif_pos (show (lat n).val + 1 ≤ 65 by show n.val + 2 + 1 ≤ 65; omega)]
      exact e _ _ _ _ (by show 1 + n.val + 2 = n.val + 2 + 1; omega) (by simp [Spec.slot])
    · rw [dif_neg hn, dif_neg (show ¬ (lat n).val + 1 ≤ 65 by show ¬ n.val + 2 + 1 ≤ 65; omega)]
  · by_cases hn : 1 ≤ n.val
    · rw [dif_pos ⟨by omega, by omega⟩, if_pos (show 3 ≤ (lat n).val by show 3 ≤ n.val + 2; omega)]
      exact e _ _ _ _ (by show 1 + n.val - 2 + 2 = n.val + 2 - 1; omega) (by simp [Spec.slot])
    · rw [dif_neg (by omega), if_neg (show ¬ 3 ≤ (lat n).val by show ¬ 3 ≤ n.val + 2; omega)]

theorem v219_at (hA : (args x0 x3 x1 x2 x4).Real) (n : Fin 64) (r : Fin 128) (h : Fin 4) (d : Fin 64) :
    val_main_v219 (F := Ideal) x0 x1 x2 x3 x4 (ix4 n r h d)
      = Spec.gather (lat n) r fun i j => Spec.dkl (args x0 x3 x1 x2 x4) i h j d := by
  have z1 : val_main_cst_44 (F := Ideal) (Shape.Idx.first Gen.h_S_) = 0 := Ideal.ofBits_zero_f32
  have z2 : val_main_cst_45 (F := Ideal) (Shape.Idx.first Gen.h_S_) = 0 := Ideal.ofBits_zero_f32
  have z3 : val_main_cst_46 (F := Ideal) (Shape.Idx.first Gen.h_S_) = 0 := Ideal.ofBits_zero_f32
  pointwise [val_main_v219, val_main_v217, val_main_v215, val_main_v213, val_main_v214, val_main_v216, val_main_v210, val_main_v211, val_main_v212]
  simp only [z1, z2, z3]
  have e : ∀ (m : Fin 64) (j : Fin 384) (i : Fin 66) (j' : Fin 384), m.val + 2 = i.val → j.val = j'.val →
      val_main_v197 (F := Ideal) x0 x1 x2 x3 x4 (ix4 m j h d) = Spec.dkl (args x0 x3 x1 x2 x4) i h j' d := by
    intro m j i j' hi hj
    have hi' : lat m = i := Fin.ext hi
    have hj' : j = j' := Fin.ext hj
    subst hi' hj'
    exact v197_at x0 x3 x1 x2 x4 hA m j h d
  have e0 : ∀ a b c : EReal, a + b + c = b + c + a := fun a b c => by rw [add_comm a b, add_right_comm]
  refine (e0 _ _ _).trans ?_
  unfold Spec.gather
  refine congrArg₂ (· + ·) (congrArg₂ (· + ·) ?_ ?_) ?_
  · exact e _ _ _ _ (by simp [lat]) (by simp [Spec.slot])
  · by_cases hn : 1 + n.val < 64
    · rw [dif_pos hn, dif_pos (show (lat n).val + 1 ≤ 65 by show n.val + 2 + 1 ≤ 65; omega)]
      exact e _ _ _ _ (by show 1 + n.val + 2 = n.val + 2 + 1; omega) (by simp [Spec.slot])
    · rw [dif_neg hn, dif_neg (show ¬ (lat n).val + 1 ≤ 65 by show ¬ n.val + 2 + 1 ≤ 65; omega)]
  · by_cases hn : 1 ≤ n.val
    · rw [dif_pos ⟨by omega, by omega⟩, if_pos (show 3 ≤ (lat n).val by show 3 ≤ n.val + 2; omega)]
      exact e _ _ _ _ (by show 1 + n.val - 2 + 2 = n.val + 2 - 1; omega) (by simp [Spec.slot])
    · rw [dif_neg (by omega), if_neg (show ¬ 3 ≤ (lat n).val by show ¬ 3 ≤ n.val + 2; omega)]

end Cert.ReferenceIdeal.Attn

end
-- ==== Proof.Attn.RefDkv.lean ====
/- The reference's gradients of the keys and values are the specification's. -/
module

public import proofs.«01_k».proof.Proof.Attn.RefGather

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

/-- Of two terms the one that is present. -/
theorem dite_first {p q : Prop} [Decidable p] [Decidable q] (a : p → EReal) (b : q → EReal) (hp : p) (hq : ¬ q) :
    (dite p a fun _ => 0) + (dite q b fun _ => 0) = a hp := by rw [dif_pos hp, dif_neg hq, add_zero]

theorem dv_at (hA : (args x0 x3 x1 x2 x4).Real) (t : Fin 8448) (l : Fin 256) :
    val_main_v266 (F := Ideal) x0 x1 x3 x4 (ix2 t l) = Spec.dv (args x0 x3 x1 x2 x4) (bk t) (bm t) ⟨l.val / 64, by omega⟩ ⟨l.val % 64, by omega⟩ := by
  pointwise [val_main_v266, val_main_v261, val_main_v257, val_main_v260, val_main_v209]
  rw [show val_main_cst_52 (F := Ideal) (Shape.Idx.first Gen.h_S_) = 0 from Ideal.ofBits_zero_f32,
    show val_main_cst_55 (F := Ideal) (Shape.Idx.first Gen.h_S_) = 0 from Ideal.ofBits_zero_f32]
  unfold Spec.dv
  by_cases ht : t.val < 256
  · rw [dif_neg (fun hh => absurd hh.1 (by omega)), dif_pos ⟨ht, by omega, by omega⟩, zero_add, v228_at x0 x3 x1 x2 x4 hA,
      dif_pos (show (bk t).val < 2 by show t.val / 128 < 2; omega)]
    congr 1
    apply Fin.ext; show t.val = t.val / 128 * 128 + t.val % 128; omega
  · refine (dite_first _ _ ⟨⟨by omega, by omega⟩, by omega, by omega⟩ (fun hh => ht hh.1)).trans ?_
    have hb : ¬ (bk t).val < 2 := by
      have h0 : (bk t).val = t.val / 128 := rfl
      omega
    refine (v207_at x0 x3 x1 x2 x4 hA _ _ _ _).trans (Eq.trans ?_ (dif_neg hb).symm)
    refine congrArg₂ (fun i r => Spec.gather i r fun i' j => Spec.dvl (args x0 x3 x1 x2 x4) i' _ j _) (Fin.ext ?_) (Fin.ext ?_)
    · show (t.val - 256) / 128 + 2 = t.val / 128; omega
    · show (t.val - 256) % 128 = t.val % 128; omega

theorem dk_at (hA : (args x0 x3 x1 x2 x4).Real) (t : Fin 8448) (l : Fin 256) :
    val_main_v267 (F := Ideal) x0 x1 x2 x3 x4 (ix2 t l) = Spec.dk (args x0 x3 x1 x2 x4) (bk t) (bm t) ⟨l.val / 64, by omega⟩ ⟨l.val % 64, by omega⟩ := by
  pointwise [val_main_v267, val_main_v263, val_main_v258, val_main_v262, val_main_v221]
  rw [show val_main_cst_53 (F := Ideal) (Shape.Idx.first Gen.h_S_) = 0 from Ideal.ofBits_zero_f32,
    show val_main_cst_56 (F := Ideal) (Shape.Idx.first Gen.h_S_) = 0 from Ideal.ofBits_zero_f32]
  unfold Spec.dk
  by_cases ht : t.val < 256
  · rw [dif_neg (fun hh => absurd hh.1 (by omega)), dif_pos ⟨ht, by omega, by omega⟩, zero_add, v255_at x0 x3 x1 x2 x4 hA,
      dif_pos (show (bk t).val < 2 by show t.val / 128 < 2; omega)]
    congr 1
    apply Fin.ext; show t.val = t.val / 128 * 128 + t.val % 128; omega
  · refine (dite_first _ _ ⟨⟨by omega, by omega⟩, by omega, by omega⟩ (fun hh => ht hh.1)).trans ?_
    have hb : ¬ (bk t).val < 2 := by
      have h0 : (bk t).val = t.val / 128 := rfl
      omega
    refine (v219_at x0 x3 x1 x2 x4 hA _ _ _ _).trans (Eq.trans ?_ (dif_neg hb).symm)
    refine congrArg₂ (fun i r => Spec.gather i r fun i' j => Spec.dkl (args x0 x3 x1 x2 x4) i' _ j _) (Fin.ext ?_) (Fin.ext ?_)
    · show (t.val - 256) / 128 + 2 = t.val / 128; omega
    · show (t.val - 256) % 128 = t.val % 128; omega

end Cert.ReferenceIdeal.Attn

end
-- ==== Proof.Attn.RefDz.lean ====
/- The reference's gradients of the sinks are the specification's. -/
module

public import proofs.«01_k».proof.Proof.Attn.RefGather

@[expose] public section

set_option maxRecDepth 16384

noncomputable section

namespace Cert.ReferenceIdeal.Attn

open Idealize.ShloMosaic Cert.ReferenceIdeal Cert.ReferenceIdeal.Read

variable (x0 x3 : FVec Ideal S8448x1024 .f32) (x1 x2 : FVec Ideal S8448x256 .f32) (x4 : FVec Ideal S16 .f32)

theorem dz_at (hA : (args x0 x3 x1 x2 x4).Real) (l : Fin 16) :
    val_main_v247 (F := Ideal) x0 x1 x2 x3 x4 (ix1 l) = Spec.dz (args x0 x3 x1 x2 x4) ⟨l.val / 4, by omega⟩ ⟨l.val % 4, by omega⟩ := by
  have e1 : val_main_v247 (F := Ideal) x0 x1 x2 x3 x4 (ix1 l)
      = val_main_v179 (F := Ideal) x0 x1 x2 x3 x4 (ix2 ⟨l.val / 4, by omega⟩ ⟨l.val % 4, by omega⟩)
        + val_main_v244 (F := Ideal) x0 x1 x2 x3 x4 (ix2 ⟨l.val / 4, by omega⟩ ⟨l.val % 4, by omega⟩) := by
    pointwise [val_main_v247, val_main_v181, val_main_v180, val_main_v246, val_main_v245]
  rw [e1]
  generalize (⟨l.val / 4, by omega⟩ : Fin 4) = h
  generalize (⟨l.val % 4, by omega⟩ : Fin 4) = g
  have e2 : val_main_v179 (F := Ideal) x0 x1 x2 x3 x4 (ix2 h g)
      = 0 + ∑ n : Fin 64, ∑ r : Fin 128, val_main_v178 (F := Ideal) x0 x1 x2 x3 x4 (ix5 n h g r 0) := by
    rw [← show val_main_cst_38 (F := Ideal) (Shape.Idx.first Gen.h_S_) = 0 from Ideal.ofBits_zero_f32]
    unfold val_main_v179
    exact red_dz _ _ h g
  have e3 : val_main_v244 (F := Ideal) x0 x1 x2 x3 x4 (ix2 h g)
      = val_main_cst_50 (F := Ideal) (Shape.Idx.first Gen.h_S_)
        + ∑ q : Fin 256, val_main_v243 (F := Ideal) x0 x1 x2 x3 x4 (ix4 h g q 0) := by
    pointwise [val_main_v244]
    simp only [Fin.sum_univ_one]
  have e4 : val_main_cst_50 (F := Ideal) (Shape.Idx.first Gen.h_S_) = 0 := Ideal.ofBits_zero_f32
  rw [e2, e3, e4, zero_add, zero_add]
  unfold Spec.dz
  rw [Split.sum66, add_comm, Split.sum256]
  refine congrArg₂ (· + ·) ?_ ?_
  · refine Finset.sum_congr rfl fun i _ => Finset.sum_congr rfl fun r _ => ?_
    rw [v243_at x0 x3 x1 x2 x4 _ h g hA]
    have hb : blk ⟨i.val * 128 + r.val, by omega⟩ = ⟨i.val, by omega⟩ := Fin.ext (by show (i.val * 128 + r.val) / 128 = i.val; omega)
    have hs : sub ⟨i.val * 128 + r.val, by omega⟩ = r := Fin.ext (by show (i.val * 128 + r.val) % 128 = r.val; omega)
    rw [hb, hs]
  · refine Finset.sum_congr rfl fun n _ => Finset.sum_congr rfl fun r _ => ?_
    rw [v178_at x0 x3 x1 x2 x4 n h g r hA]
    rfl

end Cert.ReferenceIdeal.Attn

end
-- ==== Proof.Attn.Grads.lean ====
/- The kernel's gradients are the reference's. -/
module

public import proofs.«01_k».proof.Proof.Attn.Final
public import proofs.«01_k».proof.Proof.Attn.RefDq
public import proofs.«01_k».proof.Proof.Attn.RefDkv
public import proofs.«01_k».proof.Proof.Attn.RefDz

@[expose] public section

set_option maxRecDepth 16384

noncomputable section

namespace Cert.KernelIdeal.Attn

open Idealize.ShloMosaic Idealize.ShloMosaic.TcCoe Cert.KernelIdeal.Gen

theorem ix2_eta {a b : ℕ} (u : (⟨2, ![a, b]⟩ : Shape).Idx) : u = ix2 (u 0) (u 1) := by funext k; fin_cases k <;> rfl
theorem ix1_eta {a : ℕ} (u : (⟨1, ![a]⟩ : Shape).Idx) : u = ix1 (u 0) := by funext k; fin_cases k; rfl

variable (m : (ℓ : Loc nD τ sig) → Buf (Elt Ideal) ℓ) (ρ : Dev nD → PrngReg) (c : Dev nD)

theorem kargs_eq : kargs c m = Cert.ReferenceIdeal.Attn.args (aQ m c) (aO m c) (aK m c) (aV m c) (aZ m c) := rfl

theorem dq_eq (hA : (kargs c m).Real) :
    (Cert.ReferenceIdeal.Read.val_main_v265 (F := Ideal) (aQ m c) (aK m c) (aV m c) (aO m c) (aZ m c) : S8448x1024.Idx → EReal)
      = (W5 m ρ c (Proc.devRef .tc main_v20_0) : S8448x1024.Idx → EReal) := by
  refine funext fun u => ?_
  rw [ix2_eta u]
  exact (Cert.ReferenceIdeal.Attn.dq_at (aQ m c) (aO m c) (aK m c) (aV m c) (aZ m c) hA (u 0) (u 1)).trans (W5_dq m ρ c hA (u 0) (u 1)).symm
theorem dk_eq (hA : (kargs c m).Real) :
    (Cert.ReferenceIdeal.Read.val_main_v267 (F := Ideal) (aQ m c) (aK m c) (aV m c) (aO m c) (aZ m c) : S8448x256.Idx → EReal)
      = (W5 m ρ c (Proc.devRef .tc main_v21_0) : S8448x256.Idx → EReal) := by
  refine funext fun u => ?_
  rw [ix2_eta u]
  exact (Cert.ReferenceIdeal.Attn.dk_at (aQ m c) (aO m c) (aK m c) (aV m c) (aZ m c) hA (u 0) (u 1)).trans (W5_dk m ρ c hA (u 0) (u 1)).symm
theorem dv_eq (hA : (kargs c m).Real) :
    (Cert.ReferenceIdeal.Read.val_main_v266 (F := Ideal) (aQ m c) (aK m c) (aO m c) (aZ m c) : S8448x256.Idx → EReal)
      = (W5 m ρ c (Proc.devRef .tc main_v21_1) : S8448x256.Idx → EReal) := by
  refine funext fun u => ?_
  rw [ix2_eta u]
  exact (Cert.ReferenceIdeal.Attn.dv_at (aQ m c) (aO m c) (aK m c) (aV m c) (aZ m c) hA (u 0) (u 1)).trans (W5_dv m ρ c hA (u 0) (u 1)).symm
theorem dz_eq (hA : (kargs c m).Real) :
    (Cert.ReferenceIdeal.Read.val_main_v247 (F := Ideal) (aQ m c) (aK m c) (aV m c) (aO m c) (aZ m c) : S16.Idx → EReal)
      = (W5 m ρ c (Proc.devRef .tc main_v23) : S16.Idx → EReal) := by
  refine funext fun u => ?_
  rw [ix1_eta u]
  exact (Cert.ReferenceIdeal.Attn.dz_at (aQ m c) (aO m c) (aK m c) (aV m c) (aZ m c) hA (u 0)).trans (W5_dz m ρ c hA (u 0)).symm

end Cert.KernelIdeal.Attn
-- ==== Proof.Attn.RefRun.lean ====
/- The reference's run, with each gradient as its own function of the arguments. -/
module

public import proofs.«01_k».proof.Proof.Gen.ReferenceIdeal.Run
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem Cert.ReferenceIdeal Cert.ReferenceIdeal.Read

variable (m : (ℓ : Loc nD τ sig) → Buf (Elt Ideal) ℓ)

/-- What the reference's run leaves: the four gradients and the unchanged arguments. -/
theorem refRun (ρ : Dev nD → PrngReg) :
    θ_run defs (onTc (τ := τ) (main (F := Ideal))) ⟨m, fun _ => 0, ρ⟩ fun r => ∀ c : Dev nD,
      (r.2.mem ((c.tc : Thread nD τ).loc main_v265) = val_main_v265 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_v267) = val_main_v267 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ (r.2.mem ((c.tc : Thread nD τ).loc main_v266) = val_main_v266 (F := Ideal) (m ((c.tc : Thread nD τ).loc main_arg0)) (m ((c.tc : Thread nD τ).loc main_arg1)) (m ((c.tc : Thread nD τ).loc main_arg3)) (m ((c.tc : Thread nD τ).loc main_arg4)))
      ∧ (r.2.mem ((c.tc : Thread nD τ).loc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v265_eq _), (h c).2.1.trans (val_main_v267_eq _),
    (h c).2.2.1.trans (val_main_v266_eq _), (h c).2.2.2.1.trans (val_main_v247_eq _), (h c).2.2.2.2⟩) (Value.run m ρ)

end Cert.ReferenceIdeal.Attn
-- ==== Proof.Mlp.Da.lean ====
/- The MLP's hidden gradient: what the kernel's result holds at the end, and that the reference's result is the same. -/
module

public import proofs.«01_k».proof.Proof.Gen.KernelDaIdeal.Value
public import proofs.«01_k».proof.Proof.Gen.ReferenceDaIdeal.Read
public import Idealize.ShloMosaic.Lib.Pipeline.ValueKit
public import Idealize.ShloMosaic.Lib.Pointwise

@[expose] public section

set_option maxRecDepth 16384

noncomputable section

namespace Cert.KernelDaIdeal.Mlp

open Idealize.ShloMosaic Idealize.ShloMosaic.TcCoe Idealize.ShloMosaic.Tactic Cert.KernelDaIdeal.Gen

/-- The gradient of hidden entry `u`: the cotangent's row against the weights' row, times the derivative of the squared
    positive part. -/
def G (x0 : S8448x2048.Idx → EReal) (x1 : S1x8192x2048.Idx → EReal) (x2 : S8448x8192.Idx → EReal) (r : Fin 8448) (j : Fin 8192) : EReal :=
  (∑ k : Fin 2048, x0 (ix2 r k) * x1 (ix3 (0 : Fin 1) j k)) * (Ideal.ofBits .f32 0x40000000#32 * max (x2 (ix2 r j)) 0)

theorem pay_apply (x0 : FVec Ideal S1408x2048 .bf16) (x1 : FVec Ideal S1x1024x2048 .bf16) (x2 : FVec Ideal S1408x1024 .bf16)
    (y : S1408x1024.Idx) : k0_pay1 (F := Ideal) x0 x1 x2 y
      = (∑ k : Fin 2048, x0 (ix2 (y 0) k) * x1 (ix3 (0 : Fin 1) (y 1) k)) * (Ideal.ofBits .f32 0x40000000#32 * max (x2 y) 0) := by
  pointwise [k0_pay1]

theorem idx0 : ∀ t : Fin cfg0.N, win0_0.index t = ![t.val / 8, 0] ∧ win0_1.index t = ![0, t.val % 8, 0]
    ∧ win0_2.index t = ![t.val / 8, t.val % 8] ∧ win0_3.index t = ![t.val / 8, t.val % 8] :=
  (by decide +kernel : ∀ t : Fin grid0.N, _)

variable (m : (ℓ : Loc nD τ sig) → Buf (Elt Ideal) ℓ) (c : Dev nD)

/-- The kernel's result. -/
theorem final : ((dats m 0 c).arrAt 3 cfg0.N : S8448x8192.Idx → EReal) = fun u : S8448x8192.Idx =>
    G (m ((c : Thread nD τ).loc main_arg0)) (m ((c : Thread nD τ).loc main_arg1)) (m ((c : Thread nD τ).loc main_arg2)) (u 0) (u 1) := by
  refine (dats m 0 c).arrAt_eq_of_covers 3 _ (by decide +kernel) fun t hf y => ?_
  have ht : t.val < 48 := lt_of_lt_of_eq t.isLt N_0
  blk_simp
  rw [after0_3]
  frame_out
  refine (pay_apply _ _ _ _).trans ?_
  unfold G
  congr 1
  · refine Finset.sum_congr rfl fun k _ => ?_
    congr 1 <;> blk_ext [iblk, V, idx0 t]
  · congr 2
    blk_ext [iblk, V, idx0 t]

end Cert.KernelDaIdeal.Mlp

namespace Cert.ReferenceDaIdeal.Mlp

open Idealize.ShloMosaic Idealize.ShloMosaic.TcCoe Idealize.ShloMosaic.Tactic Cert.ReferenceDaIdeal.Gen Cert.ReferenceDaIdeal.Read

/-- The reference's result. -/
theorem val_eq (x0 : FVec Ideal S8448x2048 .bf16) (x1 : FVec Ideal S1x8192x2048 .bf16) (x2 : FVec Ideal S8448x8192 .bf16) :
    val_main_v16 (F := Ideal) x0 x1 x2 = fun u : S8448x8192.Idx => Cert.KernelDaIdeal.Mlp.G x0 x1 x2 (u 0) (u 1) := by
  funext u
  pointwise [val_main_v16, val_main_v15, val_main_v14, val_main_cst_2, val_main_v13, val_main_v12, val_main_v10, val_main_v9, val_main_v8, val_main_cst_1,
    val_main_v5, val_main_v4, val_main_cst, val_main_v3, val_main_call0_v0, val_main_call0_cst, val_main_v2, val_main_v1, val_main_v0, Cert.KernelDaIdeal.Mlp.G]
  by_cases h : 0 < x2 u
  · rw [if_pos h]
  · rw [if_neg h, max_eq_right (not_lt.mp h), mul_zero, mul_zero]

end Cert.ReferenceDaIdeal.Mlp

end
-- ==== Proof.Mlp.Dw2.lean ====
/- The MLP's second weights' gradient: what the kernel's result holds at the end, and that the reference's result is the
   same. -/
module

public import proofs.«01_k».proof.Proof.Gen.KernelDw2Ideal.Value
public import proofs.«01_k».proof.Proof.Gen.ReferenceDw2Ideal.Read
public import Idealize.ShloMosaic.Lib.Pipeline.ValueKit
public import Idealize.ShloMosaic.Lib.Pointwise

@[expose] public section

set_option maxRecDepth 16384

noncomputable section

namespace Cert.KernelDw2Ideal.Mlp

open Idealize.ShloMosaic Idealize.ShloMosaic.TcCoe Idealize.ShloMosaic.Tactic Cert.KernelDw2Ideal.Gen

/-- The gradient of weight `(i, j)`: the hidden column against the cotangent's column. -/
def G (x0 : S8448x8192.Idx → EReal) (x1 : S8448x2048.Idx → EReal) (i : Fin 8192) (j : Fin 2048) : EReal :=
  ∑ k : Fin 8448, x0 (ix2 k i) * x1 (ix2 k j)

/-- One block's part of it. -/
def part (x0 x1 : S2816x1024.Idx → EReal) (y : S1024x1024.Idx) : EReal := ∑ k : Fin 2816, x0 (ix2 k (y 0)) * x1 (ix2 k (y 1))

theorem pay1_apply (y : S1024x1024.Idx) : k0_pay1 (F := Ideal) y = 0 := by
  pointwise [k0_pay1]
theorem pay2_apply (a : FVec Ideal S1024x1024 .f32) (x0 x1 : FVec Ideal S2816x1024 .bf16) (y : S1024x1024.Idx) :
    k0_pay2 (F := Ideal) a x0 x1 y = a y + part x0 x1 y := by
  pointwise [k0_pay2, part]
theorem pay3_apply (a : FVec Ideal S1024x1024 .f32) (y : S1x1024x1024.Idx) :
    k0_pay3 (F := Ideal) a y = a (ix2 (y 1) (y 2)) := by
  pointwise [k0_pay3]

theorem idx0 : ∀ t : Fin cfg0.N, win0_0.index t = ![t.val % 3, t.val / 6] ∧ win0_1.index t = ![t.val % 3, t.val / 3 % 2]
    ∧ win0_2.index t = ![0, t.val / 6, t.val / 3 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 3 = 3 - 1) (y : S1024x1024.Idx) :
    ((outsAt0 m c t.val t.isLt).2 : S1024x1024.Idx → EReal) y
      = 0 + ∑ s : Fin 3, part (iblk m c 0 ⟨3 * (t.val / 3) + s.val, Pipeline.run_point_lt_of_flush t hr s⟩)
          (iblk m c 1 ⟨3 * (t.val / 3) + s.val, Pipeline.run_point_lt_of_flush t hr s⟩) y := by
  refine Pipeline.eq_sum_fin_of_reset_step_apply_of_flush (fun n h => ((outsAt0 m c n h).2 : S1024x1024.Idx → EReal)) 3 (fun _ => 0)
    (fun t y => part (iblk m c 0 t) (iblk m c 1 t) y) (fun t h y => ?_) (fun t h y => ?_) t hr y
  · have h1 : ¬t.val % 3 = 2 := by omega
    rw [outsAt0_A m c t h h1]
    frame_out
    rw [pay2_apply, pay1_apply]
  · by_cases h1 : t.val % 3 = 2
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 3 = 3 - 1) (y : S1x1024x1024.Idx) :
    ((outsAt0 m c t.val t.isLt).1 : S1x1024x1024.Idx → EReal) y = ((outsAt0 m c t.val t.isLt).2 : S1024x1024.Idx → EReal) (ix2 (y 1) (y 2)) := by
  have h : ¬t.val % 3 = 0 := by omega
  rw [outsAt0_C m c t h hr]
  frame_out
  rw [pay3_apply]

/-- The kernel's result. -/
theorem final : ((dats m 0 c).arrAt 2 cfg0.N : S1x8192x2048.Idx → EReal) = fun u : S1x8192x2048.Idx =>
    G (m ((c : Thread nD τ).loc main_arg0)) (m ((c : Thread nD τ).loc main_arg1)) (u 1) (u 2) := by
  refine (dats m 0 c).arrAt_eq_of_covers 2 _ (by decide +kernel) fun t hf y => ?_
  have ht : t.val < 48 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨3 * (t.val / 3) + s.val, Pipeline.run_point_lt_of_flush t hr s⟩, idx0 t]

end Cert.KernelDw2Ideal.Mlp

namespace Cert.ReferenceDw2Ideal.Mlp

open Idealize.ShloMosaic Idealize.ShloMosaic.TcCoe Idealize.ShloMosaic.Tactic Cert.ReferenceDw2Ideal.Gen Cert.ReferenceDw2Ideal.Read

/-- The reference's result. -/
theorem val_eq (x0 : FVec Ideal S8448x8192 .bf16) (x1 : FVec Ideal S8448x2048 .bf16) :
    val_main_v8 (F := Ideal) x0 x1 = fun u : S1x8192x2048.Idx => Cert.KernelDw2Ideal.Mlp.G x0 x1 (u 1) (u 2) := by
  funext u
  pointwise [val_main_v8, val_main_v7, val_main_v6, val_main_v5, val_main_v1, val_main_v0, Cert.KernelDw2Ideal.Mlp.G]
  refine Finset.sum_congr rfl fun k _ => mul_comm _ _

end Cert.ReferenceDw2Ideal.Mlp

end
-- ==== Proof.Mlp.Dh.lean ====
/- The MLP's input gradient: what the kernel's result holds at the end, and that the reference's result is the
   same. -/
module

public import proofs.«01_k».proof.Proof.Gen.KernelDhIdeal.Value
public import proofs.«01_k».proof.Proof.Gen.ReferenceDhIdeal.Read
public import Idealize.ShloMosaic.Lib.Pipeline.ValueKit
public import Idealize.ShloMosaic.Lib.Pointwise

@[expose] public section

set_option maxRecDepth 16384

noncomputable section

namespace Cert.KernelDhIdeal.Mlp

open Idealize.ShloMosaic Idealize.ShloMosaic.TcCoe Idealize.ShloMosaic.Tactic Cert.KernelDhIdeal.Gen

/-- The gradient of input entry `(r, j)`: the hidden cotangent's row against the weights' row, which runs over the four
    shards. -/
def G (x0 : S8448x8192.Idx → EReal) (x1 : S4x2048x2048.Idx → EReal) (r : Fin 8448) (j : Fin 2048) : EReal :=
  ∑ k : Fin 8192, x0 (ix2 r k) * x1 (ix3 (⟨k.val / 2048, by omega⟩ : Fin 4) j (⟨k.val % 2048, by omega⟩ : Fin 2048))

/-- One block's part of it. -/
def part (x0 : S1408x2048.Idx → EReal) (x1 : S1x1024x2048.Idx → EReal) (y : S1408x1024.Idx) : EReal :=
  ∑ k : Fin 2048, x0 (ix2 (y 0) k) * x1 (ix3 (0 : Fin 1) (y 1) k)

theorem pay1_apply (y : S1408x1024.Idx) : k0_pay1 (F := Ideal) y = 0 := by
  pointwise [k0_pay1]
theorem pay2_apply (a : FVec Ideal S1408x1024 .f32) (x0 : FVec Ideal S1408x2048 .bf16) (x1 : FVec Ideal S1x1024x2048 .bf16)
    (y : S1408x1024.Idx) : k0_pay2 (F := Ideal) a x0 x1 y = a y + part x0 x1 y := by
  pointwise [k0_pay2, part]
theorem pay3_apply (a : FVec Ideal S1408x1024 .f32) (y : S1408x1024.Idx) : k0_pay3 (F := Ideal) a y = a y := by
  pointwise [k0_pay3]

theorem idx0 : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 4 = 4 - 1) (y : S1408x1024.Idx) :
    ((outsAt0 m c t.val t.isLt).2 : S1408x1024.Idx → EReal) y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => ((outsAt0 m c n h).2 : S1408x1024.Idx → EReal)) 4 (fun _ => 0)
    (fun t y => part (iblk m c 0 t) (iblk m c 1 t) y) (fun t h y => ?_) (fun t h y => ?_) t hr y
  · have h1 : ¬t.val % 4 = 3 := by omega
    rw [outsAt0_A m c t h h1]
    frame_out
    rw [pay2_apply, pay1_apply]
  · by_cases h1 : t.val % 4 = 3
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 4 = 4 - 1) (y : S1408x1024.Idx) :
    ((outsAt0 m c t.val t.isLt).1 : S1408x1024.Idx → EReal) y = ((outsAt0 m c t.val t.isLt).2 : S1408x1024.Idx → EReal) y := by
  have h : ¬t.val % 4 = 0 := by omega
  rw [outsAt0_C m c t h hr]
  frame_out
  rw [pay3_apply]

/-- The kernel's result. -/
theorem final : ((dats m 0 c).arrAt 2 cfg0.N : S8448x2048.Idx → EReal) = fun u : S8448x2048.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 48 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨4 * (t.val / 4) + s.val, Pipeline.run_point_lt_of_flush t hr s⟩, idx0 t]

end Cert.KernelDhIdeal.Mlp

namespace Cert.ReferenceDhIdeal.Mlp

open Idealize.ShloMosaic Idealize.ShloMosaic.TcCoe Idealize.ShloMosaic.Tactic Cert.ReferenceDhIdeal.Gen Cert.ReferenceDhIdeal.Read

/-- The reference's result. -/
theorem val_eq (x0 : FVec Ideal S8448x8192 .bf16) (x1 : FVec Ideal S4x2048x2048 .bf16) :
    val_main_v14 (F := Ideal) x0 x1 = fun u : S8448x2048.Idx => Cert.KernelDhIdeal.Mlp.G x0 x1 (u 0) (u 1) := by
  funext u
  pointwise [val_main_v14, val_main_v13, val_main_v11, val_main_v10, val_main_v9, val_main_v8, val_main_v7, val_main_v6, val_main_v5, val_main_v4,
    val_main_v3, val_main_v1, val_main_v0, Cert.KernelDhIdeal.Mlp.G]
  refine Finset.sum_congr rfl fun k _ => congrArg _ ?_
  have hk := k.isLt
  split_ifs <;> blk_ext

end Cert.ReferenceDhIdeal.Mlp

end
-- ==== Proof.Mlp.Dw1.lean ====
/- The MLP's first weights' gradient: what the kernel's result holds at the end, and that the reference's result is the
   same. -/
module

public import proofs.«01_k».proof.Proof.Gen.KernelDw1Ideal.Value
public import proofs.«01_k».proof.Proof.Gen.ReferenceDw1Ideal.Read
public import Idealize.ShloMosaic.Lib.Pipeline.ValueKit
public import Idealize.ShloMosaic.Lib.Pointwise

@[expose] public section

set_option maxRecDepth 16384

noncomputable section

namespace Cert.KernelDw1Ideal.Mlp

open Idealize.ShloMosaic Idealize.ShloMosaic.TcCoe Idealize.ShloMosaic.Tactic Cert.KernelDw1Ideal.Gen

/-- The gradient of weight `(i, j)` of shard `p`: the input's column against the hidden cotangent's column. -/
def G (x0 : S8448x2048.Idx → EReal) (x1 : S8448x8192.Idx → EReal) (p : Fin 4) (i j : Fin 2048) : EReal :=
  ∑ k : Fin 8448, x0 (ix2 k i) * x1 (ix2 k (⟨p.val * 2048 + j.val, by omega⟩ : Fin 8192))

/-- One block's part of it. -/
def part (x0 x1 : S2816x1024.Idx → EReal) (y : S1024x1024.Idx) : EReal := ∑ k : Fin 2816, x0 (ix2 k (y 0)) * x1 (ix2 k (y 1))

theorem pay1_apply (y : S1024x1024.Idx) : k0_pay1 (F := Ideal) y = 0 := by
  pointwise [k0_pay1]
theorem pay2_apply (a : FVec Ideal S1024x1024 .f32) (x0 x1 : FVec Ideal S2816x1024 .bf16) (y : S1024x1024.Idx) :
    k0_pay2 (F := Ideal) a x0 x1 y = a y + part x0 x1 y := by
  pointwise [k0_pay2, part]
theorem pay3_apply (a : FVec Ideal S1024x1024 .f32) (y : S1x1024x1024.Idx) :
    k0_pay3 (F := Ideal) a y = a (ix2 (y 1) (y 2)) := by
  pointwise [k0_pay3]

theorem idx0 : ∀ t : Fin cfg0.N, win0_0.index t = ![t.val % 3, t.val / 24] ∧ win0_1.index t = ![t.val % 3, t.val / 3 % 8]
    ∧ win0_2.index t = ![t.val / 3 % 8 / 2, t.val / 24, t.val / 3 % 8 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 3 = 3 - 1) (y : S1024x1024.Idx) :
    ((outsAt0 m c t.val t.isLt).2 : S1024x1024.Idx → EReal) y
      = 0 + ∑ s : Fin 3, part (iblk m c 0 ⟨3 * (t.val / 3) + s.val, Pipeline.run_point_lt_of_flush t hr s⟩)
          (iblk m c 1 ⟨3 * (t.val / 3) + s.val, Pipeline.run_point_lt_of_flush t hr s⟩) y := by
  refine Pipeline.eq_sum_fin_of_reset_step_apply_of_flush (fun n h => ((outsAt0 m c n h).2 : S1024x1024.Idx → EReal)) 3 (fun _ => 0)
    (fun t y => part (iblk m c 0 t) (iblk m c 1 t) y) (fun t h y => ?_) (fun t h y => ?_) t hr y
  · have h1 : ¬t.val % 3 = 2 := by omega
    rw [outsAt0_A m c t h h1]
    frame_out
    rw [pay2_apply, pay1_apply]
  · by_cases h1 : t.val % 3 = 2
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 3 = 3 - 1) (y : S1x1024x1024.Idx) :
    ((outsAt0 m c t.val t.isLt).1 : S1x1024x1024.Idx → EReal) y = ((outsAt0 m c t.val t.isLt).2 : S1024x1024.Idx → EReal) (ix2 (y 1) (y 2)) := by
  have h : ¬t.val % 3 = 0 := by omega
  rw [outsAt0_C m c t h hr]
  frame_out
  rw [pay3_apply]

/-- The kernel's result. -/
theorem final : ((dats m 0 c).arrAt 2 cfg0.N : S4x2048x2048.Idx → EReal) = fun u : S4x2048x2048.Idx =>
    G (m ((c : Thread nD τ).loc main_arg0)) (m ((c : Thread nD τ).loc main_arg1)) (u 0) (u 1) (u 2) := by
  refine (dats m 0 c).arrAt_eq_of_covers 2 _ (by decide +kernel) fun t hf y => ?_
  have ht : t.val < 48 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨3 * (t.val / 3) + s.val, Pipeline.run_point_lt_of_flush t hr s⟩, idx0 t]

end Cert.KernelDw1Ideal.Mlp

namespace Cert.ReferenceDw1Ideal.Mlp

open Idealize.ShloMosaic Idealize.ShloMosaic.TcCoe Idealize.ShloMosaic.Tactic Cert.ReferenceDw1Ideal.Gen Cert.ReferenceDw1Ideal.Read

/-- The reference's result. -/
theorem val_eq (x0 : FVec Ideal S8448x2048 .bf16) (x1 : FVec Ideal S8448x8192 .bf16) :
    val_main_v30 (F := Ideal) x0 x1 = fun u : S4x2048x2048.Idx => Cert.KernelDw1Ideal.Mlp.G x0 x1 (u 0) (u 1) (u 2) := by
  funext u
  pointwise [val_main_v30, val_main_v29, val_main_v28, val_main_cst_3, val_main_v27, val_main_v26, val_main_v25, val_main_cst_2, val_main_v24, val_main_v23,
    val_main_v22, val_main_cst_1, val_main_v21, val_main_v20, val_main_cst_0, val_main_v19, val_main_v18, val_main_v17, val_main_v16, val_main_v15,
    val_main_v14, val_main_v13, val_main_v1, val_main_v0, Cert.KernelDw1Ideal.Mlp.G]
  have h0 : (u 0).val < 4 := (u 0).isLt
  split_ifs
  all_goals first | (exfalso; omega) | skip
  all_goals simp only [zero_add, add_zero]
  all_goals refine Finset.sum_congr rfl fun k _ => (mul_comm _ _).trans (congrArg _ ?_)
  all_goals blk_ext

end Cert.ReferenceDw1Ideal.Mlp

end
-- ==== Proof.Proj.Dmg.lean ====
/- The gradient of the output projection's input: what the kernel's result holds at the end, and that the reference's result
   is the same. -/
module

public import proofs.«01_k».proof.Proof.Gen.KernelDmgIdeal.Value
public import proofs.«01_k».proof.Proof.Gen.ReferenceDmgIdeal.Read
public import Idealize.ShloMosaic.Lib.Pipeline.ValueKit
public import Idealize.ShloMosaic.Lib.Pointwise

@[expose] public section

set_option maxRecDepth 16384

noncomputable section

namespace Cert.KernelDmgIdeal.Proj

open Idealize.ShloMosaic Idealize.ShloMosaic.TcCoe Idealize.ShloMosaic.Tactic Cert.KernelDmgIdeal.Gen

/-- The gradient of input entry `(r, j)`: the cotangent's row against the weights' row. -/
def G (x0 : S8448x2048.Idx → EReal) (x1 : S1x2048x2048.Idx → EReal) (r : Fin 8448) (j : Fin 2048) : EReal :=
  ∑ k : Fin 2048, x0 (ix2 r k) * x1 (ix3 (0 : Fin 1) j k)

theorem pay_apply (x0 : FVec Ideal S1408x2048 .bf16) (x1 : FVec Ideal S1x1024x2048 .bf16) (y : S1408x1024.Idx) :
    k0_pay1 (F := Ideal) x0 x1 y = ∑ k : Fin 2048, x0 (ix2 (y 0) k) * x1 (ix3 (0 : Fin 1) (y 1) k) := by
  pointwise [k0_pay1]

theorem idx0 : ∀ t : Fin cfg0.N, win0_0.index t = ![t.val / 2, 0] ∧ win0_1.index t = ![0, t.val % 2, 0] ∧ win0_2.index t = ![t.val / 2, t.val % 2] :=
  (by decide +kernel : ∀ t : Fin grid0.N, _)

variable (m : (ℓ : Loc nD τ sig) → Buf (Elt Ideal) ℓ) (c : Dev nD)

/-- The kernel's result. -/
theorem final : ((dats m 0 c).arrAt 2 cfg0.N : S8448x2048.Idx → EReal) = fun u : S8448x2048.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 12 := lt_of_lt_of_eq t.isLt N_0
  blk_simp
  rw [after0_2]
  frame_out
  refine (pay_apply _ _ _).trans ?_
  unfold G
  refine Finset.sum_congr rfl fun k _ => ?_
  congr 1 <;> blk_ext [iblk, V, idx0 t]

end Cert.KernelDmgIdeal.Proj

namespace Cert.ReferenceDmgIdeal.Proj

open Idealize.ShloMosaic Idealize.ShloMosaic.TcCoe Idealize.ShloMosaic.Tactic Cert.ReferenceDmgIdeal.Gen Cert.ReferenceDmgIdeal.Read

/-- The reference's result. -/
theorem val_eq (x0 : FVec Ideal S8448x2048 .bf16) (x1 : FVec Ideal S1x2048x2048 .bf16) :
    val_main_v5 (F := Ideal) x0 x1 = fun u : S8448x2048.Idx => Cert.KernelDmgIdeal.Proj.G x0 x1 (u 0) (u 1) := by
  funext u
  pointwise [val_main_v5, val_main_v4, val_main_v3, val_main_v1, val_main_v0, Cert.KernelDmgIdeal.Proj.G]

end Cert.ReferenceDmgIdeal.Proj

end
-- ==== Proof.Proj.Dwo.lean ====
/- The output projection's weights' gradient: what the kernel's result holds at the end, and that the reference's result is the
   same. -/
module

public import proofs.«01_k».proof.Proof.Gen.KernelDwoIdeal.Value
public import proofs.«01_k».proof.Proof.Gen.ReferenceDwoIdeal.Read
public import Idealize.ShloMosaic.Lib.Pipeline.ValueKit
public import Idealize.ShloMosaic.Lib.Pointwise

@[expose] public section

set_option maxRecDepth 16384

noncomputable section

namespace Cert.KernelDwoIdeal.Proj

open Idealize.ShloMosaic Idealize.ShloMosaic.TcCoe Idealize.ShloMosaic.Tactic Cert.KernelDwoIdeal.Gen

/-- The gradient of weight `(i, j)`: the input's column against the cotangent's column. -/
def G (x0 : S8448x2048.Idx → EReal) (x1 : S8448x2048.Idx → EReal) (i : Fin 2048) (j : Fin 2048) : EReal :=
  ∑ k : Fin 8448, x0 (ix2 k i) * x1 (ix2 k j)

/-- One block's part of it. -/
def part (x0 x1 : S2816x1024.Idx → EReal) (y : S1024x1024.Idx) : EReal := ∑ k : Fin 2816, x0 (ix2 k (y 0)) * x1 (ix2 k (y 1))

theorem pay1_apply (y : S1024x1024.Idx) : k0_pay1 (F := Ideal) y = 0 := by
  pointwise [k0_pay1]
theorem pay2_apply (a : FVec Ideal S1024x1024 .f32) (x0 x1 : FVec Ideal S2816x1024 .bf16) (y : S1024x1024.Idx) :
    k0_pay2 (F := Ideal) a x0 x1 y = a y + part x0 x1 y := by
  pointwise [k0_pay2, part]
theorem pay3_apply (a : FVec Ideal S1024x1024 .f32) (y : S1x1024x1024.Idx) :
    k0_pay3 (F := Ideal) a y = a (ix2 (y 1) (y 2)) := by
  pointwise [k0_pay3]

theorem idx0 : ∀ t : Fin cfg0.N, win0_0.index t = ![t.val % 3, t.val / 6] ∧ win0_1.index t = ![t.val % 3, t.val / 3 % 2]
    ∧ win0_2.index t = ![0, t.val / 6, t.val / 3 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 3 = 3 - 1) (y : S1024x1024.Idx) :
    ((outsAt0 m c t.val t.isLt).2 : S1024x1024.Idx → EReal) y
      = 0 + ∑ s : Fin 3, part (iblk m c 0 ⟨3 * (t.val / 3) + s.val, Pipeline.run_point_lt_of_flush t hr s⟩)
          (iblk m c 1 ⟨3 * (t.val / 3) + s.val, Pipeline.run_point_lt_of_flush t hr s⟩) y := by
  refine Pipeline.eq_sum_fin_of_reset_step_apply_of_flush (fun n h => ((outsAt0 m c n h).2 : S1024x1024.Idx → EReal)) 3 (fun _ => 0)
    (fun t y => part (iblk m c 0 t) (iblk m c 1 t) y) (fun t h y => ?_) (fun t h y => ?_) t hr y
  · have h1 : ¬t.val % 3 = 2 := by omega
    rw [outsAt0_A m c t h h1]
    frame_out
    rw [pay2_apply, pay1_apply]
  · by_cases h1 : t.val % 3 = 2
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 3 = 3 - 1) (y : S1x1024x1024.Idx) :
    ((outsAt0 m c t.val t.isLt).1 : S1x1024x1024.Idx → EReal) y = ((outsAt0 m c t.val t.isLt).2 : S1024x1024.Idx → EReal) (ix2 (y 1) (y 2)) := by
  have h : ¬t.val % 3 = 0 := by omega
  rw [outsAt0_C m c t h hr]
  frame_out
  rw [pay3_apply]

/-- The kernel's result. -/
theorem final : ((dats m 0 c).arrAt 2 cfg0.N : S1x2048x2048.Idx → EReal) = fun u : S1x2048x2048.Idx =>
    G (m ((c : Thread nD τ).loc main_arg0)) (m ((c : Thread nD τ).loc main_arg1)) (u 1) (u 2) := by
  refine (dats m 0 c).arrAt_eq_of_covers 2 _ (by decide +kernel) fun t hf y => ?_
  have ht : t.val < 12 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨3 * (t.val / 3) + s.val, Pipeline.run_point_lt_of_flush t hr s⟩, idx0 t]

end Cert.KernelDwoIdeal.Proj

namespace Cert.ReferenceDwoIdeal.Proj

open Idealize.ShloMosaic Idealize.ShloMosaic.TcCoe Idealize.ShloMosaic.Tactic Cert.ReferenceDwoIdeal.Gen Cert.ReferenceDwoIdeal.Read

/-- The reference's result. -/
theorem val_eq (x0 : FVec Ideal S8448x2048 .bf16) (x1 : FVec Ideal S8448x2048 .bf16) :
    val_main_v8 (F := Ideal) x0 x1 = fun u : S1x2048x2048.Idx => Cert.KernelDwoIdeal.Proj.G x0 x1 (u 1) (u 2) := by
  funext u
  pointwise [val_main_v8, val_main_v7, val_main_v6, val_main_v5, val_main_v1, val_main_v0, Cert.KernelDwoIdeal.Proj.G]
  refine Finset.sum_congr rfl fun k _ => mul_comm _ _

end Cert.ReferenceDwoIdeal.Proj

end
-- ==== Proof.Proj.Dhi.lean ====
/- The MLP's input gradient: what the kernel's result holds at the end, and that the reference's result is the
   same. -/
module

public import proofs.«01_k».proof.Proof.Gen.KernelDhiIdeal.Value
public import proofs.«01_k».proof.Proof.Gen.ReferenceDhiIdeal.Read
public import Idealize.ShloMosaic.Lib.Pipeline.ValueKit
public import Idealize.ShloMosaic.Lib.Pointwise

@[expose] public section

set_option maxRecDepth 16384

noncomputable section

namespace Cert.KernelDhiIdeal.Proj

open Idealize.ShloMosaic Idealize.ShloMosaic.TcCoe Idealize.ShloMosaic.Tactic Cert.KernelDhiIdeal.Gen

/-- The gradient of input entry `(r, j)`: the cotangent's row against the weights' row, which runs over the four
    shards. -/
def G (x0 : S8448x4608.Idx → EReal) (x1 : S4x2048x1152.Idx → EReal) (r : Fin 8448) (j : Fin 2048) : EReal :=
  ∑ k : Fin 4608, x0 (ix2 r k) * x1 (ix3 (⟨k.val / 1152, by omega⟩ : Fin 4) j (⟨k.val % 1152, by omega⟩ : Fin 1152))

/-- One block's part of it. -/
def part (x0 : S1408x1152.Idx → EReal) (x1 : S1x1024x1152.Idx → EReal) (y : S1408x1024.Idx) : EReal :=
  ∑ k : Fin 1152, x0 (ix2 (y 0) k) * x1 (ix3 (0 : Fin 1) (y 1) k)

theorem pay1_apply (y : S1408x1024.Idx) : k0_pay1 (F := Ideal) y = 0 := by
  pointwise [k0_pay1]
theorem pay2_apply (a : FVec Ideal S1408x1024 .f32) (x0 : FVec Ideal S1408x1152 .bf16) (x1 : FVec Ideal S1x1024x1152 .bf16)
    (y : S1408x1024.Idx) : k0_pay2 (F := Ideal) a x0 x1 y = a y + part x0 x1 y := by
  pointwise [k0_pay2, part]
theorem pay3_apply (a : FVec Ideal S1408x1024 .f32) (y : S1408x1024.Idx) : k0_pay3 (F := Ideal) a y = a y := by
  pointwise [k0_pay3]

theorem idx0 : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 4 = 4 - 1) (y : S1408x1024.Idx) :
    ((outsAt0 m c t.val t.isLt).2 : S1408x1024.Idx → EReal) y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => ((outsAt0 m c n h).2 : S1408x1024.Idx → EReal)) 4 (fun _ => 0)
    (fun t y => part (iblk m c 0 t) (iblk m c 1 t) y) (fun t h y => ?_) (fun t h y => ?_) t hr y
  · have h1 : ¬t.val % 4 = 3 := by omega
    rw [outsAt0_A m c t h h1]
    frame_out
    rw [pay2_apply, pay1_apply]
  · by_cases h1 : t.val % 4 = 3
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 4 = 4 - 1) (y : S1408x1024.Idx) :
    ((outsAt0 m c t.val t.isLt).1 : S1408x1024.Idx → EReal) y = ((outsAt0 m c t.val t.isLt).2 : S1408x1024.Idx → EReal) y := by
  have h : ¬t.val % 4 = 0 := by omega
  rw [outsAt0_C m c t h hr]
  frame_out
  rw [pay3_apply]

/-- The kernel's result. -/
theorem final : ((dats m 0 c).arrAt 2 cfg0.N : S8448x2048.Idx → EReal) = fun u : S8448x2048.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 48 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨4 * (t.val / 4) + s.val, Pipeline.run_point_lt_of_flush t hr s⟩, idx0 t]

end Cert.KernelDhiIdeal.Proj

namespace Cert.ReferenceDhiIdeal.Proj

open Idealize.ShloMosaic Idealize.ShloMosaic.TcCoe Idealize.ShloMosaic.Tactic Cert.ReferenceDhiIdeal.Gen Cert.ReferenceDhiIdeal.Read

/-- The reference's result. -/
theorem val_eq (x0 : FVec Ideal S8448x4608 .bf16) (x1 : FVec Ideal S4x2048x1152 .bf16) :
    val_main_v14 (F := Ideal) x0 x1 = fun u : S8448x2048.Idx => Cert.KernelDhiIdeal.Proj.G x0 x1 (u 0) (u 1) := by
  funext u
  pointwise [val_main_v14, val_main_v13, val_main_v11, val_main_v10, val_main_v9, val_main_v8, val_main_v7, val_main_v6, val_main_v5, val_main_v4,
    val_main_v3, val_main_v1, val_main_v0, Cert.KernelDhiIdeal.Proj.G]
  refine Finset.sum_congr rfl fun k _ => congrArg _ ?_
  have hk := k.isLt
  split_ifs <;> blk_ext

end Cert.ReferenceDhiIdeal.Proj

end
-- ==== Proof.Proj.Dwi.lean ====
/- The input projection's weights' gradient: what the kernel's result holds at the end, and that the reference's result is the
   same. -/
module

public import proofs.«01_k».proof.Proof.Gen.KernelDwiIdeal.Value
public import proofs.«01_k».proof.Proof.Gen.ReferenceDwiIdeal.Read
public import Idealize.ShloMosaic.Lib.Pipeline.ValueKit
public import Idealize.ShloMosaic.Lib.Pointwise

@[expose] public section

set_option maxRecDepth 16384

noncomputable section

namespace Cert.KernelDwiIdeal.Proj

open Idealize.ShloMosaic Idealize.ShloMosaic.TcCoe Idealize.ShloMosaic.Tactic Cert.KernelDwiIdeal.Gen

/-- The gradient of weight `(i, j)` of shard `p`: the input's column against the cotangent's column. -/
def G (x0 : S8448x2048.Idx → EReal) (x1 : S8448x4608.Idx → EReal) (p : Fin 4) (i : Fin 2048) (j : Fin 1152) : EReal :=
  ∑ k : Fin 8448, x0 (ix2 k i) * x1 (ix2 k (⟨p.val * 1152 + j.val, by omega⟩ : Fin 4608))

/-- One block's part of it. -/
def part (x0 : S2816x1024.Idx → EReal) (x1 : S2816x1152.Idx → EReal) (y : S1024x1152.Idx) : EReal := ∑ k : Fin 2816, x0 (ix2 k (y 0)) * x1 (ix2 k (y 1))

theorem pay1_apply (y : S1024x1152.Idx) : k0_pay1 (F := Ideal) y = 0 := by
  pointwise [k0_pay1]
theorem pay2_apply (a : FVec Ideal S1024x1152 .f32) (x0 : FVec Ideal S2816x1024 .bf16) (x1 : FVec Ideal S2816x1152 .bf16) (y : S1024x1152.Idx) :
    k0_pay2 (F := Ideal) a x0 x1 y = a y + part x0 x1 y := by
  pointwise [k0_pay2, part]
theorem pay3_apply (a : FVec Ideal S1024x1152 .f32) (y : S1x1024x1152.Idx) :
    k0_pay3 (F := Ideal) a y = a (ix2 (y 1) (y 2)) := by
  pointwise [k0_pay3]

theorem idx0 : ∀ t : Fin cfg0.N, win0_0.index t = ![t.val % 3, t.val / 12] ∧ win0_1.index t = ![t.val % 3, t.val / 3 % 4]
    ∧ win0_2.index t = ![t.val / 3 % 4, t.val / 12, 0] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 3 = 3 - 1) (y : S1024x1152.Idx) :
    ((outsAt0 m c t.val t.isLt).2 : S1024x1152.Idx → EReal) y
      = 0 + ∑ s : Fin 3, part (iblk m c 0 ⟨3 * (t.val / 3) + s.val, Pipeline.run_point_lt_of_flush t hr s⟩)
          (iblk m c 1 ⟨3 * (t.val / 3) + s.val, Pipeline.run_point_lt_of_flush t hr s⟩) y := by
  refine Pipeline.eq_sum_fin_of_reset_step_apply_of_flush (fun n h => ((outsAt0 m c n h).2 : S1024x1152.Idx → EReal)) 3 (fun _ => 0)
    (fun t y => part (iblk m c 0 t) (iblk m c 1 t) y) (fun t h y => ?_) (fun t h y => ?_) t hr y
  · have h1 : ¬t.val % 3 = 2 := by omega
    rw [outsAt0_A m c t h h1]
    frame_out
    rw [pay2_apply, pay1_apply]
  · by_cases h1 : t.val % 3 = 2
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 3 = 3 - 1) (y : S1x1024x1152.Idx) :
    ((outsAt0 m c t.val t.isLt).1 : S1x1024x1152.Idx → EReal) y = ((outsAt0 m c t.val t.isLt).2 : S1024x1152.Idx → EReal) (ix2 (y 1) (y 2)) := by
  have h : ¬t.val % 3 = 0 := by omega
  rw [outsAt0_C m c t h hr]
  frame_out
  rw [pay3_apply]

/-- The kernel's result. -/
theorem final : ((dats m 0 c).arrAt 2 cfg0.N : S4x2048x1152.Idx → EReal) = fun u : S4x2048x1152.Idx =>
    G (m ((c : Thread nD τ).loc main_arg0)) (m ((c : Thread nD τ).loc main_arg1)) (u 0) (u 1) (u 2) := by
  refine (dats m 0 c).arrAt_eq_of_covers 2 _ (by decide +kernel) fun t hf y => ?_
  have ht : t.val < 24 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨3 * (t.val / 3) + s.val, Pipeline.run_point_lt_of_flush t hr s⟩, idx0 t]

end Cert.KernelDwiIdeal.Proj

namespace Cert.ReferenceDwiIdeal.Proj

open Idealize.ShloMosaic Idealize.ShloMosaic.TcCoe Idealize.ShloMosaic.Tactic Cert.ReferenceDwiIdeal.Gen Cert.ReferenceDwiIdeal.Read

/-- The reference's result. -/
theorem val_eq (x0 : FVec Ideal S8448x2048 .bf16) (x1 : FVec Ideal S8448x4608 .bf16) :
    val_main_v30 (F := Ideal) x0 x1 = fun u : S4x2048x1152.Idx => Cert.KernelDwiIdeal.Proj.G x0 x1 (u 0) (u 1) (u 2) := by
  funext u
  pointwise [val_main_v30, val_main_v29, val_main_v28, val_main_cst_3, val_main_v27, val_main_v26, val_main_v25, val_main_cst_2, val_main_v24, val_main_v23,
    val_main_v22, val_main_cst_1, val_main_v21, val_main_v20, val_main_cst_0, val_main_v19, val_main_v18, val_main_v17, val_main_v16, val_main_v15,
    val_main_v14, val_main_v13, val_main_v1, val_main_v0, Cert.KernelDwiIdeal.Proj.G]
  have h0 : (u 0).val < 4 := (u 0).isLt
  split_ifs
  all_goals first | (exfalso; omega) | skip
  all_goals simp only [zero_add, add_zero]
  all_goals refine Finset.sum_congr rfl fun k _ => (mul_comm _ _).trans (congrArg _ ?_)
  all_goals blk_ext

end Cert.ReferenceDwiIdeal.Proj

end
-- ==== Proof.Mlp.Fa.lean ====
/- The MLP's first product with the square of its positive part: what the kernel's result holds at the end, and that the reference's result
   is the same. -/
module

public import proofs.«01_k».proof.Proof.Gen.KernelFaIdeal.Value
public import proofs.«01_k».proof.Proof.Gen.ReferenceFaIdeal.Read
public import Idealize.ShloMosaic.Lib.Pipeline.ValueKit
public import Idealize.ShloMosaic.Lib.Pointwise

@[expose] public section

set_option maxRecDepth 16384

noncomputable section

namespace Cert.KernelFaIdeal.Mlp

open Idealize.ShloMosaic Idealize.ShloMosaic.TcCoe Idealize.ShloMosaic.Tactic Cert.KernelFaIdeal.Gen

/-- Entry `(r, j)`: the input's row against the weights' column, which stands in one of the four shards. -/
def G (x0 : S8448x2048.Idx → EReal) (x1 : S4x2048x2048.Idx → EReal) (r : Fin 8448) (j : Fin 8192) : EReal :=
  ∑ k : Fin 2048, x0 (ix2 r k) * x1 (ix3 (⟨j.val / 2048, by omega⟩ : Fin 4) k (⟨j.val % 2048, by omega⟩ : Fin 2048))

/-- One block of it. -/
def part (x0 : S1408x2048.Idx → EReal) (x1 : S1x2048x1024.Idx → EReal) (y : S1408x1024.Idx) : EReal :=
  ∑ k : Fin 2048, x0 (ix2 (y 0) k) * x1 (ix3 (0 : Fin 1) k (y 1))

theorem pay1_apply (x0 : FVec Ideal S1408x2048 .bf16) (x1 : FVec Ideal S1x2048x1024 .bf16) (y : S1408x1024.Idx) :
    k0_pay1 (F := Ideal) x0 x1 y = part x0 x1 y := by
  pointwise [k0_pay1, part]
theorem pay3_apply (x0 : FVec Ideal S1408x2048 .bf16) (x1 : FVec Ideal S1x2048x1024 .bf16) (y : S1408x1024.Idx) :
    k0_pay3 (F := Ideal) x0 x1 y = max (part x0 x1 y) 0 * max (part x0 x1 y) 0 := by
  pointwise [k0_pay3, k0_pay1, part]

theorem idx0 : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

variable (m : (ℓ : Loc nD τ sig) → Buf (Elt Ideal) ℓ) (c : Dev nD)

/-- One block of the product of the blocks read is the block of the product. -/
theorem part_eq (t : Fin cfg0.N) (y : S1408x1024.Idx) (r : Fin 8448) (j : Fin 8192) (hr : r.val = t.val / 8 * 1408 + (y 0).val)
    (hj : j.val = t.val % 8 * 1024 + (y 1).val) :
    part (iblk m c 0 t) (iblk m c 1 t) y = G (m ((c : Thread nD τ).loc main_arg0)) (m ((c : Thread nD τ).loc main_arg1)) r j := by
  have ht : t.val < 48 := lt_of_lt_of_eq t.isLt N_0
  unfold G part
  refine Finset.sum_congr rfl fun k _ => ?_
  congr 1 <;> blk_ext [iblk, V, idx0 t]

/-- The kernel's first result. -/
theorem final0 : ((dats m 0 c).arrAt 2 cfg0.N : S8448x8192.Idx → EReal) = fun u : S8448x8192.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 48 := lt_of_lt_of_eq t.isLt N_0
  blk_simp
  rw [after0_2]
  frame_out
  refine (pay1_apply _ _ _).trans (part_eq m c t y _ _ ?_ ?_) <;> blk_ext [idx0 t]

/-- The kernel's second result. -/
theorem final1 : ((dats m 0 c).arrAt 3 cfg0.N : S8448x8192.Idx → EReal) = fun u : S8448x8192.Idx =>
    max (G (m ((c : Thread nD τ).loc main_arg0)) (m ((c : Thread nD τ).loc main_arg1)) (u 0) (u 1)) 0
      * max (G (m ((c : Thread nD τ).loc main_arg0)) (m ((c : Thread nD τ).loc main_arg1)) (u 0) (u 1)) 0 := by
  refine (dats m 0 c).arrAt_eq_of_covers 3 _ (by decide +kernel) fun t hf y => ?_
  have ht : t.val < 48 := lt_of_lt_of_eq t.isLt N_0
  blk_simp
  rw [after0_3]
  frame_out
  refine (pay3_apply _ _ _).trans (congrArg (fun z : EReal => max z 0 * max z 0) (part_eq m c t y _ _ ?_ ?_)) <;> blk_ext [idx0 t]

end Cert.KernelFaIdeal.Mlp

namespace Cert.ReferenceFaIdeal.Mlp

open Idealize.ShloMosaic Idealize.ShloMosaic.TcCoe Idealize.ShloMosaic.Tactic Cert.ReferenceFaIdeal.Gen Cert.ReferenceFaIdeal.Read

/-- The reference's first result. -/
theorem val_eq0 (x0 : FVec Ideal S8448x2048 .bf16) (x1 : FVec Ideal S4x2048x2048 .bf16) :
    val_main_v12 (F := Ideal) x0 x1 = fun u : S8448x8192.Idx => Cert.KernelFaIdeal.Mlp.G x0 x1 (u 0) (u 1) := by
  funext u
  pointwise [val_main_v12, val_main_v11, val_main_v10, val_main_v9, val_main_v8, val_main_v7, val_main_v6, val_main_v5, val_main_v4, val_main_v3, val_main_v2, val_main_v1, val_main_v0, Cert.KernelFaIdeal.Mlp.G]
  refine Finset.sum_congr rfl fun k _ => congrArg _ ?_
  have hu := (u 1).isLt
  split_ifs <;> blk_ext

/-- The reference's second result. -/
theorem val_eq1 (x0 : FVec Ideal S8448x2048 .bf16) (x1 : FVec Ideal S4x2048x2048 .bf16) :
    val_main_v15 (F := Ideal) x0 x1 = fun u : S8448x8192.Idx =>
      max (Cert.KernelFaIdeal.Mlp.G x0 x1 (u 0) (u 1)) 0 * max (Cert.KernelFaIdeal.Mlp.G x0 x1 (u 0) (u 1)) 0 := by
  funext u
  have h : val_main_v12 (F := Ideal) x0 x1 u = Cert.KernelFaIdeal.Mlp.G x0 x1 (u 0) (u 1) := congrFun (val_eq0 x0 x1) u
  rw [← h]
  pointwise [val_main_v15, val_main_v14, val_main_v13, val_main_v12, val_main_v11, val_main_call0_v0, val_main_call0_cst]

end Cert.ReferenceFaIdeal.Mlp

end
-- ==== Proof.Mlp.Fo.lean ====
/- The MLP's second product: what the kernel's result holds at the end, and that the reference's result is the same. -/
module

public import proofs.«01_k».proof.Proof.Gen.KernelFoIdeal.Value
public import proofs.«01_k».proof.Proof.Gen.ReferenceFoIdeal.Read
public import Idealize.ShloMosaic.Lib.Pipeline.ValueKit
public import Idealize.ShloMosaic.Lib.Pointwise

@[expose] public section

set_option maxRecDepth 16384

noncomputable section

namespace Cert.KernelFoIdeal.Mlp

open Idealize.ShloMosaic Idealize.ShloMosaic.TcCoe Idealize.ShloMosaic.Tactic Cert.KernelFoIdeal.Gen

/-- Entry `(r, j)`: the hidden row against the weights' column. -/
def G (x0 : S8448x8192.Idx → EReal) (x1 : S1x8192x2048.Idx → EReal) (r : Fin 8448) (j : Fin 2048) : EReal :=
  ∑ k : Fin 8192, x0 (ix2 r k) * x1 (ix3 (0 : Fin 1) k j)

/-- One block's part of it. -/
def part (x0 : S1408x2048.Idx → EReal) (x1 : S1x2048x1024.Idx → EReal) (y : S1408x1024.Idx) : EReal :=
  ∑ k : Fin 2048, x0 (ix2 (y 0) k) * x1 (ix3 (0 : Fin 1) k (y 1))

theorem pay1_apply (y : S1408x1024.Idx) : k0_pay1 (F := Ideal) y = 0 := by
  pointwise [k0_pay1]
theorem pay2_apply (a : FVec Ideal S1408x1024 .f32) (x0 : FVec Ideal S1408x2048 .bf16) (x1 : FVec Ideal S1x2048x1024 .bf16)
    (y : S1408x1024.Idx) : k0_pay2 (F := Ideal) a x0 x1 y = a y + part x0 x1 y := by
  pointwise [k0_pay2, part]
theorem pay3_apply (a : FVec Ideal S1408x1024 .f32) (y : S1408x1024.Idx) : k0_pay3 (F := Ideal) a y = a y := by
  pointwise [k0_pay3]

theorem idx0 : ∀ t : Fin cfg0.N, win0_0.index t = ![t.val / 8, t.val % 4] ∧ win0_1.index t = ![0, t.val % 4, t.val / 4 % 2]
    ∧ win0_2.index t = ![t.val / 8, t.val / 4 % 2] :=
  (by decide +kernel : ∀ t : Fin grid0.N, _)

variable (m : (ℓ : Loc nD τ sig) → Buf (Elt Ideal) ℓ) (c : Dev nD)

/-- The accumulator at a block's last point. -/
theorem acc_eq (t : Fin cfg0.N) (hr : t.val % 4 = 4 - 1) (y : S1408x1024.Idx) :
    ((outsAt0 m c t.val t.isLt).2 : S1408x1024.Idx → EReal) y
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y := by
  refine Pipeline.eq_sum_fin_of_reset_step_apply_of_flush (fun n h => ((outsAt0 m c n h).2 : S1408x1024.Idx → EReal)) 4 (fun _ => 0)
    (fun t y => part (iblk m c 0 t) (iblk m c 1 t) y) (fun t h y => ?_) (fun t h y => ?_) t hr y
  · have h1 : ¬t.val % 4 = 3 := by omega
    rw [outsAt0_A m c t h h1]
    frame_out
    rw [pay2_apply, pay1_apply]
  · by_cases h1 : t.val % 4 = 3
    · rw [outsAt0_C m c t h h1]
      frame_out
      rw [pay2_apply]
      exact congrArg (· + _) (congrFun ((Memref.isWhole_whole cc0_scratch0).read_unread _) y)
    · rw [outsAt0_B m c t h h1]
      frame_out
      rw [pay2_apply]
      exact congrArg (· + _) (congrFun ((Memref.isWhole_whole cc0_scratch0).read_unread _) y)

/-- The result's block is the accumulator. -/
theorem out_eq (t : Fin cfg0.N) (hr : t.val % 4 = 4 - 1) (y : S1408x1024.Idx) :
    ((outsAt0 m c t.val t.isLt).1 : S1408x1024.Idx → EReal) y = ((outsAt0 m c t.val t.isLt).2 : S1408x1024.Idx → EReal) y := by
  have h : ¬t.val % 4 = 0 := by omega
  rw [outsAt0_C m c t h hr]
  frame_out
  rw [pay3_apply]

/-- The kernel's result. -/
theorem final : ((dats m 0 c).arrAt 2 cfg0.N : S8448x2048.Idx → EReal) = fun u : S8448x2048.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 48 := lt_of_lt_of_eq t.isLt N_0
  have hr := (flush0_2 t).mp hf
  blk_simp
  rw [after0_2, out_eq m c t hr, acc_eq m c t hr, zero_add]
  unfold G part
  refine Fin.sum_mul_add_congr fun s k hl => ?_
  have hs := s.isLt
  congr 1 <;> blk_ext [iblk, V, idx0 ⟨4 * (t.val / 4) + s.val, Pipeline.run_point_lt_of_flush t hr s⟩, idx0 t]

end Cert.KernelFoIdeal.Mlp

namespace Cert.ReferenceFoIdeal.Mlp

open Idealize.ShloMosaic Idealize.ShloMosaic.TcCoe Idealize.ShloMosaic.Tactic Cert.ReferenceFoIdeal.Gen Cert.ReferenceFoIdeal.Read

/-- The reference's result. -/
theorem val_eq (x0 : FVec Ideal S8448x8192 .bf16) (x1 : FVec Ideal S1x8192x2048 .bf16) :
    val_main_v4 (F := Ideal) x0 x1 = fun u : S8448x2048.Idx => Cert.KernelFoIdeal.Mlp.G x0 x1 (u 0) (u 1) := by
  funext u
  pointwise [val_main_v4, val_main_v3, val_main_v2, val_main_v1, val_main_v0, Cert.KernelFoIdeal.Mlp.G]

end Cert.ReferenceFoIdeal.Mlp

end
-- ==== Proof.Proj.Fp.lean ====
/- The input projection: what the kernel's result holds at the end, and that the reference's result
   is the same. -/
module

public import proofs.«01_k».proof.Proof.Gen.KernelFpIdeal.Value
public import proofs.«01_k».proof.Proof.Gen.ReferenceFpIdeal.Read
public import Idealize.ShloMosaic.Lib.Pipeline.ValueKit
public import Idealize.ShloMosaic.Lib.Pointwise

@[expose] public section

set_option maxRecDepth 16384

noncomputable section

namespace Cert.KernelFpIdeal.Proj

open Idealize.ShloMosaic Idealize.ShloMosaic.TcCoe Idealize.ShloMosaic.Tactic Cert.KernelFpIdeal.Gen

/-- Entry `(r, j)`: the input's row against the weights' column, which stands in one of the four shards. -/
def G (x0 : S8448x2048.Idx → EReal) (x1 : S4x2048x1152.Idx → EReal) (r : Fin 8448) (j : Fin 4608) : EReal :=
  ∑ k : Fin 2048, x0 (ix2 r k) * x1 (ix3 (⟨j.val / 1152, by omega⟩ : Fin 4) k (⟨j.val % 1152, by omega⟩ : Fin 1152))

theorem pay_apply (x0 : FVec Ideal S1408x2048 .bf16) (x1 : FVec Ideal S1x2048x1152 .bf16) (y : S1408x1152.Idx) :
    k0_pay1 (F := Ideal) x0 x1 y = ∑ k : Fin 2048, x0 (ix2 (y 0) k) * x1 (ix3 (0 : Fin 1) k (y 1)) := by
  pointwise [k0_pay1]

theorem idx0 : ∀ t : Fin cfg0.N, win0_0.index t = ![t.val / 4, 0] ∧ win0_1.index t = ![t.val % 4, 0, 0] ∧ win0_2.index t = ![t.val / 4, t.val % 4] :=
  (by decide +kernel : ∀ t : Fin grid0.N, _)

variable (m : (ℓ : Loc nD τ sig) → Buf (Elt Ideal) ℓ) (c : Dev nD)

/-- The kernel's result. -/
theorem final : ((dats m 0 c).arrAt 2 cfg0.N : S8448x4608.Idx → EReal) = fun u : S8448x4608.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 24 := lt_of_lt_of_eq t.isLt N_0
  blk_simp
  rw [after0_2]
  frame_out
  refine (pay_apply _ _ _).trans ?_
  unfold G
  refine Finset.sum_congr rfl fun k _ => ?_
  congr 1 <;> blk_ext [iblk, V, idx0 t]

end Cert.KernelFpIdeal.Proj

namespace Cert.ReferenceFpIdeal.Proj

open Idealize.ShloMosaic Idealize.ShloMosaic.TcCoe Idealize.ShloMosaic.Tactic Cert.ReferenceFpIdeal.Gen Cert.ReferenceFpIdeal.Read

/-- The reference's result. -/
theorem val_eq (x0 : FVec Ideal S8448x2048 .bf16) (x1 : FVec Ideal S4x2048x1152 .bf16) :
    val_main_v11 (F := Ideal) x0 x1 = fun u : S8448x4608.Idx => Cert.KernelFpIdeal.Proj.G x0 x1 (u 0) (u 1) := by
  funext u
  pointwise [val_main_v11, val_main_v10, val_main_v9, val_main_v8, val_main_v7, val_main_v6, val_main_v5, val_main_v4, val_main_v3, val_main_v2, val_main_v1, val_main_v0, Cert.KernelFpIdeal.Proj.G]
  refine Finset.sum_congr rfl fun k _ => congrArg _ ?_
  have hu := (u 1).isLt
  split_ifs <;> blk_ext

end Cert.ReferenceFpIdeal.Proj

end
-- ==== Proof.Proj.Fz.lean ====
/- The output projection: what the kernel's result holds at the end, and that the reference's result
   is the same. -/
module

public import proofs.«01_k».proof.Proof.Gen.KernelFzIdeal.Value
public import proofs.«01_k».proof.Proof.Gen.ReferenceFzIdeal.Read
public import Idealize.ShloMosaic.Lib.Pipeline.ValueKit
public import Idealize.ShloMosaic.Lib.Pointwise

@[expose] public section

set_option maxRecDepth 16384

noncomputable section

namespace Cert.KernelFzIdeal.Proj

open Idealize.ShloMosaic Idealize.ShloMosaic.TcCoe Idealize.ShloMosaic.Tactic Cert.KernelFzIdeal.Gen

/-- Entry `(r, j)`: the input's row against the weights' column. -/
def G (x0 : S8448x2048.Idx → EReal) (x1 : S1x2048x2048.Idx → EReal) (r : Fin 8448) (j : Fin 2048) : EReal :=
  ∑ k : Fin 2048, x0 (ix2 r k) * x1 (ix3 (0 : Fin 1) k j)

theorem pay_apply (x0 : FVec Ideal S1408x2048 .bf16) (x1 : FVec Ideal S1x2048x1024 .bf16) (y : S1408x1024.Idx) :
    k0_pay1 (F := Ideal) x0 x1 y = ∑ k : Fin 2048, x0 (ix2 (y 0) k) * x1 (ix3 (0 : Fin 1) k (y 1)) := by
  pointwise [k0_pay1]

theorem idx0 : ∀ t : Fin cfg0.N, win0_0.index t = ![t.val / 2, 0] ∧ win0_1.index t = ![0, 0, t.val % 2] ∧ win0_2.index t = ![t.val / 2, t.val % 2] :=
  (by decide +kernel : ∀ t : Fin grid0.N, _)

variable (m : (ℓ : Loc nD τ sig) → Buf (Elt Ideal) ℓ) (c : Dev nD)

/-- The kernel's result. -/
theorem final : ((dats m 0 c).arrAt 2 cfg0.N : S8448x2048.Idx → EReal) = fun u : S8448x2048.Idx =>
    G (m ((c : Thread nD τ).loc main_arg0)) (m ((c : Thread nD τ).loc main_arg1)) (u 0) (u 1) := by
  refine (dats m 0 c).arrAt_eq_of_covers 2 _ (by decide +kernel) fun t hf y => ?_
  have ht : t.val < 12 := lt_of_lt_of_eq t.isLt N_0
  blk_simp
  rw [after0_2]
  frame_out
  refine (pay_apply _ _ _).trans ?_
  unfold G
  refine Finset.sum_congr rfl fun k _ => ?_
  congr 1 <;> blk_ext [iblk, V, idx0 t]

end Cert.KernelFzIdeal.Proj

namespace Cert.ReferenceFzIdeal.Proj

open Idealize.ShloMosaic Idealize.ShloMosaic.TcCoe Idealize.ShloMosaic.Tactic Cert.ReferenceFzIdeal.Gen Cert.ReferenceFzIdeal.Read

/-- The reference's result. -/
theorem val_eq (x0 : FVec Ideal S8448x2048 .bf16) (x1 : FVec Ideal S1x2048x2048 .bf16) :
    val_main_v4 (F := Ideal) x0 x1 = fun u : S8448x2048.Idx => Cert.KernelFzIdeal.Proj.G x0 x1 (u 0) (u 1) := by
  funext u
  pointwise [val_main_v4, val_main_v3, val_main_v2, val_main_v1, val_main_v0, Cert.KernelFzIdeal.Proj.G]

end Cert.ReferenceFzIdeal.Proj

end
-- ==== Proof.Back.NbSpec.lean ====
/- The backward pass of a norm that follows a gated sum: what its results are, row by row, and the identity between the two ways of writing
   a row of the gradient. -/
module

public import proofs.«01_k».proof.Proof.Attn.Row
public import Idealize.ShloMosaic.Lib.Pointwise

@[expose] public section

noncomputable section

namespace Cert.Nb

open Idealize.ShloMosaic Cert.Row

/-- A row's mean square plus the small constant. -/
def ms (x : Fin 2048 → EReal) : EReal :=
  Ideal.div (∑ k, x k * x k) (Ideal.ofBits .f32 1157627904#32) + Ideal.ofBits .f32 897988541#32
/-- Its reciprocal root. -/
def rs (x : Fin 2048 → EReal) : EReal := Ideal.rsqrt (ms x)
/-- One entry of the gradient as the kernel writes it: `d` is the entry that came in, `x` the norm's input row, `n` the row of gradients of
    the row times its reciprocal root. -/
def step (d : EReal) (x n : Fin 2048 → EReal) (j : Fin 2048) : EReal :=
  d + rs x * (n j - x j * rs x * Ideal.div (∑ k, n k * (x k * rs x)) (Ideal.ofBits .f32 1157627904#32))
/-- The gradient of a row's mean square, as the reference writes it. -/
def gms (x n : Fin 2048 → EReal) : EReal :=
  Ideal.div ((∑ k, x k * n k) * (Ideal.ofBits .f32 3204448256#32 * Ideal.div (rs x) (ms x))) (Ideal.ofBits .f32 1157627904#32)
/-- One entry of the gradient as the reference writes it. -/
def stepRef (d : EReal) (x n : Fin 2048 → EReal) (j : Fin 2048) : EReal :=
  d + (n j * rs x + x j * (∑ _k : Fin 1, gms x n) + (∑ _k : Fin 1, gms x n) * x j)

theorem c2048 : Ideal.ofBits .f32 1157627904#32 = ((2048 : ℝ) : EReal) := by
  simp [Ideal.ofBits, Ideal.ieee, -EReal.coe_mul]; norm_num
theorem half : Ideal.ofBits .f32 3204448256#32 = ((-(1 / 2) : ℝ) : EReal) := by
  simp [Ideal.ofBits, Ideal.ieee, -EReal.coe_mul]; norm_num
theorem eps : ∃ e : ℝ, 0 < e ∧ Ideal.ofBits .f32 897988541#32 = (e : EReal) := by
  refine ⟨_, ?_, by simp [Ideal.ofBits, Ideal.ieee, -EReal.coe_mul]; rfl⟩
  norm_num

/-- The two are the same on finite rows. -/
theorem step_eq (d : EReal) (x n : Fin 2048 → EReal) (hx : ∀ k, IsR (x k)) (hn : ∀ k, IsR (n k)) (j : Fin 2048) :
    stepRef d x n j = step d x n j := by
  choose X hX using hx
  choose N hN using hn
  obtain ⟨e, he, hE⟩ := eps
  have hsq : ∑ k, x k * x k = ((∑ k, X k * X k : ℝ) : EReal) := by
    rw [coe_sum]
    exact Finset.sum_congr rfl fun k _ => by rw [hX, EReal.coe_mul]
  have hp : (0 : ℝ) < (∑ k, X k * X k) * (1 / 2048) + e :=
    add_pos_of_nonneg_of_pos (mul_nonneg (Finset.sum_nonneg fun k _ => mul_self_nonneg _) (by norm_num)) he
  set M : ℝ := (∑ k, X k * X k) * (1 / 2048) + e with hM
  have hms : ms x = (M : EReal) := by
    unfold ms
    rw [hsq, c2048, hE, Ideal.div_coe (by norm_num), ← EReal.coe_mul, ← EReal.coe_add]
  set R : ℝ := (Real.sqrt M)⁻¹ with hR
  have hrs : rs x = (R : EReal) := by
    unfold rs
    rw [hms, Ideal.rsqrt_coe, if_neg (not_lt.mpr hp.le), if_neg hp.ne']
  have hRR : 1 / M = R * R := by
    rw [hR, ← mul_inv, Real.mul_self_sqrt hp.le, one_div]
  have hxn : ∑ k, x k * n k = ((∑ k, X k * N k : ℝ) : EReal) := by
    rw [coe_sum]
    exact Finset.sum_congr rfl fun k _ => by rw [hX, hN, EReal.coe_mul]
  have hnx : ∑ k, n k * (x k * rs x) = (((∑ k, X k * N k) * R : ℝ) : EReal) := by
    rw [Finset.sum_mul, coe_sum]
    exact Finset.sum_congr rfl fun k _ => by rw [hX, hN, hrs, ← EReal.coe_mul, ← EReal.coe_mul]; congr 1; ring
  have hg : gms x n = (((∑ k, X k * N k) * (-(1 / 2) * (R * (1 / M))) * (1 / 2048) : ℝ) : EReal) := by
    unfold gms
    rw [hxn, hms, hrs, c2048, half, Ideal.div_coe hp.ne', Ideal.div_coe (by norm_num), ← EReal.coe_mul, ← EReal.coe_mul, ← EReal.coe_mul, ← EReal.coe_mul]
  unfold stepRef step
  rw [hnx, Fin.sum_univ_one, hg, hrs, hX, hN, c2048, Ideal.div_coe (by norm_num)]
  simp only [← EReal.coe_mul, ← EReal.coe_add, ← EReal.coe_sub]
  congr 2
  rw [hRR]
  ring

/-- The finiteness of the row of gradients. -/
theorem row_real {a b g : EReal} (ha : IsR a) (hb : IsR b) (hg : IsR g) : IsR (a * (1 + b) * g) :=
  (ha.mul (IsR.add ⟨1, rfl⟩ hb)).mul hg

/-! ## Sums over rows -/

/-- A block of 256 rows. -/
def T (f : Fin 8448 → EReal) (t : Fin 33) : EReal := ∑ x : Fin 256, f ⟨256 * t.val + x.val, by omega⟩
/-- The context's rows. -/
def S0 (f : Fin 8448 → EReal) : EReal := ∑ x : Fin 256, f ⟨x.val, by omega⟩
/-- The latent rows. -/
def S1 (f : Fin 8448 → EReal) : EReal := ∑ x : Fin 8192, f ⟨256 + x.val, by omega⟩
/-- 0 at the context's block, 1 at the others. -/
def fl (t : ℕ) : EReal := if t = 0 then 0 else 1

theorem one_sub_one : (1 : EReal) - 1 = 0 := by
  rw [← EReal.coe_one, ← EReal.coe_sub, sub_self, EReal.coe_zero]

theorem sum_ctx (f : Fin 8448 → EReal) : ∑ t : Fin 33, T f t * (1 - fl t.val) = S0 f := by
  rw [Fin.sum_univ_succ, Finset.sum_eq_zero, add_zero]
  · simp [fl, T, S0]
  · intro t _
    simp [fl, one_sub_one]

theorem sum_lat (f : Fin 8448 → EReal) : ∑ t : Fin 33, T f t * fl t.val = S1 f := by
  rw [Fin.sum_univ_succ]
  have h : S1 f = ∑ t : Fin 32, ∑ x : Fin 256, f ⟨256 + (256 * t.val + x.val), by omega⟩ := by
    unfold S1
    rw [← (finProdFinEquiv (m := 32) (n := 256)).sum_comp, Fintype.sum_prod_type]
    refine Finset.sum_congr rfl fun t _ => Finset.sum_congr rfl fun x _ => congrArg f (Fin.ext ?_)
    simp [finProdFinEquiv]; omega
  rw [h]
  simp only [fl, Fin.val_zero, if_true, mul_zero, zero_add]
  refine Finset.sum_congr rfl fun t _ => ?_
  rw [if_neg (by simp), mul_one]
  refine Finset.sum_congr rfl fun x _ => congrArg f (Fin.ext ?_)
  simp; omega

theorem sum_all (f : Fin 8448 → EReal) : ∑ t : Fin 33, T f t = ∑ r, f r := by
  rw [← (finProdFinEquiv (m := 33) (n := 256)).sum_comp, Fintype.sum_prod_type]
  refine Finset.sum_congr rfl fun t _ => Finset.sum_congr rfl fun x _ => congrArg f (Fin.ext ?_)
  simp [finProdFinEquiv]; omega

/-! ## The results -/

section
variable (dx dh x z : Fin 8448 → Fin 2048 → EReal) (mods : Fin 2 → Fin 6 → Fin 2048 → EReal) (g : Fin 2048 → EReal)

/-- A row's half of the modulation: the context's or the example's. -/
def hf (r : Fin 8448) : Fin 2 := if r.val < 256 then 0 else 1
/-- The gradient of the norm's weighted row. -/
def ct (r : Fin 8448) (k : Fin 2048) : EReal := dh r k * (1 + mods (hf r) 4 k)
/-- The gradient of the norm's row before its weights. -/
def nrow (r : Fin 8448) (k : Fin 2048) : EReal := ct dh mods r k * g k
/-- The gradient that leaves the norm, summed with the one that came past it. -/
def DX (r : Fin 8448) (j : Fin 2048) : EReal := step (dx r j) (x r) (nrow dh mods g r) j
/-- The gradient of the gated summand. -/
def DZ (r : Fin 8448) (j : Fin 2048) : EReal := DX dx dh x mods g r j * mods (hf r) 2 j
/-- Eight rows of sums: the shift's gradient, the scale's, the weights', the gate's, and a row of zeros. -/
def terms (u : ℕ) (j : Fin 2048) (r : Fin 8448) : EReal :=
  if u < 2 then dh r j else if u < 4 then dh r j * (x r j * rs (x r) * g j) else if u = 4 then ct dh mods r j * (x r j * rs (x r))
    else DX dx dh x mods g r j * z r j
def ACC (u : ℕ) (j : Fin 2048) : EReal :=
  if u = 7 then 0 else if u = 4 then ∑ r, terms dx dh x z mods g u j r
    else if u = 0 ∨ u = 2 ∨ u = 5 then S0 (terms dx dh x z mods g u j) else S1 (terms dx dh x z mods g u j)
/-- What one block of rows adds. -/
def part (u : ℕ) (j : Fin 2048) (t : Fin 33) : EReal :=
  if u = 7 then 0 else if u = 4 then T (terms dx dh x z mods g u j) t
    else if u = 0 ∨ u = 2 ∨ u = 5 then T (terms dx dh x z mods g u j) t * (1 - fl t.val) else T (terms dx dh x z mods g u j) t * fl t.val

theorem sum_part (u : ℕ) (j : Fin 2048) : ∑ t, part dx dh x z mods g u j t = ACC dx dh x z mods g u j := by
  unfold part ACC
  split_ifs
  · exact Finset.sum_const_zero
  · exact sum_all _
  · exact sum_ctx _
  · exact sum_lat _

theorem ACC_shift (u : ℕ) (j : Fin 2048) (h : u < 2) : ACC dx dh x z mods g u j = if u = 0 then S0 (fun r => dh r j) else S1 (fun r => dh r j) := by
  have e : terms dx dh x z mods g u j = fun r => dh r j := funext fun r => by unfold terms; rw [if_pos h]
  unfold ACC
  rw [e, if_neg (by omega), if_neg (by omega)]
  exact if_congr (by omega) rfl rfl
theorem ACC_scale (u : ℕ) (j : Fin 2048) (h : ¬u < 2) (h' : u - 2 < 2) : ACC dx dh x z mods g u j
    = if u - 2 = 0 then S0 (fun r => dh r j * (x r j * rs (x r) * g j)) else S1 (fun r => dh r j * (x r j * rs (x r) * g j)) := by
  have e : terms dx dh x z mods g u j = fun r => dh r j * (x r j * rs (x r) * g j) :=
    funext fun r => by unfold terms; rw [if_neg h, if_pos (by omega)]
  unfold ACC
  rw [e, if_neg (by omega), if_neg (by omega)]
  exact if_congr (by omega) rfl rfl
theorem ACC_weights (u : ℕ) (j : Fin 2048) (h : ¬u < 2) (h' : ¬u - 2 < 2) (h4 : u - 2 - 2 < 1) :
    ACC dx dh x z mods g u j = ∑ r, ct dh mods r j * (x r j * rs (x r)) := by
  have e : terms dx dh x z mods g u j = fun r => ct dh mods r j * (x r j * rs (x r)) :=
    funext fun r => by unfold terms; rw [if_neg h, if_neg (by omega), if_pos (by omega)]
  unfold ACC
  rw [e, if_neg (by omega), if_pos (by omega)]
theorem ACC_gate (u : ℕ) (j : Fin 2048) (h : ¬u < 2) (h' : ¬u - 2 < 2) (h4 : ¬u - 2 - 2 < 1) (h5 : u - 2 - 2 - 1 < 2) :
    ACC dx dh x z mods g u j = if u - 2 - 2 - 1 = 0 then S0 (fun r => DX dx dh x mods g r j * z r j) else S1 (fun r => DX dx dh x mods g r j * z r j) := by
  have e : terms dx dh x z mods g u j = fun r => DX dx dh x mods g r j * z r j :=
    funext fun r => by unfold terms; rw [if_neg h, if_neg (by omega), if_neg (by omega)]
  unfold ACC
  rw [e, if_neg (by omega), if_neg (by omega)]
  exact if_congr (by omega) rfl rfl
theorem ACC_zero (u : ℕ) (j : Fin 2048) (h5 : ¬u - 2 - 2 - 1 < 2) (h8 : u < 8) : ACC dx dh x z mods g u j = 0 := by
  unfold ACC
  rw [if_pos (by omega)]
end

end Cert.Nb

end
-- ==== Proof.Back.Nb.lean ====
/- The backward pass of a norm that follows a gated sum: what the kernel's three results hold at the end. -/
module

public import proofs.«01_k».proof.Proof.Gen.KernelNbIdeal.Value
public import proofs.«01_k».proof.Proof.Back.NbSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelNbIdeal.Back

open Idealize.ShloMosaic Idealize.ShloMosaic.TcCoe Idealize.ShloMosaic.Tactic Cert.KernelNbIdeal.Gen Cert.Nb

theorem idx0 : ∀ t : Fin cfg0.N, win0_0.index t = ![t.val, 0] ∧ win0_1.index t = ![t.val, 0] ∧ win0_2.index t = ![t.val, 0]
    ∧ win0_3.index t = ![0, 0] ∧ win0_4.index t = ![if t.val = 0 then 0 else 1, 4, 0, 0] ∧ win0_5.index t = ![t.val, 0]
    ∧ win0_6.index t = ![if t.val = 0 then 0 else 1, 2, 0, 0] ∧ win0_7.index t = ![t.val, 0] ∧ win0_8.index t = ![t.val, 0]
    ∧ win0_9.index t = ![0, 0] :=
  (by decide +kernel : ∀ t : Fin grid0.N, _)

theorem latent : ∀ t : Fin cfg0.N, Scalar.cmpi .sge (BitVec.ofNat 32 (grid0.coords t 0).val) 1#32 = if t.val = 0 then 0#1 else 1#1 :=
  (by decide +kernel : ∀ t : Fin grid0.N, _)

/-! ## The blocks that are stored, from the blocks that are read -/

section
variable (x0 : FVec Ideal S256x2048 .f32) (x1 : FVec Ideal S256x2048 .bf16) (x2 : FVec Ideal S256x2048 .f32) (x3 : FVec Ideal S1x2048 .f32)
  (x4 : FVec Ideal S1x1x1x2048 .f32) (x5 : FVec Ideal S256x2048 .bf16) (x6 : FVec Ideal S1x1x1x2048 .f32)

/-- A block's row. -/
def row (x : Fin 256) (k : Fin 2048) : EReal := x2 (ix2 x k)
def cth (x : Fin 256) (k : Fin 2048) : EReal := x1 (ix2 x k) * (1 + x4 (ix4 (0 : Fin 1) (0 : Fin 1) (0 : Fin 1) k))
def nth (x : Fin 256) (k : Fin 2048) : EReal := cth x1 x4 x k * x3 (ix2 (0 : Fin 1) k)

theorem pay9_apply (y : S256x2048.Idx) :
    k0_pay9 (F := Ideal) (k0_pay3 x2) (k0_pay7 x3 x1 x4) x0 (k0_pay8 x2 x3 x1 x4) y = step (x0 y) (row x2 (y 0)) (nth x1 x3 x4 (y 0)) (y 1) := by
  pointwise [k0_pay9, k0_pay3, k0_pay7, k0_pay8, k0_pay4, k0_pay6, k0_pay5, step, rs, ms, row, nth, cth]

theorem pay19_apply (w : FVec Ideal S256x2048 .f32) (y : S256x2048.Idx) :
    k0_pay19 (F := Ideal) w x6 y = w y * x6 (ix4 (0 : Fin 1) (0 : Fin 1) (0 : Fin 1) (y 1)) := by
  pointwise [k0_pay19]

variable (w : Ideal .f32) (v : FVec Ideal S1x2048 .f32) (y : S1x2048.Idx)

theorem pay12_apply : k0_pay12 (F := Ideal) w (k0_pay5 x1) v y = v y + (∑ x : Fin 256, x1 (ix2 x (y 1))) * (1 - w) := by
  pointwise [k0_pay12, k0_pay10, k0_pay5]
theorem pay13_apply : k0_pay13 (F := Ideal) w (k0_pay5 x1) v y = v y + (∑ x : Fin 256, x1 (ix2 x (y 1))) * w := by
  pointwise [k0_pay13, k0_pay10, k0_pay5]
theorem pay14_apply : k0_pay14 (F := Ideal) w (k0_pay4 x2) x3 (k0_pay5 x1) v y
    = v y + (∑ x : Fin 256, x1 (ix2 x (y 1)) * (x2 (ix2 x (y 1)) * rs (row x2 x) * x3 (ix2 (0 : Fin 1) (y 1)))) * (1 - w) := by
  pointwise [k0_pay14, k0_pay11, k0_pay4, k0_pay3, k0_pay5, rs, ms, row]
theorem pay17_apply : k0_pay17 (F := Ideal) (k0_pay15 v) (k0_pay16 w (k0_pay4 x2) x3 (k0_pay5 x1)) y
    = v y + (∑ x : Fin 256, x1 (ix2 x (y 1)) * (x2 (ix2 x (y 1)) * rs (row x2 x) * x3 (ix2 (0 : Fin 1) (y 1)))) * w := by
  pointwise [k0_pay17, k0_pay15, k0_pay16, k0_pay11, k0_pay4, k0_pay3, k0_pay5, rs, ms, row]
theorem pay18_apply : k0_pay18 (F := Ideal) (k0_pay4 x2) (k0_pay6 x1 x4) v y
    = v y + ∑ x : Fin 256, cth x1 x4 x (y 1) * (x2 (ix2 x (y 1)) * rs (row x2 x)) := by
  pointwise [k0_pay18, k0_pay4, k0_pay3, k0_pay6, k0_pay5, rs, ms, row, cth]
theorem pay21_apply (u : FVec Ideal S256x2048 .f32) : k0_pay21 (F := Ideal) w u x5 v y
    = v y + (∑ x : Fin 256, u (ix2 x (y 1)) * x5 (ix2 x (y 1))) * (1 - w) := by
  pointwise [k0_pay21, k0_pay20]
theorem pay22_apply (u : FVec Ideal S256x2048 .f32) : k0_pay22 (F := Ideal) w u x5 v y
    = v y + (∑ x : Fin 256, u (ix2 x (y 1)) * x5 (ix2 x (y 1))) * w := by
  pointwise [k0_pay22, k0_pay20]
end

theorem pay2_eq (t : Fin cfg0.N) : k0_pay2 (F := Ideal) (grid0.coords t) = fl t.val := by
  have h := latent t
  pointwise [k0_pay2, fl]
  rw [h]
  split_ifs <;> simp [Scalar.select]

/-- The accumulator's seven rows, stored one by one over what it held. -/
theorem rows7 {κ : Kind} {sp : Space} (V : View sig κ sp S8x2048 .f32) (f : V.ty.Contents (Elt Ideal)) (w6 w5 w4 w3 w2 w1 w0 : S1x2048.Idx → EReal)
    (L : List (View.Piece (Elt Ideal) S8x2048 .f32)) (y : S8x2048.Idx) :
    V.read (Elt Ideal) (V.writes (Elt Ideal) f (⟨Rect.unit ![6, 0] ![1, 2048] inb_S8x2048_S1x2048_6_0, w6⟩ ::
      ⟨Rect.unit ![5, 0] ![1, 2048] inb_S8x2048_S1x2048_5_0, w5⟩ :: ⟨Rect.unit ![4, 0] ![1, 2048] inb_S8x2048_S1x2048_4_0, w4⟩ ::
      ⟨Rect.unit ![3, 0] ![1, 2048] inb_S8x2048_S1x2048_3_0, w3⟩ :: ⟨Rect.unit ![2, 0] ![1, 2048] inb_S8x2048_S1x2048_2_0, w2⟩ ::
      ⟨Rect.unit ![1, 0] ![1, 2048] inb_S8x2048_S1x2048_1_0, w1⟩ :: ⟨Rect.unit ![0, 0] ![1, 2048] inb_S8x2048_S1x2048_0_0, w0⟩ :: L)) y
    = if (y 0).val = 6 then w6 (ix2 (0 : Fin 1) (y 1)) else if (y 0).val = 5 then w5 (ix2 (0 : Fin 1) (y 1))
      else if (y 0).val = 4 then w4 (ix2 (0 : Fin 1) (y 1)) else if (y 0).val = 3 then w3 (ix2 (0 : Fin 1) (y 1))
      else if (y 0).val = 2 then w2 (ix2 (0 : Fin 1) (y 1)) else if (y 0).val = 1 then w1 (ix2 (0 : Fin 1) (y 1))
      else if (y 0).val = 0 then w0 (ix2 (0 : Fin 1) (y 1)) else V.read (Elt Ideal) (V.writes (Elt Ideal) f L) y := by
  have miss : ∀ (o : ℕ) (inb : ∀ a : Fin 2, (![o, 0] : Fin 2 → ℕ) a + (![1, 2048] : Fin 2 → ℕ) a ≤ S8x2048.size a) (w : S1x2048.Idx → EReal)
      (L : List (View.Piece (Elt Ideal) S8x2048 .f32)), ¬ (y 0).val = o →
      V.read (Elt Ideal) (V.writes (Elt Ideal) f (⟨Rect.unit ![o, 0] ![1, 2048] inb, w⟩ :: L)) y = V.read (Elt Ideal) (V.writes (Elt Ideal) f L) y :=
    fun o inb w L h => View.read_writes_cons_rows_of_not_mem (o := o) (W := 1) V f inb w L y rfl rfl (by omega)
  have hit : ∀ (o : ℕ) (inb : ∀ a : Fin 2, (![o, 0] : Fin 2 → ℕ) a + (![1, 2048] : Fin 2 → ℕ) a ≤ S8x2048.size a) (w : S1x2048.Idx → EReal)
      (L : List (View.Piece (Elt Ideal) S8x2048 .f32)), (y 0).val = o →
      V.read (Elt Ideal) (V.writes (Elt Ideal) f (⟨Rect.unit ![o, 0] ![1, 2048] inb, w⟩ :: L)) y = w (ix2 (0 : Fin 1) (y 1)) :=
    fun o inb w L h => View.read_writes_cons_rows_of_mem (o := o) V f inb w L y (ix2 (0 : Fin 1) (y 1)) rfl (by rw [h]; rfl) rfl
  split_ifs with h6 h5 h4 h3 h2 h1 h0
  · exact hit _ _ _ _ h6
  · exact (miss _ _ _ _ h6).trans (hit _ _ _ _ h5)
  · exact (miss _ _ _ _ h6).trans ((miss _ _ _ _ h5).trans (hit _ _ _ _ h4))
  · exact (miss _ _ _ _ h6).trans ((miss _ _ _ _ h5).trans ((miss _ _ _ _ h4).trans (hit _ _ _ _ h3)))
  · exact (miss _ _ _ _ h6).trans ((miss _ _ _ _ h5).trans ((miss _ _ _ _ h4).trans ((miss _ _ _ _ h3).trans (hit _ _ _ _ h2))))
  · exact (miss _ _ _ _ h6).trans ((miss _ _ _ _ h5).trans ((miss _ _ _ _ h4).trans ((miss _ _ _ _ h3).trans ((miss _ _ _ _ h2).trans
      (hit _ _ _ _ h1)))))
  · exact (miss _ _ _ _ h6).trans ((miss _ _ _ _ h5).trans ((miss _ _ _ _ h4).trans ((miss _ _ _ _ h3).trans ((miss _ _ _ _ h2).trans
      ((miss _ _ _ _ h1).trans (hit _ _ _ _ h0))))))
  · exact (miss _ _ _ _ h6).trans ((miss _ _ _ _ h5).trans ((miss _ _ _ _ h4).trans ((miss _ _ _ _ h3).trans ((miss _ _ _ _ h2).trans
      ((miss _ _ _ _ h1).trans (miss _ _ _ _ h0))))))

/-! ## The arguments -/

variable (m : (ℓ : Loc nD τ sig) → Buf (Elt Ideal) ℓ) (c : Dev nD)

def dx (r : Fin 8448) (k : Fin 2048) : EReal := (m ((c : Thread nD τ).loc main_arg0) : S8448x2048.Idx → EReal) (ix2 r k)
def dh (r : Fin 8448) (k : Fin 2048) : EReal := (m ((c : Thread nD τ).loc main_arg1) : S8448x2048.Idx → EReal) (ix2 r k)
def xin (r : Fin 8448) (k : Fin 2048) : EReal := (m ((c : Thread nD τ).loc main_arg2) : S8448x2048.Idx → EReal) (ix2 r k)
def zin (r : Fin 8448) (k : Fin 2048) : EReal := (m ((c : Thread nD τ).loc main_arg3) : S8448x2048.Idx → EReal) (ix2 r k)
def mods (h : Fin 2) (i : Fin 6) (k : Fin 2048) : EReal := (m ((c : Thread nD τ).loc main_arg4) : S2x6x1x2048.Idx → EReal) (ix4 h i (0 : Fin 1) k)
def gw (k : Fin 2048) : EReal := (m ((c : Thread nD τ).loc main_arg5) : S1x2048.Idx → EReal) (ix2 (0 : Fin 1) k)

section
variable (t : Fin cfg0.N) (x : Fin 256) (k : Fin 2048) (r : Fin 8448) (hr : r.val = 256 * t.val + x.val)
include hr
theorem b0 : (iblk m c 0 t : S256x2048.Idx → EReal) (ix2 x k) = dx m c r k := by unfold dx; blk_ext [iblk, V, idx0 t]
theorem b1 : (iblk m c 1 t : S256x2048.Idx → EReal) (ix2 x k) = dh m c r k := by unfold dh; blk_ext [iblk, V, idx0 t]
theorem b2 : (iblk m c 2 t : S256x2048.Idx → EReal) (ix2 x k) = xin m c r k := by unfold xin; blk_ext [iblk, V, idx0 t]
theorem b5 : (iblk m c 5 t : S256x2048.Idx → EReal) (ix2 x k) = zin m c r k := by unfold zin; blk_ext [iblk, V, idx0 t]
omit hr
theorem b3 : (iblk m c 3 t : S1x2048.Idx → EReal) (ix2 (0 : Fin 1) k) = gw m c k := by unfold gw; blk_ext [iblk, V, idx0 t]
include hr
theorem hf_eq : (hf r).val = if t.val = 0 then 0 else 1 := by
  unfold hf
  have := x.isLt
  split_ifs <;> first | rfl | omega
theorem b4 : (iblk m c 4 t : S1x1x1x2048.Idx → EReal) (ix4 (0 : Fin 1) (0 : Fin 1) (0 : Fin 1) k) = mods m c (hf r) 4 k := by
  have h := hf_eq t x r hr
  unfold mods; blk_ext [iblk, V, idx0 t]
theorem b6 : (iblk m c 6 t : S1x1x1x2048.Idx → EReal) (ix4 (0 : Fin 1) (0 : Fin 1) (0 : Fin 1) k) = mods m c (hf r) 2 k := by
  have h := hf_eq t x r hr
  unfold mods; blk_ext [iblk, V, idx0 t]
end

/-! ## One block's values -/

section
variable (t : Fin cfg0.N) (x : Fin 256) (r : Fin 8448) (hr : r.val = 256 * t.val + x.val)
include hr
theorem row_eq : row (iblk m c 2 t) x = xin m c r := funext fun k => b2 m c t x k r hr
theorem cth_eq (k : Fin 2048) : cth (iblk m c 1 t) (iblk m c 4 t) x k = ct (dh m c) (mods m c) r k := by
  unfold cth ct
  rw [b1 m c t x k r hr, b4 m c t x k r hr]
theorem nth_eq : nth (iblk m c 1 t) (iblk m c 3 t) (iblk m c 4 t) x = nrow (dh m c) (mods m c) (gw m c) r := funext fun k => by
  unfold nth nrow
  rw [cth_eq m c t x r hr, b3 m c t k]
theorem dx_eq (j : Fin 2048) : k0_pay9 (F := Ideal) (k0_pay3 (iblk m c 2 t)) (k0_pay7 (iblk m c 3 t) (iblk m c 1 t) (iblk m c 4 t)) (iblk m c 0 t)
    (k0_pay8 (iblk m c 2 t) (iblk m c 3 t) (iblk m c 1 t) (iblk m c 4 t)) (ix2 x j)
    = DX (dx m c) (dh m c) (xin m c) (mods m c) (gw m c) r j := by
  refine (pay9_apply _ _ _ _ _ _).trans ?_
  show step ((iblk m c 0 t : S256x2048.Idx → EReal) (ix2 x j)) (row (iblk m c 2 t) x) (nth (iblk m c 1 t) (iblk m c 3 t) (iblk m c 4 t) x) j = _
  rw [b0 m c t x j r hr, row_eq m c t x r hr, nth_eq m c t x r hr]
  rfl
end

theorem lt_row (t : Fin cfg0.N) (x : Fin 256) : 256 * t.val + x.val < 8448 := by
  have ht : t.val < 33 := lt_of_lt_of_eq t.isLt N_0
  omega

/-- The first output's block. -/
theorem out7 (t : Fin cfg0.N) : ((outsAt0 m c t.val t.isLt).1 : S256x2048.Idx → EReal)
    = k0_pay9 (F := Ideal) (k0_pay3 (iblk m c 2 t)) (k0_pay7 (iblk m c 3 t) (iblk m c 1 t) (iblk m c 4 t)) (iblk m c 0 t)
      (k0_pay8 (iblk m c 2 t) (iblk m c 3 t) (iblk m c 1 t) (iblk m c 4 t)) := by
  by_cases h : t.val % 33 = 0
  · rw [outsAt0_A m c t h]; frame_out
  · rw [outsAt0_B m c t h]; frame_out

/-- The second output's block. -/
theorem out8 (t : Fin cfg0.N) : ((outsAt0 m c t.val t.isLt).2.1 : S256x2048.Idx → EReal)
    = k0_pay19 (F := Ideal) (k0_pay9 (F := Ideal) (k0_pay3 (iblk m c 2 t)) (k0_pay7 (iblk m c 3 t) (iblk m c 1 t) (iblk m c 4 t)) (iblk m c 0 t)
      (k0_pay8 (iblk m c 2 t) (iblk m c 3 t) (iblk m c 1 t) (iblk m c 4 t))) (iblk m c 6 t) := by
  by_cases h : t.val % 33 = 0
  · rw [outsAt0_A m c t h]; frame_out
  · rw [outsAt0_B m c t h]; frame_out

theorem blk7 (t : Fin cfg0.N) (y : S256x2048.Idx) (r : Fin 8448) (j : Fin 2048) (hr : r.val = t.val * 256 + (y 0).val) (hj : j.val = (y 1).val) :
    k0_pay9 (F := Ideal) (k0_pay3 (iblk m c 2 t)) (k0_pay7 (iblk m c 3 t) (iblk m c 1 t) (iblk m c 4 t)) (iblk m c 0 t)
      (k0_pay8 (iblk m c 2 t) (iblk m c 3 t) (iblk m c 1 t) (iblk m c 4 t)) y = DX (dx m c) (dh m c) (xin m c) (mods m c) (gw m c) r j := by
  obtain rfl : j = y 1 := Fin.ext hj
  have hy : y = ix2 (y 0) (y 1) := by blk_ext
  exact (congrArg _ hy).trans (dx_eq m c t (y 0) r (by omega) (y 1))

theorem blk8 (t : Fin cfg0.N) (y : S256x2048.Idx) (r : Fin 8448) (j : Fin 2048) (hr : r.val = t.val * 256 + (y 0).val) (hj : j.val = (y 1).val) :
    k0_pay19 (F := Ideal) (k0_pay9 (F := Ideal) (k0_pay3 (iblk m c 2 t)) (k0_pay7 (iblk m c 3 t) (iblk m c 1 t) (iblk m c 4 t)) (iblk m c 0 t)
      (k0_pay8 (iblk m c 2 t) (iblk m c 3 t) (iblk m c 1 t) (iblk m c 4 t))) (iblk m c 6 t) y
      = DZ (dx m c) (dh m c) (xin m c) (mods m c) (gw m c) r j := by
  refine (pay19_apply _ _ _).trans (congrArg₂ (· * ·) (blk7 m c t y r j hr hj) ?_)
  obtain rfl : j = y 1 := Fin.ext hj
  exact b6 m c t (y 0) (y 1) r (by omega)

/-- The kernel's first result. -/
theorem final7 : ((dats m 0 c).arrAt 7 cfg0.N : S8448x2048.Idx → EReal) = fun u : S8448x2048.Idx =>
    DX (dx m c) (dh m c) (xin m c) (mods m c) (gw m c) (u 0) (u 1) := by
  refine (dats m 0 c).arrAt_eq_of_covers 7 _ (by decide +kernel) fun t hf y => ?_
  blk_simp
  rw [after0_7, out7]
  refine blk7 m c t y _ _ ?_ ?_ <;> blk_ext [idx0 t]

/-- The kernel's second result. -/
theorem final8 : ((dats m 0 c).arrAt 8 cfg0.N : S8448x2048.Idx → EReal) = fun u : S8448x2048.Idx =>
    DZ (dx m c) (dh m c) (xin m c) (mods m c) (gw m c) (u 0) (u 1) := by
  refine (dats m 0 c).arrAt_eq_of_covers 8 _ (by decide +kernel) fun t hf y => ?_
  blk_simp
  rw [after0_8, out8]
  refine blk8 m c t y _ _ ?_ ?_ <;> blk_ext [idx0 t]

/-! ## The accumulator -/

/-- An entry of a block, as a number. -/
def cell (f : S256x2048.Idx → EReal) (x : Fin 256) (j : Fin 2048) : EReal := f (ix2 x j)
def wt (f : S1x2048.Idx → EReal) (j : Fin 2048) : EReal := f (ix2 (0 : Fin 1) j)
/-- A row of the accumulator as it is loaded. -/
def ldr (X : S8x2048.Idx → EReal) (i : Fin 8) : S1x2048.Idx → EReal :=
  View.ld (Val := Elt Ideal) (e' := .f32) X (Rect.unit (s := S8x2048) ![i.val, 0] ![1, 2048] (by revert i; decide))
theorem ldr_apply (X : S8x2048.Idx → EReal) (i : Fin 8) (k : Fin 2048) : ldr X i (ix2 (0 : Fin 1) k) = X (ix2 i k) := by
  unfold ldr
  pointwise []

/-- The sum over one block's rows. -/
theorem T_eq (t : Fin cfg0.N) (f : Fin 256 → EReal) (F : Fin 8448 → EReal) (h : ∀ x : Fin 256, f x = F ⟨256 * t.val + x.val, lt_row t x⟩) :
    ∑ x, f x = T F ⟨t.val, lt_of_lt_of_eq t.isLt N_0⟩ :=
  Finset.sum_congr rfl fun x _ => h x

/-- What a point adds to the accumulator. -/
def term (t : Fin cfg0.N) (y : S8x2048.Idx) : EReal :=
  part (dx m c) (dh m c) (xin m c) (zin m c) (mods m c) (gw m c) (y 0).val (y 1) ⟨t.val, lt_of_lt_of_eq t.isLt N_0⟩

/-- The seven rows, each over what stood there. -/
theorem rows_eq (t : Fin cfg0.N) (v : Fin 8 → S1x2048.Idx → EReal) (W : S8x2048.Idx → EReal) (y : S8x2048.Idx)
    (hv : ∀ (i : Fin 8) (k : Fin 2048), v i (ix2 (0 : Fin 1) k) = W (ix2 i k)) :
    (if (y 0).val = 6 then k0_pay22 (F := Ideal) (k0_pay2 (grid0.coords t)) (k0_pay9 (F := Ideal) (k0_pay3 (iblk m c 2 t)) (k0_pay7 (iblk m c 3 t) (iblk m c 1 t) (iblk m c 4 t)) (iblk m c 0 t) (k0_pay8 (iblk m c 2 t) (iblk m c 3 t) (iblk m c 1 t) (iblk m c 4 t))) (iblk m c 5 t) (v 6) (ix2 (0 : Fin 1) (y 1))
      else if (y 0).val = 5 then k0_pay21 (F := Ideal) (k0_pay2 (grid0.coords t)) (k0_pay9 (F := Ideal) (k0_pay3 (iblk m c 2 t)) (k0_pay7 (iblk m c 3 t) (iblk m c 1 t) (iblk m c 4 t)) (iblk m c 0 t) (k0_pay8 (iblk m c 2 t) (iblk m c 3 t) (iblk m c 1 t) (iblk m c 4 t))) (iblk m c 5 t) (v 5) (ix2 (0 : Fin 1) (y 1))
      else if (y 0).val = 4 then k0_pay18 (F := Ideal) (k0_pay4 (iblk m c 2 t)) (k0_pay6 (iblk m c 1 t) (iblk m c 4 t)) (v 4) (ix2 (0 : Fin 1) (y 1))
      else if (y 0).val = 3 then k0_pay17 (F := Ideal) (k0_pay15 (v 3)) (k0_pay16 (k0_pay2 (grid0.coords t)) (k0_pay4 (iblk m c 2 t)) (iblk m c 3 t) (k0_pay5 (iblk m c 1 t))) (ix2 (0 : Fin 1) (y 1))
      else if (y 0).val = 2 then k0_pay14 (F := Ideal) (k0_pay2 (grid0.coords t)) (k0_pay4 (iblk m c 2 t)) (iblk m c 3 t) (k0_pay5 (iblk m c 1 t)) (v 2) (ix2 (0 : Fin 1) (y 1))
      else if (y 0).val = 1 then k0_pay13 (F := Ideal) (k0_pay2 (grid0.coords t)) (k0_pay5 (iblk m c 1 t)) (v 1) (ix2 (0 : Fin 1) (y 1))
      else if (y 0).val = 0 then k0_pay12 (F := Ideal) (k0_pay2 (grid0.coords t)) (k0_pay5 (iblk m c 1 t)) (v 0) (ix2 (0 : Fin 1) (y 1))
      else W y) = W y + term m c t y := by
  have hW : ∀ i : Fin 8, (y 0).val = i.val → v i (ix2 (0 : Fin 1) (y 1)) = W y := fun i h =>
    (hv i (y 1)).trans (congrArg W (by rw [show i = y 0 from Fin.ext h.symm]; blk_ext))
  have e1 : ∀ (j : Fin 2048), ∑ x : Fin 256, cell (iblk m c 1 t) x j
      = T (fun r => dh m c r j) ⟨t.val, lt_of_lt_of_eq t.isLt N_0⟩ := fun j => T_eq t _ _ fun x => b1 m c t x j _ rfl
  have e2 : ∀ (j : Fin 2048), ∑ x : Fin 256, cell (iblk m c 1 t) x j * (cell (iblk m c 2 t) x j * rs (row (iblk m c 2 t) x) * wt (iblk m c 3 t) j)
      = T (fun r => dh m c r j * (xin m c r j * rs (xin m c r) * gw m c j)) ⟨t.val, lt_of_lt_of_eq t.isLt N_0⟩ := fun j => T_eq t _ _ fun x => by
    unfold cell wt
    rw [b1 m c t x j ⟨256 * t.val + x.val, lt_row t x⟩ rfl, b2 m c t x j ⟨256 * t.val + x.val, lt_row t x⟩ rfl, b3 m c t j, row_eq m c t x ⟨256 * t.val + x.val, lt_row t x⟩ rfl]
  have e4 : ∀ (j : Fin 2048), ∑ x : Fin 256, cth (iblk m c 1 t) (iblk m c 4 t) x j * (cell (iblk m c 2 t) x j * rs (row (iblk m c 2 t) x))
      = T (fun r => ct (dh m c) (mods m c) r j * (xin m c r j * rs (xin m c r))) ⟨t.val, lt_of_lt_of_eq t.isLt N_0⟩ := fun j => T_eq t _ _ fun x => by
    unfold cell
    rw [cth_eq m c t x ⟨256 * t.val + x.val, lt_row t x⟩ rfl, b2 m c t x j ⟨256 * t.val + x.val, lt_row t x⟩ rfl, row_eq m c t x ⟨256 * t.val + x.val, lt_row t x⟩ rfl]
  have e5 : ∀ (j : Fin 2048), ∑ x : Fin 256, cell (k0_pay9 (F := Ideal) (k0_pay3 (iblk m c 2 t)) (k0_pay7 (iblk m c 3 t) (iblk m c 1 t) (iblk m c 4 t)) (iblk m c 0 t)
        (k0_pay8 (iblk m c 2 t) (iblk m c 3 t) (iblk m c 1 t) (iblk m c 4 t))) x j * cell (iblk m c 5 t) x j
      = T (fun r => DX (dx m c) (dh m c) (xin m c) (mods m c) (gw m c) r j * zin m c r j) ⟨t.val, lt_of_lt_of_eq t.isLt N_0⟩ := fun j => T_eq t _ _ fun x => by
    unfold cell
    rw [dx_eq m c t x ⟨256 * t.val + x.val, lt_row t x⟩ rfl, b5 m c t x j ⟨256 * t.val + x.val, lt_row t x⟩ rfl]
  have h7 := (y 0).isLt
  unfold term
  rw [pay2_eq]
  split_ifs with h6 h5 h4 h3 h2 h1 h0
  · refine (pay22_apply _ _ _ _ _).trans (congrArg₂ (· + ·) (hW 6 h6) ?_)
    rw [h6]; exact congrArg (· * _) (e5 _)
  · refine (pay21_apply _ _ _ _ _).trans (congrArg₂ (· + ·) (hW 5 h5) ?_)
    rw [h5]; exact congrArg (· * _) (e5 _)
  · refine (pay18_apply _ _ _ _ _).trans (congrArg₂ (· + ·) (hW 4 h4) ?_)
    rw [h4]; exact e4 _
  · refine (pay17_apply _ _ _ _ _ _).trans (congrArg₂ (· + ·) (hW 3 h3) ?_)
    rw [h3]; exact congrArg (· * _) (e2 _)
  · refine (pay14_apply _ _ _ _ _ _).trans (congrArg₂ (· + ·) (hW 2 h2) ?_)
    rw [h2]; exact congrArg (· * _) (e2 _)
  · refine (pay13_apply _ _ _ _).trans (congrArg₂ (· + ·) (hW 1 h1) ?_)
    rw [h1]; exact congrArg (· * _) (e1 _)
  · refine (pay12_apply _ _ _ _).trans (congrArg₂ (· + ·) (hW 0 h0) ?_)
    rw [h0]; exact congrArg (· * _) (e1 _)
  · have h : (y 0).val = 7 := by have : (y 0).val < 8 := h7; omega
    rw [h]; exact (add_zero _).symm

theorem A9 (t : Fin cfg0.N) (h : t.val % 33 = 0) (y : S8x2048.Idx) : ((outsAt0 m c t.val t.isLt).2.2 : S8x2048.Idx → EReal) y = 0 + term m c t y := by
  rw [outsAt0_A m c t h]
  frame_open
  simp (disch := decide) only [↓ View.readCov_skip, ↓ View.readCov_cons_toLoadRect, ↓ View.readCov_fill]
  frame_out
  have e := rows_eq m c t (ldr (k0_pay1 (F := Ideal))) (k0_pay1 (F := Ideal)) y (ldr_apply _)
  have z : k0_pay1 (F := Ideal) y = 0 := by pointwise [k0_pay1]
  rw [z] at e
  refine Eq.trans ?_ e
  rw [← View.read_writes_junk_eq_canon (ms0_9 t).view]
  refine (rows7 _ _ _ _ _ _ _ _ _ _ y).trans ?_
  have hz : View.read (Elt Ideal) (ms0_9 t).view ((ms0_9 t).view.writes (Elt Ideal) (ms0_9 t).view.junk
      [⟨Rect.unit ![0, 0] ![8, 2048] inb_S8x2048_S8x2048_0_0, k0_pay1 (F := Ideal)⟩]) y = 0 :=
    (View.read_writes_cons_rows_of_mem (o := 0) _ _ _ _ _ y y rfl (by simp) rfl).trans z
  rw [hz]
  rfl

theorem B9 (t : Fin cfg0.N) (h : ¬ t.val % 33 = 0) (y : S8x2048.Idx) : ((outsAt0 m c t.val t.isLt).2.2 : S8x2048.Idx → EReal) y
    = ((outsAt0 m c (t.val - 1) (Nat.lt_of_le_of_lt (Nat.sub_le _ _) t.isLt)).2.2 : S8x2048.Idx → EReal) y + term m c t y := by
  rw [outsAt0_B m c t h]
  frame_out
  refine Eq.trans ?_ (rows_eq m c t (ldr (outsAt0 m c (t.val - 1) (Nat.lt_of_le_of_lt (Nat.sub_le _ _) t.isLt)).2.2) _ y (ldr_apply _))
  refine (rows7 _ _ _ _ _ _ _ _ _ _ y).trans ?_
  rw [show View.read (Elt Ideal) (ms0_9 t).view ((ms0_9 t).view.writes (Elt Ideal) ((hs0_9 t).unread
    (outsAt0 m c (t.val - 1) (Nat.lt_of_le_of_lt (Nat.sub_le _ _) t.isLt)).2.2) []) = (outsAt0 m c (t.val - 1) (Nat.lt_of_le_of_lt (Nat.sub_le _ _) t.isLt)).2.2
    from (hs0_9 t).read_unread _]
  rfl

/-- The kernel's third result. -/
theorem final9 : ((dats m 0 c).arrAt 9 cfg0.N : S8x2048.Idx → EReal) = fun u : S8x2048.Idx =>
    ACC (dx m c) (dh m c) (xin m c) (zin m c) (mods m c) (gw m c) (u 0).val (u 1) := by
  refine (dats m 0 c).arrAt_eq_of_covers 9 _ (by decide +kernel) fun t hf y => ?_
  have ht : t.val < 33 := lt_of_lt_of_eq t.isLt N_0
  have hr : t.val % 33 = 33 - 1 := (flush0_9 t).mp hf
  blk_simp
  rw [after0_9]
  refine (Pipeline.eq_sum_fin_of_reset_step_apply_of_flush (fun n h => ((outsAt0 m c n h).2.2 : S8x2048.Idx → EReal)) 33 (fun _ => 0)
    (term m c) (A9 m c) (B9 m c) t hr y).trans ?_
  rw [zero_add]
  refine (Finset.sum_congr rfl fun s _ => ?_).trans ((sum_part (dx m c) (dh m c) (xin m c) (zin m c) (mods m c) (gw m c)
    ((y : S8x2048.Idx) 0).val ((y : S8x2048.Idx) 1)).trans (congrArg₂ (ACC (dx m c) (dh m c) (xin m c) (zin m c) (mods m c) (gw m c)) ?_ (Fin.ext ?_)))
  · unfold term
    congr 1
    refine Fin.ext ?_
    show 33 * (t.val / 33) + s.val = s.val
    omega
  · blk_ext [idx0 t]
  · blk_ext [idx0 t]

end Cert.KernelNbIdeal.Back
end
-- ==== Proof.Back.NbRef.lean ====
/- The backward pass of a norm that follows a gated sum: the reference's three results. -/
module

public import proofs.«01_k».proof.Proof.Gen.ReferenceNbIdeal.Read
public import proofs.«01_k».proof.Proof.Back.NbSpec
public import Idealize.ShloMosaic.Lib.Pipeline.ValueKit

@[expose] public section

set_option maxRecDepth 16384

noncomputable section

namespace Cert.ReferenceNbIdeal.Back

open Idealize.ShloMosaic Idealize.ShloMosaic.TcCoe Idealize.ShloMosaic.Tactic Cert.ReferenceNbIdeal.Gen Cert.ReferenceNbIdeal.Read Cert.Nb Cert.Row

/-- The arguments by row and column. -/
def cur (x : S8448x2048.Idx → EReal) (r : Fin 8448) (k : Fin 2048) : EReal := x (ix2 r k)
def mo (x : S2x6x1x2048.Idx → EReal) (h : Fin 2) (i : Fin 6) (k : Fin 2048) : EReal := x (ix4 h i (0 : Fin 1) k)
def ve (x : S1x2048.Idx → EReal) (k : Fin 2048) : EReal := x (ix2 (0 : Fin 1) k)

variable (x0 : FVec Ideal S8448x2048 .f32) (x1 : FVec Ideal S8448x2048 .bf16) (x2 : FVec Ideal S8448x2048 .f32) (x3 : FVec Ideal S8448x2048 .bf16)
  (x4 : FVec Ideal S2x6x1x2048 .f32) (x5 : FVec Ideal S1x2048 .f32)

theorem v84_eq : val_main_v84 (F := Ideal) x1 x4 = fun u : S8448x2048.Idx => ct (cur x1) (mo x4) (u 0) (u 1) := by
  funext u
  pointwise [val_main_v84, val_main_v83, val_main_cst_18, val_main_v75, val_main_v74, val_main_v67, val_main_cst_11, val_main_v61, val_main_v60, val_main_v53, val_main_v52, val_main_v45, val_main_v44, val_main_v43, val_main_cst_4, val_main_v42, val_main_v41, val_main_v32, val_main_v31, val_main_v30, val_main_cst_3, val_main_v29, val_main_v28, val_main_v7, val_main_v6, val_main_v0, ct, cur, mo, hf]
  have hu : (u 0).val < 8448 := (u 0).isLt
  split_ifs with h1 h2 h2
  · omega
  · simp only [add_zero]
    congr 1 <;> blk_ext
  · simp only [zero_add]
  · omega

variable (h1 : ∀ r k, IsR (cur x1 r k)) (h2 : ∀ r k, IsR (cur x2 r k)) (h4 : ∀ h i k, IsR (mo x4 h i k)) (h5 : ∀ k, IsR (ve x5 k))

include h1 h2 h4 h5 in
theorem v106_eq : val_main_v106 (F := Ideal) x0 x1 x2 x4 x5 = fun u : S8448x2048.Idx => DX (cur x0) (cur x1) (cur x2) (mo x4) (ve x5) (u 0) (u 1) := by
  funext u
  refine Eq.trans ?_ (step_eq _ (cur x2 (u 0)) (nrow (cur x1) (mo x4) (ve x5) (u 0)) (h2 (u 0)) (fun k => row_real (h1 (u 0) k) (h4 _ _ k) (h5 k)) (u 1))
  pointwise [val_main_v106, val_main_v104, val_main_v103, val_main_v102, val_main_v101, val_main_v100, val_main_v99, val_main_cst_23, val_main_v98, val_main_v97, val_main_cst_22, val_main_v96, val_main_v95, val_main_v94, val_main_v93, val_main_v92, val_main_cst_21, val_main_v91, val_main_v89, val_main_v88, val_main_v22, val_main_v19, val_main_v18, val_main_cst_2, val_main_v17, val_main_v16, val_main_v15, val_main_v14, val_main_cst_1, val_main_v13, val_main_v12, val_main_cst_0, val_main_v11, val_main_v10, val_main_cst, val_main_v9, val_main_v8, stepRef, gms, rs, ms, nrow, cur, ve, v84_eq]

include h1 h2 h4 h5 in
theorem v144_eq : val_main_v144 (F := Ideal) x0 x1 x2 x4 x5 = fun u : S8448x2048.Idx => DZ (cur x0) (cur x1) (cur x2) (mo x4) (ve x5) (u 0) (u 1) := by
  funext u
  have hv := v106_eq x0 x1 x2 x4 x5 h1 h2 h4 h5
  pointwise [val_main_v144, val_main_v143, val_main_v142, val_main_cst_32, val_main_v134, val_main_v133, val_main_v132, val_main_cst_28, val_main_v125, val_main_v124, val_main_v123, val_main_v122, val_main_v117, val_main_v116, val_main_v115, val_main_v111, val_main_v110, val_main_v109, val_main_v3, val_main_v2, DZ, hv, mo, hf]
  have hu : (u 0).val < 8448 := (u 0).isLt
  split_ifs with h1 h2 h2
  · omega
  · simp only [add_zero]
    refine (mul_comm _ _).trans (congrArg (· * _) ?_)
    refine congrArg (fun r => DX (cur x0) (cur x1) (cur x2) (mo x4) (ve x5) r (u 1)) (Fin.ext ?_)
    show 256 + ((u 0).val - 256) = (u 0).val
    omega
  · simp only [zero_add]
    exact mul_comm _ _
  · omega

theorem v82_eq (i : Fin 2) (j : Fin 2048) : val_main_v82 (F := Ideal) x1 (ix2 i j)
    = if i.val = 0 then S0 (fun r => cur x1 r j) else S1 (fun r => cur x1 r j) := by
  pointwise [val_main_v82, val_main_v81, val_main_cst_17, val_main_v80, val_main_v70, val_main_cst_13, val_main_v69, val_main_v68, val_main_cst_12, val_main_v66, val_main_cst_10, val_main_v65, val_main_v56, val_main_cst_6, val_main_v55, val_main_v54, val_main_cst_5, val_main_v53, val_main_v52, val_main_v0, S0, S1, cur]
  have hi := i.isLt
  split_ifs <;> first | omega | simp only [zero_add, add_zero, Fin.sum_univ_one]
theorem v79_eq (i : Fin 2) (j : Fin 2048) : val_main_v79 (F := Ideal) x1 x2 x5 (ix2 i j)
    = if i.val = 0 then S0 (fun r => cur x1 r j * (cur x2 r j * rs (cur x2 r) * ve x5 j)) else S1 (fun r => cur x1 r j * (cur x2 r j * rs (cur x2 r) * ve x5 j)) := by
  pointwise [val_main_v79, val_main_v78, val_main_cst_16, val_main_v77, val_main_v76, val_main_cst_15, val_main_v73, val_main_v72, val_main_cst_14, val_main_v71, val_main_v64, val_main_cst_9, val_main_v63, val_main_v62, val_main_cst_8, val_main_v59, val_main_v58, val_main_cst_7, val_main_v57, val_main_v53, val_main_v52, val_main_v38, val_main_v25, val_main_v24, val_main_v23, val_main_v22, val_main_v21, val_main_v20, val_main_v16, val_main_v15, val_main_v14, val_main_cst_1, val_main_v13, val_main_v12, val_main_cst_0, val_main_v11, val_main_v10, val_main_cst, val_main_v9, val_main_v8, val_main_v0, S0, S1, cur, ve, rs, ms]
  have hi := i.isLt
  split_ifs <;> first
    | omega
    | (simp only [zero_add, add_zero, Fin.sum_univ_one]; exact Finset.sum_congr rfl fun x _ => mul_comm _ _)
theorem v105_eq (j : Fin 2048) : val_main_v105 (F := Ideal) x1 x2 x4 (ix2 (0 : Fin 1) j)
    = ∑ r, ct (cur x1) (mo x4) r j * (cur x2 r j * rs (cur x2 r)) := by
  pointwise [val_main_v105, val_main_v90, val_main_cst_20, val_main_v87, val_main_v86, val_main_cst_19, val_main_v85, val_main_v21, val_main_v20, val_main_v16, val_main_v15, val_main_v14, val_main_cst_1, val_main_v13, val_main_v12, val_main_cst_0, val_main_v11, val_main_v10, val_main_cst, val_main_v9, cur, rs, ms, v84_eq]
  simp only [Fin.sum_univ_one]
  exact Finset.sum_congr rfl fun x _ => mul_comm _ _
include h1 h2 h4 h5 in
theorem v141_eq (i : Fin 2) (j : Fin 2048) : val_main_v141 (F := Ideal) x0 x1 x2 x3 x4 x5 (ix2 i j)
    = if i.val = 0 then S0 (fun r => DX (cur x0) (cur x1) (cur x2) (mo x4) (ve x5) r j * cur x3 r j) else S1 (fun r => DX (cur x0) (cur x1) (cur x2) (mo x4) (ve x5) r j * cur x3 r j) := by
  have hv := v106_eq x0 x1 x2 x4 x5 h1 h2 h4 h5
  pointwise [val_main_v141, val_main_v140, val_main_cst_31, val_main_v139, val_main_v138, val_main_cst_30, val_main_v137, val_main_v136, val_main_cst_29, val_main_v135, val_main_v131, val_main_cst_27, val_main_v130, val_main_v129, val_main_cst_26, val_main_v128, val_main_v127, val_main_cst_25, val_main_v126, val_main_v123, val_main_v122, val_main_v114, val_main_v108, val_main_v1, S0, S1, hv]
  have hi := i.isLt
  split_ifs <;> first
    | omega
    | (simp only [zero_add, add_zero, Fin.sum_univ_one]; rfl)
include h1 h2 h4 h5 in
theorem v146_eq : val_main_v146 (F := Ideal) x0 x1 x2 x3 x4 x5 = fun u : S8x2048.Idx => ACC (cur x0) (cur x1) (cur x2) (cur x3) (mo x4) (ve x5) (u 0).val (u 1) := by
  funext u
  pointwise [val_main_v146, val_main_v145, val_main_cst_33]
  have hu : (u 0).val < 8 := (u 0).isLt
  by_cases a2 : (u 0).val < 2
  · rw [dif_pos a2]
    exact (v82_eq x1 _ _).trans (ACC_shift _ _ _ _ _ _ _ _ a2).symm
  rw [dif_neg a2]
  by_cases a4 : (u 0).val - 2 < 2
  · rw [dif_pos a4]
    exact (v79_eq x1 x2 x5 _ _).trans (ACC_scale _ _ _ _ _ _ _ _ a2 a4).symm
  rw [dif_neg a4]
  by_cases a5 : (u 0).val - 2 - 2 < 1
  · rw [dif_pos a5]
    exact (congrArg (fun i : Fin 1 => val_main_v105 (F := Ideal) x1 x2 x4 (ix2 i (u 1))) (Subsingleton.elim _ _)).trans
      ((v105_eq x1 x2 x4 (u 1)).trans (ACC_weights _ _ _ _ _ _ _ _ a2 a4 a5).symm)
  rw [dif_neg a5]
  by_cases a7 : (u 0).val - 2 - 2 - 1 < 2
  · rw [dif_pos a7]
    exact (v141_eq x0 x1 x2 x3 x4 x5 h1 h2 h4 h5 _ _).trans (ACC_gate _ _ _ _ _ _ _ _ a2 a4 a5 a7).symm
  rw [dif_neg a7]
  exact (ACC_zero _ _ _ _ _ _ _ _ a7 hu).symm

end Cert.ReferenceNbIdeal.Back
end
-- ==== Proof.Back.RbSpec.lean ====
/- The backward pass of the rotary position embedding: what both programs compute. -/
module

public import proofs.«01_k».proof.Proof.Attn.Consts

@[expose] public section

noncomputable section

namespace Cert.Rb

open Idealize.ShloMosaic

/-- The angle at position `p` of frequency `f`: `p · 10000^(−2f/32)`. -/
def ang (p f : ℕ) : EReal :=
  (FloatOps.sitofp .f32 (BitVec.ofNat 32 p) : Ideal .f32)
    * Ideal.pow (Ideal.ofBits .f32 0x461C4000#32)
        (Ideal.div (-(Ideal.ofBits .f32 0x40000000#32 * (FloatOps.sitofp .f32 (BitVec.ofNat 32 f) : Ideal .f32))) (Ideal.ofBits .f32 0x42000000#32))

/-- The angle of column `k` in latent row `s` of 8192: of a head's 64 columns the first half turns with the row of the grid of
    128 by 64 positions, the second half with its column. -/
def th (s k : ℕ) : EReal := ang (if k % 64 < 32 then s / 64 else s % 64) (k % 16)
def co (s k : ℕ) : EReal := Ideal.cos (th s k)
def si (s k : ℕ) : EReal := Ideal.sin (th s k)

/-- The gradient turned back, at row `r` and column `k`: context rows are left as they are; of each 32 columns the first 16 pair
    with the last 16. -/
def rot {n : ℕ} (x : Fin 8448 → Fin n → EReal) (r : Fin 8448) (k : Fin n) : EReal :=
  if r.val < 256 then x r k
  else if k.val % 32 < 16 then
    x r ⟨(k.val + 16) % n, Nat.mod_lt _ (Nat.zero_lt_of_lt k.isLt)⟩ * si (r.val - 256) k.val + x r k * co (r.val - 256) k.val
  else x r k * co (r.val - 256) k.val + -x r ⟨k.val - 16, lt_of_le_of_lt (Nat.sub_le _ _) k.isLt⟩ * si (r.val - 256) k.val

/-- The result: the last 1536 columns hold the turned gradients of the queries and of the keys and the gradient of the values, the
    others are as given. -/
def RB (q : Fin 8448 → Fin 1024 → EReal) (k v : Fin 8448 → Fin 256 → EReal) (p : Fin 8448 → Fin 4608 → EReal) (r : Fin 8448) (j : Fin 4608) :
    EReal :=
  if h : j.val < 3072 then p r j
  else if h1 : j.val < 4096 then rot q r ⟨j.val - 3072, by omega⟩
  else if h2 : j.val < 4352 then rot k r ⟨j.val - 4096, by omega⟩
  else v r ⟨j.val - 4352, by omega⟩

section
variable (q : Fin 8448 → Fin 1024 → EReal) (k v : Fin 8448 → Fin 256 → EReal) (p : Fin 8448 → Fin 4608 → EReal) (r : Fin 8448) (j : Fin 4608)
theorem RB_p (h : j.val < 3072) : RB q k v p r j = p r j := by
  unfold RB
  rw [dif_pos h]
theorem RB_q (l : Fin 1024) (h : j.val = 3072 + l.val) : RB q k v p r j = rot q r l := by
  unfold RB
  rw [dif_neg (by omega), dif_pos (by omega)]
  exact congrArg (rot q r) (Fin.ext (by dsimp only; omega))
theorem RB_k (l : Fin 256) (h : j.val = 4096 + l.val) : RB q k v p r j = rot k r l := by
  unfold RB
  rw [dif_neg (by omega), dif_neg (by omega), dif_pos (by omega)]
  exact congrArg (rot k r) (Fin.ext (by dsimp only; omega))
theorem RB_v (l : Fin 256) (h : j.val = 4352 + l.val) : RB q k v p r j = v r l := by
  unfold RB
  rw [dif_neg (by omega), dif_neg (by omega), dif_neg (by omega)]
  exact congrArg (v r) (Fin.ext (by dsimp only; omega))
end

/-- The three tables by which the kernel turns: the cosines, and the sines that meet the columns after and before. -/
def tc (r l : ℕ) : EReal := if r < 256 then 1 else co (r - 256) l
def ta (r l : ℕ) : EReal := if r < 256 then 0 else if l % 32 < 16 then 0 else si (r - 256) l
def tb (r l : ℕ) : EReal := if r < 256 then 0 else if l % 32 < 16 then -si (r - 256) l else 0

theorem th_mod (s k l : ℕ) (h : k % 64 = l % 64) : th s k = th s l := by
  unfold th
  rw [h, show k % 16 = l % 16 by omega]

/-- The kernel's three products are the turned gradient: those that have no partner meet a zero. -/
theorem rot_eq {n : ℕ} (hn : n % 128 = 0) (x : Fin 8448 → Fin n → EReal) (r : Fin 8448) (k a b : Fin n) (ha : a.val = (k.val + 16) % n)
    (hb : b.val = (k.val + (n - 16)) % n) :
    x r k * tc r.val (k.val % 128) + x r a * ta r.val (a.val % 128) + x r b * tb r.val (b.val % 128) = rot x r k := by
  have hk := k.isLt
  have h128 : a.val % 128 = (k.val + 16) % 128 := by
    rw [ha, Nat.mod_mod_of_dvd _ (Nat.dvd_of_mod_eq_zero hn)]
  have h128b : b.val % 128 = (k.val + (n - 16)) % 128 := by
    rw [hb, Nat.mod_mod_of_dvd _ (Nat.dvd_of_mod_eq_zero hn)]
  have ec : co (r.val - 256) (k.val % 128) = co (r.val - 256) k.val := congrArg Ideal.cos (th_mod _ _ _ (by omega))
  unfold rot tc ta tb
  by_cases hr : r.val < 256
  · rw [if_pos hr, if_pos hr, if_pos hr, if_pos hr, mul_one, mul_zero, mul_zero, add_zero, add_zero]
  · rw [if_neg hr, if_neg hr, if_neg hr, if_neg hr, ec]
    by_cases h : k.val % 32 < 16
    · have es : si (r.val - 256) (a.val % 128) = si (r.val - 256) k.val := by
        unfold si th
        rw [show (a.val % 128) % 16 = k.val % 16 by omega]
        congr 2
        by_cases h' : k.val % 64 < 32
        · rw [if_pos h', if_pos (by omega)]
        · rw [if_neg h', if_neg (by omega)]
      rw [if_pos h, if_neg (by omega), if_neg (by omega), es, mul_zero, add_zero, add_comm]
      have : a = ⟨(k.val + 16) % n, Nat.mod_lt _ (Nat.zero_lt_of_lt k.isLt)⟩ := Fin.ext ha
      rw [this]
    · have es : si (r.val - 256) (b.val % 128) = si (r.val - 256) k.val := by
        unfold si th
        rw [show (b.val % 128) % 16 = k.val % 16 by omega]
        congr 2
        by_cases h' : k.val % 64 < 32
        · rw [if_pos h', if_pos (by omega)]
        · rw [if_neg h', if_neg (by omega)]
      rw [if_neg h, if_pos (by omega), if_pos (by omega), es, mul_zero, add_zero]
      have : b = ⟨k.val - 16, lt_of_le_of_lt (Nat.sub_le _ _) k.isLt⟩ := Fin.ext (by
        show b.val = k.val - 16
        rw [hb, show k.val + (n - 16) = (k.val - 16) + n by omega, Nat.add_mod_right, Nat.mod_eq_of_lt (by omega)])
      rw [this, mul_neg, neg_mul]

end Cert.Rb
end
-- ==== Proof.Back.Rb.lean ====
/- The backward pass of the rotary position embedding: what the kernel's result holds at the end. -/
module

public import proofs.«01_k».proof.Proof.Gen.KernelRbIdeal.Value
public import proofs.«01_k».proof.Proof.Back.RbSpec
public import Idealize.ShloMosaic.Lib.Pipeline.ValueKit
public import Idealize.ShloMosaic.Lib.WritesUnit

@[expose] public section

set_option maxRecDepth 16384

noncomputable section

namespace Cert.KernelRbIdeal.Back

open Idealize.ShloMosaic Idealize.ShloMosaic.TcCoe Idealize.ShloMosaic.Tactic Cert.KernelRbIdeal.Gen Cert.Rb

/-! ## The blocks that are stored, from the blocks that are read -/

section
variable (v v0 v2 v4 : FVec Ideal S768x128 .f32) (q : FVec Ideal S768x1024 .f32) (k : FVec Ideal S768x256 .f32)

/-- A table of 128 columns, eight times and twice. -/
def rep8 : FVec Ideal S768x1024 .f32 :=
  concatenate S768x1024 1 [⟨S768x128, k0_pay1 v⟩, ⟨S768x128, k0_pay1 v⟩, ⟨S768x128, k0_pay1 v⟩, ⟨S768x128, k0_pay1 v⟩, ⟨S768x128, k0_pay1 v⟩, ⟨S768x128, k0_pay1 v⟩, ⟨S768x128, k0_pay1 v⟩, ⟨S768x128, k0_pay1 v⟩] concatenates_S768x128_S768x128_S768x128_S768x128_S768x128_S768x128_S768x128_S768x128_S768x1024_d1
def rep2 : FVec Ideal S768x256 .f32 :=
  concatenate S768x256 1 [⟨S768x128, k0_pay1 v⟩, ⟨S768x128, k0_pay1 v⟩] concatenates_S768x128_S768x128_S768x256_d1

theorem rep8_apply (x : Fin 768) (l : Fin 1024) : rep8 v (ix2 x l) = v (ix2 x (⟨l.val % 128, by omega⟩ : Fin 128)) := by
  have h : ∀ a : Fin 128, a.val = l.val % 128 → v (ix2 x a) = v (ix2 x (⟨l.val % 128, by omega⟩ : Fin 128)) := fun a e =>
    congrArg (fun b : Fin 128 => v (ix2 x b)) (Fin.ext e)
  have hl := l.isLt
  pointwise [rep8, k0_pay1]
  split_ifs <;> (refine h _ ?_; dsimp only; omega)
theorem rep2_apply (x : Fin 768) (l : Fin 256) : rep2 v (ix2 x l) = v (ix2 x (⟨l.val % 128, by omega⟩ : Fin 128)) := by
  have h : ∀ a : Fin 128, a.val = l.val % 128 → v (ix2 x a) = v (ix2 x (⟨l.val % 128, by omega⟩ : Fin 128)) := fun a e =>
    congrArg (fun b : Fin 128 => v (ix2 x b)) (Fin.ext e)
  have hl := l.isLt
  pointwise [rep2, k0_pay1]
  split_ifs <;> (refine h _ ?_; dsimp only; omega)

theorem pay4_apply (x : Fin 768) (l a b : Fin 1024) (ha : a.val = (l.val + 16) % 1024) (hb : b.val = (l.val + (1024 - 16)) % 1024) :
    k0_pay4 (F := Ideal) v0 v2 v4 q (ix2 x l) = q (ix2 x l) * v0 (ix2 x (⟨l.val % 128, by omega⟩ : Fin 128))
      + q (ix2 x a) * v2 (ix2 x (⟨a.val % 128, by omega⟩ : Fin 128)) + q (ix2 x b) * v4 (ix2 x (⟨b.val % 128, by omega⟩ : Fin 128)) := by
  have e : k0_pay4 (F := Ideal) v0 v2 v4 q = truncf .bf16 (addf (addf (mulf q (rep8 v0))
      (dynamicRotate 1 1008#32 none (mulf q (rep8 v2)) rotates_S768x1024_d1)) (dynamicRotate 1 16#32 none (mulf q (rep8 v4)) rotates_S768x1024_d1))
      bitsLt_bf16_f32 := rfl
  have ea : a = ⟨(l.val + 1024 - 1008) % 1024, by omega⟩ := Fin.ext (by rw [ha]; dsimp only; omega)
  have eb : b = ⟨(l.val + 1024 - 16) % 1024, by omega⟩ := Fin.ext (by rw [hb]; dsimp only; omega)
  rw [e, ← rep8_apply v0, ← rep8_apply v2, ← rep8_apply v4, ea, eb]
  pointwise
theorem pay5_apply (x : Fin 768) (l a b : Fin 256) (ha : a.val = (l.val + 16) % 256) (hb : b.val = (l.val + (256 - 16)) % 256) :
    k0_pay5 (F := Ideal) v0 v2 v4 k (ix2 x l) = k (ix2 x l) * v0 (ix2 x (⟨l.val % 128, by omega⟩ : Fin 128))
      + k (ix2 x a) * v2 (ix2 x (⟨a.val % 128, by omega⟩ : Fin 128)) + k (ix2 x b) * v4 (ix2 x (⟨b.val % 128, by omega⟩ : Fin 128)) := by
  have e : k0_pay5 (F := Ideal) v0 v2 v4 k = truncf .bf16 (addf (addf (mulf k (rep2 v0))
      (dynamicRotate 1 240#32 none (mulf k (rep2 v2)) rotates_S768x256_d1)) (dynamicRotate 1 16#32 none (mulf k (rep2 v4)) rotates_S768x256_d1))
      bitsLt_bf16_f32 := rfl
  have ea : a = ⟨(l.val + 256 - 240) % 256, by omega⟩ := Fin.ext (by rw [ha]; dsimp only; omega)
  have eb : b = ⟨(l.val + 256 - 16) % 256, by omega⟩ := Fin.ext (by rw [hb]; dsimp only; omega)
  rw [e, ← rep2_apply v0, ← rep2_apply v2, ← rep2_apply v4, ea, eb]
  pointwise
theorem pay6_apply (y : S768x256.Idx) : k0_pay6 (F := Ideal) k y = k y := by
  pointwise [k0_pay6]
end

/-! ## The tables -/

variable (m : (ℓ : Loc nD τ sig) → Buf (Elt Ideal) ℓ) (c : Dev nD)

theorem v21_eq (s : Fin 8192) (f : Fin 16) : (V m c main_v21 : S8192x16.Idx → EReal) (ix2 s f) = ang (s.val / 64) f.val := by
  unfold V
  after_results
  pointwise [ang]
theorem v26_eq (s : Fin 8192) (f : Fin 16) : (V m c main_v26 : S8192x16.Idx → EReal) (ix2 s f) = ang (s.val % 64) f.val := by
  unfold V
  after_results
  pointwise [ang]
theorem v27_eq (s : Fin 8192) (f : Fin 16) : (V m c main_v27 : S8192x16.Idx → EReal) (ix2 s f) = Ideal.cos (ang (s.val / 64) f.val) := by
  unfold V
  after_results
  pointwise [ang]
theorem v28_eq (s : Fin 8192) (f : Fin 16) : (V m c main_v28 : S8192x16.Idx → EReal) (ix2 s f) = Ideal.sin (ang (s.val / 64) f.val) := by
  unfold V
  after_results
  pointwise [ang]
theorem v29_eq (s : Fin 8192) (f : Fin 16) : (V m c main_v29 : S8192x16.Idx → EReal) (ix2 s f) = Ideal.cos (ang (s.val % 64) f.val) := by
  unfold V
  after_results
  pointwise [ang]
theorem v30_eq (s : Fin 8192) (f : Fin 16) : (V m c main_v30 : S8192x16.Idx → EReal) (ix2 s f) = Ideal.sin (ang (s.val % 64) f.val) := by
  unfold V
  after_results
  pointwise [ang]
theorem v31_eq (s : Fin 8192) (f : Fin 16) : (V m c main_v31 : S8192x16.Idx → EReal) (ix2 s f) = (0 : EReal) := by
  unfold V
  after_results
  pointwise
theorem v34_eq (s : Fin 8192) (f : Fin 16) : (V m c main_v34 : S8192x16.Idx → EReal) (ix2 s f) = -Ideal.sin (ang (s.val / 64) f.val) := by
  unfold V
  after_results
  pointwise [ang]
theorem v35_eq (s : Fin 8192) (f : Fin 16) : (V m c main_v35 : S8192x16.Idx → EReal) (ix2 s f) = -Ideal.sin (ang (s.val % 64) f.val) := by
  unfold V
  after_results
  pointwise [ang]

/-- Four tables of 16 columns side by side. -/
def four (a b d e : FVec Ideal S8192x16 .f32) : FVec Ideal S8192x64 .f32 :=
  concatenate S8192x64 1 [⟨S8192x16, a⟩, ⟨S8192x16, b⟩, ⟨S8192x16, d⟩, ⟨S8192x16, e⟩] concatenates_S8192x16_S8192x16_S8192x16_S8192x16_S8192x64_d1

/-- A table of 64 columns, twice, under 256 rows that hold one constant. -/
def under (w : BitVec 32) (a : FVec Ideal S8192x64 .f32) : FVec Ideal S8448x128 .f32 :=
  concatenate S8448x128 0 [⟨S256x128, broadcastInDim S256x128 ![] bcast_S_S256x128 (constant (F := Ideal) S_ .f32 w)⟩, ⟨S8192x128,
    (shapeCast S8192x128 (broadcastInDim S1x8192x2x64 ![0, 1, 2, 3] bcast_S1x8192x1x64_S1x8192x2x64_0_1_2_3
      (shapeCast S1x8192x1x64 a shapeCasts_S8192x64_S1x8192x1x64)) shapeCasts_S1x8192x2x64_S8192x128 : FVec Ideal S8192x128 .f32)⟩]
    concatenates_S256x128_S8192x128_S8448x128_d0

theorem four_apply (a b d e : FVec Ideal S8192x16 .f32) (s : Fin 8192) (l : Fin 64) : four a b d e (ix2 s l)
    = if l.val < 16 then a (ix2 s ⟨l.val % 16, by omega⟩) else if l.val < 32 then b (ix2 s ⟨l.val % 16, by omega⟩)
      else if l.val < 48 then d (ix2 s ⟨l.val % 16, by omega⟩) else e (ix2 s ⟨l.val % 16, by omega⟩) := by
  have h : ∀ (g : FVec Ideal S8192x16 .f32) (i : Fin 16), i.val = l.val % 16 → g (ix2 s i) = g (ix2 s (⟨l.val % 16, by omega⟩ : Fin 16)) :=
    fun g i e => congrArg (fun b : Fin 16 => g (ix2 s b)) (Fin.ext e)
  have hl := l.isLt
  by_cases h1 : l.val < 16
  · rw [if_pos h1, ← h a ⟨l.val, by omega⟩ (by dsimp only; omega)]
    pointwise [four, h1]
  · by_cases h2 : l.val < 32
    · rw [if_neg h1, if_pos h2, ← h b ⟨l.val - 16, by omega⟩ (by dsimp only; omega)]
      pointwise [four, h1, show l.val - 16 < 16 by omega]
    · by_cases h3 : l.val < 48
      · rw [if_neg h1, if_neg h2, if_pos h3, ← h d ⟨l.val - 16 - 16, by omega⟩ (by dsimp only; omega)]
        pointwise [four, h1, show ¬ l.val - 16 < 16 by omega, show l.val - 16 - 16 < 16 by omega]
      · rw [if_neg h1, if_neg h2, if_neg h3, ← h e ⟨l.val - 16 - 16 - 16, by omega⟩ (by dsimp only; omega)]
        pointwise [four, h1, show ¬ l.val - 16 < 16 by omega, show ¬ l.val - 16 - 16 < 16 by omega]

theorem under_apply (w : BitVec 32) (a : FVec Ideal S8192x64 .f32) (r : Fin 8448) (l : Fin 128) : under w a (ix2 r l)
    = if h : r.val < 256 then Ideal.ofBits .f32 w else a (ix2 (⟨r.val - 256, by omega⟩ : Fin 8192) (⟨l.val % 64, by omega⟩ : Fin 64)) := by
  pointwise [under]

theorem e32 : (V m c main_v32 : S8192x64.Idx → EReal) = four (V m c main_v27) (V m c main_v27) (V m c main_v29) (V m c main_v29) := by
  unfold V
  after_results_simp
  rfl
theorem e33 : (V m c main_v33 : S8192x64.Idx → EReal) = four (V m c main_v31) (V m c main_v28) (V m c main_v31) (V m c main_v30) := by
  unfold V
  after_results_simp
  rfl
theorem e36 : (V m c main_v36 : S8192x64.Idx → EReal) = four (V m c main_v34) (V m c main_v31) (V m c main_v35) (V m c main_v31) := by
  unfold V
  after_results_simp
  rfl
theorem e41 : (V m c main_v41 : S8448x128.Idx → EReal) = under 0x3F800000#32 (V m c main_v32) := by
  unfold V
  after_results
  rfl
theorem e46 : (V m c main_v46 : S8448x128.Idx → EReal) = under 0x00000000#32 (V m c main_v33) := by
  unfold V
  after_results
  rfl
theorem e51 : (V m c main_v51 : S8448x128.Idx → EReal) = under 0x00000000#32 (V m c main_v36) := by
  unfold V
  after_results
  rfl

theorem zero_eq : Ideal.ofBits .f32 0x00000000#32 = 0 := by simp [Ideal.ofBits, Ideal.ieee]

theorem v41_eq (r : Fin 8448) (l : Fin 128) : (V m c main_v41 : S8448x128.Idx → EReal) (ix2 r l) = tc r.val l.val := by
  rw [e41, under_apply, Consts.one]
  unfold tc
  split_ifs with h
  · rfl
  · rw [e32, four_apply, v27_eq, v29_eq]
    unfold co th
    have := l.isLt
    dsimp only
    rw [Nat.mod_mod_of_dvd _ (by decide : 16 ∣ 64)]
    split_ifs <;> first | rfl | omega
theorem v46_eq (r : Fin 8448) (l : Fin 128) : (V m c main_v46 : S8448x128.Idx → EReal) (ix2 r l) = ta r.val l.val := by
  rw [e46, under_apply, zero_eq]
  unfold ta
  by_cases h : r.val < 256
  · rw [dif_pos h, if_pos h]
  · rw [dif_neg h, if_neg h, e33, four_apply, v31_eq, v28_eq, v30_eq]
    unfold si th
    have := l.isLt
    dsimp only
    rw [Nat.mod_mod_of_dvd _ (by decide : 16 ∣ 64)]
    split_ifs <;> first | rfl | omega
theorem v51_eq (r : Fin 8448) (l : Fin 128) : (V m c main_v51 : S8448x128.Idx → EReal) (ix2 r l) = tb r.val l.val := by
  rw [e51, under_apply, zero_eq]
  unfold tb
  by_cases h : r.val < 256
  · rw [dif_pos h, if_pos h]
  · rw [dif_neg h, if_neg h, e36, four_apply, v31_eq, v34_eq, v35_eq]
    unfold si th
    have := l.isLt
    dsimp only
    rw [Nat.mod_mod_of_dvd _ (by decide : 16 ∣ 64)]
    split_ifs <;> first | rfl | omega

/-! ## The blocks that are read -/

def dq (r : Fin 8448) (k : Fin 1024) : EReal := (m ((c : Thread nD τ).loc main_arg0) : S8448x1024.Idx → EReal) (ix2 r k)
def dk (r : Fin 8448) (k : Fin 256) : EReal := (m ((c : Thread nD τ).loc main_arg1) : S8448x256.Idx → EReal) (ix2 r k)
def dv (r : Fin 8448) (k : Fin 256) : EReal := (m ((c : Thread nD τ).loc main_arg2) : S8448x256.Idx → EReal) (ix2 r k)
def dp (r : Fin 8448) (k : Fin 4608) : EReal := (m ((c : Thread nD τ).loc main_arg3) : S8448x4608.Idx → EReal) (ix2 r k)

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 2] :=
  (by decide +kernel : ∀ t : Fin grid0.N, _)

section
variable (t : Fin cfg0.N) (x : Fin 768) (r : Fin 8448) (hr : r.val = 768 * t.val + x.val)
include hr
theorem b0 (k : Fin 1024) : (iblk m c 0 t : S768x1024.Idx → EReal) (ix2 x k) = dq m c r k := by unfold dq; blk_ext [iblk, V, idx0 t]
theorem b1 (k : Fin 256) : (iblk m c 1 t : S768x256.Idx → EReal) (ix2 x k) = dk m c r k := by unfold dk; blk_ext [iblk, V, idx0 t]
theorem b2 (k : Fin 256) : (iblk m c 2 t : S768x256.Idx → EReal) (ix2 x k) = dv m c r k := by unfold dv; blk_ext [iblk, V, idx0 t]
theorem c3 (W : S8448x128.Idx → EReal) (l : Fin 128) : (((cfg0.win 3).blk t).view.read (Elt Ideal) W : S768x128.Idx → EReal) (ix2 x l) = W (ix2 r l) := by
  blk_ext [idx0 t]
theorem c4 (W : S8448x128.Idx → EReal) (l : Fin 128) : (((cfg0.win 4).blk t).view.read (Elt Ideal) W : S768x128.Idx → EReal) (ix2 x l) = W (ix2 r l) := by
  blk_ext [idx0 t]
theorem c5 (W : S8448x128.Idx → EReal) (l : Fin 128) : (((cfg0.win 5).blk t).view.read (Elt Ideal) W : S768x128.Idx → EReal) (ix2 x l) = W (ix2 r l) := by
  blk_ext [idx0 t]
theorem b3 (l : Fin 128) : (iblk m c 3 t : S768x128.Idx → EReal) (ix2 x l) = tc r.val l.val :=
  (c3 t x r hr (V m c main_v41) l).trans (v41_eq m c r l)
theorem b4 (l : Fin 128) : (iblk m c 4 t : S768x128.Idx → EReal) (ix2 x l) = ta r.val l.val :=
  (c4 t x r hr (V m c main_v46) l).trans (v46_eq m c r l)
theorem b5 (l : Fin 128) : (iblk m c 5 t : S768x128.Idx → EReal) (ix2 x l) = tb r.val l.val :=
  (c5 t x r hr (V m c main_v51) l).trans (v51_eq m c r l)
end

theorem lt_row (t : Fin cfg0.N) (x : Fin 768) : 768 * t.val + x.val < 8448 := by
  have := lt_of_lt_of_eq t.isLt N_0
  omega

theorem q_eq (t : Fin cfg0.N) (x : Fin 768) (l : Fin 1024) :
    k0_pay4 (F := Ideal) (iblk m c 3 t) (iblk m c 4 t) (iblk m c 5 t) (iblk m c 0 t) (ix2 x l) = rot (dq m c) ⟨768 * t.val + x.val, lt_row t x⟩ l := by
  refine (pay4_apply _ _ _ _ x l ⟨(l.val + 16) % 1024, by omega⟩ ⟨(l.val + (1024 - 16)) % 1024, by omega⟩ rfl rfl).trans ?_
  rw [b0 m c t x ⟨768 * t.val + x.val, lt_row t x⟩ rfl, b0 m c t x ⟨768 * t.val + x.val, lt_row t x⟩ rfl, b0 m c t x ⟨768 * t.val + x.val, lt_row t x⟩ rfl, b3 m c t x ⟨768 * t.val + x.val, lt_row t x⟩ rfl, b4 m c t x ⟨768 * t.val + x.val, lt_row t x⟩ rfl, b5 m c t x ⟨768 * t.val + x.val, lt_row t x⟩ rfl]
  exact rot_eq (by decide) (dq m c) _ _ _ _ rfl rfl
theorem k_eq (t : Fin cfg0.N) (x : Fin 768) (l : Fin 256) :
    k0_pay5 (F := Ideal) (iblk m c 3 t) (iblk m c 4 t) (iblk m c 5 t) (iblk m c 1 t) (ix2 x l) = rot (dk m c) ⟨768 * t.val + x.val, lt_row t x⟩ l := by
  refine (pay5_apply _ _ _ _ x l ⟨(l.val + 16) % 256, by omega⟩ ⟨(l.val + (256 - 16)) % 256, by omega⟩ rfl rfl).trans ?_
  rw [b1 m c t x ⟨768 * t.val + x.val, lt_row t x⟩ rfl, b1 m c t x ⟨768 * t.val + x.val, lt_row t x⟩ rfl, b1 m c t x ⟨768 * t.val + x.val, lt_row t x⟩ rfl, b3 m c t x ⟨768 * t.val + x.val, lt_row t x⟩ rfl, b4 m c t x ⟨768 * t.val + x.val, lt_row t x⟩ rfl, b5 m c t x ⟨768 * t.val + x.val, lt_row t x⟩ rfl]
  exact rot_eq (by decide) (dk m c) _ _ _ _ rfl rfl
theorem v_eq (t : Fin cfg0.N) (x : Fin 768) (l : Fin 256) : k0_pay6 (F := Ideal) (iblk m c 2 t) (ix2 x l) = dv m c ⟨768 * t.val + x.val, lt_row t x⟩ l :=
  (pay6_apply _ _).trans (b2 m c t x ⟨768 * t.val + x.val, lt_row t x⟩ rfl l)

/-- Three column pieces, stored one by one. -/
theorem cols3 {κ : Kind} {sp : Space} (V : View sig κ sp S768x1536 .bf16) (f : V.ty.Contents (Elt Ideal)) (w2 w1 : S768x256.Idx → EReal) (w0 : S768x1024.Idx → EReal)
    (x : Fin 768) (j : Fin 1536) :
    V.read (Elt Ideal) (V.writes (Elt Ideal) f [⟨Rect.unit ![0, 1280] ![768, 256] inb_S768x1536_S768x256_0_1280, w2⟩,
      ⟨Rect.unit ![0, 1024] ![768, 256] inb_S768x1536_S768x256_0_1024, w1⟩, ⟨Rect.unit ![0, 0] ![768, 1024] inb_S768x1536_S768x1024_0_0, w0⟩]) (ix2 x j)
    = if h0 : j.val < 1024 then w0 (ix2 x (⟨j.val, h0⟩ : Fin 1024)) else if h1 : j.val < 1280 then w1 (ix2 x (⟨j.val - 1024, by omega⟩ : Fin 256))
      else w2 (ix2 x (⟨j.val - 1280, by omega⟩ : Fin 256)) := by
  have hj := j.isLt
  by_cases h1 : j.val < 1280
  · refine (View.read_writes_cons_unit_of_not_mem _ _ _ _ _ (ix2 x j) rfl 1 (Or.inl (by show j.val < 1280; omega))).trans ?_
    by_cases h0 : j.val < 1024
    · rw [dif_pos h0]
      refine (View.read_writes_cons_unit_of_not_mem _ _ _ _ _ (ix2 x j) rfl 1 (Or.inl (by show j.val < 1024; omega))).trans ?_
      refine View.read_writes_cons_unit_of_mem _ _ _ _ _ (ix2 x j) (ix2 x (⟨j.val, h0⟩ : Fin 1024)) rfl ?_
      intro a
      fin_cases a
      · show x.val = 0 + x.val
        omega
      · show j.val = 0 + j.val
        omega
    · rw [dif_neg h0, dif_pos h1]
      refine View.read_writes_cons_unit_of_mem _ _ _ _ _ (ix2 x j) (ix2 x (⟨j.val - 1024, by omega⟩ : Fin 256)) rfl ?_
      intro a
      fin_cases a
      · show x.val = 0 + x.val
        omega
      · show j.val = 1024 + (j.val - 1024)
        omega
  · rw [dif_neg (by omega), dif_neg h1]
    refine View.read_writes_cons_unit_of_mem _ _ _ _ _ (ix2 x j) (ix2 x (⟨j.val - 1280, by omega⟩ : Fin 256)) rfl ?_
    intro a
    fin_cases a
    · show x.val = 0 + x.val
      omega
    · show j.val = 1280 + (j.val - 1280)
      omega

/-- What a point stores is its rows of the result's last 1536 columns. -/
theorem out_eq (t : Fin cfg0.N) (x : Fin 768) (j : Fin 1536) : (outsAt0 m c t : S768x1536.Idx → EReal) (ix2 x j)
    = RB (dq m c) (dk m c) (dv m c) (dp m c) ⟨768 * t.val + x.val, lt_row t x⟩ ⟨3072 + j.val, by omega⟩ := by
  unfold outsAt0
  frame_out
  rw [← View.read_writes_junk_eq_canon (ms0_6 t).view]
  refine (cols3 _ _ _ _ _ x j).trans ?_
  split_ifs with h0 h1
  · exact (q_eq m c t x _).trans (RB_q _ _ _ _ _ _ _ rfl).symm
  · exact (k_eq m c t x _).trans (RB_k _ _ _ _ _ _ _ (by dsimp only; omega)).symm
  · exact (v_eq m c t x _).trans (RB_v _ _ _ _ _ _ _ (by dsimp only; omega)).symm

theorem V52 : (V m c main_v52 : S8448x4608.Idx → EReal) = m ((c : Thread nD τ).loc main_arg3) := by
  unfold V
  after_results
  rfl

/-- The kernel's result. -/
theorem final : ((dats m 0 c).arrAt 6 cfg0.N : S8448x4608.Idx → EReal) = fun u : S8448x4608.Idx =>
    RB (dq m c) (dk m c) (dv m c) (dp m c) (u 0) (u 1) := by
  refine (dats m 0 c).arrAt_eq_of_coversWhere_of_agree 6 _ (fun β => 2 ≤ β (1 : Fin 2)) (by decide +kernel) (fun t hf y => ?_) (fun j hj => ?_)
  · blk_simp
    rw [after0_6]
    refine (congrArg (outsAt0 m c t : S768x1536.Idx → EReal) (funext fun a => by fin_cases a <;> rfl : y = ix2 (y 0) (y 1))).trans ((out_eq m c t (y 0) (y 1)).trans ?_)
    refine congrArg₂ (RB (dq m c) (dk m c) (dv m c) (dp m c)) (Fin.ext ?_) (Fin.ext ?_)
    · refine Eq.trans (b := t.val * 768 + ((y : S768x1536.Idx) 0).val) (congrArg (· + _) (Nat.mul_comm _ _)) ?_
      blk_ext [idx0 t]
    · blk_ext [idx0 t]
  · blk_simp [Pipeline.Window.cell_apply] at hj
    refine (congrFun ((A_eq m c 6).trans (V52 m c)) _).trans (Eq.symm ((RB_p _ _ _ _ _ _ ?_).trans ?_))
    · show (j 1).val < 3072
      omega
    · unfold dp
      blk_ext

end Cert.KernelRbIdeal.Back
end
-- ==== Proof.Back.RbRef.lean ====
/- The backward pass of the rotary position embedding: the reference's result. -/
module

public import proofs.«01_k».proof.Proof.Gen.ReferenceRbIdeal.Read
public import proofs.«01_k».proof.Proof.Back.RbSpec
public import Idealize.ShloMosaic.Lib.Pipeline.ValueKit

@[expose] public section

set_option maxRecDepth 16384

noncomputable section

namespace Cert.ReferenceRbIdeal.Back

open Idealize.ShloMosaic Idealize.ShloMosaic.TcCoe Idealize.ShloMosaic.Tactic Cert.ReferenceRbIdeal.Gen Cert.ReferenceRbIdeal.Read Cert.Rb

/-- An argument by row and column. -/
def cur {n : ℕ} (x : (⟨2, ![8448, n]⟩ : Shape).Idx → EReal) (r : Fin 8448) (k : Fin n) : EReal := x (ix2 r k)

/-- The same read, at numbers. -/
def at_ {n : ℕ} (x : (⟨2, ![8448, n]⟩ : Shape).Idx → EReal) (a b : ℕ) : EReal :=
  if h : a < 8448 ∧ b < n then x (ix2 (⟨a, h.1⟩ : Fin 8448) (⟨b, h.2⟩ : Fin n)) else 0
theorem at_eq {n : ℕ} (x : (⟨2, ![8448, n]⟩ : Shape).Idx → EReal) (a : Fin 8448) (b : Fin n) : x (ix2 a b) = at_ x a.val b.val := by
  unfold at_
  rw [dif_pos ⟨a.isLt, b.isLt⟩]

/-- The reference's pieces, head by head and half by half, are the turned gradient. -/
theorem pieces (g : ℕ → ℕ → EReal) (n r k : ℕ) (hn : n % 64 = 0) (hk : k < n) (hr' : r < 8448) :
    ((if r < 256 then g r k else 0) +
      if 256 ≤ r ∧ r - 256 < 8192 then
        if k % 64 < 32 then
          if k % 64 < 16 then
            g (256 + (r - 256)) (k / 64 * 64 + (16 + k % 64)) * Ideal.sin (ang ((r - 256) / 64) (k % 64)) +
              g (256 + (r - 256)) k * Ideal.cos (ang ((r - 256) / 64) (k % 64))
          else
            g (256 + (r - 256)) (k / 64 * 64 + (16 + (k % 64 - 16))) * Ideal.cos (ang ((r - 256) / 64) (k % 64 - 16)) +
              -g (256 + (r - 256)) (k / 64 * 64 + (k % 64 - 16)) * Ideal.sin (ang ((r - 256) / 64) (k % 64 - 16))
        else
          if k % 64 - 32 < 16 then
            g (256 + (r - 256)) (k / 64 * 64 + (32 + (16 + (k % 64 - 32)))) * Ideal.sin (ang ((r - 256) % 64) (k % 64 - 32)) +
              g (256 + (r - 256)) (k / 64 * 64 + (32 + (k % 64 - 32))) * Ideal.cos (ang ((r - 256) % 64) (k % 64 - 32))
          else
            g (256 + (r - 256)) (k / 64 * 64 + (32 + (16 + (k % 64 - 32 - 16)))) * Ideal.cos (ang ((r - 256) % 64) (k % 64 - 32 - 16)) +
              -g (256 + (r - 256)) (k / 64 * 64 + (32 + (k % 64 - 32 - 16))) * Ideal.sin (ang ((r - 256) % 64) (k % 64 - 32 - 16))
      else 0) =
    if r < 256 then g r k
    else
      if k % 32 < 16 then
        g r ((k + 16) % n) * Ideal.sin (ang (if k % 64 < 32 then (r - 256) / 64 else (r - 256) % 64) (k % 16)) +
          g r k * Ideal.cos (ang (if k % 64 < 32 then (r - 256) / 64 else (r - 256) % 64) (k % 16))
      else
        g r k * Ideal.cos (ang (if k % 64 < 32 then (r - 256) / 64 else (r - 256) % 64) (k % 16)) +
          -g r (k - 16) * Ideal.sin (ang (if k % 64 < 32 then (r - 256) / 64 else (r - 256) % 64) (k % 16)) := by
  by_cases hr : r < 256
  · rw [if_pos hr, if_neg (by omega), if_pos hr, add_zero]
  · rw [if_neg hr, if_pos (⟨by omega, by omega⟩ : 256 ≤ r ∧ r - 256 < 8192), if_neg hr, zero_add]
    by_cases h1 : k % 64 < 32
    · simp only [if_pos h1]
      by_cases h2 : k % 64 < 16
      · have e : (k + 16) % n = k + 16 := Nat.mod_eq_of_lt (by omega)
        rw [if_pos h2, if_pos (by omega : k % 32 < 16), e]
        refine congrArg₂ (· + ·) (congrArg₂ (· * ·) ?_ ?_) (congrArg₂ (· * ·) ?_ ?_)
        · exact congrArg₂ g (by omega) (by omega)
        · exact congrArg Ideal.sin (congrArg (ang _) (by omega))
        · exact congrArg₂ g (by omega) (by omega)
        · exact congrArg Ideal.cos (congrArg (ang _) (by omega))
      · rw [if_neg h2, if_neg (by omega : ¬ k % 32 < 16)]
        refine congrArg₂ (· + ·) (congrArg₂ (· * ·) ?_ ?_) (congrArg₂ (· * ·) ?_ ?_)
        · exact congrArg₂ g (by omega) (by omega)
        · exact congrArg Ideal.cos (congrArg (ang _) (by omega))
        · exact congrArg Neg.neg (congrArg₂ g (by omega) (by omega))
        · exact congrArg Ideal.sin (congrArg (ang _) (by omega))
    · simp only [if_neg h1]
      by_cases h2 : k % 64 - 32 < 16
      · have e : (k + 16) % n = k + 16 := Nat.mod_eq_of_lt (by omega)
        rw [if_pos h2, if_pos (by omega : k % 32 < 16), e]
        refine congrArg₂ (· + ·) (congrArg₂ (· * ·) ?_ ?_) (congrArg₂ (· * ·) ?_ ?_)
        · exact congrArg₂ g (by omega) (by omega)
        · exact congrArg Ideal.sin (congrArg (ang _) (by omega))
        · exact congrArg₂ g (by omega) (by omega)
        · exact congrArg Ideal.cos (congrArg (ang _) (by omega))
      · rw [if_neg h2, if_neg (by omega : ¬ k % 32 < 16)]
        refine congrArg₂ (· + ·) (congrArg₂ (· * ·) ?_ ?_) (congrArg₂ (· * ·) ?_ ?_)
        · exact congrArg₂ g (by omega) (by omega)
        · exact congrArg Ideal.cos (congrArg (ang _) (by omega))
        · exact congrArg Neg.neg (congrArg₂ g (by omega) (by omega))
        · exact congrArg Ideal.sin (congrArg (ang _) (by omega))

variable (x0 : FVec Ideal S8448x1024 .f32) (x1 x2 : FVec Ideal S8448x256 .f32) (x3 : FVec Ideal S8448x4608 .bf16)

/-! ## The tables -/

theorem v30_eq : val_main_v30 (F := Ideal) = fun u : S8192x16.Idx => Ideal.cos (ang ((u 0).val / 64) (u 1).val) := by
  funext u
  pointwise [val_main_v30, val_main_v24, val_main_v23, val_main_v21, val_main_v19, val_main_v18, val_main_cst_3, val_main_v17, val_main_v16, val_main_cst_2, val_main_v15, val_main_v14, val_main_v13, val_main_cst_1, val_main_v12, val_main_v11, val_main_cst_0, val_main_v10, val_main_v22, val_main_v20, val_main_v5, val_main_v4, val_main_v3, ang]
theorem v32_eq : val_main_v32 (F := Ideal) = fun u : S8192x16.Idx => Ideal.sin (ang ((u 0).val / 64) (u 1).val) := by
  funext u
  pointwise [val_main_v32, val_main_v24, val_main_v23, val_main_v21, val_main_v19, val_main_v18, val_main_cst_3, val_main_v17, val_main_v16, val_main_cst_2, val_main_v15, val_main_v14, val_main_v13, val_main_cst_1, val_main_v12, val_main_v11, val_main_cst_0, val_main_v10, val_main_v22, val_main_v20, val_main_v5, val_main_v4, val_main_v3, ang]
theorem v34_eq : val_main_v34 (F := Ideal) = fun u : S8192x16.Idx => Ideal.cos (ang ((u 0).val % 64) (u 1).val) := by
  funext u
  pointwise [val_main_v34, val_main_v29, val_main_v28, val_main_v26, val_main_v19, val_main_v18, val_main_cst_3, val_main_v17, val_main_v16, val_main_cst_2, val_main_v15, val_main_v14, val_main_v13, val_main_cst_1, val_main_v12, val_main_v11, val_main_cst_0, val_main_v10, val_main_v27, val_main_v25, val_main_v9, val_main_v8, val_main_v7, val_main_v6, ang]
theorem v36_eq : val_main_v36 (F := Ideal) = fun u : S8192x16.Idx => Ideal.sin (ang ((u 0).val % 64) (u 1).val) := by
  funext u
  pointwise [val_main_v36, val_main_v29, val_main_v28, val_main_v26, val_main_v19, val_main_v18, val_main_cst_3, val_main_v17, val_main_v16, val_main_cst_2, val_main_v15, val_main_v14, val_main_v13, val_main_cst_1, val_main_v12, val_main_v11, val_main_cst_0, val_main_v10, val_main_v27, val_main_v25, val_main_v9, val_main_v8, val_main_v7, val_main_v6, ang]
theorem v138_eq : val_main_v138 (F := Ideal) = fun u : S8192x16.Idx => Ideal.cos (ang ((u 0).val / 64) (u 1).val) := by
  funext u
  pointwise [val_main_v138, val_main_v132, val_main_v131, val_main_v129, val_main_v127, val_main_v126, val_main_cst_10, val_main_v125, val_main_v124, val_main_cst_9, val_main_v123, val_main_v122, val_main_v121, val_main_cst_8, val_main_v120, val_main_v119, val_main_cst_7, val_main_v118, val_main_v130, val_main_v128, val_main_v113, val_main_v112, val_main_v111, ang]
theorem v140_eq : val_main_v140 (F := Ideal) = fun u : S8192x16.Idx => Ideal.sin (ang ((u 0).val / 64) (u 1).val) := by
  funext u
  pointwise [val_main_v140, val_main_v132, val_main_v131, val_main_v129, val_main_v127, val_main_v126, val_main_cst_10, val_main_v125, val_main_v124, val_main_cst_9, val_main_v123, val_main_v122, val_main_v121, val_main_cst_8, val_main_v120, val_main_v119, val_main_cst_7, val_main_v118, val_main_v130, val_main_v128, val_main_v113, val_main_v112, val_main_v111, ang]
theorem v142_eq : val_main_v142 (F := Ideal) = fun u : S8192x16.Idx => Ideal.cos (ang ((u 0).val % 64) (u 1).val) := by
  funext u
  pointwise [val_main_v142, val_main_v137, val_main_v136, val_main_v134, val_main_v127, val_main_v126, val_main_cst_10, val_main_v125, val_main_v124, val_main_cst_9, val_main_v123, val_main_v122, val_main_v121, val_main_cst_8, val_main_v120, val_main_v119, val_main_cst_7, val_main_v118, val_main_v135, val_main_v133, val_main_v117, val_main_v116, val_main_v115, val_main_v114, ang]
theorem v144_eq : val_main_v144 (F := Ideal) = fun u : S8192x16.Idx => Ideal.sin (ang ((u 0).val % 64) (u 1).val) := by
  funext u
  pointwise [val_main_v144, val_main_v137, val_main_v136, val_main_v134, val_main_v127, val_main_v126, val_main_cst_10, val_main_v125, val_main_v124, val_main_cst_9, val_main_v123, val_main_v122, val_main_v121, val_main_cst_8, val_main_v120, val_main_v119, val_main_cst_7, val_main_v118, val_main_v135, val_main_v133, val_main_v117, val_main_v116, val_main_v115, val_main_v114, ang]

/-! ## The turned gradients -/

theorem v107_eq (r : Fin 8448) (k : Fin 1024) : val_main_v107 (F := Ideal) x0 (ix2 r k) = rot (cur x0) r k := by
  pointwise [val_main_v107, val_main_v73, val_main_v70, val_main_cst_4, val_main_v106, val_main_v105, val_main_v104, val_main_v89, val_main_v88, val_main_v87, val_main_v86, val_main_v35, val_main_v76, val_main_v75, val_main_v72, val_main_v71, val_main_v79, val_main_v78, val_main_v37, val_main_v77, val_main_v85, val_main_v84, val_main_v83, val_main_v82, val_main_v81, val_main_v80, val_main_v103, val_main_v99, val_main_v98, val_main_v97, val_main_v33, val_main_v96, val_main_v90, val_main_v74, val_main_v95, val_main_v94, val_main_v31, val_main_v91, val_main_v102, val_main_v93, val_main_v92, val_main_v101, val_main_v100, val_main_cst_5, v30_eq, v32_eq, v34_eq, v36_eq, rot, co, si, th, cur]
  simp only [at_eq x0, dite_eq_ite]
  exact pieces (at_ x0) 1024 r.val k.val (by decide) k.isLt r.isLt
theorem v215_eq (r : Fin 8448) (k : Fin 256) : val_main_v215 (F := Ideal) x1 (ix2 r k) = rot (cur x1) r k := by
  pointwise [val_main_v215, val_main_v214, val_main_v213, val_main_v212, val_main_v211, val_main_v210, val_main_v209, val_main_v208, val_main_v139, val_main_v198, val_main_v182, val_main_v180, val_main_v179, val_main_v201, val_main_v200, val_main_v141, val_main_v199, val_main_v207, val_main_v206, val_main_v205, val_main_v204, val_main_v203, val_main_v202, val_main_v197, val_main_v196, val_main_v195, val_main_v194, val_main_v143, val_main_v184, val_main_v183, val_main_v187, val_main_v186, val_main_v145, val_main_v185, val_main_v193, val_main_v192, val_main_v191, val_main_v190, val_main_v189, val_main_v188, val_main_cst_12, val_main_v181, val_main_v178, val_main_cst_11, v138_eq, v140_eq, v142_eq, v144_eq, rot, co, si, th, cur]
  simp only [at_eq x1, dite_eq_ite]
  exact pieces (at_ x1) 256 r.val k.val (by decide) k.isLt r.isLt
theorem v220_eq : val_main_v220 (F := Ideal) x0 x1 x2 x3 = fun u : S8448x4608.Idx => RB (cur x0) (cur x1) (cur x2) (cur x3) (u 0) (u 1) := by
  funext u
  obtain ⟨r, j, rfl⟩ : ∃ r j, u = ix2 r j := ⟨u 0, u 1, by funext a; fin_cases a <;> rfl⟩
  have hj := j.isLt
  show _ = RB (cur x0) (cur x1) (cur x2) (cur x3) r j
  unfold RB
  pointwise [val_main_v220, val_main_v219, val_main_v218, val_main_v217, val_main_v216, v107_eq, v215_eq]
  by_cases h0 : j.val < 3072
  · rw [dif_pos h0, dif_pos h0]
    rfl
  · rw [dif_neg h0, dif_neg h0]
    by_cases h1 : j.val < 4096
    · rw [dif_pos (by omega), dif_pos h1]
    · rw [dif_neg (by omega), dif_neg h1]
      by_cases h2 : j.val < 4352
      · rw [dif_pos (by omega), dif_pos h2]
        exact congrArg (rot (cur x1) r) (Fin.ext (by dsimp only; omega))
      · rw [dif_neg (by omega), dif_neg h2]
        exact congrArg (cur x2 r) (Fin.ext (by dsimp only; omega))

end Cert.ReferenceRbIdeal.Back
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Attn.Run
public import proofs.«01_k».proof.Proof.Attn.RunBits
public import proofs.«01_k».proof.Proof.Attn.Grads
public import proofs.«01_k».proof.Proof.Attn.RefRun
public import proofs.«01_k».proof.Proof.Gen.KernelDa.Frame
public import proofs.«01_k».proof.Proof.Gen.KernelDaIdeal
public import proofs.«01_k».proof.Proof.Gen.ReferenceDaIdeal
public import proofs.«01_k».proof.Proof.Gen.ReferenceDaIdeal.Run
public import proofs.«01_k».proof.Proof.Mlp.Da
public import proofs.«01_k».proof.Proof.Gen.KernelDw2.Frame
public import proofs.«01_k».proof.Proof.Gen.KernelDw2Ideal
public import proofs.«01_k».proof.Proof.Gen.ReferenceDw2Ideal
public import proofs.«01_k».proof.Proof.Gen.ReferenceDw2Ideal.Run
public import proofs.«01_k».proof.Proof.Mlp.Dw2
public import proofs.«01_k».proof.Proof.Gen.KernelDh.Frame
public import proofs.«01_k».proof.Proof.Gen.KernelDhIdeal
public import proofs.«01_k».proof.Proof.Gen.ReferenceDhIdeal
public import proofs.«01_k».proof.Proof.Gen.ReferenceDhIdeal.Run
public import proofs.«01_k».proof.Proof.Mlp.Dh
public import proofs.«01_k».proof.Proof.Gen.KernelDw1.Frame
public import proofs.«01_k».proof.Proof.Gen.KernelDw1Ideal
public import proofs.«01_k».proof.Proof.Gen.ReferenceDw1Ideal
public import proofs.«01_k».proof.Proof.Gen.ReferenceDw1Ideal.Run
public import proofs.«01_k».proof.Proof.Mlp.Dw1
public import proofs.«01_k».proof.Proof.Gen.KernelDmg.Frame
public import proofs.«01_k».proof.Proof.Gen.KernelDmgIdeal
public import proofs.«01_k».proof.Proof.Gen.ReferenceDmgIdeal
public import proofs.«01_k».proof.Proof.Gen.ReferenceDmgIdeal.Run
public import proofs.«01_k».proof.Proof.Proj.Dmg
public import proofs.«01_k».proof.Proof.Gen.KernelDwo.Frame
public import proofs.«01_k».proof.Proof.Gen.KernelDwoIdeal
public import proofs.«01_k».proof.Proof.Gen.ReferenceDwoIdeal
public import proofs.«01_k».proof.Proof.Gen.ReferenceDwoIdeal.Run
public import proofs.«01_k».proof.Proof.Proj.Dwo
public import proofs.«01_k».proof.Proof.Gen.KernelDhi.Frame
public import proofs.«01_k».proof.Proof.Gen.KernelDhiIdeal
public import proofs.«01_k».proof.Proof.Gen.ReferenceDhiIdeal
public import proofs.«01_k».proof.Proof.Gen.ReferenceDhiIdeal.Run
public import proofs.«01_k».proof.Proof.Proj.Dhi
public import proofs.«01_k».proof.Proof.Gen.KernelDwi.Frame
public import proofs.«01_k».proof.Proof.Gen.KernelDwiIdeal
public import proofs.«01_k».proof.Proof.Gen.ReferenceDwiIdeal
public import proofs.«01_k».proof.Proof.Gen.ReferenceDwiIdeal.Run
public import proofs.«01_k».proof.Proof.Proj.Dwi
public import proofs.«01_k».proof.Proof.Gen.KernelFa.Frame
public import proofs.«01_k».proof.Proof.Gen.KernelFaIdeal
public import proofs.«01_k».proof.Proof.Gen.ReferenceFaIdeal
public import proofs.«01_k».proof.Proof.Gen.ReferenceFaIdeal.Run
public import proofs.«01_k».proof.Proof.Mlp.Fa
public import proofs.«01_k».proof.Proof.Gen.KernelFo.Frame
public import proofs.«01_k».proof.Proof.Gen.KernelFoIdeal
public import proofs.«01_k».proof.Proof.Gen.ReferenceFoIdeal
public import proofs.«01_k».proof.Proof.Gen.ReferenceFoIdeal.Run
public import proofs.«01_k».proof.Proof.Mlp.Fo
public import proofs.«01_k».proof.Proof.Gen.KernelFp.Frame
public import proofs.«01_k».proof.Proof.Gen.KernelFpIdeal
public import proofs.«01_k».proof.Proof.Gen.ReferenceFpIdeal
public import proofs.«01_k».proof.Proof.Gen.ReferenceFpIdeal.Run
public import proofs.«01_k».proof.Proof.Proj.Fp
public import proofs.«01_k».proof.Proof.Gen.KernelFz.Frame
public import proofs.«01_k».proof.Proof.Gen.KernelFzIdeal
public import proofs.«01_k».proof.Proof.Gen.ReferenceFzIdeal
public import proofs.«01_k».proof.Proof.Gen.ReferenceFzIdeal.Run
public import proofs.«01_k».proof.Proof.Proj.Fz
public import proofs.«01_k».proof.Proof.Gen.KernelNb.Frame
public import proofs.«01_k».proof.Proof.Gen.KernelNbIdeal
public import proofs.«01_k».proof.Proof.Gen.ReferenceNbIdeal
public import proofs.«01_k».proof.Proof.Gen.ReferenceNbIdeal.Run
public import proofs.«01_k».proof.Proof.Back.Nb
public import proofs.«01_k».proof.Proof.Back.NbRef
public import proofs.«01_k».proof.Proof.Gen.KernelRb.Frame
public import proofs.«01_k».proof.Proof.Gen.KernelRbIdeal
public import proofs.«01_k».proof.Proof.Gen.ReferenceRbIdeal
public import proofs.«01_k».proof.Proof.Gen.ReferenceRbIdeal.Run
public import proofs.«01_k».proof.Proof.Back.Rb
public import proofs.«01_k».proof.Proof.Back.RbRef
public import Idealize.ShloMosaic.Adequacy
public import Idealize.ShloMosaic.Init

@[expose] public section

set_option maxRecDepth 16384

noncomputable section

namespace Cert.Proof

open Idealize.ShloMosaic Idealize.SL.Sem

theorem preFacts : Cert.Pre_all_finite.Facts where
  bcast_S_S8448x1024 := by decide
  bcast_S_S8448x256 := by decide
  bcast_S_S16 := by decide

theorem frame_k : Cert.quiescent_Kernel (hKernel := Cert.Kernel.Gen.facts) := fun m g _ => Cert.Kernel.Attn.frame m g
theorem frame_ki : Cert.quiescent_KernelIdeal (hKernelIdeal := Cert.KernelIdeal.Gen.facts) :=
  fun m g _ => Cert.KernelIdeal.Attn.frame m g
theorem frame_kp : Cert.quiescent_KernelIdeal_pre_all_finite (hKernelIdeal := Cert.KernelIdeal.Gen.facts) (hPre_all_finite := preFacts) :=
  fun m g _ => Cert.KernelIdeal.Attn.frame m g

theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2.2.2.2, sem_eq_zero_of_no_sems (by decide) r.2⟩)
    (Cert.ReferenceIdeal.Value.run m g)

theorem frame_r : Cert.quiescent_ReferenceIdeal (hReferenceIdeal := Cert.ReferenceIdeal.Gen.facts) := fun m g _ => ref_run m g
theorem frame_rp : Cert.quiescent_ReferenceIdeal_pre_all_finite (hReferenceIdeal := Cert.ReferenceIdeal.Gen.facts) (hPre_all_finite := preFacts) :=
  fun m g _ => ref_run m g

theorem preserves : Cert.preserves_Kernel_KernelIdeal := IdealRules.named_const.statement _ _ _ _ _ rfl

/-! ## The gradients -/

section
open Cert.KernelIdeal.Attn

/-- A number whose absolute value is below +∞ is finite. -/
theorem real_of_abs {x : EReal} (h : Ideal.cmp .olt (max x (-x)) (Ideal.ofBits .f32 0x7F800000#32) = 1#1) : Cert.Row.IsR x := by
  rw [Cert.Consts.top] at h
  induction x using EReal.rec with
  | bot => exact absurd h (by simp [Ideal.cmp])
  | coe r => exact ⟨r, rfl⟩
  | top => exact absurd h (by simp [Ideal.cmp])

theorem args_real (m : (ℓ : Loc Cert.KernelIdeal.nD Cert.KernelIdeal.τ Cert.KernelIdeal.sig) → Buf (Elt Ideal) ℓ)
    (hm : Cert.Pre_KernelIdeal_all_finite (hPre_all_finite := preFacts) m) (c : Dev Cert.KernelIdeal.nD) : (kargs c m).Real where
  q t h g d := real_of_abs (congrFun (hm c).1 _)
  k t h d := real_of_abs (congrFun (hm c).2.1 _)
  v t h d := real_of_abs (congrFun (hm c).2.2.1 _)
  o t h g d := real_of_abs (congrFun (hm c).2.2.2.1 _)
  z h g := real_of_abs (congrFun (hm c).2.2.2.2 _)

theorem algebraic : Cert.algebraic_KernelIdeal_ReferenceIdeal_pre_all_finite (hKernelIdeal := Cert.KernelIdeal.Gen.facts)
    (hReferenceIdeal := Cert.ReferenceIdeal.Gen.facts) (hPre_all_finite := preFacts) := by
  intro m g m' g' hm hmm
  refine ⟨fun c => W5 m g c (Proc.devRef .tc Cert.KernelIdeal.main_v20_0), fun c => W5 m g c (Proc.devRef .tc Cert.KernelIdeal.main_v21_0),
    fun c => W5 m g c (Proc.devRef .tc Cert.KernelIdeal.main_v21_1), fun c => W5 m g c (Proc.devRef .tc Cert.KernelIdeal.main_v23), ?_, ?_⟩
  · exact (θ_run _ _ _).mono (fun _ h c =>
      ⟨h.1 c _ (mem_uc Cert.KernelIdeal.main_v20_0 (by decide)), h.1 c _ (mem_uc Cert.KernelIdeal.main_v21_0 (by decide)),
       h.1 c _ (mem_uc Cert.KernelIdeal.main_v21_1 (by decide)), h.1 c _ (mem_uc Cert.KernelIdeal.main_v23 (by decide)),
       (h.1 c _ (mem_uc Cert.KernelIdeal.main_arg0 (by decide))).trans (W5_main_arg0 m g c),
       (h.1 c _ (mem_uc Cert.KernelIdeal.main_arg1 (by decide))).trans (W5_main_arg1 m g c),
       (h.1 c _ (mem_uc Cert.KernelIdeal.main_arg2 (by decide))).trans (W5_main_arg2 m g c),
       (h.1 c _ (mem_uc Cert.KernelIdeal.main_arg3 (by decide))).trans (W5_main_arg3 m g c),
       (h.1 c _ (mem_uc Cert.KernelIdeal.main_arg4 (by decide))).trans (W5_main_arg4 m g c)⟩)
      (Cert.KernelIdeal.Attn.run m g)
  · refine (θ_run _ _ _).mono (fun _ h c => ⟨(h c).1.trans ?_, (h c).2.1.trans ?_, (h c).2.2.1.trans ?_, (h c).2.2.2.1.trans ?_, (h c).2.2.2.2⟩)
      (Cert.ReferenceIdeal.Attn.refRun m' g')
    all_goals have hA := args_real m hm c
    all_goals obtain ⟨e0, e1, e2, e3, e4⟩ := hmm c
    · rw [e0, e1, e2, e3, e4]; exact dq_eq m g c hA
    · rw [e0, e1, e2, e3, e4]; exact dk_eq m g c hA
    · rw [e0, e1, e3, e4]; exact dv_eq m g c hA
    · rw [e0, e1, e2, e3, e4]; exact dz_eq m g c hA

end
/-! ## The products of the MLP's backward pass -/

theorem frame_kda : Cert.quiescent_KernelDa (hKernelDa := Cert.KernelDa.Gen.facts) :=
  fun m g _ => Cert.KernelDa.Gen.frame m g
theorem frame_kida : Cert.quiescent_KernelDaIdeal (hKernelDaIdeal := Cert.KernelDaIdeal.Gen.facts) :=
  fun m g _ => Cert.KernelDaIdeal.Gen.frame m g
theorem frame_rda : Cert.quiescent_ReferenceDaIdeal (hReferenceDaIdeal := Cert.ReferenceDaIdeal.Gen.facts) := fun m g _ =>
  (θ_run _ _ _).mono (fun r h => ⟨fun c => (h c).2, sem_eq_zero_of_no_sems (by decide) r.2⟩) (Cert.ReferenceDaIdeal.Value.run m g)
theorem algebraic_da : Cert.algebraic_KernelDaIdeal_ReferenceDaIdeal (hKernelDaIdeal := Cert.KernelDaIdeal.Gen.facts)
    (hReferenceDaIdeal := Cert.ReferenceDaIdeal.Gen.facts) := by
  intro m g m' g' _ hmm
  refine ⟨fun c => (Cert.KernelDaIdeal.Gen.dats m 0 c).arrAt 3 Cert.KernelDaIdeal.cfg0.N, Cert.KernelDaIdeal.Value.run_blocks m g, ?_⟩
  refine (θ_run _ _ _).mono (fun _ h c => ⟨(h c).1.trans ?_, (h c).2⟩) (Cert.ReferenceDaIdeal.Value.run m' g')
  obtain ⟨e0, e1, e2⟩ := hmm c
  rw [e0, e1, e2]
  exact (Cert.ReferenceDaIdeal.Read.val_main_v16_eq _ _ _).trans ((Cert.ReferenceDaIdeal.Mlp.val_eq _ _ _).trans (Cert.KernelDaIdeal.Mlp.final m c).symm)

theorem frame_kdw2 : Cert.quiescent_KernelDw2 (hKernelDw2 := Cert.KernelDw2.Gen.facts) :=
  fun m g _ => Cert.KernelDw2.Gen.frame m g
theorem frame_kidw2 : Cert.quiescent_KernelDw2Ideal (hKernelDw2Ideal := Cert.KernelDw2Ideal.Gen.facts) :=
  fun m g _ => Cert.KernelDw2Ideal.Gen.frame m g
theorem frame_rdw2 : Cert.quiescent_ReferenceDw2Ideal (hReferenceDw2Ideal := Cert.ReferenceDw2Ideal.Gen.facts) := fun m g _ =>
  (θ_run _ _ _).mono (fun r h => ⟨fun c => (h c).2, sem_eq_zero_of_no_sems (by decide) r.2⟩) (Cert.ReferenceDw2Ideal.Value.run m g)
theorem algebraic_dw2 : Cert.algebraic_KernelDw2Ideal_ReferenceDw2Ideal (hKernelDw2Ideal := Cert.KernelDw2Ideal.Gen.facts)
    (hReferenceDw2Ideal := Cert.ReferenceDw2Ideal.Gen.facts) := by
  intro m g m' g' _ hmm
  refine ⟨fun c => (Cert.KernelDw2Ideal.Gen.dats m 0 c).arrAt 2 Cert.KernelDw2Ideal.cfg0.N, Cert.KernelDw2Ideal.Value.run_blocks m g, ?_⟩
  refine (θ_run _ _ _).mono (fun _ h c => ⟨(h c).1.trans ?_, (h c).2⟩) (Cert.ReferenceDw2Ideal.Value.run m' g')
  obtain ⟨e0, e1⟩ := hmm c
  rw [e0, e1]
  exact (Cert.ReferenceDw2Ideal.Read.val_main_v8_eq _ _).trans ((Cert.ReferenceDw2Ideal.Mlp.val_eq _ _).trans (Cert.KernelDw2Ideal.Mlp.final m c).symm)

theorem frame_kdh : Cert.quiescent_KernelDh (hKernelDh := Cert.KernelDh.Gen.facts) :=
  fun m g _ => Cert.KernelDh.Gen.frame m g
theorem frame_kidh : Cert.quiescent_KernelDhIdeal (hKernelDhIdeal := Cert.KernelDhIdeal.Gen.facts) :=
  fun m g _ => Cert.KernelDhIdeal.Gen.frame m g
theorem frame_rdh : Cert.quiescent_ReferenceDhIdeal (hReferenceDhIdeal := Cert.ReferenceDhIdeal.Gen.facts) := fun m g _ =>
  (θ_run _ _ _).mono (fun r h => ⟨fun c => (h c).2, sem_eq_zero_of_no_sems (by decide) r.2⟩) (Cert.ReferenceDhIdeal.Value.run m g)
theorem algebraic_dh : Cert.algebraic_KernelDhIdeal_ReferenceDhIdeal (hKernelDhIdeal := Cert.KernelDhIdeal.Gen.facts)
    (hReferenceDhIdeal := Cert.ReferenceDhIdeal.Gen.facts) := by
  intro m g m' g' _ hmm
  refine ⟨fun c => (Cert.KernelDhIdeal.Gen.dats m 0 c).arrAt 2 Cert.KernelDhIdeal.cfg0.N, Cert.KernelDhIdeal.Value.run_blocks m g, ?_⟩
  refine (θ_run _ _ _).mono (fun _ h c => ⟨(h c).1.trans ?_, (h c).2⟩) (Cert.ReferenceDhIdeal.Value.run m' g')
  obtain ⟨e0, e1⟩ := hmm c
  rw [e0, e1]
  exact (Cert.ReferenceDhIdeal.Read.val_main_v14_eq _ _).trans ((Cert.ReferenceDhIdeal.Mlp.val_eq _ _).trans (Cert.KernelDhIdeal.Mlp.final m c).symm)

theorem frame_kdw1 : Cert.quiescent_KernelDw1 (hKernelDw1 := Cert.KernelDw1.Gen.facts) :=
  fun m g _ => Cert.KernelDw1.Gen.frame m g
theorem frame_kidw1 : Cert.quiescent_KernelDw1Ideal (hKernelDw1Ideal := Cert.KernelDw1Ideal.Gen.facts) :=
  fun m g _ => Cert.KernelDw1Ideal.Gen.frame m g
theorem frame_rdw1 : Cert.quiescent_ReferenceDw1Ideal (hReferenceDw1Ideal := Cert.ReferenceDw1Ideal.Gen.facts) := fun m g _ =>
  (θ_run _ _ _).mono (fun r h => ⟨fun c => (h c).2, sem_eq_zero_of_no_sems (by decide) r.2⟩) (Cert.ReferenceDw1Ideal.Value.run m g)
theorem algebraic_dw1 : Cert.algebraic_KernelDw1Ideal_ReferenceDw1Ideal (hKernelDw1Ideal := Cert.KernelDw1Ideal.Gen.facts)
    (hReferenceDw1Ideal := Cert.ReferenceDw1Ideal.Gen.facts) := by
  intro m g m' g' _ hmm
  refine ⟨fun c => (Cert.KernelDw1Ideal.Gen.dats m 0 c).arrAt 2 Cert.KernelDw1Ideal.cfg0.N, Cert.KernelDw1Ideal.Value.run_blocks m g, ?_⟩
  refine (θ_run _ _ _).mono (fun _ h c => ⟨(h c).1.trans ?_, (h c).2⟩) (Cert.ReferenceDw1Ideal.Value.run m' g')
  obtain ⟨e0, e1⟩ := hmm c
  rw [e0, e1]
  exact (Cert.ReferenceDw1Ideal.Read.val_main_v30_eq _ _).trans ((Cert.ReferenceDw1Ideal.Mlp.val_eq _ _).trans (Cert.KernelDw1Ideal.Mlp.final m c).symm)

/-! ## The products of the projections' backward pass -/

theorem frame_kdmg : Cert.quiescent_KernelDmg (hKernelDmg := Cert.KernelDmg.Gen.facts) :=
  fun m g _ => Cert.KernelDmg.Gen.frame m g
theorem frame_kidmg : Cert.quiescent_KernelDmgIdeal (hKernelDmgIdeal := Cert.KernelDmgIdeal.Gen.facts) :=
  fun m g _ => Cert.KernelDmgIdeal.Gen.frame m g
theorem frame_rdmg : Cert.quiescent_ReferenceDmgIdeal (hReferenceDmgIdeal := Cert.ReferenceDmgIdeal.Gen.facts) := fun m g _ =>
  (θ_run _ _ _).mono (fun r h => ⟨fun c => (h c).2, sem_eq_zero_of_no_sems (by decide) r.2⟩) (Cert.ReferenceDmgIdeal.Value.run m g)
theorem algebraic_dmg : Cert.algebraic_KernelDmgIdeal_ReferenceDmgIdeal (hKernelDmgIdeal := Cert.KernelDmgIdeal.Gen.facts)
    (hReferenceDmgIdeal := Cert.ReferenceDmgIdeal.Gen.facts) := by
  intro m g m' g' _ hmm
  refine ⟨fun c => (Cert.KernelDmgIdeal.Gen.dats m 0 c).arrAt 2 Cert.KernelDmgIdeal.cfg0.N, Cert.KernelDmgIdeal.Value.run_blocks m g, ?_⟩
  refine (θ_run _ _ _).mono (fun _ h c => ⟨(h c).1.trans ?_, (h c).2⟩) (Cert.ReferenceDmgIdeal.Value.run m' g')
  obtain ⟨e0, e1⟩ := hmm c
  rw [e0, e1]
  exact (Cert.ReferenceDmgIdeal.Read.val_main_v5_eq _ _).trans ((Cert.ReferenceDmgIdeal.Proj.val_eq _ _).trans (Cert.KernelDmgIdeal.Proj.final m c).symm)

theorem frame_kdwo : Cert.quiescent_KernelDwo (hKernelDwo := Cert.KernelDwo.Gen.facts) :=
  fun m g _ => Cert.KernelDwo.Gen.frame m g
theorem frame_kidwo : Cert.quiescent_KernelDwoIdeal (hKernelDwoIdeal := Cert.KernelDwoIdeal.Gen.facts) :=
  fun m g _ => Cert.KernelDwoIdeal.Gen.frame m g
theorem frame_rdwo : Cert.quiescent_ReferenceDwoIdeal (hReferenceDwoIdeal := Cert.ReferenceDwoIdeal.Gen.facts) := fun m g _ =>
  (θ_run _ _ _).mono (fun r h => ⟨fun c => (h c).2, sem_eq_zero_of_no_sems (by decide) r.2⟩) (Cert.ReferenceDwoIdeal.Value.run m g)
theorem algebraic_dwo : Cert.algebraic_KernelDwoIdeal_ReferenceDwoIdeal (hKernelDwoIdeal := Cert.KernelDwoIdeal.Gen.facts)
    (hReferenceDwoIdeal := Cert.ReferenceDwoIdeal.Gen.facts) := by
  intro m g m' g' _ hmm
  refine ⟨fun c => (Cert.KernelDwoIdeal.Gen.dats m 0 c).arrAt 2 Cert.KernelDwoIdeal.cfg0.N, Cert.KernelDwoIdeal.Value.run_blocks m g, ?_⟩
  refine (θ_run _ _ _).mono (fun _ h c => ⟨(h c).1.trans ?_, (h c).2⟩) (Cert.ReferenceDwoIdeal.Value.run m' g')
  obtain ⟨e0, e1⟩ := hmm c
  rw [e0, e1]
  exact (Cert.ReferenceDwoIdeal.Read.val_main_v8_eq _ _).trans ((Cert.ReferenceDwoIdeal.Proj.val_eq _ _).trans (Cert.KernelDwoIdeal.Proj.final m c).symm)

theorem frame_kdhi : Cert.quiescent_KernelDhi (hKernelDhi := Cert.KernelDhi.Gen.facts) :=
  fun m g _ => Cert.KernelDhi.Gen.frame m g
theorem frame_kidhi : Cert.quiescent_KernelDhiIdeal (hKernelDhiIdeal := Cert.KernelDhiIdeal.Gen.facts) :=
  fun m g _ => Cert.KernelDhiIdeal.Gen.frame m g
theorem frame_rdhi : Cert.quiescent_ReferenceDhiIdeal (hReferenceDhiIdeal := Cert.ReferenceDhiIdeal.Gen.facts) := fun m g _ =>
  (θ_run _ _ _).mono (fun r h => ⟨fun c => (h c).2, sem_eq_zero_of_no_sems (by decide) r.2⟩) (Cert.ReferenceDhiIdeal.Value.run m g)
theorem algebraic_dhi : Cert.algebraic_KernelDhiIdeal_ReferenceDhiIdeal (hKernelDhiIdeal := Cert.KernelDhiIdeal.Gen.facts)
    (hReferenceDhiIdeal := Cert.ReferenceDhiIdeal.Gen.facts) := by
  intro m g m' g' _ hmm
  refine ⟨fun c => (Cert.KernelDhiIdeal.Gen.dats m 0 c).arrAt 2 Cert.KernelDhiIdeal.cfg0.N, Cert.KernelDhiIdeal.Value.run_blocks m g, ?_⟩
  refine (θ_run _ _ _).mono (fun _ h c => ⟨(h c).1.trans ?_, (h c).2⟩) (Cert.ReferenceDhiIdeal.Value.run m' g')
  obtain ⟨e0, e1⟩ := hmm c
  rw [e0, e1]
  exact (Cert.ReferenceDhiIdeal.Read.val_main_v14_eq _ _).trans ((Cert.ReferenceDhiIdeal.Proj.val_eq _ _).trans (Cert.KernelDhiIdeal.Proj.final m c).symm)

theorem frame_kdwi : Cert.quiescent_KernelDwi (hKernelDwi := Cert.KernelDwi.Gen.facts) :=
  fun m g _ => Cert.KernelDwi.Gen.frame m g
theorem frame_kidwi : Cert.quiescent_KernelDwiIdeal (hKernelDwiIdeal := Cert.KernelDwiIdeal.Gen.facts) :=
  fun m g _ => Cert.KernelDwiIdeal.Gen.frame m g
theorem frame_rdwi : Cert.quiescent_ReferenceDwiIdeal (hReferenceDwiIdeal := Cert.ReferenceDwiIdeal.Gen.facts) := fun m g _ =>
  (θ_run _ _ _).mono (fun r h => ⟨fun c => (h c).2, sem_eq_zero_of_no_sems (by decide) r.2⟩) (Cert.ReferenceDwiIdeal.Value.run m g)
theorem algebraic_dwi : Cert.algebraic_KernelDwiIdeal_ReferenceDwiIdeal (hKernelDwiIdeal := Cert.KernelDwiIdeal.Gen.facts)
    (hReferenceDwiIdeal := Cert.ReferenceDwiIdeal.Gen.facts) := by
  intro m g m' g' _ hmm
  refine ⟨fun c => (Cert.KernelDwiIdeal.Gen.dats m 0 c).arrAt 2 Cert.KernelDwiIdeal.cfg0.N, Cert.KernelDwiIdeal.Value.run_blocks m g, ?_⟩
  refine (θ_run _ _ _).mono (fun _ h c => ⟨(h c).1.trans ?_, (h c).2⟩) (Cert.ReferenceDwiIdeal.Value.run m' g')
  obtain ⟨e0, e1⟩ := hmm c
  rw [e0, e1]
  exact (Cert.ReferenceDwiIdeal.Read.val_main_v30_eq _ _).trans ((Cert.ReferenceDwiIdeal.Proj.val_eq _ _).trans (Cert.KernelDwiIdeal.Proj.final m c).symm)

/-! ## The products of the forward pass -/

theorem frame_kfa : Cert.quiescent_KernelFa (hKernelFa := Cert.KernelFa.Gen.facts) :=
  fun m g _ => Cert.KernelFa.Gen.frame m g
theorem frame_kifa : Cert.quiescent_KernelFaIdeal (hKernelFaIdeal := Cert.KernelFaIdeal.Gen.facts) :=
  fun m g _ => Cert.KernelFaIdeal.Gen.frame m g
theorem frame_rfa : Cert.quiescent_ReferenceFaIdeal (hReferenceFaIdeal := Cert.ReferenceFaIdeal.Gen.facts) := fun m g _ =>
  (θ_run _ _ _).mono (fun r h => ⟨fun c => (h c).2.2, sem_eq_zero_of_no_sems (by decide) r.2⟩) (Cert.ReferenceFaIdeal.Value.run m g)
theorem algebraic_fa : Cert.algebraic_KernelFaIdeal_ReferenceFaIdeal (hKernelFaIdeal := Cert.KernelFaIdeal.Gen.facts)
    (hReferenceFaIdeal := Cert.ReferenceFaIdeal.Gen.facts) := by
  intro m g m' g' _ hmm
  refine ⟨fun c => (Cert.KernelFaIdeal.Gen.dats m 0 c).arrAt 2 Cert.KernelFaIdeal.cfg0.N, fun c => (Cert.KernelFaIdeal.Gen.dats m 0 c).arrAt 3 Cert.KernelFaIdeal.cfg0.N, Cert.KernelFaIdeal.Value.run_blocks m g, ?_⟩
  refine (θ_run _ _ _).mono (fun _ h c => ⟨(h c).1.trans ?_, (h c).2.1.trans ?_, (h c).2.2⟩) (Cert.ReferenceFaIdeal.Value.run m' g')
  all_goals obtain ⟨e0, e1⟩ := hmm c
  all_goals rw [e0, e1]
  · exact (Cert.ReferenceFaIdeal.Read.val_main_v12_eq _ _).trans ((Cert.ReferenceFaIdeal.Mlp.val_eq0 _ _).trans (Cert.KernelFaIdeal.Mlp.final0 m c).symm)
  · exact (Cert.ReferenceFaIdeal.Read.val_main_v15_eq _ _).trans ((Cert.ReferenceFaIdeal.Mlp.val_eq1 _ _).trans (Cert.KernelFaIdeal.Mlp.final1 m c).symm)

theorem frame_kfo : Cert.quiescent_KernelFo (hKernelFo := Cert.KernelFo.Gen.facts) :=
  fun m g _ => Cert.KernelFo.Gen.frame m g
theorem frame_kifo : Cert.quiescent_KernelFoIdeal (hKernelFoIdeal := Cert.KernelFoIdeal.Gen.facts) :=
  fun m g _ => Cert.KernelFoIdeal.Gen.frame m g
theorem frame_rfo : Cert.quiescent_ReferenceFoIdeal (hReferenceFoIdeal := Cert.ReferenceFoIdeal.Gen.facts) := fun m g _ =>
  (θ_run _ _ _).mono (fun r h => ⟨fun c => (h c).2, sem_eq_zero_of_no_sems (by decide) r.2⟩) (Cert.ReferenceFoIdeal.Value.run m g)
theorem algebraic_fo : Cert.algebraic_KernelFoIdeal_ReferenceFoIdeal (hKernelFoIdeal := Cert.KernelFoIdeal.Gen.facts)
    (hReferenceFoIdeal := Cert.ReferenceFoIdeal.Gen.facts) := by
  intro m g m' g' _ hmm
  refine ⟨fun c => (Cert.KernelFoIdeal.Gen.dats m 0 c).arrAt 2 Cert.KernelFoIdeal.cfg0.N, Cert.KernelFoIdeal.Value.run_blocks m g, ?_⟩
  refine (θ_run _ _ _).mono (fun _ h c => ⟨(h c).1.trans ?_, (h c).2⟩) (Cert.ReferenceFoIdeal.Value.run m' g')
  obtain ⟨e0, e1⟩ := hmm c
  rw [e0, e1]
  exact (Cert.ReferenceFoIdeal.Read.val_main_v4_eq _ _).trans ((Cert.ReferenceFoIdeal.Mlp.val_eq _ _).trans (Cert.KernelFoIdeal.Mlp.final m c).symm)

theorem frame_kfp : Cert.quiescent_KernelFp (hKernelFp := Cert.KernelFp.Gen.facts) :=
  fun m g _ => Cert.KernelFp.Gen.frame m g
theorem frame_kifp : Cert.quiescent_KernelFpIdeal (hKernelFpIdeal := Cert.KernelFpIdeal.Gen.facts) :=
  fun m g _ => Cert.KernelFpIdeal.Gen.frame m g
theorem frame_rfp : Cert.quiescent_ReferenceFpIdeal (hReferenceFpIdeal := Cert.ReferenceFpIdeal.Gen.facts) := fun m g _ =>
  (θ_run _ _ _).mono (fun r h => ⟨fun c => (h c).2, sem_eq_zero_of_no_sems (by decide) r.2⟩) (Cert.ReferenceFpIdeal.Value.run m g)
theorem algebraic_fp : Cert.algebraic_KernelFpIdeal_ReferenceFpIdeal (hKernelFpIdeal := Cert.KernelFpIdeal.Gen.facts)
    (hReferenceFpIdeal := Cert.ReferenceFpIdeal.Gen.facts) := by
  intro m g m' g' _ hmm
  refine ⟨fun c => (Cert.KernelFpIdeal.Gen.dats m 0 c).arrAt 2 Cert.KernelFpIdeal.cfg0.N, Cert.KernelFpIdeal.Value.run_blocks m g, ?_⟩
  refine (θ_run _ _ _).mono (fun _ h c => ⟨(h c).1.trans ?_, (h c).2⟩) (Cert.ReferenceFpIdeal.Value.run m' g')
  obtain ⟨e0, e1⟩ := hmm c
  rw [e0, e1]
  exact (Cert.ReferenceFpIdeal.Read.val_main_v11_eq _ _).trans ((Cert.ReferenceFpIdeal.Proj.val_eq _ _).trans (Cert.KernelFpIdeal.Proj.final m c).symm)

theorem frame_kfz : Cert.quiescent_KernelFz (hKernelFz := Cert.KernelFz.Gen.facts) :=
  fun m g _ => Cert.KernelFz.Gen.frame m g
theorem frame_kifz : Cert.quiescent_KernelFzIdeal (hKernelFzIdeal := Cert.KernelFzIdeal.Gen.facts) :=
  fun m g _ => Cert.KernelFzIdeal.Gen.frame m g
theorem frame_rfz : Cert.quiescent_ReferenceFzIdeal (hReferenceFzIdeal := Cert.ReferenceFzIdeal.Gen.facts) := fun m g _ =>
  (θ_run _ _ _).mono (fun r h => ⟨fun c => (h c).2, sem_eq_zero_of_no_sems (by decide) r.2⟩) (Cert.ReferenceFzIdeal.Value.run m g)
theorem algebraic_fz : Cert.algebraic_KernelFzIdeal_ReferenceFzIdeal (hKernelFzIdeal := Cert.KernelFzIdeal.Gen.facts)
    (hReferenceFzIdeal := Cert.ReferenceFzIdeal.Gen.facts) := by
  intro m g m' g' _ hmm
  refine ⟨fun c => (Cert.KernelFzIdeal.Gen.dats m 0 c).arrAt 2 Cert.KernelFzIdeal.cfg0.N, Cert.KernelFzIdeal.Value.run_blocks m g, ?_⟩
  refine (θ_run _ _ _).mono (fun _ h c => ⟨(h c).1.trans ?_, (h c).2⟩) (Cert.ReferenceFzIdeal.Value.run m' g')
  obtain ⟨e0, e1⟩ := hmm c
  rw [e0, e1]
  exact (Cert.ReferenceFzIdeal.Read.val_main_v4_eq _ _).trans ((Cert.ReferenceFzIdeal.Proj.val_eq _ _).trans (Cert.KernelFzIdeal.Proj.final m c).symm)

/-! ## The norm's backward pass -/

theorem rowFacts : Cert.Pre_finite_rows.Facts where
  bitsLt_bf16_f32 := by decide
  bcast_S_S8448x2048 := by decide
  bcast_S_S2x6x1x2048 := by decide
  bcast_S_S1x2048 := by decide

theorem frame_knb : Cert.quiescent_KernelNb (hKernelNb := Cert.KernelNb.Gen.facts) := fun m g _ => Cert.KernelNb.Gen.frame m g
theorem frame_kinb : Cert.quiescent_KernelNbIdeal (hKernelNbIdeal := Cert.KernelNbIdeal.Gen.facts) :=
  fun m g _ => Cert.KernelNbIdeal.Gen.frame m g
theorem frame_kpnb : Cert.quiescent_KernelNbIdeal_pre_finite_rows (hKernelNbIdeal := Cert.KernelNbIdeal.Gen.facts) (hPre_finite_rows := rowFacts) :=
  fun m g _ => Cert.KernelNbIdeal.Gen.frame m g
theorem frame_rnb : Cert.quiescent_ReferenceNbIdeal (hReferenceNbIdeal := Cert.ReferenceNbIdeal.Gen.facts) := fun m g _ =>
  (θ_run _ _ _).mono (fun r h => ⟨fun c => (h c).2.2.2, sem_eq_zero_of_no_sems (by decide) r.2⟩) (Cert.ReferenceNbIdeal.Value.run m g)
theorem frame_rpnb : Cert.quiescent_ReferenceNbIdeal_pre_finite_rows (hReferenceNbIdeal := Cert.ReferenceNbIdeal.Gen.facts)
    (hPre_finite_rows := rowFacts) := fun m g _ => frame_rnb m g trivial

theorem rows_real (m : (ℓ : Loc Cert.KernelNbIdeal.nD Cert.KernelNbIdeal.τ Cert.KernelNbIdeal.sig) → Buf (Elt Ideal) ℓ)
    (hm : Cert.Pre_KernelNbIdeal_finite_rows (hPre_finite_rows := rowFacts) m) (c : Dev Cert.KernelNbIdeal.nD) :
    (∀ r k, Cert.Row.IsR (Cert.KernelNbIdeal.Back.dh m c r k)) ∧ (∀ r k, Cert.Row.IsR (Cert.KernelNbIdeal.Back.xin m c r k))
      ∧ (∀ h i k, Cert.Row.IsR (Cert.KernelNbIdeal.Back.mods m c h i k)) ∧ ∀ k, Cert.Row.IsR (Cert.KernelNbIdeal.Back.gw m c k) :=
  ⟨fun _ _ => real_of_abs (congrFun (hm c).1 _), fun _ _ => real_of_abs (congrFun (hm c).2.1 _),
   fun _ _ _ => real_of_abs (congrFun (hm c).2.2.1 _), fun _ => real_of_abs (congrFun (hm c).2.2.2 _)⟩

theorem algebraic_nb : Cert.algebraic_KernelNbIdeal_ReferenceNbIdeal_pre_finite_rows (hKernelNbIdeal := Cert.KernelNbIdeal.Gen.facts)
    (hReferenceNbIdeal := Cert.ReferenceNbIdeal.Gen.facts) (hPre_finite_rows := rowFacts) := by
  intro m g m' g' hm hmm
  refine ⟨fun c => (Cert.KernelNbIdeal.Gen.dats m 0 c).arrAt 7 Cert.KernelNbIdeal.cfg0.N, fun c => (Cert.KernelNbIdeal.Gen.dats m 0 c).arrAt 8 Cert.KernelNbIdeal.cfg0.N,
    fun c => (Cert.KernelNbIdeal.Gen.dats m 0 c).arrAt 9 Cert.KernelNbIdeal.cfg0.N, Cert.KernelNbIdeal.Value.run_blocks m g, ?_⟩
  refine (θ_run _ _ _).mono (fun _ h c => ⟨(h c).1.trans ?_, (h c).2.1.trans ?_, (h c).2.2.1.trans ?_, (h c).2.2.2⟩) (Cert.ReferenceNbIdeal.Value.run m' g')
  all_goals have hA := rows_real m hm c
  all_goals obtain ⟨e0, e1, e2, e3, e4, e5⟩ := hmm c
  · refine (Cert.ReferenceNbIdeal.Read.val_main_v106_eq _).trans ?_
    change Cert.ReferenceNbIdeal.Read.val_main_v106 (F := Ideal)
      (m' ((c.tc : Thread Cert.ReferenceNbIdeal.nD Cert.ReferenceNbIdeal.τ).loc Cert.ReferenceNbIdeal.main_arg0)) (m' ((c.tc : Thread Cert.ReferenceNbIdeal.nD Cert.ReferenceNbIdeal.τ).loc Cert.ReferenceNbIdeal.main_arg1)) (m' ((c.tc : Thread Cert.ReferenceNbIdeal.nD Cert.ReferenceNbIdeal.τ).loc Cert.ReferenceNbIdeal.main_arg2)) (m' ((c.tc : Thread Cert.ReferenceNbIdeal.nD Cert.ReferenceNbIdeal.τ).loc Cert.ReferenceNbIdeal.main_arg4)) (m' ((c.tc : Thread Cert.ReferenceNbIdeal.nD Cert.ReferenceNbIdeal.τ).loc Cert.ReferenceNbIdeal.main_arg5)) = _
    rw [e0, e1, e2, e4, e5]
    exact (Cert.ReferenceNbIdeal.Back.v106_eq _ _ _ _ _ hA.1 hA.2.1 hA.2.2.1 hA.2.2.2).trans (Cert.KernelNbIdeal.Back.final7 m c).symm
  · refine (Cert.ReferenceNbIdeal.Read.val_main_v144_eq _).trans ?_
    change Cert.ReferenceNbIdeal.Read.val_main_v144 (F := Ideal)
      (m' ((c.tc : Thread Cert.ReferenceNbIdeal.nD Cert.ReferenceNbIdeal.τ).loc Cert.ReferenceNbIdeal.main_arg0)) (m' ((c.tc : Thread Cert.ReferenceNbIdeal.nD Cert.ReferenceNbIdeal.τ).loc Cert.ReferenceNbIdeal.main_arg1)) (m' ((c.tc : Thread Cert.ReferenceNbIdeal.nD Cert.ReferenceNbIdeal.τ).loc Cert.ReferenceNbIdeal.main_arg2)) (m' ((c.tc : Thread Cert.ReferenceNbIdeal.nD Cert.ReferenceNbIdeal.τ).loc Cert.ReferenceNbIdeal.main_arg4)) (m' ((c.tc : Thread Cert.ReferenceNbIdeal.nD Cert.ReferenceNbIdeal.τ).loc Cert.ReferenceNbIdeal.main_arg5)) = _
    rw [e0, e1, e2, e4, e5]
    exact (Cert.ReferenceNbIdeal.Back.v144_eq _ _ _ _ _ hA.1 hA.2.1 hA.2.2.1 hA.2.2.2).trans (Cert.KernelNbIdeal.Back.final8 m c).symm
  · refine (Cert.ReferenceNbIdeal.Read.val_main_v146_eq _).trans ?_
    change Cert.ReferenceNbIdeal.Read.val_main_v146 (F := Ideal)
      (m' ((c.tc : Thread Cert.ReferenceNbIdeal.nD Cert.ReferenceNbIdeal.τ).loc Cert.ReferenceNbIdeal.main_arg0)) (m' ((c.tc : Thread Cert.ReferenceNbIdeal.nD Cert.ReferenceNbIdeal.τ).loc Cert.ReferenceNbIdeal.main_arg1)) (m' ((c.tc : Thread Cert.ReferenceNbIdeal.nD Cert.ReferenceNbIdeal.τ).loc Cert.ReferenceNbIdeal.main_arg2)) (m' ((c.tc : Thread Cert.ReferenceNbIdeal.nD Cert.ReferenceNbIdeal.τ).loc Cert.ReferenceNbIdeal.main_arg3)) (m' ((c.tc : Thread Cert.ReferenceNbIdeal.nD Cert.ReferenceNbIdeal.τ).loc Cert.ReferenceNbIdeal.main_arg4)) (m' ((c.tc : Thread Cert.ReferenceNbIdeal.nD Cert.ReferenceNbIdeal.τ).loc Cert.ReferenceNbIdeal.main_arg5)) = _
    rw [e0, e1, e2, e3, e4, e5]
    exact (Cert.ReferenceNbIdeal.Back.v146_eq _ _ _ _ _ _ hA.1 hA.2.1 hA.2.2.1 hA.2.2.2).trans (Cert.KernelNbIdeal.Back.final9 m c).symm

/-! ## The backward pass of the rotation -/

theorem frame_krb : Cert.quiescent_KernelRb (hKernelRb := Cert.KernelRb.Gen.facts) := fun m g _ => Cert.KernelRb.Gen.frame m g
theorem frame_kirb : Cert.quiescent_KernelRbIdeal (hKernelRbIdeal := Cert.KernelRbIdeal.Gen.facts) :=
  fun m g _ => Cert.KernelRbIdeal.Gen.frame m g
theorem frame_rrb : Cert.quiescent_ReferenceRbIdeal (hReferenceRbIdeal := Cert.ReferenceRbIdeal.Gen.facts) := fun m g _ =>
  (θ_run _ _ _).mono (fun r h => ⟨fun c => (h c).2, sem_eq_zero_of_no_sems (by decide) r.2⟩) (Cert.ReferenceRbIdeal.Value.run m g)
theorem algebraic_rb : Cert.algebraic_KernelRbIdeal_ReferenceRbIdeal (hKernelRbIdeal := Cert.KernelRbIdeal.Gen.facts)
    (hReferenceRbIdeal := Cert.ReferenceRbIdeal.Gen.facts) := by
  intro m g m' g' _ hmm
  refine ⟨fun c => (Cert.KernelRbIdeal.Gen.dats m 0 c).arrAt 6 Cert.KernelRbIdeal.cfg0.N, Cert.KernelRbIdeal.Value.run_blocks m g, ?_⟩
  refine (θ_run _ _ _).mono (fun _ h c => ⟨(h c).1.trans ?_, (h c).2⟩) (Cert.ReferenceRbIdeal.Value.run m' g')
  obtain ⟨e0, e1, e2, e3⟩ := hmm c
  refine (Cert.ReferenceRbIdeal.Read.val_main_v220_eq _).trans ?_
  change Cert.ReferenceRbIdeal.Read.val_main_v220 (F := Ideal)
    (m' ((c.tc : Thread Cert.ReferenceRbIdeal.nD Cert.ReferenceRbIdeal.τ).loc Cert.ReferenceRbIdeal.main_arg0)) (m' ((c.tc : Thread Cert.ReferenceRbIdeal.nD Cert.ReferenceRbIdeal.τ).loc Cert.ReferenceRbIdeal.main_arg1)) (m' ((c.tc : Thread Cert.ReferenceRbIdeal.nD Cert.ReferenceRbIdeal.τ).loc Cert.ReferenceRbIdeal.main_arg2)) (m' ((c.tc : Thread Cert.ReferenceRbIdeal.nD Cert.ReferenceRbIdeal.τ).loc Cert.ReferenceRbIdeal.main_arg3)) = _
  rw [e0, e1, e2, e3]
  exact (Cert.ReferenceRbIdeal.Back.v220_eq _ _ _ _).trans (Cert.KernelRbIdeal.Back.final m c).symm

theorem claim : Cert.Claim :=
  ⟨Cert.Kernel.Gen.facts, Cert.KernelIdeal.Gen.facts, Cert.ReferenceIdeal.Gen.facts,
   Cert.KernelDa.Gen.facts, Cert.KernelDaIdeal.Gen.facts, Cert.ReferenceDaIdeal.Gen.facts,
   Cert.KernelDw2.Gen.facts, Cert.KernelDw2Ideal.Gen.facts, Cert.ReferenceDw2Ideal.Gen.facts,
   Cert.KernelDh.Gen.facts, Cert.KernelDhIdeal.Gen.facts, Cert.ReferenceDhIdeal.Gen.facts,
   Cert.KernelDw1.Gen.facts, Cert.KernelDw1Ideal.Gen.facts, Cert.ReferenceDw1Ideal.Gen.facts,
   Cert.KernelDmg.Gen.facts, Cert.KernelDmgIdeal.Gen.facts, Cert.ReferenceDmgIdeal.Gen.facts,
   Cert.KernelDwo.Gen.facts, Cert.KernelDwoIdeal.Gen.facts, Cert.ReferenceDwoIdeal.Gen.facts,
   Cert.KernelDhi.Gen.facts, Cert.KernelDhiIdeal.Gen.facts, Cert.ReferenceDhiIdeal.Gen.facts,
   Cert.KernelDwi.Gen.facts, Cert.KernelDwiIdeal.Gen.facts, Cert.ReferenceDwiIdeal.Gen.facts,
   Cert.KernelFa.Gen.facts, Cert.KernelFaIdeal.Gen.facts, Cert.ReferenceFaIdeal.Gen.facts,
   Cert.KernelFo.Gen.facts, Cert.KernelFoIdeal.Gen.facts, Cert.ReferenceFoIdeal.Gen.facts,
   Cert.KernelFp.Gen.facts, Cert.KernelFpIdeal.Gen.facts, Cert.ReferenceFpIdeal.Gen.facts,
   Cert.KernelFz.Gen.facts, Cert.KernelFzIdeal.Gen.facts, Cert.ReferenceFzIdeal.Gen.facts,
   Cert.KernelNb.Gen.facts, Cert.KernelNbIdeal.Gen.facts, Cert.ReferenceNbIdeal.Gen.facts,
   Cert.KernelRb.Gen.facts, Cert.KernelRbIdeal.Gen.facts, Cert.ReferenceRbIdeal.Gen.facts, preFacts, rowFacts,
   frame_k, frame_ki, frame_kp, frame_r, frame_rp,
   frame_kda, frame_kida, frame_rda,
   frame_kdw2, frame_kidw2, frame_rdw2,
   frame_kdh, frame_kidh, frame_rdh,
   frame_kdw1, frame_kidw1, frame_rdw1,
   frame_kdmg, frame_kidmg, frame_rdmg,
   frame_kdwo, frame_kidwo, frame_rdwo,
   frame_kdhi, frame_kidhi, frame_rdhi,
   frame_kdwi, frame_kidwi, frame_rdwi,
   frame_kfa, frame_kifa, frame_rfa,
   frame_kfo, frame_kifo, frame_rfo,
   frame_kfp, frame_kifp, frame_rfp,
   frame_kfz, frame_kifz, frame_rfz,
   frame_knb, frame_kinb, frame_kpnb, frame_rnb, frame_rpnb,
   frame_krb, frame_kirb, frame_rrb,
   preserves, algebraic,
   trivial, algebraic_da,
   trivial, algebraic_dw2,
   trivial, algebraic_dh,
   trivial, algebraic_dw1,
   trivial, algebraic_dmg,
   trivial, algebraic_dwo,
   trivial, algebraic_dhi,
   trivial, algebraic_dwi,
   trivial, algebraic_fa,
   trivial, algebraic_fo,
   trivial, algebraic_fp,
   trivial, algebraic_fz,
   trivial, algebraic_nb,
   trivial, algebraic_rb⟩

end Cert.Proof

end
